-- ==== Defs.lean ====
def Pre_Sb (m : (ℓ : Loc Cert.Sb.nD Cert.Sb.τ Cert.Sb.sig) → Buf (Elt Bits) ℓ) : Prop :=
  True

def Pre_SbIdeal (m : (ℓ : Loc Cert.SbIdeal.nD Cert.SbIdeal.τ Cert.SbIdeal.sig) → Buf (Elt Ideal) ℓ) : Prop :=
  True

def Pre_SbRefIdeal (m : (ℓ : Loc Cert.SbRefIdeal.nD Cert.SbRefIdeal.τ Cert.SbRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_Memattn (m : (ℓ : Loc Cert.Memattn.nD Cert.Memattn.τ Cert.Memattn.sig) → Buf (Elt Bits) ℓ) : Prop :=
  True

def Pre_MemattnIdeal (m : (ℓ : Loc Cert.MemattnIdeal.nD Cert.MemattnIdeal.τ Cert.MemattnIdeal.sig) → Buf (Elt Ideal) ℓ) : Prop :=
  True

def Pre_MemattnIdeal_memattn_finite [hPre_memattn_finite : Cert.Pre_memattn_finite.Facts] (m : (ℓ : Loc Cert.MemattnIdeal.nD Cert.MemattnIdeal.τ Cert.MemattnIdeal.sig) → Buf (Elt Ideal) ℓ) : Prop :=
  ∀ c : Dev Cert.MemattnIdeal.nD,
    (Cert.Pre_memattn_finite.fn (F := Ideal) (m ((c.tc : Thread Cert.MemattnIdeal.nD Cert.MemattnIdeal.τ).loc Cert.MemattnIdeal.main_arg0)) (m ((c.tc : Thread Cert.MemattnIdeal.nD Cert.MemattnIdeal.τ).loc Cert.MemattnIdeal.main_arg1)) (m ((c.tc : Thread Cert.MemattnIdeal.nD Cert.MemattnIdeal.τ).loc Cert.MemattnIdeal.main_arg2)) (m ((c.tc : Thread Cert.MemattnIdeal.nD Cert.MemattnIdeal.τ).loc Cert.MemattnIdeal.main_arg3)) (m ((c.tc : Thread Cert.MemattnIdeal.nD Cert.MemattnIdeal.τ).loc Cert.MemattnIdeal.main_arg4)) (m ((c.tc : Thread Cert.MemattnIdeal.nD Cert.MemattnIdeal.τ).loc Cert.MemattnIdeal.main_arg5))) = (fun _ => 1#1)

def Pre_MemattnRefIdeal (m : (ℓ : Loc Cert.MemattnRefIdeal.nD Cert.MemattnRefIdeal.τ Cert.MemattnRefIdeal.sig) → Buf (Elt Ideal) ℓ) : Prop :=
  True

def Pre_MemattnRefIdeal_memattn_finite [hPre_memattn_finite : Cert.Pre_memattn_finite.Facts] (m : (ℓ : Loc Cert.MemattnRefIdeal.nD Cert.MemattnRefIdeal.τ Cert.MemattnRefIdeal.sig) → Buf (Elt Ideal) ℓ) : Prop :=
  ∀ c : Dev Cert.MemattnRefIdeal.nD,
    (Cert.Pre_memattn_finite.fn (F := Ideal) (m ((c.tc : Thread Cert.MemattnRefIdeal.nD Cert.MemattnRefIdeal.τ).loc Cert.MemattnRefIdeal.main_arg0)) (m ((c.tc : Thread Cert.MemattnRefIdeal.nD Cert.MemattnRefIdeal.τ).loc Cert.MemattnRefIdeal.main_arg1)) (m ((c.tc : Thread Cert.MemattnRefIdeal.nD Cert.MemattnRefIdeal.τ).loc Cert.MemattnRefIdeal.main_arg2)) (m ((c.tc : Thread Cert.MemattnRefIdeal.nD Cert.MemattnRefIdeal.τ).loc Cert.MemattnRefIdeal.main_arg3)) (m ((c.tc : Thread Cert.MemattnRefIdeal.nD Cert.MemattnRefIdeal.τ).loc Cert.MemattnRefIdeal.main_arg4)) (m ((c.tc : Thread Cert.MemattnRefIdeal.nD Cert.MemattnRefIdeal.τ).loc Cert.MemattnRefIdeal.main_arg5))) = (fun _ => 1#1)

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossIdeal_loss_finite [hPre_loss_finite : Cert.Pre_loss_finite.Facts] (m : (ℓ : Loc Cert.LossIdeal.nD Cert.LossIdeal.τ Cert.LossIdeal.sig) → Buf (Elt Ideal) ℓ) : Prop :=
  ∀ c : Dev Cert.LossIdeal.nD,
    (Cert.Pre_loss_finite.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4))) = (fun _ => 1#1)

def Pre_LossRefIdeal (m : (ℓ : Loc Cert.LossRefIdeal.nD Cert.LossRefIdeal.τ Cert.LossRefIdeal.sig) → Buf (Elt Ideal) ℓ) : Prop :=
  True

def Pre_LossRefIdeal_loss_finite [hPre_loss_finite : Cert.Pre_loss_finite.Facts] (m : (ℓ : Loc Cert.LossRefIdeal.nD Cert.LossRefIdeal.τ Cert.LossRefIdeal.sig) → Buf (Elt Ideal) ℓ) : Prop :=
  ∀ c : Dev Cert.LossRefIdeal.nD,
    (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4))) = (fun _ => 1#1)

def Pre_FfnIn (m : (ℓ : Loc Cert.FfnIn.nD Cert.FfnIn.τ Cert.FfnIn.sig) → Buf (Elt Bits) ℓ) : Prop :=
  True

def Pre_FfnInIdeal (m : (ℓ : Loc Cert.FfnInIdeal.nD Cert.FfnInIdeal.τ Cert.FfnInIdeal.sig) → Buf (Elt Ideal) ℓ) : Prop :=
  True

def Pre_FfnInIdeal_ffn_in_finite [hPre_ffn_in_finite : Cert.Pre_ffn_in_finite.Facts] (m : (ℓ : Loc Cert.FfnInIdeal.nD Cert.FfnInIdeal.τ Cert.FfnInIdeal.sig) → Buf (Elt Ideal) ℓ) : Prop :=
  ∀ c : Dev Cert.FfnInIdeal.nD,
    (Cert.Pre_ffn_in_finite.fn (F := Ideal) (m ((c.tc : Thread Cert.FfnInIdeal.nD Cert.FfnInIdeal.τ).loc Cert.FfnInIdeal.main_arg0)) (m ((c.tc : Thread Cert.FfnInIdeal.nD Cert.FfnInIdeal.τ).loc Cert.FfnInIdeal.main_arg1)) (m ((c.tc : Thread Cert.FfnInIdeal.nD Cert.FfnInIdeal.τ).loc Cert.FfnInIdeal.main_arg2)) (m ((c.tc : Thread Cert.FfnInIdeal.nD Cert.FfnInIdeal.τ).loc Cert.FfnInIdeal.main_arg3)) (m ((c.tc : Thread Cert.FfnInIdeal.nD Cert.FfnInIdeal.τ).loc Cert.FfnInIdeal.main_arg4))) = (fun _ => 1#1)

def Pre_FfnInRefIdeal (m : (ℓ : Loc Cert.FfnInRefIdeal.nD Cert.FfnInRefIdeal.τ Cert.FfnInRefIdeal.sig) → Buf (Elt Ideal) ℓ) : Prop :=
  True

def Pre_FfnInRefIdeal_ffn_in_finite [hPre_ffn_in_finite : Cert.Pre_ffn_in_finite.Facts] (m : (ℓ : Loc Cert.FfnInRefIdeal.nD Cert.FfnInRefIdeal.τ Cert.FfnInRefIdeal.sig) → Buf (Elt Ideal) ℓ) : Prop :=
  ∀ c : Dev Cert.FfnInRefIdeal.nD,
    (Cert.Pre_ffn_in_finite.fn (F := Ideal) (m ((c.tc : Thread Cert.FfnInRefIdeal.nD Cert.FfnInRefIdeal.τ).loc Cert.FfnInRefIdeal.main_arg0)) (m ((c.tc : Thread Cert.FfnInRefIdeal.nD Cert.FfnInRefIdeal.τ).loc Cert.FfnInRefIdeal.main_arg1)) (m ((c.tc : Thread Cert.FfnInRefIdeal.nD Cert.FfnInRefIdeal.τ).loc Cert.FfnInRefIdeal.main_arg2)) (m ((c.tc : Thread Cert.FfnInRefIdeal.nD Cert.FfnInRefIdeal.τ).loc Cert.FfnInRefIdeal.main_arg3)) (m ((c.tc : Thread Cert.FfnInRefIdeal.nD Cert.FfnInRefIdeal.τ).loc Cert.FfnInRefIdeal.main_arg4))) = (fun _ => 1#1)

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvIdeal_mem_kv_finite [hPre_mem_kv_finite : Cert.Pre_mem_kv_finite.Facts] (m : (ℓ : Loc Cert.MemKvIdeal.nD Cert.MemKvIdeal.τ Cert.MemKvIdeal.sig) → Buf (Elt Ideal) ℓ) : Prop :=
  ∀ c : Dev Cert.MemKvIdeal.nD,
    (Cert.Pre_mem_kv_finite.fn (F := Ideal) (m ((c.tc : Thread Cert.MemKvIdeal.nD Cert.MemKvIdeal.τ).loc Cert.MemKvIdeal.main_arg0)) (m ((c.tc : Thread Cert.MemKvIdeal.nD Cert.MemKvIdeal.τ).loc Cert.MemKvIdeal.main_arg1)) (m ((c.tc : Thread Cert.MemKvIdeal.nD Cert.MemKvIdeal.τ).loc Cert.MemKvIdeal.main_arg2)) (m ((c.tc : Thread Cert.MemKvIdeal.nD Cert.MemKvIdeal.τ).loc Cert.MemKvIdeal.main_arg3))) = (fun _ => 1#1)

def Pre_MemKvRefIdeal (m : (ℓ : Loc Cert.MemKvRefIdeal.nD Cert.MemKvRefIdeal.τ Cert.MemKvRefIdeal.sig) → Buf (Elt Ideal) ℓ) : Prop :=
  True

def Pre_MemKvRefIdeal_mem_kv_finite [hPre_mem_kv_finite : Cert.Pre_mem_kv_finite.Facts] (m : (ℓ : Loc Cert.MemKvRefIdeal.nD Cert.MemKvRefIdeal.τ Cert.MemKvRefIdeal.sig) → Buf (Elt Ideal) ℓ) : Prop :=
  ∀ c : Dev Cert.MemKvRefIdeal.nD,
    (Cert.Pre_mem_kv_finite.fn (F := Ideal) (m ((c.tc : Thread Cert.MemKvRefIdeal.nD Cert.MemKvRefIdeal.τ).loc Cert.MemKvRefIdeal.main_arg0)) (m ((c.tc : Thread Cert.MemKvRefIdeal.nD Cert.MemKvRefIdeal.τ).loc Cert.MemKvRefIdeal.main_arg1)) (m ((c.tc : Thread Cert.MemKvRefIdeal.nD Cert.MemKvRefIdeal.τ).loc Cert.MemKvRefIdeal.main_arg2)) (m ((c.tc : Thread Cert.MemKvRefIdeal.nD Cert.MemKvRefIdeal.τ).loc Cert.MemKvRefIdeal.main_arg3))) = (fun _ => 1#1)

def Pre_Gain (m : (ℓ : Loc Cert.Gain.nD Cert.Gain.τ Cert.Gain.sig) → Buf (Elt Bits) ℓ) : Prop :=
  True

def Pre_GainIdeal (m : (ℓ : Loc Cert.GainIdeal.nD Cert.GainIdeal.τ Cert.GainIdeal.sig) → Buf (Elt Ideal) ℓ) : Prop :=
  True

def Pre_GainRefIdeal (m : (ℓ : Loc Cert.GainRefIdeal.nD Cert.GainRefIdeal.τ Cert.GainRefIdeal.sig) → Buf (Elt Ideal) ℓ) : Prop :=
  True

def Pre_Rms (m : (ℓ : Loc Cert.Rms.nD Cert.Rms.τ Cert.Rms.sig) → Buf (Elt Bits) ℓ) : Prop :=
  True

def Pre_RmsIdeal (m : (ℓ : Loc Cert.RmsIdeal.nD Cert.RmsIdeal.τ Cert.RmsIdeal.sig) → Buf (Elt Ideal) ℓ) : Prop :=
  True

def Pre_RmsIdeal_rms_finite [hPre_rms_finite : Cert.Pre_rms_finite.Facts] (m : (ℓ : Loc Cert.RmsIdeal.nD Cert.RmsIdeal.τ Cert.RmsIdeal.sig) → Buf (Elt Ideal) ℓ) : Prop :=
  ∀ c : Dev Cert.RmsIdeal.nD,
    (Cert.Pre_rms_finite.fn (F := Ideal) (m ((c.tc : Thread Cert.RmsIdeal.nD Cert.RmsIdeal.τ).loc Cert.RmsIdeal.main_arg0)) (m ((c.tc : Thread Cert.RmsIdeal.nD Cert.RmsIdeal.τ).loc Cert.RmsIdeal.main_arg1)) (m ((c.tc : Thread Cert.RmsIdeal.nD Cert.RmsIdeal.τ).loc Cert.RmsIdeal.main_arg2)) (m ((c.tc : Thread Cert.RmsIdeal.nD Cert.RmsIdeal.τ).loc Cert.RmsIdeal.main_arg3))) = (fun _ => 1#1)

def Pre_RmsRefIdeal (m : (ℓ : Loc Cert.RmsRefIdeal.nD Cert.RmsRefIdeal.τ Cert.RmsRefIdeal.sig) → Buf (Elt Ideal) ℓ) : Prop :=
  True

def Pre_RmsRefIdeal_rms_finite [hPre_rms_finite : Cert.Pre_rms_finite.Facts] (m : (ℓ : Loc Cert.RmsRefIdeal.nD Cert.RmsRefIdeal.τ Cert.RmsRefIdeal.sig) → Buf (Elt Ideal) ℓ) : Prop :=
  ∀ c : Dev Cert.RmsRefIdeal.nD,
    (Cert.Pre_rms_finite.fn (F := Ideal) (m ((c.tc : Thread Cert.RmsRefIdeal.nD Cert.RmsRefIdeal.τ).loc Cert.RmsRefIdeal.main_arg0)) (m ((c.tc : Thread Cert.RmsRefIdeal.nD Cert.RmsRefIdeal.τ).loc Cert.RmsRefIdeal.main_arg1)) (m ((c.tc : Thread Cert.RmsRefIdeal.nD Cert.RmsRefIdeal.τ).loc Cert.RmsRefIdeal.main_arg2)) (m ((c.tc : Thread Cert.RmsRefIdeal.nD Cert.RmsRefIdeal.τ).loc Cert.RmsRefIdeal.main_arg3))) = (fun _ => 1#1)

def Pre_Swiglu (m : (ℓ : Loc Cert.Swiglu.nD Cert.Swiglu.τ Cert.Swiglu.sig) → Buf (Elt Bits) ℓ) : Prop :=
  True

def Pre_SwigluIdeal (m : (ℓ : Loc Cert.SwigluIdeal.nD Cert.SwigluIdeal.τ Cert.SwigluIdeal.sig) → Buf (Elt Ideal) ℓ) : Prop :=
  True

def Pre_SwigluIdeal_swiglu_finite [hPre_swiglu_finite : Cert.Pre_swiglu_finite.Facts] (m : (ℓ : Loc Cert.SwigluIdeal.nD Cert.SwigluIdeal.τ Cert.SwigluIdeal.sig) → Buf (Elt Ideal) ℓ) : Prop :=
  ∀ c : Dev Cert.SwigluIdeal.nD,
    (Cert.Pre_swiglu_finite.fn (F := Ideal) (m ((c.tc : Thread Cert.SwigluIdeal.nD Cert.SwigluIdeal.τ).loc Cert.SwigluIdeal.main_arg0)) (m ((c.tc : Thread Cert.SwigluIdeal.nD Cert.SwigluIdeal.τ).loc Cert.SwigluIdeal.main_arg1)) (m ((c.tc : Thread Cert.SwigluIdeal.nD Cert.SwigluIdeal.τ).loc Cert.SwigluIdeal.main_arg2))) = (fun _ => 1#1)

def Pre_SwigluRefIdeal (m : (ℓ : Loc Cert.SwigluRefIdeal.nD Cert.SwigluRefIdeal.τ Cert.SwigluRefIdeal.sig) → Buf (Elt Ideal) ℓ) : Prop :=
  True

def Pre_SwigluRefIdeal_swiglu_finite [hPre_swiglu_finite : Cert.Pre_swiglu_finite.Facts] (m : (ℓ : Loc Cert.SwigluRefIdeal.nD Cert.SwigluRefIdeal.τ Cert.SwigluRefIdeal.sig) → Buf (Elt Ideal) ℓ) : Prop :=
  ∀ c : Dev Cert.SwigluRefIdeal.nD,
    (Cert.Pre_swiglu_finite.fn (F := Ideal) (m ((c.tc : Thread Cert.SwigluRefIdeal.nD Cert.SwigluRefIdeal.τ).loc Cert.SwigluRefIdeal.main_arg0)) (m ((c.tc : Thread Cert.SwigluRefIdeal.nD Cert.SwigluRefIdeal.τ).loc Cert.SwigluRefIdeal.main_arg1)) (m ((c.tc : Thread Cert.SwigluRefIdeal.nD Cert.SwigluRefIdeal.τ).loc Cert.SwigluRefIdeal.main_arg2))) = (fun _ => 1#1)

def Pre_Memfwd (m : (ℓ : Loc Cert.Memfwd.nD Cert.Memfwd.τ Cert.Memfwd.sig) → Buf (Elt Bits) ℓ) : Prop :=
  True

def Pre_MemfwdIdeal (m : (ℓ : Loc Cert.MemfwdIdeal.nD Cert.MemfwdIdeal.τ Cert.MemfwdIdeal.sig) → Buf (Elt Ideal) ℓ) : Prop :=
  True

def Pre_MemfwdRefIdeal (m : (ℓ : Loc Cert.MemfwdRefIdeal.nD Cert.MemfwdRefIdeal.τ Cert.MemfwdRefIdeal.sig) → Buf (Elt Ideal) ℓ) : Prop :=
  True

def Pre_Mixfwd (m : (ℓ : Loc Cert.Mixfwd.nD Cert.Mixfwd.τ Cert.Mixfwd.sig) → Buf (Elt Bits) ℓ) : Prop :=
  True

def Pre_MixfwdIdeal (m : (ℓ : Loc Cert.MixfwdIdeal.nD Cert.MixfwdIdeal.τ Cert.MixfwdIdeal.sig) → Buf (Elt Ideal) ℓ) : Prop :=
  True

def Pre_MixfwdRefIdeal (m : (ℓ : Loc Cert.MixfwdRefIdeal.nD Cert.MixfwdRefIdeal.τ Cert.MixfwdRefIdeal.sig) → Buf (Elt Ideal) ℓ) : Prop :=
  True

def Pre_Convfwd (m : (ℓ : Loc Cert.Convfwd.nD Cert.Convfwd.τ Cert.Convfwd.sig) → Buf (Elt Bits) ℓ) : Prop :=
  True

def Pre_ConvfwdIdeal (m : (ℓ : Loc Cert.ConvfwdIdeal.nD Cert.ConvfwdIdeal.τ Cert.ConvfwdIdeal.sig) → Buf (Elt Ideal) ℓ) : Prop :=
  True

def Pre_ConvfwdRefIdeal (m : (ℓ : Loc Cert.ConvfwdRefIdeal.nD Cert.ConvfwdRefIdeal.τ Cert.ConvfwdRefIdeal.sig) → Buf (Elt Ideal) ℓ) : Prop :=
  True

def Pre_Rmsfwd (m : (ℓ : Loc Cert.Rmsfwd.nD Cert.Rmsfwd.τ Cert.Rmsfwd.sig) → Buf (Elt Bits) ℓ) : Prop :=
  True

def Pre_RmsfwdIdeal (m : (ℓ : Loc Cert.RmsfwdIdeal.nD Cert.RmsfwdIdeal.τ Cert.RmsfwdIdeal.sig) → Buf (Elt Ideal) ℓ) : Prop :=
  True

def Pre_RmsfwdRefIdeal (m : (ℓ : Loc Cert.RmsfwdRefIdeal.nD Cert.RmsfwdRefIdeal.τ Cert.RmsfwdRefIdeal.sig) → Buf (Elt Ideal) ℓ) : Prop :=
  True

def Pre_Mmnn (m : (ℓ : Loc Cert.Mmnn.nD Cert.Mmnn.τ Cert.Mmnn.sig) → Buf (Elt Bits) ℓ) : Prop :=
  True

def Pre_MmnnIdeal (m : (ℓ : Loc Cert.MmnnIdeal.nD Cert.MmnnIdeal.τ Cert.MmnnIdeal.sig) → Buf (Elt Ideal) ℓ) : Prop :=
  True

def Pre_MmnnRefIdeal (m : (ℓ : Loc Cert.MmnnRefIdeal.nD Cert.MmnnRefIdeal.τ Cert.MmnnRefIdeal.sig) → Buf (Elt Ideal) ℓ) : Prop :=
  True

def Pre_Mmtna (m : (ℓ : Loc Cert.Mmtna.nD Cert.Mmtna.τ Cert.Mmtna.sig) → Buf (Elt Bits) ℓ) : Prop :=
  True

def Pre_MmtnaIdeal (m : (ℓ : Loc Cert.MmtnaIdeal.nD Cert.MmtnaIdeal.τ Cert.MmtnaIdeal.sig) → Buf (Elt Ideal) ℓ) : Prop :=
  True

def Pre_MmtnaRefIdeal (m : (ℓ : Loc Cert.MmtnaRefIdeal.nD Cert.MmtnaRefIdeal.τ Cert.MmtnaRefIdeal.sig) → Buf (Elt Ideal) ℓ) : Prop :=
  True

def Pre_Mmtn (m : (ℓ : Loc Cert.Mmtn.nD Cert.Mmtn.τ Cert.Mmtn.sig) → Buf (Elt Bits) ℓ) : Prop :=
  True

def Pre_MmtnIdeal (m : (ℓ : Loc Cert.MmtnIdeal.nD Cert.MmtnIdeal.τ Cert.MmtnIdeal.sig) → Buf (Elt Ideal) ℓ) : Prop :=
  True

def Pre_MmtnRefIdeal (m : (ℓ : Loc Cert.MmtnRefIdeal.nD Cert.MmtnRefIdeal.τ Cert.MmtnRefIdeal.sig) → Buf (Elt Ideal) ℓ) : Prop :=
  True

def Pre_Sumdev (m : (ℓ : Loc Cert.Sumdev.nD Cert.Sumdev.τ Cert.Sumdev.sig) → Buf (Elt Bits) ℓ) : Prop :=
  True

def Pre_SumdevIdeal (m : (ℓ : Loc Cert.SumdevIdeal.nD Cert.SumdevIdeal.τ Cert.SumdevIdeal.sig) → Buf (Elt Ideal) ℓ) : Prop :=
  True

def Pre_SumdevRefIdeal (m : (ℓ : Loc Cert.SumdevRefIdeal.nD Cert.SumdevRefIdeal.τ Cert.SumdevRefIdeal.sig) → Buf (Elt Ideal) ℓ) : Prop :=
  True

def Pre_Adambig [hPre_adambig_chip : Cert.Pre_adambig_chip.Facts] (m : (ℓ : Loc Cert.Adambig.nD Cert.Adambig.τ Cert.Adambig.sig) → Buf (Elt Bits) ℓ) : Prop :=
  ∀ c : Dev Cert.Adambig.nD,
    (Cert.Pre_adambig_chip.fn (F := Bits) (m ((c.tc : Thread Cert.Adambig.nD Cert.Adambig.τ).loc Cert.Adambig.main_arg0)) (m ((c.tc : Thread Cert.Adambig.nD Cert.Adambig.τ).loc Cert.Adambig.main_arg1)) (m ((c.tc : Thread Cert.Adambig.nD Cert.Adambig.τ).loc Cert.Adambig.main_arg2)) (m ((c.tc : Thread Cert.Adambig.nD Cert.Adambig.τ).loc Cert.Adambig.main_arg3)) (m ((c.tc : Thread Cert.Adambig.nD Cert.Adambig.τ).loc Cert.Adambig.main_arg4)) (m ((c.tc : Thread Cert.Adambig.nD Cert.Adambig.τ).loc Cert.Adambig.main_arg5))) = (fun _ => 1#1)

def Pre_AdambigIdeal [hPre_adambig_chip : Cert.Pre_adambig_chip.Facts] (m : (ℓ : Loc Cert.AdambigIdeal.nD Cert.AdambigIdeal.τ Cert.AdambigIdeal.sig) → Buf (Elt Ideal) ℓ) : Prop :=
  ∀ c : Dev Cert.AdambigIdeal.nD,
    (Cert.Pre_adambig_chip.fn (F := Ideal) (m ((c.tc : Thread Cert.AdambigIdeal.nD Cert.AdambigIdeal.τ).loc Cert.AdambigIdeal.main_arg0)) (m ((c.tc : Thread Cert.AdambigIdeal.nD Cert.AdambigIdeal.τ).loc Cert.AdambigIdeal.main_arg1)) (m ((c.tc : Thread Cert.AdambigIdeal.nD Cert.AdambigIdeal.τ).loc Cert.AdambigIdeal.main_arg2)) (m ((c.tc : Thread Cert.AdambigIdeal.nD Cert.AdambigIdeal.τ).loc Cert.AdambigIdeal.main_arg3)) (m ((c.tc : Thread Cert.AdambigIdeal.nD Cert.AdambigIdeal.τ).loc Cert.AdambigIdeal.main_arg4)) (m ((c.tc : Thread Cert.AdambigIdeal.nD Cert.AdambigIdeal.τ).loc Cert.AdambigIdeal.main_arg5))) = (fun _ => 1#1)

def Pre_AdambigRefIdeal (m : (ℓ : Loc Cert.AdambigRefIdeal.nD Cert.AdambigRefIdeal.τ Cert.AdambigRefIdeal.sig) → Buf (Elt Ideal) ℓ) : Prop :=
  True

def Pre_AdambigRefIdeal_adambig_chip [hPre_adambig_chip : Cert.Pre_adambig_chip.Facts] (m : (ℓ : Loc Cert.AdambigRefIdeal.nD Cert.AdambigRefIdeal.τ Cert.AdambigRefIdeal.sig) → Buf (Elt Ideal) ℓ) : Prop :=
  ∀ c : Dev Cert.AdambigRefIdeal.nD,
    (Cert.Pre_adambig_chip.fn (F := Ideal) (m ((c.tc : Thread Cert.AdambigRefIdeal.nD Cert.AdambigRefIdeal.τ).loc Cert.AdambigRefIdeal.main_arg0)) (m ((c.tc : Thread Cert.AdambigRefIdeal.nD Cert.AdambigRefIdeal.τ).loc Cert.AdambigRefIdeal.main_arg1)) (m ((c.tc : Thread Cert.AdambigRefIdeal.nD Cert.AdambigRefIdeal.τ).loc Cert.AdambigRefIdeal.main_arg2)) (m ((c.tc : Thread Cert.AdambigRefIdeal.nD Cert.AdambigRefIdeal.τ).loc Cert.AdambigRefIdeal.main_arg3)) (m ((c.tc : Thread Cert.AdambigRefIdeal.nD Cert.AdambigRefIdeal.τ).loc Cert.AdambigRefIdeal.main_arg4)) (m ((c.tc : Thread Cert.AdambigRefIdeal.nD Cert.AdambigRefIdeal.τ).loc Cert.AdambigRefIdeal.main_arg5))) = (fun _ => 1#1)

def Pre_Sumsib [hPre_sumsib_core : Cert.Pre_sumsib_core.Facts] (m : (ℓ : Loc Cert.Sumsib.nD Cert.Sumsib.τ Cert.Sumsib.sig) → Buf (Elt Bits) ℓ) : Prop :=
  ∀ c : Dev Cert.Sumsib.nD,
    (Cert.Pre_sumsib_core.fn (F := Bits) (m ((c.tc : Thread Cert.Sumsib.nD Cert.Sumsib.τ).loc Cert.Sumsib.main_arg0)) (m ((c.tc : Thread Cert.Sumsib.nD Cert.Sumsib.τ).loc Cert.Sumsib.main_arg1)) (m ((c.tc : Thread Cert.Sumsib.nD Cert.Sumsib.τ).loc Cert.Sumsib.main_arg2))) = (fun _ => 1#1)

def Pre_SumsibIdeal [hPre_sumsib_core : Cert.Pre_sumsib_core.Facts] (m : (ℓ : Loc Cert.SumsibIdeal.nD Cert.SumsibIdeal.τ Cert.SumsibIdeal.sig) → Buf (Elt Ideal) ℓ) : Prop :=
  ∀ c : Dev Cert.SumsibIdeal.nD,
    (Cert.Pre_sumsib_core.fn (F := Ideal) (m ((c.tc : Thread Cert.SumsibIdeal.nD Cert.SumsibIdeal.τ).loc Cert.SumsibIdeal.main_arg0)) (m ((c.tc : Thread Cert.SumsibIdeal.nD Cert.SumsibIdeal.τ).loc Cert.SumsibIdeal.main_arg1)) (m ((c.tc : Thread Cert.SumsibIdeal.nD Cert.SumsibIdeal.τ).loc Cert.SumsibIdeal.main_arg2))) = (fun _ => 1#1)

def Pre_SumsibRefIdeal (m : (ℓ : Loc Cert.SumsibRefIdeal.nD Cert.SumsibRefIdeal.τ Cert.SumsibRefIdeal.sig) → Buf (Elt Ideal) ℓ) : Prop :=
  True

def Pre_SumsibRefIdeal_sumsib_core [hPre_sumsib_core : Cert.Pre_sumsib_core.Facts] (m : (ℓ : Loc Cert.SumsibRefIdeal.nD Cert.SumsibRefIdeal.τ Cert.SumsibRefIdeal.sig) → Buf (Elt Ideal) ℓ) : Prop :=
  ∀ c : Dev Cert.SumsibRefIdeal.nD,
    (Cert.Pre_sumsib_core.fn (F := Ideal) (m ((c.tc : Thread Cert.SumsibRefIdeal.nD Cert.SumsibRefIdeal.τ).loc Cert.SumsibRefIdeal.main_arg0)) (m ((c.tc : Thread Cert.SumsibRefIdeal.nD Cert.SumsibRefIdeal.τ).loc Cert.SumsibRefIdeal.main_arg1)) (m ((c.tc : Thread Cert.SumsibRefIdeal.nD Cert.SumsibRefIdeal.τ).loc Cert.SumsibRefIdeal.main_arg2))) = (fun _ => 1#1)

def quiescent_Sb [hSb : Cert.Sb.Facts] : Prop :=
  ∀ (m : (ℓ : Loc Cert.Sb.nD Cert.Sb.τ Cert.Sb.sig) → Buf (Elt Bits) ℓ) (g : Dev Cert.Sb.nD → PrngReg), Pre_Sb m →
    θ_run (Cert.Sb.defs (F := Bits)) (onTc (τ := Cert.Sb.τ) (Cert.Sb.main (F := Bits))) ⟨m, fun _ => 0, g⟩ (fun r => (∀ c : Dev Cert.Sb.nD,
      r.2.mem ((c.tc : Thread Cert.Sb.nD Cert.Sb.τ).loc Cert.Sb.main_arg0) = m ((c.tc : Thread Cert.Sb.nD Cert.Sb.τ).loc Cert.Sb.main_arg0)
      ∧ r.2.mem ((c.tc : Thread Cert.Sb.nD Cert.Sb.τ).loc Cert.Sb.main_arg1) = m ((c.tc : Thread Cert.Sb.nD Cert.Sb.τ).loc Cert.Sb.main_arg1))
      ∧ r.2.sem = fun _ => 0)

def quiescent_SbIdeal [hSbIdeal : Cert.SbIdeal.Facts] : Prop :=
  ∀ (m : (ℓ : Loc Cert.SbIdeal.nD Cert.SbIdeal.τ Cert.SbIdeal.sig) → Buf (Elt Ideal) ℓ) (g : Dev Cert.SbIdeal.nD → PrngReg), Pre_SbIdeal m →
    θ_run (Cert.SbIdeal.defs (F := Ideal)) (onTc (τ := Cert.SbIdeal.τ) (Cert.SbIdeal.main (F := Ideal))) ⟨m, fun _ => 0, g⟩ (fun r => (∀ c : Dev Cert.SbIdeal.nD,
      r.2.mem ((c.tc : Thread Cert.SbIdeal.nD Cert.SbIdeal.τ).loc Cert.SbIdeal.main_arg0) = m ((c.tc : Thread Cert.SbIdeal.nD Cert.SbIdeal.τ).loc Cert.SbIdeal.main_arg0)
      ∧ r.2.mem ((c.tc : Thread Cert.SbIdeal.nD Cert.SbIdeal.τ).loc Cert.SbIdeal.main_arg1) = m ((c.tc : Thread Cert.SbIdeal.nD Cert.SbIdeal.τ).loc Cert.SbIdeal.main_arg1))
      ∧ r.2.sem = fun _ => 0)

def quiescent_SbRefIdeal [hSbRefIdeal : Cert.SbRefIdeal.Facts] : Prop :=
  ∀ (m : (ℓ : Loc Cert.SbRefIdeal.nD Cert.SbRefIdeal.τ Cert.SbRefIdeal.sig) → Buf (Elt Ideal) ℓ) (g : Dev Cert.SbRefIdeal.nD → PrngReg), Pre_SbRefIdeal m →
    θ_run (Cert.SbRefIdeal.defs (F := Ideal)) (onTc (τ := Cert.SbRefIdeal.τ) (Cert.SbRefIdeal.main (F := Ideal))) ⟨m, fun _ => 0, g⟩ (fun r => (∀ c : Dev Cert.SbRefIdeal.nD,
      r.2.mem ((c.tc : Thread Cert.SbRefIdeal.nD Cert.SbRefIdeal.τ).loc Cert.SbRefIdeal.main_arg0) = m ((c.tc : Thread Cert.SbRefIdeal.nD Cert.SbRefIdeal.τ).loc Cert.SbRefIdeal.main_arg0)
      ∧ r.2.mem ((c.tc : Thread Cert.SbRefIdeal.nD Cert.SbRefIdeal.τ).loc Cert.SbRefIdeal.main_arg1) = m ((c.tc : Thread Cert.SbRefIdeal.nD Cert.SbRefIdeal.τ).loc Cert.SbRefIdeal.main_arg1))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2))
      ∧ r.2.sem = fun _ => 0)

def quiescent_Memattn [hMemattn : Cert.Memattn.Facts] : Prop :=
  ∀ (m : (ℓ : Loc Cert.Memattn.nD Cert.Memattn.τ Cert.Memattn.sig) → Buf (Elt Bits) ℓ) (g : Dev Cert.Memattn.nD → PrngReg), Pre_Memattn m →
    θ_run (Cert.Memattn.defs (F := Bits)) (onTc (τ := Cert.Memattn.τ) (Cert.Memattn.main (F := Bits))) ⟨m, fun _ => 0, g⟩ (fun r => (∀ c : Dev Cert.Memattn.nD,
      r.2.mem ((c.tc : Thread Cert.Memattn.nD Cert.Memattn.τ).loc Cert.Memattn.main_arg0) = m ((c.tc : Thread Cert.Memattn.nD Cert.Memattn.τ).loc Cert.Memattn.main_arg0)
      ∧ r.2.mem ((c.tc : Thread Cert.Memattn.nD Cert.Memattn.τ).loc Cert.Memattn.main_arg1) = m ((c.tc : Thread Cert.Memattn.nD Cert.Memattn.τ).loc Cert.Memattn.main_arg1)
      ∧ r.2.mem ((c.tc : Thread Cert.Memattn.nD Cert.Memattn.τ).loc Cert.Memattn.main_arg2) = m ((c.tc : Thread Cert.Memattn.nD Cert.Memattn.τ).loc Cert.Memattn.main_arg2)
      ∧ r.2.mem ((c.tc : Thread Cert.Memattn.nD Cert.Memattn.τ).loc Cert.Memattn.main_arg3) = m ((c.tc : Thread Cert.Memattn.nD Cert.Memattn.τ).loc Cert.Memattn.main_arg3)
      ∧ r.2.mem ((c.tc : Thread Cert.Memattn.nD Cert.Memattn.τ).loc Cert.Memattn.main_arg4) = m ((c.tc : Thread Cert.Memattn.nD Cert.Memattn.τ).loc Cert.Memattn.main_arg4)
      ∧ r.2.mem ((c.tc : Thread Cert.Memattn.nD Cert.Memattn.τ).loc Cert.Memattn.main_arg5) = m ((c.tc : Thread Cert.Memattn.nD Cert.Memattn.τ).loc Cert.Memattn.main_arg5))
      ∧ r.2.sem = fun _ => 0)

def quiescent_MemattnIdeal [hMemattnIdeal : Cert.MemattnIdeal.Facts] : Prop :=
  ∀ (m : (ℓ : Loc Cert.MemattnIdeal.nD Cert.MemattnIdeal.τ Cert.MemattnIdeal.sig) → Buf (Elt Ideal) ℓ) (g : Dev Cert.MemattnIdeal.nD → PrngReg), Pre_MemattnIdeal m →
    θ_run (Cert.MemattnIdeal.defs (F := Ideal)) (onTc (τ := Cert.MemattnIdeal.τ) (Cert.MemattnIdeal.main (F := Ideal))) ⟨m, fun _ => 0, g⟩ (fun r => (∀ c : Dev Cert.MemattnIdeal.nD,
      r.2.mem ((c.tc : Thread Cert.MemattnIdeal.nD Cert.MemattnIdeal.τ).loc Cert.MemattnIdeal.main_arg0) = m ((c.tc : Thread Cert.MemattnIdeal.nD Cert.MemattnIdeal.τ).loc Cert.MemattnIdeal.main_arg0)
      ∧ r.2.mem ((c.tc : Thread Cert.MemattnIdeal.nD Cert.MemattnIdeal.τ).loc Cert.MemattnIdeal.main_arg1) = m ((c.tc : Thread Cert.MemattnIdeal.nD Cert.MemattnIdeal.τ).loc Cert.MemattnIdeal.main_arg1)
      ∧ r.2.mem ((c.tc : Thread Cert.MemattnIdeal.nD Cert.MemattnIdeal.τ).loc Cert.MemattnIdeal.main_arg2) = m ((c.tc : Thread Cert.MemattnIdeal.nD Cert.MemattnIdeal.τ).loc Cert.MemattnIdeal.main_arg2)
      ∧ r.2.mem ((c.tc : Thread Cert.MemattnIdeal.nD Cert.MemattnIdeal.τ).loc Cert.MemattnIdeal.main_arg3) = m ((c.tc : Thread Cert.MemattnIdeal.nD Cert.MemattnIdeal.τ).loc Cert.MemattnIdeal.main_arg3)
      ∧ r.2.mem ((c.tc : Thread Cert.MemattnIdeal.nD Cert.MemattnIdeal.τ).loc Cert.MemattnIdeal.main_arg4) = m ((c.tc : Thread Cert.MemattnIdeal.nD Cert.MemattnIdeal.τ).loc Cert.MemattnIdeal.main_arg4)
      ∧ r.2.mem ((c.tc : Thread Cert.MemattnIdeal.nD Cert.MemattnIdeal.τ).loc Cert.MemattnIdeal.main_arg5) = m ((c.tc : Thread Cert.MemattnIdeal.nD Cert.MemattnIdeal.τ).loc Cert.MemattnIdeal.main_arg5))
      ∧ r.2.sem = fun _ => 0)

def quiescent_MemattnIdeal_pre_memattn_finite [hMemattnIdeal : Cert.MemattnIdeal.Facts] [hPre_memattn_finite : Cert.Pre_memattn_finite.Facts] : Prop :=
  ∀ (m : (ℓ : Loc Cert.MemattnIdeal.nD Cert.MemattnIdeal.τ Cert.MemattnIdeal.sig) → Buf (Elt Ideal) ℓ) (g : Dev Cert.MemattnIdeal.nD → PrngReg), Pre_MemattnIdeal_memattn_finite m →
    θ_run (Cert.MemattnIdeal.defs (F := Ideal)) (onTc (τ := Cert.MemattnIdeal.τ) (Cert.MemattnIdeal.main (F := Ideal))) ⟨m, fun _ => 0, g⟩ (fun r => (∀ c : Dev Cert.MemattnIdeal.nD,
      r.2.mem ((c.tc : Thread Cert.MemattnIdeal.nD Cert.MemattnIdeal.τ).loc Cert.MemattnIdeal.main_arg0) = m ((c.tc : Thread Cert.MemattnIdeal.nD Cert.MemattnIdeal.τ).loc Cert.MemattnIdeal.main_arg0)
      ∧ r.2.mem ((c.tc : Thread Cert.MemattnIdeal.nD Cert.MemattnIdeal.τ).loc Cert.MemattnIdeal.main_arg1) = m ((c.tc : Thread Cert.MemattnIdeal.nD Cert.MemattnIdeal.τ).loc Cert.MemattnIdeal.main_arg1)
      ∧ r.2.mem ((c.tc : Thread Cert.MemattnIdeal.nD Cert.MemattnIdeal.τ).loc Cert.MemattnIdeal.main_arg2) = m ((c.tc : Thread Cert.MemattnIdeal.nD Cert.MemattnIdeal.τ).loc Cert.MemattnIdeal.main_arg2)
      ∧ r.2.mem ((c.tc : Thread Cert.MemattnIdeal.nD Cert.MemattnIdeal.τ).loc Cert.MemattnIdeal.main_arg3) = m ((c.tc : Thread Cert.MemattnIdeal.nD Cert.MemattnIdeal.τ).loc Cert.MemattnIdeal.main_arg3)
      ∧ r.2.mem ((c.tc : Thread Cert.MemattnIdeal.nD Cert.MemattnIdeal.τ).loc Cert.MemattnIdeal.main_arg4) = m ((c.tc : Thread Cert.MemattnIdeal.nD Cert.MemattnIdeal.τ).loc Cert.MemattnIdeal.main_arg4)
      ∧ r.2.mem ((c.tc : Thread Cert.MemattnIdeal.nD Cert.MemattnIdeal.τ).loc Cert.MemattnIdeal.main_arg5) = m ((c.tc : Thread Cert.MemattnIdeal.nD Cert.MemattnIdeal.τ).loc Cert.MemattnIdeal.main_arg5))
      ∧ r.2.sem = fun _ => 0)

def quiescent_MemattnRefIdeal [hMemattnRefIdeal : Cert.MemattnRefIdeal.Facts] : Prop :=
  ∀ (m : (ℓ : Loc Cert.MemattnRefIdeal.nD Cert.MemattnRefIdeal.τ Cert.MemattnRefIdeal.sig) → Buf (Elt Ideal) ℓ) (g : Dev Cert.MemattnRefIdeal.nD → PrngReg), Pre_MemattnRefIdeal m →
    θ_run (Cert.MemattnRefIdeal.defs (F := Ideal)) (onTc (τ := Cert.MemattnRefIdeal.τ) (Cert.MemattnRefIdeal.main (F := Ideal))) ⟨m, fun _ => 0, g⟩ (fun r => (∀ c : Dev Cert.MemattnRefIdeal.nD,
      r.2.mem ((c.tc : Thread Cert.MemattnRefIdeal.nD Cert.MemattnRefIdeal.τ).loc Cert.MemattnRefIdeal.main_arg0) = m ((c.tc : Thread Cert.MemattnRefIdeal.nD Cert.MemattnRefIdeal.τ).loc Cert.MemattnRefIdeal.main_arg0)
      ∧ r.2.mem ((c.tc : Thread Cert.MemattnRefIdeal.nD Cert.MemattnRefIdeal.τ).loc Cert.MemattnRefIdeal.main_arg1) = m ((c.tc : Thread Cert.MemattnRefIdeal.nD Cert.MemattnRefIdeal.τ).loc Cert.MemattnRefIdeal.main_arg1)
      ∧ r.2.mem ((c.tc : Thread Cert.MemattnRefIdeal.nD Cert.MemattnRefIdeal.τ).loc Cert.MemattnRefIdeal.main_arg2) = m ((c.tc : Thread Cert.MemattnRefIdeal.nD Cert.MemattnRefIdeal.τ).loc Cert.MemattnRefIdeal.main_arg2)
      ∧ r.2.mem ((c.tc : Thread Cert.MemattnRefIdeal.nD Cert.MemattnRefIdeal.τ).loc Cert.MemattnRefIdeal.main_arg3) = m ((c.tc : Thread Cert.MemattnRefIdeal.nD Cert.MemattnRefIdeal.τ).loc Cert.MemattnRefIdeal.main_arg3)
      ∧ r.2.mem ((c.tc : Thread Cert.MemattnRefIdeal.nD Cert.MemattnRefIdeal.τ).loc Cert.MemattnRefIdeal.main_arg4) = m ((c.tc : Thread Cert.MemattnRefIdeal.nD Cert.MemattnRefIdeal.τ).loc Cert.MemattnRefIdeal.main_arg4)
      ∧ r.2.mem ((c.tc : Thread Cert.MemattnRefIdeal.nD Cert.MemattnRefIdeal.τ).loc Cert.MemattnRefIdeal.main_arg5) = m ((c.tc : Thread Cert.MemattnRefIdeal.nD Cert.MemattnRefIdeal.τ).loc Cert.MemattnRefIdeal.main_arg5))
      ∧ r.2.sem = fun _ => 0)

def quiescent_MemattnRefIdeal_pre_memattn_finite [hMemattnRefIdeal : Cert.MemattnRefIdeal.Facts] [hPre_memattn_finite : Cert.Pre_memattn_finite.Facts] : Prop :=
  ∀ (m : (ℓ : Loc Cert.MemattnRefIdeal.nD Cert.MemattnRefIdeal.τ Cert.MemattnRefIdeal.sig) → Buf (Elt Ideal) ℓ) (g : Dev Cert.MemattnRefIdeal.nD → PrngReg), Pre_MemattnRefIdeal_memattn_finite m →
    θ_run (Cert.MemattnRefIdeal.defs (F := Ideal)) (onTc (τ := Cert.MemattnRefIdeal.τ) (Cert.MemattnRefIdeal.main (F := Ideal))) ⟨m, fun _ => 0, g⟩ (fun r => (∀ c : Dev Cert.MemattnRefIdeal.nD,
      r.2.mem ((c.tc : Thread Cert.MemattnRefIdeal.nD Cert.MemattnRefIdeal.τ).loc Cert.MemattnRefIdeal.main_arg0) = m ((c.tc : Thread Cert.MemattnRefIdeal.nD Cert.MemattnRefIdeal.τ).loc Cert.MemattnRefIdeal.main_arg0)
      ∧ r.2.mem ((c.tc : Thread Cert.MemattnRefIdeal.nD Cert.MemattnRefIdeal.τ).loc Cert.MemattnRefIdeal.main_arg1) = m ((c.tc : Thread Cert.MemattnRefIdeal.nD Cert.MemattnRefIdeal.τ).loc Cert.MemattnRefIdeal.main_arg1)
      ∧ r.2.mem ((c.tc : Thread Cert.MemattnRefIdeal.nD Cert.MemattnRefIdeal.τ).loc Cert.MemattnRefIdeal.main_arg2) = m ((c.tc : Thread Cert.MemattnRefIdeal.nD Cert.MemattnRefIdeal.τ).loc Cert.MemattnRefIdeal.main_arg2)
      ∧ r.2.mem ((c.tc : Thread Cert.MemattnRefIdeal.nD Cert.MemattnRefIdeal.τ).loc Cert.MemattnRefIdeal.main_arg3) = m ((c.tc : Thread Cert.MemattnRefIdeal.nD Cert.MemattnRefIdeal.τ).loc Cert.MemattnRefIdeal.main_arg3)
      ∧ r.2.mem ((c.tc : Thread Cert.MemattnRefIdeal.nD Cert.MemattnRefIdeal.τ).loc Cert.MemattnRefIdeal.main_arg4) = m ((c.tc : Thread Cert.MemattnRefIdeal.nD Cert.MemattnRefIdeal.τ).loc Cert.MemattnRefIdeal.main_arg4)
      ∧ r.2.mem ((c.tc : Thread Cert.MemattnRefIdeal.nD Cert.MemattnRefIdeal.τ).loc Cert.MemattnRefIdeal.main_arg5) = m ((c.tc : Thread Cert.MemattnRefIdeal.nD Cert.MemattnRefIdeal.τ).loc Cert.MemattnRefIdeal.main_arg5))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3)
      ∧ r.2.mem ((c.tc : Thread Cert.Loss.nD Cert.Loss.τ).loc Cert.Loss.main_arg4) = m ((c.tc : Thread Cert.Loss.nD Cert.Loss.τ).loc Cert.Loss.main_arg4))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ r.2.sem = fun _ => 0)

def quiescent_LossIdeal_pre_loss_finite [hLossIdeal : Cert.LossIdeal.Facts] [hPre_loss_finite : Cert.Pre_loss_finite.Facts] : Prop :=
  ∀ (m : (ℓ : Loc Cert.LossIdeal.nD Cert.LossIdeal.τ Cert.LossIdeal.sig) → Buf (Elt Ideal) ℓ) (g : Dev Cert.LossIdeal.nD → PrngReg), Pre_LossIdeal_loss_finite m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4))
      ∧ r.2.sem = fun _ => 0)

def quiescent_LossRefIdeal_pre_loss_finite [hLossRefIdeal : Cert.LossRefIdeal.Facts] [hPre_loss_finite : Cert.Pre_loss_finite.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal_loss_finite m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4))
      ∧ r.2.sem = fun _ => 0)

def quiescent_FfnIn [hFfnIn : Cert.FfnIn.Facts] : Prop :=
  ∀ (m : (ℓ : Loc Cert.FfnIn.nD Cert.FfnIn.τ Cert.FfnIn.sig) → Buf (Elt Bits) ℓ) (g : Dev Cert.FfnIn.nD → PrngReg), Pre_FfnIn m →
    θ_run (Cert.FfnIn.defs (F := Bits)) (onTc (τ := Cert.FfnIn.τ) (Cert.FfnIn.main (F := Bits))) ⟨m, fun _ => 0, g⟩ (fun r => (∀ c : Dev Cert.FfnIn.nD,
      r.2.mem ((c.tc : Thread Cert.FfnIn.nD Cert.FfnIn.τ).loc Cert.FfnIn.main_arg0) = m ((c.tc : Thread Cert.FfnIn.nD Cert.FfnIn.τ).loc Cert.FfnIn.main_arg0)
      ∧ r.2.mem ((c.tc : Thread Cert.FfnIn.nD Cert.FfnIn.τ).loc Cert.FfnIn.main_arg1) = m ((c.tc : Thread Cert.FfnIn.nD Cert.FfnIn.τ).loc Cert.FfnIn.main_arg1)
      ∧ r.2.mem ((c.tc : Thread Cert.FfnIn.nD Cert.FfnIn.τ).loc Cert.FfnIn.main_arg2) = m ((c.tc : Thread Cert.FfnIn.nD Cert.FfnIn.τ).loc Cert.FfnIn.main_arg2)
      ∧ r.2.mem ((c.tc : Thread Cert.FfnIn.nD Cert.FfnIn.τ).loc Cert.FfnIn.main_arg3) = m ((c.tc : Thread Cert.FfnIn.nD Cert.FfnIn.τ).loc Cert.FfnIn.main_arg3)
      ∧ r.2.mem ((c.tc : Thread Cert.FfnIn.nD Cert.FfnIn.τ).loc Cert.FfnIn.main_arg4) = m ((c.tc : Thread Cert.FfnIn.nD Cert.FfnIn.τ).loc Cert.FfnIn.main_arg4))
      ∧ r.2.sem = fun _ => 0)

def quiescent_FfnInIdeal [hFfnInIdeal : Cert.FfnInIdeal.Facts] : Prop :=
  ∀ (m : (ℓ : Loc Cert.FfnInIdeal.nD Cert.FfnInIdeal.τ Cert.FfnInIdeal.sig) → Buf (Elt Ideal) ℓ) (g : Dev Cert.FfnInIdeal.nD → PrngReg), Pre_FfnInIdeal m →
    θ_run (Cert.FfnInIdeal.defs (F := Ideal)) (onTc (τ := Cert.FfnInIdeal.τ) (Cert.FfnInIdeal.main (F := Ideal))) ⟨m, fun _ => 0, g⟩ (fun r => (∀ c : Dev Cert.FfnInIdeal.nD,
      r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
      ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
      ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2)
      ∧ r.2.mem ((c.tc : Thread Cert.FfnInIdeal.nD Cert.FfnInIdeal.τ).loc Cert.FfnInIdeal.main_arg3) = m ((c.tc : Thread Cert.FfnInIdeal.nD Cert.FfnInIdeal.τ).loc Cert.FfnInIdeal.main_arg3)
      ∧ r.2.mem ((c.tc : Thread Cert.FfnInIdeal.nD Cert.FfnInIdeal.τ).loc Cert.FfnInIdeal.main_arg4) = m ((c.tc : Thread Cert.FfnInIdeal.nD Cert.FfnInIdeal.τ).loc Cert.FfnInIdeal.main_arg4))
      ∧ r.2.sem = fun _ => 0)

def quiescent_FfnInIdeal_pre_ffn_in_finite [hFfnInIdeal : Cert.FfnInIdeal.Facts] [hPre_ffn_in_finite : Cert.Pre_ffn_in_finite.Facts] : Prop :=
  ∀ (m : (ℓ : Loc Cert.FfnInIdeal.nD Cert.FfnInIdeal.τ Cert.FfnInIdeal.sig) → Buf (Elt Ideal) ℓ) (g : Dev Cert.FfnInIdeal.nD → PrngReg), Pre_FfnInIdeal_ffn_in_finite m →
    θ_run (Cert.FfnInIdeal.defs (F := Ideal)) (onTc (τ := Cert.FfnInIdeal.τ) (Cert.FfnInIdeal.main (F := Ideal))) ⟨m, fun _ => 0, g⟩ (fun r => (∀ c : Dev Cert.FfnInIdeal.nD,
      r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
      ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
      ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2)
      ∧ r.2.mem ((c.tc : Thread Cert.FfnInIdeal.nD Cert.FfnInIdeal.τ).loc Cert.FfnInIdeal.main_arg3) = m ((c.tc : Thread Cert.FfnInIdeal.nD Cert.FfnInIdeal.τ).loc Cert.FfnInIdeal.main_arg3)
      ∧ r.2.mem ((c.tc : Thread Cert.FfnInIdeal.nD Cert.FfnInIdeal.τ).loc Cert.FfnInIdeal.main_arg4) = m ((c.tc : Thread Cert.FfnInIdeal.nD Cert.FfnInIdeal.τ).loc Cert.FfnInIdeal.main_arg4))
      ∧ r.2.sem = fun _ => 0)

def quiescent_FfnInRefIdeal [hFfnInRefIdeal : Cert.FfnInRefIdeal.Facts] : Prop :=
  ∀ (m : (ℓ : Loc Cert.FfnInRefIdeal.nD Cert.FfnInRefIdeal.τ Cert.FfnInRefIdeal.sig) → Buf (Elt Ideal) ℓ) (g : Dev Cert.FfnInRefIdeal.nD → PrngReg), Pre_FfnInRefIdeal m →
    θ_run (Cert.FfnInRefIdeal.defs (F := Ideal)) (onTc (τ := Cert.FfnInRefIdeal.τ) (Cert.FfnInRefIdeal.main (F := Ideal))) ⟨m, fun _ => 0, g⟩ (fun r => (∀ c : Dev Cert.FfnInRefIdeal.nD,
      r.2.mem ((c.tc : Thread Cert.FfnInRefIdeal.nD Cert.FfnInRefIdeal.τ).loc Cert.FfnInRefIdeal.main_arg0) = m ((c.tc : Thread Cert.FfnInRefIdeal.nD Cert.FfnInRefIdeal.τ).loc Cert.FfnInRefIdeal.main_arg0)
      ∧ r.2.mem ((c.tc : Thread Cert.FfnInRefIdeal.nD Cert.FfnInRefIdeal.τ).loc Cert.FfnInRefIdeal.main_arg1) = m ((c.tc : Thread Cert.FfnInRefIdeal.nD Cert.FfnInRefIdeal.τ).loc Cert.FfnInRefIdeal.main_arg1)
      ∧ r.2.mem ((c.tc : Thread Cert.FfnInRefIdeal.nD Cert.FfnInRefIdeal.τ).loc Cert.FfnInRefIdeal.main_arg2) = m ((c.tc : Thread Cert.FfnInRefIdeal.nD Cert.FfnInRefIdeal.τ).loc Cert.FfnInRefIdeal.main_arg2)
      ∧ r.2.mem ((c.tc : Thread Cert.FfnInRefIdeal.nD Cert.FfnInRefIdeal.τ).loc Cert.FfnInRefIdeal.main_arg3) = m ((c.tc : Thread Cert.FfnInRefIdeal.nD Cert.FfnInRefIdeal.τ).loc Cert.FfnInRefIdeal.main_arg3)
      ∧ r.2.mem ((c.tc : Thread Cert.FfnInRefIdeal.nD Cert.FfnInRefIdeal.τ).loc Cert.FfnInRefIdeal.main_arg4) = m ((c.tc : Thread Cert.FfnInRefIdeal.nD Cert.FfnInRefIdeal.τ).loc Cert.FfnInRefIdeal.main_arg4))
      ∧ r.2.sem = fun _ => 0)

def quiescent_FfnInRefIdeal_pre_ffn_in_finite [hFfnInRefIdeal : Cert.FfnInRefIdeal.Facts] [hPre_ffn_in_finite : Cert.Pre_ffn_in_finite.Facts] : Prop :=
  ∀ (m : (ℓ : Loc Cert.FfnInRefIdeal.nD Cert.FfnInRefIdeal.τ Cert.FfnInRefIdeal.sig) → Buf (Elt Ideal) ℓ) (g : Dev Cert.FfnInRefIdeal.nD → PrngReg), Pre_FfnInRefIdeal_ffn_in_finite m →
    θ_run (Cert.FfnInRefIdeal.defs (F := Ideal)) (onTc (τ := Cert.FfnInRefIdeal.τ) (Cert.FfnInRefIdeal.main (F := Ideal))) ⟨m, fun _ => 0, g⟩ (fun r => (∀ c : Dev Cert.FfnInRefIdeal.nD,
      r.2.mem ((c.tc : Thread Cert.FfnInRefIdeal.nD Cert.FfnInRefIdeal.τ).loc Cert.FfnInRefIdeal.main_arg0) = m ((c.tc : Thread Cert.FfnInRefIdeal.nD Cert.FfnInRefIdeal.τ).loc Cert.FfnInRefIdeal.main_arg0)
      ∧ r.2.mem ((c.tc : Thread Cert.FfnInRefIdeal.nD Cert.FfnInRefIdeal.τ).loc Cert.FfnInRefIdeal.main_arg1) = m ((c.tc : Thread Cert.FfnInRefIdeal.nD Cert.FfnInRefIdeal.τ).loc Cert.FfnInRefIdeal.main_arg1)
      ∧ r.2.mem ((c.tc : Thread Cert.FfnInRefIdeal.nD Cert.FfnInRefIdeal.τ).loc Cert.FfnInRefIdeal.main_arg2) = m ((c.tc : Thread Cert.FfnInRefIdeal.nD Cert.FfnInRefIdeal.τ).loc Cert.FfnInRefIdeal.main_arg2)
      ∧ r.2.mem ((c.tc : Thread Cert.FfnInRefIdeal.nD Cert.FfnInRefIdeal.τ).loc Cert.FfnInRefIdeal.main_arg3) = m ((c.tc : Thread Cert.FfnInRefIdeal.nD Cert.FfnInRefIdeal.τ).loc Cert.FfnInRefIdeal.main_arg3)
      ∧ r.2.mem ((c.tc : Thread Cert.FfnInRefIdeal.nD Cert.FfnInRefIdeal.τ).loc Cert.FfnInRefIdeal.main_arg4) = m ((c.tc : Thread Cert.FfnInRefIdeal.nD Cert.FfnInRefIdeal.τ).loc Cert.FfnInRefIdeal.main_arg4))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1)
      ∧ r.2.mem ((c.tc : Thread Cert.MemKv.nD Cert.MemKv.τ).loc Cert.MemKv.main_arg2) = m ((c.tc : Thread Cert.MemKv.nD Cert.MemKv.τ).loc Cert.MemKv.main_arg2)
      ∧ r.2.mem ((c.tc : Thread Cert.MemKv.nD Cert.MemKv.τ).loc Cert.MemKv.main_arg3) = m ((c.tc : Thread Cert.MemKv.nD Cert.MemKv.τ).loc Cert.MemKv.main_arg3))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
      ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2)
      ∧ r.2.mem ((c.tc : Thread Cert.MemKvIdeal.nD Cert.MemKvIdeal.τ).loc Cert.MemKvIdeal.main_arg3) = m ((c.tc : Thread Cert.MemKvIdeal.nD Cert.MemKvIdeal.τ).loc Cert.MemKvIdeal.main_arg3))
      ∧ r.2.sem = fun _ => 0)

def quiescent_MemKvIdeal_pre_mem_kv_finite [hMemKvIdeal : Cert.MemKvIdeal.Facts] [hPre_mem_kv_finite : Cert.Pre_mem_kv_finite.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal_mem_kv_finite m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
      ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2)
      ∧ r.2.mem ((c.tc : Thread Cert.MemKvIdeal.nD Cert.MemKvIdeal.τ).loc Cert.MemKvIdeal.main_arg3) = m ((c.tc : Thread Cert.MemKvIdeal.nD Cert.MemKvIdeal.τ).loc Cert.MemKvIdeal.main_arg3))
      ∧ r.2.sem = fun _ => 0)

def quiescent_MemKvRefIdeal [hMemKvRefIdeal : Cert.MemKvRefIdeal.Facts] : Prop :=
  ∀ (m : (ℓ : Loc Cert.MemKvRefIdeal.nD Cert.MemKvRefIdeal.τ Cert.MemKvRefIdeal.sig) → Buf (Elt Ideal) ℓ) (g : Dev Cert.MemKvRefIdeal.nD → PrngReg), Pre_MemKvRefIdeal m →
    θ_run (Cert.MemKvRefIdeal.defs (F := Ideal)) (onTc (τ := Cert.MemKvRefIdeal.τ) (Cert.MemKvRefIdeal.main (F := Ideal))) ⟨m, fun _ => 0, g⟩ (fun r => (∀ c : Dev Cert.MemKvRefIdeal.nD,
      r.2.mem ((c.tc : Thread Cert.MemKvRefIdeal.nD Cert.MemKvRefIdeal.τ).loc Cert.MemKvRefIdeal.main_arg0) = m ((c.tc : Thread Cert.MemKvRefIdeal.nD Cert.MemKvRefIdeal.τ).loc Cert.MemKvRefIdeal.main_arg0)
      ∧ r.2.mem ((c.tc : Thread Cert.MemKvRefIdeal.nD Cert.MemKvRefIdeal.τ).loc Cert.MemKvRefIdeal.main_arg1) = m ((c.tc : Thread Cert.MemKvRefIdeal.nD Cert.MemKvRefIdeal.τ).loc Cert.MemKvRefIdeal.main_arg1)
      ∧ r.2.mem ((c.tc : Thread Cert.MemKvRefIdeal.nD Cert.MemKvRefIdeal.τ).loc Cert.MemKvRefIdeal.main_arg2) = m ((c.tc : Thread Cert.MemKvRefIdeal.nD Cert.MemKvRefIdeal.τ).loc Cert.MemKvRefIdeal.main_arg2)
      ∧ r.2.mem ((c.tc : Thread Cert.MemKvRefIdeal.nD Cert.MemKvRefIdeal.τ).loc Cert.MemKvRefIdeal.main_arg3) = m ((c.tc : Thread Cert.MemKvRefIdeal.nD Cert.MemKvRefIdeal.τ).loc Cert.MemKvRefIdeal.main_arg3))
      ∧ r.2.sem = fun _ => 0)

def quiescent_MemKvRefIdeal_pre_mem_kv_finite [hMemKvRefIdeal : Cert.MemKvRefIdeal.Facts] [hPre_mem_kv_finite : Cert.Pre_mem_kv_finite.Facts] : Prop :=
  ∀ (m : (ℓ : Loc Cert.MemKvRefIdeal.nD Cert.MemKvRefIdeal.τ Cert.MemKvRefIdeal.sig) → Buf (Elt Ideal) ℓ) (g : Dev Cert.MemKvRefIdeal.nD → PrngReg), Pre_MemKvRefIdeal_mem_kv_finite m →
    θ_run (Cert.MemKvRefIdeal.defs (F := Ideal)) (onTc (τ := Cert.MemKvRefIdeal.τ) (Cert.MemKvRefIdeal.main (F := Ideal))) ⟨m, fun _ => 0, g⟩ (fun r => (∀ c : Dev Cert.MemKvRefIdeal.nD,
      r.2.mem ((c.tc : Thread Cert.MemKvRefIdeal.nD Cert.MemKvRefIdeal.τ).loc Cert.MemKvRefIdeal.main_arg0) = m ((c.tc : Thread Cert.MemKvRefIdeal.nD Cert.MemKvRefIdeal.τ).loc Cert.MemKvRefIdeal.main_arg0)
      ∧ r.2.mem ((c.tc : Thread Cert.MemKvRefIdeal.nD Cert.MemKvRefIdeal.τ).loc Cert.MemKvRefIdeal.main_arg1) = m ((c.tc : Thread Cert.MemKvRefIdeal.nD Cert.MemKvRefIdeal.τ).loc Cert.MemKvRefIdeal.main_arg1)
      ∧ r.2.mem ((c.tc : Thread Cert.MemKvRefIdeal.nD Cert.MemKvRefIdeal.τ).loc Cert.MemKvRefIdeal.main_arg2) = m ((c.tc : Thread Cert.MemKvRefIdeal.nD Cert.MemKvRefIdeal.τ).loc Cert.MemKvRefIdeal.main_arg2)
      ∧ r.2.mem ((c.tc : Thread Cert.MemKvRefIdeal.nD Cert.MemKvRefIdeal.τ).loc Cert.MemKvRefIdeal.main_arg3) = m ((c.tc : Thread Cert.MemKvRefIdeal.nD Cert.MemKvRefIdeal.τ).loc Cert.MemKvRefIdeal.main_arg3))
      ∧ r.2.sem = fun _ => 0)

def quiescent_Gain [hGain : Cert.Gain.Facts] : Prop :=
  ∀ (m : (ℓ : Loc Cert.Gain.nD Cert.Gain.τ Cert.Gain.sig) → Buf (Elt Bits) ℓ) (g : Dev Cert.Gain.nD → PrngReg), Pre_Gain m →
    θ_run (Cert.Gain.defs (F := Bits)) (onTc (τ := Cert.Gain.τ) (Cert.Gain.main (F := Bits))) ⟨m, fun _ => 0, g⟩ (fun r => (∀ c : Dev Cert.Gain.nD,
      r.2.mem ((c.tc : Thread Cert.Gain.nD Cert.Gain.τ).loc Cert.Gain.main_arg0) = m ((c.tc : Thread Cert.Gain.nD Cert.Gain.τ).loc Cert.Gain.main_arg0)
      ∧ r.2.mem ((c.tc : Thread Cert.Gain.nD Cert.Gain.τ).loc Cert.Gain.main_arg1) = m ((c.tc : Thread Cert.Gain.nD Cert.Gain.τ).loc Cert.Gain.main_arg1)
      ∧ r.2.mem ((c.tc : Thread Cert.Gain.nD Cert.Gain.τ).loc Cert.Gain.main_arg2) = m ((c.tc : Thread Cert.Gain.nD Cert.Gain.τ).loc Cert.Gain.main_arg2))
      ∧ r.2.sem = fun _ => 0)

def quiescent_GainIdeal [hGainIdeal : Cert.GainIdeal.Facts] : Prop :=
  ∀ (m : (ℓ : Loc Cert.GainIdeal.nD Cert.GainIdeal.τ Cert.GainIdeal.sig) → Buf (Elt Ideal) ℓ) (g : Dev Cert.GainIdeal.nD → PrngReg), Pre_GainIdeal m →
    θ_run (Cert.GainIdeal.defs (F := Ideal)) (onTc (τ := Cert.GainIdeal.τ) (Cert.GainIdeal.main (F := Ideal))) ⟨m, fun _ => 0, g⟩ (fun r => (∀ c : Dev Cert.GainIdeal.nD,
      r.2.mem ((c.tc : Thread Cert.GainIdeal.nD Cert.GainIdeal.τ).loc Cert.GainIdeal.main_arg0) = m ((c.tc : Thread Cert.GainIdeal.nD Cert.GainIdeal.τ).loc Cert.GainIdeal.main_arg0)
      ∧ r.2.mem ((c.tc : Thread Cert.GainIdeal.nD Cert.GainIdeal.τ).loc Cert.GainIdeal.main_arg1) = m ((c.tc : Thread Cert.GainIdeal.nD Cert.GainIdeal.τ).loc Cert.GainIdeal.main_arg1)
      ∧ r.2.mem ((c.tc : Thread Cert.GainIdeal.nD Cert.GainIdeal.τ).loc Cert.GainIdeal.main_arg2) = m ((c.tc : Thread Cert.GainIdeal.nD Cert.GainIdeal.τ).loc Cert.GainIdeal.main_arg2))
      ∧ r.2.sem = fun _ => 0)

def quiescent_GainRefIdeal [hGainRefIdeal : Cert.GainRefIdeal.Facts] : Prop :=
  ∀ (m : (ℓ : Loc Cert.GainRefIdeal.nD Cert.GainRefIdeal.τ Cert.GainRefIdeal.sig) → Buf (Elt Ideal) ℓ) (g : Dev Cert.GainRefIdeal.nD → PrngReg), Pre_GainRefIdeal m →
    θ_run (Cert.GainRefIdeal.defs (F := Ideal)) (onTc (τ := Cert.GainRefIdeal.τ) (Cert.GainRefIdeal.main (F := Ideal))) ⟨m, fun _ => 0, g⟩ (fun r => (∀ c : Dev Cert.GainRefIdeal.nD,
      r.2.mem ((c.tc : Thread Cert.GainRefIdeal.nD Cert.GainRefIdeal.τ).loc Cert.GainRefIdeal.main_arg0) = m ((c.tc : Thread Cert.GainRefIdeal.nD Cert.GainRefIdeal.τ).loc Cert.GainRefIdeal.main_arg0)
      ∧ r.2.mem ((c.tc : Thread Cert.GainRefIdeal.nD Cert.GainRefIdeal.τ).loc Cert.GainRefIdeal.main_arg1) = m ((c.tc : Thread Cert.GainRefIdeal.nD Cert.GainRefIdeal.τ).loc Cert.GainRefIdeal.main_arg1)
      ∧ r.2.mem ((c.tc : Thread Cert.GainRefIdeal.nD Cert.GainRefIdeal.τ).loc Cert.GainRefIdeal.main_arg2) = m ((c.tc : Thread Cert.GainRefIdeal.nD Cert.GainRefIdeal.τ).loc Cert.GainRefIdeal.main_arg2))
      ∧ r.2.sem = fun _ => 0)

def quiescent_Rms [hRms : Cert.Rms.Facts] : Prop :=
  ∀ (m : (ℓ : Loc Cert.Rms.nD Cert.Rms.τ Cert.Rms.sig) → Buf (Elt Bits) ℓ) (g : Dev Cert.Rms.nD → PrngReg), Pre_Rms m →
    θ_run (Cert.Rms.defs (F := Bits)) (onTc (τ := Cert.Rms.τ) (Cert.Rms.main (F := Bits))) ⟨m, fun _ => 0, g⟩ (fun r => (∀ c : Dev Cert.Rms.nD,
      r.2.mem ((c.tc : Thread Cert.Rms.nD Cert.Rms.τ).loc Cert.Rms.main_arg0) = m ((c.tc : Thread Cert.Rms.nD Cert.Rms.τ).loc Cert.Rms.main_arg0)
      ∧ r.2.mem ((c.tc : Thread Cert.Rms.nD Cert.Rms.τ).loc Cert.Rms.main_arg1) = m ((c.tc : Thread Cert.Rms.nD Cert.Rms.τ).loc Cert.Rms.main_arg1)
      ∧ r.2.mem ((c.tc : Thread Cert.Rms.nD Cert.Rms.τ).loc Cert.Rms.main_arg2) = m ((c.tc : Thread Cert.Rms.nD Cert.Rms.τ).loc Cert.Rms.main_arg2)
      ∧ r.2.mem ((c.tc : Thread Cert.Rms.nD Cert.Rms.τ).loc Cert.Rms.main_arg3) = m ((c.tc : Thread Cert.Rms.nD Cert.Rms.τ).loc Cert.Rms.main_arg3))
      ∧ r.2.sem = fun _ => 0)

def quiescent_RmsIdeal [hRmsIdeal : Cert.RmsIdeal.Facts] : Prop :=
  ∀ (m : (ℓ : Loc Cert.RmsIdeal.nD Cert.RmsIdeal.τ Cert.RmsIdeal.sig) → Buf (Elt Ideal) ℓ) (g : Dev Cert.RmsIdeal.nD → PrngReg), Pre_RmsIdeal m →
    θ_run (Cert.RmsIdeal.defs (F := Ideal)) (onTc (τ := Cert.RmsIdeal.τ) (Cert.RmsIdeal.main (F := Ideal))) ⟨m, fun _ => 0, g⟩ (fun r => (∀ c : Dev Cert.RmsIdeal.nD,
      r.2.mem ((c.tc : Thread Cert.RmsIdeal.nD Cert.RmsIdeal.τ).loc Cert.RmsIdeal.main_arg0) = m ((c.tc : Thread Cert.RmsIdeal.nD Cert.RmsIdeal.τ).loc Cert.RmsIdeal.main_arg0)
      ∧ r.2.mem ((c.tc : Thread Cert.RmsIdeal.nD Cert.RmsIdeal.τ).loc Cert.RmsIdeal.main_arg1) = m ((c.tc : Thread Cert.RmsIdeal.nD Cert.RmsIdeal.τ).loc Cert.RmsIdeal.main_arg1)
      ∧ r.2.mem ((c.tc : Thread Cert.RmsIdeal.nD Cert.RmsIdeal.τ).loc Cert.RmsIdeal.main_arg2) = m ((c.tc : Thread Cert.RmsIdeal.nD Cert.RmsIdeal.τ).loc Cert.RmsIdeal.main_arg2)
      ∧ r.2.mem ((c.tc : Thread Cert.RmsIdeal.nD Cert.RmsIdeal.τ).loc Cert.RmsIdeal.main_arg3) = m ((c.tc : Thread Cert.RmsIdeal.nD Cert.RmsIdeal.τ).loc Cert.RmsIdeal.main_arg3))
      ∧ r.2.sem = fun _ => 0)

def quiescent_RmsIdeal_pre_rms_finite [hRmsIdeal : Cert.RmsIdeal.Facts] [hPre_rms_finite : Cert.Pre_rms_finite.Facts] : Prop :=
  ∀ (m : (ℓ : Loc Cert.RmsIdeal.nD Cert.RmsIdeal.τ Cert.RmsIdeal.sig) → Buf (Elt Ideal) ℓ) (g : Dev Cert.RmsIdeal.nD → PrngReg), Pre_RmsIdeal_rms_finite m →
    θ_run (Cert.RmsIdeal.defs (F := Ideal)) (onTc (τ := Cert.RmsIdeal.τ) (Cert.RmsIdeal.main (F := Ideal))) ⟨m, fun _ => 0, g⟩ (fun r => (∀ c : Dev Cert.RmsIdeal.nD,
      r.2.mem ((c.tc : Thread Cert.RmsIdeal.nD Cert.RmsIdeal.τ).loc Cert.RmsIdeal.main_arg0) = m ((c.tc : Thread Cert.RmsIdeal.nD Cert.RmsIdeal.τ).loc Cert.RmsIdeal.main_arg0)
      ∧ r.2.mem ((c.tc : Thread Cert.RmsIdeal.nD Cert.RmsIdeal.τ).loc Cert.RmsIdeal.main_arg1) = m ((c.tc : Thread Cert.RmsIdeal.nD Cert.RmsIdeal.τ).loc Cert.RmsIdeal.main_arg1)
      ∧ r.2.mem ((c.tc : Thread Cert.RmsIdeal.nD Cert.RmsIdeal.τ).loc Cert.RmsIdeal.main_arg2) = m ((c.tc : Thread Cert.RmsIdeal.nD Cert.RmsIdeal.τ).loc Cert.RmsIdeal.main_arg2)
      ∧ r.2.mem ((c.tc : Thread Cert.RmsIdeal.nD Cert.RmsIdeal.τ).loc Cert.RmsIdeal.main_arg3) = m ((c.tc : Thread Cert.RmsIdeal.nD Cert.RmsIdeal.τ).loc Cert.RmsIdeal.main_arg3))
      ∧ r.2.sem = fun _ => 0)

def quiescent_RmsRefIdeal [hRmsRefIdeal : Cert.RmsRefIdeal.Facts] : Prop :=
  ∀ (m : (ℓ : Loc Cert.RmsRefIdeal.nD Cert.RmsRefIdeal.τ Cert.RmsRefIdeal.sig) → Buf (Elt Ideal) ℓ) (g : Dev Cert.RmsRefIdeal.nD → PrngReg), Pre_RmsRefIdeal m →
    θ_run (Cert.RmsRefIdeal.defs (F := Ideal)) (onTc (τ := Cert.RmsRefIdeal.τ) (Cert.RmsRefIdeal.main (F := Ideal))) ⟨m, fun _ => 0, g⟩ (fun r => (∀ c : Dev Cert.RmsRefIdeal.nD,
      r.2.mem ((c.tc : Thread Cert.RmsRefIdeal.nD Cert.RmsRefIdeal.τ).loc Cert.RmsRefIdeal.main_arg0) = m ((c.tc : Thread Cert.RmsRefIdeal.nD Cert.RmsRefIdeal.τ).loc Cert.RmsRefIdeal.main_arg0)
      ∧ r.2.mem ((c.tc : Thread Cert.RmsRefIdeal.nD Cert.RmsRefIdeal.τ).loc Cert.RmsRefIdeal.main_arg1) = m ((c.tc : Thread Cert.RmsRefIdeal.nD Cert.RmsRefIdeal.τ).loc Cert.RmsRefIdeal.main_arg1)
      ∧ r.2.mem ((c.tc : Thread Cert.RmsRefIdeal.nD Cert.RmsRefIdeal.τ).loc Cert.RmsRefIdeal.main_arg2) = m ((c.tc : Thread Cert.RmsRefIdeal.nD Cert.RmsRefIdeal.τ).loc Cert.RmsRefIdeal.main_arg2)
      ∧ r.2.mem ((c.tc : Thread Cert.RmsRefIdeal.nD Cert.RmsRefIdeal.τ).loc Cert.RmsRefIdeal.main_arg3) = m ((c.tc : Thread Cert.RmsRefIdeal.nD Cert.RmsRefIdeal.τ).loc Cert.RmsRefIdeal.main_arg3))
      ∧ r.2.sem = fun _ => 0)

def quiescent_RmsRefIdeal_pre_rms_finite [hRmsRefIdeal : Cert.RmsRefIdeal.Facts] [hPre_rms_finite : Cert.Pre_rms_finite.Facts] : Prop :=
  ∀ (m : (ℓ : Loc Cert.RmsRefIdeal.nD Cert.RmsRefIdeal.τ Cert.RmsRefIdeal.sig) → Buf (Elt Ideal) ℓ) (g : Dev Cert.RmsRefIdeal.nD → PrngReg), Pre_RmsRefIdeal_rms_finite m →
    θ_run (Cert.RmsRefIdeal.defs (F := Ideal)) (onTc (τ := Cert.RmsRefIdeal.τ) (Cert.RmsRefIdeal.main (F := Ideal))) ⟨m, fun _ => 0, g⟩ (fun r => (∀ c : Dev Cert.RmsRefIdeal.nD,
      r.2.mem ((c.tc : Thread Cert.RmsRefIdeal.nD Cert.RmsRefIdeal.τ).loc Cert.RmsRefIdeal.main_arg0) = m ((c.tc : Thread Cert.RmsRefIdeal.nD Cert.RmsRefIdeal.τ).loc Cert.RmsRefIdeal.main_arg0)
      ∧ r.2.mem ((c.tc : Thread Cert.RmsRefIdeal.nD Cert.RmsRefIdeal.τ).loc Cert.RmsRefIdeal.main_arg1) = m ((c.tc : Thread Cert.RmsRefIdeal.nD Cert.RmsRefIdeal.τ).loc Cert.RmsRefIdeal.main_arg1)
      ∧ r.2.mem ((c.tc : Thread Cert.RmsRefIdeal.nD Cert.RmsRefIdeal.τ).loc Cert.RmsRefIdeal.main_arg2) = m ((c.tc : Thread Cert.RmsRefIdeal.nD Cert.RmsRefIdeal.τ).loc Cert.RmsRefIdeal.main_arg2)
      ∧ r.2.mem ((c.tc : Thread Cert.RmsRefIdeal.nD Cert.RmsRefIdeal.τ).loc Cert.RmsRefIdeal.main_arg3) = m ((c.tc : Thread Cert.RmsRefIdeal.nD Cert.RmsRefIdeal.τ).loc Cert.RmsRefIdeal.main_arg3))
      ∧ r.2.sem = fun _ => 0)

def quiescent_Swiglu [hSwiglu : Cert.Swiglu.Facts] : Prop :=
  ∀ (m : (ℓ : Loc Cert.Swiglu.nD Cert.Swiglu.τ Cert.Swiglu.sig) → Buf (Elt Bits) ℓ) (g : Dev Cert.Swiglu.nD → PrngReg), Pre_Swiglu m →
    θ_run (Cert.Swiglu.defs (F := Bits)) (onTc (τ := Cert.Swiglu.τ) (Cert.Swiglu.main (F := Bits))) ⟨m, fun _ => 0, g⟩ (fun r => (∀ c : Dev Cert.Swiglu.nD,
      r.2.mem ((c.tc : Thread Cert.Swiglu.nD Cert.Swiglu.τ).loc Cert.Swiglu.main_arg0) = m ((c.tc : Thread Cert.Swiglu.nD Cert.Swiglu.τ).loc Cert.Swiglu.main_arg0)
      ∧ r.2.mem ((c.tc : Thread Cert.Swiglu.nD Cert.Swiglu.τ).loc Cert.Swiglu.main_arg1) = m ((c.tc : Thread Cert.Swiglu.nD Cert.Swiglu.τ).loc Cert.Swiglu.main_arg1)
      ∧ r.2.mem ((c.tc : Thread Cert.Swiglu.nD Cert.Swiglu.τ).loc Cert.Swiglu.main_arg2) = m ((c.tc : Thread Cert.Swiglu.nD Cert.Swiglu.τ).loc Cert.Swiglu.main_arg2))
      ∧ r.2.sem = fun _ => 0)

def quiescent_SwigluIdeal [hSwigluIdeal : Cert.SwigluIdeal.Facts] : Prop :=
  ∀ (m : (ℓ : Loc Cert.SwigluIdeal.nD Cert.SwigluIdeal.τ Cert.SwigluIdeal.sig) → Buf (Elt Ideal) ℓ) (g : Dev Cert.SwigluIdeal.nD → PrngReg), Pre_SwigluIdeal m →
    θ_run (Cert.SwigluIdeal.defs (F := Ideal)) (onTc (τ := Cert.SwigluIdeal.τ) (Cert.SwigluIdeal.main (F := Ideal))) ⟨m, fun _ => 0, g⟩ (fun r => (∀ c : Dev Cert.SwigluIdeal.nD,
      r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0)
      ∧ r.2.mem ((c.tc : Thread Cert.SwigluIdeal.nD Cert.SwigluIdeal.τ).loc Cert.SwigluIdeal.main_arg1) = m ((c.tc : Thread Cert.SwigluIdeal.nD Cert.SwigluIdeal.τ).loc Cert.SwigluIdeal.main_arg1)
      ∧ r.2.mem ((c.tc : Thread Cert.SwigluIdeal.nD Cert.SwigluIdeal.τ).loc Cert.SwigluIdeal.main_arg2) = m ((c.tc : Thread Cert.SwigluIdeal.nD Cert.SwigluIdeal.τ).loc Cert.SwigluIdeal.main_arg2))
      ∧ r.2.sem = fun _ => 0)

def quiescent_SwigluIdeal_pre_swiglu_finite [hSwigluIdeal : Cert.SwigluIdeal.Facts] [hPre_swiglu_finite : Cert.Pre_swiglu_finite.Facts] : Prop :=
  ∀ (m : (ℓ : Loc Cert.SwigluIdeal.nD Cert.SwigluIdeal.τ Cert.SwigluIdeal.sig) → Buf (Elt Ideal) ℓ) (g : Dev Cert.SwigluIdeal.nD → PrngReg), Pre_SwigluIdeal_swiglu_finite m →
    θ_run (Cert.SwigluIdeal.defs (F := Ideal)) (onTc (τ := Cert.SwigluIdeal.τ) (Cert.SwigluIdeal.main (F := Ideal))) ⟨m, fun _ => 0, g⟩ (fun r => (∀ c : Dev Cert.SwigluIdeal.nD,
      r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0)
      ∧ r.2.mem ((c.tc : Thread Cert.SwigluIdeal.nD Cert.SwigluIdeal.τ).loc Cert.SwigluIdeal.main_arg1) = m ((c.tc : Thread Cert.SwigluIdeal.nD Cert.SwigluIdeal.τ).loc Cert.SwigluIdeal.main_arg1)
      ∧ r.2.mem ((c.tc : Thread Cert.SwigluIdeal.nD Cert.SwigluIdeal.τ).loc Cert.SwigluIdeal.main_arg2) = m ((c.tc : Thread Cert.SwigluIdeal.nD Cert.SwigluIdeal.τ).loc Cert.SwigluIdeal.main_arg2))
      ∧ r.2.sem = fun _ => 0)

def quiescent_SwigluRefIdeal [hSwigluRefIdeal : Cert.SwigluRefIdeal.Facts] : Prop :=
  ∀ (m : (ℓ : Loc Cert.SwigluRefIdeal.nD Cert.SwigluRefIdeal.τ Cert.SwigluRefIdeal.sig) → Buf (Elt Ideal) ℓ) (g : Dev Cert.SwigluRefIdeal.nD → PrngReg), Pre_SwigluRefIdeal m →
    θ_run (Cert.SwigluRefIdeal.defs (F := Ideal)) (onTc (τ := Cert.SwigluRefIdeal.τ) (Cert.SwigluRefIdeal.main (F := Ideal))) ⟨m, fun _ => 0, g⟩ (fun r => (∀ c : Dev Cert.SwigluRefIdeal.nD,
      r.2.mem ((c.tc : Thread Cert.SwigluRefIdeal.nD Cert.SwigluRefIdeal.τ).loc Cert.SwigluRefIdeal.main_arg0) = m ((c.tc : Thread Cert.SwigluRefIdeal.nD Cert.SwigluRefIdeal.τ).loc Cert.SwigluRefIdeal.main_arg0)
      ∧ r.2.mem ((c.tc : Thread Cert.SwigluRefIdeal.nD Cert.SwigluRefIdeal.τ).loc Cert.SwigluRefIdeal.main_arg1) = m ((c.tc : Thread Cert.SwigluRefIdeal.nD Cert.SwigluRefIdeal.τ).loc Cert.SwigluRefIdeal.main_arg1)
      ∧ r.2.mem ((c.tc : Thread Cert.SwigluRefIdeal.nD Cert.SwigluRefIdeal.τ).loc Cert.SwigluRefIdeal.main_arg2) = m ((c.tc : Thread Cert.SwigluRefIdeal.nD Cert.SwigluRefIdeal.τ).loc Cert.SwigluRefIdeal.main_arg2))
      ∧ r.2.sem = fun _ => 0)

def quiescent_SwigluRefIdeal_pre_swiglu_finite [hSwigluRefIdeal : Cert.SwigluRefIdeal.Facts] [hPre_swiglu_finite : Cert.Pre_swiglu_finite.Facts] : Prop :=
  ∀ (m : (ℓ : Loc Cert.SwigluRefIdeal.nD Cert.SwigluRefIdeal.τ Cert.SwigluRefIdeal.sig) → Buf (Elt Ideal) ℓ) (g : Dev Cert.SwigluRefIdeal.nD → PrngReg), Pre_SwigluRefIdeal_swiglu_finite m →
    θ_run (Cert.SwigluRefIdeal.defs (F := Ideal)) (onTc (τ := Cert.SwigluRefIdeal.τ) (Cert.SwigluRefIdeal.main (F := Ideal))) ⟨m, fun _ => 0, g⟩ (fun r => (∀ c : Dev Cert.SwigluRefIdeal.nD,
      r.2.mem ((c.tc : Thread Cert.SwigluRefIdeal.nD Cert.SwigluRefIdeal.τ).loc Cert.SwigluRefIdeal.main_arg0) = m ((c.tc : Thread Cert.SwigluRefIdeal.nD Cert.SwigluRefIdeal.τ).loc Cert.SwigluRefIdeal.main_arg0)
      ∧ r.2.mem ((c.tc : Thread Cert.SwigluRefIdeal.nD Cert.SwigluRefIdeal.τ).loc Cert.SwigluRefIdeal.main_arg1) = m ((c.tc : Thread Cert.SwigluRefIdeal.nD Cert.SwigluRefIdeal.τ).loc Cert.SwigluRefIdeal.main_arg1)
      ∧ r.2.mem ((c.tc : Thread Cert.SwigluRefIdeal.nD Cert.SwigluRefIdeal.τ).loc Cert.SwigluRefIdeal.main_arg2) = m ((c.tc : Thread Cert.SwigluRefIdeal.nD Cert.SwigluRefIdeal.τ).loc Cert.SwigluRefIdeal.main_arg2))
      ∧ r.2.sem = fun _ => 0)

def quiescent_Memfwd [hMemfwd : Cert.Memfwd.Facts] : Prop :=
  ∀ (m : (ℓ : Loc Cert.Memfwd.nD Cert.Memfwd.τ Cert.Memfwd.sig) → Buf (Elt Bits) ℓ) (g : Dev Cert.Memfwd.nD → PrngReg), Pre_Memfwd m →
    θ_run (Cert.Memfwd.defs (F := Bits)) (onTc (τ := Cert.Memfwd.τ) (Cert.Memfwd.main (F := Bits))) ⟨m, fun _ => 0, g⟩ (fun r => (∀ c : Dev Cert.Memfwd.nD,
      r.2.mem ((c.tc : Thread Cert.Memfwd.nD Cert.Memfwd.τ).loc Cert.Memfwd.main_arg0) = m ((c.tc : Thread Cert.Memfwd.nD Cert.Memfwd.τ).loc Cert.Memfwd.main_arg0)
      ∧ r.2.mem ((c.tc : Thread Cert.Memfwd.nD Cert.Memfwd.τ).loc Cert.Memfwd.main_arg1) = m ((c.tc : Thread Cert.Memfwd.nD Cert.Memfwd.τ).loc Cert.Memfwd.main_arg1)
      ∧ r.2.mem ((c.tc : Thread Cert.Memfwd.nD Cert.Memfwd.τ).loc Cert.Memfwd.main_arg2) = m ((c.tc : Thread Cert.Memfwd.nD Cert.Memfwd.τ).loc Cert.Memfwd.main_arg2)
      ∧ r.2.mem ((c.tc : Thread Cert.Memfwd.nD Cert.Memfwd.τ).loc Cert.Memfwd.main_arg3) = m ((c.tc : Thread Cert.Memfwd.nD Cert.Memfwd.τ).loc Cert.Memfwd.main_arg3)
      ∧ r.2.mem ((c.tc : Thread Cert.Memfwd.nD Cert.Memfwd.τ).loc Cert.Memfwd.main_arg4) = m ((c.tc : Thread Cert.Memfwd.nD Cert.Memfwd.τ).loc Cert.Memfwd.main_arg4)
      ∧ r.2.mem ((c.tc : Thread Cert.Memfwd.nD Cert.Memfwd.τ).loc Cert.Memfwd.main_arg5) = m ((c.tc : Thread Cert.Memfwd.nD Cert.Memfwd.τ).loc Cert.Memfwd.main_arg5))
      ∧ r.2.sem = fun _ => 0)

def quiescent_MemfwdIdeal [hMemfwdIdeal : Cert.MemfwdIdeal.Facts] : Prop :=
  ∀ (m : (ℓ : Loc Cert.MemfwdIdeal.nD Cert.MemfwdIdeal.τ Cert.MemfwdIdeal.sig) → Buf (Elt Ideal) ℓ) (g : Dev Cert.MemfwdIdeal.nD → PrngReg), Pre_MemfwdIdeal m →
    θ_run (Cert.MemfwdIdeal.defs (F := Ideal)) (onTc (τ := Cert.MemfwdIdeal.τ) (Cert.MemfwdIdeal.main (F := Ideal))) ⟨m, fun _ => 0, g⟩ (fun r => (∀ c : Dev Cert.MemfwdIdeal.nD,
      r.2.mem ((c.tc : Thread Cert.MemfwdIdeal.nD Cert.MemfwdIdeal.τ).loc Cert.MemfwdIdeal.main_arg0) = m ((c.tc : Thread Cert.MemfwdIdeal.nD Cert.MemfwdIdeal.τ).loc Cert.MemfwdIdeal.main_arg0)
      ∧ r.2.mem ((c.tc : Thread Cert.MemfwdIdeal.nD Cert.MemfwdIdeal.τ).loc Cert.MemfwdIdeal.main_arg1) = m ((c.tc : Thread Cert.MemfwdIdeal.nD Cert.MemfwdIdeal.τ).loc Cert.MemfwdIdeal.main_arg1)
      ∧ r.2.mem ((c.tc : Thread Cert.MemfwdIdeal.nD Cert.MemfwdIdeal.τ).loc Cert.MemfwdIdeal.main_arg2) = m ((c.tc : Thread Cert.MemfwdIdeal.nD Cert.MemfwdIdeal.τ).loc Cert.MemfwdIdeal.main_arg2)
      ∧ r.2.mem ((c.tc : Thread Cert.MemfwdIdeal.nD Cert.MemfwdIdeal.τ).loc Cert.MemfwdIdeal.main_arg3) = m ((c.tc : Thread Cert.MemfwdIdeal.nD Cert.MemfwdIdeal.τ).loc Cert.MemfwdIdeal.main_arg3)
      ∧ r.2.mem ((c.tc : Thread Cert.MemfwdIdeal.nD Cert.MemfwdIdeal.τ).loc Cert.MemfwdIdeal.main_arg4) = m ((c.tc : Thread Cert.MemfwdIdeal.nD Cert.MemfwdIdeal.τ).loc Cert.MemfwdIdeal.main_arg4)
      ∧ r.2.mem ((c.tc : Thread Cert.MemfwdIdeal.nD Cert.MemfwdIdeal.τ).loc Cert.MemfwdIdeal.main_arg5) = m ((c.tc : Thread Cert.MemfwdIdeal.nD Cert.MemfwdIdeal.τ).loc Cert.MemfwdIdeal.main_arg5))
      ∧ r.2.sem = fun _ => 0)

def quiescent_MemfwdRefIdeal [hMemfwdRefIdeal : Cert.MemfwdRefIdeal.Facts] : Prop :=
  ∀ (m : (ℓ : Loc Cert.MemfwdRefIdeal.nD Cert.MemfwdRefIdeal.τ Cert.MemfwdRefIdeal.sig) → Buf (Elt Ideal) ℓ) (g : Dev Cert.MemfwdRefIdeal.nD → PrngReg), Pre_MemfwdRefIdeal m →
    θ_run (Cert.MemfwdRefIdeal.defs (F := Ideal)) (onTc (τ := Cert.MemfwdRefIdeal.τ) (Cert.MemfwdRefIdeal.main (F := Ideal))) ⟨m, fun _ => 0, g⟩ (fun r => (∀ c : Dev Cert.MemfwdRefIdeal.nD,
      r.2.mem ((c.tc : Thread Cert.MemfwdRefIdeal.nD Cert.MemfwdRefIdeal.τ).loc Cert.MemfwdRefIdeal.main_arg0) = m ((c.tc : Thread Cert.MemfwdRefIdeal.nD Cert.MemfwdRefIdeal.τ).loc Cert.MemfwdRefIdeal.main_arg0)
      ∧ r.2.mem ((c.tc : Thread Cert.MemfwdRefIdeal.nD Cert.MemfwdRefIdeal.τ).loc Cert.MemfwdRefIdeal.main_arg1) = m ((c.tc : Thread Cert.MemfwdRefIdeal.nD Cert.MemfwdRefIdeal.τ).loc Cert.MemfwdRefIdeal.main_arg1)
      ∧ r.2.mem ((c.tc : Thread Cert.MemfwdRefIdeal.nD Cert.MemfwdRefIdeal.τ).loc Cert.MemfwdRefIdeal.main_arg2) = m ((c.tc : Thread Cert.MemfwdRefIdeal.nD Cert.MemfwdRefIdeal.τ).loc Cert.MemfwdRefIdeal.main_arg2)
      ∧ r.2.mem ((c.tc : Thread Cert.MemfwdRefIdeal.nD Cert.MemfwdRefIdeal.τ).loc Cert.MemfwdRefIdeal.main_arg3) = m ((c.tc : Thread Cert.MemfwdRefIdeal.nD Cert.MemfwdRefIdeal.τ).loc Cert.MemfwdRefIdeal.main_arg3)
      ∧ r.2.mem ((c.tc : Thread Cert.MemfwdRefIdeal.nD Cert.MemfwdRefIdeal.τ).loc Cert.MemfwdRefIdeal.main_arg4) = m ((c.tc : Thread Cert.MemfwdRefIdeal.nD Cert.MemfwdRefIdeal.τ).loc Cert.MemfwdRefIdeal.main_arg4)
      ∧ r.2.mem ((c.tc : Thread Cert.MemfwdRefIdeal.nD Cert.MemfwdRefIdeal.τ).loc Cert.MemfwdRefIdeal.main_arg5) = m ((c.tc : Thread Cert.MemfwdRefIdeal.nD Cert.MemfwdRefIdeal.τ).loc Cert.MemfwdRefIdeal.main_arg5))
      ∧ r.2.sem = fun _ => 0)

def quiescent_Mixfwd [hMixfwd : Cert.Mixfwd.Facts] : Prop :=
  ∀ (m : (ℓ : Loc Cert.Mixfwd.nD Cert.Mixfwd.τ Cert.Mixfwd.sig) → Buf (Elt Bits) ℓ) (g : Dev Cert.Mixfwd.nD → PrngReg), Pre_Mixfwd m →
    θ_run (Cert.Mixfwd.defs (F := Bits)) (onTc (τ := Cert.Mixfwd.τ) (Cert.Mixfwd.main (F := Bits))) ⟨m, fun _ => 0, g⟩ (fun r => (∀ c : Dev Cert.Mixfwd.nD,
      r.2.mem ((c.tc : Thread Cert.Mixfwd.nD Cert.Mixfwd.τ).loc Cert.Mixfwd.main_arg0) = m ((c.tc : Thread Cert.Mixfwd.nD Cert.Mixfwd.τ).loc Cert.Mixfwd.main_arg0)
      ∧ r.2.mem ((c.tc : Thread Cert.Mixfwd.nD Cert.Mixfwd.τ).loc Cert.Mixfwd.main_arg1) = m ((c.tc : Thread Cert.Mixfwd.nD Cert.Mixfwd.τ).loc Cert.Mixfwd.main_arg1)
      ∧ r.2.mem ((c.tc : Thread Cert.Mixfwd.nD Cert.Mixfwd.τ).loc Cert.Mixfwd.main_arg2) = m ((c.tc : Thread Cert.Mixfwd.nD Cert.Mixfwd.τ).loc Cert.Mixfwd.main_arg2)
      ∧ r.2.mem ((c.tc : Thread Cert.Mixfwd.nD Cert.Mixfwd.τ).loc Cert.Mixfwd.main_arg3) = m ((c.tc : Thread Cert.Mixfwd.nD Cert.Mixfwd.τ).loc Cert.Mixfwd.main_arg3)
      ∧ r.2.mem ((c.tc : Thread Cert.Mixfwd.nD Cert.Mixfwd.τ).loc Cert.Mixfwd.main_arg4) = m ((c.tc : Thread Cert.Mixfwd.nD Cert.Mixfwd.τ).loc Cert.Mixfwd.main_arg4)
      ∧ r.2.mem ((c.tc : Thread Cert.Mixfwd.nD Cert.Mixfwd.τ).loc Cert.Mixfwd.main_arg5) = m ((c.tc : Thread Cert.Mixfwd.nD Cert.Mixfwd.τ).loc Cert.Mixfwd.main_arg5)
      ∧ r.2.mem ((c.tc : Thread Cert.Mixfwd.nD Cert.Mixfwd.τ).loc Cert.Mixfwd.main_arg6) = m ((c.tc : Thread Cert.Mixfwd.nD Cert.Mixfwd.τ).loc Cert.Mixfwd.main_arg6)
      ∧ r.2.mem ((c.tc : Thread Cert.Mixfwd.nD Cert.Mixfwd.τ).loc Cert.Mixfwd.main_arg7) = m ((c.tc : Thread Cert.Mixfwd.nD Cert.Mixfwd.τ).loc Cert.Mixfwd.main_arg7))
      ∧ r.2.sem = fun _ => 0)

def quiescent_MixfwdIdeal [hMixfwdIdeal : Cert.MixfwdIdeal.Facts] : Prop :=
  ∀ (m : (ℓ : Loc Cert.MixfwdIdeal.nD Cert.MixfwdIdeal.τ Cert.MixfwdIdeal.sig) → Buf (Elt Ideal) ℓ) (g : Dev Cert.MixfwdIdeal.nD → PrngReg), Pre_MixfwdIdeal m →
    θ_run (Cert.MixfwdIdeal.defs (F := Ideal)) (onTc (τ := Cert.MixfwdIdeal.τ) (Cert.MixfwdIdeal.main (F := Ideal))) ⟨m, fun _ => 0, g⟩ (fun r => (∀ c : Dev Cert.MixfwdIdeal.nD,
      r.2.mem ((c.tc : Thread Cert.MixfwdIdeal.nD Cert.MixfwdIdeal.τ).loc Cert.MixfwdIdeal.main_arg0) = m ((c.tc : Thread Cert.MixfwdIdeal.nD Cert.MixfwdIdeal.τ).loc Cert.MixfwdIdeal.main_arg0)
      ∧ r.2.mem ((c.tc : Thread Cert.MixfwdIdeal.nD Cert.MixfwdIdeal.τ).loc Cert.MixfwdIdeal.main_arg1) = m ((c.tc : Thread Cert.MixfwdIdeal.nD Cert.MixfwdIdeal.τ).loc Cert.MixfwdIdeal.main_arg1)
      ∧ r.2.mem ((c.tc : Thread Cert.MixfwdIdeal.nD Cert.MixfwdIdeal.τ).loc Cert.MixfwdIdeal.main_arg2) = m ((c.tc : Thread Cert.MixfwdIdeal.nD Cert.MixfwdIdeal.τ).loc Cert.MixfwdIdeal.main_arg2)
      ∧ r.2.mem ((c.tc : Thread Cert.MixfwdIdeal.nD Cert.MixfwdIdeal.τ).loc Cert.MixfwdIdeal.main_arg3) = m ((c.tc : Thread Cert.MixfwdIdeal.nD Cert.MixfwdIdeal.τ).loc Cert.MixfwdIdeal.main_arg3)
      ∧ r.2.mem ((c.tc : Thread Cert.MixfwdIdeal.nD Cert.MixfwdIdeal.τ).loc Cert.MixfwdIdeal.main_arg4) = m ((c.tc : Thread Cert.MixfwdIdeal.nD Cert.MixfwdIdeal.τ).loc Cert.MixfwdIdeal.main_arg4)
      ∧ r.2.mem ((c.tc : Thread Cert.MixfwdIdeal.nD Cert.MixfwdIdeal.τ).loc Cert.MixfwdIdeal.main_arg5) = m ((c.tc : Thread Cert.MixfwdIdeal.nD Cert.MixfwdIdeal.τ).loc Cert.MixfwdIdeal.main_arg5)
      ∧ r.2.mem ((c.tc : Thread Cert.MixfwdIdeal.nD Cert.MixfwdIdeal.τ).loc Cert.MixfwdIdeal.main_arg6) = m ((c.tc : Thread Cert.MixfwdIdeal.nD Cert.MixfwdIdeal.τ).loc Cert.MixfwdIdeal.main_arg6)
      ∧ r.2.mem ((c.tc : Thread Cert.MixfwdIdeal.nD Cert.MixfwdIdeal.τ).loc Cert.MixfwdIdeal.main_arg7) = m ((c.tc : Thread Cert.MixfwdIdeal.nD Cert.MixfwdIdeal.τ).loc Cert.MixfwdIdeal.main_arg7))
      ∧ r.2.sem = fun _ => 0)

def quiescent_MixfwdRefIdeal [hMixfwdRefIdeal : Cert.MixfwdRefIdeal.Facts] : Prop :=
  ∀ (m : (ℓ : Loc Cert.MixfwdRefIdeal.nD Cert.MixfwdRefIdeal.τ Cert.MixfwdRefIdeal.sig) → Buf (Elt Ideal) ℓ) (g : Dev Cert.MixfwdRefIdeal.nD → PrngReg), Pre_MixfwdRefIdeal m →
    θ_run (Cert.MixfwdRefIdeal.defs (F := Ideal)) (onTc (τ := Cert.MixfwdRefIdeal.τ) (Cert.MixfwdRefIdeal.main (F := Ideal))) ⟨m, fun _ => 0, g⟩ (fun r => (∀ c : Dev Cert.MixfwdRefIdeal.nD,
      r.2.mem ((c.tc : Thread Cert.MixfwdRefIdeal.nD Cert.MixfwdRefIdeal.τ).loc Cert.MixfwdRefIdeal.main_arg0) = m ((c.tc : Thread Cert.MixfwdRefIdeal.nD Cert.MixfwdRefIdeal.τ).loc Cert.MixfwdRefIdeal.main_arg0)
      ∧ r.2.mem ((c.tc : Thread Cert.MixfwdRefIdeal.nD Cert.MixfwdRefIdeal.τ).loc Cert.MixfwdRefIdeal.main_arg1) = m ((c.tc : Thread Cert.MixfwdRefIdeal.nD Cert.MixfwdRefIdeal.τ).loc Cert.MixfwdRefIdeal.main_arg1)
      ∧ r.2.mem ((c.tc : Thread Cert.MixfwdRefIdeal.nD Cert.MixfwdRefIdeal.τ).loc Cert.MixfwdRefIdeal.main_arg2) = m ((c.tc : Thread Cert.MixfwdRefIdeal.nD Cert.MixfwdRefIdeal.τ).loc Cert.MixfwdRefIdeal.main_arg2)
      ∧ r.2.mem ((c.tc : Thread Cert.MixfwdRefIdeal.nD Cert.MixfwdRefIdeal.τ).loc Cert.MixfwdRefIdeal.main_arg3) = m ((c.tc : Thread Cert.MixfwdRefIdeal.nD Cert.MixfwdRefIdeal.τ).loc Cert.MixfwdRefIdeal.main_arg3)
      ∧ r.2.mem ((c.tc : Thread Cert.MixfwdRefIdeal.nD Cert.MixfwdRefIdeal.τ).loc Cert.MixfwdRefIdeal.main_arg4) = m ((c.tc : Thread Cert.MixfwdRefIdeal.nD Cert.MixfwdRefIdeal.τ).loc Cert.MixfwdRefIdeal.main_arg4)
      ∧ r.2.mem ((c.tc : Thread Cert.MixfwdRefIdeal.nD Cert.MixfwdRefIdeal.τ).loc Cert.MixfwdRefIdeal.main_arg5) = m ((c.tc : Thread Cert.MixfwdRefIdeal.nD Cert.MixfwdRefIdeal.τ).loc Cert.MixfwdRefIdeal.main_arg5)
      ∧ r.2.mem ((c.tc : Thread Cert.MixfwdRefIdeal.nD Cert.MixfwdRefIdeal.τ).loc Cert.MixfwdRefIdeal.main_arg6) = m ((c.tc : Thread Cert.MixfwdRefIdeal.nD Cert.MixfwdRefIdeal.τ).loc Cert.MixfwdRefIdeal.main_arg6)
      ∧ r.2.mem ((c.tc : Thread Cert.MixfwdRefIdeal.nD Cert.MixfwdRefIdeal.τ).loc Cert.MixfwdRefIdeal.main_arg7) = m ((c.tc : Thread Cert.MixfwdRefIdeal.nD Cert.MixfwdRefIdeal.τ).loc Cert.MixfwdRefIdeal.main_arg7))
      ∧ r.2.sem = fun _ => 0)

def quiescent_Convfwd [hConvfwd : Cert.Convfwd.Facts] : Prop :=
  ∀ (m : (ℓ : Loc Cert.Convfwd.nD Cert.Convfwd.τ Cert.Convfwd.sig) → Buf (Elt Bits) ℓ) (g : Dev Cert.Convfwd.nD → PrngReg), Pre_Convfwd m →
    θ_run (Cert.Convfwd.defs (F := Bits)) (onTc (τ := Cert.Convfwd.τ) (Cert.Convfwd.main (F := Bits))) ⟨m, fun _ => 0, g⟩ (fun r => (∀ c : Dev Cert.Convfwd.nD,
      r.2.mem ((c.tc : Thread Cert.Convfwd.nD Cert.Convfwd.τ).loc Cert.Convfwd.main_arg0) = m ((c.tc : Thread Cert.Convfwd.nD Cert.Convfwd.τ).loc Cert.Convfwd.main_arg0)
      ∧ r.2.mem ((c.tc : Thread Cert.Convfwd.nD Cert.Convfwd.τ).loc Cert.Convfwd.main_arg1) = m ((c.tc : Thread Cert.Convfwd.nD Cert.Convfwd.τ).loc Cert.Convfwd.main_arg1))
      ∧ r.2.sem = fun _ => 0)

def quiescent_ConvfwdIdeal [hConvfwdIdeal : Cert.ConvfwdIdeal.Facts] : Prop :=
  ∀ (m : (ℓ : Loc Cert.ConvfwdIdeal.nD Cert.ConvfwdIdeal.τ Cert.ConvfwdIdeal.sig) → Buf (Elt Ideal) ℓ) (g : Dev Cert.ConvfwdIdeal.nD → PrngReg), Pre_ConvfwdIdeal m →
    θ_run (Cert.ConvfwdIdeal.defs (F := Ideal)) (onTc (τ := Cert.ConvfwdIdeal.τ) (Cert.ConvfwdIdeal.main (F := Ideal))) ⟨m, fun _ => 0, g⟩ (fun r => (∀ c : Dev Cert.ConvfwdIdeal.nD,
      r.2.mem ((c.tc : Thread Cert.ConvfwdIdeal.nD Cert.ConvfwdIdeal.τ).loc Cert.ConvfwdIdeal.main_arg0) = m ((c.tc : Thread Cert.ConvfwdIdeal.nD Cert.ConvfwdIdeal.τ).loc Cert.ConvfwdIdeal.main_arg0)
      ∧ r.2.mem ((c.tc : Thread Cert.ConvfwdIdeal.nD Cert.ConvfwdIdeal.τ).loc Cert.ConvfwdIdeal.main_arg1) = m ((c.tc : Thread Cert.ConvfwdIdeal.nD Cert.ConvfwdIdeal.τ).loc Cert.ConvfwdIdeal.main_arg1))
      ∧ r.2.sem = fun _ => 0)

def quiescent_ConvfwdRefIdeal [hConvfwdRefIdeal : Cert.ConvfwdRefIdeal.Facts] : Prop :=
  ∀ (m : (ℓ : Loc Cert.ConvfwdRefIdeal.nD Cert.ConvfwdRefIdeal.τ Cert.ConvfwdRefIdeal.sig) → Buf (Elt Ideal) ℓ) (g : Dev Cert.ConvfwdRefIdeal.nD → PrngReg), Pre_ConvfwdRefIdeal m →
    θ_run (Cert.ConvfwdRefIdeal.defs (F := Ideal)) (onTc (τ := Cert.ConvfwdRefIdeal.τ) (Cert.ConvfwdRefIdeal.main (F := Ideal))) ⟨m, fun _ => 0, g⟩ (fun r => (∀ c : Dev Cert.ConvfwdRefIdeal.nD,
      r.2.mem ((c.tc : Thread Cert.ConvfwdRefIdeal.nD Cert.ConvfwdRefIdeal.τ).loc Cert.ConvfwdRefIdeal.main_arg0) = m ((c.tc : Thread Cert.ConvfwdRefIdeal.nD Cert.ConvfwdRefIdeal.τ).loc Cert.ConvfwdRefIdeal.main_arg0)
      ∧ r.2.mem ((c.tc : Thread Cert.ConvfwdRefIdeal.nD Cert.ConvfwdRefIdeal.τ).loc Cert.ConvfwdRefIdeal.main_arg1) = m ((c.tc : Thread Cert.ConvfwdRefIdeal.nD Cert.ConvfwdRefIdeal.τ).loc Cert.ConvfwdRefIdeal.main_arg1))
      ∧ r.2.sem = fun _ => 0)

def quiescent_Rmsfwd [hRmsfwd : Cert.Rmsfwd.Facts] : Prop :=
  ∀ (m : (ℓ : Loc Cert.Rmsfwd.nD Cert.Rmsfwd.τ Cert.Rmsfwd.sig) → Buf (Elt Bits) ℓ) (g : Dev Cert.Rmsfwd.nD → PrngReg), Pre_Rmsfwd m →
    θ_run (Cert.Rmsfwd.defs (F := Bits)) (onTc (τ := Cert.Rmsfwd.τ) (Cert.Rmsfwd.main (F := Bits))) ⟨m, fun _ => 0, g⟩ (fun r => (∀ c : Dev Cert.Rmsfwd.nD,
      r.2.mem ((c.tc : Thread Cert.Rmsfwd.nD Cert.Rmsfwd.τ).loc Cert.Rmsfwd.main_arg0) = m ((c.tc : Thread Cert.Rmsfwd.nD Cert.Rmsfwd.τ).loc Cert.Rmsfwd.main_arg0)
      ∧ r.2.mem ((c.tc : Thread Cert.Rmsfwd.nD Cert.Rmsfwd.τ).loc Cert.Rmsfwd.main_arg1) = m ((c.tc : Thread Cert.Rmsfwd.nD Cert.Rmsfwd.τ).loc Cert.Rmsfwd.main_arg1))
      ∧ r.2.sem = fun _ => 0)

def quiescent_RmsfwdIdeal [hRmsfwdIdeal : Cert.RmsfwdIdeal.Facts] : Prop :=
  ∀ (m : (ℓ : Loc Cert.RmsfwdIdeal.nD Cert.RmsfwdIdeal.τ Cert.RmsfwdIdeal.sig) → Buf (Elt Ideal) ℓ) (g : Dev Cert.RmsfwdIdeal.nD → PrngReg), Pre_RmsfwdIdeal m →
    θ_run (Cert.RmsfwdIdeal.defs (F := Ideal)) (onTc (τ := Cert.RmsfwdIdeal.τ) (Cert.RmsfwdIdeal.main (F := Ideal))) ⟨m, fun _ => 0, g⟩ (fun r => (∀ c : Dev Cert.RmsfwdIdeal.nD,
      r.2.mem ((c.tc : Thread Cert.RmsfwdIdeal.nD Cert.RmsfwdIdeal.τ).loc Cert.RmsfwdIdeal.main_arg0) = m ((c.tc : Thread Cert.RmsfwdIdeal.nD Cert.RmsfwdIdeal.τ).loc Cert.RmsfwdIdeal.main_arg0)
      ∧ r.2.mem ((c.tc : Thread Cert.RmsfwdIdeal.nD Cert.RmsfwdIdeal.τ).loc Cert.RmsfwdIdeal.main_arg1) = m ((c.tc : Thread Cert.RmsfwdIdeal.nD Cert.RmsfwdIdeal.τ).loc Cert.RmsfwdIdeal.main_arg1))
      ∧ r.2.sem = fun _ => 0)

def quiescent_RmsfwdRefIdeal [hRmsfwdRefIdeal : Cert.RmsfwdRefIdeal.Facts] : Prop :=
  ∀ (m : (ℓ : Loc Cert.RmsfwdRefIdeal.nD Cert.RmsfwdRefIdeal.τ Cert.RmsfwdRefIdeal.sig) → Buf (Elt Ideal) ℓ) (g : Dev Cert.RmsfwdRefIdeal.nD → PrngReg), Pre_RmsfwdRefIdeal m →
    θ_run (Cert.RmsfwdRefIdeal.defs (F := Ideal)) (onTc (τ := Cert.RmsfwdRefIdeal.τ) (Cert.RmsfwdRefIdeal.main (F := Ideal))) ⟨m, fun _ => 0, g⟩ (fun r => (∀ c : Dev Cert.RmsfwdRefIdeal.nD,
      r.2.mem ((c.tc : Thread Cert.RmsfwdRefIdeal.nD Cert.RmsfwdRefIdeal.τ).loc Cert.RmsfwdRefIdeal.main_arg0) = m ((c.tc : Thread Cert.RmsfwdRefIdeal.nD Cert.RmsfwdRefIdeal.τ).loc Cert.RmsfwdRefIdeal.main_arg0)
      ∧ r.2.mem ((c.tc : Thread Cert.RmsfwdRefIdeal.nD Cert.RmsfwdRefIdeal.τ).loc Cert.RmsfwdRefIdeal.main_arg1) = m ((c.tc : Thread Cert.RmsfwdRefIdeal.nD Cert.RmsfwdRefIdeal.τ).loc Cert.RmsfwdRefIdeal.main_arg1))
      ∧ r.2.sem = fun _ => 0)

def quiescent_Mmnn [hMmnn : Cert.Mmnn.Facts] : Prop :=
  ∀ (m : (ℓ : Loc Cert.Mmnn.nD Cert.Mmnn.τ Cert.Mmnn.sig) → Buf (Elt Bits) ℓ) (g : Dev Cert.Mmnn.nD → PrngReg), Pre_Mmnn m →
    θ_run (Cert.Mmnn.defs (F := Bits)) (onTc (τ := Cert.Mmnn.τ) (Cert.Mmnn.main (F := Bits))) ⟨m, fun _ => 0, g⟩ (fun r => (∀ c : Dev Cert.Mmnn.nD,
      r.2.mem ((c.tc : Thread Cert.Mmnn.nD Cert.Mmnn.τ).loc Cert.Mmnn.main_arg0) = m ((c.tc : Thread Cert.Mmnn.nD Cert.Mmnn.τ).loc Cert.Mmnn.main_arg0)
      ∧ r.2.mem ((c.tc : Thread Cert.Mmnn.nD Cert.Mmnn.τ).loc Cert.Mmnn.main_arg1) = m ((c.tc : Thread Cert.Mmnn.nD Cert.Mmnn.τ).loc Cert.Mmnn.main_arg1))
      ∧ r.2.sem = fun _ => 0)

def quiescent_MmnnIdeal [hMmnnIdeal : Cert.MmnnIdeal.Facts] : Prop :=
  ∀ (m : (ℓ : Loc Cert.MmnnIdeal.nD Cert.MmnnIdeal.τ Cert.MmnnIdeal.sig) → Buf (Elt Ideal) ℓ) (g : Dev Cert.MmnnIdeal.nD → PrngReg), Pre_MmnnIdeal m →
    θ_run (Cert.MmnnIdeal.defs (F := Ideal)) (onTc (τ := Cert.MmnnIdeal.τ) (Cert.MmnnIdeal.main (F := Ideal))) ⟨m, fun _ => 0, g⟩ (fun r => (∀ c : Dev Cert.MmnnIdeal.nD,
      r.2.mem ((c.tc : Thread Cert.MmnnIdeal.nD Cert.MmnnIdeal.τ).loc Cert.MmnnIdeal.main_arg0) = m ((c.tc : Thread Cert.MmnnIdeal.nD Cert.MmnnIdeal.τ).loc Cert.MmnnIdeal.main_arg0)
      ∧ r.2.mem ((c.tc : Thread Cert.MmnnIdeal.nD Cert.MmnnIdeal.τ).loc Cert.MmnnIdeal.main_arg1) = m ((c.tc : Thread Cert.MmnnIdeal.nD Cert.MmnnIdeal.τ).loc Cert.MmnnIdeal.main_arg1))
      ∧ r.2.sem = fun _ => 0)

def quiescent_MmnnRefIdeal [hMmnnRefIdeal : Cert.MmnnRefIdeal.Facts] : Prop :=
  ∀ (m : (ℓ : Loc Cert.MmnnRefIdeal.nD Cert.MmnnRefIdeal.τ Cert.MmnnRefIdeal.sig) → Buf (Elt Ideal) ℓ) (g : Dev Cert.MmnnRefIdeal.nD → PrngReg), Pre_MmnnRefIdeal m →
    θ_run (Cert.MmnnRefIdeal.defs (F := Ideal)) (onTc (τ := Cert.MmnnRefIdeal.τ) (Cert.MmnnRefIdeal.main (F := Ideal))) ⟨m, fun _ => 0, g⟩ (fun r => (∀ c : Dev Cert.MmnnRefIdeal.nD,
      r.2.mem ((c.tc : Thread Cert.MmnnRefIdeal.nD Cert.MmnnRefIdeal.τ).loc Cert.MmnnRefIdeal.main_arg0) = m ((c.tc : Thread Cert.MmnnRefIdeal.nD Cert.MmnnRefIdeal.τ).loc Cert.MmnnRefIdeal.main_arg0)
      ∧ r.2.mem ((c.tc : Thread Cert.MmnnRefIdeal.nD Cert.MmnnRefIdeal.τ).loc Cert.MmnnRefIdeal.main_arg1) = m ((c.tc : Thread Cert.MmnnRefIdeal.nD Cert.MmnnRefIdeal.τ).loc Cert.MmnnRefIdeal.main_arg1))
      ∧ r.2.sem = fun _ => 0)

def quiescent_Mmtna [hMmtna : Cert.Mmtna.Facts] : Prop :=
  ∀ (m : (ℓ : Loc Cert.Mmtna.nD Cert.Mmtna.τ Cert.Mmtna.sig) → Buf (Elt Bits) ℓ) (g : Dev Cert.Mmtna.nD → PrngReg), Pre_Mmtna m →
    θ_run (Cert.Mmtna.defs (F := Bits)) (onTc (τ := Cert.Mmtna.τ) (Cert.Mmtna.main (F := Bits))) ⟨m, fun _ => 0, g⟩ (fun r => (∀ c : Dev Cert.Mmtna.nD,
      r.2.mem ((c.tc : Thread Cert.Mmtna.nD Cert.Mmtna.τ).loc Cert.Mmtna.main_arg0) = m ((c.tc : Thread Cert.Mmtna.nD Cert.Mmtna.τ).loc Cert.Mmtna.main_arg0)
      ∧ r.2.mem ((c.tc : Thread Cert.Mmtna.nD Cert.Mmtna.τ).loc Cert.Mmtna.main_arg1) = m ((c.tc : Thread Cert.Mmtna.nD Cert.Mmtna.τ).loc Cert.Mmtna.main_arg1)
      ∧ r.2.mem ((c.tc : Thread Cert.Mmtna.nD Cert.Mmtna.τ).loc Cert.Mmtna.main_arg2) = m ((c.tc : Thread Cert.Mmtna.nD Cert.Mmtna.τ).loc Cert.Mmtna.main_arg2))
      ∧ r.2.sem = fun _ => 0)

def quiescent_MmtnaIdeal [hMmtnaIdeal : Cert.MmtnaIdeal.Facts] : Prop :=
  ∀ (m : (ℓ : Loc Cert.MmtnaIdeal.nD Cert.MmtnaIdeal.τ Cert.MmtnaIdeal.sig) → Buf (Elt Ideal) ℓ) (g : Dev Cert.MmtnaIdeal.nD → PrngReg), Pre_MmtnaIdeal m →
    θ_run (Cert.MmtnaIdeal.defs (F := Ideal)) (onTc (τ := Cert.MmtnaIdeal.τ) (Cert.MmtnaIdeal.main (F := Ideal))) ⟨m, fun _ => 0, g⟩ (fun r => (∀ c : Dev Cert.MmtnaIdeal.nD,
      r.2.mem ((c.tc : Thread Cert.MmtnaIdeal.nD Cert.MmtnaIdeal.τ).loc Cert.MmtnaIdeal.main_arg0) = m ((c.tc : Thread Cert.MmtnaIdeal.nD Cert.MmtnaIdeal.τ).loc Cert.MmtnaIdeal.main_arg0)
      ∧ r.2.mem ((c.tc : Thread Cert.MmtnaIdeal.nD Cert.MmtnaIdeal.τ).loc Cert.MmtnaIdeal.main_arg1) = m ((c.tc : Thread Cert.MmtnaIdeal.nD Cert.MmtnaIdeal.τ).loc Cert.MmtnaIdeal.main_arg1)
      ∧ r.2.mem ((c.tc : Thread Cert.MmtnaIdeal.nD Cert.MmtnaIdeal.τ).loc Cert.MmtnaIdeal.main_arg2) = m ((c.tc : Thread Cert.MmtnaIdeal.nD Cert.MmtnaIdeal.τ).loc Cert.MmtnaIdeal.main_arg2))
      ∧ r.2.sem = fun _ => 0)

def quiescent_MmtnaRefIdeal [hMmtnaRefIdeal : Cert.MmtnaRefIdeal.Facts] : Prop :=
  ∀ (m : (ℓ : Loc Cert.MmtnaRefIdeal.nD Cert.MmtnaRefIdeal.τ Cert.MmtnaRefIdeal.sig) → Buf (Elt Ideal) ℓ) (g : Dev Cert.MmtnaRefIdeal.nD → PrngReg), Pre_MmtnaRefIdeal m →
    θ_run (Cert.MmtnaRefIdeal.defs (F := Ideal)) (onTc (τ := Cert.MmtnaRefIdeal.τ) (Cert.MmtnaRefIdeal.main (F := Ideal))) ⟨m, fun _ => 0, g⟩ (fun r => (∀ c : Dev Cert.MmtnaRefIdeal.nD,
      r.2.mem ((c.tc : Thread Cert.MmtnaRefIdeal.nD Cert.MmtnaRefIdeal.τ).loc Cert.MmtnaRefIdeal.main_arg0) = m ((c.tc : Thread Cert.MmtnaRefIdeal.nD Cert.MmtnaRefIdeal.τ).loc Cert.MmtnaRefIdeal.main_arg0)
      ∧ r.2.mem ((c.tc : Thread Cert.MmtnaRefIdeal.nD Cert.MmtnaRefIdeal.τ).loc Cert.MmtnaRefIdeal.main_arg1) = m ((c.tc : Thread Cert.MmtnaRefIdeal.nD Cert.MmtnaRefIdeal.τ).loc Cert.MmtnaRefIdeal.main_arg1)
      ∧ r.2.mem ((c.tc : Thread Cert.MmtnaRefIdeal.nD Cert.MmtnaRefIdeal.τ).loc Cert.MmtnaRefIdeal.main_arg2) = m ((c.tc : Thread Cert.MmtnaRefIdeal.nD Cert.MmtnaRefIdeal.τ).loc Cert.MmtnaRefIdeal.main_arg2))
      ∧ r.2.sem = fun _ => 0)

def quiescent_Mmtn [hMmtn : Cert.Mmtn.Facts] : Prop :=
  ∀ (m : (ℓ : Loc Cert.Mmtn.nD Cert.Mmtn.τ Cert.Mmtn.sig) → Buf (Elt Bits) ℓ) (g : Dev Cert.Mmtn.nD → PrngReg), Pre_Mmtn m →
    θ_run (Cert.Mmtn.defs (F := Bits)) (onTc (τ := Cert.Mmtn.τ) (Cert.Mmtn.main (F := Bits))) ⟨m, fun _ => 0, g⟩ (fun r => (∀ c : Dev Cert.Mmtn.nD,
      r.2.mem ((c.tc : Thread Cert.Mmtn.nD Cert.Mmtn.τ).loc Cert.Mmtn.main_arg0) = m ((c.tc : Thread Cert.Mmtn.nD Cert.Mmtn.τ).loc Cert.Mmtn.main_arg0)
      ∧ r.2.mem ((c.tc : Thread Cert.Mmtn.nD Cert.Mmtn.τ).loc Cert.Mmtn.main_arg1) = m ((c.tc : Thread Cert.Mmtn.nD Cert.Mmtn.τ).loc Cert.Mmtn.main_arg1)
      ∧ r.2.mem ((c.tc : Thread Cert.Mmtn.nD Cert.Mmtn.τ).loc Cert.Mmtn.main_arg2) = m ((c.tc : Thread Cert.Mmtn.nD Cert.Mmtn.τ).loc Cert.Mmtn.main_arg2))
      ∧ r.2.sem = fun _ => 0)

def quiescent_MmtnIdeal [hMmtnIdeal : Cert.MmtnIdeal.Facts] : Prop :=
  ∀ (m : (ℓ : Loc Cert.MmtnIdeal.nD Cert.MmtnIdeal.τ Cert.MmtnIdeal.sig) → Buf (Elt Ideal) ℓ) (g : Dev Cert.MmtnIdeal.nD → PrngReg), Pre_MmtnIdeal m →
    θ_run (Cert.MmtnIdeal.defs (F := Ideal)) (onTc (τ := Cert.MmtnIdeal.τ) (Cert.MmtnIdeal.main (F := Ideal))) ⟨m, fun _ => 0, g⟩ (fun r => (∀ c : Dev Cert.MmtnIdeal.nD,
      r.2.mem ((c.tc : Thread Cert.MmtnIdeal.nD Cert.MmtnIdeal.τ).loc Cert.MmtnIdeal.main_arg0) = m ((c.tc : Thread Cert.MmtnIdeal.nD Cert.MmtnIdeal.τ).loc Cert.MmtnIdeal.main_arg0)
      ∧ r.2.mem ((c.tc : Thread Cert.MmtnIdeal.nD Cert.MmtnIdeal.τ).loc Cert.MmtnIdeal.main_arg1) = m ((c.tc : Thread Cert.MmtnIdeal.nD Cert.MmtnIdeal.τ).loc Cert.MmtnIdeal.main_arg1)
      ∧ r.2.mem ((c.tc : Thread Cert.MmtnIdeal.nD Cert.MmtnIdeal.τ).loc Cert.MmtnIdeal.main_arg2) = m ((c.tc : Thread Cert.MmtnIdeal.nD Cert.MmtnIdeal.τ).loc Cert.MmtnIdeal.main_arg2))
      ∧ r.2.sem = fun _ => 0)

def quiescent_MmtnRefIdeal [hMmtnRefIdeal : Cert.MmtnRefIdeal.Facts] : Prop :=
  ∀ (m : (ℓ : Loc Cert.MmtnRefIdeal.nD Cert.MmtnRefIdeal.τ Cert.MmtnRefIdeal.sig) → Buf (Elt Ideal) ℓ) (g : Dev Cert.MmtnRefIdeal.nD → PrngReg), Pre_MmtnRefIdeal m →
    θ_run (Cert.MmtnRefIdeal.defs (F := Ideal)) (onTc (τ := Cert.MmtnRefIdeal.τ) (Cert.MmtnRefIdeal.main (F := Ideal))) ⟨m, fun _ => 0, g⟩ (fun r => (∀ c : Dev Cert.MmtnRefIdeal.nD,
      r.2.mem ((c.tc : Thread Cert.MmtnRefIdeal.nD Cert.MmtnRefIdeal.τ).loc Cert.MmtnRefIdeal.main_arg0) = m ((c.tc : Thread Cert.MmtnRefIdeal.nD Cert.MmtnRefIdeal.τ).loc Cert.MmtnRefIdeal.main_arg0)
      ∧ r.2.mem ((c.tc : Thread Cert.MmtnRefIdeal.nD Cert.MmtnRefIdeal.τ).loc Cert.MmtnRefIdeal.main_arg1) = m ((c.tc : Thread Cert.MmtnRefIdeal.nD Cert.MmtnRefIdeal.τ).loc Cert.MmtnRefIdeal.main_arg1)
      ∧ r.2.mem ((c.tc : Thread Cert.MmtnRefIdeal.nD Cert.MmtnRefIdeal.τ).loc Cert.MmtnRefIdeal.main_arg2) = m ((c.tc : Thread Cert.MmtnRefIdeal.nD Cert.MmtnRefIdeal.τ).loc Cert.MmtnRefIdeal.main_arg2))
      ∧ r.2.sem = fun _ => 0)

def quiescent_Sumdev [hSumdev : Cert.Sumdev.Facts] : Prop :=
  ∀ (m : (ℓ : Loc Cert.Sumdev.nD Cert.Sumdev.τ Cert.Sumdev.sig) → Buf (Elt Bits) ℓ) (g : Dev Cert.Sumdev.nD → PrngReg), Pre_Sumdev m →
    θ_run (Cert.Sumdev.defs (F := Bits)) (onTc (τ := Cert.Sumdev.τ) (Cert.Sumdev.main (F := Bits))) ⟨m, fun _ => 0, g⟩ (fun r => (∀ c : Dev Cert.Sumdev.nD,
      r.2.mem ((c.tc : Thread Cert.Sumdev.nD Cert.Sumdev.τ).loc Cert.Sumdev.main_arg0) = m ((c.tc : Thread Cert.Sumdev.nD Cert.Sumdev.τ).loc Cert.Sumdev.main_arg0))
      ∧ r.2.sem = fun _ => 0)

def quiescent_SumdevIdeal [hSumdevIdeal : Cert.SumdevIdeal.Facts] : Prop :=
  ∀ (m : (ℓ : Loc Cert.SumdevIdeal.nD Cert.SumdevIdeal.τ Cert.SumdevIdeal.sig) → Buf (Elt Ideal) ℓ) (g : Dev Cert.SumdevIdeal.nD → PrngReg), Pre_SumdevIdeal m →
    θ_run (Cert.SumdevIdeal.defs (F := Ideal)) (onTc (τ := Cert.SumdevIdeal.τ) (Cert.SumdevIdeal.main (F := Ideal))) ⟨m, fun _ => 0, g⟩ (fun r => (∀ c : Dev Cert.SumdevIdeal.nD,
      r.2.mem ((c.tc : Thread Cert.SumdevIdeal.nD Cert.SumdevIdeal.τ).loc Cert.SumdevIdeal.main_arg0) = m ((c.tc : Thread Cert.SumdevIdeal.nD Cert.SumdevIdeal.τ).loc Cert.SumdevIdeal.main_arg0))
      ∧ r.2.sem = fun _ => 0)

def quiescent_SumdevRefIdeal [hSumdevRefIdeal : Cert.SumdevRefIdeal.Facts] : Prop :=
  ∀ (m : (ℓ : Loc Cert.SumdevRefIdeal.nD Cert.SumdevRefIdeal.τ Cert.SumdevRefIdeal.sig) → Buf (Elt Ideal) ℓ) (g : Dev Cert.SumdevRefIdeal.nD → PrngReg), Pre_SumdevRefIdeal m →
    θ_run (Cert.SumdevRefIdeal.defs (F := Ideal)) (onTc (τ := Cert.SumdevRefIdeal.τ) (Cert.SumdevRefIdeal.main (F := Ideal))) ⟨m, fun _ => 0, g⟩ (fun r => (∀ c : Dev Cert.SumdevRefIdeal.nD,
      r.2.mem ((c.tc : Thread Cert.SumdevRefIdeal.nD Cert.SumdevRefIdeal.τ).loc Cert.SumdevRefIdeal.main_arg0) = m ((c.tc : Thread Cert.SumdevRefIdeal.nD Cert.SumdevRefIdeal.τ).loc Cert.SumdevRefIdeal.main_arg0))
      ∧ r.2.sem = fun _ => 0)

def quiescent_Adambig [hAdambig : Cert.Adambig.Facts] [hPre_adambig_chip : Cert.Pre_adambig_chip.Facts] : Prop :=
  ∀ (m : (ℓ : Loc Cert.Adambig.nD Cert.Adambig.τ Cert.Adambig.sig) → Buf (Elt Bits) ℓ) (g : Dev Cert.Adambig.nD → PrngReg), Pre_Adambig m →
    θ_run (Cert.Adambig.defs (F := Bits)) (onTc (τ := Cert.Adambig.τ) (Cert.Adambig.main (F := Bits))) ⟨m, fun _ => 0, g⟩ (fun r => (∀ c : Dev Cert.Adambig.nD,
      r.2.mem ((c.tc : Thread Cert.Adambig.nD Cert.Adambig.τ).loc Cert.Adambig.main_arg0) = m ((c.tc : Thread Cert.Adambig.nD Cert.Adambig.τ).loc Cert.Adambig.main_arg0)
      ∧ r.2.mem ((c.tc : Thread Cert.Adambig.nD Cert.Adambig.τ).loc Cert.Adambig.main_arg1) = m ((c.tc : Thread Cert.Adambig.nD Cert.Adambig.τ).loc Cert.Adambig.main_arg1)
      ∧ r.2.mem ((c.tc : Thread Cert.Adambig.nD Cert.Adambig.τ).loc Cert.Adambig.main_arg2) = m ((c.tc : Thread Cert.Adambig.nD Cert.Adambig.τ).loc Cert.Adambig.main_arg2)
      ∧ r.2.mem ((c.tc : Thread Cert.Adambig.nD Cert.Adambig.τ).loc Cert.Adambig.main_arg3) = m ((c.tc : Thread Cert.Adambig.nD Cert.Adambig.τ).loc Cert.Adambig.main_arg3)
      ∧ r.2.mem ((c.tc : Thread Cert.Adambig.nD Cert.Adambig.τ).loc Cert.Adambig.main_arg4) = m ((c.tc : Thread Cert.Adambig.nD Cert.Adambig.τ).loc Cert.Adambig.main_arg4)
      ∧ r.2.mem ((c.tc : Thread Cert.Adambig.nD Cert.Adambig.τ).loc Cert.Adambig.main_arg5) = m ((c.tc : Thread Cert.Adambig.nD Cert.Adambig.τ).loc Cert.Adambig.main_arg5))
      ∧ r.2.sem = fun _ => 0)

def quiescent_AdambigIdeal [hAdambigIdeal : Cert.AdambigIdeal.Facts] [hPre_adambig_chip : Cert.Pre_adambig_chip.Facts] : Prop :=
  ∀ (m : (ℓ : Loc Cert.AdambigIdeal.nD Cert.AdambigIdeal.τ Cert.AdambigIdeal.sig) → Buf (Elt Ideal) ℓ) (g : Dev Cert.AdambigIdeal.nD → PrngReg), Pre_AdambigIdeal m →
    θ_run (Cert.AdambigIdeal.defs (F := Ideal)) (onTc (τ := Cert.AdambigIdeal.τ) (Cert.AdambigIdeal.main (F := Ideal))) ⟨m, fun _ => 0, g⟩ (fun r => (∀ c : Dev Cert.AdambigIdeal.nD,
      r.2.mem ((c.tc : Thread Cert.AdambigIdeal.nD Cert.AdambigIdeal.τ).loc Cert.AdambigIdeal.main_arg0) = m ((c.tc : Thread Cert.AdambigIdeal.nD Cert.AdambigIdeal.τ).loc Cert.AdambigIdeal.main_arg0)
      ∧ r.2.mem ((c.tc : Thread Cert.AdambigIdeal.nD Cert.AdambigIdeal.τ).loc Cert.AdambigIdeal.main_arg1) = m ((c.tc : Thread Cert.AdambigIdeal.nD Cert.AdambigIdeal.τ).loc Cert.AdambigIdeal.main_arg1)
      ∧ r.2.mem ((c.tc : Thread Cert.AdambigIdeal.nD Cert.AdambigIdeal.τ).loc Cert.AdambigIdeal.main_arg2) = m ((c.tc : Thread Cert.AdambigIdeal.nD Cert.AdambigIdeal.τ).loc Cert.AdambigIdeal.main_arg2)
      ∧ r.2.mem ((c.tc : Thread Cert.AdambigIdeal.nD Cert.AdambigIdeal.τ).loc Cert.AdambigIdeal.main_arg3) = m ((c.tc : Thread Cert.AdambigIdeal.nD Cert.AdambigIdeal.τ).loc Cert.AdambigIdeal.main_arg3)
      ∧ r.2.mem ((c.tc : Thread Cert.AdambigIdeal.nD Cert.AdambigIdeal.τ).loc Cert.AdambigIdeal.main_arg4) = m ((c.tc : Thread Cert.AdambigIdeal.nD Cert.AdambigIdeal.τ).loc Cert.AdambigIdeal.main_arg4)
      ∧ r.2.mem ((c.tc : Thread Cert.AdambigIdeal.nD Cert.AdambigIdeal.τ).loc Cert.AdambigIdeal.main_arg5) = m ((c.tc : Thread Cert.AdambigIdeal.nD Cert.AdambigIdeal.τ).loc Cert.AdambigIdeal.main_arg5))
      ∧ r.2.sem = fun _ => 0)

def quiescent_AdambigRefIdeal [hAdambigRefIdeal : Cert.AdambigRefIdeal.Facts] : Prop :=
  ∀ (m : (ℓ : Loc Cert.AdambigRefIdeal.nD Cert.AdambigRefIdeal.τ Cert.AdambigRefIdeal.sig) → Buf (Elt Ideal) ℓ) (g : Dev Cert.AdambigRefIdeal.nD → PrngReg), Pre_AdambigRefIdeal m →
    θ_run (Cert.AdambigRefIdeal.defs (F := Ideal)) (onTc (τ := Cert.AdambigRefIdeal.τ) (Cert.AdambigRefIdeal.main (F := Ideal))) ⟨m, fun _ => 0, g⟩ (fun r => (∀ c : Dev Cert.AdambigRefIdeal.nD,
      r.2.mem ((c.tc : Thread Cert.AdambigRefIdeal.nD Cert.AdambigRefIdeal.τ).loc Cert.AdambigRefIdeal.main_arg0) = m ((c.tc : Thread Cert.AdambigRefIdeal.nD Cert.AdambigRefIdeal.τ).loc Cert.AdambigRefIdeal.main_arg0)
      ∧ r.2.mem ((c.tc : Thread Cert.AdambigRefIdeal.nD Cert.AdambigRefIdeal.τ).loc Cert.AdambigRefIdeal.main_arg1) = m ((c.tc : Thread Cert.AdambigRefIdeal.nD Cert.AdambigRefIdeal.τ).loc Cert.AdambigRefIdeal.main_arg1)
      ∧ r.2.mem ((c.tc : Thread Cert.AdambigRefIdeal.nD Cert.AdambigRefIdeal.τ).loc Cert.AdambigRefIdeal.main_arg2) = m ((c.tc : Thread Cert.AdambigRefIdeal.nD Cert.AdambigRefIdeal.τ).loc Cert.AdambigRefIdeal.main_arg2)
      ∧ r.2.mem ((c.tc : Thread Cert.AdambigRefIdeal.nD Cert.AdambigRefIdeal.τ).loc Cert.AdambigRefIdeal.main_arg3) = m ((c.tc : Thread Cert.AdambigRefIdeal.nD Cert.AdambigRefIdeal.τ).loc Cert.AdambigRefIdeal.main_arg3)
      ∧ r.2.mem ((c.tc : Thread Cert.AdambigRefIdeal.nD Cert.AdambigRefIdeal.τ).loc Cert.AdambigRefIdeal.main_arg4) = m ((c.tc : Thread Cert.AdambigRefIdeal.nD Cert.AdambigRefIdeal.τ).loc Cert.AdambigRefIdeal.main_arg4)
      ∧ r.2.mem ((c.tc : Thread Cert.AdambigRefIdeal.nD Cert.AdambigRefIdeal.τ).loc Cert.AdambigRefIdeal.main_arg5) = m ((c.tc : Thread Cert.AdambigRefIdeal.nD Cert.AdambigRefIdeal.τ).loc Cert.AdambigRefIdeal.main_arg5))
      ∧ r.2.sem = fun _ => 0)

def quiescent_AdambigRefIdeal_pre_adambig_chip [hAdambigRefIdeal : Cert.AdambigRefIdeal.Facts] [hPre_adambig_chip : Cert.Pre_adambig_chip.Facts] : Prop :=
  ∀ (m : (ℓ : Loc Cert.AdambigRefIdeal.nD Cert.AdambigRefIdeal.τ Cert.AdambigRefIdeal.sig) → Buf (Elt Ideal) ℓ) (g : Dev Cert.AdambigRefIdeal.nD → PrngReg), Pre_AdambigRefIdeal_adambig_chip m →
    θ_run (Cert.AdambigRefIdeal.defs (F := Ideal)) (onTc (τ := Cert.AdambigRefIdeal.τ) (Cert.AdambigRefIdeal.main (F := Ideal))) ⟨m, fun _ => 0, g⟩ (fun r => (∀ c : Dev Cert.AdambigRefIdeal.nD,
      r.2.mem ((c.tc : Thread Cert.AdambigRefIdeal.nD Cert.AdambigRefIdeal.τ).loc Cert.AdambigRefIdeal.main_arg0) = m ((c.tc : Thread Cert.AdambigRefIdeal.nD Cert.AdambigRefIdeal.τ).loc Cert.AdambigRefIdeal.main_arg0)
      ∧ r.2.mem ((c.tc : Thread Cert.AdambigRefIdeal.nD Cert.AdambigRefIdeal.τ).loc Cert.AdambigRefIdeal.main_arg1) = m ((c.tc : Thread Cert.AdambigRefIdeal.nD Cert.AdambigRefIdeal.τ).loc Cert.AdambigRefIdeal.main_arg1)
      ∧ r.2.mem ((c.tc : Thread Cert.AdambigRefIdeal.nD Cert.AdambigRefIdeal.τ).loc Cert.AdambigRefIdeal.main_arg2) = m ((c.tc : Thread Cert.AdambigRefIdeal.nD Cert.AdambigRefIdeal.τ).loc Cert.AdambigRefIdeal.main_arg2)
      ∧ r.2.mem ((c.tc : Thread Cert.AdambigRefIdeal.nD Cert.AdambigRefIdeal.τ).loc Cert.AdambigRefIdeal.main_arg3) = m ((c.tc : Thread Cert.AdambigRefIdeal.nD Cert.AdambigRefIdeal.τ).loc Cert.AdambigRefIdeal.main_arg3)
      ∧ r.2.mem ((c.tc : Thread Cert.AdambigRefIdeal.nD Cert.AdambigRefIdeal.τ).loc Cert.AdambigRefIdeal.main_arg4) = m ((c.tc : Thread Cert.AdambigRefIdeal.nD Cert.AdambigRefIdeal.τ).loc Cert.AdambigRefIdeal.main_arg4)
      ∧ r.2.mem ((c.tc : Thread Cert.AdambigRefIdeal.nD Cert.AdambigRefIdeal.τ).loc Cert.AdambigRefIdeal.main_arg5) = m ((c.tc : Thread Cert.AdambigRefIdeal.nD Cert.AdambigRefIdeal.τ).loc Cert.AdambigRefIdeal.main_arg5))
      ∧ r.2.sem = fun _ => 0)

def quiescent_Sumsib [hSumsib : Cert.Sumsib.Facts] [hPre_sumsib_core : Cert.Pre_sumsib_core.Facts] : Prop :=
  ∀ (m : (ℓ : Loc Cert.Sumsib.nD Cert.Sumsib.τ Cert.Sumsib.sig) → Buf (Elt Bits) ℓ) (g : Dev Cert.Sumsib.nD → PrngReg), Pre_Sumsib m →
    θ_run (Cert.Sumsib.defs (F := Bits)) (onTc (τ := Cert.Sumsib.τ) (Cert.Sumsib.main (F := Bits))) ⟨m, fun _ => 0, g⟩ (fun r => (∀ c : Dev Cert.Sumsib.nD,
      r.2.mem ((c.tc : Thread Cert.Sumsib.nD Cert.Sumsib.τ).loc Cert.Sumsib.main_arg0) = m ((c.tc : Thread Cert.Sumsib.nD Cert.Sumsib.τ).loc Cert.Sumsib.main_arg0)
      ∧ r.2.mem ((c.tc : Thread Cert.Sumsib.nD Cert.Sumsib.τ).loc Cert.Sumsib.main_arg1) = m ((c.tc : Thread Cert.Sumsib.nD Cert.Sumsib.τ).loc Cert.Sumsib.main_arg1)
      ∧ r.2.mem ((c.tc : Thread Cert.Sumsib.nD Cert.Sumsib.τ).loc Cert.Sumsib.main_arg2) = m ((c.tc : Thread Cert.Sumsib.nD Cert.Sumsib.τ).loc Cert.Sumsib.main_arg2))
      ∧ r.2.sem = fun _ => 0)

def quiescent_SumsibIdeal [hSumsibIdeal : Cert.SumsibIdeal.Facts] [hPre_sumsib_core : Cert.Pre_sumsib_core.Facts] : Prop :=
  ∀ (m : (ℓ : Loc Cert.SumsibIdeal.nD Cert.SumsibIdeal.τ Cert.SumsibIdeal.sig) → Buf (Elt Ideal) ℓ) (g : Dev Cert.SumsibIdeal.nD → PrngReg), Pre_SumsibIdeal m →
    θ_run (Cert.SumsibIdeal.defs (F := Ideal)) (onTc (τ := Cert.SumsibIdeal.τ) (Cert.SumsibIdeal.main (F := Ideal))) ⟨m, fun _ => 0, g⟩ (fun r => (∀ c : Dev Cert.SumsibIdeal.nD,
      r.2.mem ((c.tc : Thread Cert.SumsibIdeal.nD Cert.SumsibIdeal.τ).loc Cert.SumsibIdeal.main_arg0) = m ((c.tc : Thread Cert.SumsibIdeal.nD Cert.SumsibIdeal.τ).loc Cert.SumsibIdeal.main_arg0)
      ∧ r.2.mem ((c.tc : Thread Cert.SumsibIdeal.nD Cert.SumsibIdeal.τ).loc Cert.SumsibIdeal.main_arg1) = m ((c.tc : Thread Cert.SumsibIdeal.nD Cert.SumsibIdeal.τ).loc Cert.SumsibIdeal.main_arg1)
      ∧ r.2.mem ((c.tc : Thread Cert.SumsibIdeal.nD Cert.SumsibIdeal.τ).loc Cert.SumsibIdeal.main_arg2) = m ((c.tc : Thread Cert.SumsibIdeal.nD Cert.SumsibIdeal.τ).loc Cert.SumsibIdeal.main_arg2))
      ∧ r.2.sem = fun _ => 0)

def quiescent_SumsibRefIdeal [hSumsibRefIdeal : Cert.SumsibRefIdeal.Facts] : Prop :=
  ∀ (m : (ℓ : Loc Cert.SumsibRefIdeal.nD Cert.SumsibRefIdeal.τ Cert.SumsibRefIdeal.sig) → Buf (Elt Ideal) ℓ) (g : Dev Cert.SumsibRefIdeal.nD → PrngReg), Pre_SumsibRefIdeal m →
    θ_run (Cert.SumsibRefIdeal.defs (F := Ideal)) (onTc (τ := Cert.SumsibRefIdeal.τ) (Cert.SumsibRefIdeal.main (F := Ideal))) ⟨m, fun _ => 0, g⟩ (fun r => (∀ c : Dev Cert.SumsibRefIdeal.nD,
      r.2.mem ((c.tc : Thread Cert.SumsibRefIdeal.nD Cert.SumsibRefIdeal.τ).loc Cert.SumsibRefIdeal.main_arg0) = m ((c.tc : Thread Cert.SumsibRefIdeal.nD Cert.SumsibRefIdeal.τ).loc Cert.SumsibRefIdeal.main_arg0)
      ∧ r.2.mem ((c.tc : Thread Cert.SumsibRefIdeal.nD Cert.SumsibRefIdeal.τ).loc Cert.SumsibRefIdeal.main_arg1) = m ((c.tc : Thread Cert.SumsibRefIdeal.nD Cert.SumsibRefIdeal.τ).loc Cert.SumsibRefIdeal.main_arg1)
      ∧ r.2.mem ((c.tc : Thread Cert.SumsibRefIdeal.nD Cert.SumsibRefIdeal.τ).loc Cert.SumsibRefIdeal.main_arg2) = m ((c.tc : Thread Cert.SumsibRefIdeal.nD Cert.SumsibRefIdeal.τ).loc Cert.SumsibRefIdeal.main_arg2))
      ∧ r.2.sem = fun _ => 0)

def quiescent_SumsibRefIdeal_pre_sumsib_core [hSumsibRefIdeal : Cert.SumsibRefIdeal.Facts] [hPre_sumsib_core : Cert.Pre_sumsib_core.Facts] : Prop :=
  ∀ (m : (ℓ : Loc Cert.SumsibRefIdeal.nD Cert.SumsibRefIdeal.τ Cert.SumsibRefIdeal.sig) → Buf (Elt Ideal) ℓ) (g : Dev Cert.SumsibRefIdeal.nD → PrngReg), Pre_SumsibRefIdeal_sumsib_core m →
    θ_run (Cert.SumsibRefIdeal.defs (F := Ideal)) (onTc (τ := Cert.SumsibRefIdeal.τ) (Cert.SumsibRefIdeal.main (F := Ideal))) ⟨m, fun _ => 0, g⟩ (fun r => (∀ c : Dev Cert.SumsibRefIdeal.nD,
      r.2.mem ((c.tc : Thread Cert.SumsibRefIdeal.nD Cert.SumsibRefIdeal.τ).loc Cert.SumsibRefIdeal.main_arg0) = m ((c.tc : Thread Cert.SumsibRefIdeal.nD Cert.SumsibRefIdeal.τ).loc Cert.SumsibRefIdeal.main_arg0)
      ∧ r.2.mem ((c.tc : Thread Cert.SumsibRefIdeal.nD Cert.SumsibRefIdeal.τ).loc Cert.SumsibRefIdeal.main_arg1) = m ((c.tc : Thread Cert.SumsibRefIdeal.nD Cert.SumsibRefIdeal.τ).loc Cert.SumsibRefIdeal.main_arg1)
      ∧ r.2.mem ((c.tc : Thread Cert.SumsibRefIdeal.nD Cert.SumsibRefIdeal.τ).loc Cert.SumsibRefIdeal.main_arg2) = m ((c.tc : Thread Cert.SumsibRefIdeal.nD Cert.SumsibRefIdeal.τ).loc Cert.SumsibRefIdeal.main_arg2))
      ∧ r.2.sem = fun _ => 0)

def preserves_Sb_SbIdeal : Prop :=
  IdealRules.named_const.Statement Cert.SbIdeal.κ "log2_e" .f32 0x3FB8AA3B#32 (((Real.log 2)⁻¹ : ℝ) : EReal)
  ∧ IdealRules.named_const.Statement Cert.SbIdeal.κ "clamp" .f32 0x42FC0000#32 ⊤

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)) →
    ∃ (v0 : (c : Dev Cert.MergeIdeal.nD) → Buf (Elt Ideal) ((c.tc : Thread Cert.MergeIdeal.nD Cert.MergeIdeal.τ).loc Cert.MergeIdeal.main_v8_0)) (v1 : (c : Dev Cert.MergeIdeal.nD) → Buf (Elt Ideal) ((c.tc : Thread Cert.MergeIdeal.nD Cert.MergeIdeal.τ).loc Cert.MergeIdeal.main_v8_1)) (v2 : (c : Dev Cert.MergeIdeal.nD) → Buf (Elt Ideal) ((c.tc : Thread Cert.MergeIdeal.nD Cert.MergeIdeal.τ).loc Cert.MergeIdeal.main_v8_2)) (v3 : (c : Dev Cert.MergeIdeal.nD) → Buf (Elt Ideal) ((c.tc : Thread Cert.MergeIdeal.nD Cert.MergeIdeal.τ).loc Cert.MergeIdeal.main_v8_3)) (v4 : (c : Dev Cert.MergeIdeal.nD) → Buf (Elt Ideal) ((c.tc : Thread Cert.MergeIdeal.nD Cert.MergeIdeal.τ).loc Cert.MergeIdeal.main_v8_4)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v8_0) = v0 c
          ∧ r.2.mem ((c.tc : Thread Cert.MergeIdeal.nD Cert.MergeIdeal.τ).loc Cert.MergeIdeal.main_v8_1) = v1 c
          ∧ r.2.mem ((c.tc : Thread Cert.MergeIdeal.nD Cert.MergeIdeal.τ).loc Cert.MergeIdeal.main_v8_2) = v2 c
          ∧ r.2.mem ((c.tc : Thread Cert.MergeIdeal.nD Cert.MergeIdeal.τ).loc Cert.MergeIdeal.main_v8_3) = v3 c
          ∧ r.2.mem ((c.tc : Thread Cert.MergeIdeal.nD Cert.MergeIdeal.τ).loc Cert.MergeIdeal.main_v8_4) = v4 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v44) = v0 c
          ∧ r.2.mem ((c.tc : Thread Cert.MergeRefIdeal.nD Cert.MergeRefIdeal.τ).loc Cert.MergeRefIdeal.main_v45) = v1 c
          ∧ r.2.mem ((c.tc : Thread Cert.MergeRefIdeal.nD Cert.MergeRefIdeal.τ).loc Cert.MergeRefIdeal.main_v46) = v2 c
          ∧ r.2.mem ((c.tc : Thread Cert.MergeRefIdeal.nD Cert.MergeRefIdeal.τ).loc Cert.MergeRefIdeal.main_v47) = v3 c
          ∧ r.2.mem ((c.tc : Thread Cert.MergeRefIdeal.nD Cert.MergeRefIdeal.τ).loc Cert.MergeRefIdeal.main_v48) = v4 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)) →
    ∃ (v0 : (c : Dev Cert.ConvIdeal.nD) → Buf (Elt Ideal) ((c.tc : Thread Cert.ConvIdeal.nD Cert.ConvIdeal.τ).loc Cert.ConvIdeal.main_v0_0)) (v1 : (c : Dev Cert.ConvIdeal.nD) → Buf (Elt Ideal) ((c.tc : Thread Cert.ConvIdeal.nD Cert.ConvIdeal.τ).loc Cert.ConvIdeal.main_v0_1)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v0_0) = v0 c
          ∧ r.2.mem ((c.tc : Thread Cert.ConvIdeal.nD Cert.ConvIdeal.τ).loc Cert.ConvIdeal.main_v0_1) = v1 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v68) = v0 c
          ∧ r.2.mem ((c.tc : Thread Cert.ConvRefIdeal.nD Cert.ConvRefIdeal.τ).loc Cert.ConvRefIdeal.main_v70) = v1 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2))

def preserves_Memattn_MemattnIdeal : Prop :=
  True

def algebraic_MemattnIdeal_MemattnRefIdeal_pre_memattn_finite [hMemattnIdeal : Cert.MemattnIdeal.Facts] [hMemattnRefIdeal : Cert.MemattnRefIdeal.Facts] [hPre_memattn_finite : Cert.Pre_memattn_finite.Facts] : Prop :=
  ∀ (m : (ℓ : Loc Cert.MemattnIdeal.nD Cert.MemattnIdeal.τ Cert.MemattnIdeal.sig) → Buf (Elt Ideal) ℓ) (g : Dev Cert.MemattnIdeal.nD → PrngReg)
    (m' : (ℓ : Loc Cert.MemattnRefIdeal.nD Cert.MemattnRefIdeal.τ Cert.MemattnRefIdeal.sig) → Buf (Elt Ideal) ℓ) (g' : Dev Cert.MemattnRefIdeal.nD → PrngReg), Pre_MemattnIdeal_memattn_finite m →
    (∀ c : Dev Cert.MemattnIdeal.nD,
      m' ((c.tc : Thread Cert.MemattnRefIdeal.nD Cert.MemattnRefIdeal.τ).loc Cert.MemattnRefIdeal.main_arg0) = m ((c.tc : Thread Cert.MemattnIdeal.nD Cert.MemattnIdeal.τ).loc Cert.MemattnIdeal.main_arg0)
      ∧ m' ((c.tc : Thread Cert.MemattnRefIdeal.nD Cert.MemattnRefIdeal.τ).loc Cert.MemattnRefIdeal.main_arg1) = m ((c.tc : Thread Cert.MemattnIdeal.nD Cert.MemattnIdeal.τ).loc Cert.MemattnIdeal.main_arg1)
      ∧ m' ((c.tc : Thread Cert.MemattnRefIdeal.nD Cert.MemattnRefIdeal.τ).loc Cert.MemattnRefIdeal.main_arg2) = m ((c.tc : Thread Cert.MemattnIdeal.nD Cert.MemattnIdeal.τ).loc Cert.MemattnIdeal.main_arg2)
      ∧ m' ((c.tc : Thread Cert.MemattnRefIdeal.nD Cert.MemattnRefIdeal.τ).loc Cert.MemattnRefIdeal.main_arg3) = m ((c.tc : Thread Cert.MemattnIdeal.nD Cert.MemattnIdeal.τ).loc Cert.MemattnIdeal.main_arg3)
      ∧ m' ((c.tc : Thread Cert.MemattnRefIdeal.nD Cert.MemattnRefIdeal.τ).loc Cert.MemattnRefIdeal.main_arg4) = m ((c.tc : Thread Cert.MemattnIdeal.nD Cert.MemattnIdeal.τ).loc Cert.MemattnIdeal.main_arg4)
      ∧ m' ((c.tc : Thread Cert.MemattnRefIdeal.nD Cert.MemattnRefIdeal.τ).loc Cert.MemattnRefIdeal.main_arg5) = m ((c.tc : Thread Cert.MemattnIdeal.nD Cert.MemattnIdeal.τ).loc Cert.MemattnIdeal.main_arg5)) →
    ∃ (v0 : (c : Dev Cert.MemattnIdeal.nD) → Buf (Elt Ideal) ((c.tc : Thread Cert.MemattnIdeal.nD Cert.MemattnIdeal.τ).loc Cert.MemattnIdeal.main_v20_0)) (v1 : (c : Dev Cert.MemattnIdeal.nD) → Buf (Elt Ideal) ((c.tc : Thread Cert.MemattnIdeal.nD Cert.MemattnIdeal.τ).loc Cert.MemattnIdeal.main_v20_1)) (v2 : (c : Dev Cert.MemattnIdeal.nD) → Buf (Elt Ideal) ((c.tc : Thread Cert.MemattnIdeal.nD Cert.MemattnIdeal.τ).loc Cert.MemattnIdeal.main_v20_2)) (v3 : (c : Dev Cert.MemattnIdeal.nD) → Buf (Elt Ideal) ((c.tc : Thread Cert.MemattnIdeal.nD Cert.MemattnIdeal.τ).loc Cert.MemattnIdeal.main_v20_3)) (v4 : (c : Dev Cert.MemattnIdeal.nD) → Buf (Elt Ideal) ((c.tc : Thread Cert.MemattnIdeal.nD Cert.MemattnIdeal.τ).loc Cert.MemattnIdeal.main_v20_4)),
      θ_run (Cert.MemattnIdeal.defs (F := Ideal)) (onTc (τ := Cert.MemattnIdeal.τ) (Cert.MemattnIdeal.main (F := Ideal))) ⟨m, fun _ => 0, g⟩ (fun r => ∀ c : Dev Cert.MemattnIdeal.nD,
          r.2.mem ((c.tc : Thread Cert.MemattnIdeal.nD Cert.MemattnIdeal.τ).loc Cert.MemattnIdeal.main_v20_0) = v0 c
          ∧ r.2.mem ((c.tc : Thread Cert.MemattnIdeal.nD Cert.MemattnIdeal.τ).loc Cert.MemattnIdeal.main_v20_1) = v1 c
          ∧ r.2.mem ((c.tc : Thread Cert.MemattnIdeal.nD Cert.MemattnIdeal.τ).loc Cert.MemattnIdeal.main_v20_2) = v2 c
          ∧ r.2.mem ((c.tc : Thread Cert.MemattnIdeal.nD Cert.MemattnIdeal.τ).loc Cert.MemattnIdeal.main_v20_3) = v3 c
          ∧ r.2.mem ((c.tc : Thread Cert.MemattnIdeal.nD Cert.MemattnIdeal.τ).loc Cert.MemattnIdeal.main_v20_4) = v4 c
          ∧ r.2.mem ((c.tc : Thread Cert.MemattnIdeal.nD Cert.MemattnIdeal.τ).loc Cert.MemattnIdeal.main_arg0) = m ((c.tc : Thread Cert.MemattnIdeal.nD Cert.MemattnIdeal.τ).loc Cert.MemattnIdeal.main_arg0)
          ∧ r.2.mem ((c.tc : Thread Cert.MemattnIdeal.nD Cert.MemattnIdeal.τ).loc Cert.MemattnIdeal.main_arg1) = m ((c.tc : Thread Cert.MemattnIdeal.nD Cert.MemattnIdeal.τ).loc Cert.MemattnIdeal.main_arg1)
          ∧ r.2.mem ((c.tc : Thread Cert.MemattnIdeal.nD Cert.MemattnIdeal.τ).loc Cert.MemattnIdeal.main_arg2) = m ((c.tc : Thread Cert.MemattnIdeal.nD Cert.MemattnIdeal.τ).loc Cert.MemattnIdeal.main_arg2)
          ∧ r.2.mem ((c.tc : Thread Cert.MemattnIdeal.nD Cert.MemattnIdeal.τ).loc Cert.MemattnIdeal.main_arg3) = m ((c.tc : Thread Cert.MemattnIdeal.nD Cert.MemattnIdeal.τ).loc Cert.MemattnIdeal.main_arg3)
          ∧ r.2.mem ((c.tc : Thread Cert.MemattnIdeal.nD Cert.MemattnIdeal.τ).loc Cert.MemattnIdeal.main_arg4) = m ((c.tc : Thread Cert.MemattnIdeal.nD Cert.MemattnIdeal.τ).loc Cert.MemattnIdeal.main_arg4)
          ∧ r.2.mem ((c.tc : Thread Cert.MemattnIdeal.nD Cert.MemattnIdeal.τ).loc Cert.MemattnIdeal.main_arg5) = m ((c.tc : Thread Cert.MemattnIdeal.nD Cert.MemattnIdeal.τ).loc Cert.MemattnIdeal.main_arg5))
      ∧ θ_run (Cert.MemattnRefIdeal.defs (F := Ideal)) (onTc (τ := Cert.MemattnRefIdeal.τ) (Cert.MemattnRefIdeal.main (F := Ideal))) ⟨m', fun _ => 0, g'⟩ (fun r => ∀ c : Dev Cert.MemattnRefIdeal.nD,
          r.2.mem ((c.tc : Thread Cert.MemattnRefIdeal.nD Cert.MemattnRefIdeal.τ).loc Cert.MemattnRefIdeal.main_v113) = v0 c
          ∧ r.2.mem ((c.tc : Thread Cert.MemattnRefIdeal.nD Cert.MemattnRefIdeal.τ).loc Cert.MemattnRefIdeal.main_v114) = v1 c
          ∧ r.2.mem ((c.tc : Thread Cert.MemattnRefIdeal.nD Cert.MemattnRefIdeal.τ).loc Cert.MemattnRefIdeal.main_v116) = v2 c
          ∧ r.2.mem ((c.tc : Thread Cert.MemattnRefIdeal.nD Cert.MemattnRefIdeal.τ).loc Cert.MemattnRefIdeal.main_v117) = v3 c
          ∧ r.2.mem ((c.tc : Thread Cert.MemattnRefIdeal.nD Cert.MemattnRefIdeal.τ).loc Cert.MemattnRefIdeal.main_v90) = v4 c
          ∧ r.2.mem ((c.tc : Thread Cert.MemattnRefIdeal.nD Cert.MemattnRefIdeal.τ).loc Cert.MemattnRefIdeal.main_arg0) = m' ((c.tc : Thread Cert.MemattnRefIdeal.nD Cert.MemattnRefIdeal.τ).loc Cert.MemattnRefIdeal.main_arg0)
          ∧ r.2.mem ((c.tc : Thread Cert.MemattnRefIdeal.nD Cert.MemattnRefIdeal.τ).loc Cert.MemattnRefIdeal.main_arg1) = m' ((c.tc : Thread Cert.MemattnRefIdeal.nD Cert.MemattnRefIdeal.τ).loc Cert.MemattnRefIdeal.main_arg1)
          ∧ r.2.mem ((c.tc : Thread Cert.MemattnRefIdeal.nD Cert.MemattnRefIdeal.τ).loc Cert.MemattnRefIdeal.main_arg2) = m' ((c.tc : Thread Cert.MemattnRefIdeal.nD Cert.MemattnRefIdeal.τ).loc Cert.MemattnRefIdeal.main_arg2)
          ∧ r.2.mem ((c.tc : Thread Cert.MemattnRefIdeal.nD Cert.MemattnRefIdeal.τ).loc Cert.MemattnRefIdeal.main_arg3) = m' ((c.tc : Thread Cert.MemattnRefIdeal.nD Cert.MemattnRefIdeal.τ).loc Cert.MemattnRefIdeal.main_arg3)
          ∧ r.2.mem ((c.tc : Thread Cert.MemattnRefIdeal.nD Cert.MemattnRefIdeal.τ).loc Cert.MemattnRefIdeal.main_arg4) = m' ((c.tc : Thread Cert.MemattnRefIdeal.nD Cert.MemattnRefIdeal.τ).loc Cert.MemattnRefIdeal.main_arg4)
          ∧ r.2.mem ((c.tc : Thread Cert.MemattnRefIdeal.nD Cert.MemattnRefIdeal.τ).loc Cert.MemattnRefIdeal.main_arg5) = m' ((c.tc : Thread Cert.MemattnRefIdeal.nD Cert.MemattnRefIdeal.τ).loc Cert.MemattnRefIdeal.main_arg5))

def preserves_Loss_LossIdeal : Prop :=
  True

def algebraic_LossIdeal_LossRefIdeal_pre_loss_finite [hLossIdeal : Cert.LossIdeal.Facts] [hLossRefIdeal : Cert.LossRefIdeal.Facts] [hPre_loss_finite : Cert.Pre_loss_finite.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal_loss_finite m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)
      ∧ m' ((c.tc : Thread Cert.LossRefIdeal.nD Cert.LossRefIdeal.τ).loc Cert.LossRefIdeal.main_arg3) = m ((c.tc : Thread Cert.LossIdeal.nD Cert.LossIdeal.τ).loc Cert.LossIdeal.main_arg3)
      ∧ m' ((c.tc : Thread Cert.LossRefIdeal.nD Cert.LossRefIdeal.τ).loc Cert.LossRefIdeal.main_arg4) = m ((c.tc : Thread Cert.LossIdeal.nD Cert.LossIdeal.τ).loc Cert.LossIdeal.main_arg4)) →
    ∃ (v0 : (c : Dev Cert.LossIdeal.nD) → Buf (Elt Ideal) ((c.tc : Thread Cert.LossIdeal.nD Cert.LossIdeal.τ).loc Cert.LossIdeal.main_v5_0)) (v1 : (c : Dev Cert.LossIdeal.nD) → Buf (Elt Ideal) ((c.tc : Thread Cert.LossIdeal.nD Cert.LossIdeal.τ).loc Cert.LossIdeal.main_v5_1)) (v2 : (c : Dev Cert.LossIdeal.nD) → Buf (Elt Ideal) ((c.tc : Thread Cert.LossIdeal.nD Cert.LossIdeal.τ).loc Cert.LossIdeal.main_v5_2)) (v3 : (c : Dev Cert.LossIdeal.nD) → Buf (Elt Ideal) ((c.tc : Thread Cert.LossIdeal.nD Cert.LossIdeal.τ).loc Cert.LossIdeal.main_v5_3)) (v4 : (c : Dev Cert.LossIdeal.nD) → Buf (Elt Ideal) ((c.tc : Thread Cert.LossIdeal.nD Cert.LossIdeal.τ).loc Cert.LossIdeal.main_v5_4)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v5_0) = v0 c
          ∧ r.2.mem ((c.tc : Thread Cert.LossIdeal.nD Cert.LossIdeal.τ).loc Cert.LossIdeal.main_v5_1) = v1 c
          ∧ r.2.mem ((c.tc : Thread Cert.LossIdeal.nD Cert.LossIdeal.τ).loc Cert.LossIdeal.main_v5_2) = v2 c
          ∧ r.2.mem ((c.tc : Thread Cert.LossIdeal.nD Cert.LossIdeal.τ).loc Cert.LossIdeal.main_v5_3) = v3 c
          ∧ r.2.mem ((c.tc : Thread Cert.LossIdeal.nD Cert.LossIdeal.τ).loc Cert.LossIdeal.main_v5_4) = v4 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
          ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v58) = v0 c
          ∧ r.2.mem ((c.tc : Thread Cert.LossRefIdeal.nD Cert.LossRefIdeal.τ).loc Cert.LossRefIdeal.main_v62) = v1 c
          ∧ r.2.mem ((c.tc : Thread Cert.LossRefIdeal.nD Cert.LossRefIdeal.τ).loc Cert.LossRefIdeal.main_v64) = v2 c
          ∧ r.2.mem ((c.tc : Thread Cert.LossRefIdeal.nD Cert.LossRefIdeal.τ).loc Cert.LossRefIdeal.main_v65) = v3 c
          ∧ r.2.mem ((c.tc : Thread Cert.LossRefIdeal.nD Cert.LossRefIdeal.τ).loc Cert.LossRefIdeal.main_v61) = v4 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3)
          ∧ r.2.mem ((c.tc : Thread Cert.LossRefIdeal.nD Cert.LossRefIdeal.τ).loc Cert.LossRefIdeal.main_arg4) = m' ((c.tc : Thread Cert.LossRefIdeal.nD Cert.LossRefIdeal.τ).loc Cert.LossRefIdeal.main_arg4))

def preserves_FfnIn_FfnInIdeal : Prop :=
  True

def algebraic_FfnInIdeal_FfnInRefIdeal_pre_ffn_in_finite [hFfnInIdeal : Cert.FfnInIdeal.Facts] [hFfnInRefIdeal : Cert.FfnInRefIdeal.Facts] [hPre_ffn_in_finite : Cert.Pre_ffn_in_finite.Facts] : Prop :=
  ∀ (m : (ℓ : Loc Cert.FfnInIdeal.nD Cert.FfnInIdeal.τ Cert.FfnInIdeal.sig) → Buf (Elt Ideal) ℓ) (g : Dev Cert.FfnInIdeal.nD → PrngReg)
    (m' : (ℓ : Loc Cert.FfnInRefIdeal.nD Cert.FfnInRefIdeal.τ Cert.FfnInRefIdeal.sig) → Buf (Elt Ideal) ℓ) (g' : Dev Cert.FfnInRefIdeal.nD → PrngReg), Pre_FfnInIdeal_ffn_in_finite m →
    (∀ c : Dev Cert.FfnInIdeal.nD,
      m' ((c.tc : Thread Cert.FfnInRefIdeal.nD Cert.FfnInRefIdeal.τ).loc Cert.FfnInRefIdeal.main_arg0) = m ((c.tc : Thread Cert.FfnInIdeal.nD Cert.FfnInIdeal.τ).loc Cert.FfnInIdeal.main_arg0)
      ∧ m' ((c.tc : Thread Cert.FfnInRefIdeal.nD Cert.FfnInRefIdeal.τ).loc Cert.FfnInRefIdeal.main_arg1) = m ((c.tc : Thread Cert.FfnInIdeal.nD Cert.FfnInIdeal.τ).loc Cert.FfnInIdeal.main_arg1)
      ∧ m' ((c.tc : Thread Cert.FfnInRefIdeal.nD Cert.FfnInRefIdeal.τ).loc Cert.FfnInRefIdeal.main_arg2) = m ((c.tc : Thread Cert.FfnInIdeal.nD Cert.FfnInIdeal.τ).loc Cert.FfnInIdeal.main_arg2)
      ∧ m' ((c.tc : Thread Cert.FfnInRefIdeal.nD Cert.FfnInRefIdeal.τ).loc Cert.FfnInRefIdeal.main_arg3) = m ((c.tc : Thread Cert.FfnInIdeal.nD Cert.FfnInIdeal.τ).loc Cert.FfnInIdeal.main_arg3)
      ∧ m' ((c.tc : Thread Cert.FfnInRefIdeal.nD Cert.FfnInRefIdeal.τ).loc Cert.FfnInRefIdeal.main_arg4) = m ((c.tc : Thread Cert.FfnInIdeal.nD Cert.FfnInIdeal.τ).loc Cert.FfnInIdeal.main_arg4)) →
    ∃ (v0 : (c : Dev Cert.FfnInIdeal.nD) → Buf (Elt Ideal) ((c.tc : Thread Cert.FfnInIdeal.nD Cert.FfnInIdeal.τ).loc Cert.FfnInIdeal.main_v5_0)) (v1 : (c : Dev Cert.FfnInIdeal.nD) → Buf (Elt Ideal) ((c.tc : Thread Cert.FfnInIdeal.nD Cert.FfnInIdeal.τ).loc Cert.FfnInIdeal.main_v5_1)) (v2 : (c : Dev Cert.FfnInIdeal.nD) → Buf (Elt Ideal) ((c.tc : Thread Cert.FfnInIdeal.nD Cert.FfnInIdeal.τ).loc Cert.FfnInIdeal.main_v5_2)),
      θ_run (Cert.FfnInIdeal.defs (F := Ideal)) (onTc (τ := Cert.FfnInIdeal.τ) (Cert.FfnInIdeal.main (F := Ideal))) ⟨m, fun _ => 0, g⟩ (fun r => ∀ c : Dev Cert.FfnInIdeal.nD,
          r.2.mem ((c.tc : Thread Cert.FfnInIdeal.nD Cert.FfnInIdeal.τ).loc Cert.FfnInIdeal.main_v5_0) = v0 c
          ∧ r.2.mem ((c.tc : Thread Cert.FfnInIdeal.nD Cert.FfnInIdeal.τ).loc Cert.FfnInIdeal.main_v5_1) = v1 c
          ∧ r.2.mem ((c.tc : Thread Cert.FfnInIdeal.nD Cert.FfnInIdeal.τ).loc Cert.FfnInIdeal.main_v5_2) = v2 c
          ∧ r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
          ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
          ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2)
          ∧ r.2.mem ((c.tc : Thread Cert.FfnInIdeal.nD Cert.FfnInIdeal.τ).loc Cert.FfnInIdeal.main_arg3) = m ((c.tc : Thread Cert.FfnInIdeal.nD Cert.FfnInIdeal.τ).loc Cert.FfnInIdeal.main_arg3)
          ∧ r.2.mem ((c.tc : Thread Cert.FfnInIdeal.nD Cert.FfnInIdeal.τ).loc Cert.FfnInIdeal.main_arg4) = m ((c.tc : Thread Cert.FfnInIdeal.nD Cert.FfnInIdeal.τ).loc Cert.FfnInIdeal.main_arg4))
      ∧ θ_run (Cert.FfnInRefIdeal.defs (F := Ideal)) (onTc (τ := Cert.FfnInRefIdeal.τ) (Cert.FfnInRefIdeal.main (F := Ideal))) ⟨m', fun _ => 0, g'⟩ (fun r => ∀ c : Dev Cert.FfnInRefIdeal.nD,
          r.2.mem ((c.tc : Thread Cert.FfnInRefIdeal.nD Cert.FfnInRefIdeal.τ).loc Cert.FfnInRefIdeal.main_v40) = v0 c
          ∧ r.2.mem ((c.tc : Thread Cert.FfnInRefIdeal.nD Cert.FfnInRefIdeal.τ).loc Cert.FfnInRefIdeal.main_v41) = v1 c
          ∧ r.2.mem ((c.tc : Thread Cert.FfnInRefIdeal.nD Cert.FfnInRefIdeal.τ).loc Cert.FfnInRefIdeal.main_v43) = v2 c
          ∧ r.2.mem ((c.tc : Thread Cert.FfnInRefIdeal.nD Cert.FfnInRefIdeal.τ).loc Cert.FfnInRefIdeal.main_arg0) = m' ((c.tc : Thread Cert.FfnInRefIdeal.nD Cert.FfnInRefIdeal.τ).loc Cert.FfnInRefIdeal.main_arg0)
          ∧ r.2.mem ((c.tc : Thread Cert.FfnInRefIdeal.nD Cert.FfnInRefIdeal.τ).loc Cert.FfnInRefIdeal.main_arg1) = m' ((c.tc : Thread Cert.FfnInRefIdeal.nD Cert.FfnInRefIdeal.τ).loc Cert.FfnInRefIdeal.main_arg1)
          ∧ r.2.mem ((c.tc : Thread Cert.FfnInRefIdeal.nD Cert.FfnInRefIdeal.τ).loc Cert.FfnInRefIdeal.main_arg2) = m' ((c.tc : Thread Cert.FfnInRefIdeal.nD Cert.FfnInRefIdeal.τ).loc Cert.FfnInRefIdeal.main_arg2)
          ∧ r.2.mem ((c.tc : Thread Cert.FfnInRefIdeal.nD Cert.FfnInRefIdeal.τ).loc Cert.FfnInRefIdeal.main_arg3) = m' ((c.tc : Thread Cert.FfnInRefIdeal.nD Cert.FfnInRefIdeal.τ).loc Cert.FfnInRefIdeal.main_arg3)
          ∧ r.2.mem ((c.tc : Thread Cert.FfnInRefIdeal.nD Cert.FfnInRefIdeal.τ).loc Cert.FfnInRefIdeal.main_arg4) = m' ((c.tc : Thread Cert.FfnInRefIdeal.nD Cert.FfnInRefIdeal.τ).loc Cert.FfnInRefIdeal.main_arg4))

def preserves_MemKv_MemKvIdeal : Prop :=
  True

def algebraic_MemKvIdeal_MemKvRefIdeal_pre_mem_kv_finite [hMemKvIdeal : Cert.MemKvIdeal.Facts] [hMemKvRefIdeal : Cert.MemKvRefIdeal.Facts] [hPre_mem_kv_finite : Cert.Pre_mem_kv_finite.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvRefIdeal.nD Cert.MemKvRefIdeal.τ Cert.MemKvRefIdeal.sig) → Buf (Elt Ideal) ℓ) (g' : Dev Cert.MemKvRefIdeal.nD → PrngReg), Pre_MemKvIdeal_mem_kv_finite m →
    (∀ c : Dev Cert.MemKvIdeal.nD,
      m' ((c.tc : Thread Cert.MemKvRefIdeal.nD Cert.MemKvRefIdeal.τ).loc Cert.MemKvRefIdeal.main_arg0) = m ((c.tc : Thread Cert.MemKvIdeal.nD Cert.MemKvIdeal.τ).loc Cert.MemKvIdeal.main_arg0)
      ∧ m' ((c.tc : Thread Cert.MemKvRefIdeal.nD Cert.MemKvRefIdeal.τ).loc Cert.MemKvRefIdeal.main_arg1) = m ((c.tc : Thread Cert.MemKvIdeal.nD Cert.MemKvIdeal.τ).loc Cert.MemKvIdeal.main_arg1)
      ∧ m' ((c.tc : Thread Cert.MemKvRefIdeal.nD Cert.MemKvRefIdeal.τ).loc Cert.MemKvRefIdeal.main_arg2) = m ((c.tc : Thread Cert.MemKvIdeal.nD Cert.MemKvIdeal.τ).loc Cert.MemKvIdeal.main_arg2)
      ∧ m' ((c.tc : Thread Cert.MemKvRefIdeal.nD Cert.MemKvRefIdeal.τ).loc Cert.MemKvRefIdeal.main_arg3) = m ((c.tc : Thread Cert.MemKvIdeal.nD Cert.MemKvIdeal.τ).loc Cert.MemKvIdeal.main_arg3)) →
    ∃ (v0 : (c : Dev Cert.MemKvIdeal.nD) → Buf (Elt Ideal) ((c.tc : Thread Cert.MemKvIdeal.nD Cert.MemKvIdeal.τ).loc Cert.MemKvIdeal.main_v3_0)) (v1 : (c : Dev Cert.MemKvIdeal.nD) → Buf (Elt Ideal) ((c.tc : Thread Cert.MemKvIdeal.nD Cert.MemKvIdeal.τ).loc Cert.MemKvIdeal.main_v3_1)) (v2 : (c : Dev Cert.MemKvIdeal.nD) → Buf (Elt Ideal) ((c.tc : Thread Cert.MemKvIdeal.nD Cert.MemKvIdeal.τ).loc Cert.MemKvIdeal.main_v3_2)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v3_0) = v0 c
          ∧ r.2.mem ((c.tc : Thread Cert.MemKvIdeal.nD Cert.MemKvIdeal.τ).loc Cert.MemKvIdeal.main_v3_1) = v1 c
          ∧ r.2.mem ((c.tc : Thread Cert.MemKvIdeal.nD Cert.MemKvIdeal.τ).loc Cert.MemKvIdeal.main_v3_2) = v2 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
          ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2)
          ∧ r.2.mem ((c.tc : Thread Cert.MemKvIdeal.nD Cert.MemKvIdeal.τ).loc Cert.MemKvIdeal.main_arg3) = m ((c.tc : Thread Cert.MemKvIdeal.nD Cert.MemKvIdeal.τ).loc Cert.MemKvIdeal.main_arg3))
      ∧ θ_run (Cert.MemKvRefIdeal.defs (F := Ideal)) (onTc (τ := Cert.MemKvRefIdeal.τ) (Cert.MemKvRefIdeal.main (F := Ideal))) ⟨m', fun _ => 0, g'⟩ (fun r => ∀ c : Dev Cert.MemKvRefIdeal.nD,
          r.2.mem ((c.tc : Thread Cert.MemKvRefIdeal.nD Cert.MemKvRefIdeal.τ).loc Cert.MemKvRefIdeal.main_v38) = v0 c
          ∧ r.2.mem ((c.tc : Thread Cert.MemKvRefIdeal.nD Cert.MemKvRefIdeal.τ).loc Cert.MemKvRefIdeal.main_v39) = v1 c
          ∧ r.2.mem ((c.tc : Thread Cert.MemKvRefIdeal.nD Cert.MemKvRefIdeal.τ).loc Cert.MemKvRefIdeal.main_v41) = v2 c
          ∧ r.2.mem ((c.tc : Thread Cert.MemKvRefIdeal.nD Cert.MemKvRefIdeal.τ).loc Cert.MemKvRefIdeal.main_arg0) = m' ((c.tc : Thread Cert.MemKvRefIdeal.nD Cert.MemKvRefIdeal.τ).loc Cert.MemKvRefIdeal.main_arg0)
          ∧ r.2.mem ((c.tc : Thread Cert.MemKvRefIdeal.nD Cert.MemKvRefIdeal.τ).loc Cert.MemKvRefIdeal.main_arg1) = m' ((c.tc : Thread Cert.MemKvRefIdeal.nD Cert.MemKvRefIdeal.τ).loc Cert.MemKvRefIdeal.main_arg1)
          ∧ r.2.mem ((c.tc : Thread Cert.MemKvRefIdeal.nD Cert.MemKvRefIdeal.τ).loc Cert.MemKvRefIdeal.main_arg2) = m' ((c.tc : Thread Cert.MemKvRefIdeal.nD Cert.MemKvRefIdeal.τ).loc Cert.MemKvRefIdeal.main_arg2)
          ∧ r.2.mem ((c.tc : Thread Cert.MemKvRefIdeal.nD Cert.MemKvRefIdeal.τ).loc Cert.MemKvRefIdeal.main_arg3) = m' ((c.tc : Thread Cert.MemKvRefIdeal.nD Cert.MemKvRefIdeal.τ).loc Cert.MemKvRefIdeal.main_arg3))

def preserves_Gain_GainIdeal : Prop :=
  True

def algebraic_GainIdeal_GainRefIdeal [hGainIdeal : Cert.GainIdeal.Facts] [hGainRefIdeal : Cert.GainRefIdeal.Facts] : Prop :=
  ∀ (m : (ℓ : Loc Cert.GainIdeal.nD Cert.GainIdeal.τ Cert.GainIdeal.sig) → Buf (Elt Ideal) ℓ) (g : Dev Cert.GainIdeal.nD → PrngReg)
    (m' : (ℓ : Loc Cert.GainRefIdeal.nD Cert.GainRefIdeal.τ Cert.GainRefIdeal.sig) → Buf (Elt Ideal) ℓ) (g' : Dev Cert.GainRefIdeal.nD → PrngReg), Pre_GainIdeal m →
    (∀ c : Dev Cert.GainIdeal.nD,
      m' ((c.tc : Thread Cert.GainRefIdeal.nD Cert.GainRefIdeal.τ).loc Cert.GainRefIdeal.main_arg0) = m ((c.tc : Thread Cert.GainIdeal.nD Cert.GainIdeal.τ).loc Cert.GainIdeal.main_arg0)
      ∧ m' ((c.tc : Thread Cert.GainRefIdeal.nD Cert.GainRefIdeal.τ).loc Cert.GainRefIdeal.main_arg1) = m ((c.tc : Thread Cert.GainIdeal.nD Cert.GainIdeal.τ).loc Cert.GainIdeal.main_arg1)
      ∧ m' ((c.tc : Thread Cert.GainRefIdeal.nD Cert.GainRefIdeal.τ).loc Cert.GainRefIdeal.main_arg2) = m ((c.tc : Thread Cert.GainIdeal.nD Cert.GainIdeal.τ).loc Cert.GainIdeal.main_arg2)) →
    ∃ (v0 : (c : Dev Cert.GainIdeal.nD) → Buf (Elt Ideal) ((c.tc : Thread Cert.GainIdeal.nD Cert.GainIdeal.τ).loc Cert.GainIdeal.main_v2_0)) (v1 : (c : Dev Cert.GainIdeal.nD) → Buf (Elt Ideal) ((c.tc : Thread Cert.GainIdeal.nD Cert.GainIdeal.τ).loc Cert.GainIdeal.main_v2_1)),
      θ_run (Cert.GainIdeal.defs (F := Ideal)) (onTc (τ := Cert.GainIdeal.τ) (Cert.GainIdeal.main (F := Ideal))) ⟨m, fun _ => 0, g⟩ (fun r => ∀ c : Dev Cert.GainIdeal.nD,
          r.2.mem ((c.tc : Thread Cert.GainIdeal.nD Cert.GainIdeal.τ).loc Cert.GainIdeal.main_v2_0) = v0 c
          ∧ r.2.mem ((c.tc : Thread Cert.GainIdeal.nD Cert.GainIdeal.τ).loc Cert.GainIdeal.main_v2_1) = v1 c
          ∧ r.2.mem ((c.tc : Thread Cert.GainIdeal.nD Cert.GainIdeal.τ).loc Cert.GainIdeal.main_arg0) = m ((c.tc : Thread Cert.GainIdeal.nD Cert.GainIdeal.τ).loc Cert.GainIdeal.main_arg0)
          ∧ r.2.mem ((c.tc : Thread Cert.GainIdeal.nD Cert.GainIdeal.τ).loc Cert.GainIdeal.main_arg1) = m ((c.tc : Thread Cert.GainIdeal.nD Cert.GainIdeal.τ).loc Cert.GainIdeal.main_arg1)
          ∧ r.2.mem ((c.tc : Thread Cert.GainIdeal.nD Cert.GainIdeal.τ).loc Cert.GainIdeal.main_arg2) = m ((c.tc : Thread Cert.GainIdeal.nD Cert.GainIdeal.τ).loc Cert.GainIdeal.main_arg2))
      ∧ θ_run (Cert.GainRefIdeal.defs (F := Ideal)) (onTc (τ := Cert.GainRefIdeal.τ) (Cert.GainRefIdeal.main (F := Ideal))) ⟨m', fun _ => 0, g'⟩ (fun r => ∀ c : Dev Cert.GainRefIdeal.nD,
          r.2.mem ((c.tc : Thread Cert.GainRefIdeal.nD Cert.GainRefIdeal.τ).loc Cert.GainRefIdeal.main_v4) = v0 c
          ∧ r.2.mem ((c.tc : Thread Cert.GainRefIdeal.nD Cert.GainRefIdeal.τ).loc Cert.GainRefIdeal.main_v24) = v1 c
          ∧ r.2.mem ((c.tc : Thread Cert.GainRefIdeal.nD Cert.GainRefIdeal.τ).loc Cert.GainRefIdeal.main_arg0) = m' ((c.tc : Thread Cert.GainRefIdeal.nD Cert.GainRefIdeal.τ).loc Cert.GainRefIdeal.main_arg0)
          ∧ r.2.mem ((c.tc : Thread Cert.GainRefIdeal.nD Cert.GainRefIdeal.τ).loc Cert.GainRefIdeal.main_arg1) = m' ((c.tc : Thread Cert.GainRefIdeal.nD Cert.GainRefIdeal.τ).loc Cert.GainRefIdeal.main_arg1)
          ∧ r.2.mem ((c.tc : Thread Cert.GainRefIdeal.nD Cert.GainRefIdeal.τ).loc Cert.GainRefIdeal.main_arg2) = m' ((c.tc : Thread Cert.GainRefIdeal.nD Cert.GainRefIdeal.τ).loc Cert.GainRefIdeal.main_arg2))

def preserves_Rms_RmsIdeal : Prop :=
  True

def algebraic_RmsIdeal_RmsRefIdeal_pre_rms_finite [hRmsIdeal : Cert.RmsIdeal.Facts] [hRmsRefIdeal : Cert.RmsRefIdeal.Facts] [hPre_rms_finite : Cert.Pre_rms_finite.Facts] : Prop :=
  ∀ (m : (ℓ : Loc Cert.RmsIdeal.nD Cert.RmsIdeal.τ Cert.RmsIdeal.sig) → Buf (Elt Ideal) ℓ) (g : Dev Cert.RmsIdeal.nD → PrngReg)
    (m' : (ℓ : Loc Cert.RmsRefIdeal.nD Cert.RmsRefIdeal.τ Cert.RmsRefIdeal.sig) → Buf (Elt Ideal) ℓ) (g' : Dev Cert.RmsRefIdeal.nD → PrngReg), Pre_RmsIdeal_rms_finite m →
    (∀ c : Dev Cert.RmsIdeal.nD,
      m' ((c.tc : Thread Cert.RmsRefIdeal.nD Cert.RmsRefIdeal.τ).loc Cert.RmsRefIdeal.main_arg0) = m ((c.tc : Thread Cert.RmsIdeal.nD Cert.RmsIdeal.τ).loc Cert.RmsIdeal.main_arg0)
      ∧ m' ((c.tc : Thread Cert.RmsRefIdeal.nD Cert.RmsRefIdeal.τ).loc Cert.RmsRefIdeal.main_arg1) = m ((c.tc : Thread Cert.RmsIdeal.nD Cert.RmsIdeal.τ).loc Cert.RmsIdeal.main_arg1)
      ∧ m' ((c.tc : Thread Cert.RmsRefIdeal.nD Cert.RmsRefIdeal.τ).loc Cert.RmsRefIdeal.main_arg2) = m ((c.tc : Thread Cert.RmsIdeal.nD Cert.RmsIdeal.τ).loc Cert.RmsIdeal.main_arg2)
      ∧ m' ((c.tc : Thread Cert.RmsRefIdeal.nD Cert.RmsRefIdeal.τ).loc Cert.RmsRefIdeal.main_arg3) = m ((c.tc : Thread Cert.RmsIdeal.nD Cert.RmsIdeal.τ).loc Cert.RmsIdeal.main_arg3)) →
    ∃ (v0 : (c : Dev Cert.RmsIdeal.nD) → Buf (Elt Ideal) ((c.tc : Thread Cert.RmsIdeal.nD Cert.RmsIdeal.τ).loc Cert.RmsIdeal.main_v1_0)) (v1 : (c : Dev Cert.RmsIdeal.nD) → Buf (Elt Ideal) ((c.tc : Thread Cert.RmsIdeal.nD Cert.RmsIdeal.τ).loc Cert.RmsIdeal.main_v1_1)) (v2 : (c : Dev Cert.RmsIdeal.nD) → Buf (Elt Ideal) ((c.tc : Thread Cert.RmsIdeal.nD Cert.RmsIdeal.τ).loc Cert.RmsIdeal.main_v1_2)),
      θ_run (Cert.RmsIdeal.defs (F := Ideal)) (onTc (τ := Cert.RmsIdeal.τ) (Cert.RmsIdeal.main (F := Ideal))) ⟨m, fun _ => 0, g⟩ (fun r => ∀ c : Dev Cert.RmsIdeal.nD,
          r.2.mem ((c.tc : Thread Cert.RmsIdeal.nD Cert.RmsIdeal.τ).loc Cert.RmsIdeal.main_v1_0) = v0 c
          ∧ r.2.mem ((c.tc : Thread Cert.RmsIdeal.nD Cert.RmsIdeal.τ).loc Cert.RmsIdeal.main_v1_1) = v1 c
          ∧ r.2.mem ((c.tc : Thread Cert.RmsIdeal.nD Cert.RmsIdeal.τ).loc Cert.RmsIdeal.main_v1_2) = v2 c
          ∧ r.2.mem ((c.tc : Thread Cert.RmsIdeal.nD Cert.RmsIdeal.τ).loc Cert.RmsIdeal.main_arg0) = m ((c.tc : Thread Cert.RmsIdeal.nD Cert.RmsIdeal.τ).loc Cert.RmsIdeal.main_arg0)
          ∧ r.2.mem ((c.tc : Thread Cert.RmsIdeal.nD Cert.RmsIdeal.τ).loc Cert.RmsIdeal.main_arg1) = m ((c.tc : Thread Cert.RmsIdeal.nD Cert.RmsIdeal.τ).loc Cert.RmsIdeal.main_arg1)
          ∧ r.2.mem ((c.tc : Thread Cert.RmsIdeal.nD Cert.RmsIdeal.τ).loc Cert.RmsIdeal.main_arg2) = m ((c.tc : Thread Cert.RmsIdeal.nD Cert.RmsIdeal.τ).loc Cert.RmsIdeal.main_arg2)
          ∧ r.2.mem ((c.tc : Thread Cert.RmsIdeal.nD Cert.RmsIdeal.τ).loc Cert.RmsIdeal.main_arg3) = m ((c.tc : Thread Cert.RmsIdeal.nD Cert.RmsIdeal.τ).loc Cert.RmsIdeal.main_arg3))
      ∧ θ_run (Cert.RmsRefIdeal.defs (F := Ideal)) (onTc (τ := Cert.RmsRefIdeal.τ) (Cert.RmsRefIdeal.main (F := Ideal))) ⟨m', fun _ => 0, g'⟩ (fun r => ∀ c : Dev Cert.RmsRefIdeal.nD,
          r.2.mem ((c.tc : Thread Cert.RmsRefIdeal.nD Cert.RmsRefIdeal.τ).loc Cert.RmsRefIdeal.main_v36) = v0 c
          ∧ r.2.mem ((c.tc : Thread Cert.RmsRefIdeal.nD Cert.RmsRefIdeal.τ).loc Cert.RmsRefIdeal.main_v37) = v1 c
          ∧ r.2.mem ((c.tc : Thread Cert.RmsRefIdeal.nD Cert.RmsRefIdeal.τ).loc Cert.RmsRefIdeal.main_v39) = v2 c
          ∧ r.2.mem ((c.tc : Thread Cert.RmsRefIdeal.nD Cert.RmsRefIdeal.τ).loc Cert.RmsRefIdeal.main_arg0) = m' ((c.tc : Thread Cert.RmsRefIdeal.nD Cert.RmsRefIdeal.τ).loc Cert.RmsRefIdeal.main_arg0)
          ∧ r.2.mem ((c.tc : Thread Cert.RmsRefIdeal.nD Cert.RmsRefIdeal.τ).loc Cert.RmsRefIdeal.main_arg1) = m' ((c.tc : Thread Cert.RmsRefIdeal.nD Cert.RmsRefIdeal.τ).loc Cert.RmsRefIdeal.main_arg1)
          ∧ r.2.mem ((c.tc : Thread Cert.RmsRefIdeal.nD Cert.RmsRefIdeal.τ).loc Cert.RmsRefIdeal.main_arg2) = m' ((c.tc : Thread Cert.RmsRefIdeal.nD Cert.RmsRefIdeal.τ).loc Cert.RmsRefIdeal.main_arg2)
          ∧ r.2.mem ((c.tc : Thread Cert.RmsRefIdeal.nD Cert.RmsRefIdeal.τ).loc Cert.RmsRefIdeal.main_arg3) = m' ((c.tc : Thread Cert.RmsRefIdeal.nD Cert.RmsRefIdeal.τ).loc Cert.RmsRefIdeal.main_arg3))

def preserves_Swiglu_SwigluIdeal : Prop :=
  True

def algebraic_SwigluIdeal_SwigluRefIdeal_pre_swiglu_finite [hSwigluIdeal : Cert.SwigluIdeal.Facts] [hSwigluRefIdeal : Cert.SwigluRefIdeal.Facts] [hPre_swiglu_finite : Cert.Pre_swiglu_finite.Facts] : Prop :=
  ∀ (m : (ℓ : Loc Cert.SwigluIdeal.nD Cert.SwigluIdeal.τ Cert.SwigluIdeal.sig) → Buf (Elt Ideal) ℓ) (g : Dev Cert.SwigluIdeal.nD → PrngReg)
    (m' : (ℓ : Loc Cert.SwigluRefIdeal.nD Cert.SwigluRefIdeal.τ Cert.SwigluRefIdeal.sig) → Buf (Elt Ideal) ℓ) (g' : Dev Cert.SwigluRefIdeal.nD → PrngReg), Pre_SwigluIdeal_swiglu_finite m →
    (∀ c : Dev Cert.SwigluIdeal.nD,
      m' ((c.tc : Thread Cert.SwigluRefIdeal.nD Cert.SwigluRefIdeal.τ).loc Cert.SwigluRefIdeal.main_arg0) = m ((c.tc : Thread Cert.SwigluIdeal.nD Cert.SwigluIdeal.τ).loc Cert.SwigluIdeal.main_arg0)
      ∧ m' ((c.tc : Thread Cert.SwigluRefIdeal.nD Cert.SwigluRefIdeal.τ).loc Cert.SwigluRefIdeal.main_arg1) = m ((c.tc : Thread Cert.SwigluIdeal.nD Cert.SwigluIdeal.τ).loc Cert.SwigluIdeal.main_arg1)
      ∧ m' ((c.tc : Thread Cert.SwigluRefIdeal.nD Cert.SwigluRefIdeal.τ).loc Cert.SwigluRefIdeal.main_arg2) = m ((c.tc : Thread Cert.SwigluIdeal.nD Cert.SwigluIdeal.τ).loc Cert.SwigluIdeal.main_arg2)) →
    ∃ (v0 : (c : Dev Cert.SwigluIdeal.nD) → Buf (Elt Ideal) ((c.tc : Thread Cert.SwigluIdeal.nD Cert.SwigluIdeal.τ).loc Cert.SwigluIdeal.main_v4)),
      θ_run (Cert.SwigluIdeal.defs (F := Ideal)) (onTc (τ := Cert.SwigluIdeal.τ) (Cert.SwigluIdeal.main (F := Ideal))) ⟨m, fun _ => 0, g⟩ (fun r => ∀ c : Dev Cert.SwigluIdeal.nD,
          r.2.mem ((c.tc : Thread Cert.SwigluIdeal.nD Cert.SwigluIdeal.τ).loc Cert.SwigluIdeal.main_v4) = v0 c
          ∧ r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0)
          ∧ r.2.mem ((c.tc : Thread Cert.SwigluIdeal.nD Cert.SwigluIdeal.τ).loc Cert.SwigluIdeal.main_arg1) = m ((c.tc : Thread Cert.SwigluIdeal.nD Cert.SwigluIdeal.τ).loc Cert.SwigluIdeal.main_arg1)
          ∧ r.2.mem ((c.tc : Thread Cert.SwigluIdeal.nD Cert.SwigluIdeal.τ).loc Cert.SwigluIdeal.main_arg2) = m ((c.tc : Thread Cert.SwigluIdeal.nD Cert.SwigluIdeal.τ).loc Cert.SwigluIdeal.main_arg2))
      ∧ θ_run (Cert.SwigluRefIdeal.defs (F := Ideal)) (onTc (τ := Cert.SwigluRefIdeal.τ) (Cert.SwigluRefIdeal.main (F := Ideal))) ⟨m', fun _ => 0, g'⟩ (fun r => ∀ c : Dev Cert.SwigluRefIdeal.nD,
          r.2.mem ((c.tc : Thread Cert.SwigluRefIdeal.nD Cert.SwigluRefIdeal.τ).loc Cert.SwigluRefIdeal.main_v15) = v0 c
          ∧ r.2.mem ((c.tc : Thread Cert.SwigluRefIdeal.nD Cert.SwigluRefIdeal.τ).loc Cert.SwigluRefIdeal.main_arg0) = m' ((c.tc : Thread Cert.SwigluRefIdeal.nD Cert.SwigluRefIdeal.τ).loc Cert.SwigluRefIdeal.main_arg0)
          ∧ r.2.mem ((c.tc : Thread Cert.SwigluRefIdeal.nD Cert.SwigluRefIdeal.τ).loc Cert.SwigluRefIdeal.main_arg1) = m' ((c.tc : Thread Cert.SwigluRefIdeal.nD Cert.SwigluRefIdeal.τ).loc Cert.SwigluRefIdeal.main_arg1)
          ∧ r.2.mem ((c.tc : Thread Cert.SwigluRefIdeal.nD Cert.SwigluRefIdeal.τ).loc Cert.SwigluRefIdeal.main_arg2) = m' ((c.tc : Thread Cert.SwigluRefIdeal.nD Cert.SwigluRefIdeal.τ).loc Cert.SwigluRefIdeal.main_arg2))

def preserves_Memfwd_MemfwdIdeal : Prop :=
  True

def algebraic_MemfwdIdeal_MemfwdRefIdeal [hMemfwdIdeal : Cert.MemfwdIdeal.Facts] [hMemfwdRefIdeal : Cert.MemfwdRefIdeal.Facts] : Prop :=
  ∀ (m : (ℓ : Loc Cert.MemfwdIdeal.nD Cert.MemfwdIdeal.τ Cert.MemfwdIdeal.sig) → Buf (Elt Ideal) ℓ) (g : Dev Cert.MemfwdIdeal.nD → PrngReg)
    (m' : (ℓ : Loc Cert.MemfwdRefIdeal.nD Cert.MemfwdRefIdeal.τ Cert.MemfwdRefIdeal.sig) → Buf (Elt Ideal) ℓ) (g' : Dev Cert.MemfwdRefIdeal.nD → PrngReg), Pre_MemfwdIdeal m →
    (∀ c : Dev Cert.MemfwdIdeal.nD,
      m' ((c.tc : Thread Cert.MemfwdRefIdeal.nD Cert.MemfwdRefIdeal.τ).loc Cert.MemfwdRefIdeal.main_arg0) = m ((c.tc : Thread Cert.MemfwdIdeal.nD Cert.MemfwdIdeal.τ).loc Cert.MemfwdIdeal.main_arg0)
      ∧ m' ((c.tc : Thread Cert.MemfwdRefIdeal.nD Cert.MemfwdRefIdeal.τ).loc Cert.MemfwdRefIdeal.main_arg1) = m ((c.tc : Thread Cert.MemfwdIdeal.nD Cert.MemfwdIdeal.τ).loc Cert.MemfwdIdeal.main_arg1)
      ∧ m' ((c.tc : Thread Cert.MemfwdRefIdeal.nD Cert.MemfwdRefIdeal.τ).loc Cert.MemfwdRefIdeal.main_arg2) = m ((c.tc : Thread Cert.MemfwdIdeal.nD Cert.MemfwdIdeal.τ).loc Cert.MemfwdIdeal.main_arg2)
      ∧ m' ((c.tc : Thread Cert.MemfwdRefIdeal.nD Cert.MemfwdRefIdeal.τ).loc Cert.MemfwdRefIdeal.main_arg3) = m ((c.tc : Thread Cert.MemfwdIdeal.nD Cert.MemfwdIdeal.τ).loc Cert.MemfwdIdeal.main_arg3)
      ∧ m' ((c.tc : Thread Cert.MemfwdRefIdeal.nD Cert.MemfwdRefIdeal.τ).loc Cert.MemfwdRefIdeal.main_arg4) = m ((c.tc : Thread Cert.MemfwdIdeal.nD Cert.MemfwdIdeal.τ).loc Cert.MemfwdIdeal.main_arg4)
      ∧ m' ((c.tc : Thread Cert.MemfwdRefIdeal.nD Cert.MemfwdRefIdeal.τ).loc Cert.MemfwdRefIdeal.main_arg5) = m ((c.tc : Thread Cert.MemfwdIdeal.nD Cert.MemfwdIdeal.τ).loc Cert.MemfwdIdeal.main_arg5)) →
    ∃ (v0 : (c : Dev Cert.MemfwdIdeal.nD) → Buf (Elt Ideal) ((c.tc : Thread Cert.MemfwdIdeal.nD Cert.MemfwdIdeal.τ).loc Cert.MemfwdIdeal.main_v15_0)) (v1 : (c : Dev Cert.MemfwdIdeal.nD) → Buf (Elt Ideal) ((c.tc : Thread Cert.MemfwdIdeal.nD Cert.MemfwdIdeal.τ).loc Cert.MemfwdIdeal.main_v15_1)) (v2 : (c : Dev Cert.MemfwdIdeal.nD) → Buf (Elt Ideal) ((c.tc : Thread Cert.MemfwdIdeal.nD Cert.MemfwdIdeal.τ).loc Cert.MemfwdIdeal.main_v15_2)) (v3 : (c : Dev Cert.MemfwdIdeal.nD) → Buf (Elt Ideal) ((c.tc : Thread Cert.MemfwdIdeal.nD Cert.MemfwdIdeal.τ).loc Cert.MemfwdIdeal.main_v15_3)),
      θ_run (Cert.MemfwdIdeal.defs (F := Ideal)) (onTc (τ := Cert.MemfwdIdeal.τ) (Cert.MemfwdIdeal.main (F := Ideal))) ⟨m, fun _ => 0, g⟩ (fun r => ∀ c : Dev Cert.MemfwdIdeal.nD,
          r.2.mem ((c.tc : Thread Cert.MemfwdIdeal.nD Cert.MemfwdIdeal.τ).loc Cert.MemfwdIdeal.main_v15_0) = v0 c
          ∧ r.2.mem ((c.tc : Thread Cert.MemfwdIdeal.nD Cert.MemfwdIdeal.τ).loc Cert.MemfwdIdeal.main_v15_1) = v1 c
          ∧ r.2.mem ((c.tc : Thread Cert.MemfwdIdeal.nD Cert.MemfwdIdeal.τ).loc Cert.MemfwdIdeal.main_v15_2) = v2 c
          ∧ r.2.mem ((c.tc : Thread Cert.MemfwdIdeal.nD Cert.MemfwdIdeal.τ).loc Cert.MemfwdIdeal.main_v15_3) = v3 c
          ∧ r.2.mem ((c.tc : Thread Cert.MemfwdIdeal.nD Cert.MemfwdIdeal.τ).loc Cert.MemfwdIdeal.main_arg0) = m ((c.tc : Thread Cert.MemfwdIdeal.nD Cert.MemfwdIdeal.τ).loc Cert.MemfwdIdeal.main_arg0)
          ∧ r.2.mem ((c.tc : Thread Cert.MemfwdIdeal.nD Cert.MemfwdIdeal.τ).loc Cert.MemfwdIdeal.main_arg1) = m ((c.tc : Thread Cert.MemfwdIdeal.nD Cert.MemfwdIdeal.τ).loc Cert.MemfwdIdeal.main_arg1)
          ∧ r.2.mem ((c.tc : Thread Cert.MemfwdIdeal.nD Cert.MemfwdIdeal.τ).loc Cert.MemfwdIdeal.main_arg2) = m ((c.tc : Thread Cert.MemfwdIdeal.nD Cert.MemfwdIdeal.τ).loc Cert.MemfwdIdeal.main_arg2)
          ∧ r.2.mem ((c.tc : Thread Cert.MemfwdIdeal.nD Cert.MemfwdIdeal.τ).loc Cert.MemfwdIdeal.main_arg3) = m ((c.tc : Thread Cert.MemfwdIdeal.nD Cert.MemfwdIdeal.τ).loc Cert.MemfwdIdeal.main_arg3)
          ∧ r.2.mem ((c.tc : Thread Cert.MemfwdIdeal.nD Cert.MemfwdIdeal.τ).loc Cert.MemfwdIdeal.main_arg4) = m ((c.tc : Thread Cert.MemfwdIdeal.nD Cert.MemfwdIdeal.τ).loc Cert.MemfwdIdeal.main_arg4)
          ∧ r.2.mem ((c.tc : Thread Cert.MemfwdIdeal.nD Cert.MemfwdIdeal.τ).loc Cert.MemfwdIdeal.main_arg5) = m ((c.tc : Thread Cert.MemfwdIdeal.nD Cert.MemfwdIdeal.τ).loc Cert.MemfwdIdeal.main_arg5))
      ∧ θ_run (Cert.MemfwdRefIdeal.defs (F := Ideal)) (onTc (τ := Cert.MemfwdRefIdeal.τ) (Cert.MemfwdRefIdeal.main (F := Ideal))) ⟨m', fun _ => 0, g'⟩ (fun r => ∀ c : Dev Cert.MemfwdRefIdeal.nD,
          r.2.mem ((c.tc : Thread Cert.MemfwdRefIdeal.nD Cert.MemfwdRefIdeal.τ).loc Cert.MemfwdRefIdeal.main_v42) = v0 c
          ∧ r.2.mem ((c.tc : Thread Cert.MemfwdRefIdeal.nD Cert.MemfwdRefIdeal.τ).loc Cert.MemfwdRefIdeal.main_v43) = v1 c
          ∧ r.2.mem ((c.tc : Thread Cert.MemfwdRefIdeal.nD Cert.MemfwdRefIdeal.τ).loc Cert.MemfwdRefIdeal.main_v41) = v2 c
          ∧ r.2.mem ((c.tc : Thread Cert.MemfwdRefIdeal.nD Cert.MemfwdRefIdeal.τ).loc Cert.MemfwdRefIdeal.main_v57) = v3 c
          ∧ r.2.mem ((c.tc : Thread Cert.MemfwdRefIdeal.nD Cert.MemfwdRefIdeal.τ).loc Cert.MemfwdRefIdeal.main_arg0) = m' ((c.tc : Thread Cert.MemfwdRefIdeal.nD Cert.MemfwdRefIdeal.τ).loc Cert.MemfwdRefIdeal.main_arg0)
          ∧ r.2.mem ((c.tc : Thread Cert.MemfwdRefIdeal.nD Cert.MemfwdRefIdeal.τ).loc Cert.MemfwdRefIdeal.main_arg1) = m' ((c.tc : Thread Cert.MemfwdRefIdeal.nD Cert.MemfwdRefIdeal.τ).loc Cert.MemfwdRefIdeal.main_arg1)
          ∧ r.2.mem ((c.tc : Thread Cert.MemfwdRefIdeal.nD Cert.MemfwdRefIdeal.τ).loc Cert.MemfwdRefIdeal.main_arg2) = m' ((c.tc : Thread Cert.MemfwdRefIdeal.nD Cert.MemfwdRefIdeal.τ).loc Cert.MemfwdRefIdeal.main_arg2)
          ∧ r.2.mem ((c.tc : Thread Cert.MemfwdRefIdeal.nD Cert.MemfwdRefIdeal.τ).loc Cert.MemfwdRefIdeal.main_arg3) = m' ((c.tc : Thread Cert.MemfwdRefIdeal.nD Cert.MemfwdRefIdeal.τ).loc Cert.MemfwdRefIdeal.main_arg3)
          ∧ r.2.mem ((c.tc : Thread Cert.MemfwdRefIdeal.nD Cert.MemfwdRefIdeal.τ).loc Cert.MemfwdRefIdeal.main_arg4) = m' ((c.tc : Thread Cert.MemfwdRefIdeal.nD Cert.MemfwdRefIdeal.τ).loc Cert.MemfwdRefIdeal.main_arg4)
          ∧ r.2.mem ((c.tc : Thread Cert.MemfwdRefIdeal.nD Cert.MemfwdRefIdeal.τ).loc Cert.MemfwdRefIdeal.main_arg5) = m' ((c.tc : Thread Cert.MemfwdRefIdeal.nD Cert.MemfwdRefIdeal.τ).loc Cert.MemfwdRefIdeal.main_arg5))

def preserves_Mixfwd_MixfwdIdeal : Prop :=
  True

def algebraic_MixfwdIdeal_MixfwdRefIdeal [hMixfwdIdeal : Cert.MixfwdIdeal.Facts] [hMixfwdRefIdeal : Cert.MixfwdRefIdeal.Facts] : Prop :=
  ∀ (m : (ℓ : Loc Cert.MixfwdIdeal.nD Cert.MixfwdIdeal.τ Cert.MixfwdIdeal.sig) → Buf (Elt Ideal) ℓ) (g : Dev Cert.MixfwdIdeal.nD → PrngReg)
    (m' : (ℓ : Loc Cert.MixfwdRefIdeal.nD Cert.MixfwdRefIdeal.τ Cert.MixfwdRefIdeal.sig) → Buf (Elt Ideal) ℓ) (g' : Dev Cert.MixfwdRefIdeal.nD → PrngReg), Pre_MixfwdIdeal m →
    (∀ c : Dev Cert.MixfwdIdeal.nD,
      m' ((c.tc : Thread Cert.MixfwdRefIdeal.nD Cert.MixfwdRefIdeal.τ).loc Cert.MixfwdRefIdeal.main_arg0) = m ((c.tc : Thread Cert.MixfwdIdeal.nD Cert.MixfwdIdeal.τ).loc Cert.MixfwdIdeal.main_arg0)
      ∧ m' ((c.tc : Thread Cert.MixfwdRefIdeal.nD Cert.MixfwdRefIdeal.τ).loc Cert.MixfwdRefIdeal.main_arg1) = m ((c.tc : Thread Cert.MixfwdIdeal.nD Cert.MixfwdIdeal.τ).loc Cert.MixfwdIdeal.main_arg1)
      ∧ m' ((c.tc : Thread Cert.MixfwdRefIdeal.nD Cert.MixfwdRefIdeal.τ).loc Cert.MixfwdRefIdeal.main_arg2) = m ((c.tc : Thread Cert.MixfwdIdeal.nD Cert.MixfwdIdeal.τ).loc Cert.MixfwdIdeal.main_arg2)
      ∧ m' ((c.tc : Thread Cert.MixfwdRefIdeal.nD Cert.MixfwdRefIdeal.τ).loc Cert.MixfwdRefIdeal.main_arg3) = m ((c.tc : Thread Cert.MixfwdIdeal.nD Cert.MixfwdIdeal.τ).loc Cert.MixfwdIdeal.main_arg3)
      ∧ m' ((c.tc : Thread Cert.MixfwdRefIdeal.nD Cert.MixfwdRefIdeal.τ).loc Cert.MixfwdRefIdeal.main_arg4) = m ((c.tc : Thread Cert.MixfwdIdeal.nD Cert.MixfwdIdeal.τ).loc Cert.MixfwdIdeal.main_arg4)
      ∧ m' ((c.tc : Thread Cert.MixfwdRefIdeal.nD Cert.MixfwdRefIdeal.τ).loc Cert.MixfwdRefIdeal.main_arg5) = m ((c.tc : Thread Cert.MixfwdIdeal.nD Cert.MixfwdIdeal.τ).loc Cert.MixfwdIdeal.main_arg5)
      ∧ m' ((c.tc : Thread Cert.MixfwdRefIdeal.nD Cert.MixfwdRefIdeal.τ).loc Cert.MixfwdRefIdeal.main_arg6) = m ((c.tc : Thread Cert.MixfwdIdeal.nD Cert.MixfwdIdeal.τ).loc Cert.MixfwdIdeal.main_arg6)
      ∧ m' ((c.tc : Thread Cert.MixfwdRefIdeal.nD Cert.MixfwdRefIdeal.τ).loc Cert.MixfwdRefIdeal.main_arg7) = m ((c.tc : Thread Cert.MixfwdIdeal.nD Cert.MixfwdIdeal.τ).loc Cert.MixfwdIdeal.main_arg7)) →
    ∃ (v0 : (c : Dev Cert.MixfwdIdeal.nD) → Buf (Elt Ideal) ((c.tc : Thread Cert.MixfwdIdeal.nD Cert.MixfwdIdeal.τ).loc Cert.MixfwdIdeal.main_v1_0)) (v1 : (c : Dev Cert.MixfwdIdeal.nD) → Buf (Elt Ideal) ((c.tc : Thread Cert.MixfwdIdeal.nD Cert.MixfwdIdeal.τ).loc Cert.MixfwdIdeal.main_v1_1)) (v2 : (c : Dev Cert.MixfwdIdeal.nD) → Buf (Elt Ideal) ((c.tc : Thread Cert.MixfwdIdeal.nD Cert.MixfwdIdeal.τ).loc Cert.MixfwdIdeal.main_v1_2)) (v3 : (c : Dev Cert.MixfwdIdeal.nD) → Buf (Elt Ideal) ((c.tc : Thread Cert.MixfwdIdeal.nD Cert.MixfwdIdeal.τ).loc Cert.MixfwdIdeal.main_v1_3)) (v4 : (c : Dev Cert.MixfwdIdeal.nD) → Buf (Elt Ideal) ((c.tc : Thread Cert.MixfwdIdeal.nD Cert.MixfwdIdeal.τ).loc Cert.MixfwdIdeal.main_v1_4)),
      θ_run (Cert.MixfwdIdeal.defs (F := Ideal)) (onTc (τ := Cert.MixfwdIdeal.τ) (Cert.MixfwdIdeal.main (F := Ideal))) ⟨m, fun _ => 0, g⟩ (fun r => ∀ c : Dev Cert.MixfwdIdeal.nD,
          r.2.mem ((c.tc : Thread Cert.MixfwdIdeal.nD Cert.MixfwdIdeal.τ).loc Cert.MixfwdIdeal.main_v1_0) = v0 c
          ∧ r.2.mem ((c.tc : Thread Cert.MixfwdIdeal.nD Cert.MixfwdIdeal.τ).loc Cert.MixfwdIdeal.main_v1_1) = v1 c
          ∧ r.2.mem ((c.tc : Thread Cert.MixfwdIdeal.nD Cert.MixfwdIdeal.τ).loc Cert.MixfwdIdeal.main_v1_2) = v2 c
          ∧ r.2.mem ((c.tc : Thread Cert.MixfwdIdeal.nD Cert.MixfwdIdeal.τ).loc Cert.MixfwdIdeal.main_v1_3) = v3 c
          ∧ r.2.mem ((c.tc : Thread Cert.MixfwdIdeal.nD Cert.MixfwdIdeal.τ).loc Cert.MixfwdIdeal.main_v1_4) = v4 c
          ∧ r.2.mem ((c.tc : Thread Cert.MixfwdIdeal.nD Cert.MixfwdIdeal.τ).loc Cert.MixfwdIdeal.main_arg0) = m ((c.tc : Thread Cert.MixfwdIdeal.nD Cert.MixfwdIdeal.τ).loc Cert.MixfwdIdeal.main_arg0)
          ∧ r.2.mem ((c.tc : Thread Cert.MixfwdIdeal.nD Cert.MixfwdIdeal.τ).loc Cert.MixfwdIdeal.main_arg1) = m ((c.tc : Thread Cert.MixfwdIdeal.nD Cert.MixfwdIdeal.τ).loc Cert.MixfwdIdeal.main_arg1)
          ∧ r.2.mem ((c.tc : Thread Cert.MixfwdIdeal.nD Cert.MixfwdIdeal.τ).loc Cert.MixfwdIdeal.main_arg2) = m ((c.tc : Thread Cert.MixfwdIdeal.nD Cert.MixfwdIdeal.τ).loc Cert.MixfwdIdeal.main_arg2)
          ∧ r.2.mem ((c.tc : Thread Cert.MixfwdIdeal.nD Cert.MixfwdIdeal.τ).loc Cert.MixfwdIdeal.main_arg3) = m ((c.tc : Thread Cert.MixfwdIdeal.nD Cert.MixfwdIdeal.τ).loc Cert.MixfwdIdeal.main_arg3)
          ∧ r.2.mem ((c.tc : Thread Cert.MixfwdIdeal.nD Cert.MixfwdIdeal.τ).loc Cert.MixfwdIdeal.main_arg4) = m ((c.tc : Thread Cert.MixfwdIdeal.nD Cert.MixfwdIdeal.τ).loc Cert.MixfwdIdeal.main_arg4)
          ∧ r.2.mem ((c.tc : Thread Cert.MixfwdIdeal.nD Cert.MixfwdIdeal.τ).loc Cert.MixfwdIdeal.main_arg5) = m ((c.tc : Thread Cert.MixfwdIdeal.nD Cert.MixfwdIdeal.τ).loc Cert.MixfwdIdeal.main_arg5)
          ∧ r.2.mem ((c.tc : Thread Cert.MixfwdIdeal.nD Cert.MixfwdIdeal.τ).loc Cert.MixfwdIdeal.main_arg6) = m ((c.tc : Thread Cert.MixfwdIdeal.nD Cert.MixfwdIdeal.τ).loc Cert.MixfwdIdeal.main_arg6)
          ∧ r.2.mem ((c.tc : Thread Cert.MixfwdIdeal.nD Cert.MixfwdIdeal.τ).loc Cert.MixfwdIdeal.main_arg7) = m ((c.tc : Thread Cert.MixfwdIdeal.nD Cert.MixfwdIdeal.τ).loc Cert.MixfwdIdeal.main_arg7))
      ∧ θ_run (Cert.MixfwdRefIdeal.defs (F := Ideal)) (onTc (τ := Cert.MixfwdRefIdeal.τ) (Cert.MixfwdRefIdeal.main (F := Ideal))) ⟨m', fun _ => 0, g'⟩ (fun r => ∀ c : Dev Cert.MixfwdRefIdeal.nD,
          r.2.mem ((c.tc : Thread Cert.MixfwdRefIdeal.nD Cert.MixfwdRefIdeal.τ).loc Cert.MixfwdRefIdeal.main_v27) = v0 c
          ∧ r.2.mem ((c.tc : Thread Cert.MixfwdRefIdeal.nD Cert.MixfwdRefIdeal.τ).loc Cert.MixfwdRefIdeal.main_v41) = v1 c
          ∧ r.2.mem ((c.tc : Thread Cert.MixfwdRefIdeal.nD Cert.MixfwdRefIdeal.τ).loc Cert.MixfwdRefIdeal.main_v42) = v2 c
          ∧ r.2.mem ((c.tc : Thread Cert.MixfwdRefIdeal.nD Cert.MixfwdRefIdeal.τ).loc Cert.MixfwdRefIdeal.main_v43) = v3 c
          ∧ r.2.mem ((c.tc : Thread Cert.MixfwdRefIdeal.nD Cert.MixfwdRefIdeal.τ).loc Cert.MixfwdRefIdeal.main_v44) = v4 c
          ∧ r.2.mem ((c.tc : Thread Cert.MixfwdRefIdeal.nD Cert.MixfwdRefIdeal.τ).loc Cert.MixfwdRefIdeal.main_arg0) = m' ((c.tc : Thread Cert.MixfwdRefIdeal.nD Cert.MixfwdRefIdeal.τ).loc Cert.MixfwdRefIdeal.main_arg0)
          ∧ r.2.mem ((c.tc : Thread Cert.MixfwdRefIdeal.nD Cert.MixfwdRefIdeal.τ).loc Cert.MixfwdRefIdeal.main_arg1) = m' ((c.tc : Thread Cert.MixfwdRefIdeal.nD Cert.MixfwdRefIdeal.τ).loc Cert.MixfwdRefIdeal.main_arg1)
          ∧ r.2.mem ((c.tc : Thread Cert.MixfwdRefIdeal.nD Cert.MixfwdRefIdeal.τ).loc Cert.MixfwdRefIdeal.main_arg2) = m' ((c.tc : Thread Cert.MixfwdRefIdeal.nD Cert.MixfwdRefIdeal.τ).loc Cert.MixfwdRefIdeal.main_arg2)
          ∧ r.2.mem ((c.tc : Thread Cert.MixfwdRefIdeal.nD Cert.MixfwdRefIdeal.τ).loc Cert.MixfwdRefIdeal.main_arg3) = m' ((c.tc : Thread Cert.MixfwdRefIdeal.nD Cert.MixfwdRefIdeal.τ).loc Cert.MixfwdRefIdeal.main_arg3)
          ∧ r.2.mem ((c.tc : Thread Cert.MixfwdRefIdeal.nD Cert.MixfwdRefIdeal.τ).loc Cert.MixfwdRefIdeal.main_arg4) = m' ((c.tc : Thread Cert.MixfwdRefIdeal.nD Cert.MixfwdRefIdeal.τ).loc Cert.MixfwdRefIdeal.main_arg4)
          ∧ r.2.mem ((c.tc : Thread Cert.MixfwdRefIdeal.nD Cert.MixfwdRefIdeal.τ).loc Cert.MixfwdRefIdeal.main_arg5) = m' ((c.tc : Thread Cert.MixfwdRefIdeal.nD Cert.MixfwdRefIdeal.τ).loc Cert.MixfwdRefIdeal.main_arg5)
          ∧ r.2.mem ((c.tc : Thread Cert.MixfwdRefIdeal.nD Cert.MixfwdRefIdeal.τ).loc Cert.MixfwdRefIdeal.main_arg6) = m' ((c.tc : Thread Cert.MixfwdRefIdeal.nD Cert.MixfwdRefIdeal.τ).loc Cert.MixfwdRefIdeal.main_arg6)
          ∧ r.2.mem ((c.tc : Thread Cert.MixfwdRefIdeal.nD Cert.MixfwdRefIdeal.τ).loc Cert.MixfwdRefIdeal.main_arg7) = m' ((c.tc : Thread Cert.MixfwdRefIdeal.nD Cert.MixfwdRefIdeal.τ).loc Cert.MixfwdRefIdeal.main_arg7))

def preserves_Convfwd_ConvfwdIdeal : Prop :=
  True

def algebraic_ConvfwdIdeal_ConvfwdRefIdeal [hConvfwdIdeal : Cert.ConvfwdIdeal.Facts] [hConvfwdRefIdeal : Cert.ConvfwdRefIdeal.Facts] : Prop :=
  ∀ (m : (ℓ : Loc Cert.ConvfwdIdeal.nD Cert.ConvfwdIdeal.τ Cert.ConvfwdIdeal.sig) → Buf (Elt Ideal) ℓ) (g : Dev Cert.ConvfwdIdeal.nD → PrngReg)
    (m' : (ℓ : Loc Cert.ConvfwdRefIdeal.nD Cert.ConvfwdRefIdeal.τ Cert.ConvfwdRefIdeal.sig) → Buf (Elt Ideal) ℓ) (g' : Dev Cert.ConvfwdRefIdeal.nD → PrngReg), Pre_ConvfwdIdeal m →
    (∀ c : Dev Cert.ConvfwdIdeal.nD,
      m' ((c.tc : Thread Cert.ConvfwdRefIdeal.nD Cert.ConvfwdRefIdeal.τ).loc Cert.ConvfwdRefIdeal.main_arg0) = m ((c.tc : Thread Cert.ConvfwdIdeal.nD Cert.ConvfwdIdeal.τ).loc Cert.ConvfwdIdeal.main_arg0)
      ∧ m' ((c.tc : Thread Cert.ConvfwdRefIdeal.nD Cert.ConvfwdRefIdeal.τ).loc Cert.ConvfwdRefIdeal.main_arg1) = m ((c.tc : Thread Cert.ConvfwdIdeal.nD Cert.ConvfwdIdeal.τ).loc Cert.ConvfwdIdeal.main_arg1)) →
    ∃ (v0 : (c : Dev Cert.ConvfwdIdeal.nD) → Buf (Elt Ideal) ((c.tc : Thread Cert.ConvfwdIdeal.nD Cert.ConvfwdIdeal.τ).loc Cert.ConvfwdIdeal.main_v0)),
      θ_run (Cert.ConvfwdIdeal.defs (F := Ideal)) (onTc (τ := Cert.ConvfwdIdeal.τ) (Cert.ConvfwdIdeal.main (F := Ideal))) ⟨m, fun _ => 0, g⟩ (fun r => ∀ c : Dev Cert.ConvfwdIdeal.nD,
          r.2.mem ((c.tc : Thread Cert.ConvfwdIdeal.nD Cert.ConvfwdIdeal.τ).loc Cert.ConvfwdIdeal.main_v0) = v0 c
          ∧ r.2.mem ((c.tc : Thread Cert.ConvfwdIdeal.nD Cert.ConvfwdIdeal.τ).loc Cert.ConvfwdIdeal.main_arg0) = m ((c.tc : Thread Cert.ConvfwdIdeal.nD Cert.ConvfwdIdeal.τ).loc Cert.ConvfwdIdeal.main_arg0)
          ∧ r.2.mem ((c.tc : Thread Cert.ConvfwdIdeal.nD Cert.ConvfwdIdeal.τ).loc Cert.ConvfwdIdeal.main_arg1) = m ((c.tc : Thread Cert.ConvfwdIdeal.nD Cert.ConvfwdIdeal.τ).loc Cert.ConvfwdIdeal.main_arg1))
      ∧ θ_run (Cert.ConvfwdRefIdeal.defs (F := Ideal)) (onTc (τ := Cert.ConvfwdRefIdeal.τ) (Cert.ConvfwdRefIdeal.main (F := Ideal))) ⟨m', fun _ => 0, g'⟩ (fun r => ∀ c : Dev Cert.ConvfwdRefIdeal.nD,
          r.2.mem ((c.tc : Thread Cert.ConvfwdRefIdeal.nD Cert.ConvfwdRefIdeal.τ).loc Cert.ConvfwdRefIdeal.main_v29) = v0 c
          ∧ r.2.mem ((c.tc : Thread Cert.ConvfwdRefIdeal.nD Cert.ConvfwdRefIdeal.τ).loc Cert.ConvfwdRefIdeal.main_arg0) = m' ((c.tc : Thread Cert.ConvfwdRefIdeal.nD Cert.ConvfwdRefIdeal.τ).loc Cert.ConvfwdRefIdeal.main_arg0)
          ∧ r.2.mem ((c.tc : Thread Cert.ConvfwdRefIdeal.nD Cert.ConvfwdRefIdeal.τ).loc Cert.ConvfwdRefIdeal.main_arg1) = m' ((c.tc : Thread Cert.ConvfwdRefIdeal.nD Cert.ConvfwdRefIdeal.τ).loc Cert.ConvfwdRefIdeal.main_arg1))

def preserves_Rmsfwd_RmsfwdIdeal : Prop :=
  True

def algebraic_RmsfwdIdeal_RmsfwdRefIdeal [hRmsfwdIdeal : Cert.RmsfwdIdeal.Facts] [hRmsfwdRefIdeal : Cert.RmsfwdRefIdeal.Facts] : Prop :=
  ∀ (m : (ℓ : Loc Cert.RmsfwdIdeal.nD Cert.RmsfwdIdeal.τ Cert.RmsfwdIdeal.sig) → Buf (Elt Ideal) ℓ) (g : Dev Cert.RmsfwdIdeal.nD → PrngReg)
    (m' : (ℓ : Loc Cert.RmsfwdRefIdeal.nD Cert.RmsfwdRefIdeal.τ Cert.RmsfwdRefIdeal.sig) → Buf (Elt Ideal) ℓ) (g' : Dev Cert.RmsfwdRefIdeal.nD → PrngReg), Pre_RmsfwdIdeal m →
    (∀ c : Dev Cert.RmsfwdIdeal.nD,
      m' ((c.tc : Thread Cert.RmsfwdRefIdeal.nD Cert.RmsfwdRefIdeal.τ).loc Cert.RmsfwdRefIdeal.main_arg0) = m ((c.tc : Thread Cert.RmsfwdIdeal.nD Cert.RmsfwdIdeal.τ).loc Cert.RmsfwdIdeal.main_arg0)
      ∧ m' ((c.tc : Thread Cert.RmsfwdRefIdeal.nD Cert.RmsfwdRefIdeal.τ).loc Cert.RmsfwdRefIdeal.main_arg1) = m ((c.tc : Thread Cert.RmsfwdIdeal.nD Cert.RmsfwdIdeal.τ).loc Cert.RmsfwdIdeal.main_arg1)) →
    ∃ (v0 : (c : Dev Cert.RmsfwdIdeal.nD) → Buf (Elt Ideal) ((c.tc : Thread Cert.RmsfwdIdeal.nD Cert.RmsfwdIdeal.τ).loc Cert.RmsfwdIdeal.main_v1)),
      θ_run (Cert.RmsfwdIdeal.defs (F := Ideal)) (onTc (τ := Cert.RmsfwdIdeal.τ) (Cert.RmsfwdIdeal.main (F := Ideal))) ⟨m, fun _ => 0, g⟩ (fun r => ∀ c : Dev Cert.RmsfwdIdeal.nD,
          r.2.mem ((c.tc : Thread Cert.RmsfwdIdeal.nD Cert.RmsfwdIdeal.τ).loc Cert.RmsfwdIdeal.main_v1) = v0 c
          ∧ r.2.mem ((c.tc : Thread Cert.RmsfwdIdeal.nD Cert.RmsfwdIdeal.τ).loc Cert.RmsfwdIdeal.main_arg0) = m ((c.tc : Thread Cert.RmsfwdIdeal.nD Cert.RmsfwdIdeal.τ).loc Cert.RmsfwdIdeal.main_arg0)
          ∧ r.2.mem ((c.tc : Thread Cert.RmsfwdIdeal.nD Cert.RmsfwdIdeal.τ).loc Cert.RmsfwdIdeal.main_arg1) = m ((c.tc : Thread Cert.RmsfwdIdeal.nD Cert.RmsfwdIdeal.τ).loc Cert.RmsfwdIdeal.main_arg1))
      ∧ θ_run (Cert.RmsfwdRefIdeal.defs (F := Ideal)) (onTc (τ := Cert.RmsfwdRefIdeal.τ) (Cert.RmsfwdRefIdeal.main (F := Ideal))) ⟨m', fun _ => 0, g'⟩ (fun r => ∀ c : Dev Cert.RmsfwdRefIdeal.nD,
          r.2.mem ((c.tc : Thread Cert.RmsfwdRefIdeal.nD Cert.RmsfwdRefIdeal.τ).loc Cert.RmsfwdRefIdeal.main_v13) = v0 c
          ∧ r.2.mem ((c.tc : Thread Cert.RmsfwdRefIdeal.nD Cert.RmsfwdRefIdeal.τ).loc Cert.RmsfwdRefIdeal.main_arg0) = m' ((c.tc : Thread Cert.RmsfwdRefIdeal.nD Cert.RmsfwdRefIdeal.τ).loc Cert.RmsfwdRefIdeal.main_arg0)
          ∧ r.2.mem ((c.tc : Thread Cert.RmsfwdRefIdeal.nD Cert.RmsfwdRefIdeal.τ).loc Cert.RmsfwdRefIdeal.main_arg1) = m' ((c.tc : Thread Cert.RmsfwdRefIdeal.nD Cert.RmsfwdRefIdeal.τ).loc Cert.RmsfwdRefIdeal.main_arg1))

def preserves_Mmnn_MmnnIdeal : Prop :=
  True

def algebraic_MmnnIdeal_MmnnRefIdeal [hMmnnIdeal : Cert.MmnnIdeal.Facts] [hMmnnRefIdeal : Cert.MmnnRefIdeal.Facts] : Prop :=
  ∀ (m : (ℓ : Loc Cert.MmnnIdeal.nD Cert.MmnnIdeal.τ Cert.MmnnIdeal.sig) → Buf (Elt Ideal) ℓ) (g : Dev Cert.MmnnIdeal.nD → PrngReg)
    (m' : (ℓ : Loc Cert.MmnnRefIdeal.nD Cert.MmnnRefIdeal.τ Cert.MmnnRefIdeal.sig) → Buf (Elt Ideal) ℓ) (g' : Dev Cert.MmnnRefIdeal.nD → PrngReg), Pre_MmnnIdeal m →
    (∀ c : Dev Cert.MmnnIdeal.nD,
      m' ((c.tc : Thread Cert.MmnnRefIdeal.nD Cert.MmnnRefIdeal.τ).loc Cert.MmnnRefIdeal.main_arg0) = m ((c.tc : Thread Cert.MmnnIdeal.nD Cert.MmnnIdeal.τ).loc Cert.MmnnIdeal.main_arg0)
      ∧ m' ((c.tc : Thread Cert.MmnnRefIdeal.nD Cert.MmnnRefIdeal.τ).loc Cert.MmnnRefIdeal.main_arg1) = m ((c.tc : Thread Cert.MmnnIdeal.nD Cert.MmnnIdeal.τ).loc Cert.MmnnIdeal.main_arg1)) →
    ∃ (v0 : (c : Dev Cert.MmnnIdeal.nD) → Buf (Elt Ideal) ((c.tc : Thread Cert.MmnnIdeal.nD Cert.MmnnIdeal.τ).loc Cert.MmnnIdeal.main_v2)),
      θ_run (Cert.MmnnIdeal.defs (F := Ideal)) (onTc (τ := Cert.MmnnIdeal.τ) (Cert.MmnnIdeal.main (F := Ideal))) ⟨m, fun _ => 0, g⟩ (fun r => ∀ c : Dev Cert.MmnnIdeal.nD,
          r.2.mem ((c.tc : Thread Cert.MmnnIdeal.nD Cert.MmnnIdeal.τ).loc Cert.MmnnIdeal.main_v2) = v0 c
          ∧ r.2.mem ((c.tc : Thread Cert.MmnnIdeal.nD Cert.MmnnIdeal.τ).loc Cert.MmnnIdeal.main_arg0) = m ((c.tc : Thread Cert.MmnnIdeal.nD Cert.MmnnIdeal.τ).loc Cert.MmnnIdeal.main_arg0)
          ∧ r.2.mem ((c.tc : Thread Cert.MmnnIdeal.nD Cert.MmnnIdeal.τ).loc Cert.MmnnIdeal.main_arg1) = m ((c.tc : Thread Cert.MmnnIdeal.nD Cert.MmnnIdeal.τ).loc Cert.MmnnIdeal.main_arg1))
      ∧ θ_run (Cert.MmnnRefIdeal.defs (F := Ideal)) (onTc (τ := Cert.MmnnRefIdeal.τ) (Cert.MmnnRefIdeal.main (F := Ideal))) ⟨m', fun _ => 0, g'⟩ (fun r => ∀ c : Dev Cert.MmnnRefIdeal.nD,
          r.2.mem ((c.tc : Thread Cert.MmnnRefIdeal.nD Cert.MmnnRefIdeal.τ).loc Cert.MmnnRefIdeal.main_v5) = v0 c
          ∧ r.2.mem ((c.tc : Thread Cert.MmnnRefIdeal.nD Cert.MmnnRefIdeal.τ).loc Cert.MmnnRefIdeal.main_arg0) = m' ((c.tc : Thread Cert.MmnnRefIdeal.nD Cert.MmnnRefIdeal.τ).loc Cert.MmnnRefIdeal.main_arg0)
          ∧ r.2.mem ((c.tc : Thread Cert.MmnnRefIdeal.nD Cert.MmnnRefIdeal.τ).loc Cert.MmnnRefIdeal.main_arg1) = m' ((c.tc : Thread Cert.MmnnRefIdeal.nD Cert.MmnnRefIdeal.τ).loc Cert.MmnnRefIdeal.main_arg1))

def preserves_Mmtna_MmtnaIdeal : Prop :=
  True

def algebraic_MmtnaIdeal_MmtnaRefIdeal [hMmtnaIdeal : Cert.MmtnaIdeal.Facts] [hMmtnaRefIdeal : Cert.MmtnaRefIdeal.Facts] : Prop :=
  ∀ (m : (ℓ : Loc Cert.MmtnaIdeal.nD Cert.MmtnaIdeal.τ Cert.MmtnaIdeal.sig) → Buf (Elt Ideal) ℓ) (g : Dev Cert.MmtnaIdeal.nD → PrngReg)
    (m' : (ℓ : Loc Cert.MmtnaRefIdeal.nD Cert.MmtnaRefIdeal.τ Cert.MmtnaRefIdeal.sig) → Buf (Elt Ideal) ℓ) (g' : Dev Cert.MmtnaRefIdeal.nD → PrngReg), Pre_MmtnaIdeal m →
    (∀ c : Dev Cert.MmtnaIdeal.nD,
      m' ((c.tc : Thread Cert.MmtnaRefIdeal.nD Cert.MmtnaRefIdeal.τ).loc Cert.MmtnaRefIdeal.main_arg0) = m ((c.tc : Thread Cert.MmtnaIdeal.nD Cert.MmtnaIdeal.τ).loc Cert.MmtnaIdeal.main_arg0)
      ∧ m' ((c.tc : Thread Cert.MmtnaRefIdeal.nD Cert.MmtnaRefIdeal.τ).loc Cert.MmtnaRefIdeal.main_arg1) = m ((c.tc : Thread Cert.MmtnaIdeal.nD Cert.MmtnaIdeal.τ).loc Cert.MmtnaIdeal.main_arg1)
      ∧ m' ((c.tc : Thread Cert.MmtnaRefIdeal.nD Cert.MmtnaRefIdeal.τ).loc Cert.MmtnaRefIdeal.main_arg2) = m ((c.tc : Thread Cert.MmtnaIdeal.nD Cert.MmtnaIdeal.τ).loc Cert.MmtnaIdeal.main_arg2)) →
    ∃ (v0 : (c : Dev Cert.MmtnaIdeal.nD) → Buf (Elt Ideal) ((c.tc : Thread Cert.MmtnaIdeal.nD Cert.MmtnaIdeal.τ).loc Cert.MmtnaIdeal.main_v2)),
      θ_run (Cert.MmtnaIdeal.defs (F := Ideal)) (onTc (τ := Cert.MmtnaIdeal.τ) (Cert.MmtnaIdeal.main (F := Ideal))) ⟨m, fun _ => 0, g⟩ (fun r => ∀ c : Dev Cert.MmtnaIdeal.nD,
          r.2.mem ((c.tc : Thread Cert.MmtnaIdeal.nD Cert.MmtnaIdeal.τ).loc Cert.MmtnaIdeal.main_v2) = v0 c
          ∧ r.2.mem ((c.tc : Thread Cert.MmtnaIdeal.nD Cert.MmtnaIdeal.τ).loc Cert.MmtnaIdeal.main_arg0) = m ((c.tc : Thread Cert.MmtnaIdeal.nD Cert.MmtnaIdeal.τ).loc Cert.MmtnaIdeal.main_arg0)
          ∧ r.2.mem ((c.tc : Thread Cert.MmtnaIdeal.nD Cert.MmtnaIdeal.τ).loc Cert.MmtnaIdeal.main_arg1) = m ((c.tc : Thread Cert.MmtnaIdeal.nD Cert.MmtnaIdeal.τ).loc Cert.MmtnaIdeal.main_arg1)
          ∧ r.2.mem ((c.tc : Thread Cert.MmtnaIdeal.nD Cert.MmtnaIdeal.τ).loc Cert.MmtnaIdeal.main_arg2) = m ((c.tc : Thread Cert.MmtnaIdeal.nD Cert.MmtnaIdeal.τ).loc Cert.MmtnaIdeal.main_arg2))
      ∧ θ_run (Cert.MmtnaRefIdeal.defs (F := Ideal)) (onTc (τ := Cert.MmtnaRefIdeal.τ) (Cert.MmtnaRefIdeal.main (F := Ideal))) ⟨m', fun _ => 0, g'⟩ (fun r => ∀ c : Dev Cert.MmtnaRefIdeal.nD,
          r.2.mem ((c.tc : Thread Cert.MmtnaRefIdeal.nD Cert.MmtnaRefIdeal.τ).loc Cert.MmtnaRefIdeal.main_v8) = v0 c
          ∧ r.2.mem ((c.tc : Thread Cert.MmtnaRefIdeal.nD Cert.MmtnaRefIdeal.τ).loc Cert.MmtnaRefIdeal.main_arg0) = m' ((c.tc : Thread Cert.MmtnaRefIdeal.nD Cert.MmtnaRefIdeal.τ).loc Cert.MmtnaRefIdeal.main_arg0)
          ∧ r.2.mem ((c.tc : Thread Cert.MmtnaRefIdeal.nD Cert.MmtnaRefIdeal.τ).loc Cert.MmtnaRefIdeal.main_arg1) = m' ((c.tc : Thread Cert.MmtnaRefIdeal.nD Cert.MmtnaRefIdeal.τ).loc Cert.MmtnaRefIdeal.main_arg1)
          ∧ r.2.mem ((c.tc : Thread Cert.MmtnaRefIdeal.nD Cert.MmtnaRefIdeal.τ).loc Cert.MmtnaRefIdeal.main_arg2) = m' ((c.tc : Thread Cert.MmtnaRefIdeal.nD Cert.MmtnaRefIdeal.τ).loc Cert.MmtnaRefIdeal.main_arg2))

def preserves_Mmtn_MmtnIdeal : Prop :=
  True

def algebraic_MmtnIdeal_MmtnRefIdeal [hMmtnIdeal : Cert.MmtnIdeal.Facts] [hMmtnRefIdeal : Cert.MmtnRefIdeal.Facts] : Prop :=
  ∀ (m : (ℓ : Loc Cert.MmtnIdeal.nD Cert.MmtnIdeal.τ Cert.MmtnIdeal.sig) → Buf (Elt Ideal) ℓ) (g : Dev Cert.MmtnIdeal.nD → PrngReg)
    (m' : (ℓ : Loc Cert.MmtnRefIdeal.nD Cert.MmtnRefIdeal.τ Cert.MmtnRefIdeal.sig) → Buf (Elt Ideal) ℓ) (g' : Dev Cert.MmtnRefIdeal.nD → PrngReg), Pre_MmtnIdeal m →
    (∀ c : Dev Cert.MmtnIdeal.nD,
      m' ((c.tc : Thread Cert.MmtnRefIdeal.nD Cert.MmtnRefIdeal.τ).loc Cert.MmtnRefIdeal.main_arg0) = m ((c.tc : Thread Cert.MmtnIdeal.nD Cert.MmtnIdeal.τ).loc Cert.MmtnIdeal.main_arg0)
      ∧ m' ((c.tc : Thread Cert.MmtnRefIdeal.nD Cert.MmtnRefIdeal.τ).loc Cert.MmtnRefIdeal.main_arg1) = m ((c.tc : Thread Cert.MmtnIdeal.nD Cert.MmtnIdeal.τ).loc Cert.MmtnIdeal.main_arg1)
      ∧ m' ((c.tc : Thread Cert.MmtnRefIdeal.nD Cert.MmtnRefIdeal.τ).loc Cert.MmtnRefIdeal.main_arg2) = m ((c.tc : Thread Cert.MmtnIdeal.nD Cert.MmtnIdeal.τ).loc Cert.MmtnIdeal.main_arg2)) →
    ∃ (v0 : (c : Dev Cert.MmtnIdeal.nD) → Buf (Elt Ideal) ((c.tc : Thread Cert.MmtnIdeal.nD Cert.MmtnIdeal.τ).loc Cert.MmtnIdeal.main_v0)),
      θ_run (Cert.MmtnIdeal.defs (F := Ideal)) (onTc (τ := Cert.MmtnIdeal.τ) (Cert.MmtnIdeal.main (F := Ideal))) ⟨m, fun _ => 0, g⟩ (fun r => ∀ c : Dev Cert.MmtnIdeal.nD,
          r.2.mem ((c.tc : Thread Cert.MmtnIdeal.nD Cert.MmtnIdeal.τ).loc Cert.MmtnIdeal.main_v0) = v0 c
          ∧ r.2.mem ((c.tc : Thread Cert.MmtnIdeal.nD Cert.MmtnIdeal.τ).loc Cert.MmtnIdeal.main_arg0) = m ((c.tc : Thread Cert.MmtnIdeal.nD Cert.MmtnIdeal.τ).loc Cert.MmtnIdeal.main_arg0)
          ∧ r.2.mem ((c.tc : Thread Cert.MmtnIdeal.nD Cert.MmtnIdeal.τ).loc Cert.MmtnIdeal.main_arg1) = m ((c.tc : Thread Cert.MmtnIdeal.nD Cert.MmtnIdeal.τ).loc Cert.MmtnIdeal.main_arg1)
          ∧ r.2.mem ((c.tc : Thread Cert.MmtnIdeal.nD Cert.MmtnIdeal.τ).loc Cert.MmtnIdeal.main_arg2) = m ((c.tc : Thread Cert.MmtnIdeal.nD Cert.MmtnIdeal.τ).loc Cert.MmtnIdeal.main_arg2))
      ∧ θ_run (Cert.MmtnRefIdeal.defs (F := Ideal)) (onTc (τ := Cert.MmtnRefIdeal.τ) (Cert.MmtnRefIdeal.main (F := Ideal))) ⟨m', fun _ => 0, g'⟩ (fun r => ∀ c : Dev Cert.MmtnRefIdeal.nD,
          r.2.mem ((c.tc : Thread Cert.MmtnRefIdeal.nD Cert.MmtnRefIdeal.τ).loc Cert.MmtnRefIdeal.main_v9) = v0 c
          ∧ r.2.mem ((c.tc : Thread Cert.MmtnRefIdeal.nD Cert.MmtnRefIdeal.τ).loc Cert.MmtnRefIdeal.main_arg0) = m' ((c.tc : Thread Cert.MmtnRefIdeal.nD Cert.MmtnRefIdeal.τ).loc Cert.MmtnRefIdeal.main_arg0)
          ∧ r.2.mem ((c.tc : Thread Cert.MmtnRefIdeal.nD Cert.MmtnRefIdeal.τ).loc Cert.MmtnRefIdeal.main_arg1) = m' ((c.tc : Thread Cert.MmtnRefIdeal.nD Cert.MmtnRefIdeal.τ).loc Cert.MmtnRefIdeal.main_arg1)
          ∧ r.2.mem ((c.tc : Thread Cert.MmtnRefIdeal.nD Cert.MmtnRefIdeal.τ).loc Cert.MmtnRefIdeal.main_arg2) = m' ((c.tc : Thread Cert.MmtnRefIdeal.nD Cert.MmtnRefIdeal.τ).loc Cert.MmtnRefIdeal.main_arg2))

def preserves_Sumdev_SumdevIdeal : Prop :=
  True

def algebraic_SumdevIdeal_SumdevRefIdeal [hSumdevIdeal : Cert.SumdevIdeal.Facts] [hSumdevRefIdeal : Cert.SumdevRefIdeal.Facts] : Prop :=
  ∀ (m : (ℓ : Loc Cert.SumdevIdeal.nD Cert.SumdevIdeal.τ Cert.SumdevIdeal.sig) → Buf (Elt Ideal) ℓ) (g : Dev Cert.SumdevIdeal.nD → PrngReg)
    (m' : (ℓ : Loc Cert.SumdevRefIdeal.nD Cert.SumdevRefIdeal.τ Cert.SumdevRefIdeal.sig) → Buf (Elt Ideal) ℓ) (g' : Dev Cert.SumdevRefIdeal.nD → PrngReg), Pre_SumdevIdeal m →
    (∀ c : Dev Cert.SumdevIdeal.nD,
      m' ((c.tc : Thread Cert.SumdevRefIdeal.nD Cert.SumdevRefIdeal.τ).loc Cert.SumdevRefIdeal.main_arg0) = m ((c.tc : Thread Cert.SumdevIdeal.nD Cert.SumdevIdeal.τ).loc Cert.SumdevIdeal.main_arg0)) →
    ∃ (v0 : (c : Dev Cert.SumdevIdeal.nD) → Buf (Elt Ideal) ((c.tc : Thread Cert.SumdevIdeal.nD Cert.SumdevIdeal.τ).loc Cert.SumdevIdeal.main_v0)),
      θ_run (Cert.SumdevIdeal.defs (F := Ideal)) (onTc (τ := Cert.SumdevIdeal.τ) (Cert.SumdevIdeal.main (F := Ideal))) ⟨m, fun _ => 0, g⟩ (fun r => ∀ c : Dev Cert.SumdevIdeal.nD,
          r.2.mem ((c.tc : Thread Cert.SumdevIdeal.nD Cert.SumdevIdeal.τ).loc Cert.SumdevIdeal.main_v0) = v0 c
          ∧ r.2.mem ((c.tc : Thread Cert.SumdevIdeal.nD Cert.SumdevIdeal.τ).loc Cert.SumdevIdeal.main_arg0) = m ((c.tc : Thread Cert.SumdevIdeal.nD Cert.SumdevIdeal.τ).loc Cert.SumdevIdeal.main_arg0))
      ∧ θ_run (Cert.SumdevRefIdeal.defs (F := Ideal)) (onTc (τ := Cert.SumdevRefIdeal.τ) (Cert.SumdevRefIdeal.main (F := Ideal))) ⟨m', fun _ => 0, g'⟩ (fun r => ∀ c : Dev Cert.SumdevRefIdeal.nD,
          r.2.mem ((c.tc : Thread Cert.SumdevRefIdeal.nD Cert.SumdevRefIdeal.τ).loc Cert.SumdevRefIdeal.main_v0) = v0 c
          ∧ r.2.mem ((c.tc : Thread Cert.SumdevRefIdeal.nD Cert.SumdevRefIdeal.τ).loc Cert.SumdevRefIdeal.main_arg0) = m' ((c.tc : Thread Cert.SumdevRefIdeal.nD Cert.SumdevRefIdeal.τ).loc Cert.SumdevRefIdeal.main_arg0))

def preserves_Adambig_AdambigIdeal : Prop :=
  True

def algebraic_AdambigIdeal_AdambigRefIdeal [hAdambigIdeal : Cert.AdambigIdeal.Facts] [hAdambigRefIdeal : Cert.AdambigRefIdeal.Facts] [hPre_adambig_chip : Cert.Pre_adambig_chip.Facts] : Prop :=
  ∀ (m : (ℓ : Loc Cert.AdambigIdeal.nD Cert.AdambigIdeal.τ Cert.AdambigIdeal.sig) → Buf (Elt Ideal) ℓ) (g : Dev Cert.AdambigIdeal.nD → PrngReg)
    (m' : (ℓ : Loc Cert.AdambigRefIdeal.nD Cert.AdambigRefIdeal.τ Cert.AdambigRefIdeal.sig) → Buf (Elt Ideal) ℓ) (g' : Dev Cert.AdambigRefIdeal.nD → PrngReg), Pre_AdambigIdeal m →
    (∀ c : Dev Cert.AdambigIdeal.nD,
      m' ((c.tc : Thread Cert.AdambigRefIdeal.nD Cert.AdambigRefIdeal.τ).loc Cert.AdambigRefIdeal.main_arg0) = m ((c.tc : Thread Cert.AdambigIdeal.nD Cert.AdambigIdeal.τ).loc Cert.AdambigIdeal.main_arg0)
      ∧ m' ((c.tc : Thread Cert.AdambigRefIdeal.nD Cert.AdambigRefIdeal.τ).loc Cert.AdambigRefIdeal.main_arg1) = m ((c.tc : Thread Cert.AdambigIdeal.nD Cert.AdambigIdeal.τ).loc Cert.AdambigIdeal.main_arg1)
      ∧ m' ((c.tc : Thread Cert.AdambigRefIdeal.nD Cert.AdambigRefIdeal.τ).loc Cert.AdambigRefIdeal.main_arg2) = m ((c.tc : Thread Cert.AdambigIdeal.nD Cert.AdambigIdeal.τ).loc Cert.AdambigIdeal.main_arg2)
      ∧ m' ((c.tc : Thread Cert.AdambigRefIdeal.nD Cert.AdambigRefIdeal.τ).loc Cert.AdambigRefIdeal.main_arg3) = m ((c.tc : Thread Cert.AdambigIdeal.nD Cert.AdambigIdeal.τ).loc Cert.AdambigIdeal.main_arg3)
      ∧ m' ((c.tc : Thread Cert.AdambigRefIdeal.nD Cert.AdambigRefIdeal.τ).loc Cert.AdambigRefIdeal.main_arg4) = m ((c.tc : Thread Cert.AdambigIdeal.nD Cert.AdambigIdeal.τ).loc Cert.AdambigIdeal.main_arg4)
      ∧ m' ((c.tc : Thread Cert.AdambigRefIdeal.nD Cert.AdambigRefIdeal.τ).loc Cert.AdambigRefIdeal.main_arg5) = m ((c.tc : Thread Cert.AdambigIdeal.nD Cert.AdambigIdeal.τ).loc Cert.AdambigIdeal.main_arg5)) →
    ∃ (v0 : (c : Dev Cert.AdambigIdeal.nD) → Buf (Elt Ideal) ((c.tc : Thread Cert.AdambigIdeal.nD Cert.AdambigIdeal.τ).loc Cert.AdambigIdeal.main_v0_0)) (v1 : (c : Dev Cert.AdambigIdeal.nD) → Buf (Elt Ideal) ((c.tc : Thread Cert.AdambigIdeal.nD Cert.AdambigIdeal.τ).loc Cert.AdambigIdeal.main_v0_1)) (v2 : (c : Dev Cert.AdambigIdeal.nD) → Buf (Elt Ideal) ((c.tc : Thread Cert.AdambigIdeal.nD Cert.AdambigIdeal.τ).loc Cert.AdambigIdeal.main_v0_2)) (v3 : (c : Dev Cert.AdambigIdeal.nD) → Buf (Elt Ideal) ((c.tc : Thread Cert.AdambigIdeal.nD Cert.AdambigIdeal.τ).loc Cert.AdambigIdeal.main_v0_3)),
      θ_run (Cert.AdambigIdeal.defs (F := Ideal)) (onTc (τ := Cert.AdambigIdeal.τ) (Cert.AdambigIdeal.main (F := Ideal))) ⟨m, fun _ => 0, g⟩ (fun r => ∀ c : Dev Cert.AdambigIdeal.nD,
          r.2.mem ((c.tc : Thread Cert.AdambigIdeal.nD Cert.AdambigIdeal.τ).loc Cert.AdambigIdeal.main_v0_0) = v0 c
          ∧ r.2.mem ((c.tc : Thread Cert.AdambigIdeal.nD Cert.AdambigIdeal.τ).loc Cert.AdambigIdeal.main_v0_1) = v1 c
          ∧ r.2.mem ((c.tc : Thread Cert.AdambigIdeal.nD Cert.AdambigIdeal.τ).loc Cert.AdambigIdeal.main_v0_2) = v2 c
          ∧ r.2.mem ((c.tc : Thread Cert.AdambigIdeal.nD Cert.AdambigIdeal.τ).loc Cert.AdambigIdeal.main_v0_3) = v3 c
          ∧ r.2.mem ((c.tc : Thread Cert.AdambigIdeal.nD Cert.AdambigIdeal.τ).loc Cert.AdambigIdeal.main_arg0) = m ((c.tc : Thread Cert.AdambigIdeal.nD Cert.AdambigIdeal.τ).loc Cert.AdambigIdeal.main_arg0)
          ∧ r.2.mem ((c.tc : Thread Cert.AdambigIdeal.nD Cert.AdambigIdeal.τ).loc Cert.AdambigIdeal.main_arg1) = m ((c.tc : Thread Cert.AdambigIdeal.nD Cert.AdambigIdeal.τ).loc Cert.AdambigIdeal.main_arg1)
          ∧ r.2.mem ((c.tc : Thread Cert.AdambigIdeal.nD Cert.AdambigIdeal.τ).loc Cert.AdambigIdeal.main_arg2) = m ((c.tc : Thread Cert.AdambigIdeal.nD Cert.AdambigIdeal.τ).loc Cert.AdambigIdeal.main_arg2)
          ∧ r.2.mem ((c.tc : Thread Cert.AdambigIdeal.nD Cert.AdambigIdeal.τ).loc Cert.AdambigIdeal.main_arg3) = m ((c.tc : Thread Cert.AdambigIdeal.nD Cert.AdambigIdeal.τ).loc Cert.AdambigIdeal.main_arg3)
          ∧ r.2.mem ((c.tc : Thread Cert.AdambigIdeal.nD Cert.AdambigIdeal.τ).loc Cert.AdambigIdeal.main_arg4) = m ((c.tc : Thread Cert.AdambigIdeal.nD Cert.AdambigIdeal.τ).loc Cert.AdambigIdeal.main_arg4)
          ∧ r.2.mem ((c.tc : Thread Cert.AdambigIdeal.nD Cert.AdambigIdeal.τ).loc Cert.AdambigIdeal.main_arg5) = m ((c.tc : Thread Cert.AdambigIdeal.nD Cert.AdambigIdeal.τ).loc Cert.AdambigIdeal.main_arg5))
      ∧ θ_run (Cert.AdambigRefIdeal.defs (F := Ideal)) (onTc (τ := Cert.AdambigRefIdeal.τ) (Cert.AdambigRefIdeal.main (F := Ideal))) ⟨m', fun _ => 0, g'⟩ (fun r => ∀ c : Dev Cert.AdambigRefIdeal.nD,
          r.2.mem ((c.tc : Thread Cert.AdambigRefIdeal.nD Cert.AdambigRefIdeal.τ).loc Cert.AdambigRefIdeal.main_v20) = v0 c
          ∧ r.2.mem ((c.tc : Thread Cert.AdambigRefIdeal.nD Cert.AdambigRefIdeal.τ).loc Cert.AdambigRefIdeal.main_v44) = v1 c
          ∧ r.2.mem ((c.tc : Thread Cert.AdambigRefIdeal.nD Cert.AdambigRefIdeal.τ).loc Cert.AdambigRefIdeal.main_v25) = v2 c
          ∧ r.2.mem ((c.tc : Thread Cert.AdambigRefIdeal.nD Cert.AdambigRefIdeal.τ).loc Cert.AdambigRefIdeal.main_v31) = v3 c
          ∧ r.2.mem ((c.tc : Thread Cert.AdambigRefIdeal.nD Cert.AdambigRefIdeal.τ).loc Cert.AdambigRefIdeal.main_arg0) = m' ((c.tc : Thread Cert.AdambigRefIdeal.nD Cert.AdambigRefIdeal.τ).loc Cert.AdambigRefIdeal.main_arg0)
          ∧ r.2.mem ((c.tc : Thread Cert.AdambigRefIdeal.nD Cert.AdambigRefIdeal.τ).loc Cert.AdambigRefIdeal.main_arg1) = m' ((c.tc : Thread Cert.AdambigRefIdeal.nD Cert.AdambigRefIdeal.τ).loc Cert.AdambigRefIdeal.main_arg1)
          ∧ r.2.mem ((c.tc : Thread Cert.AdambigRefIdeal.nD Cert.AdambigRefIdeal.τ).loc Cert.AdambigRefIdeal.main_arg2) = m' ((c.tc : Thread Cert.AdambigRefIdeal.nD Cert.AdambigRefIdeal.τ).loc Cert.AdambigRefIdeal.main_arg2)
          ∧ r.2.mem ((c.tc : Thread Cert.AdambigRefIdeal.nD Cert.AdambigRefIdeal.τ).loc Cert.AdambigRefIdeal.main_arg3) = m' ((c.tc : Thread Cert.AdambigRefIdeal.nD Cert.AdambigRefIdeal.τ).loc Cert.AdambigRefIdeal.main_arg3)
          ∧ r.2.mem ((c.tc : Thread Cert.AdambigRefIdeal.nD Cert.AdambigRefIdeal.τ).loc Cert.AdambigRefIdeal.main_arg4) = m' ((c.tc : Thread Cert.AdambigRefIdeal.nD Cert.AdambigRefIdeal.τ).loc Cert.AdambigRefIdeal.main_arg4)
          ∧ r.2.mem ((c.tc : Thread Cert.AdambigRefIdeal.nD Cert.AdambigRefIdeal.τ).loc Cert.AdambigRefIdeal.main_arg5) = m' ((c.tc : Thread Cert.AdambigRefIdeal.nD Cert.AdambigRefIdeal.τ).loc Cert.AdambigRefIdeal.main_arg5))

def preserves_Sumsib_SumsibIdeal : Prop :=
  True

def algebraic_SumsibIdeal_SumsibRefIdeal [hSumsibIdeal : Cert.SumsibIdeal.Facts] [hSumsibRefIdeal : Cert.SumsibRefIdeal.Facts] [hPre_sumsib_core : Cert.Pre_sumsib_core.Facts] : Prop :=
  ∀ (m : (ℓ : Loc Cert.SumsibIdeal.nD Cert.SumsibIdeal.τ Cert.SumsibIdeal.sig) → Buf (Elt Ideal) ℓ) (g : Dev Cert.SumsibIdeal.nD → PrngReg)
    (m' : (ℓ : Loc Cert.SumsibRefIdeal.nD Cert.SumsibRefIdeal.τ Cert.SumsibRefIdeal.sig) → Buf (Elt Ideal) ℓ) (g' : Dev Cert.SumsibRefIdeal.nD → PrngReg), Pre_SumsibIdeal m →
    (∀ c : Dev Cert.SumsibIdeal.nD,
      m' ((c.tc : Thread Cert.SumsibRefIdeal.nD Cert.SumsibRefIdeal.τ).loc Cert.SumsibRefIdeal.main_arg0) = m ((c.tc : Thread Cert.SumsibIdeal.nD Cert.SumsibIdeal.τ).loc Cert.SumsibIdeal.main_arg0)
      ∧ m' ((c.tc : Thread Cert.SumsibRefIdeal.nD Cert.SumsibRefIdeal.τ).loc Cert.SumsibRefIdeal.main_arg1) = m ((c.tc : Thread Cert.SumsibIdeal.nD Cert.SumsibIdeal.τ).loc Cert.SumsibIdeal.main_arg1)
      ∧ m' ((c.tc : Thread Cert.SumsibRefIdeal.nD Cert.SumsibRefIdeal.τ).loc Cert.SumsibRefIdeal.main_arg2) = m ((c.tc : Thread Cert.SumsibIdeal.nD Cert.SumsibIdeal.τ).loc Cert.SumsibIdeal.main_arg2)) →
    ∃ (v0 : (c : Dev Cert.SumsibIdeal.nD) → Buf (Elt Ideal) ((c.tc : Thread Cert.SumsibIdeal.nD Cert.SumsibIdeal.τ).loc Cert.SumsibIdeal.main_v0)),
      θ_run (Cert.SumsibIdeal.defs (F := Ideal)) (onTc (τ := Cert.SumsibIdeal.τ) (Cert.SumsibIdeal.main (F := Ideal))) ⟨m, fun _ => 0, g⟩ (fun r => ∀ c : Dev Cert.SumsibIdeal.nD,
          r.2.mem ((c.tc : Thread Cert.SumsibIdeal.nD Cert.SumsibIdeal.τ).loc Cert.SumsibIdeal.main_v0) = v0 c
          ∧ r.2.mem ((c.tc : Thread Cert.SumsibIdeal.nD Cert.SumsibIdeal.τ).loc Cert.SumsibIdeal.main_arg0) = m ((c.tc : Thread Cert.SumsibIdeal.nD Cert.SumsibIdeal.τ).loc Cert.SumsibIdeal.main_arg0)
          ∧ r.2.mem ((c.tc : Thread Cert.SumsibIdeal.nD Cert.SumsibIdeal.τ).loc Cert.SumsibIdeal.main_arg1) = m ((c.tc : Thread Cert.SumsibIdeal.nD Cert.SumsibIdeal.τ).loc Cert.SumsibIdeal.main_arg1)
          ∧ r.2.mem ((c.tc : Thread Cert.SumsibIdeal.nD Cert.SumsibIdeal.τ).loc Cert.SumsibIdeal.main_arg2) = m ((c.tc : Thread Cert.SumsibIdeal.nD Cert.SumsibIdeal.τ).loc Cert.SumsibIdeal.main_arg2))
      ∧ θ_run (Cert.SumsibRefIdeal.defs (F := Ideal)) (onTc (τ := Cert.SumsibRefIdeal.τ) (Cert.SumsibRefIdeal.main (F := Ideal))) ⟨m', fun _ => 0, g'⟩ (fun r => ∀ c : Dev Cert.SumsibRefIdeal.nD,
          r.2.mem ((c.tc : Thread Cert.SumsibRefIdeal.nD Cert.SumsibRefIdeal.τ).loc Cert.SumsibRefIdeal.main_v11) = v0 c
          ∧ r.2.mem ((c.tc : Thread Cert.SumsibRefIdeal.nD Cert.SumsibRefIdeal.τ).loc Cert.SumsibRefIdeal.main_arg0) = m' ((c.tc : Thread Cert.SumsibRefIdeal.nD Cert.SumsibRefIdeal.τ).loc Cert.SumsibRefIdeal.main_arg0)
          ∧ r.2.mem ((c.tc : Thread Cert.SumsibRefIdeal.nD Cert.SumsibRefIdeal.τ).loc Cert.SumsibRefIdeal.main_arg1) = m' ((c.tc : Thread Cert.SumsibRefIdeal.nD Cert.SumsibRefIdeal.τ).loc Cert.SumsibRefIdeal.main_arg1)
          ∧ r.2.mem ((c.tc : Thread Cert.SumsibRefIdeal.nD Cert.SumsibRefIdeal.τ).loc Cert.SumsibRefIdeal.main_arg2) = m' ((c.tc : Thread Cert.SumsibRefIdeal.nD Cert.SumsibRefIdeal.τ).loc Cert.SumsibRefIdeal.main_arg2))

def Claim : Prop :=
  ∃ (hSb : Cert.Sb.Facts) (hSbIdeal : Cert.SbIdeal.Facts) (hSbRefIdeal : Cert.SbRefIdeal.Facts) (hMerge : Cert.Merge.Facts) (hMergeIdeal : Cert.MergeIdeal.Facts) (hMergeRefIdeal : Cert.MergeRefIdeal.Facts) (hConv : Cert.Conv.Facts) (hConvIdeal : Cert.ConvIdeal.Facts) (hConvRefIdeal : Cert.ConvRefIdeal.Facts) (hMemattn : Cert.Memattn.Facts) (hMemattnIdeal : Cert.MemattnIdeal.Facts) (hMemattnRefIdeal : Cert.MemattnRefIdeal.Facts) (hLoss : Cert.Loss.Facts) (hLossIdeal : Cert.LossIdeal.Facts) (hLossRefIdeal : Cert.LossRefIdeal.Facts) (hFfnIn : Cert.FfnIn.Facts) (hFfnInIdeal : Cert.FfnInIdeal.Facts) (hFfnInRefIdeal : Cert.FfnInRefIdeal.Facts) (hMemKv : Cert.MemKv.Facts) (hMemKvIdeal : Cert.MemKvIdeal.Facts) (hMemKvRefIdeal : Cert.MemKvRefIdeal.Facts) (hGain : Cert.Gain.Facts) (hGainIdeal : Cert.GainIdeal.Facts) (hGainRefIdeal : Cert.GainRefIdeal.Facts) (hRms : Cert.Rms.Facts) (hRmsIdeal : Cert.RmsIdeal.Facts) (hRmsRefIdeal : Cert.RmsRefIdeal.Facts) (hSwiglu : Cert.Swiglu.Facts) (hSwigluIdeal : Cert.SwigluIdeal.Facts) (hSwigluRefIdeal : Cert.SwigluRefIdeal.Facts) (hMemfwd : Cert.Memfwd.Facts) (hMemfwdIdeal : Cert.MemfwdIdeal.Facts) (hMemfwdRefIdeal : Cert.MemfwdRefIdeal.Facts) (hMixfwd : Cert.Mixfwd.Facts) (hMixfwdIdeal : Cert.MixfwdIdeal.Facts) (hMixfwdRefIdeal : Cert.MixfwdRefIdeal.Facts) (hConvfwd : Cert.Convfwd.Facts) (hConvfwdIdeal : Cert.ConvfwdIdeal.Facts) (hConvfwdRefIdeal : Cert.ConvfwdRefIdeal.Facts) (hRmsfwd : Cert.Rmsfwd.Facts) (hRmsfwdIdeal : Cert.RmsfwdIdeal.Facts) (hRmsfwdRefIdeal : Cert.RmsfwdRefIdeal.Facts) (hMmnn : Cert.Mmnn.Facts) (hMmnnIdeal : Cert.MmnnIdeal.Facts) (hMmnnRefIdeal : Cert.MmnnRefIdeal.Facts) (hMmtna : Cert.Mmtna.Facts) (hMmtnaIdeal : Cert.MmtnaIdeal.Facts) (hMmtnaRefIdeal : Cert.MmtnaRefIdeal.Facts) (hMmtn : Cert.Mmtn.Facts) (hMmtnIdeal : Cert.MmtnIdeal.Facts) (hMmtnRefIdeal : Cert.MmtnRefIdeal.Facts) (hSumdev : Cert.Sumdev.Facts) (hSumdevIdeal : Cert.SumdevIdeal.Facts) (hSumdevRefIdeal : Cert.SumdevRefIdeal.Facts) (hAdambig : Cert.Adambig.Facts) (hAdambigIdeal : Cert.AdambigIdeal.Facts) (hAdambigRefIdeal : Cert.AdambigRefIdeal.Facts) (hSumsib : Cert.Sumsib.Facts) (hSumsibIdeal : Cert.SumsibIdeal.Facts) (hSumsibRefIdeal : Cert.SumsibRefIdeal.Facts) (hPre_memattn_finite : Cert.Pre_memattn_finite.Facts) (hPre_loss_finite : Cert.Pre_loss_finite.Facts) (hPre_ffn_in_finite : Cert.Pre_ffn_in_finite.Facts) (hPre_mem_kv_finite : Cert.Pre_mem_kv_finite.Facts) (hPre_rms_finite : Cert.Pre_rms_finite.Facts) (hPre_swiglu_finite : Cert.Pre_swiglu_finite.Facts) (hPre_adambig_chip : Cert.Pre_adambig_chip.Facts) (hPre_sumsib_core : Cert.Pre_sumsib_core.Facts),
    quiescent_Sb (hSb := hSb)
    ∧ quiescent_SbIdeal (hSbIdeal := hSbIdeal)
    ∧ quiescent_SbRefIdeal (hSbRefIdeal := hSbRefIdeal)
    ∧ quiescent_Merge (hMerge := hMerge)
    ∧ quiescent_MergeIdeal (hMergeIdeal := hMergeIdeal)
    ∧ quiescent_MergeRefIdeal (hMergeRefIdeal := hMergeRefIdeal)
    ∧ quiescent_Conv (hConv := hConv)
    ∧ quiescent_ConvIdeal (hConvIdeal := hConvIdeal)
    ∧ quiescent_ConvRefIdeal (hConvRefIdeal := hConvRefIdeal)
    ∧ quiescent_Memattn (hMemattn := hMemattn)
    ∧ quiescent_MemattnIdeal (hMemattnIdeal := hMemattnIdeal)
    ∧ quiescent_MemattnIdeal_pre_memattn_finite (hMemattnIdeal := hMemattnIdeal) (hPre_memattn_finite := hPre_memattn_finite)
    ∧ quiescent_MemattnRefIdeal (hMemattnRefIdeal := hMemattnRefIdeal)
    ∧ quiescent_MemattnRefIdeal_pre_memattn_finite (hMemattnRefIdeal := hMemattnRefIdeal) (hPre_memattn_finite := hPre_memattn_finite)
    ∧ quiescent_Loss (hLoss := hLoss)
    ∧ quiescent_LossIdeal (hLossIdeal := hLossIdeal)
    ∧ quiescent_LossIdeal_pre_loss_finite (hLossIdeal := hLossIdeal) (hPre_loss_finite := hPre_loss_finite)
    ∧ quiescent_LossRefIdeal (hLossRefIdeal := hLossRefIdeal)
    ∧ quiescent_LossRefIdeal_pre_loss_finite (hLossRefIdeal := hLossRefIdeal) (hPre_loss_finite := hPre_loss_finite)
    ∧ quiescent_FfnIn (hFfnIn := hFfnIn)
    ∧ quiescent_FfnInIdeal (hFfnInIdeal := hFfnInIdeal)
    ∧ quiescent_FfnInIdeal_pre_ffn_in_finite (hFfnInIdeal := hFfnInIdeal) (hPre_ffn_in_finite := hPre_ffn_in_finite)
    ∧ quiescent_FfnInRefIdeal (hFfnInRefIdeal := hFfnInRefIdeal)
    ∧ quiescent_FfnInRefIdeal_pre_ffn_in_finite (hFfnInRefIdeal := hFfnInRefIdeal) (hPre_ffn_in_finite := hPre_ffn_in_finite)
    ∧ quiescent_MemKv (hMemKv := hMemKv)
    ∧ quiescent_MemKvIdeal (hMemKvIdeal := hMemKvIdeal)
    ∧ quiescent_MemKvIdeal_pre_mem_kv_finite (hMemKvIdeal := hMemKvIdeal) (hPre_mem_kv_finite := hPre_mem_kv_finite)
    ∧ quiescent_MemKvRefIdeal (hMemKvRefIdeal := hMemKvRefIdeal)
    ∧ quiescent_MemKvRefIdeal_pre_mem_kv_finite (hMemKvRefIdeal := hMemKvRefIdeal) (hPre_mem_kv_finite := hPre_mem_kv_finite)
    ∧ quiescent_Gain (hGain := hGain)
    ∧ quiescent_GainIdeal (hGainIdeal := hGainIdeal)
    ∧ quiescent_GainRefIdeal (hGainRefIdeal := hGainRefIdeal)
    ∧ quiescent_Rms (hRms := hRms)
    ∧ quiescent_RmsIdeal (hRmsIdeal := hRmsIdeal)
    ∧ quiescent_RmsIdeal_pre_rms_finite (hRmsIdeal := hRmsIdeal) (hPre_rms_finite := hPre_rms_finite)
    ∧ quiescent_RmsRefIdeal (hRmsRefIdeal := hRmsRefIdeal)
    ∧ quiescent_RmsRefIdeal_pre_rms_finite (hRmsRefIdeal := hRmsRefIdeal) (hPre_rms_finite := hPre_rms_finite)
    ∧ quiescent_Swiglu (hSwiglu := hSwiglu)
    ∧ quiescent_SwigluIdeal (hSwigluIdeal := hSwigluIdeal)
    ∧ quiescent_SwigluIdeal_pre_swiglu_finite (hSwigluIdeal := hSwigluIdeal) (hPre_swiglu_finite := hPre_swiglu_finite)
    ∧ quiescent_SwigluRefIdeal (hSwigluRefIdeal := hSwigluRefIdeal)
    ∧ quiescent_SwigluRefIdeal_pre_swiglu_finite (hSwigluRefIdeal := hSwigluRefIdeal) (hPre_swiglu_finite := hPre_swiglu_finite)
    ∧ quiescent_Memfwd (hMemfwd := hMemfwd)
    ∧ quiescent_MemfwdIdeal (hMemfwdIdeal := hMemfwdIdeal)
    ∧ quiescent_MemfwdRefIdeal (hMemfwdRefIdeal := hMemfwdRefIdeal)
    ∧ quiescent_Mixfwd (hMixfwd := hMixfwd)
    ∧ quiescent_MixfwdIdeal (hMixfwdIdeal := hMixfwdIdeal)
    ∧ quiescent_MixfwdRefIdeal (hMixfwdRefIdeal := hMixfwdRefIdeal)
    ∧ quiescent_Convfwd (hConvfwd := hConvfwd)
    ∧ quiescent_ConvfwdIdeal (hConvfwdIdeal := hConvfwdIdeal)
    ∧ quiescent_ConvfwdRefIdeal (hConvfwdRefIdeal := hConvfwdRefIdeal)
    ∧ quiescent_Rmsfwd (hRmsfwd := hRmsfwd)
    ∧ quiescent_RmsfwdIdeal (hRmsfwdIdeal := hRmsfwdIdeal)
    ∧ quiescent_RmsfwdRefIdeal (hRmsfwdRefIdeal := hRmsfwdRefIdeal)
    ∧ quiescent_Mmnn (hMmnn := hMmnn)
    ∧ quiescent_MmnnIdeal (hMmnnIdeal := hMmnnIdeal)
    ∧ quiescent_MmnnRefIdeal (hMmnnRefIdeal := hMmnnRefIdeal)
    ∧ quiescent_Mmtna (hMmtna := hMmtna)
    ∧ quiescent_MmtnaIdeal (hMmtnaIdeal := hMmtnaIdeal)
    ∧ quiescent_MmtnaRefIdeal (hMmtnaRefIdeal := hMmtnaRefIdeal)
    ∧ quiescent_Mmtn (hMmtn := hMmtn)
    ∧ quiescent_MmtnIdeal (hMmtnIdeal := hMmtnIdeal)
    ∧ quiescent_MmtnRefIdeal (hMmtnRefIdeal := hMmtnRefIdeal)
    ∧ quiescent_Sumdev (hSumdev := hSumdev)
    ∧ quiescent_SumdevIdeal (hSumdevIdeal := hSumdevIdeal)
    ∧ quiescent_SumdevRefIdeal (hSumdevRefIdeal := hSumdevRefIdeal)
    ∧ quiescent_Adambig (hAdambig := hAdambig) (hPre_adambig_chip := hPre_adambig_chip)
    ∧ quiescent_AdambigIdeal (hAdambigIdeal := hAdambigIdeal) (hPre_adambig_chip := hPre_adambig_chip)
    ∧ quiescent_AdambigRefIdeal (hAdambigRefIdeal := hAdambigRefIdeal)
    ∧ quiescent_AdambigRefIdeal_pre_adambig_chip (hAdambigRefIdeal := hAdambigRefIdeal) (hPre_adambig_chip := hPre_adambig_chip)
    ∧ quiescent_Sumsib (hSumsib := hSumsib) (hPre_sumsib_core := hPre_sumsib_core)
    ∧ quiescent_SumsibIdeal (hSumsibIdeal := hSumsibIdeal) (hPre_sumsib_core := hPre_sumsib_core)
    ∧ quiescent_SumsibRefIdeal (hSumsibRefIdeal := hSumsibRefIdeal)
    ∧ quiescent_SumsibRefIdeal_pre_sumsib_core (hSumsibRefIdeal := hSumsibRefIdeal) (hPre_sumsib_core := hPre_sumsib_core)
    ∧ preserves_Sb_SbIdeal
    ∧ preserves_Merge_MergeIdeal
    ∧ algebraic_MergeIdeal_MergeRefIdeal (hMergeIdeal := hMergeIdeal) (hMergeRefIdeal := hMergeRefIdeal)
    ∧ preserves_Conv_ConvIdeal
    ∧ algebraic_ConvIdeal_ConvRefIdeal (hConvIdeal := hConvIdeal) (hConvRefIdeal := hConvRefIdeal)
    ∧ preserves_Memattn_MemattnIdeal
    ∧ algebraic_MemattnIdeal_MemattnRefIdeal_pre_memattn_finite (hMemattnIdeal := hMemattnIdeal) (hMemattnRefIdeal := hMemattnRefIdeal) (hPre_memattn_finite := hPre_memattn_finite)
    ∧ preserves_Loss_LossIdeal
    ∧ algebraic_LossIdeal_LossRefIdeal_pre_loss_finite (hLossIdeal := hLossIdeal) (hLossRefIdeal := hLossRefIdeal) (hPre_loss_finite := hPre_loss_finite)
    ∧ preserves_FfnIn_FfnInIdeal
    ∧ algebraic_FfnInIdeal_FfnInRefIdeal_pre_ffn_in_finite (hFfnInIdeal := hFfnInIdeal) (hFfnInRefIdeal := hFfnInRefIdeal) (hPre_ffn_in_finite := hPre_ffn_in_finite)
    ∧ preserves_MemKv_MemKvIdeal
    ∧ algebraic_MemKvIdeal_MemKvRefIdeal_pre_mem_kv_finite (hMemKvIdeal := hMemKvIdeal) (hMemKvRefIdeal := hMemKvRefIdeal) (hPre_mem_kv_finite := hPre_mem_kv_finite)
    ∧ preserves_Gain_GainIdeal
    ∧ algebraic_GainIdeal_GainRefIdeal (hGainIdeal := hGainIdeal) (hGainRefIdeal := hGainRefIdeal)
    ∧ preserves_Rms_RmsIdeal
    ∧ algebraic_RmsIdeal_RmsRefIdeal_pre_rms_finite (hRmsIdeal := hRmsIdeal) (hRmsRefIdeal := hRmsRefIdeal) (hPre_rms_finite := hPre_rms_finite)
    ∧ preserves_Swiglu_SwigluIdeal
    ∧ algebraic_SwigluIdeal_SwigluRefIdeal_pre_swiglu_finite (hSwigluIdeal := hSwigluIdeal) (hSwigluRefIdeal := hSwigluRefIdeal) (hPre_swiglu_finite := hPre_swiglu_finite)
    ∧ preserves_Memfwd_MemfwdIdeal
    ∧ algebraic_MemfwdIdeal_MemfwdRefIdeal (hMemfwdIdeal := hMemfwdIdeal) (hMemfwdRefIdeal := hMemfwdRefIdeal)
    ∧ preserves_Mixfwd_MixfwdIdeal
    ∧ algebraic_MixfwdIdeal_MixfwdRefIdeal (hMixfwdIdeal := hMixfwdIdeal) (hMixfwdRefIdeal := hMixfwdRefIdeal)
    ∧ preserves_Convfwd_ConvfwdIdeal
    ∧ algebraic_ConvfwdIdeal_ConvfwdRefIdeal (hConvfwdIdeal := hConvfwdIdeal) (hConvfwdRefIdeal := hConvfwdRefIdeal)
    ∧ preserves_Rmsfwd_RmsfwdIdeal
    ∧ algebraic_RmsfwdIdeal_RmsfwdRefIdeal (hRmsfwdIdeal := hRmsfwdIdeal) (hRmsfwdRefIdeal := hRmsfwdRefIdeal)
    ∧ preserves_Mmnn_MmnnIdeal
    ∧ algebraic_MmnnIdeal_MmnnRefIdeal (hMmnnIdeal := hMmnnIdeal) (hMmnnRefIdeal := hMmnnRefIdeal)
    ∧ preserves_Mmtna_MmtnaIdeal
    ∧ algebraic_MmtnaIdeal_MmtnaRefIdeal (hMmtnaIdeal := hMmtnaIdeal) (hMmtnaRefIdeal := hMmtnaRefIdeal)
    ∧ preserves_Mmtn_MmtnIdeal
    ∧ algebraic_MmtnIdeal_MmtnRefIdeal (hMmtnIdeal := hMmtnIdeal) (hMmtnRefIdeal := hMmtnRefIdeal)
    ∧ preserves_Sumdev_SumdevIdeal
    ∧ algebraic_SumdevIdeal_SumdevRefIdeal (hSumdevIdeal := hSumdevIdeal) (hSumdevRefIdeal := hSumdevRefIdeal)
    ∧ preserves_Adambig_AdambigIdeal
    ∧ algebraic_AdambigIdeal_AdambigRefIdeal (hAdambigIdeal := hAdambigIdeal) (hAdambigRefIdeal := hAdambigRefIdeal) (hPre_adambig_chip := hPre_adambig_chip)
    ∧ preserves_Sumsib_SumsibIdeal
    ∧ algebraic_SumsibIdeal_SumsibRefIdeal (hSumsibIdeal := hSumsibIdeal) (hSumsibRefIdeal := hSumsibRefIdeal) (hPre_sumsib_core := hPre_sumsib_core)
-- ==== Pre_adambig_chip.lean ====
abbrev S704x1024 : Shape := ⟨2, ![704, 1024]⟩
abbrev S4x704x1024 : Shape := ⟨3, ![4, 704, 1024]⟩
abbrev S3x704x1024 : Shape := ⟨3, ![3, 704, 1024]⟩
abbrev S1 : Shape := ⟨1, ![1]⟩
abbrev S_ : Shape := ⟨0, ![]⟩

class Facts : Prop where
  shapeCasts_S1_S_ : S1.ShapeCasts S_

variable [Facts]

def fn {F : FTy → Type} [FloatOps F] (main_arg0 : FVec F S704x1024 .f32) (main_arg1 : FVec F S704x1024 .f32) (main_arg2 : FVec F S704x1024 .f32) (main_arg3 : FVec F S4x704x1024 .bf16) (main_arg4 : FVec F S3x704x1024 .bf16) (main_arg5 : IVec S1 32) : IVec S_ 1 :=
  let main_v0 : IVec S_ 32 := shapeCast S_ main_arg5 shapeCasts_S1_S_
  let main_c : IVec S_ 32 := constantI S_ 32 0#32
  let main_v1 : IVec S_ 1 := cmpi .sge main_v0 main_c
  let main_v2 : IVec S_ 32 := shapeCast S_ main_arg5 shapeCasts_S1_S_
  let main_c_0 : IVec S_ 32 := constantI S_ 32 4#32
  let main_v3 : IVec S_ 1 := cmpi .slt main_v2 main_c_0
  let main_v4 : IVec S_ 1 := andi main_v1 main_v3
  main_v4
-- ==== Pre_ffn_in_finite.lean ====
abbrev S4096x5632 : Shape := ⟨2, ![4096, 5632]⟩
abbrev S1024x5632 : Shape := ⟨2, ![1024, 5632]⟩
abbrev S4096x1024 : Shape := ⟨2, ![4096, 1024]⟩
abbrev S1024 : Shape := ⟨1, ![1024]⟩
abbrev S_ : Shape := ⟨0, ![]⟩

class Facts : Prop where
  bitsLt_bf16_f32 : FTy.bits .bf16 < FTy.bits .f32
  bcast_S_S4096x5632 : S_.BroadcastsInDim S4096x5632 (![] : Fin 0 → Fin S4096x5632.rank)
  reducesTo_S4096x5632_S_d0_1 : S4096x5632.ReducesTo [0, 1] S_
  h_S_ : 0 < S_.numel
  bcast_S_S1024x5632 : S_.BroadcastsInDim S1024x5632 (![] : Fin 0 → Fin S1024x5632.rank)
  reducesTo_S1024x5632_S_d0_1 : S1024x5632.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v15 : IVec S_ 1) (main_v16 : FVec F S1024 .f32) (main_cst_4 : FVec F S_ .f32) : IVec S_ 1 :=
  let main_v17 : FVec F S1024 .f32 := broadcastInDim S1024 ![] bcast_S_S1024 main_cst_4
  let main_v18 : IVec S1024 1 := cmpf .olt main_v16 main_v17
  let main_c_5 : IVec S_ 1 := constantI S_ 1 1#1
  let main_v19 : IVec S_ 1 := (fun x v => Host.reduce IntOp.andi x v reducesTo_S1024_S_d0 h_S_) main_v18 main_c_5
  let main_v20 : IVec S_ 1 := andi main_v15 main_v19
  main_v20

def fn {F : FTy → Type} [FloatOps F] (main_arg0 : FVec F S4096x5632 .bf16) (main_arg1 : FVec F S1024x5632 .bf16) (main_arg2 : FVec F S4096x1024 .f32) (main_arg3 : FVec F S1024 .f32) (main_arg4 : FVec F S4096x1024 .f32) : IVec S_ 1 :=
  let main_v0 : FVec F S4096x5632 .f32 := (extf .f32 · bitsLt_bf16_f32) main_arg0
  let main_v1 : FVec F S4096x5632 .f32 := Host.absf main_v0
  let main_cst : FVec F S_ .f32 := constant S_ .f32 0x7F800000#32
  let main_v2 : FVec F S4096x5632 .f32 := broadcastInDim S4096x5632 ![] bcast_S_S4096x5632 main_cst
  let main_v3 : IVec S4096x5632 1 := cmpf .olt main_v1 main_v2
  let main_c : IVec S_ 1 := constantI S_ 1 1#1
  let main_v4 : IVec S_ 1 := (fun x v => Host.reduce IntOp.andi x v reducesTo_S4096x5632_S_d0_1 h_S_) main_v3 main_c
  let main_v5 : FVec F S1024x5632 .f32 := (extf .f32 · bitsLt_bf16_f32) main_arg1
  let main_v6 : FVec F S1024x5632 .f32 := Host.absf main_v5
  let main_cst_0 : FVec F S_ .f32 := constant S_ .f32 0x7F800000#32
  let main_v7 : FVec F S1024x5632 .f32 := broadcastInDim S1024x5632 ![] bcast_S_S1024x5632 main_cst_0
  let main_v8 : IVec S1024x5632 1 := cmpf .olt main_v6 main_v7
  let main_c_1 : IVec S_ 1 := constantI S_ 1 1#1
  let main_v9 : IVec S_ 1 := (fun x v => Host.reduce IntOp.andi x v reducesTo_S1024x5632_S_d0_1 h_S_) main_v8 main_c_1
  let main_v10 : IVec S_ 1 := andi main_v4 main_v9
  let main_v11 : FVec F S4096x1024 .f32 := Host.absf main_arg2
  let main_cst_2 : FVec F S_ .f32 := constant S_ .f32 0x7F800000#32
  let main_v12 : FVec F S4096x1024 .f32 := broadcastInDim S4096x1024 ![] bcast_S_S4096x1024 main_cst_2
  let main_v13 : IVec S4096x1024 1 := cmpf .olt main_v11 main_v12
  let main_c_3 : IVec S_ 1 := constantI S_ 1 1#1
  let main_v14 : IVec S_ 1 := (fun x v => Host.reduce IntOp.andi x v reducesTo_S4096x1024_S_d0_1 h_S_) main_v13 main_c_3
  let main_v15 : IVec S_ 1 := andi main_v10 main_v14
  let main_v16 : FVec F S1024 .f32 := Host.absf main_arg3
  let main_cst_4 : FVec F S_ .f32 := constant S_ .f32 0x7F800000#32
  fn_part1 (F := F) main_v15 main_v16 main_cst_4
-- ==== Pre_loss_finite.lean ====
abbrev S4096x5632 : Shape := ⟨2, ![4096, 5632]⟩
abbrev S2816x1024 : Shape := ⟨2, ![2816, 1024]⟩
abbrev S4096x1024 : Shape := ⟨2, ![4096, 1024]⟩
abbrev S1024 : Shape := ⟨1, ![1024]⟩
abbrev S_ : Shape := ⟨0, ![]⟩

class Facts : Prop where
  bitsLt_bf16_f32 : FTy.bits .bf16 < FTy.bits .f32
  bcast_S_S4096x5632 : S_.BroadcastsInDim S4096x5632 (![] : Fin 0 → Fin S4096x5632.rank)
  reducesTo_S4096x5632_S_d0_1 : S4096x5632.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S4096x1024 .f32) (main_v15 : IVec S_ 1) (main_v16 : FVec F S1024 .f32) (main_cst_4 : FVec F S_ .f32) : IVec S_ 1 :=
  let main_v17 : FVec F S1024 .f32 := broadcastInDim S1024 ![] bcast_S_S1024 main_cst_4
  let main_v18 : IVec S1024 1 := cmpf .olt main_v16 main_v17
  let main_c_5 : IVec S_ 1 := constantI S_ 1 1#1
  let main_v19 : IVec S_ 1 := (fun x v => Host.reduce IntOp.andi x v reducesTo_S1024_S_d0 h_S_) main_v18 main_c_5
  let main_v20 : IVec S_ 1 := andi main_v15 main_v19
  let main_v21 : FVec F S4096x1024 .f32 := Host.absf main_arg4
  let main_cst_6 : FVec F S_ .f32 := constant S_ .f32 0x7F800000#32
  let main_v22 : FVec F S4096x1024 .f32 := broadcastInDim S4096x1024 ![] bcast_S_S4096x1024 main_cst_6
  let main_v23 : IVec S4096x1024 1 := cmpf .olt main_v21 main_v22
  let main_c_7 : IVec S_ 1 := constantI S_ 1 1#1
  let main_v24 : IVec S_ 1 := (fun x v => Host.reduce IntOp.andi x v reducesTo_S4096x1024_S_d0_1 h_S_) main_v23 main_c_7
  let main_v25 : IVec S_ 1 := andi main_v20 main_v24
  main_v25

def fn {F : FTy → Type} [FloatOps F] (main_arg0 : FVec F S4096x5632 .bf16) (main_arg1 : FVec F S2816x1024 .bf16) (main_arg2 : FVec F S4096x1024 .f32) (main_arg3 : FVec F S1024 .f32) (main_arg4 : FVec F S4096x1024 .f32) : IVec S_ 1 :=
  let main_v0 : FVec F S4096x5632 .f32 := (extf .f32 · bitsLt_bf16_f32) main_arg0
  let main_v1 : FVec F S4096x5632 .f32 := Host.absf main_v0
  let main_cst : FVec F S_ .f32 := constant S_ .f32 0x7F800000#32
  let main_v2 : FVec F S4096x5632 .f32 := broadcastInDim S4096x5632 ![] bcast_S_S4096x5632 main_cst
  let main_v3 : IVec S4096x5632 1 := cmpf .olt main_v1 main_v2
  let main_c : IVec S_ 1 := constantI S_ 1 1#1
  let main_v4 : IVec S_ 1 := (fun x v => Host.reduce IntOp.andi x v reducesTo_S4096x5632_S_d0_1 h_S_) main_v3 main_c
  let main_v5 : FVec F S2816x1024 .f32 := (extf .f32 · bitsLt_bf16_f32) main_arg1
  let main_v6 : FVec F S2816x1024 .f32 := Host.absf main_v5
  let main_cst_0 : FVec F S_ .f32 := constant S_ .f32 0x7F800000#32
  let main_v7 : FVec F S2816x1024 .f32 := broadcastInDim S2816x1024 ![] bcast_S_S2816x1024 main_cst_0
  let main_v8 : IVec S2816x1024 1 := cmpf .olt main_v6 main_v7
  let main_c_1 : IVec S_ 1 := constantI S_ 1 1#1
  let main_v9 : IVec S_ 1 := (fun x v => Host.reduce IntOp.andi x v reducesTo_S2816x1024_S_d0_1 h_S_) main_v8 main_c_1
  let main_v10 : IVec S_ 1 := andi main_v4 main_v9
  let main_v11 : FVec F S4096x1024 .f32 := Host.absf main_arg2
  let main_cst_2 : FVec F S_ .f32 := constant S_ .f32 0x7F800000#32
  let main_v12 : FVec F S4096x1024 .f32 := broadcastInDim S4096x1024 ![] bcast_S_S4096x1024 main_cst_2
  let main_v13 : IVec S4096x1024 1 := cmpf .olt main_v11 main_v12
  let main_c_3 : IVec S_ 1 := constantI S_ 1 1#1
  let main_v14 : IVec S_ 1 := (fun x v => Host.reduce IntOp.andi x v reducesTo_S4096x1024_S_d0_1 h_S_) main_v13 main_c_3
  let main_v15 : IVec S_ 1 := andi main_v10 main_v14
  let main_v16 : FVec F S1024 .f32 := Host.absf main_arg3
  let main_cst_4 : FVec F S_ .f32 := constant S_ .f32 0x7F800000#32
  fn_part1 (F := F) main_arg4 main_v15 main_v16 main_cst_4
-- ==== Pre_mem_kv_finite.lean ====
abbrev S256x2048 : Shape := ⟨2, ![256, 2048]⟩
abbrev S1024x2048 : Shape := ⟨2, ![1024, 2048]⟩
abbrev S256x1024 : Shape := ⟨2, ![256, 1024]⟩
abbrev S1024 : Shape := ⟨1, ![1024]⟩
abbrev S_ : Shape := ⟨0, ![]⟩

class Facts : Prop where
  bcast_S_S256x2048 : S_.BroadcastsInDim S256x2048 (![] : Fin 0 → Fin S256x2048.rank)
  reducesTo_S256x2048_S_d0_1 : S256x2048.ReducesTo [0, 1] S_
  h_S_ : 0 < S_.numel
  bitsLt_bf16_f32 : FTy.bits .bf16 < FTy.bits .f32
  bcast_S_S1024x2048 : S_.BroadcastsInDim S1024x2048 (![] : Fin 0 → Fin S1024x2048.rank)
  reducesTo_S1024x2048_S_d0_1 : S1024x2048.ReducesTo [0, 1] S_
  bcast_S_S256x1024 : S_.BroadcastsInDim S256x1024 (![] : Fin 0 → Fin S256x1024.rank)
  reducesTo_S256x1024_S_d0_1 : S256x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v14 : IVec S_ 1) (main_v15 : FVec F S1024 .f32) (main_v16 : FVec F S1024 .f32) : IVec S_ 1 :=
  let main_v17 : IVec S1024 1 := cmpf .olt main_v15 main_v16
  let main_c_5 : IVec S_ 1 := constantI S_ 1 1#1
  let main_v18 : IVec S_ 1 := (fun x v => Host.reduce IntOp.andi x v reducesTo_S1024_S_d0 h_S_) main_v17 main_c_5
  let main_v19 : IVec S_ 1 := andi main_v14 main_v18
  main_v19

def fn {F : FTy → Type} [FloatOps F] (main_arg0 : FVec F S256x2048 .f32) (main_arg1 : FVec F S1024x2048 .bf16) (main_arg2 : FVec F S256x1024 .f32) (main_arg3 : FVec F S1024 .f32) : IVec S_ 1 :=
  let main_v0 : FVec F S256x2048 .f32 := Host.absf main_arg0
  let main_cst : FVec F S_ .f32 := constant S_ .f32 0x7F800000#32
  let main_v1 : FVec F S256x2048 .f32 := broadcastInDim S256x2048 ![] bcast_S_S256x2048 main_cst
  let main_v2 : IVec S256x2048 1 := cmpf .olt main_v0 main_v1
  let main_c : IVec S_ 1 := constantI S_ 1 1#1
  let main_v3 : IVec S_ 1 := (fun x v => Host.reduce IntOp.andi x v reducesTo_S256x2048_S_d0_1 h_S_) main_v2 main_c
  let main_v4 : FVec F S1024x2048 .f32 := (extf .f32 · bitsLt_bf16_f32) main_arg1
  let main_v5 : FVec F S1024x2048 .f32 := Host.absf main_v4
  let main_cst_0 : FVec F S_ .f32 := constant S_ .f32 0x7F800000#32
  let main_v6 : FVec F S1024x2048 .f32 := broadcastInDim S1024x2048 ![] bcast_S_S1024x2048 main_cst_0
  let main_v7 : IVec S1024x2048 1 := cmpf .olt main_v5 main_v6
  let main_c_1 : IVec S_ 1 := constantI S_ 1 1#1
  let main_v8 : IVec S_ 1 := (fun x v => Host.reduce IntOp.andi x v reducesTo_S1024x2048_S_d0_1 h_S_) main_v7 main_c_1
  let main_v9 : IVec S_ 1 := andi main_v3 main_v8
  let main_v10 : FVec F S256x1024 .f32 := Host.absf main_arg2
  let main_cst_2 : FVec F S_ .f32 := constant S_ .f32 0x7F800000#32
  let main_v11 : FVec F S256x1024 .f32 := broadcastInDim S256x1024 ![] bcast_S_S256x1024 main_cst_2
  let main_v12 : IVec S256x1024 1 := cmpf .olt main_v10 main_v11
  let main_c_3 : IVec S_ 1 := constantI S_ 1 1#1
  let main_v13 : IVec S_ 1 := (fun x v => Host.reduce IntOp.andi x v reducesTo_S256x1024_S_d0_1 h_S_) main_v12 main_c_3
  let main_v14 : IVec S_ 1 := andi main_v9 main_v13
  let main_v15 : FVec F S1024 .f32 := Host.absf main_arg3
  let main_cst_4 : FVec F S_ .f32 := constant S_ .f32 0x7F800000#32
  let main_v16 : FVec F S1024 .f32 := broadcastInDim S1024 ![] bcast_S_S1024 main_cst_4
  fn_part1 (F := F) main_v14 main_v15 main_v16
-- ==== Pre_memattn_finite.lean ====
abbrev S4096x1024 : Shape := ⟨2, ![4096, 1024]⟩
abbrev S1024 : Shape := ⟨1, ![1024]⟩
abbrev S256x2048 : Shape := ⟨2, ![256, 2048]⟩
abbrev S1024x1024 : Shape := ⟨2, ![1024, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024 : S_.BroadcastsInDim S1024 (![] : Fin 0 → Fin S1024.rank)
  reducesTo_S1024_S_d0 : S1024.ReducesTo [0] S_
  bitsLt_bf16_f32 : FTy.bits .bf16 < FTy.bits .f32
  bcast_S_S256x2048 : S_.BroadcastsInDim S256x2048 (![] : Fin 0 → Fin S256x2048.rank)
  reducesTo_S256x2048_S_d0_1 : S256x2048.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg4 : FVec F S1024x1024 .bf16) (main_arg5 : FVec F S1024x1024 .bf16) (main_v13 : IVec S_ 1) (main_v15 : FVec F S256x2048 .f32) (main_v16 : FVec F S256x2048 .f32) : IVec S_ 1 :=
  let main_v17 : IVec S256x2048 1 := cmpf .olt main_v15 main_v16
  let main_c_5 : IVec S_ 1 := constantI S_ 1 1#1
  let main_v18 : IVec S_ 1 := (fun x v => Host.reduce IntOp.andi x v reducesTo_S256x2048_S_d0_1 h_S_) main_v17 main_c_5
  let main_v19 : IVec S_ 1 := andi main_v13 main_v18
  let main_v20 : FVec F S1024x1024 .f32 := (extf .f32 · bitsLt_bf16_f32) main_arg4
  let main_v21 : FVec F S1024x1024 .f32 := Host.absf main_v20
  let main_cst_6 : FVec F S_ .f32 := constant S_ .f32 0x7F800000#32
  let main_v22 : FVec F S1024x1024 .f32 := broadcastInDim S1024x1024 ![] bcast_S_S1024x1024 main_cst_6
  let main_v23 : IVec S1024x1024 1 := cmpf .olt main_v21 main_v22
  let main_c_7 : IVec S_ 1 := constantI S_ 1 1#1
  let main_v24 : IVec S_ 1 := (fun x v => Host.reduce IntOp.andi x v reducesTo_S1024x1024_S_d0_1 h_S_) main_v23 main_c_7
  let main_v25 : IVec S_ 1 := andi main_v19 main_v24
  let main_v26 : FVec F S1024x1024 .f32 := (extf .f32 · bitsLt_bf16_f32) main_arg5
  let main_v27 : FVec F S1024x1024 .f32 := Host.absf main_v26
  let main_cst_8 : FVec F S_ .f32 := constant S_ .f32 0x7F800000#32
  let main_v28 : FVec F S1024x1024 .f32 := broadcastInDim S1024x1024 ![] bcast_S_S1024x1024 main_cst_8
  let main_v29 : IVec S1024x1024 1 := cmpf .olt main_v27 main_v28
  let main_c_9 : IVec S_ 1 := constantI S_ 1 1#1
  let main_v30 : IVec S_ 1 := (fun x v => Host.reduce IntOp.andi x v reducesTo_S1024x1024_S_d0_1 h_S_) main_v29 main_c_9
  let main_v31 : IVec S_ 1 := andi main_v25 main_v30
  main_v31

def fn {F : FTy → Type} [FloatOps F] (main_arg0 : FVec F S4096x1024 .f32) (main_arg1 : FVec F S4096x1024 .f32) (main_arg2 : FVec F S1024 .f32) (main_arg3 : FVec F S256x2048 .bf16) (main_arg4 : FVec F S1024x1024 .bf16) (main_arg5 : FVec F S1024x1024 .bf16) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S256x2048 .f32 := (extf .f32 · bitsLt_bf16_f32) main_arg3
  let main_v15 : FVec F S256x2048 .f32 := Host.absf main_v14
  let main_cst_4 : FVec F S_ .f32 := constant S_ .f32 0x7F800000#32
  let main_v16 : FVec F S256x2048 .f32 := broadcastInDim S256x2048 ![] bcast_S_S256x2048 main_cst_4
  fn_part1 (F := F) main_arg4 main_arg5 main_v13 main_v15 main_v16
-- ==== Pre_rms_finite.lean ====
abbrev S4096x1024 : Shape := ⟨2, ![4096, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S4096x1024 .f32) (main_arg1 : FVec F S1024 .f32) (main_arg2 : FVec F S4096x1024 .f32) (main_arg3 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  main_v13
-- ==== Pre_sumsib_core.lean ====
abbrev S8x768x640 : Shape := ⟨3, ![8, 768, 640]⟩
abbrev S4x768x640 : Shape := ⟨3, ![4, 768, 640]⟩
abbrev S1 : Shape := ⟨1, ![1]⟩
abbrev S_ : Shape := ⟨0, ![]⟩

class Facts : Prop where
  shapeCasts_S1_S_ : S1.ShapeCasts S_

variable [Facts]

def fn {F : FTy → Type} [FloatOps F] (main_arg0 : FVec F S8x768x640 .bf16) (main_arg1 : FVec F S4x768x640 .bf16) (main_arg2 : IVec S1 32) : IVec S_ 1 :=
  let main_v0 : IVec S_ 32 := shapeCast S_ main_arg2 shapeCasts_S1_S_
  let main_c : IVec S_ 32 := constantI S_ 32 0#32
  let main_v1 : IVec S_ 1 := cmpi .sge main_v0 main_c
  let main_v2 : IVec S_ 32 := shapeCast S_ main_arg2 shapeCasts_S1_S_
  let main_c_0 : IVec S_ 32 := constantI S_ 32 2#32
  let main_v3 : IVec S_ 1 := cmpi .slt main_v2 main_c_0
  let main_v4 : IVec S_ 1 := andi main_v1 main_v3
  main_v4
-- ==== Pre_swiglu_finite.lean ====
abbrev S4096x1024 : Shape := ⟨2, ![4096, 1024]⟩
abbrev S2816x1024 : Shape := ⟨2, ![2816, 1024]⟩
abbrev S4096x5632 : Shape := ⟨2, ![4096, 5632]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bcast_S_S4096x5632 : S_.BroadcastsInDim S4096x5632 (![] : Fin 0 → Fin S4096x5632.rank)
  reducesTo_S4096x5632_S_d0_1 : S4096x5632.ReducesTo [0, 1] S_

variable [Facts]

def fn {F : FTy → Type} [FloatOps F] (main_arg0 : FVec F S4096x1024 .bf16) (main_arg1 : FVec F S2816x1024 .bf16) (main_arg2 : FVec F S4096x5632 .bf16) : IVec S_ 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_c : IVec S_ 1 := constantI S_ 1 1#1
  let main_v4 : IVec S_ 1 := (fun x v => Host.reduce IntOp.andi x v reducesTo_S4096x1024_S_d0_1 h_S_) main_v3 main_c
  let main_v5 : FVec F S2816x1024 .f32 := (extf .f32 · bitsLt_bf16_f32) main_arg1
  let main_v6 : FVec F S2816x1024 .f32 := Host.absf main_v5
  let main_cst_0 : FVec F S_ .f32 := constant S_ .f32 0x7F800000#32
  let main_v7 : FVec F S2816x1024 .f32 := broadcastInDim S2816x1024 ![] bcast_S_S2816x1024 main_cst_0
  let main_v8 : IVec S2816x1024 1 := cmpf .olt main_v6 main_v7
  let main_c_1 : IVec S_ 1 := constantI S_ 1 1#1
  let main_v9 : IVec S_ 1 := (fun x v => Host.reduce IntOp.andi x v reducesTo_S2816x1024_S_d0_1 h_S_) main_v8 main_c_1
  let main_v10 : IVec S_ 1 := andi main_v4 main_v9
  let main_v11 : FVec F S4096x5632 .f32 := (extf .f32 · bitsLt_bf16_f32) main_arg2
  let main_v12 : FVec F S4096x5632 .f32 := Host.absf main_v11
  let main_cst_2 : FVec F S_ .f32 := constant S_ .f32 0x7F800000#32
  let main_v13 : FVec F S4096x5632 .f32 := broadcastInDim S4096x5632 ![] bcast_S_S4096x5632 main_cst_2
  let main_v14 : IVec S4096x5632 1 := cmpf .olt main_v12 main_v13
  let main_c_3 : IVec S_ 1 := constantI S_ 1 1#1
  let main_v15 : IVec S_ 1 := (fun x v => Host.reduce IntOp.andi x v reducesTo_S4096x5632_S_d0_1 h_S_) main_v14 main_c_3
  let main_v16 : IVec S_ 1 := andi main_v10 main_v15
  main_v16
-- ==== Sb.lean ====
abbrev S4096x5120 : Shape := ⟨2, ![4096, 5120]⟩
abbrev S4096x512 : Shape := ⟨2, ![4096, 512]⟩
abbrev S_ : Shape := ⟨0, ![]⟩
abbrev S2x16 : Shape := ⟨2, ![2, 16]⟩
abbrev S4096x8x64 : Shape := ⟨3, ![4096, 8, 64]⟩
abbrev S8x4096x4096 : Shape := ⟨3, ![8, 4096, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x4096 : Shape := ⟨2, ![8, 4096]⟩
abbrev S2x4x4096 : Shape := ⟨3, ![2, 4, 4096]⟩
abbrev S2x4096x4 : Shape := ⟨3, ![2, 4096, 4]⟩
abbrev S256x256 : Shape := ⟨2, ![256, 256]⟩
abbrev S4096x256 : Shape := ⟨2, ![4096, 256]⟩
abbrev S1x256x4 : Shape := ⟨3, ![1, 256, 4]⟩
abbrev S4x256x128 : Shape := ⟨3, ![4, 256, 128]⟩
abbrev S1x1 : Shape := ⟨2, ![1, 1]⟩
abbrev S256x128 : Shape := ⟨2, ![256, 128]⟩
abbrev S1x256x1 : Shape := ⟨3, ![1, 256, 1]⟩
abbrev S256x1 : Shape := ⟨2, ![256, 1]⟩
abbrev S1x256x128 : Shape := ⟨3, ![1, 256, 128]⟩

abbrev nBuf : Space → Nat
  | .hbm => 50
  | .vmem => 19
  | .smem => 1
  | _ => 0

abbrev bufTy : (tb : Table) → Fin (tcTables nBuf tb) → BufTy
  | .hbm, ⟨0, _⟩ => ⟨S4096x5120, .bf16⟩
  | .hbm, ⟨1, _⟩ => ⟨S4096x512, .bf16⟩
  | .hbm, ⟨2, _⟩ => ⟨S_, .f32⟩
  | .hbm, ⟨3, _⟩ => ⟨S2x16, .f32⟩
  | .hbm, ⟨4, _⟩ => ⟨S4096x512, .bf16⟩
  | .hbm, ⟨5, _⟩ => ⟨S4096x512, .f32⟩
  | .hbm, ⟨6, _⟩ => ⟨S4096x8x64, .f32⟩
  | .hbm, ⟨7, _⟩ => ⟨S4096x512, .bf16⟩
  | .hbm, ⟨8, _⟩ => ⟨S4096x512, .f32⟩
  | .hbm, ⟨9, _⟩ => ⟨S4096x8x64, .f32⟩
  | .hbm, ⟨10, _⟩ => ⟨S8x4096x4096, .f32⟩
  | .hbm, ⟨11, _⟩ => ⟨S_, .f32⟩
  | .hbm, ⟨12, _⟩ => ⟨S8x4096x4096, .f32⟩
  | .hbm, ⟨13, _⟩ => ⟨S8x4096x4096, .f32⟩
  | .hbm, ⟨14, _⟩ => ⟨S_, .f32⟩
  | .hbm, ⟨15, _⟩ => ⟨S8x4096x4096, .f32⟩
  | .hbm, ⟨16, _⟩ => ⟨S8x4096x4096, .f32⟩
  | .hbm, ⟨17, _⟩ => ⟨S_, .f32⟩
  | .hbm, ⟨18, _⟩ => ⟨S8x4096x4096, .f32⟩
  | .hbm, ⟨19, _⟩ => ⟨S8x4096x4096, .f32⟩
  | .hbm, ⟨20, _⟩ => ⟨S4096, .i32⟩
  | .hbm, ⟨21, _⟩ => ⟨S1x4096, .i32⟩
  | .hbm, ⟨22, _⟩ => ⟨S4096, .i32⟩
  | .hbm, ⟨23, _⟩ => ⟨S4096x1, .i32⟩
  | .hbm, ⟨24, _⟩ => ⟨S4096x4096, .i32⟩
  | .hbm, ⟨25, _⟩ => ⟨S4096x4096, .i32⟩
  | .hbm, ⟨26, _⟩ => ⟨S4096x4096, .i1⟩
  | .hbm, ⟨27, _⟩ => ⟨S_, .f32⟩
  | .hbm, ⟨28, _⟩ => ⟨S8x4096x4096, .f32⟩
  | .hbm, ⟨29, _⟩ => ⟨S8x4096x4096, .f32⟩
  | .hbm, ⟨30, _⟩ => ⟨S8x4096x4096, .f32⟩
  | .hbm, ⟨31, _⟩ => ⟨S_, .f32⟩
  | .hbm, ⟨32, _⟩ => ⟨S8x4096x4096, .f32⟩
  | .hbm, ⟨33, _⟩ => ⟨S8x4096x4096, .f32⟩
  | .hbm, ⟨34, _⟩ => ⟨S8x4096x4096, .f32⟩
  | .hbm, ⟨35, _⟩ => ⟨S_, .f32⟩
  | .hbm, ⟨36, _⟩ => ⟨S8x4096x4096, .f32⟩
  | .hbm, ⟨37, _⟩ => ⟨S8x4096x4096, .f32⟩
  | .hbm, ⟨38, _⟩ => ⟨S_, .f32⟩
  | .hbm, ⟨39, _⟩ => ⟨S_, .f32⟩
  | .hbm, ⟨40, _⟩ => ⟨S8x4096x4096, .i1⟩
  | .hbm, ⟨41, _⟩ => ⟨S8x4096x4096, .f32⟩
  | .hbm, ⟨42, _⟩ => ⟨S8x4096x4096, .f32⟩
  | .hbm, ⟨43, _⟩ => ⟨S_, .f32⟩
  | .hbm, ⟨44, _⟩ => ⟨S8x4096, .f32⟩
  | .hbm, ⟨45, _⟩ => ⟨S2x4x4096, .f32⟩
  | .hbm, ⟨46, _⟩ => ⟨S2x4096x4, .f32⟩
  | .hbm, ⟨47, _⟩ => ⟨S4096x512, .bf16⟩
  | .hbm, ⟨48, _⟩ => ⟨S4096x512, .bf16⟩
  | .hbm, ⟨49, _⟩ => ⟨S4096x512, .bf16⟩
  | .local _ .vmem, ⟨0, _⟩ => ⟨S256x256, .bf16⟩
  | .local _ .vmem, ⟨1, _⟩ => ⟨S256x256, .bf16⟩
  | .local _ .vmem, ⟨2, _⟩ => ⟨S4096x256, .bf16⟩
  | .local _ .vmem, ⟨3, _⟩ => ⟨S4096x256, .bf16⟩
  | .local _ .vmem, ⟨4, _⟩ => ⟨S4096x256, .bf16⟩
  | .local _ .vmem, ⟨5, _⟩ => ⟨S4096x256, .bf16⟩
  | .local _ .vmem, ⟨6, _⟩ => ⟨S256x256, .bf16⟩
  | .local _ .vmem, ⟨7, _⟩ => ⟨S256x256, .bf16⟩
  | .local _ .vmem, ⟨8, _⟩ => ⟨S1x256x4, .f32⟩
  | .local _ .vmem, ⟨9, _⟩ => ⟨S1x256x4, .f32⟩
  | .local _ .vmem, ⟨10, _⟩ => ⟨S256x256, .bf16⟩
  | .local _ .vmem, ⟨11, _⟩ => ⟨S256x256, .bf16⟩
  | .local _ .vmem, ⟨12, _⟩ => ⟨S4096x256, .bf16⟩
  | .local _ .vmem, ⟨13, _⟩ => ⟨S4096x256, .bf16⟩
  | .local _ .vmem, ⟨14, _⟩ => ⟨S4096x256, .bf16⟩
  | .local _ .vmem, ⟨15, _⟩ => ⟨S4096x256, .bf16⟩
  | .local _ .vmem, ⟨16, _⟩ => ⟨S4x256x128, .f32⟩
  | .local _ .vmem, ⟨17, _⟩ => ⟨S4096x256, .f32⟩
  | .local _ .vmem, ⟨18, _⟩ => ⟨S4096x256, .f32⟩
  | .local _ .smem, ⟨0, _⟩ => ⟨S2x16, .f32⟩
  | _, _ => ⟨S4096x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_3 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_4 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_5 : Ref sig .tc := ⟨.hbm, 35, rfl⟩
abbrev main_v27 : Ref sig .tc := ⟨.hbm, 36, rfl⟩
abbrev main_v28 : Ref sig .tc := ⟨.hbm, 37, rfl⟩
abbrev main_cst_6 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_v29 : Ref sig .tc := ⟨.hbm, 42, rfl⟩
abbrev main_cst_7 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33_0 : Ref sig .tc := ⟨.hbm, 47, rfl⟩
abbrev main_v33_1 : Ref sig .tc := ⟨.hbm, 48, rfl⟩
abbrev main_v33_2 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_stg5_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg0 : BitVec 32 := BitVec.ofNat 32 (i 0).val
  let v0 : Index := Scalar.indexCast arg0
  let arg1 : BitVec 32 := BitVec.ofNat 32 (i 1).val
  let v1 : Index := Scalar.indexCast arg1
  ![v0.toNat, v1.toNat]
@[reducible] def k0_t1_loop (i : grid0.Coords) (v3 : BitVec 32) : Scf.Loop 32 :=
  let arg1 : BitVec 32 := BitVec.ofNat 32 (i 1).val
  let c0_i32 : BitVec 32 := 0#32
  let v4 : BitVec 32 := Scalar.maxsi c0_i32 v3
  let v5 : BitVec 32 := Scalar.minsi arg1 v4
  let c1_i32 : BitVec 32 := 1#32
  let v108 : BitVec 32 := Scalar.subi arg1 c1_i32
  let v109 : BitVec 32 := Scalar.subi v108 v5
  let c1_i32_55 : BitVec 32 := 1#32
  let v111 : BitVec 32 := Scalar.divsi v109 c1_i32_55
  let v112 : BitVec 32 := Scalar.muli v111 c1_i32_55
  let v113 : BitVec 32 := Scalar.addi v5 v112
  let c1_i32_56 : BitVec 32 := 1#32
  ⟨v5, v113, c1_i32_56⟩

def k0_mult1 (i : grid0.Coords) (v3 : BitVec 32) (k0_t1 : Fin (k0_t1_loop i v3).trips) : BitVec 32 :=
  let arg1 : BitVec 32 := BitVec.ofNat 32 (i 1).val
  let c0_i32 : BitVec 32 := 0#32
  let v4 : BitVec 32 := Scalar.maxsi c0_i32 v3
  let v5 : BitVec 32 := Scalar.minsi arg1 v4
  let c1_i32_56 : BitVec 32 := 1#32
  let arg14 : BitVec 32 := Scf.iv v5 c1_i32_56 k0_t1
  let c256_i32 : BitVec 32 := 256#32
  let v143 : BitVec 32 := Scalar.muli arg14 c256_i32
  v143
def k0_off2 (i : grid0.Coords) (v3 : BitVec 32) (k0_t1 : Fin (k0_t1_loop i v3).trips) : Fin 2 → Nat :=
  let arg1 : BitVec 32 := BitVec.ofNat 32 (i 1).val
  let c0_i32 : BitVec 32 := 0#32
  let v4 : BitVec 32 := Scalar.maxsi c0_i32 v3
  let v5 : BitVec 32 := Scalar.minsi arg1 v4
  let c1_i32_56 : BitVec 32 := 1#32
  let arg14 : BitVec 32 := Scf.iv v5 c1_i32_56 k0_t1
  let c256_i32 : BitVec 32 := 256#32
  let v143 : BitVec 32 := Scalar.muli arg14 c256_i32
  let v144 : BitVec 32 := v143
  let v145 : Index := Scalar.indexCast v144
  let c0_81 : Index := 0#32
  ![v145.toNat, 0]
def k0_off3 (i : grid0.Coords) (v3 : BitVec 32) (k0_t1 : Fin (k0_t1_loop i v3).trips) : Fin 2 → Nat :=
  let arg1 : BitVec 32 := BitVec.ofNat 32 (i 1).val
  let c0_i32 : BitVec 32 := 0#32
  let v4 : BitVec 32 := Scalar.maxsi c0_i32 v3
  let v5 : BitVec 32 := Scalar.minsi arg1 v4
  let c1_i32_56 : BitVec 32 := 1#32
  let arg14 : BitVec 32 := Scf.iv v5 c1_i32_56 k0_t1
  let c256_i32 : BitVec 32 := 256#32
  let v143 : BitVec 32 := Scalar.muli arg14 c256_i32
  let v144 : BitVec 32 := v143
  let v149 : Index := Scalar.indexCast v144
  let c128_83 : Index := 128#32
  ![v149.toNat, 128]
@[reducible] def k0_t2_loop (i : grid0.Coords) (v3 : BitVec 32) : Scf.Loop 32 :=
  let arg1 : BitVec 32 := BitVec.ofNat 32 (i 1).val
  let c0_i32 : BitVec 32 := 0#32
  let v4 : BitVec 32 := Scalar.maxsi c0_i32 v3
  let v5 : BitVec 32 := Scalar.minsi arg1 v4
  let c1_i32 : BitVec 32 := 1#32
  let v108 : BitVec 32 := Scalar.subi arg1 c1_i32
  let v109 : BitVec 32 := Scalar.subi v108 v5
  let c1_i32_55 : BitVec 32 := 1#32
  let v111 : BitVec 32 := Scalar.divsi v109 c1_i32_55
  let v112 : BitVec 32 := Scalar.muli v111 c1_i32_55
  let v113 : BitVec 32 := Scalar.addi v5 v112
  let v110 : BitVec 32 := Scalar.addi v5 v109
  let c1_i32_57 : BitVec 32 := 1#32
  ⟨v113, v110, c1_i32_57⟩
def k0_mult2 (i : grid0.Coords) (v3 : BitVec 32) (k0_t2 : Fin (k0_t2_loop i v3).trips) : BitVec 32 :=
  let arg1 : BitVec 32 := BitVec.ofNat 32 (i 1).val
  let c0_i32 : BitVec 32 := 0#32
  let v4 : BitVec 32 := Scalar.maxsi c0_i32 v3
  let v5 : BitVec 32 := Scalar.minsi arg1 v4
  let c1_i32 : BitVec 32 := 1#32
  let v108 : BitVec 32 := Scalar.subi arg1 c1_i32
  let v109 : BitVec 32 := Scalar.subi v108 v5
  let c1_i32_55 : BitVec 32 := 1#32
  let v111 : BitVec 32 := Scalar.divsi v109 c1_i32_55
  let v112 : BitVec 32 := Scalar.muli v111 c1_i32_55
  let v113 : BitVec 32 := Scalar.addi v5 v112
  let c1_i32_57 : BitVec 32 := 1#32
  let arg14 : BitVec 32 := Scf.iv v113 c1_i32_57 k0_t2
  let c256_i32 : BitVec 32 := 256#32
  let v143 : BitVec 32 := Scalar.muli arg14 c256_i32
  v143
def k0_off4 (i : grid0.Coords) (v3 : BitVec 32) (k0_t2 : Fin (k0_t2_loop i v3).trips) : Fin 2 → Nat :=
  let arg1 : BitVec 32 := BitVec.ofNat 32 (i 1).val
  let c0_i32 : BitVec 32 := 0#32
  let v4 : BitVec 32 := Scalar.maxsi c0_i32 v3
  let v5 : BitVec 32 := Scalar.minsi arg1 v4
  let c1_i32 : BitVec 32 := 1#32
  let v108 : BitVec 32 := Scalar.subi arg1 c1_i32
  let v109 : BitVec 32 := Scalar.subi v108 v5
  let c1_i32_55 : BitVec 32 := 1#32
  let v111 : BitVec 32 := Scalar.divsi v109 c1_i32_55
  let v112 : BitVec 32 := Scalar.muli v111 c1_i32_55
  let v113 : BitVec 32 := Scalar.addi v5 v112
  let c1_i32_57 : BitVec 32 := 1#32
  let arg14 : BitVec 32 := Scf.iv v113 c1_i32_57 k0_t2
  let c256_i32 : BitVec 32 := 256#32
  let v143 : BitVec 32 := Scalar.muli arg14 c256_i32
  let v144 : BitVec 32 := v143
  let v145 : Index := Scalar.indexCast v144
  let c0_81 : Index := 0#32
  ![v145.toNat, 0]
def k0_off5 (i : grid0.Coords) (v3 : BitVec 32) (k0_t2 : Fin (k0_t2_loop i v3).trips) : Fin 2 → Nat :=
  let arg1 : BitVec 32 := BitVec.ofNat 32 (i 1).val
  let c0_i32 : BitVec 32 := 0#32
  let v4 : BitVec 32 := Scalar.maxsi c0_i32 v3
  let v5 : BitVec 32 := Scalar.minsi arg1 v4
  let c1_i32 : BitVec 32 := 1#32
  let v108 : BitVec 32 := Scalar.subi arg1 c1_i32
  let v109 : BitVec 32 := Scalar.subi v108 v5
  let c1_i32_55 : BitVec 32 := 1#32
  let v111 : BitVec 32 := Scalar.divsi v109 c1_i32_55
  let v112 : BitVec 32 := Scalar.muli v111 c1_i32_55
  let v113 : BitVec 32 := Scalar.addi v5 v112
  let c1_i32_57 : BitVec 32 := 1#32
  let arg14 : BitVec 32 := Scf.iv v113 c1_i32_57 k0_t2
  let c256_i32 : BitVec 32 := 256#32
  let v143 : BitVec 32 := Scalar.muli arg14 c256_i32
  let v144 : BitVec 32 := v143
  let v149 : Index := Scalar.indexCast v144
  let c128_83 : Index := 128#32
  ![v149.toNat, 128]

def k0_chk1 (i : grid0.Coords) (v3 : BitVec 32) : Prop :=
  ((k0_t1_loop i v3).OK) ∧
  (∀ k0_t1 : Fin (k0_t1_loop i v3).trips, 256 ∣ (k0_mult1 i v3 k0_t1).toNat) ∧
  (∀ k0_t1 : Fin (k0_t1_loop i v3).trips, ∀ a, (k0_off2 i v3 k0_t1) a + S256x128.size a ≤ S4096x256.size a) ∧
  (∀ k0_t1 : Fin (k0_t1_loop i v3).trips, ∀ a, (k0_off3 i v3 k0_t1) a + S256x128.size a ≤ S4096x256.size a) ∧
  ((k0_t2_loop i v3).OK) ∧
  (∀ k0_t2 : Fin (k0_t2_loop i v3).trips, 256 ∣ (k0_mult2 i v3 k0_t2).toNat) ∧
  (∀ k0_t2 : Fin (k0_t2_loop i v3).trips, ∀ a, (k0_off4 i v3 k0_t2) a + S256x128.size a ≤ S4096x256.size a) ∧
  (∀ k0_t2 : Fin (k0_t2_loop i v3).trips, ∀ a, (k0_off5 i v3 k0_t2) a + S256x128.size a ≤ S4096x256.size a)
theorem k0_t1_ok : ∀ (i : grid0.Coords) (v3 : BitVec 32) (k0_hw1 : k0_chk1 i v3), (k0_t1_loop i v3).OK := fun i v3 k0_hw1 => k0_hw1.1
theorem k0_mult1_dvd : ∀ (i : grid0.Coords) (v3 : BitVec 32) (k0_hw1 : k0_chk1 i v3) (k0_t1 : Fin (k0_t1_loop i v3).trips), 256 ∣ (k0_mult1 i v3 k0_t1).toNat := fun i v3 k0_hw1 k0_t1 => k0_hw1.2.1 k0_t1
theorem k0_off2_inb : ∀ (i : grid0.Coords) (v3 : BitVec 32) (k0_hw1 : k0_chk1 i v3) (k0_t1 : Fin (k0_t1_loop i v3).trips), ∀ a, (k0_off2 i v3 k0_t1) a + S256x128.size a ≤ S4096x256.size a := fun i v3 k0_hw1 k0_t1 => k0_hw1.2.2.1 k0_t1
theorem k0_off3_inb : ∀ (i : grid0.Coords) (v3 : BitVec 32) (k0_hw1 : k0_chk1 i v3) (k0_t1 : Fin (k0_t1_loop i v3).trips), ∀ a, (k0_off3 i v3 k0_t1) a + S256x128.size a ≤ S4096x256.size a := fun i v3 k0_hw1 k0_t1 => k0_hw1.2.2.2.1 k0_t1
theorem k0_t2_ok : ∀ (i : grid0.Coords) (v3 : BitVec 32) (k0_hw1 : k0_chk1 i v3), (k0_t2_loop i v3).OK := fun i v3 k0_hw1 => k0_hw1.2.2.2.2.1
theorem k0_mult2_dvd : ∀ (i : grid0.Coords) (v3 : BitVec 32) (k0_hw1 : k0_chk1 i v3) (k0_t2 : Fin (k0_t2_loop i v3).trips), 256 ∣ (k0_mult2 i v3 k0_t2).toNat := fun i v3 k0_hw1 k0_t2 => k0_hw1.2.2.2.2.2.1 k0_t2
theorem k0_off4_inb : ∀ (i : grid0.Coords) (v3 : BitVec 32) (k0_hw1 : k0_chk1 i v3) (k0_t2 : Fin (k0_t2_loop i v3).trips), ∀ a, (k0_off4 i v3 k0_t2) a + S256x128.size a ≤ S4096x256.size a := fun i v3 k0_hw1 k0_t2 => k0_hw1.2.2.2.2.2.2.1 k0_t2
theorem k0_off5_inb : ∀ (i : grid0.Coords) (v3 : BitVec 32) (k0_hw1 : k0_chk1 i v3) (k0_t2 : Fin (k0_t2_loop i v3).trips), ∀ a, (k0_off5 i v3 k0_t2) a + S256x128.size a ≤ S4096x256.size a := fun i v3 k0_hw1 k0_t2 => k0_hw1.2.2.2.2.2.2.2 k0_t2

def k0_cond2 (i : grid0.Coords) : BitVec 1 :=
  let arg1 : BitVec 32 := BitVec.ofNat 32 (i 1).val
  let c0_i32_58 : BitVec 32 := 0#32
  let v116 : BitVec 1 := Scalar.cmpi .eq arg1 c0_i32_58
  let v117 : BitVec 32 := Scalar.extui v116
  let c0_i32_59 : BitVec 32 := 0#32
  let v118 : BitVec 1 := Scalar.cmpi .ne v117 c0_i32_59
  v118

def k0_mult3 (i : grid0.Coords) : BitVec 32 :=
  let arg1 : BitVec 32 := BitVec.ofNat 32 (i 1).val
  let c256_i32 : BitVec 32 := 256#32
  let v143 : BitVec 32 := Scalar.muli arg1 c256_i32
  v143
def k0_off6 (i : grid0.Coords) : Fin 2 → Nat :=
  let arg1 : BitVec 32 := BitVec.ofNat 32 (i 1).val
  let c256_i32 : BitVec 32 := 256#32
  let v143 : BitVec 32 := Scalar.muli arg1 c256_i32
  let v144 : BitVec 32 := v143
  let v145 : Index := Scalar.indexCast v144
  let c0_81 : Index := 0#32
  ![v145.toNat, 0]
def k0_off7 (i : grid0.Coords) : Fin 2 → Nat :=
  let arg1 : BitVec 32 := BitVec.ofNat 32 (i 1).val
  let c256_i32 : BitVec 32 := 256#32
  let v143 : BitVec 32 := Scalar.muli arg1 c256_i32
  let v144 : BitVec 32 := v143
  let v149 : Index := Scalar.indexCast v144
  let c128_83 : Index := 128#32
  ![v149.toNat, 128]
def k0_cond3 (i : grid0.Coords) : BitVec 1 :=
  let arg1 : BitVec 32 := BitVec.ofNat 32 (i 1).val
  let c0_i32_60 : BitVec 32 := 0#32
  let v119 : BitVec 1 := Scalar.cmpi .sgt arg1 c0_i32_60
  let v120 : BitVec 32 := Scalar.extui v119
  let c0_i32_61 : BitVec 32 := 0#32
  let v121 : BitVec 1 := Scalar.cmpi .ne v120 c0_i32_61
  v121

def k0_mult4 (i : grid0.Coords) : BitVec 32 :=
  let arg1 : BitVec 32 := BitVec.ofNat 32 (i 1).val
  let c1_i32_81 : BitVec 32 := 1#32
  let v143 : BitVec 32 := Scalar.subi arg1 c1_i32_81
  let c256_i32 : BitVec 32 := 256#32
  let v144 : BitVec 32 := Scalar.muli v143 c256_i32
  v144
def k0_mult5 (i : grid0.Coords) : BitVec 32 :=
  let arg1 : BitVec 32 := BitVec.ofNat 32 (i 1).val
  let c256_i32_82 : BitVec 32 := 256#32
  let v146 : BitVec 32 := Scalar.muli arg1 c256_i32_82
  v146
def k0_off8 (i : grid0.Coords) : Fin 2 → Nat :=
  let arg1 : BitVec 32 := BitVec.ofNat 32 (i 1).val
  let c1_i32_81 : BitVec 32 := 1#32
  let v143 : BitVec 32 := Scalar.subi arg1 c1_i32_81
  let c256_i32 : BitVec 32 := 256#32
  let v144 : BitVec 32 := Scalar.muli v143 c256_i32
  let v145 : BitVec 32 := v144
  let v148 : Index := Scalar.indexCast v145
  let c0_83 : Index := 0#32
  ![v148.toNat, 0]
def k0_off9 (i : grid0.Coords) : Fin 2 → Nat :=
  let arg1 : BitVec 32 := BitVec.ofNat 32 (i 1).val
  let c1_i32_81 : BitVec 32 := 1#32
  let v143 : BitVec 32 := Scalar.subi arg1 c1_i32_81
  let c256_i32 : BitVec 32 := 256#32
  let v144 : BitVec 32 := Scalar.muli v143 c256_i32
  let v145 : BitVec 32 := v144
  let v152 : Index := Scalar.indexCast v145
  let c128_85 : Index := 128#32
  ![v152.toNat, 128]
def k0_off10 (i : grid0.Coords) : Fin 2 → Nat :=
  let arg1 : BitVec 32 := BitVec.ofNat 32 (i 1).val
  let c256_i32_82 : BitVec 32 := 256#32
  let v146 : BitVec 32 := Scalar.muli arg1 c256_i32_82
  let v147 : BitVec 32 := v146
  let v156 : Index := Scalar.indexCast v147
  let c0_87 : Index := 0#32
  ![v156.toNat, 0]
def k0_off11 (i : grid0.Coords) : Fin 2 → Nat :=
  let arg1 : BitVec 32 := BitVec.ofNat 32 (i 1).val
  let c256_i32_82 : BitVec 32 := 256#32
  let v146 : BitVec 32 := Scalar.muli arg1 c256_i32_82
  let v147 : BitVec 32 := v146
  let v160 : Index := Scalar.indexCast v147
  let c128_89 : Index := 128#32
  ![v160.toNat, 128]
def k0_cond4 (i : grid0.Coords) : BitVec 1 :=
  let arg1 : BitVec 32 := BitVec.ofNat 32 (i 1).val
  let c15_i32 : BitVec 32 := 15#32
  let v140 : BitVec 1 := Scalar.cmpi .eq arg1 c15_i32
  let v141 : BitVec 32 := Scalar.extui v140
  let c0_i32_80 : BitVec 32 := 0#32
  let v142 : BitVec 1 := Scalar.cmpi .ne v141 c0_i32_80
  v142

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x4 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .smem S2x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S256x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S4096x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S4096x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== SbIdeal.lean ====
variable {F : FTy → Type} [FloatOps F] [Named F]
def κ : String → Option EReal := fun
  | "clamp" => some ⊤
  | "log2_e" => some (((Real.log 2)⁻¹ : ℝ) : EReal)
  | _ => none
-- ==== SbRefIdeal.lean ====
abbrev S4096x5120 : Shape := ⟨2, ![4096, 5120]⟩
abbrev S4096x512 : Shape := ⟨2, ![4096, 512]⟩
abbrev S4096x8x64 : Shape := ⟨3, ![4096, 8, 64]⟩
abbrev S8x4096x64 : Shape := ⟨3, ![8, 4096, 64]⟩
abbrev S8x4096x4096 : Shape := ⟨3, ![8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x64x4096 : Shape := ⟨3, ![8, 64, 4096]⟩

abbrev nBuf : Space → Nat
  | .hbm => 185
  | .vmem => 0
  | .smem => 0
  | _ => 0

abbrev hbmTy0_0 (i : Nat) : BufTy := match i % 128 with
  | 0 => ⟨S4096x5120, .bf16⟩
  | 1 => ⟨S4096x512, .bf16⟩
  | 2 => ⟨S4096x512, .bf16⟩
  | 3 => ⟨S4096x512, .f32⟩
  | 4 => ⟨S4096x512, .bf16⟩
  | 5 => ⟨S4096x512, .f32⟩
  | 6 => ⟨S4096x512, .bf16⟩
  | 7 => ⟨S4096x512, .f32⟩
  | 8 => ⟨S4096x8x64, .f32⟩
  | 9 => ⟨S8x4096x64, .f32⟩
  | 10 => ⟨S4096x8x64, .f32⟩
  | 11 => ⟨S8x4096x64, .f32⟩
  | 12 => ⟨S4096x8x64, .f32⟩
  | 13 => ⟨S8x4096x64, .f32⟩
  | 14 => ⟨S8x4096x4096, .f32⟩
  | 15 => ⟨S_, .f32⟩
  | 16 => ⟨S8x4096x4096, .f32⟩
  | 17 => ⟨S8x4096x4096, .f32⟩
  | 18 => ⟨S4096, .i32⟩
  | 19 => ⟨S1x4096, .i32⟩
  | 20 => ⟨S4096, .i32⟩
  | 21 => ⟨S4096x1, .i32⟩
  | 22 => ⟨S4096x4096, .i32⟩
  | 23 => ⟨S4096x4096, .i32⟩
  | 24 => ⟨S4096x4096, .i1⟩
  | 25 => ⟨S8x4096x4096, .f32⟩
  | 26 => ⟨S8x4096x4096, .f32⟩
  | 27 => ⟨S_, .f32⟩
  | 28 => ⟨S8x4096x4096, .f32⟩
  | 29 => ⟨S8x4096x4096, .f32⟩
  | 30 => ⟨S8x4096x4096, .f32⟩
  | 31 => ⟨S8x4096x4096, .f32⟩
  | 32 => ⟨S8x4096x4096, .i1⟩
  | 33 => ⟨S8x4096x4096, .f32⟩
  | 34 => ⟨S8x4096x4096, .f32⟩
  | 35 => ⟨S8x4096x4096, .f32⟩
  | 36 => ⟨S8x4096x4096, .f32⟩
  | 37 => ⟨S8x4096x4096, .f32⟩
  | 38 => ⟨S8x4096x4096, .f32⟩
  | 39 => ⟨S8x4096x4096, .f32⟩
  | 40 => ⟨S8x4096x4096, .f32⟩
  | 41 => ⟨S_, .f32⟩
  | 42 => ⟨S8x4096x4096, .f32⟩
  | 43 => ⟨S8x4096x4096, .i1⟩
  | 44 => ⟨S_, .f32⟩
  | 45 => ⟨S8x4096x4096, .f32⟩
  | 46 => ⟨S8x4096x4096, .f32⟩
  | 47 => ⟨S_, .f32⟩
  | 48 => ⟨S8x4096x4096, .f32⟩
  | 49 => ⟨S8x4096x4096, .i1⟩
  | 50 => ⟨S_, .f32⟩
  | 51 => ⟨S8x4096x4096, .f32⟩
  | 52 => ⟨S8x4096x4096, .f32⟩
  | 53 => ⟨S8x4096x4096, .f32⟩
  | 54 => ⟨S8x4096x4096, .f32⟩
  | 55 => ⟨S_, .f32⟩
  | 56 => ⟨S_, .f32⟩
  | 57 => ⟨S_, .i1⟩
  | 58 => ⟨S_, .f32⟩
  | 59 => ⟨S_, .f32⟩
  | 60 => ⟨S_, .f32⟩
  | 61 => ⟨S_, .f32⟩
  | 62 => ⟨S8x4096x4096, .f32⟩
  | 63 => ⟨S8x4096x4096, .i1⟩
  | 64 => ⟨S_, .f32⟩
  | 65 => ⟨S8x4096x4096, .f32⟩
  | 66 => ⟨S8x4096x4096, .f32⟩
  | 67 => ⟨S8x4096x4096, .f32⟩
  | 68 => ⟨S8x4096x4096, .f32⟩
  | 69 => ⟨S8x4096x4096, .f32⟩
  | 70 => ⟨S_, .f32⟩
  | 71 => ⟨S8x4096x4096, .f32⟩
  | 72 => ⟨S8x4096x4096, .f32⟩
  | 73 => ⟨S8x4096x4096, .f32⟩
  | 74 => ⟨S_, .f32⟩
  | 75 => ⟨S_, .f32⟩
  | 76 => ⟨S8x4096x4096, .i1⟩
  | 77 => ⟨S8x4096x4096, .f32⟩
  | 78 => ⟨S8x4096x4096, .f32⟩
  | 79 => ⟨S_, .f32⟩
  | 80 => ⟨S8x4096x4096, .f32⟩
  | 81 => ⟨S_, .f32⟩
  | 82 => ⟨S_, .f32⟩
  | 83 => ⟨S8x4096x4096, .f32⟩
  | 84 => ⟨S8x4096x4096, .f32⟩
  | 85 => ⟨S8x4096x4096, .f32⟩
  | 86 => ⟨S_, .f32⟩
  | 87 => ⟨S8x4096x4096, .f32⟩
  | 88 => ⟨S8x4096x4096, .f32⟩
  | 89 => ⟨S8x4096x4096, .f32⟩
  | 90 => ⟨S8x4096x4096, .f32⟩
  | 91 => ⟨S8x4096x4096, .i1⟩
  | 92 => ⟨S8x4096x4096, .f32⟩
  | 93 => ⟨S8x4096x4096, .f32⟩
  | 94 => ⟨S8x4096x4096, .f32⟩
  | 95 => ⟨S8x4096x4096, .f32⟩
  | 96 => ⟨S8x4096x4096, .f32⟩
  | 97 => ⟨S8x4096x4096, .f32⟩
  | 98 => ⟨S8x4096x4096, .f32⟩
  | 99 => ⟨S8x4096x4096, .f32⟩
  | 100 => ⟨S_, .f32⟩
  | 101 => ⟨S8x4096x4096, .f32⟩
  | 102 => ⟨S8x4096x4096, .i1⟩
  | 103 => ⟨S_, .f32⟩
  | 104 => ⟨S8x4096x4096, .f32⟩
  | 105 => ⟨S8x4096x4096, .f32⟩
  | 106 => ⟨S_, .f32⟩
  | 107 => ⟨S8x4096x4096, .f32⟩
  | 108 => ⟨S8x4096x4096, .i1⟩
  | 109 => ⟨S_, .f32⟩
  | 110 => ⟨S8x4096x4096, .f32⟩
  | 111 => ⟨S8x4096x4096, .f32⟩
  | 112 => ⟨S8x4096x4096, .f32⟩
  | 113 => ⟨S8x4096x4096, .f32⟩
  | 114 => ⟨S_, .f32⟩
  | 115 => ⟨S_, .f32⟩
  | 116 => ⟨S_, .i1⟩
  | 117 => ⟨S_, .f32⟩
  | 118 => ⟨S_, .f32⟩
  | 119 => ⟨S_, .f32⟩
  | 120 => ⟨S_, .f32⟩
  | 121 => ⟨S8x4096x4096, .f32⟩
  | 122 => ⟨S8x4096x4096, .i1⟩
  | 123 => ⟨S_, .f32⟩
  | 124 => ⟨S8x4096x4096, .f32⟩
  | 125 => ⟨S8x4096x4096, .f32⟩
  | 126 => ⟨S8x4096x4096, .f32⟩
  | 127 => ⟨S8x4096x4096, .f32⟩
  | _ => ⟨S4096x5120, .bf16⟩

abbrev hbmTy0_1 (i : Nat) : BufTy := match i % 128 with
  | 0 => ⟨S8x4096x4096, .f32⟩
  | 1 => ⟨S_, .f32⟩
  | 2 => ⟨S8x4096x4096, .f32⟩
  | 3 => ⟨S8x4096x4096, .f32⟩
  | 4 => ⟨S8x4096x4096, .f32⟩
  | 5 => ⟨S8x4096x4096, .f32⟩
  | 6 => ⟨S8x4096x4096, .f32⟩
  | 7 => ⟨S_, .f32⟩
  | 8 => ⟨S_, .f32⟩
  | 9 => ⟨S8x4096x4096, .i1⟩
  | 10 => ⟨S8x4096x4096, .f32⟩
  | 11 => ⟨S8x4096x4096, .f32⟩
  | 12 => ⟨S_, .f32⟩
  | 13 => ⟨S8x4096x4096, .f32⟩
  | 14 => ⟨S8x4096x64, .f32⟩
  | 15 => ⟨S4096x8x64, .f32⟩
  | 16 => ⟨S4096x512, .f32⟩
  | 17 => ⟨S4096x512, .f32⟩
  | 18 => ⟨S4096x8x64, .f32⟩
  | 19 => ⟨S8x4096x64, .f32⟩
  | 20 => ⟨S8x64x4096, .f32⟩
  | 21 => ⟨S8x4096x64, .f32⟩
  | 22 => ⟨S8x4096x4096, .f32⟩
  | 23 => ⟨S_, .f32⟩
  | 24 => ⟨S8x4096x4096, .f32⟩
  | 25 => ⟨S8x4096x4096, .f32⟩
  | 26 => ⟨S8x4096x4096, .f32⟩
  | 27 => ⟨S8x4096x4096, .f32⟩
  | 28 => ⟨S8x4096x4096, .f32⟩
  | 29 => ⟨S8x4096x4096, .f32⟩
  | 30 => ⟨S8x4096x4096, .f32⟩
  | 31 => ⟨S_, .f32⟩
  | 32 => ⟨S_, .f32⟩
  | 33 => ⟨S8x4096x4096, .f32⟩
  | 34 => ⟨S8x4096x4096, .f32⟩
  | 35 => ⟨S_, .f32⟩
  | 36 => ⟨S8x4096x4096, .f32⟩
  | 37 => ⟨S8x4096x4096, .f32⟩
  | 38 => ⟨S8x4096x4096, .f32⟩
  | 39 => ⟨S8x4096x4096, .f32⟩
  | 40 => ⟨S8x4096x4096, .f32⟩
  | 41 => ⟨S8x4096x4096, .f32⟩
  | 42 => ⟨S8x4096x4096, .f32⟩
  | 43 => ⟨S_, .f32⟩
  | 44 => ⟨S8x4096x4096, .f32⟩
  | 45 => ⟨S8x4096x4096, .f32⟩
  | 46 => ⟨S8x4096x64, .f32⟩
  | 47 => ⟨S8x4096x64, .f32⟩
  | 48 => ⟨S4096x8x64, .f32⟩
  | 49 => ⟨S4096x512, .f32⟩
  | 50 => ⟨S4096x8x64, .f32⟩
  | 51 => ⟨S4096x512, .f32⟩
  | 52 => ⟨S4096x8x64, .f32⟩
  | 53 => ⟨S4096x512, .f32⟩
  | 54 => ⟨S4096x512, .bf16⟩
  | 55 => ⟨S4096x512, .bf16⟩
  | 56 => ⟨S4096x512, .bf16⟩
  | _ => ⟨S4096x5120, .bf16⟩

abbrev hbmTy (i : Nat) : BufTy := match i / 128 with
  | 0 => hbmTy0_0 i
  | 1 => hbmTy0_1 i
  | _ => ⟨S4096x5120, .bf16⟩

abbrev bufTy : (tb : Table) → Fin (tcTables nBuf tb) → BufTy
  | .hbm, ⟨i, _⟩ => hbmTy i
  | _, _ => ⟨S4096x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_call0_v0 : Ref sig .tc := ⟨.hbm, 26, rfl⟩
abbrev main_call0_call0_cst : Ref sig .tc := ⟨.hbm, 27, rfl⟩
abbrev main_call0_call0_v0 : Ref sig .tc := ⟨.hbm, 28, rfl⟩
abbrev main_call0_call0_v1 : Ref sig .tc := ⟨.hbm, 29, rfl⟩
abbrev main_call0_call0_v2 : Ref sig .tc := ⟨.hbm, 30, rfl⟩
abbrev main_call0_call0_v3 : Ref sig .tc := ⟨.hbm, 31, rfl⟩
abbrev main_call0_call0_v4 : Ref sig .tc := ⟨.hbm, 32, rfl⟩
abbrev main_call0_call0_v5 : Ref sig .tc := ⟨.hbm, 33, rfl⟩
abbrev main_call0_call0_v6 : Ref sig .tc := ⟨.hbm, 34, rfl⟩
abbrev main_call0_call0_v7 : Ref sig .tc := ⟨.hbm, 35, rfl⟩
abbrev main_call0_call0_v8 : Ref sig .tc := ⟨.hbm, 36, rfl⟩
abbrev main_call0_call0_v9 : Ref sig .tc := ⟨.hbm, 37, rfl⟩
abbrev main_call0_call0_v10 : Ref sig .tc := ⟨.hbm, 38, rfl⟩
abbrev main_call0_call0_v11 : Ref sig .tc := ⟨.hbm, 39, rfl⟩
abbrev main_call0_v1_0 : Ref sig .tc := ⟨.hbm, 40, rfl⟩
abbrev main_call0_call0_cst_0 : Ref sig .tc := ⟨.hbm, 41, rfl⟩
abbrev main_call0_call0_v13 : Ref sig .tc := ⟨.hbm, 42, rfl⟩
abbrev main_call0_call0_v14 : Ref sig .tc := ⟨.hbm, 43, rfl⟩
abbrev main_call0_call0_cst_1 : Ref sig .tc := ⟨.hbm, 44, rfl⟩
abbrev main_call0_call0_v15 : Ref sig .tc := ⟨.hbm, 45, rfl⟩
abbrev main_call0_call0_v16 : Ref sig .tc := ⟨.hbm, 46, rfl⟩
abbrev main_call0_call0_cst_2 : Ref sig .tc := ⟨.hbm, 47, rfl⟩
abbrev main_call0_call0_v17 : Ref sig .tc := ⟨.hbm, 48, rfl⟩
abbrev main_call0_call0_v18 : Ref sig .tc := ⟨.hbm, 49, rfl⟩
abbrev main_call0_call0_cst_3 : Ref sig .tc := ⟨.hbm, 50, rfl⟩
abbrev main_call0_call0_v19 : Ref sig .tc := ⟨.hbm, 51, rfl⟩
abbrev main_call0_call0_v20 : Ref sig .tc := ⟨.hbm, 52, rfl⟩
abbrev main_call0_call0_v21 : Ref sig .tc := ⟨.hbm, 53, rfl⟩
abbrev main_v23_1 : Ref sig .tc := ⟨.hbm, 54, rfl⟩
abbrev main_call0_call0_cst_4 : Ref sig .tc := ⟨.hbm, 55, rfl⟩
abbrev main_call0_call0_cst_5 : Ref sig .tc := ⟨.hbm, 56, rfl⟩
abbrev main_call0_call0_v23 : Ref sig .tc := ⟨.hbm, 57, rfl⟩
abbrev main_call0_call0_cst_6 : Ref sig .tc := ⟨.hbm, 58, rfl⟩
abbrev main_call0_call0_cst_7 : Ref sig .tc := ⟨.hbm, 59, rfl⟩
abbrev main_call0_call0_v24 : Ref sig .tc := ⟨.hbm, 60, rfl⟩
abbrev main_call0_call0_cst_8 : Ref sig .tc := ⟨.hbm, 61, rfl⟩
abbrev main_call0_call0_v25 : Ref sig .tc := ⟨.hbm, 62, rfl⟩
abbrev main_call0_call0_v26 : Ref sig .tc := ⟨.hbm, 63, rfl⟩
abbrev main_call0_call0_cst_9 : Ref sig .tc := ⟨.hbm, 64, rfl⟩
abbrev main_call0_call0_v27 : Ref sig .tc := ⟨.hbm, 65, rfl⟩
abbrev main_call0_call0_v28 : Ref sig .tc := ⟨.hbm, 66, rfl⟩
abbrev main_call0_call0_v29 : Ref sig .tc := ⟨.hbm, 67, rfl⟩
abbrev main_call0_call0_v30 : Ref sig .tc := ⟨.hbm, 68, rfl⟩
abbrev main_call0_call0_v31 : Ref sig .tc := ⟨.hbm, 69, rfl⟩
abbrev main_call0_call0_cst_10 : Ref sig .tc := ⟨.hbm, 70, rfl⟩
abbrev main_call0_call0_v32 : Ref sig .tc := ⟨.hbm, 71, rfl⟩
abbrev main_v23_2 : Ref sig .tc := ⟨.hbm, 72, rfl⟩
abbrev main_v23_0 : Ref sig .tc := ⟨.hbm, 73, rfl⟩
abbrev main_cst_0 : Ref sig .tc := ⟨.hbm, 74, rfl⟩
abbrev main_call1_v0 : Ref sig .tc := ⟨.hbm, 75, rfl⟩
abbrev main_v24_1 : Ref sig .tc := ⟨.hbm, 76, rfl⟩
abbrev main_call1_v2 : Ref sig .tc := ⟨.hbm, 77, rfl⟩
abbrev main_v24_0 : Ref sig .tc := ⟨.hbm, 78, rfl⟩
abbrev main_call1_cst : Ref sig .tc := ⟨.hbm, 79, rfl⟩
abbrev main_v24_2 : Ref sig .tc := ⟨.hbm, 80, rfl⟩
abbrev main_call2_cst : Ref sig .tc := ⟨.hbm, 81, rfl⟩
abbrev main_call2_v0 : Ref sig .tc := ⟨.hbm, 82, rfl⟩
abbrev main_v25 : Ref sig .tc := ⟨.hbm, 83, rfl⟩
abbrev main_v26 : Ref sig .tc := ⟨.hbm, 84, rfl⟩
abbrev main_call3_v0 : Ref sig .tc := ⟨.hbm, 85, rfl⟩
abbrev main_call3_call0_cst : Ref sig .tc := ⟨.hbm, 86, rfl⟩
abbrev main_call3_call0_v0 : Ref sig .tc := ⟨.hbm, 87, rfl⟩
abbrev main_call3_call0_v1 : Ref sig .tc := ⟨.hbm, 88, rfl⟩
abbrev main_call3_call0_v2 : Ref sig .tc := ⟨.hbm, 89, rfl⟩
abbrev main_call3_call0_v3 : Ref sig .tc := ⟨.hbm, 90, rfl⟩
abbrev main_call3_call0_v4 : Ref sig .tc := ⟨.hbm, 91, rfl⟩
abbrev main_call3_call0_v5 : Ref sig .tc := ⟨.hbm, 92, rfl⟩
abbrev main_call3_call0_v6 : Ref sig .tc := ⟨.hbm, 93, rfl⟩
abbrev main_call3_call0_v7 : Ref sig .tc := ⟨.hbm, 94, rfl⟩
abbrev main_call3_call0_v8 : Ref sig .tc := ⟨.hbm, 95, rfl⟩
abbrev main_call3_call0_v9 : Ref sig .tc := ⟨.hbm, 96, rfl⟩
abbrev main_call3_call0_v10 : Ref sig .tc := ⟨.hbm, 97, rfl⟩
abbrev main_call3_call0_v11 : Ref sig .tc := ⟨.hbm, 98, rfl⟩
abbrev main_call3_v1_0 : Ref sig .tc := ⟨.hbm, 99, rfl⟩
abbrev main_call3_call0_cst_0 : Ref sig .tc := ⟨.hbm, 100, rfl⟩
abbrev main_call3_call0_v13 : Ref sig .tc := ⟨.hbm, 101, rfl⟩
abbrev main_call3_call0_v14 : Ref sig .tc := ⟨.hbm, 102, rfl⟩
abbrev main_call3_call0_cst_1 : Ref sig .tc := ⟨.hbm, 103, rfl⟩
abbrev main_call3_call0_v15 : Ref sig .tc := ⟨.hbm, 104, rfl⟩
abbrev main_call3_call0_v16 : Ref sig .tc := ⟨.hbm, 105, rfl⟩
abbrev main_call3_call0_cst_2 : Ref sig .tc := ⟨.hbm, 106, rfl⟩
abbrev main_call3_call0_v17 : Ref sig .tc := ⟨.hbm, 107, rfl⟩
abbrev main_call3_call0_v18 : Ref sig .tc := ⟨.hbm, 108, rfl⟩
abbrev main_call3_call0_cst_3 : Ref sig .tc := ⟨.hbm, 109, rfl⟩
abbrev main_call3_call0_v19 : Ref sig .tc := ⟨.hbm, 110, rfl⟩
abbrev main_call3_call0_v20 : Ref sig .tc := ⟨.hbm, 111, rfl⟩
abbrev main_call3_call0_v21 : Ref sig .tc := ⟨.hbm, 112, rfl⟩
abbrev main_v27_1 : Ref sig .tc := ⟨.hbm, 113, rfl⟩
abbrev main_call3_call0_cst_4 : Ref sig .tc := ⟨.hbm, 114, rfl⟩
abbrev main_call3_call0_cst_5 : Ref sig .tc := ⟨.hbm, 115, rfl⟩
abbrev main_call3_call0_v23 : Ref sig .tc := ⟨.hbm, 116, rfl⟩
abbrev main_call3_call0_cst_6 : Ref sig .tc := ⟨.hbm, 117, rfl⟩
abbrev main_call3_call0_cst_7 : Ref sig .tc := ⟨.hbm, 118, rfl⟩
abbrev main_call3_call0_v24 : Ref sig .tc := ⟨.hbm, 119, rfl⟩
abbrev main_call3_call0_cst_8 : Ref sig .tc := ⟨.hbm, 120, rfl⟩
abbrev main_call3_call0_v25 : Ref sig .tc := ⟨.hbm, 121, rfl⟩
abbrev main_call3_call0_v26 : Ref sig .tc := ⟨.hbm, 122, rfl⟩
abbrev main_call3_call0_cst_9 : Ref sig .tc := ⟨.hbm, 123, rfl⟩
abbrev main_call3_call0_v27 : Ref sig .tc := ⟨.hbm, 124, rfl⟩
abbrev main_call3_call0_v28 : Ref sig .tc := ⟨.hbm, 125, rfl⟩
abbrev main_call3_call0_v29 : Ref sig .tc := ⟨.hbm, 126, rfl⟩
abbrev main_call3_call0_v30 : Ref sig .tc := ⟨.hbm, 127, rfl⟩
abbrev main_call3_call0_v31 : Ref sig .tc := ⟨.hbm, 128, rfl⟩
abbrev main_call3_call0_cst_10 : Ref sig .tc := ⟨.hbm, 129, rfl⟩
abbrev main_call3_call0_v32 : Ref sig .tc := ⟨.hbm, 130, rfl⟩
abbrev main_v27_2 : Ref sig .tc := ⟨.hbm, 131, rfl⟩
abbrev main_v27_0 : Ref sig .tc := ⟨.hbm, 132, rfl⟩
abbrev main_v28 : Ref sig .tc := ⟨.hbm, 133, rfl⟩
abbrev main_v29 : Ref sig .tc := ⟨.hbm, 134, rfl⟩
abbrev main_cst_1 : Ref sig .tc := ⟨.hbm, 135, rfl⟩
abbrev main_call4_v0 : Ref sig .tc := ⟨.hbm, 136, rfl⟩
abbrev main_v30_1 : Ref sig .tc := ⟨.hbm, 137, rfl⟩
abbrev main_call4_v2 : Ref sig .tc := ⟨.hbm, 138, rfl⟩
abbrev main_v30_0 : Ref sig .tc := ⟨.hbm, 139, rfl⟩
abbrev main_call4_cst : Ref sig .tc := ⟨.hbm, 140, rfl⟩
abbrev main_v30_2 : Ref sig .tc := ⟨.hbm, 141, rfl⟩
abbrev main_v31 : Ref sig .tc := ⟨.hbm, 142, rfl⟩
abbrev main_v32 : Ref sig .tc := ⟨.hbm, 143, rfl⟩
abbrev main_v33 : Ref sig .tc := ⟨.hbm, 144, rfl⟩
abbrev main_v34 : Ref sig .tc := ⟨.hbm, 145, rfl⟩
abbrev main_v35 : Ref sig .tc := ⟨.hbm, 146, rfl⟩
abbrev main_v36 : Ref sig .tc := ⟨.hbm, 147, rfl⟩
abbrev main_v37 : Ref sig .tc := ⟨.hbm, 148, rfl⟩
abbrev main_v38 : Ref sig .tc := ⟨.hbm, 149, rfl⟩
abbrev main_v39 : Ref sig .tc := ⟨.hbm, 150, rfl⟩
abbrev main_call5_cst : Ref sig .tc := ⟨.hbm, 151, rfl⟩
abbrev main_call5_v0 : Ref sig .tc := ⟨.hbm, 152, rfl⟩
abbrev main_v40 : Ref sig .tc := ⟨.hbm, 153, rfl⟩
abbrev main_v41 : Ref sig .tc := ⟨.hbm, 154, rfl⟩
abbrev main_call6_v0 : Ref sig .tc := ⟨.hbm, 155, rfl⟩
abbrev main_call6_v1 : Ref sig .tc := ⟨.hbm, 156, rfl⟩
abbrev main_v42 : Ref sig .tc := ⟨.hbm, 157, rfl⟩
abbrev main_v43 : Ref sig .tc := ⟨.hbm, 158, rfl⟩
abbrev main_call7_cst : Ref sig .tc := ⟨.hbm, 159, rfl⟩
abbrev main_call7_v0 : Ref sig .tc := ⟨.hbm, 160, rfl⟩
abbrev main_v44 : Ref sig .tc := ⟨.hbm, 161, rfl⟩
abbrev main_v45 : Ref sig .tc := ⟨.hbm, 162, rfl⟩
abbrev main_call8_cst : Ref sig .tc := ⟨.hbm, 163, rfl⟩
abbrev main_call8_v0 : Ref sig .tc := ⟨.hbm, 164, rfl⟩
abbrev main_v46 : Ref sig .tc := ⟨.hbm, 165, rfl⟩
abbrev main_call9_v0 : Ref sig .tc := ⟨.hbm, 166, rfl⟩
abbrev main_call9_v1 : Ref sig .tc := ⟨.hbm, 167, rfl⟩
abbrev main_v47 : Ref sig .tc := ⟨.hbm, 168, rfl⟩
abbrev main_v48 : Ref sig .tc := ⟨.hbm, 169, rfl⟩
abbrev main_v49 : Ref sig .tc := ⟨.hbm, 170, rfl⟩
abbrev main_cst_2 : Ref sig .tc := ⟨.hbm, 171, rfl⟩
abbrev main_v50 : Ref sig .tc := ⟨.hbm, 172, rfl⟩
abbrev main_v51 : Ref sig .tc := ⟨.hbm, 173, rfl⟩
abbrev main_v52 : Ref sig .tc := ⟨.hbm, 174, rfl⟩
abbrev main_v53 : Ref sig .tc := ⟨.hbm, 175, rfl⟩
abbrev main_v54 : Ref sig .tc := ⟨.hbm, 176, rfl⟩
abbrev main_v55 : Ref sig .tc := ⟨.hbm, 177, rfl⟩
abbrev main_v56 : Ref sig .tc := ⟨.hbm, 178, rfl⟩
abbrev main_v57 : Ref sig .tc := ⟨.hbm, 179, rfl⟩
abbrev main_v58 : Ref sig .tc := ⟨.hbm, 180, rfl⟩
abbrev main_v59 : Ref sig .tc := ⟨.hbm, 181, rfl⟩
abbrev main_v60 : Ref sig .tc := ⟨.hbm, 182, rfl⟩
abbrev main_v61 : Ref sig .tc := ⟨.hbm, 183, rfl⟩
abbrev main_v62 : Ref sig .tc := ⟨.hbm, 184, rfl⟩

abbrev nD : Nat := 1
abbrev τ : Topo := Topo.v7x

variable {F : FTy → Type} [FloatOps F]
-- ==== Merge.lean ====
abbrev S4096x1024 : Shape := ⟨2, ![4096, 1024]⟩
abbrev S1024x1024 : Shape := ⟨2, ![1024, 1024]⟩
abbrev S4096x512 : Shape := ⟨2, ![4096, 512]⟩
abbrev S4096x5120 : Shape := ⟨2, ![4096, 5120]⟩
abbrev S512x1024 : Shape := ⟨2, ![512, 1024]⟩
abbrev S4096x2048 : Shape := ⟨2, ![4096, 2048]⟩
abbrev S512x2048 : Shape := ⟨2, ![512, 2048]⟩
abbrev S512x512 : Shape := ⟨2, ![512, 512]⟩

abbrev nBuf : Space → Nat
  | .hbm => 20
  | .vmem => 23
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x512, .bf16⟩
  | .hbm, ⟨3, _⟩ => ⟨S4096x512, .bf16⟩
  | .hbm, ⟨4, _⟩ => ⟨S4096x5120, .bf16⟩
  | .hbm, ⟨5, _⟩ => ⟨S512x1024, .bf16⟩
  | .hbm, ⟨6, _⟩ => ⟨S512x1024, .bf16⟩
  | .hbm, ⟨7, _⟩ => ⟨S4096x512, .f32⟩
  | .hbm, ⟨8, _⟩ => ⟨S512x1024, .f32⟩
  | .hbm, ⟨9, _⟩ => ⟨S4096x1024, .f32⟩
  | .hbm, ⟨10, _⟩ => ⟨S4096x1024, .bf16⟩
  | .hbm, ⟨11, _⟩ => ⟨S4096x512, .f32⟩
  | .hbm, ⟨12, _⟩ => ⟨S512x1024, .f32⟩
  | .hbm, ⟨13, _⟩ => ⟨S4096x1024, .f32⟩
  | .hbm, ⟨14, _⟩ => ⟨S4096x1024, .bf16⟩
  | .hbm, ⟨15, _⟩ => ⟨S4096x1024, .bf16⟩
  | .hbm, ⟨16, _⟩ => ⟨S4096x1024, .bf16⟩
  | .hbm, ⟨17, _⟩ => ⟨S4096x2048, .bf16⟩
  | .hbm, ⟨18, _⟩ => ⟨S4096x512, .bf16⟩
  | .hbm, ⟨19, _⟩ => ⟨S4096x512, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x2048, .bf16⟩
  | .local _ .vmem, ⟨18, _⟩ => ⟨S512x2048, .bf16⟩
  | .local _ .vmem, ⟨19, _⟩ => ⟨S512x512, .bf16⟩
  | .local _ .vmem, ⟨20, _⟩ => ⟨S512x512, .bf16⟩
  | .local _ .vmem, ⟨21, _⟩ => ⟨S512x512, .bf16⟩
  | .local _ .vmem, ⟨22, _⟩ => ⟨S512x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v8_2 : Ref sig .tc := ⟨.hbm, 17, rfl⟩
abbrev main_v8_3 : Ref sig .tc := ⟨.hbm, 18, rfl⟩
abbrev main_v8_4 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_5 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== MergeRefIdeal.lean ====
abbrev S4096x1024 : Shape := ⟨2, ![4096, 1024]⟩
abbrev S1024x1024 : Shape := ⟨2, ![1024, 1024]⟩
abbrev S4096x512 : Shape := ⟨2, ![4096, 512]⟩
abbrev S4096x5120 : Shape := ⟨2, ![4096, 5120]⟩
abbrev S512x1024 : Shape := ⟨2, ![512, 1024]⟩
abbrev S4096x2048 : Shape := ⟨2, ![4096, 2048]⟩
abbrev S_ : Shape := ⟨0, ![]⟩

abbrev nBuf : Space → Nat
  | .hbm => 62
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x512, .bf16⟩
  | .hbm, ⟨3, _⟩ => ⟨S4096x512, .bf16⟩
  | .hbm, ⟨4, _⟩ => ⟨S4096x5120, .bf16⟩
  | .hbm, ⟨5, _⟩ => ⟨S512x1024, .bf16⟩
  | .hbm, ⟨6, _⟩ => ⟨S512x1024, .bf16⟩
  | .hbm, ⟨7, _⟩ => ⟨S1024x1024, .f32⟩
  | .hbm, ⟨8, _⟩ => ⟨S512x1024, .f32⟩
  | .hbm, ⟨9, _⟩ => ⟨S512x1024, .f32⟩
  | .hbm, ⟨10, _⟩ => ⟨S4096x512, .f32⟩
  | .hbm, ⟨11, _⟩ => ⟨S4096x1024, .f32⟩
  | .hbm, ⟨12, _⟩ => ⟨S4096x512, .f32⟩
  | .hbm, ⟨13, _⟩ => ⟨S4096x1024, .f32⟩
  | .hbm, ⟨14, _⟩ => ⟨S4096x2048, .bf16⟩
  | .hbm, ⟨15, _⟩ => ⟨S4096x2048, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S4096x1024, .f32⟩
  | .hbm, ⟨22, _⟩ => ⟨S4096x1024, .f32⟩
  | .hbm, ⟨23, _⟩ => ⟨S_, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S4096x1024, .f32⟩
  | .hbm, ⟨38, _⟩ => ⟨S4096x1024, .f32⟩
  | .hbm, ⟨39, _⟩ => ⟨S_, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x2048, .f32⟩
  | .hbm, ⟨55, _⟩ => ⟨S4096x512, .f32⟩
  | .hbm, ⟨56, _⟩ => ⟨S4096x512, .f32⟩
  | .hbm, ⟨57, _⟩ => ⟨S4096x1024, .bf16⟩
  | .hbm, ⟨58, _⟩ => ⟨S4096x1024, .bf16⟩
  | .hbm, ⟨59, _⟩ => ⟨S4096x2048, .bf16⟩
  | .hbm, ⟨60, _⟩ => ⟨S4096x512, .bf16⟩
  | .hbm, ⟨61, _⟩ => ⟨S4096x512, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩

abbrev nD : Nat := 1
abbrev τ : Topo := Topo.v7x

variable {F : FTy → Type} [FloatOps F]
-- ==== Conv.lean ====
abbrev S4096x512 : Shape := ⟨2, ![4096, 512]⟩
abbrev S4096x5120 : Shape := ⟨2, ![4096, 5120]⟩
abbrev S3x512 : Shape := ⟨2, ![3, 512]⟩
abbrev S4096x1536 : Shape := ⟨2, ![4096, 1536]⟩
abbrev S8x512 : Shape := ⟨2, ![8, 512]⟩
abbrev S512x512 : Shape := ⟨2, ![512, 512]⟩
abbrev S512x1536 : Shape := ⟨2, ![512, 1536]⟩
abbrev S1x512 : Shape := ⟨2, ![1, 512]⟩
abbrev S512 : Shape := ⟨1, ![512]⟩

abbrev nBuf : Space → Nat
  | .hbm => 5
  | .vmem => 20
  | .smem => 0
  | _ => 0

abbrev bufTy : (tb : Table) → Fin (tcTables nBuf tb) → BufTy
  | .hbm, ⟨0, _⟩ => ⟨S4096x512, .bf16⟩
  | .hbm, ⟨1, _⟩ => ⟨S4096x5120, .bf16⟩
  | .hbm, ⟨2, _⟩ => ⟨S3x512, .f32⟩
  | .hbm, ⟨3, _⟩ => ⟨S4096x1536, .bf16⟩
  | .hbm, ⟨4, _⟩ => ⟨S8x512, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S3x512, .f32⟩
  | .local _ .vmem, ⟨17, _⟩ => ⟨S512x1536, .bf16⟩
  | .local _ .vmem, ⟨18, _⟩ => ⟨S512x1536, .bf16⟩
  | .local _ .vmem, ⟨19, _⟩ => ⟨S8x512, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18
abbrev cc0_sem10_0 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_3 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c3_i32 : BitVec 32 := 3#32
  let c0_i32_0 : BitVec 32 := 0#32
  ![v1.toNat, c3_i32.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c5_i32 : BitVec 32 := 5#32
  let c0_i32_0 : BitVec 32 := 0#32
  ![v1.toNat, c5_i32.toNat]

def cc0_transform_6 (i : grid0.Coords) : Fin 2 → Nat :=
  let arg0 : BitVec 32 := BitVec.ofNat 32 (i 0).val
  let c1_i32 : BitVec 32 := 1#32
  let v0 : BitVec 32 := Scalar.addi arg0 c1_i32
  let c7_i32 : BitVec 32 := 7#32
  let v1 : BitVec 32 := Scalar.minsi v0 c7_i32
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let c1_i32 : BitVec 32 := 1#32
  let v0 : BitVec 32 := Scalar.addi arg0 c1_i32
  let c7_i32 : BitVec 32 := 7#32
  let v1 : BitVec 32 := Scalar.minsi v0 c7_i32
  let c4_i32 : BitVec 32 := 4#32
  let c0_i32 : BitVec 32 := 0#32
  ![v1.toNat, c4_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S3x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1536 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ConvRefIdeal.lean ====
abbrev S4096x512 : Shape := ⟨2, ![4096, 512]⟩
abbrev S4096x5120 : Shape := ⟨2, ![4096, 5120]⟩
abbrev S3x512 : Shape := ⟨2, ![3, 512]⟩
abbrev S_ : Shape := ⟨0, ![]⟩
abbrev S2x512 : Shape := ⟨2, ![2, 512]⟩
abbrev S4098x512 : Shape := ⟨2, ![4098, 512]⟩
abbrev S1x512 : Shape := ⟨2, ![1, 512]⟩
abbrev S512 : Shape := ⟨1, ![512]⟩
abbrev S4096x1536 : Shape := ⟨2, ![4096, 1536]⟩
abbrev S5x512 : Shape := ⟨2, ![5, 512]⟩
abbrev S8x512 : Shape := ⟨2, ![8, 512]⟩

abbrev nBuf : Space → Nat
  | .hbm => 88
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x5120, .bf16⟩
  | .hbm, ⟨2, _⟩ => ⟨S3x512, .f32⟩
  | .hbm, ⟨3, _⟩ => ⟨S4096x512, .bf16⟩
  | .hbm, ⟨4, _⟩ => ⟨S4096x512, .f32⟩
  | .hbm, ⟨5, _⟩ => ⟨S4096x512, .bf16⟩
  | .hbm, ⟨6, _⟩ => ⟨S4096x512, .f32⟩
  | .hbm, ⟨7, _⟩ => ⟨S4096x512, .bf16⟩
  | .hbm, ⟨8, _⟩ => ⟨S4096x512, .f32⟩
  | .hbm, ⟨9, _⟩ => ⟨S4096x512, .f32⟩
  | .hbm, ⟨10, _⟩ => ⟨S_, .f32⟩
  | .hbm, ⟨11, _⟩ => ⟨S2x512, .f32⟩
  | .hbm, ⟨12, _⟩ => ⟨S4098x512, .f32⟩
  | .hbm, ⟨13, _⟩ => ⟨S_, .f32⟩
  | .hbm, ⟨14, _⟩ => ⟨S2x512, .f32⟩
  | .hbm, ⟨15, _⟩ => ⟨S1x512, .f32⟩
  | .hbm, ⟨16, _⟩ => ⟨S512, .f32⟩
  | .hbm, ⟨17, _⟩ => ⟨S4096x512, .f32⟩
  | .hbm, ⟨18, _⟩ => ⟨S1x512, .f32⟩
  | .hbm, ⟨19, _⟩ => ⟨S4096x512, .f32⟩
  | .hbm, ⟨20, _⟩ => ⟨S4096x512, .f32⟩
  | .hbm, ⟨21, _⟩ => ⟨S1x512, .f32⟩
  | .hbm, ⟨22, _⟩ => ⟨S512, .f32⟩
  | .hbm, ⟨23, _⟩ => ⟨S4096x512, .f32⟩
  | .hbm, ⟨24, _⟩ => ⟨S1x512, .f32⟩
  | .hbm, ⟨25, _⟩ => ⟨S4096x512, .f32⟩
  | .hbm, ⟨26, _⟩ => ⟨S4096x512, .f32⟩
  | .hbm, ⟨27, _⟩ => ⟨S4096x512, .f32⟩
  | .hbm, ⟨28, _⟩ => ⟨S1x512, .f32⟩
  | .hbm, ⟨29, _⟩ => ⟨S512, .f32⟩
  | .hbm, ⟨30, _⟩ => ⟨S1x512, .f32⟩
  | .hbm, ⟨31, _⟩ => ⟨S4096x512, .f32⟩
  | .hbm, ⟨32, _⟩ => ⟨S4096x512, .f32⟩
  | .hbm, ⟨33, _⟩ => ⟨S4096x512, .f32⟩
  | .hbm, ⟨34, _⟩ => ⟨S4096x512, .f32⟩
  | .hbm, ⟨35, _⟩ => ⟨S4096x512, .f32⟩
  | .hbm, ⟨36, _⟩ => ⟨S4096x512, .f32⟩
  | .hbm, ⟨37, _⟩ => ⟨S4096x512, .f32⟩
  | .hbm, ⟨38, _⟩ => ⟨S4096x512, .f32⟩
  | .hbm, ⟨39, _⟩ => ⟨S4096x512, .f32⟩
  | .hbm, ⟨40, _⟩ => ⟨S4096x512, .f32⟩
  | .hbm, ⟨41, _⟩ => ⟨S_, .f32⟩
  | .hbm, ⟨42, _⟩ => ⟨S512, .f32⟩
  | .hbm, ⟨43, _⟩ => ⟨S1x512, .f32⟩
  | .hbm, ⟨44, _⟩ => ⟨S_, .f32⟩
  | .hbm, ⟨45, _⟩ => ⟨S512, .f32⟩
  | .hbm, ⟨46, _⟩ => ⟨S1x512, .f32⟩
  | .hbm, ⟨47, _⟩ => ⟨S_, .f32⟩
  | .hbm, ⟨48, _⟩ => ⟨S3x512, .f32⟩
  | .hbm, ⟨49, _⟩ => ⟨S4096x512, .f32⟩
  | .hbm, ⟨50, _⟩ => ⟨S4096x512, .f32⟩
  | .hbm, ⟨51, _⟩ => ⟨S4096x512, .f32⟩
  | .hbm, ⟨52, _⟩ => ⟨S_, .f32⟩
  | .hbm, ⟨53, _⟩ => ⟨S512, .f32⟩
  | .hbm, ⟨54, _⟩ => ⟨S1x512, .f32⟩
  | .hbm, ⟨55, _⟩ => ⟨S_, .f32⟩
  | .hbm, ⟨56, _⟩ => ⟨S512, .f32⟩
  | .hbm, ⟨57, _⟩ => ⟨S_, .f32⟩
  | .hbm, ⟨58, _⟩ => ⟨S4098x512, .f32⟩
  | .hbm, ⟨59, _⟩ => ⟨S1x512, .f32⟩
  | .hbm, ⟨60, _⟩ => ⟨S_, .f32⟩
  | .hbm, ⟨61, _⟩ => ⟨S3x512, .f32⟩
  | .hbm, ⟨62, _⟩ => ⟨S3x512, .f32⟩
  | .hbm, ⟨63, _⟩ => ⟨S4096x512, .f32⟩
  | .hbm, ⟨64, _⟩ => ⟨S4096x512, .f32⟩
  | .hbm, ⟨65, _⟩ => ⟨S4096x512, .f32⟩
  | .hbm, ⟨66, _⟩ => ⟨S_, .f32⟩
  | .hbm, ⟨67, _⟩ => ⟨S512, .f32⟩
  | .hbm, ⟨68, _⟩ => ⟨S1x512, .f32⟩
  | .hbm, ⟨69, _⟩ => ⟨S_, .f32⟩
  | .hbm, ⟨70, _⟩ => ⟨S512, .f32⟩
  | .hbm, ⟨71, _⟩ => ⟨S_, .f32⟩
  | .hbm, ⟨72, _⟩ => ⟨S4098x512, .f32⟩
  | .hbm, ⟨73, _⟩ => ⟨S4098x512, .f32⟩
  | .hbm, ⟨74, _⟩ => ⟨S1x512, .f32⟩
  | .hbm, ⟨75, _⟩ => ⟨S_, .f32⟩
  | .hbm, ⟨76, _⟩ => ⟨S3x512, .f32⟩
  | .hbm, ⟨77, _⟩ => ⟨S3x512, .f32⟩
  | .hbm, ⟨78, _⟩ => ⟨S2x512, .f32⟩
  | .hbm, ⟨79, _⟩ => ⟨S4096x512, .f32⟩
  | .hbm, ⟨80, _⟩ => ⟨S4096x512, .f32⟩
  | .hbm, ⟨81, _⟩ => ⟨S4096x512, .f32⟩
  | .hbm, ⟨82, _⟩ => ⟨S4096x512, .f32⟩
  | .hbm, ⟨83, _⟩ => ⟨S4096x1536, .f32⟩
  | .hbm, ⟨84, _⟩ => ⟨S4096x1536, .bf16⟩
  | .hbm, ⟨85, _⟩ => ⟨S_, .f32⟩
  | .hbm, ⟨86, _⟩ => ⟨S5x512, .f32⟩
  | .hbm, ⟨87, _⟩ => ⟨S8x512, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_cst_1 : Ref sig .tc := ⟨.hbm, 41, rfl⟩
abbrev main_v36 : Ref sig .tc := ⟨.hbm, 42, rfl⟩
abbrev main_v37 : Ref sig .tc := ⟨.hbm, 43, rfl⟩
abbrev main_cst_2 : Ref sig .tc := ⟨.hbm, 44, rfl⟩
abbrev main_v38 : Ref sig .tc := ⟨.hbm, 45, rfl⟩
abbrev main_v39 : Ref sig .tc := ⟨.hbm, 46, rfl⟩
abbrev main_cst_3 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_cst_4 : Ref sig .tc := ⟨.hbm, 52, rfl⟩
abbrev main_v44 : Ref sig .tc := ⟨.hbm, 53, rfl⟩
abbrev main_v45 : Ref sig .tc := ⟨.hbm, 54, rfl⟩
abbrev main_cst_5 : Ref sig .tc := ⟨.hbm, 55, rfl⟩
abbrev main_v46 : Ref sig .tc := ⟨.hbm, 56, rfl⟩
abbrev main_cst_6 : Ref sig .tc := ⟨.hbm, 57, rfl⟩
abbrev main_v47 : Ref sig .tc := ⟨.hbm, 58, rfl⟩
abbrev main_v48 : Ref sig .tc := ⟨.hbm, 59, rfl⟩
abbrev main_cst_7 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_cst_8 : Ref sig .tc := ⟨.hbm, 66, rfl⟩
abbrev main_v54 : Ref sig .tc := ⟨.hbm, 67, rfl⟩
abbrev main_v55 : Ref sig .tc := ⟨.hbm, 68, rfl⟩
abbrev main_cst_9 : Ref sig .tc := ⟨.hbm, 69, rfl⟩
abbrev main_v56 : Ref sig .tc := ⟨.hbm, 70, rfl⟩
abbrev main_cst_10 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_cst_11 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_cst_12 : Ref sig .tc := ⟨.hbm, 85, rfl⟩
abbrev main_v69 : Ref sig .tc := ⟨.hbm, 86, rfl⟩
abbrev main_v70 : Ref sig .tc := ⟨.hbm, 87, rfl⟩

abbrev nD : Nat := 1
abbrev τ : Topo := Topo.v7x

variable {F : FTy → Type} [FloatOps F]
-- ==== Memattn.lean ====
abbrev S4096x1024 : Shape := ⟨2, ![4096, 1024]⟩
abbrev S1024 : Shape := ⟨1, ![1024]⟩
abbrev S256x2048 : Shape := ⟨2, ![256, 2048]⟩
abbrev S1024x1024 : Shape := ⟨2, ![1024, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S8x1024 : Shape := ⟨2, ![8, 1024]⟩
abbrev S512x1024 : Shape := ⟨2, ![512, 1024]⟩
abbrev S512x256 : Shape := ⟨2, ![512, 256]⟩
abbrev S256x256 : Shape := ⟨2, ![256, 256]⟩
abbrev S512 : Shape := ⟨1, ![512]⟩
abbrev S512x1 : Shape := ⟨2, ![512, 1]⟩

abbrev nBuf : Space → Nat
  | .hbm => 34
  | .vmem => 20
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S256x2048, .bf16⟩
  | .hbm, ⟨4, _⟩ => ⟨S1024x1024, .bf16⟩
  | .hbm, ⟨5, _⟩ => ⟨S1024x1024, .bf16⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S1x1024, .f32⟩
  | .hbm, ⟨20, _⟩ => ⟨S4096x1024, .f32⟩
  | .hbm, ⟨21, _⟩ => ⟨S4096x1024, .f32⟩
  | .hbm, ⟨22, _⟩ => ⟨S4096x1024, .bf16⟩
  | .hbm, ⟨23, _⟩ => ⟨S4096x1024, .f32⟩
  | .hbm, ⟨24, _⟩ => ⟨S1024x1024, .f32⟩
  | .hbm, ⟨25, _⟩ => ⟨S4096x1024, .f32⟩
  | .hbm, ⟨26, _⟩ => ⟨S4096x1024, .bf16⟩
  | .hbm, ⟨27, _⟩ => ⟨S4096x1024, .bf16⟩
  | .hbm, ⟨28, _⟩ => ⟨S1x1024, .f32⟩
  | .hbm, ⟨29, _⟩ => ⟨S4096x1024, .f32⟩
  | .hbm, ⟨30, _⟩ => ⟨S4096x1024, .bf16⟩
  | .hbm, ⟨31, _⟩ => ⟨S8x1024, .f32⟩
  | .hbm, ⟨32, _⟩ => ⟨S4096x1024, .bf16⟩
  | .hbm, ⟨33, _⟩ => ⟨S256x2048, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .bf16⟩
  | .local _ .vmem, ⟨8, _⟩ => ⟨S512x1024, .bf16⟩
  | .local _ .vmem, ⟨9, _⟩ => ⟨S256x2048, .bf16⟩
  | .local _ .vmem, ⟨10, _⟩ => ⟨S1024x1024, .bf16⟩
  | .local _ .vmem, ⟨11, _⟩ => ⟨S1024x1024, .bf16⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S8x1024, .f32⟩
  | .local _ .vmem, ⟨17, _⟩ => ⟨S512x1024, .bf16⟩
  | .local _ .vmem, ⟨18, _⟩ => ⟨S512x1024, .bf16⟩
  | .local _ .vmem, ⟨19, _⟩ => ⟨S256x2048, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20_0 : Ref sig .tc := ⟨.hbm, 29, rfl⟩
abbrev main_v20_1 : Ref sig .tc := ⟨.hbm, 30, rfl⟩
abbrev main_v20_2 : Ref sig .tc := ⟨.hbm, 31, rfl⟩
abbrev main_v20_3 : Ref sig .tc := ⟨.hbm, 32, rfl⟩
abbrev main_v20_4 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem11_1 : DmaSem sig := 18
abbrev cc0_sem12_0 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S256x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== MemattnRefIdeal.lean ====
abbrev S4096x1024 : Shape := ⟨2, ![4096, 1024]⟩
abbrev S1024 : Shape := ⟨1, ![1024]⟩
abbrev S256x2048 : Shape := ⟨2, ![256, 2048]⟩
abbrev S1024x1024 : Shape := ⟨2, ![1024, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x4x256 : Shape := ⟨3, ![4096, 4, 256]⟩
abbrev S256x2x4x256 : Shape := ⟨4, ![256, 2, 4, 256]⟩
abbrev S256x1x4x256 : Shape := ⟨4, ![256, 1, 4, 256]⟩
abbrev S256x4x256 : Shape := ⟨3, ![256, 4, 256]⟩
abbrev S4x4096x256 : Shape := ⟨3, ![4, 4096, 256]⟩
abbrev S4x4096 : Shape := ⟨2, ![4, 4096]⟩
abbrev S4x4096x1 : Shape := ⟨3, ![4, 4096, 1]⟩
abbrev S4x256x4096 : Shape := ⟨3, ![4, 256, 4096]⟩
abbrev S4x256x256 : Shape := ⟨3, ![4, 256, 256]⟩
abbrev S8x1024 : Shape := ⟨2, ![8, 1024]⟩

abbrev nBuf : Space → Nat
  | .hbm => 149
  | .vmem => 0
  | .smem => 0
  | _ => 0

abbrev hbmTy0_0 (i : Nat) : BufTy := match i % 128 with
  | 0 => ⟨S4096x1024, .f32⟩
  | 1 => ⟨S4096x1024, .f32⟩
  | 2 => ⟨S1024, .f32⟩
  | 3 => ⟨S256x2048, .bf16⟩
  | 4 => ⟨S1024x1024, .bf16⟩
  | 5 => ⟨S1024x1024, .bf16⟩
  | 6 => ⟨S1024x1024, .f32⟩
  | 7 => ⟨S1024x1024, .f32⟩
  | 8 => ⟨S256x2048, .f32⟩
  | 9 => ⟨S4096x1024, .f32⟩
  | 10 => ⟨S_, .f32⟩
  | 11 => ⟨S4096, .f32⟩
  | 12 => ⟨S4096x1, .f32⟩
  | 13 => ⟨S_, .f32⟩
  | 14 => ⟨S4096x1, .f32⟩
  | 15 => ⟨S4096x1, .f32⟩
  | 16 => ⟨S_, .f32⟩
  | 17 => ⟨S4096x1, .f32⟩
  | 18 => ⟨S4096x1, .f32⟩
  | 19 => ⟨S4096x1, .f32⟩
  | 20 => ⟨S4096x1, .f32⟩
  | 21 => ⟨S_, .f32⟩
  | 22 => ⟨S4096x1, .f32⟩
  | 23 => ⟨S4096x1, .f32⟩
  | 24 => ⟨S4096x1024, .f32⟩
  | 25 => ⟨S4096x1024, .f32⟩
  | 26 => ⟨S1x1024, .f32⟩
  | 27 => ⟨S4096x1024, .f32⟩
  | 28 => ⟨S4096x1024, .f32⟩
  | 29 => ⟨S4096x1024, .f32⟩
  | 30 => ⟨S4096x4x256, .f32⟩
  | 31 => ⟨S256x2x4x256, .f32⟩
  | 32 => ⟨S256x1x4x256, .f32⟩
  | 33 => ⟨S256x4x256, .f32⟩
  | 34 => ⟨S256x1x4x256, .f32⟩
  | 35 => ⟨S256x4x256, .f32⟩
  | 36 => ⟨S4x4096x256, .f32⟩
  | 37 => ⟨S_, .f32⟩
  | 38 => ⟨S4x4096x256, .f32⟩
  | 39 => ⟨S4x4096x256, .f32⟩
  | 40 => ⟨S_, .f32⟩
  | 41 => ⟨S4x4096, .f32⟩
  | 42 => ⟨S4x4096x1, .f32⟩
  | 43 => ⟨S4x4096x256, .f32⟩
  | 44 => ⟨S4x4096x256, .i1⟩
  | 45 => ⟨S4x4096x256, .f32⟩
  | 46 => ⟨S_, .f32⟩
  | 47 => ⟨S4x4096, .f32⟩
  | 48 => ⟨S_, .f32⟩
  | 49 => ⟨S4x4096, .f32⟩
  | 50 => ⟨S4x4096, .f32⟩
  | 51 => ⟨S_, .f32⟩
  | 52 => ⟨S4x4096, .f32⟩
  | 53 => ⟨S4x4096, .i1⟩
  | 54 => ⟨S_, .f32⟩
  | 55 => ⟨S4x4096, .f32⟩
  | 56 => ⟨S4x4096, .i1⟩
  | 57 => ⟨S_, .f32⟩
  | 58 => ⟨S4x4096, .f32⟩
  | 59 => ⟨S_, .f32⟩
  | 60 => ⟨S4x4096, .f32⟩
  | 61 => ⟨S_, .f32⟩
  | 62 => ⟨S4x4096, .f32⟩
  | 63 => ⟨S4x4096, .f32⟩
  | 64 => ⟨S4x4096, .f32⟩
  | 65 => ⟨S4x4096x1, .f32⟩
  | 66 => ⟨S4x4096x256, .f32⟩
  | 67 => ⟨S4x4096x256, .f32⟩
  | 68 => ⟨S4x4096x256, .f32⟩
  | 69 => ⟨S_, .f32⟩
  | 70 => ⟨S4x4096, .f32⟩
  | 71 => ⟨S4x4096x1, .f32⟩
  | 72 => ⟨S4x4096x256, .f32⟩
  | 73 => ⟨S4x4096x256, .f32⟩
  | 74 => ⟨S4x4096x1, .f32⟩
  | 75 => ⟨S_, .f32⟩
  | 76 => ⟨S4x4096x1, .f32⟩
  | 77 => ⟨S4x4096x1, .f32⟩
  | 78 => ⟨S4x256x4096, .f32⟩
  | 79 => ⟨S4096x4x256, .f32⟩
  | 80 => ⟨S4096x1024, .f32⟩
  | 81 => ⟨S4096x1024, .f32⟩
  | 82 => ⟨S4096x1024, .f32⟩
  | 83 => ⟨S4096x4x256, .f32⟩
  | 84 => ⟨S4x256x4096, .f32⟩
  | 85 => ⟨S4x4096x256, .f32⟩
  | 86 => ⟨S4x256x256, .f32⟩
  | 87 => ⟨S256x4x256, .f32⟩
  | 88 => ⟨S4x4096x256, .f32⟩
  | 89 => ⟨S4x4096x256, .f32⟩
  | 90 => ⟨S4x4096x256, .f32⟩
  | 91 => ⟨S_, .f32⟩
  | 92 => ⟨S4x4096, .f32⟩
  | 93 => ⟨S4x4096x1, .f32⟩
  | 94 => ⟨S4x4096x1, .f32⟩
  | 95 => ⟨S4x4096x256, .f32⟩
  | 96 => ⟨S4x4096x256, .f32⟩
  | 97 => ⟨S_, .f32⟩
  | 98 => ⟨S4x4096, .f32⟩
  | 99 => ⟨S4x4096x256, .f32⟩
  | 100 => ⟨S4x4096x256, .f32⟩
  | 101 => ⟨S4x4096x256, .f32⟩
  | 102 => ⟨S_, .f32⟩
  | 103 => ⟨S4x4096x256, .f32⟩
  | 104 => ⟨S4x4096x256, .f32⟩
  | 105 => ⟨S4x256x256, .f32⟩
  | 106 => ⟨S256x4x256, .f32⟩
  | 107 => ⟨S4x4096x256, .f32⟩
  | 108 => ⟨S4096x4x256, .f32⟩
  | 109 => ⟨S256x1x4x256, .f32⟩
  | 110 => ⟨S_, .f32⟩
  | 111 => ⟨S256x2x4x256, .f32⟩
  | 112 => ⟨S256x1x4x256, .f32⟩
  | 113 => ⟨S_, .f32⟩
  | 114 => ⟨S256x2x4x256, .f32⟩
  | 115 => ⟨S256x2x4x256, .f32⟩
  | 116 => ⟨S256x2048, .f32⟩
  | 117 => ⟨S4096x1024, .f32⟩
  | 118 => ⟨S4096x1024, .f32⟩
  | 119 => ⟨S4096x1024, .f32⟩
  | 120 => ⟨S_, .f32⟩
  | 121 => ⟨S1024, .f32⟩
  | 122 => ⟨S1x1024, .f32⟩
  | 123 => ⟨S4096x1024, .f32⟩
  | 124 => ⟨S4096x1024, .f32⟩
  | 125 => ⟨S_, .f32⟩
  | 126 => ⟨S1024, .f32⟩
  | 127 => ⟨S4096x1024, .f32⟩
  | _ => ⟨S4096x1024, .f32⟩

abbrev hbmTy0_1 (i : Nat) : BufTy := match i % 128 with
  | 0 => ⟨S_, .f32⟩
  | 1 => ⟨S4096, .f32⟩
  | 2 => ⟨S4096x1, .f32⟩
  | 3 => ⟨S4096x1024, .f32⟩
  | 4 => ⟨S4096x1024, .f32⟩
  | 5 => ⟨S4096x1, .f32⟩
  | 6 => ⟨S_, .f32⟩
  | 7 => ⟨S4096x1, .f32⟩
  | 8 => ⟨S4096x1, .f32⟩
  | 9 => ⟨S_, .f32⟩
  | 10 => ⟨S4096, .f32⟩
  | 11 => ⟨S4096x1024, .f32⟩
  | 12 => ⟨S4096x1024, .f32⟩
  | 13 => ⟨S4096x1024, .f32⟩
  | 14 => ⟨S4096x1024, .f32⟩
  | 15 => ⟨S4096x1024, .f32⟩
  | 16 => ⟨S4096x1024, .f32⟩
  | 17 => ⟨S4096x1024, .bf16⟩
  | 18 => ⟨S1x1024, .f32⟩
  | 19 => ⟨S8x1024, .f32⟩
  | 20 => ⟨S4096x1024, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_3 : Ref sig .tc := ⟨.hbm, 37, rfl⟩
abbrev main_v27 : Ref sig .tc := ⟨.hbm, 38, rfl⟩
abbrev main_v28 : Ref sig .tc := ⟨.hbm, 39, rfl⟩
abbrev main_cst_4 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_5 : Ref sig .tc := ⟨.hbm, 46, rfl⟩
abbrev main_v34 : Ref sig .tc := ⟨.hbm, 47, rfl⟩
abbrev main_cst_6 : Ref sig .tc := ⟨.hbm, 48, rfl⟩
abbrev main_v35 : Ref sig .tc := ⟨.hbm, 49, rfl⟩
abbrev main_v36 : Ref sig .tc := ⟨.hbm, 50, rfl⟩
abbrev main_cst_7 : Ref sig .tc := ⟨.hbm, 51, rfl⟩
abbrev main_v37 : Ref sig .tc := ⟨.hbm, 52, rfl⟩
abbrev main_v38 : Ref sig .tc := ⟨.hbm, 53, rfl⟩
abbrev main_cst_8 : Ref sig .tc := ⟨.hbm, 54, rfl⟩
abbrev main_v39 : Ref sig .tc := ⟨.hbm, 55, rfl⟩
abbrev main_v40 : Ref sig .tc := ⟨.hbm, 56, rfl⟩
abbrev main_cst_9 : Ref sig .tc := ⟨.hbm, 57, rfl⟩
abbrev main_v41 : Ref sig .tc := ⟨.hbm, 58, rfl⟩
abbrev main_cst_10 : Ref sig .tc := ⟨.hbm, 59, rfl⟩
abbrev main_v42 : Ref sig .tc := ⟨.hbm, 60, rfl⟩
abbrev main_cst_11 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_12 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_13 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_cst_14 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_cst_15 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_cst_16 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_cst_17 : Ref sig .tc := ⟨.hbm, 110, rfl⟩
abbrev main_v86 : Ref sig .tc := ⟨.hbm, 111, rfl⟩
abbrev main_v87 : Ref sig .tc := ⟨.hbm, 112, rfl⟩
abbrev main_cst_18 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_cst_19 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_cst_20 : Ref sig .tc := ⟨.hbm, 125, rfl⟩
abbrev main_v98 : Ref sig .tc := ⟨.hbm, 126, rfl⟩
abbrev main_v99 : Ref sig .tc := ⟨.hbm, 127, rfl⟩
abbrev main_cst_21 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_cst_22 : Ref sig .tc := ⟨.hbm, 134, rfl⟩
abbrev main_v105 : Ref sig .tc := ⟨.hbm, 135, rfl⟩
abbrev main_v106 : Ref sig .tc := ⟨.hbm, 136, rfl⟩
abbrev main_cst_23 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩

abbrev nD : Nat := 1
abbrev τ : Topo := Topo.v7x

variable {F : FTy → Type} [FloatOps F]
-- ==== Loss.lean ====
abbrev S4096x5632 : Shape := ⟨2, ![4096, 5632]⟩
abbrev S2816x1024 : Shape := ⟨2, ![2816, 1024]⟩
abbrev S4096x1024 : Shape := ⟨2, ![4096, 1024]⟩
abbrev S1024 : Shape := ⟨1, ![1024]⟩
abbrev S4096x8x704 : Shape := ⟨3, ![4096, 8, 704]⟩
abbrev S8x4096x704 : Shape := ⟨3, ![8, 4096, 704]⟩
abbrev S4x704x1024 : Shape := ⟨3, ![4, 704, 1024]⟩
abbrev S1x1024 : Shape := ⟨2, ![1, 1024]⟩
abbrev S2x4x4096x704 : Shape := ⟨4, ![2, 4, 4096, 704]⟩
abbrev S8x1024 : Shape := ⟨2, ![8, 1024]⟩
abbrev S8x128 : Shape := ⟨2, ![8, 128]⟩
abbrev S4x4096x704 : Shape := ⟨3, ![4, 4096, 704]⟩
abbrev S2x4x512x704 : Shape := ⟨4, ![2, 4, 512, 704]⟩
abbrev S512x1024 : Shape := ⟨2, ![512, 1024]⟩
abbrev S4x512x704 : Shape := ⟨3, ![4, 512, 704]⟩
abbrev S1x1x512x704 : Shape := ⟨4, ![1, 1, 512, 704]⟩
abbrev S512x704 : Shape := ⟨2, ![512, 704]⟩
abbrev S1x512x704 : Shape := ⟨3, ![1, 512, 704]⟩
abbrev S1x704x1024 : Shape := ⟨3, ![1, 704, 1024]⟩
abbrev S704x1024 : Shape := ⟨2, ![704, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 15
  | .vmem => 16
  | .smem => 0
  | _ => 0

abbrev bufTy : (tb : Table) → Fin (tcTables nBuf tb) → BufTy
  | .hbm, ⟨0, _⟩ => ⟨S4096x5632, .bf16⟩
  | .hbm, ⟨1, _⟩ => ⟨S2816x1024, .bf16⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S4096x8x704, .bf16⟩
  | .hbm, ⟨6, _⟩ => ⟨S8x4096x704, .bf16⟩
  | .hbm, ⟨7, _⟩ => ⟨S4x704x1024, .bf16⟩
  | .hbm, ⟨8, _⟩ => ⟨S1x1024, .f32⟩
  | .hbm, ⟨9, _⟩ => ⟨S2x4x4096x704, .bf16⟩
  | .hbm, ⟨10, _⟩ => ⟨S4096x1024, .f32⟩
  | .hbm, ⟨11, _⟩ => ⟨S4096x1024, .bf16⟩
  | .hbm, ⟨12, _⟩ => ⟨S8x1024, .f32⟩
  | .hbm, ⟨13, _⟩ => ⟨S8x128, .f32⟩
  | .hbm, ⟨14, _⟩ => ⟨S4x4096x704, .bf16⟩
  | .local _ .vmem, ⟨0, _⟩ => ⟨S2x4x512x704, .bf16⟩
  | .local _ .vmem, ⟨1, _⟩ => ⟨S2x4x512x704, .bf16⟩
  | .local _ .vmem, ⟨2, _⟩ => ⟨S4x704x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S8x1024, .f32⟩
  | .local _ .vmem, ⟨13, _⟩ => ⟨S8x128, .f32⟩
  | .local _ .vmem, ⟨14, _⟩ => ⟨S4x512x704, .bf16⟩
  | .local _ .vmem, ⟨15, _⟩ => ⟨S4x512x704, .bf16⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev main_v5_4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S2x4x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x704x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S4x512x704 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== LossRefIdeal.lean ====
abbrev S4096x5632 : Shape := ⟨2, ![4096, 5632]⟩
abbrev S2816x1024 : Shape := ⟨2, ![2816, 1024]⟩
abbrev S4096x1024 : Shape := ⟨2, ![4096, 1024]⟩
abbrev S1024 : Shape := ⟨1, ![1024]⟩
abbrev S4096x2816 : Shape := ⟨2, ![4096, 2816]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x4x704 : Shape := ⟨3, ![4096, 4, 704]⟩
abbrev S4x4096x704 : Shape := ⟨3, ![4, 4096, 704]⟩
abbrev S8x1024 : Shape := ⟨2, ![8, 1024]⟩
abbrev S8x128 : Shape := ⟨2, ![8, 128]⟩

abbrev nBuf : Space → Nat
  | .hbm => 96
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S2816x1024, .bf16⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S4096x5632, .f32⟩
  | .hbm, ⟨6, _⟩ => ⟨S4096x2816, .f32⟩
  | .hbm, ⟨7, _⟩ => ⟨S4096x2816, .f32⟩
  | .hbm, ⟨8, _⟩ => ⟨S4096x2816, .f32⟩
  | .hbm, ⟨9, _⟩ => ⟨S4096x2816, .f32⟩
  | .hbm, ⟨10, _⟩ => ⟨S_, .f32⟩
  | .hbm, ⟨11, _⟩ => ⟨S4096x2816, .f32⟩
  | .hbm, ⟨12, _⟩ => ⟨S4096x2816, .f32⟩
  | .hbm, ⟨13, _⟩ => ⟨S_, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S2816x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S4096, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S4096x1, .f32⟩
  | .hbm, ⟨32, _⟩ => ⟨S4096x1, .f32⟩
  | .hbm, ⟨33, _⟩ => ⟨S_, .f32⟩
  | .hbm, ⟨34, _⟩ => ⟨S4096x1, .f32⟩
  | .hbm, ⟨35, _⟩ => ⟨S4096x1, .f32⟩
  | .hbm, ⟨36, _⟩ => ⟨S4096x1024, .f32⟩
  | .hbm, ⟨37, _⟩ => ⟨S4096x1024, .f32⟩
  | .hbm, ⟨38, _⟩ => ⟨S1x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S_, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S4096, .f32⟩
  | .hbm, ⟨48, _⟩ => ⟨S_, .f32⟩
  | .hbm, ⟨49, _⟩ => ⟨S4096, .f32⟩
  | .hbm, ⟨50, _⟩ => ⟨S4096, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S4096, .f32⟩
  | .hbm, ⟨59, _⟩ => ⟨S_, .f32⟩
  | .hbm, ⟨60, _⟩ => ⟨S4096, .f32⟩
  | .hbm, ⟨61, _⟩ => ⟨S4096, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S_, .f32⟩
  | .hbm, ⟨66, _⟩ => ⟨S1024, .f32⟩
  | .hbm, ⟨67, _⟩ => ⟨S1x1024, .f32⟩
  | .hbm, ⟨68, _⟩ => ⟨S4096x1024, .f32⟩
  | .hbm, ⟨69, _⟩ => ⟨S4096x1024, .f32⟩
  | .hbm, ⟨70, _⟩ => ⟨S_, .f32⟩
  | .hbm, ⟨71, _⟩ => ⟨S1024, .f32⟩
  | .hbm, ⟨72, _⟩ => ⟨S4096x1024, .f32⟩
  | .hbm, ⟨73, _⟩ => ⟨S_, .f32⟩
  | .hbm, ⟨74, _⟩ => ⟨S4096, .f32⟩
  | .hbm, ⟨75, _⟩ => ⟨S4096x1, .f32⟩
  | .hbm, ⟨76, _⟩ => ⟨S4096x1024, .f32⟩
  | .hbm, ⟨77, _⟩ => ⟨S4096x1024, .f32⟩
  | .hbm, ⟨78, _⟩ => ⟨S4096x1, .f32⟩
  | .hbm, ⟨79, _⟩ => ⟨S_, .f32⟩
  | .hbm, ⟨80, _⟩ => ⟨S4096x1, .f32⟩
  | .hbm, ⟨81, _⟩ => ⟨S4096x1, .f32⟩
  | .hbm, ⟨82, _⟩ => ⟨S_, .f32⟩
  | .hbm, ⟨83, _⟩ => ⟨S4096, .f32⟩
  | .hbm, ⟨84, _⟩ => ⟨S4096x1024, .f32⟩
  | .hbm, ⟨85, _⟩ => ⟨S4096x1024, .f32⟩
  | .hbm, ⟨86, _⟩ => ⟨S4096x1024, .f32⟩
  | .hbm, ⟨87, _⟩ => ⟨S4096x1024, .f32⟩
  | .hbm, ⟨88, _⟩ => ⟨S4096x1024, .f32⟩
  | .hbm, ⟨89, _⟩ => ⟨S4096x2816, .bf16⟩
  | .hbm, ⟨90, _⟩ => ⟨S4096x4x704, .bf16⟩
  | .hbm, ⟨91, _⟩ => ⟨S4x4096x704, .bf16⟩
  | .hbm, ⟨92, _⟩ => ⟨S4096x1024, .bf16⟩
  | .hbm, ⟨93, _⟩ => ⟨S1x1024, .f32⟩
  | .hbm, ⟨94, _⟩ => ⟨S8x1024, .f32⟩
  | .hbm, ⟨95, _⟩ => ⟨S8x128, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst : Ref sig .tc := ⟨.hbm, 22, rfl⟩
abbrev main_v9 : Ref sig .tc := ⟨.hbm, 23, rfl⟩
abbrev main_v10 : Ref sig .tc := ⟨.hbm, 24, rfl⟩
abbrev main_cst_0 : Ref sig .tc := ⟨.hbm, 25, rfl⟩
abbrev main_v11 : Ref sig .tc := ⟨.hbm, 26, rfl⟩
abbrev main_v12 : Ref sig .tc := ⟨.hbm, 27, rfl⟩
abbrev main_cst_1 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_2 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_3 : Ref sig .tc := ⟨.hbm, 43, rfl⟩
abbrev main_v26 : Ref sig .tc := ⟨.hbm, 44, rfl⟩
abbrev main_v27 : Ref sig .tc := ⟨.hbm, 45, rfl⟩
abbrev main_cst_4 : Ref sig .tc := ⟨.hbm, 46, rfl⟩
abbrev main_v28 : Ref sig .tc := ⟨.hbm, 47, rfl⟩
abbrev main_cst_5 : Ref sig .tc := ⟨.hbm, 48, rfl⟩
abbrev main_v29 : Ref sig .tc := ⟨.hbm, 49, rfl⟩
abbrev main_v30 : Ref sig .tc := ⟨.hbm, 50, rfl⟩
abbrev main_cst_6 : Ref sig .tc := ⟨.hbm, 51, rfl⟩
abbrev main_v31 : Ref sig .tc := ⟨.hbm, 52, rfl⟩
abbrev main_cst_7 : Ref sig .tc := ⟨.hbm, 53, rfl⟩
abbrev main_v32 : Ref sig .tc := ⟨.hbm, 54, rfl⟩
abbrev main_cst_8 : Ref sig .tc := ⟨.hbm, 55, rfl⟩
abbrev main_cst_9 : Ref sig .tc := ⟨.hbm, 56, rfl⟩
abbrev main_v33 : Ref sig .tc := ⟨.hbm, 57, rfl⟩
abbrev main_v34 : Ref sig .tc := ⟨.hbm, 58, rfl⟩
abbrev main_cst_10 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst_11 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_cst_12 : Ref sig .tc := ⟨.hbm, 70, rfl⟩
abbrev main_v44 : Ref sig .tc := ⟨.hbm, 71, rfl⟩
abbrev main_v45 : Ref sig .tc := ⟨.hbm, 72, rfl⟩
abbrev main_cst_13 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_cst_14 : Ref sig .tc := ⟨.hbm, 79, rfl⟩
abbrev main_v51 : Ref sig .tc := ⟨.hbm, 80, rfl⟩
abbrev main_v52 : Ref sig .tc := ⟨.hbm, 81, rfl⟩
abbrev main_cst_15 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩

abbrev nD : Nat := 1
abbrev τ : Topo := Topo.v7x

variable {F : FTy → Type} [FloatOps F]
-- ==== FfnIn.lean ====
abbrev S4096x5632 : Shape := ⟨2, ![4096, 5632]⟩
abbrev S1024x5632 : Shape := ⟨2, ![1024, 5632]⟩
abbrev S4096x1024 : Shape := ⟨2, ![4096, 1024]⟩
abbrev S1024 : Shape := ⟨1, ![1024]⟩
abbrev S4096x8x704 : Shape := ⟨3, ![4096, 8, 704]⟩
abbrev S8x4096x704 : Shape := ⟨3, ![8, 4096, 704]⟩
abbrev S5632x1024 : Shape := ⟨2, ![5632, 1024]⟩
abbrev S8x704x1024 : Shape := ⟨3, ![8, 704, 1024]⟩
abbrev S1x1024 : Shape := ⟨2, ![1, 1024]⟩
abbrev S8x1024 : Shape := ⟨2, ![8, 1024]⟩
abbrev S8x512x704 : Shape := ⟨3, ![8, 512, 704]⟩
abbrev S512x1024 : Shape := ⟨2, ![512, 1024]⟩
abbrev S1x512x704 : Shape := ⟨3, ![1, 512, 704]⟩
abbrev S512x704 : Shape := ⟨2, ![512, 704]⟩
abbrev S1x704x1024 : Shape := ⟨3, ![1, 704, 1024]⟩
abbrev S704x1024 : Shape := ⟨2, ![704, 1024]⟩
abbrev S512 : Shape := ⟨1, ![512]⟩
abbrev S512x1 : Shape := ⟨2, ![512, 1]⟩

abbrev nBuf : Space → Nat
  | .hbm => 13
  | .vmem => 13
  | .smem => 0
  | _ => 0

abbrev bufTy : (tb : Table) → Fin (tcTables nBuf tb) → BufTy
  | .hbm, ⟨0, _⟩ => ⟨S4096x5632, .bf16⟩
  | .hbm, ⟨1, _⟩ => ⟨S1024x5632, .bf16⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S4096x8x704, .bf16⟩
  | .hbm, ⟨6, _⟩ => ⟨S8x4096x704, .bf16⟩
  | .hbm, ⟨7, _⟩ => ⟨S5632x1024, .bf16⟩
  | .hbm, ⟨8, _⟩ => ⟨S8x704x1024, .bf16⟩
  | .hbm, ⟨9, _⟩ => ⟨S1x1024, .f32⟩
  | .hbm, ⟨10, _⟩ => ⟨S4096x1024, .f32⟩
  | .hbm, ⟨11, _⟩ => ⟨S4096x1024, .bf16⟩
  | .hbm, ⟨12, _⟩ => ⟨S8x1024, .f32⟩
  | .local _ .vmem, ⟨0, _⟩ => ⟨S8x512x704, .bf16⟩
  | .local _ .vmem, ⟨1, _⟩ => ⟨S8x512x704, .bf16⟩
  | .local _ .vmem, ⟨2, _⟩ => ⟨S8x704x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S8x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x704x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== FfnInRefIdeal.lean ====
abbrev S4096x5632 : Shape := ⟨2, ![4096, 5632]⟩
abbrev S1024x5632 : Shape := ⟨2, ![1024, 5632]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S8x1024 : Shape := ⟨2, ![8, 1024]⟩

abbrev nBuf : Space → Nat
  | .hbm => 58
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S1024x5632, .bf16⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S1024x5632, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S4096x5632, .f32⟩
  | .hbm, ⟨27, _⟩ => ⟨S4096x5632, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S1024, .f32⟩
  | .hbm, ⟨37, _⟩ => ⟨S4096x1024, .f32⟩
  | .hbm, ⟨38, _⟩ => ⟨S_, .f32⟩
  | .hbm, ⟨39, _⟩ => ⟨S4096, .f32⟩
  | .hbm, ⟨40, _⟩ => ⟨S4096x1, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1, .f32⟩
  | .hbm, ⟨45, _⟩ => ⟨S_, .f32⟩
  | .hbm, ⟨46, _⟩ => ⟨S4096x1, .f32⟩
  | .hbm, ⟨47, _⟩ => ⟨S4096x1, .f32⟩
  | .hbm, ⟨48, _⟩ => ⟨S_, .f32⟩
  | .hbm, ⟨49, _⟩ => ⟨S4096, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .bf16⟩
  | .hbm, ⟨56, _⟩ => ⟨S1x1024, .f32⟩
  | .hbm, ⟨57, _⟩ => ⟨S8x1024, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩

abbrev nD : Nat := 1
abbrev τ : Topo := Topo.v7x

variable {F : FTy → Type} [FloatOps F]
-- ==== MemKv.lean ====
abbrev S256x2048 : Shape := ⟨2, ![256, 2048]⟩
abbrev S1024x2048 : Shape := ⟨2, ![1024, 2048]⟩
abbrev S256x1024 : Shape := ⟨2, ![256, 1024]⟩
abbrev S1024 : Shape := ⟨1, ![1024]⟩
abbrev S1024x8x256 : Shape := ⟨3, ![1024, 8, 256]⟩
abbrev S8x1024x256 : Shape := ⟨3, ![8, 1024, 256]⟩
abbrev S1x1024 : Shape := ⟨2, ![1, 1024]⟩
abbrev S8x1024 : Shape := ⟨2, ![8, 1024]⟩
abbrev S256x256 : Shape := ⟨2, ![256, 256]⟩
abbrev S1x1024x256 : Shape := ⟨3, ![1, 1024, 256]⟩
abbrev S1024x256 : Shape := ⟨2, ![1024, 256]⟩
abbrev S256 : Shape := ⟨1, ![256]⟩
abbrev S256x1 : Shape := ⟨2, ![256, 1]⟩

abbrev nBuf : Space → Nat
  | .hbm => 10
  | .vmem => 7
  | .smem => 0
  | _ => 0

abbrev bufTy : (tb : Table) → Fin (tcTables nBuf tb) → BufTy
  | .hbm, ⟨0, _⟩ => ⟨S256x2048, .f32⟩
  | .hbm, ⟨1, _⟩ => ⟨S1024x2048, .bf16⟩
  | .hbm, ⟨2, _⟩ => ⟨S256x1024, .f32⟩
  | .hbm, ⟨3, _⟩ => ⟨S1024, .f32⟩
  | .hbm, ⟨4, _⟩ => ⟨S1024x8x256, .bf16⟩
  | .hbm, ⟨5, _⟩ => ⟨S8x1024x256, .bf16⟩
  | .hbm, ⟨6, _⟩ => ⟨S1x1024, .f32⟩
  | .hbm, ⟨7, _⟩ => ⟨S256x1024, .f32⟩
  | .hbm, ⟨8, _⟩ => ⟨S256x1024, .bf16⟩
  | .hbm, ⟨9, _⟩ => ⟨S8x1024, .f32⟩
  | .local _ .vmem, ⟨0, _⟩ => ⟨S256x2048, .f32⟩
  | .local _ .vmem, ⟨1, _⟩ => ⟨S8x1024x256, .bf16⟩
  | .local _ .vmem, ⟨2, _⟩ => ⟨S256x1024, .f32⟩
  | .local _ .vmem, ⟨3, _⟩ => ⟨S1x1024, .f32⟩
  | .local _ .vmem, ⟨4, _⟩ => ⟨S256x1024, .f32⟩
  | .local _ .vmem, ⟨5, _⟩ => ⟨S256x1024, .bf16⟩
  | .local _ .vmem, ⟨6, _⟩ => ⟨S8x1024, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== MemKvRefIdeal.lean ====
abbrev S256x2048 : Shape := ⟨2, ![256, 2048]⟩
abbrev S1024x2048 : Shape := ⟨2, ![1024, 2048]⟩
abbrev S256x1024 : Shape := ⟨2, ![256, 1024]⟩
abbrev S1024 : Shape := ⟨1, ![1024]⟩
abbrev S_ : Shape := ⟨0, ![]⟩
abbrev S256 : Shape := ⟨1, ![256]⟩
abbrev S256x1 : Shape := ⟨2, ![256, 1]⟩
abbrev S1x1024 : Shape := ⟨2, ![1, 1024]⟩
abbrev S8x1024 : Shape := ⟨2, ![8, 1024]⟩

abbrev nBuf : Space → Nat
  | .hbm => 55
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S1024x2048, .bf16⟩
  | .hbm, ⟨2, _⟩ => ⟨S256x1024, .f32⟩
  | .hbm, ⟨3, _⟩ => ⟨S1024, .f32⟩
  | .hbm, ⟨4, _⟩ => ⟨S1024x2048, .f32⟩
  | .hbm, ⟨5, _⟩ => ⟨S256x1024, .f32⟩
  | .hbm, ⟨6, _⟩ => ⟨S_, .f32⟩
  | .hbm, ⟨7, _⟩ => ⟨S256, .f32⟩
  | .hbm, ⟨8, _⟩ => ⟨S256x1, .f32⟩
  | .hbm, ⟨9, _⟩ => ⟨S_, .f32⟩
  | .hbm, ⟨10, _⟩ => ⟨S256x1, .f32⟩
  | .hbm, ⟨11, _⟩ => ⟨S256x1, .f32⟩
  | .hbm, ⟨12, _⟩ => ⟨S_, .f32⟩
  | .hbm, ⟨13, _⟩ => ⟨S256x1, .f32⟩
  | .hbm, ⟨14, _⟩ => ⟨S256x1, .f32⟩
  | .hbm, ⟨15, _⟩ => ⟨S256x1, .f32⟩
  | .hbm, ⟨16, _⟩ => ⟨S256x1, .f32⟩
  | .hbm, ⟨17, _⟩ => ⟨S_, .f32⟩
  | .hbm, ⟨18, _⟩ => ⟨S256x1, .f32⟩
  | .hbm, ⟨19, _⟩ => ⟨S256x1, .f32⟩
  | .hbm, ⟨20, _⟩ => ⟨S256x1024, .f32⟩
  | .hbm, ⟨21, _⟩ => ⟨S256x1024, .f32⟩
  | .hbm, ⟨22, _⟩ => ⟨S1x1024, .f32⟩
  | .hbm, ⟨23, _⟩ => ⟨S256x1024, .f32⟩
  | .hbm, ⟨24, _⟩ => ⟨S256x1024, .f32⟩
  | .hbm, ⟨25, _⟩ => ⟨S256x2048, .f32⟩
  | .hbm, ⟨26, _⟩ => ⟨S256x1024, .f32⟩
  | .hbm, ⟨27, _⟩ => ⟨S256x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S256x1024, .f32⟩
  | .hbm, ⟨32, _⟩ => ⟨S256x1024, .f32⟩
  | .hbm, ⟨33, _⟩ => ⟨S_, .f32⟩
  | .hbm, ⟨34, _⟩ => ⟨S1024, .f32⟩
  | .hbm, ⟨35, _⟩ => ⟨S256x1024, .f32⟩
  | .hbm, ⟨36, _⟩ => ⟨S_, .f32⟩
  | .hbm, ⟨37, _⟩ => ⟨S256, .f32⟩
  | .hbm, ⟨38, _⟩ => ⟨S256x1, .f32⟩
  | .hbm, ⟨39, _⟩ => ⟨S256x1024, .f32⟩
  | .hbm, ⟨40, _⟩ => ⟨S256x1024, .f32⟩
  | .hbm, ⟨41, _⟩ => ⟨S256x1, .f32⟩
  | .hbm, ⟨42, _⟩ => ⟨S_, .f32⟩
  | .hbm, ⟨43, _⟩ => ⟨S256x1, .f32⟩
  | .hbm, ⟨44, _⟩ => ⟨S256x1, .f32⟩
  | .hbm, ⟨45, _⟩ => ⟨S_, .f32⟩
  | .hbm, ⟨46, _⟩ => ⟨S256, .f32⟩
  | .hbm, ⟨47, _⟩ => ⟨S256x1024, .f32⟩
  | .hbm, ⟨48, _⟩ => ⟨S256x1024, .f32⟩
  | .hbm, ⟨49, _⟩ => ⟨S256x1024, .f32⟩
  | .hbm, ⟨50, _⟩ => ⟨S256x1024, .f32⟩
  | .hbm, ⟨51, _⟩ => ⟨S256x1024, .f32⟩
  | .hbm, ⟨52, _⟩ => ⟨S256x1024, .bf16⟩
  | .hbm, ⟨53, _⟩ => ⟨S1x1024, .f32⟩
  | .hbm, ⟨54, _⟩ => ⟨S8x1024, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_6 : Ref sig .tc := ⟨.hbm, 42, rfl⟩
abbrev main_v31 : Ref sig .tc := ⟨.hbm, 43, rfl⟩
abbrev main_v32 : Ref sig .tc := ⟨.hbm, 44, rfl⟩
abbrev main_cst_7 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩

abbrev nD : Nat := 1
abbrev τ : Topo := Topo.v7x

variable {F : FTy → Type} [FloatOps F]
-- ==== Gain.lean ====
abbrev S4096x5120 : Shape := ⟨2, ![4096, 5120]⟩
abbrev S1024x5120 : Shape := ⟨2, ![1024, 5120]⟩
abbrev S4096x1024 : Shape := ⟨2, ![4096, 1024]⟩
abbrev S1024x8x640 : Shape := ⟨3, ![1024, 8, 640]⟩
abbrev S8x1024x640 : Shape := ⟨3, ![8, 1024, 640]⟩
abbrev S8x1024 : Shape := ⟨2, ![8, 1024]⟩
abbrev S512x5120 : Shape := ⟨2, ![512, 5120]⟩
abbrev S512x1024 : Shape := ⟨2, ![512, 1024]⟩
abbrev S512x640 : Shape := ⟨2, ![512, 640]⟩
abbrev S1x1024x640 : Shape := ⟨3, ![1, 1024, 640]⟩
abbrev S1024x640 : Shape := ⟨2, ![1024, 640]⟩
abbrev S512 : Shape := ⟨1, ![512]⟩
abbrev S512x1 : Shape := ⟨2, ![512, 1]⟩
abbrev S1024 : Shape := ⟨1, ![1024]⟩
abbrev S1x1024 : Shape := ⟨2, ![1, 1024]⟩

abbrev nBuf : Space → Nat
  | .hbm => 7
  | .vmem => 8
  | .smem => 0
  | _ => 0

abbrev bufTy : (tb : Table) → Fin (tcTables nBuf tb) → BufTy
  | .hbm, ⟨0, _⟩ => ⟨S4096x5120, .bf16⟩
  | .hbm, ⟨1, _⟩ => ⟨S1024x5120, .bf16⟩
  | .hbm, ⟨2, _⟩ => ⟨S4096x1024, .f32⟩
  | .hbm, ⟨3, _⟩ => ⟨S1024x8x640, .bf16⟩
  | .hbm, ⟨4, _⟩ => ⟨S8x1024x640, .bf16⟩
  | .hbm, ⟨5, _⟩ => ⟨S4096x1024, .f32⟩
  | .hbm, ⟨6, _⟩ => ⟨S8x1024, .f32⟩
  | .local _ .vmem, ⟨0, _⟩ => ⟨S512x5120, .bf16⟩
  | .local _ .vmem, ⟨1, _⟩ => ⟨S512x5120, .bf16⟩
  | .local _ .vmem, ⟨2, _⟩ => ⟨S8x1024x640, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S8x1024, .f32⟩
  | _, _ => ⟨S4096x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024x640 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== GainRefIdeal.lean ====
abbrev S4096x5120 : Shape := ⟨2, ![4096, 5120]⟩
abbrev S1024x5120 : Shape := ⟨2, ![1024, 5120]⟩
abbrev S4096x1024 : Shape := ⟨2, ![4096, 1024]⟩
abbrev S_ : Shape := ⟨0, ![]⟩
abbrev S1024 : Shape := ⟨1, ![1024]⟩
abbrev S4096 : Shape := ⟨1, ![4096]⟩
abbrev S4096x1 : Shape := ⟨2, ![4096, 1]⟩
abbrev S1x1024 : Shape := ⟨2, ![1, 1024]⟩
abbrev S8x1024 : Shape := ⟨2, ![8, 1024]⟩

abbrev nBuf : Space → Nat
  | .hbm => 35
  | .vmem => 0
  | .smem => 0
  | _ => 0

abbrev bufTy : (tb : Table) → Fin (tcTables nBuf tb) → BufTy
  | .hbm, ⟨0, _⟩ => ⟨S4096x5120, .bf16⟩
  | .hbm, ⟨1, _⟩ => ⟨S1024x5120, .bf16⟩
  | .hbm, ⟨2, _⟩ => ⟨S4096x1024, .f32⟩
  | .hbm, ⟨3, _⟩ => ⟨S1024x5120, .f32⟩
  | .hbm, ⟨4, _⟩ => ⟨S_, .f32⟩
  | .hbm, ⟨5, _⟩ => ⟨S4096x1024, .f32⟩
  | .hbm, ⟨6, _⟩ => ⟨S4096x5120, .f32⟩
  | .hbm, ⟨7, _⟩ => ⟨S4096x5120, .f32⟩
  | .hbm, ⟨8, _⟩ => ⟨S4096x1024, .f32⟩
  | .hbm, ⟨9, _⟩ => ⟨S_, .f32⟩
  | .hbm, ⟨10, _⟩ => ⟨S1024, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S8x1024, .f32⟩
  | _, _ => ⟨S4096x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩

abbrev nD : Nat := 1
abbrev τ : Topo := Topo.v7x

variable {F : FTy → Type} [FloatOps F]
-- ==== Rms.lean ====
abbrev S4096x1024 : Shape := ⟨2, ![4096, 1024]⟩
abbrev S1024 : Shape := ⟨1, ![1024]⟩
abbrev S1x1024 : Shape := ⟨2, ![1, 1024]⟩
abbrev S8x1024 : Shape := ⟨2, ![8, 1024]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S4096x1024, .bf16⟩
  | .hbm, ⟨7, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== RmsRefIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S8x1024 : Shape := ⟨2, ![8, 1024]⟩

abbrev nBuf : Space → Nat
  | .hbm => 53
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S1024, .f32⟩
  | .hbm, ⟨27, _⟩ => ⟨S1x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S1024, .f32⟩
  | .hbm, ⟨32, _⟩ => ⟨S4096x1024, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S4096, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .bf16⟩
  | .hbm, ⟨51, _⟩ => ⟨S1x1024, .f32⟩
  | .hbm, ⟨52, _⟩ => ⟨S8x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== Swiglu.lean ====
abbrev S4096x1024 : Shape := ⟨2, ![4096, 1024]⟩
abbrev S2816x1024 : Shape := ⟨2, ![2816, 1024]⟩
abbrev S4096x5632 : Shape := ⟨2, ![4096, 5632]⟩
abbrev S4096x8x704 : Shape := ⟨3, ![4096, 8, 704]⟩
abbrev S8x4096x704 : Shape := ⟨3, ![8, 4096, 704]⟩
abbrev S4x704x1024 : Shape := ⟨3, ![4, 704, 1024]⟩
abbrev S2x4x4096x704 : Shape := ⟨4, ![2, 4, 4096, 704]⟩
abbrev S1024x1024 : Shape := ⟨2, ![1024, 1024]⟩
abbrev S1x704x1024 : Shape := ⟨3, ![1, 704, 1024]⟩
abbrev S2x1x1024x704 : Shape := ⟨4, ![2, 1, 1024, 704]⟩
abbrev S704x1024 : Shape := ⟨2, ![704, 1024]⟩
abbrev S1024x704 : Shape := ⟨2, ![1024, 704]⟩
abbrev S1x1x1024x704 : Shape := ⟨4, ![1, 1, 1024, 704]⟩

abbrev nBuf : Space → Nat
  | .hbm => 8
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S4096x5632, .bf16⟩
  | .hbm, ⟨3, _⟩ => ⟨S4096x8x704, .bf16⟩
  | .hbm, ⟨4, _⟩ => ⟨S8x4096x704, .bf16⟩
  | .hbm, ⟨5, _⟩ => ⟨S4x704x1024, .bf16⟩
  | .hbm, ⟨6, _⟩ => ⟨S2x4x4096x704, .bf16⟩
  | .hbm, ⟨7, _⟩ => ⟨S2x4x4096x704, .bf16⟩
  | .local _ .vmem, ⟨0, _⟩ => ⟨S1024x1024, .bf16⟩
  | .local _ .vmem, ⟨1, _⟩ => ⟨S1024x1024, .bf16⟩
  | .local _ .vmem, ⟨2, _⟩ => ⟨S1x704x1024, .bf16⟩
  | .local _ .vmem, ⟨3, _⟩ => ⟨S1x704x1024, .bf16⟩
  | .local _ .vmem, ⟨4, _⟩ => ⟨S2x1x1024x704, .bf16⟩
  | .local _ .vmem, ⟨5, _⟩ => ⟨S2x1x1024x704, .bf16⟩
  | .local _ .vmem, ⟨6, _⟩ => ⟨S2x1x1024x704, .bf16⟩
  | .local _ .vmem, ⟨7, _⟩ => ⟨S2x1x1024x704, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, arg0.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, arg0.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2x1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== SwigluRefIdeal.lean ====
abbrev S4096x1024 : Shape := ⟨2, ![4096, 1024]⟩
abbrev S2816x1024 : Shape := ⟨2, ![2816, 1024]⟩
abbrev S4096x5632 : Shape := ⟨2, ![4096, 5632]⟩
abbrev S4096x2816 : Shape := ⟨2, ![4096, 2816]⟩
abbrev S_ : Shape := ⟨0, ![]⟩
abbrev S4096x2x4x704 : Shape := ⟨4, ![4096, 2, 4, 704]⟩
abbrev S2x4x4096x704 : Shape := ⟨4, ![2, 4, 4096, 704]⟩

abbrev nBuf : Space → Nat
  | .hbm => 34
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S4096x5632, .bf16⟩
  | .hbm, ⟨3, _⟩ => ⟨S2816x1024, .f32⟩
  | .hbm, ⟨4, _⟩ => ⟨S4096x5632, .f32⟩
  | .hbm, ⟨5, _⟩ => ⟨S4096x2816, .f32⟩
  | .hbm, ⟨6, _⟩ => ⟨S4096x2816, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S_, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x1024, .f32⟩
  | .hbm, ⟨22, _⟩ => ⟨S4096x1024, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S4096x5632, .f32⟩
  | .hbm, ⟨31, _⟩ => ⟨S4096x5632, .bf16⟩
  | .hbm, ⟨32, _⟩ => ⟨S4096x2x4x704, .bf16⟩
  | .hbm, ⟨33, _⟩ => ⟨S2x4x4096x704, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v4_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v4_1 : Ref sig .tc := ⟨.hbm, 18, rfl⟩
abbrev main_v4_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩

abbrev nD : Nat := 1
abbrev τ : Topo := Topo.v7x

variable {F : FTy → Type} [FloatOps F]
-- ==== Memfwd.lean ====
abbrev S4096x1024 : Shape := ⟨2, ![4096, 1024]⟩
abbrev S1024 : Shape := ⟨1, ![1024]⟩
abbrev S256x2048 : Shape := ⟨2, ![256, 2048]⟩
abbrev S1024x1024 : Shape := ⟨2, ![1024, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S512x1024 : Shape := ⟨2, ![512, 1024]⟩
abbrev S512x256 : Shape := ⟨2, ![512, 256]⟩
abbrev S256x256 : Shape := ⟨2, ![256, 256]⟩
abbrev S512 : Shape := ⟨1, ![512]⟩
abbrev S512x1 : Shape := ⟨2, ![512, 1]⟩

abbrev nBuf : Space → Nat
  | .hbm => 28
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S256x2048, .bf16⟩
  | .hbm, ⟨3, _⟩ => ⟨S1024x1024, .bf16⟩
  | .hbm, ⟨4, _⟩ => ⟨S1024x1024, .bf16⟩
  | .hbm, ⟨5, _⟩ => ⟨S1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S1x1024, .f32⟩
  | .hbm, ⟨20, _⟩ => ⟨S4096x1024, .f32⟩
  | .hbm, ⟨21, _⟩ => ⟨S4096x1024, .f32⟩
  | .hbm, ⟨22, _⟩ => ⟨S4096x1024, .bf16⟩
  | .hbm, ⟨23, _⟩ => ⟨S1x1024, .f32⟩
  | .hbm, ⟨24, _⟩ => ⟨S4096x1024, .bf16⟩
  | .hbm, ⟨25, _⟩ => ⟨S4096x1024, .bf16⟩
  | .hbm, ⟨26, _⟩ => ⟨S4096x1024, .f32⟩
  | .hbm, ⟨27, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S256x2048, .bf16⟩
  | .local _ .vmem, ⟨4, _⟩ => ⟨S1024x1024, .bf16⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15_0 : Ref sig .tc := ⟨.hbm, 24, rfl⟩
abbrev main_v15_1 : Ref sig .tc := ⟨.hbm, 25, rfl⟩
abbrev main_v15_2 : Ref sig .tc := ⟨.hbm, 26, rfl⟩
abbrev main_v15_3 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== MemfwdRefIdeal.lean ====
abbrev S4096x1024 : Shape := ⟨2, ![4096, 1024]⟩
abbrev S1024 : Shape := ⟨1, ![1024]⟩
abbrev S256x2048 : Shape := ⟨2, ![256, 2048]⟩
abbrev S1024x1024 : Shape := ⟨2, ![1024, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x4x256 : Shape := ⟨3, ![4096, 4, 256]⟩
abbrev S256x2x4x256 : Shape := ⟨4, ![256, 2, 4, 256]⟩
abbrev S256x1x4x256 : Shape := ⟨4, ![256, 1, 4, 256]⟩
abbrev S256x4x256 : Shape := ⟨3, ![256, 4, 256]⟩
abbrev S4x4096x256 : Shape := ⟨3, ![4, 4096, 256]⟩
abbrev S4x4096 : Shape := ⟨2, ![4, 4096]⟩
abbrev S4x4096x1 : Shape := ⟨3, ![4, 4096, 1]⟩
abbrev S4x256x4096 : Shape := ⟨3, ![4, 256, 4096]⟩

abbrev nBuf : Space → Nat
  | .hbm => 74
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S256x2048, .bf16⟩
  | .hbm, ⟨3, _⟩ => ⟨S1024x1024, .bf16⟩
  | .hbm, ⟨4, _⟩ => ⟨S1024x1024, .bf16⟩
  | .hbm, ⟨5, _⟩ => ⟨S1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S1x1024, .f32⟩
  | .hbm, ⟨20, _⟩ => ⟨S4096x1024, .f32⟩
  | .hbm, ⟨21, _⟩ => ⟨S4096x1024, .f32⟩
  | .hbm, ⟨22, _⟩ => ⟨S1024x1024, .f32⟩
  | .hbm, ⟨23, _⟩ => ⟨S4096x1024, .f32⟩
  | .hbm, ⟨24, _⟩ => ⟨S256x2048, .f32⟩
  | .hbm, ⟨25, _⟩ => ⟨S4096x4x256, .f32⟩
  | .hbm, ⟨26, _⟩ => ⟨S256x2x4x256, .f32⟩
  | .hbm, ⟨27, _⟩ => ⟨S256x1x4x256, .f32⟩
  | .hbm, ⟨28, _⟩ => ⟨S256x4x256, .f32⟩
  | .hbm, ⟨29, _⟩ => ⟨S256x1x4x256, .f32⟩
  | .hbm, ⟨30, _⟩ => ⟨S256x4x256, .f32⟩
  | .hbm, ⟨31, _⟩ => ⟨S4x4096x256, .f32⟩
  | .hbm, ⟨32, _⟩ => ⟨S_, .f32⟩
  | .hbm, ⟨33, _⟩ => ⟨S4x4096x256, .f32⟩
  | .hbm, ⟨34, _⟩ => ⟨S4x4096x256, .f32⟩
  | .hbm, ⟨35, _⟩ => ⟨S_, .f32⟩
  | .hbm, ⟨36, _⟩ => ⟨S4x4096, .f32⟩
  | .hbm, ⟨37, _⟩ => ⟨S_, .f32⟩
  | .hbm, ⟨38, _⟩ => ⟨S4x4096, .f32⟩
  | .hbm, ⟨39, _⟩ => ⟨S4x4096, .f32⟩
  | .hbm, ⟨40, _⟩ => ⟨S4x4096x1, .f32⟩
  | .hbm, ⟨41, _⟩ => ⟨S4x4096x256, .f32⟩
  | .hbm, ⟨42, _⟩ => ⟨S4x4096x256, .f32⟩
  | .hbm, ⟨43, _⟩ => ⟨S4x4096x256, .f32⟩
  | .hbm, ⟨44, _⟩ => ⟨S_, .f32⟩
  | .hbm, ⟨45, _⟩ => ⟨S4x4096, .f32⟩
  | .hbm, ⟨46, _⟩ => ⟨S4x4096x1, .f32⟩
  | .hbm, ⟨47, _⟩ => ⟨S4x4096x256, .f32⟩
  | .hbm, ⟨48, _⟩ => ⟨S4x4096x256, .f32⟩
  | .hbm, ⟨49, _⟩ => ⟨S4x256x4096, .f32⟩
  | .hbm, ⟨50, _⟩ => ⟨S4096x4x256, .f32⟩
  | .hbm, ⟨51, _⟩ => ⟨S4096x1024, .f32⟩
  | .hbm, ⟨52, _⟩ => ⟨S1024x1024, .f32⟩
  | .hbm, ⟨53, _⟩ => ⟨S4096x1024, .f32⟩
  | .hbm, ⟨54, _⟩ => ⟨S4096x1024, .f32⟩
  | .hbm, ⟨55, _⟩ => ⟨S4096x1024, .bf16⟩
  | .hbm, ⟨56, _⟩ => ⟨S4096x1024, .bf16⟩
  | .hbm, ⟨57, _⟩ => ⟨S4096x1024, .f32⟩
  | .hbm, ⟨58, _⟩ => ⟨S_, .f32⟩
  | .hbm, ⟨59, _⟩ => ⟨S4096, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S_, .f32⟩
  | .hbm, ⟨65, _⟩ => ⟨S4096x1, .f32⟩
  | .hbm, ⟨66, _⟩ => ⟨S4096x1, .f32⟩
  | .hbm, ⟨67, _⟩ => ⟨S4096x1, .f32⟩
  | .hbm, ⟨68, _⟩ => ⟨S4096x1024, .f32⟩
  | .hbm, ⟨69, _⟩ => ⟨S4096x1024, .f32⟩
  | .hbm, ⟨70, _⟩ => ⟨S1x1024, .f32⟩
  | .hbm, ⟨71, _⟩ => ⟨S4096x1024, .f32⟩
  | .hbm, ⟨72, _⟩ => ⟨S4096x1024, .f32⟩
  | .hbm, ⟨73, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_5 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_6 : Ref sig .tc := ⟨.hbm, 58, rfl⟩
abbrev main_v45 : Ref sig .tc := ⟨.hbm, 59, rfl⟩
abbrev main_v46 : Ref sig .tc := ⟨.hbm, 60, rfl⟩
abbrev main_cst_7 : Ref sig .tc := ⟨.hbm, 61, rfl⟩
abbrev main_v47 : Ref sig .tc := ⟨.hbm, 62, rfl⟩
abbrev main_v48 : Ref sig .tc := ⟨.hbm, 63, rfl⟩
abbrev main_cst_8 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩

abbrev nD : Nat := 1
abbrev τ : Topo := Topo.v7x

variable {F : FTy → Type} [FloatOps F]
-- ==== Mixfwd.lean ====
abbrev S4096x512 : Shape := ⟨2, ![4096, 512]⟩
abbrev S4096x5120 : Shape := ⟨2, ![4096, 5120]⟩
abbrev S512x1024 : Shape := ⟨2, ![512, 1024]⟩
abbrev S1024x1024 : Shape := ⟨2, ![1024, 1024]⟩
abbrev S4096x1024 : Shape := ⟨2, ![4096, 1024]⟩
abbrev S1024 : Shape := ⟨1, ![1024]⟩
abbrev S1x1024 : Shape := ⟨2, ![1, 1024]⟩
abbrev S512x512 : Shape := ⟨2, ![512, 512]⟩
abbrev S512 : Shape := ⟨1, ![512]⟩
abbrev S512x1 : Shape := ⟨2, ![512, 1]⟩

abbrev nBuf : Space → Nat
  | .hbm => 14
  | .vmem => 24
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4096x5120, .bf16⟩
  | .hbm, ⟨3, _⟩ => ⟨S512x1024, .bf16⟩
  | .hbm, ⟨4, _⟩ => ⟨S512x1024, .bf16⟩
  | .hbm, ⟨5, _⟩ => ⟨S1024x1024, .bf16⟩
  | .hbm, ⟨6, _⟩ => ⟨S4096x1024, .f32⟩
  | .hbm, ⟨7, _⟩ => ⟨S1024, .f32⟩
  | .hbm, ⟨8, _⟩ => ⟨S1x1024, .f32⟩
  | .hbm, ⟨9, _⟩ => ⟨S4096x1024, .f32⟩
  | .hbm, ⟨10, _⟩ => ⟨S4096x1024, .bf16⟩
  | .hbm, ⟨11, _⟩ => ⟨S4096x1024, .bf16⟩
  | .hbm, ⟨12, _⟩ => ⟨S4096x1024, .bf16⟩
  | .hbm, ⟨13, _⟩ => ⟨S4096x1024, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S1024x1024, .bf16⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S512x1024, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev main_v1_4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== MixfwdRefIdeal.lean ====
abbrev S4096x512 : Shape := ⟨2, ![4096, 512]⟩
abbrev S4096x5120 : Shape := ⟨2, ![4096, 5120]⟩
abbrev S512x1024 : Shape := ⟨2, ![512, 1024]⟩
abbrev S1024x1024 : Shape := ⟨2, ![1024, 1024]⟩
abbrev S4096x1024 : Shape := ⟨2, ![4096, 1024]⟩
abbrev S1024 : Shape := ⟨1, ![1024]⟩
abbrev S4096x2048 : Shape := ⟨2, ![4096, 2048]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 60
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4096x5120, .bf16⟩
  | .hbm, ⟨3, _⟩ => ⟨S512x1024, .bf16⟩
  | .hbm, ⟨4, _⟩ => ⟨S512x1024, .bf16⟩
  | .hbm, ⟨5, _⟩ => ⟨S1024x1024, .bf16⟩
  | .hbm, ⟨6, _⟩ => ⟨S4096x1024, .f32⟩
  | .hbm, ⟨7, _⟩ => ⟨S1024, .f32⟩
  | .hbm, ⟨8, _⟩ => ⟨S4096x512, .f32⟩
  | .hbm, ⟨9, _⟩ => ⟨S512x1024, .f32⟩
  | .hbm, ⟨10, _⟩ => ⟨S4096x1024, .f32⟩
  | .hbm, ⟨11, _⟩ => ⟨S4096x512, .f32⟩
  | .hbm, ⟨12, _⟩ => ⟨S512x1024, .f32⟩
  | .hbm, ⟨13, _⟩ => ⟨S4096x1024, .f32⟩
  | .hbm, ⟨14, _⟩ => ⟨S4096x2048, .bf16⟩
  | .hbm, ⟨15, _⟩ => ⟨S4096x2048, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S4096x1024, .f32⟩
  | .hbm, ⟨22, _⟩ => ⟨S4096x1024, .f32⟩
  | .hbm, ⟨23, _⟩ => ⟨S_, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S1024x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S4096, .f32⟩
  | .hbm, ⟨43, _⟩ => ⟨S4096x1, .f32⟩
  | .hbm, ⟨44, _⟩ => ⟨S_, .f32⟩
  | .hbm, ⟨45, _⟩ => ⟨S4096x1, .f32⟩
  | .hbm, ⟨46, _⟩ => ⟨S4096x1, .f32⟩
  | .hbm, ⟨47, _⟩ => ⟨S_, .f32⟩
  | .hbm, ⟨48, _⟩ => ⟨S4096x1, .f32⟩
  | .hbm, ⟨49, _⟩ => ⟨S4096x1, .f32⟩
  | .hbm, ⟨50, _⟩ => ⟨S4096x1, .f32⟩
  | .hbm, ⟨51, _⟩ => ⟨S4096x1024, .f32⟩
  | .hbm, ⟨52, _⟩ => ⟨S4096x1024, .f32⟩
  | .hbm, ⟨53, _⟩ => ⟨S1x1024, .f32⟩
  | .hbm, ⟨54, _⟩ => ⟨S4096x1024, .f32⟩
  | .hbm, ⟨55, _⟩ => ⟨S4096x1024, .f32⟩
  | .hbm, ⟨56, _⟩ => ⟨S4096x1024, .bf16⟩
  | .hbm, ⟨57, _⟩ => ⟨S4096x1024, .bf16⟩
  | .hbm, ⟨58, _⟩ => ⟨S4096x1024, .bf16⟩
  | .hbm, ⟨59, _⟩ => ⟨S4096x1024, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_cst_0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_1 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_3 : Ref sig .tc := ⟨.hbm, 41, rfl⟩
abbrev main_v29 : Ref sig .tc := ⟨.hbm, 42, rfl⟩
abbrev main_v30 : Ref sig .tc := ⟨.hbm, 43, rfl⟩
abbrev main_cst_4 : Ref sig .tc := ⟨.hbm, 44, rfl⟩
abbrev main_v31 : Ref sig .tc := ⟨.hbm, 45, rfl⟩
abbrev main_v32 : Ref sig .tc := ⟨.hbm, 46, rfl⟩
abbrev main_cst_5 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩

abbrev nD : Nat := 1
abbrev τ : Topo := Topo.v7x

variable {F : FTy → Type} [FloatOps F]
-- ==== Convfwd.lean ====
abbrev S4096x5120 : Shape := ⟨2, ![4096, 5120]⟩
abbrev S3x512 : Shape := ⟨2, ![3, 512]⟩
abbrev S4096x512 : Shape := ⟨2, ![4096, 512]⟩
abbrev S512x512 : Shape := ⟨2, ![512, 512]⟩
abbrev S1x512 : Shape := ⟨2, ![1, 512]⟩

abbrev nBuf : Space → Nat
  | .hbm => 3
  | .vmem => 13
  | .smem => 0
  | _ => 0

abbrev bufTy : (tb : Table) → Fin (tcTables nBuf tb) → BufTy
  | .hbm, ⟨0, _⟩ => ⟨S4096x5120, .bf16⟩
  | .hbm, ⟨1, _⟩ => ⟨S3x512, .f32⟩
  | .hbm, ⟨2, _⟩ => ⟨S4096x512, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S3x512, .f32⟩
  | .local _ .vmem, ⟨11, _⟩ => ⟨S512x512, .bf16⟩
  | .local _ .vmem, ⟨12, _⟩ => ⟨S512x512, .bf16⟩
  | _, _ => ⟨S4096x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_2 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c3_i32 : BitVec 32 := 3#32
  let c0_i32_0 : BitVec 32 := 0#32
  ![v1.toNat, c3_i32.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c5_i32 : BitVec 32 := 5#32
  let c0_i32_0 : BitVec 32 := 0#32
  ![v1.toNat, c5_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S3x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ConvfwdRefIdeal.lean ====
abbrev S4096x5120 : Shape := ⟨2, ![4096, 5120]⟩
abbrev S3x512 : Shape := ⟨2, ![3, 512]⟩
abbrev S4096x512 : Shape := ⟨2, ![4096, 512]⟩
abbrev S_ : Shape := ⟨0, ![]⟩
abbrev S2x512 : Shape := ⟨2, ![2, 512]⟩
abbrev S4098x512 : Shape := ⟨2, ![4098, 512]⟩
abbrev S1x512 : Shape := ⟨2, ![1, 512]⟩
abbrev S512 : Shape := ⟨1, ![512]⟩

abbrev nBuf : Space → Nat
  | .hbm => 33
  | .vmem => 0
  | .smem => 0
  | _ => 0

abbrev bufTy : (tb : Table) → Fin (tcTables nBuf tb) → BufTy
  | .hbm, ⟨0, _⟩ => ⟨S4096x5120, .bf16⟩
  | .hbm, ⟨1, _⟩ => ⟨S3x512, .f32⟩
  | .hbm, ⟨2, _⟩ => ⟨S4096x512, .bf16⟩
  | .hbm, ⟨3, _⟩ => ⟨S4096x512, .f32⟩
  | .hbm, ⟨4, _⟩ => ⟨S4096x512, .bf16⟩
  | .hbm, ⟨5, _⟩ => ⟨S4096x512, .f32⟩
  | .hbm, ⟨6, _⟩ => ⟨S4096x512, .bf16⟩
  | .hbm, ⟨7, _⟩ => ⟨S4096x512, .f32⟩
  | .hbm, ⟨8, _⟩ => ⟨S4096x512, .f32⟩
  | .hbm, ⟨9, _⟩ => ⟨S_, .f32⟩
  | .hbm, ⟨10, _⟩ => ⟨S2x512, .f32⟩
  | .hbm, ⟨11, _⟩ => ⟨S4098x512, .f32⟩
  | .hbm, ⟨12, _⟩ => ⟨S1x512, .f32⟩
  | .hbm, ⟨13, _⟩ => ⟨S512, .f32⟩
  | .hbm, ⟨14, _⟩ => ⟨S4096x512, .f32⟩
  | .hbm, ⟨15, _⟩ => ⟨S1x512, .f32⟩
  | .hbm, ⟨16, _⟩ => ⟨S4096x512, .f32⟩
  | .hbm, ⟨17, _⟩ => ⟨S4096x512, .f32⟩
  | .hbm, ⟨18, _⟩ => ⟨S1x512, .f32⟩
  | .hbm, ⟨19, _⟩ => ⟨S512, .f32⟩
  | .hbm, ⟨20, _⟩ => ⟨S4096x512, .f32⟩
  | .hbm, ⟨21, _⟩ => ⟨S1x512, .f32⟩
  | .hbm, ⟨22, _⟩ => ⟨S4096x512, .f32⟩
  | .hbm, ⟨23, _⟩ => ⟨S4096x512, .f32⟩
  | .hbm, ⟨24, _⟩ => ⟨S4096x512, .f32⟩
  | .hbm, ⟨25, _⟩ => ⟨S1x512, .f32⟩
  | .hbm, ⟨26, _⟩ => ⟨S512, .f32⟩
  | .hbm, ⟨27, _⟩ => ⟨S1x512, .f32⟩
  | .hbm, ⟨28, _⟩ => ⟨S4096x512, .f32⟩
  | .hbm, ⟨29, _⟩ => ⟨S4096x512, .f32⟩
  | .hbm, ⟨30, _⟩ => ⟨S4096x512, .f32⟩
  | .hbm, ⟨31, _⟩ => ⟨S4096x512, .f32⟩
  | .hbm, ⟨32, _⟩ => ⟨S4096x512, .bf16⟩
  | _, _ => ⟨S4096x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩

abbrev nD : Nat := 1
abbrev τ : Topo := Topo.v7x

variable {F : FTy → Type} [FloatOps F]
-- ==== Rmsfwd.lean ====
abbrev S4096x1024 : Shape := ⟨2, ![4096, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1x1024, .f32⟩
  | .hbm, ⟨3, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RmsfwdRefIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S1x1024, .f32⟩
  | .hbm, ⟨16, _⟩ => ⟨S4096x1024, .f32⟩
  | .hbm, ⟨17, _⟩ => ⟨S4096x1024, .f32⟩
  | .hbm, ⟨18, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Mmnn.lean ====
abbrev S4096x1024 : Shape := ⟨2, ![4096, 1024]⟩
abbrev S1024x5632 : Shape := ⟨2, ![1024, 5632]⟩
abbrev S5632x1024 : Shape := ⟨2, ![5632, 1024]⟩
abbrev S8x704x1024 : Shape := ⟨3, ![8, 704, 1024]⟩
abbrev S8x4096x704 : Shape := ⟨3, ![8, 4096, 704]⟩
abbrev S1024x1024 : Shape := ⟨2, ![1024, 1024]⟩
abbrev S1x704x1024 : Shape := ⟨3, ![1, 704, 1024]⟩
abbrev S1x1024x704 : Shape := ⟨3, ![1, 1024, 704]⟩
abbrev S704x1024 : Shape := ⟨2, ![704, 1024]⟩
abbrev S1024x704 : Shape := ⟨2, ![1024, 704]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S5632x1024, .bf16⟩
  | .hbm, ⟨3, _⟩ => ⟨S8x704x1024, .bf16⟩
  | .hbm, ⟨4, _⟩ => ⟨S8x4096x704, .bf16⟩
  | .local _ .vmem, ⟨0, _⟩ => ⟨S1024x1024, .bf16⟩
  | .local _ .vmem, ⟨1, _⟩ => ⟨S1024x1024, .bf16⟩
  | .local _ .vmem, ⟨2, _⟩ => ⟨S1x704x1024, .bf16⟩
  | .local _ .vmem, ⟨3, _⟩ => ⟨S1x704x1024, .bf16⟩
  | .local _ .vmem, ⟨4, _⟩ => ⟨S1x1024x704, .bf16⟩
  | .local _ .vmem, ⟨5, _⟩ => ⟨S1x1024x704, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, v26.toNat, c0_i32_11.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MmnnRefIdeal.lean ====
abbrev S4096x1024 : Shape := ⟨2, ![4096, 1024]⟩
abbrev S1024x5632 : Shape := ⟨2, ![1024, 5632]⟩
abbrev S4096x5632 : Shape := ⟨2, ![4096, 5632]⟩
abbrev S4096x8x704 : Shape := ⟨3, ![4096, 8, 704]⟩
abbrev S8x4096x704 : Shape := ⟨3, ![8, 4096, 704]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S4096x1024, .f32⟩
  | .hbm, ⟨3, _⟩ => ⟨S1024x5632, .f32⟩
  | .hbm, ⟨4, _⟩ => ⟨S4096x5632, .f32⟩
  | .hbm, ⟨5, _⟩ => ⟨S4096x5632, .bf16⟩
  | .hbm, ⟨6, _⟩ => ⟨S4096x8x704, .bf16⟩
  | .hbm, ⟨7, _⟩ => ⟨S8x4096x704, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Mmtna.lean ====
abbrev S4096x1024 : Shape := ⟨2, ![4096, 1024]⟩
abbrev S1024x5632 : Shape := ⟨2, ![1024, 5632]⟩
abbrev S4096x5632 : Shape := ⟨2, ![4096, 5632]⟩
abbrev S4096x8x704 : Shape := ⟨3, ![4096, 8, 704]⟩
abbrev S8x4096x704 : Shape := ⟨3, ![8, 4096, 704]⟩
abbrev S8x704x1024 : Shape := ⟨3, ![8, 704, 1024]⟩
abbrev S1x4096x704 : Shape := ⟨3, ![1, 4096, 704]⟩
abbrev S1x704x1024 : Shape := ⟨3, ![1, 704, 1024]⟩
abbrev S4096x704 : Shape := ⟨2, ![4096, 704]⟩
abbrev S704x1024 : Shape := ⟨2, ![704, 1024]⟩

abbrev nBuf : Space → Nat
  | .hbm => 6
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S4096x5632, .bf16⟩
  | .hbm, ⟨3, _⟩ => ⟨S4096x8x704, .bf16⟩
  | .hbm, ⟨4, _⟩ => ⟨S8x4096x704, .bf16⟩
  | .hbm, ⟨5, _⟩ => ⟨S8x704x1024, .bf16⟩
  | .local _ .vmem, ⟨0, _⟩ => ⟨S1x4096x704, .bf16⟩
  | .local _ .vmem, ⟨1, _⟩ => ⟨S1x4096x704, .bf16⟩
  | .local _ .vmem, ⟨2, _⟩ => ⟨S4096x1024, .bf16⟩
  | .local _ .vmem, ⟨3, _⟩ => ⟨S1x704x1024, .bf16⟩
  | .local _ .vmem, ⟨4, _⟩ => ⟨S1x704x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== MmtnaRefIdeal.lean ====
abbrev S4096x1024 : Shape := ⟨2, ![4096, 1024]⟩
abbrev S1024x5632 : Shape := ⟨2, ![1024, 5632]⟩
abbrev S4096x5632 : Shape := ⟨2, ![4096, 5632]⟩
abbrev S5632x1024 : Shape := ⟨2, ![5632, 1024]⟩
abbrev S8x704x1024 : Shape := ⟨3, ![8, 704, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S4096x5632, .bf16⟩
  | .hbm, ⟨3, _⟩ => ⟨S4096x1024, .f32⟩
  | .hbm, ⟨4, _⟩ => ⟨S1024x5632, .f32⟩
  | .hbm, ⟨5, _⟩ => ⟨S4096x5632, .f32⟩
  | .hbm, ⟨6, _⟩ => ⟨S4096x5632, .f32⟩
  | .hbm, ⟨7, _⟩ => ⟨S5632x1024, .f32⟩
  | .hbm, ⟨8, _⟩ => ⟨S1024x5632, .f32⟩
  | .hbm, ⟨9, _⟩ => ⟨S1024x5632, .bf16⟩
  | .hbm, ⟨10, _⟩ => ⟨S5632x1024, .bf16⟩
  | .hbm, ⟨11, _⟩ => ⟨S8x704x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Mmtn.lean ====
abbrev S4096x1024 : Shape := ⟨2, ![4096, 1024]⟩
abbrev S1024x5120 : Shape := ⟨2, ![1024, 5120]⟩
abbrev S4096x5120 : Shape := ⟨2, ![4096, 5120]⟩
abbrev S8x768x640 : Shape := ⟨3, ![8, 768, 640]⟩
abbrev S4096x768 : Shape := ⟨2, ![4096, 768]⟩
abbrev S4096x640 : Shape := ⟨2, ![4096, 640]⟩
abbrev S1x768x640 : Shape := ⟨3, ![1, 768, 640]⟩
abbrev S768x640 : Shape := ⟨2, ![768, 640]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x5120, .bf16⟩
  | .hbm, ⟨2, _⟩ => ⟨S4096x5120, .bf16⟩
  | .hbm, ⟨3, _⟩ => ⟨S8x768x640, .bf16⟩
  | .local _ .vmem, ⟨0, _⟩ => ⟨S4096x768, .bf16⟩
  | .local _ .vmem, ⟨1, _⟩ => ⟨S4096x640, .bf16⟩
  | .local _ .vmem, ⟨2, _⟩ => ⟨S4096x640, .bf16⟩
  | .local _ .vmem, ⟨3, _⟩ => ⟨S1x768x640, .bf16⟩
  | .local _ .vmem, ⟨4, _⟩ => ⟨S1x768x640, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 1 → Memref sig .tc .vmem S4096x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x768x640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MmtnRefIdeal.lean ====
abbrev S4096x1024 : Shape := ⟨2, ![4096, 1024]⟩
abbrev S1024x5120 : Shape := ⟨2, ![1024, 5120]⟩
abbrev S4096x5120 : Shape := ⟨2, ![4096, 5120]⟩
abbrev S5120x1024 : Shape := ⟨2, ![5120, 1024]⟩
abbrev S768x5120 : Shape := ⟨2, ![768, 5120]⟩
abbrev S768x8x640 : Shape := ⟨3, ![768, 8, 640]⟩
abbrev S8x768x640 : Shape := ⟨3, ![8, 768, 640]⟩

abbrev nBuf : Space → Nat
  | .hbm => 13
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x5120, .bf16⟩
  | .hbm, ⟨2, _⟩ => ⟨S4096x5120, .bf16⟩
  | .hbm, ⟨3, _⟩ => ⟨S4096x1024, .f32⟩
  | .hbm, ⟨4, _⟩ => ⟨S1024x5120, .f32⟩
  | .hbm, ⟨5, _⟩ => ⟨S4096x5120, .f32⟩
  | .hbm, ⟨6, _⟩ => ⟨S4096x5120, .f32⟩
  | .hbm, ⟨7, _⟩ => ⟨S5120x1024, .f32⟩
  | .hbm, ⟨8, _⟩ => ⟨S1024x5120, .f32⟩
  | .hbm, ⟨9, _⟩ => ⟨S1024x5120, .bf16⟩
  | .hbm, ⟨10, _⟩ => ⟨S768x5120, .bf16⟩
  | .hbm, ⟨11, _⟩ => ⟨S768x8x640, .bf16⟩
  | .hbm, ⟨12, _⟩ => ⟨S8x768x640, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Sumdev.lean ====
abbrev S8x16x1024 : Shape := ⟨3, ![8, 16, 1024]⟩
abbrev S16x1024 : Shape := ⟨2, ![16, 1024]⟩
abbrev S1x16x1024 : Shape := ⟨3, ![1, 16, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x16x1024, .f32⟩
  | .hbm, ⟨1, _⟩ => ⟨S16x1024, .f32⟩
  | .local _ .vmem, ⟨0, _⟩ => ⟨S8x16x1024, .f32⟩
  | .local _ .vmem, ⟨1, _⟩ => ⟨S16x1024, .f32⟩
  | _, _ => ⟨S8x16x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== SumdevRefIdeal.lean ====
abbrev S8x16x1024 : Shape := ⟨3, ![8, 16, 1024]⟩
abbrev S_ : Shape := ⟨0, ![]⟩
abbrev S16x1024 : Shape := ⟨2, ![16, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8x16x1024, .f32⟩
  | .hbm, ⟨1, _⟩ => ⟨S_, .f32⟩
  | .hbm, ⟨2, _⟩ => ⟨S16x1024, .f32⟩
  | _, _ => ⟨S8x16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Adambig.lean ====
abbrev S704x1024 : Shape := ⟨2, ![704, 1024]⟩
abbrev S4x704x1024 : Shape := ⟨3, ![4, 704, 1024]⟩
abbrev S3x704x1024 : Shape := ⟨3, ![3, 704, 1024]⟩
abbrev S1 : Shape := ⟨1, ![1]⟩
abbrev S352x1024 : Shape := ⟨2, ![352, 1024]⟩
abbrev S1x352x1024 : Shape := ⟨3, ![1, 352, 1024]⟩
abbrev S3x352x1024 : Shape := ⟨3, ![3, 352, 1024]⟩

abbrev nBuf : Space → Nat
  | .hbm => 9
  | .vmem => 18
  | .smem => 1
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S4x704x1024, .bf16⟩
  | .hbm, ⟨4, _⟩ => ⟨S3x704x1024, .bf16⟩
  | .hbm, ⟨5, _⟩ => ⟨S704x1024, .f32⟩
  | .hbm, ⟨6, _⟩ => ⟨S704x1024, .f32⟩
  | .hbm, ⟨7, _⟩ => ⟨S704x1024, .f32⟩
  | .hbm, ⟨8, _⟩ => ⟨S704x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S1x352x1024, .bf16⟩
  | .local _ .vmem, ⟨7, _⟩ => ⟨S1x352x1024, .bf16⟩
  | .local _ .vmem, ⟨8, _⟩ => ⟨S3x352x1024, .bf16⟩
  | .local _ .vmem, ⟨9, _⟩ => ⟨S3x352x1024, .bf16⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | .local _ .vmem, ⟨14, _⟩ => ⟨S352x1024, .f32⟩
  | .local _ .vmem, ⟨15, _⟩ => ⟨S352x1024, .f32⟩
  | .local _ .vmem, ⟨16, _⟩ => ⟨S352x1024, .f32⟩
  | .local _ .vmem, ⟨17, _⟩ => ⟨S352x1024, .f32⟩
  | .local _ .smem, ⟨0, _⟩ => ⟨S1, .i32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x352x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x352x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S352x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdambigRefIdeal.lean ====
abbrev S704x1024 : Shape := ⟨2, ![704, 1024]⟩
abbrev S4x704x1024 : Shape := ⟨3, ![4, 704, 1024]⟩
abbrev S3x704x1024 : Shape := ⟨3, ![3, 704, 1024]⟩
abbrev S1 : Shape := ⟨1, ![1]⟩
abbrev S1x704x1024 : Shape := ⟨3, ![1, 704, 1024]⟩
abbrev S_ : Shape := ⟨0, ![]⟩

abbrev nBuf : Space → Nat
  | .hbm => 64
  | .vmem => 0
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S4x704x1024, .bf16⟩
  | .hbm, ⟨4, _⟩ => ⟨S3x704x1024, .bf16⟩
  | .hbm, ⟨5, _⟩ => ⟨S1, .i32⟩
  | .hbm, ⟨6, _⟩ => ⟨S4x704x1024, .f32⟩
  | .hbm, ⟨7, _⟩ => ⟨S1x704x1024, .f32⟩
  | .hbm, ⟨8, _⟩ => ⟨S704x1024, .f32⟩
  | .hbm, ⟨9, _⟩ => ⟨S_, .i32⟩
  | .hbm, ⟨10, _⟩ => ⟨S_, .i32⟩
  | .hbm, ⟨11, _⟩ => ⟨S_, .i1⟩
  | .hbm, ⟨12, _⟩ => ⟨S1x704x1024, .f32⟩
  | .hbm, ⟨13, _⟩ => ⟨S704x1024, .f32⟩
  | .hbm, ⟨14, _⟩ => ⟨S704x1024, .f32⟩
  | .hbm, ⟨15, _⟩ => ⟨S_, .i32⟩
  | .hbm, ⟨16, _⟩ => ⟨S_, .i32⟩
  | .hbm, ⟨17, _⟩ => ⟨S_, .i1⟩
  | .hbm, ⟨18, _⟩ => ⟨S1x704x1024, .f32⟩
  | .hbm, ⟨19, _⟩ => ⟨S704x1024, .f32⟩
  | .hbm, ⟨20, _⟩ => ⟨S704x1024, .f32⟩
  | .hbm, ⟨21, _⟩ => ⟨S_, .i32⟩
  | .hbm, ⟨22, _⟩ => ⟨S_, .i32⟩
  | .hbm, ⟨23, _⟩ => ⟨S_, .i1⟩
  | .hbm, ⟨24, _⟩ => ⟨S1x704x1024, .f32⟩
  | .hbm, ⟨25, _⟩ => ⟨S704x1024, .f32⟩
  | .hbm, ⟨26, _⟩ => ⟨S704x1024, .f32⟩
  | .hbm, ⟨27, _⟩ => ⟨S3x704x1024, .f32⟩
  | .hbm, ⟨28, _⟩ => ⟨S_, .f32⟩
  | .hbm, ⟨29, _⟩ => ⟨S704x1024, .f32⟩
  | .hbm, ⟨30, _⟩ => ⟨S704x1024, .f32⟩
  | .hbm, ⟨31, _⟩ => ⟨S_, .f32⟩
  | .hbm, ⟨32, _⟩ => ⟨S704x1024, .f32⟩
  | .hbm, ⟨33, _⟩ => ⟨S704x1024, .f32⟩
  | .hbm, ⟨34, _⟩ => ⟨S_, .f32⟩
  | .hbm, ⟨35, _⟩ => ⟨S704x1024, .f32⟩
  | .hbm, ⟨36, _⟩ => ⟨S704x1024, .f32⟩
  | .hbm, ⟨37, _⟩ => ⟨S704x1024, .f32⟩
  | .hbm, ⟨38, _⟩ => ⟨S_, .f32⟩
  | .hbm, ⟨39, _⟩ => ⟨S704x1024, .f32⟩
  | .hbm, ⟨40, _⟩ => ⟨S704x1024, .f32⟩
  | .hbm, ⟨41, _⟩ => ⟨S704x1024, .f32⟩
  | .hbm, ⟨42, _⟩ => ⟨S_, .f32⟩
  | .hbm, ⟨43, _⟩ => ⟨S704x1024, .f32⟩
  | .hbm, ⟨44, _⟩ => ⟨S704x1024, .f32⟩
  | .hbm, ⟨45, _⟩ => ⟨S704x1024, .f32⟩
  | .hbm, ⟨46, _⟩ => ⟨S_, .f32⟩
  | .hbm, ⟨47, _⟩ => ⟨S704x1024, .f32⟩
  | .hbm, ⟨48, _⟩ => ⟨S704x1024, .f32⟩
  | .hbm, ⟨49, _⟩ => ⟨S_, .f32⟩
  | .hbm, ⟨50, _⟩ => ⟨S704x1024, .f32⟩
  | .hbm, ⟨51, _⟩ => ⟨S704x1024, .f32⟩
  | .hbm, ⟨52, _⟩ => ⟨S704x1024, .f32⟩
  | .hbm, ⟨53, _⟩ => ⟨S_, .f32⟩
  | .hbm, ⟨54, _⟩ => ⟨S704x1024, .f32⟩
  | .hbm, ⟨55, _⟩ => ⟨S704x1024, .f32⟩
  | .hbm, ⟨56, _⟩ => ⟨S704x1024, .f32⟩
  | .hbm, ⟨57, _⟩ => ⟨S_, .f32⟩
  | .hbm, ⟨58, _⟩ => ⟨S704x1024, .f32⟩
  | .hbm, ⟨59, _⟩ => ⟨S704x1024, .f32⟩
  | .hbm, ⟨60, _⟩ => ⟨S704x1024, .f32⟩
  | .hbm, ⟨61, _⟩ => ⟨S_, .f32⟩
  | .hbm, ⟨62, _⟩ => ⟨S704x1024, .f32⟩
  | .hbm, ⟨63, _⟩ => ⟨S704x1024, .f32⟩
  | _, _ => ⟨S704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_5 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_6 : Ref sig .tc := ⟨.hbm, 46, rfl⟩
abbrev main_v32 : Ref sig .tc := ⟨.hbm, 47, rfl⟩
abbrev main_v33 : Ref sig .tc := ⟨.hbm, 48, rfl⟩
abbrev main_cst_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_8 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_9 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_10 : Ref sig .tc := ⟨.hbm, 61, rfl⟩
abbrev main_v43 : Ref sig .tc := ⟨.hbm, 62, rfl⟩
abbrev main_v44 : Ref sig .tc := ⟨.hbm, 63, rfl⟩

abbrev nD : Nat := 1
abbrev τ : Topo := Topo.v7x

variable {F : FTy → Type} [FloatOps F]
-- ==== Sumsib.lean ====
abbrev S8x768x640 : Shape := ⟨3, ![8, 768, 640]⟩
abbrev S4x768x640 : Shape := ⟨3, ![4, 768, 640]⟩
abbrev S1 : Shape := ⟨1, ![1]⟩
abbrev S1x768x640 : Shape := ⟨3, ![1, 768, 640]⟩
abbrev S768x640 : Shape := ⟨2, ![768, 640]⟩

abbrev nBuf : Space → Nat
  | .hbm => 3
  | .vmem => 6
  | .smem => 1
  | _ => 0

abbrev bufTy : (tb : Table) → Fin (tcTables nBuf tb) → BufTy
  | .hbm, ⟨0, _⟩ => ⟨S8x768x640, .bf16⟩
  | .hbm, ⟨1, _⟩ => ⟨S4x768x640, .bf16⟩
  | .hbm, ⟨2, _⟩ => ⟨S4x768x640, .bf16⟩
  | .local _ .vmem, ⟨0, _⟩ => ⟨S1x768x640, .bf16⟩
  | .local _ .vmem, ⟨1, _⟩ => ⟨S1x768x640, .bf16⟩
  | .local _ .vmem, ⟨2, _⟩ => ⟨S1x768x640, .bf16⟩
  | .local _ .vmem, ⟨3, _⟩ => ⟨S1x768x640, .bf16⟩
  | .local _ .vmem, ⟨4, _⟩ => ⟨S1x768x640, .bf16⟩
  | .local _ .vmem, ⟨5, _⟩ => ⟨S1x768x640, .bf16⟩
  | .local _ .smem, ⟨0, _⟩ => ⟨S1, .i32⟩
  | _, _ => ⟨S8x768x640, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c2_i32 : BitVec 32 := 2#32
  let v0 : BitVec 32 := Scalar.muli c2_i32 arg0
  let c0 : Index := 0#32
  let v1 : BitVec 32 := pf.at 0 (Rect.unit (s := S1) ![0] S1.size inb_S1_S1_0) numel1_S1
  let v2 : BitVec 32 := Scalar.addi v0 v1
  let c0_i32 : BitVec 32 := 0#32
  let c0_i32_0 : BitVec 32 := 0#32
  let c0_i32_1 : BitVec 32 := 0#32
  ![v2.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x768x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x768x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x768x640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== SumsibRefIdeal.lean ====
abbrev S8x768x640 : Shape := ⟨3, ![8, 768, 640]⟩
abbrev S4x768x640 : Shape := ⟨3, ![4, 768, 640]⟩
abbrev S1 : Shape := ⟨1, ![1]⟩
abbrev S4x2x768x640 : Shape := ⟨4, ![4, 2, 768, 640]⟩
abbrev S_ : Shape := ⟨0, ![]⟩
abbrev S4x1x768x640 : Shape := ⟨4, ![4, 1, 768, 640]⟩

abbrev nBuf : Space → Nat
  | .hbm => 16
  | .vmem => 0
  | .smem => 0
  | _ => 0

abbrev bufTy : (tb : Table) → Fin (tcTables nBuf tb) → BufTy
  | .hbm, ⟨0, _⟩ => ⟨S8x768x640, .bf16⟩
  | .hbm, ⟨1, _⟩ => ⟨S4x768x640, .bf16⟩
  | .hbm, ⟨2, _⟩ => ⟨S1, .i32⟩
  | .hbm, ⟨3, _⟩ => ⟨S4x2x768x640, .bf16⟩
  | .hbm, ⟨4, _⟩ => ⟨S4x2x768x640, .f32⟩
  | .hbm, ⟨5, _⟩ => ⟨S_, .i32⟩
  | .hbm, ⟨6, _⟩ => ⟨S_, .i32⟩
  | .hbm, ⟨7, _⟩ => ⟨S_, .i1⟩
  | .hbm, ⟨8, _⟩ => ⟨S4x1x768x640, .f32⟩
  | .hbm, ⟨9, _⟩ => ⟨S4x768x640, .f32⟩
  | .hbm, ⟨10, _⟩ => ⟨S4x1x768x640, .f32⟩
  | .hbm, ⟨11, _⟩ => ⟨S4x768x640, .f32⟩
  | .hbm, ⟨12, _⟩ => ⟨S4x768x640, .f32⟩
  | .hbm, ⟨13, _⟩ => ⟨S4x768x640, .f32⟩
  | .hbm, ⟨14, _⟩ => ⟨S4x768x640, .f32⟩
  | .hbm, ⟨15, _⟩ => ⟨S4x768x640, .bf16⟩
  | _, _ => ⟨S8x768x640, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== Proof.SbRun.lean ====
/- Hand-written, untrusted: the body of the stick-breaking attention's gradient runs, whatever its buffers hold. -/
module

public import proofs.«01_k».proof.Proof.Gen.SbIdeal.Frame
public import proofs.«01_k».proof.Proof.Gen.SbIdeal.Loops

@[expose] public section

set_option maxRecDepth 65536

noncomputable section

namespace Cert.SbIdeal.Body

open Cert.SbIdeal Cert.SbIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The rows of the key tile before the query tile and of the query tile's own, in closed form, past the first query tile. -/
theorem off_eq : ∀ (n : Fin 15) (i : grid0.Coords), (i 1).val = n.val + 1 →
    k0_off8 i = ![n.val * 256, 0] ∧ k0_off9 i = ![n.val * 256, 128] ∧ k0_off10 i = ![n.val * 256 + 256, 0] ∧ k0_off11 i = ![n.val * 256 + 256, 128] := by
  decide +kernel

/-- The first key block of a grid point, as the body clips it. -/
def clip (i : grid0.Coords) (v : BitVec 32) : BitVec 32 := Scalar.minsi (BitVec.ofNat 32 (i 1).val) (Scalar.maxsi 0#32 v)

/-- Whatever word the body reads, the clipped block is one of the sixteen. -/
theorem clip_lt (i : grid0.Coords) (v : BitVec 32) : ∃ n : Fin 16, clip i v = BitVec.ofNat 32 n.val := by
  have hi : (i 1).val < 16 := (i 1).isLt
  generalize hw : clip i v = w
  have h : w.toNat < 16 := by
    subst hw
    unfold clip
    generalize (i 1).val = a at *
    unfold Scalar.minsi Scalar.maxsi IntOp.minsi IntOp.maxsi
    have ha : (BitVec.ofNat 32 a).toNat = a := by simp; omega
    have h0 : (0#32).toInt = 0 := rfl
    have e := BitVec.toInt_eq_toNat_cond (BitVec.ofNat 32 a)
    have ev := BitVec.toInt_eq_toNat_cond v
    have lv := v.isLt
    rw [ha] at e
    simp only [BitVec.slt, h0, decide_eq_true_eq]
    split_ifs <;> simp only [ha, BitVec.toNat_ofNat] at * <;> omega
  exact ⟨⟨w.toNat, h⟩, by simp⟩

/-- What the body asks of the word it reads holds of any word, by the clip. -/
theorem chk (i : grid0.Coords) (v : BitVec 32) : k0_chk1 i v := by
  obtain ⟨n, hn⟩ := clip_lt i v
  unfold clip at hn
  unfold k0_chk1 k0_mult1 k0_mult2 k0_off2 k0_off3 k0_off4 k0_off5 k0_t1_loop k0_t2_loop
  dsimp only
  rw [hn]
  clear hn
  revert n i
  decide +kernel

set_option maxHeartbeats 4000000 in
/-- The body at the first key tile, where the accumulators are cleared: from its buffers at any contents it ends with them at some contents, the inputs as they were. -/
theorem runA (c : Dev nD) (i : grid0.Coords) (arg2 : Memref sig .tc .vmem S256x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S256x256 .bf16) (harg5 : arg5.IsWhole) (arg6 : Memref sig .tc .vmem S1x256x4 .f32) (harg6 : arg6.IsWhole) (arg7 : Memref sig .tc .smem S2x16 .f32) (harg7 : arg7.IsWhole) (arg8 : Memref sig .tc .vmem S256x256 .bf16) (harg8 : arg8.IsWhole) (arg9 : Memref sig .tc .vmem S4096x256 .bf16) (harg9 : arg9.IsWhole) (arg10 : Memref sig .tc .vmem S4096x256 .bf16) (harg10 : arg10.IsWhole) (arg11 : Memref sig .tc .vmem S4x256x128 .f32) (harg11 : arg11.IsWhole) (arg12 : Memref sig .tc .vmem S4096x256 .f32) (harg12 : arg12.IsWhole) (arg13 : Memref sig .tc .vmem S4096x256 .f32) (harg13 : arg13.IsWhole) (hc2 : k0_cond2 i = 1#1) (hc3 : ¬k0_cond3 i = 1#1) (hc4 : ¬k0_cond4 i = 1#1)
    (x2 : Vec F S256x256 .bf16) (x3 : Vec F S4096x256 .bf16) (x4 : Vec F S4096x256 .bf16) (x5 : Vec F S256x256 .bf16) (x6 : Vec F S1x256x4 .f32) (x7 : Vec F S2x16 .f32) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
      ⊢ wp frame (wpE (defs₀ (F := F)) Variants.none c none) E (cc0_sb_bwd i arg2 harg2 arg3 harg3 arg4 harg4 arg5 harg5 arg6 harg6 arg7 harg7 arg8 harg8 arg9 harg9 arg10 harg10 arg11 harg11 arg12 harg12 arg13 harg13) K := by
  simp only [cc0_sb_bwd_eq_skeleton]; unfold cc0_sb_bwd_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7
  sl_exec (disch := first | sl_exact hc2 | sl_exact hc3 | sl_exact hc4 | exact chk _ _)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  iexists _, _; isplitr; swap; · iexact H13
  ipureintro; rfl

set_option maxHeartbeats 4000000 in
/-- The body at the query tiles between the first and the last: from its buffers at any contents it ends with them at some contents, the inputs as they were. -/
theorem runB (c : Dev nD) (i : grid0.Coords) (arg2 : Memref sig .tc .vmem S256x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S256x256 .bf16) (harg5 : arg5.IsWhole) (arg6 : Memref sig .tc .vmem S1x256x4 .f32) (harg6 : arg6.IsWhole) (arg7 : Memref sig .tc .smem S2x16 .f32) (harg7 : arg7.IsWhole) (arg8 : Memref sig .tc .vmem S256x256 .bf16) (harg8 : arg8.IsWhole) (arg9 : Memref sig .tc .vmem S4096x256 .bf16) (harg9 : arg9.IsWhole) (arg10 : Memref sig .tc .vmem S4096x256 .bf16) (harg10 : arg10.IsWhole) (arg11 : Memref sig .tc .vmem S4x256x128 .f32) (harg11 : arg11.IsWhole) (arg12 : Memref sig .tc .vmem S4096x256 .f32) (harg12 : arg12.IsWhole) (arg13 : Memref sig .tc .vmem S4096x256 .f32) (harg13 : arg13.IsWhole) (hc2 : ¬k0_cond2 i = 1#1) (hc3 : k0_cond3 i = 1#1) (hc4 : ¬k0_cond4 i = 1#1)
    (x2 : Vec F S256x256 .bf16) (x3 : Vec F S4096x256 .bf16) (x4 : Vec F S4096x256 .bf16) (x5 : Vec F S256x256 .bf16) (x6 : Vec F S1x256x4 .f32) (x7 : Vec F S2x16 .f32) (n : Fin 15) (hn : (i 1).val = n.val + 1) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
      ⊢ wp frame (wpE (defs₀ (F := F)) Variants.none c none) E (cc0_sb_bwd i arg2 harg2 arg3 harg3 arg4 harg4 arg5 harg5 arg6 harg6 arg7 harg7 arg8 harg8 arg9 harg9 arg10 harg10 arg11 harg11 arg12 harg12 arg13 harg13) K := by
  letI : ClosedOff (k0_off8 i) := ⟨![n.val * 256, 0], (off_eq n i hn).1⟩
  letI : ClosedOff (k0_off9 i) := ⟨![n.val * 256, 128], (off_eq n i hn).2.1⟩
  letI : ClosedOff (k0_off10 i) := ⟨![n.val * 256 + 256, 0], (off_eq n i hn).2.2.1⟩
  letI : ClosedOff (k0_off11 i) := ⟨![n.val * 256 + 256, 128], (off_eq n i hn).2.2.2⟩
  simp only [cc0_sb_bwd_eq_skeleton]; unfold cc0_sb_bwd_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7
  sl_exec (disch := first | sl_exact hc2 | sl_exact hc3 | sl_exact hc4 | exact chk _ _)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  iexists _, _; isplitr; swap; · iexact H13
  ipureintro; rfl

set_option maxHeartbeats 4000000 in
/-- The body at the last query tile, after which the accumulated gradients are stored: from its buffers at any contents it ends with them at some contents, the inputs as they were. -/
theorem runC (c : Dev nD) (i : grid0.Coords) (arg2 : Memref sig .tc .vmem S256x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S256x256 .bf16) (harg5 : arg5.IsWhole) (arg6 : Memref sig .tc .vmem S1x256x4 .f32) (harg6 : arg6.IsWhole) (arg7 : Memref sig .tc .smem S2x16 .f32) (harg7 : arg7.IsWhole) (arg8 : Memref sig .tc .vmem S256x256 .bf16) (harg8 : arg8.IsWhole) (arg9 : Memref sig .tc .vmem S4096x256 .bf16) (harg9 : arg9.IsWhole) (arg10 : Memref sig .tc .vmem S4096x256 .bf16) (harg10 : arg10.IsWhole) (arg11 : Memref sig .tc .vmem S4x256x128 .f32) (harg11 : arg11.IsWhole) (arg12 : Memref sig .tc .vmem S4096x256 .f32) (harg12 : arg12.IsWhole) (arg13 : Memref sig .tc .vmem S4096x256 .f32) (harg13 : arg13.IsWhole) (hc2 : ¬k0_cond2 i = 1#1) (hc3 : k0_cond3 i = 1#1) (hc4 : k0_cond4 i = 1#1)
    (x2 : Vec F S256x256 .bf16) (x3 : Vec F S4096x256 .bf16) (x4 : Vec F S4096x256 .bf16) (x5 : Vec F S256x256 .bf16) (x6 : Vec F S1x256x4 .f32) (x7 : Vec F S2x16 .f32) (n : Fin 15) (hn : (i 1).val = n.val + 1) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
      ⊢ wp frame (wpE (defs₀ (F := F)) Variants.none c none) E (cc0_sb_bwd i arg2 harg2 arg3 harg3 arg4 harg4 arg5 harg5 arg6 harg6 arg7 harg7 arg8 harg8 arg9 harg9 arg10 harg10 arg11 harg11 arg12 harg12 arg13 harg13) K := by
  letI : ClosedOff (k0_off8 i) := ⟨![n.val * 256, 0], (off_eq n i hn).1⟩
  letI : ClosedOff (k0_off9 i) := ⟨![n.val * 256, 128], (off_eq n i hn).2.1⟩
  letI : ClosedOff (k0_off10 i) := ⟨![n.val * 256 + 256, 0], (off_eq n i hn).2.2.1⟩
  letI : ClosedOff (k0_off11 i) := ⟨![n.val * 256 + 256, 128], (off_eq n i hn).2.2.2⟩
  simp only [cc0_sb_bwd_eq_skeleton]; unfold cc0_sb_bwd_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7
  sl_exec (disch := first | sl_exact hc2 | sl_exact hc3 | sl_exact hc4 | exact chk _ _)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  iexists _, _; isplitr; swap; · iexact H13
  ipureintro; rfl

end Cert.SbIdeal.Body

end
-- ==== Proof.SbFrame.lean ====
/- Hand-written, untrusted: the frame of the stick-breaking attention's gradient. -/
module

public import proofs.«01_k».proof.Proof.SbRun

@[expose] public section

set_option maxRecDepth 16384

noncomputable section

namespace Cert.SbIdeal.Body

open Cert.SbIdeal Cert.SbIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Nothing is said of what the body leaves in the outputs' windows. -/
def forgets0 : Fin 9 → Bool := fun w => w.val == 6 || w.val == 7 || w.val == 8

/-- The pipeline's data on core `c`: the arrays as the region finds them, each input's buffer at its block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
  Φ _ := Pipeline.ΦA spec0 c
  q w := Pipeline.shareOf spec0 w
  owed _ := 0

/-- The data's arrays are what the region finds. -/
theorem A_eq (c : Dev nD) (w : Fin cfg0.W) : (dats m 0 c).A w = V m c (Pipeline.arrRef spec0 w) := by
  dsimp only [dats]

/-- What the body leaves of input 0: its block. -/
theorem after0_0 (c : Dev nD) (t : Fin cfg0.N) : (dats m 0 c).after 0 t = iblk m c 0 t := by dsimp only [dats]
/-- What the body leaves of input 1: its block. -/
theorem after0_1 (c : Dev nD) (t : Fin cfg0.N) : (dats m 0 c).after 1 t = iblk m c 1 t := by dsimp only [dats]
/-- What the body leaves of input 2: its block. -/
theorem after0_2 (c : Dev nD) (t : Fin cfg0.N) : (dats m 0 c).after 2 t = iblk m c 2 t := by dsimp only [dats]
/-- What the body leaves of input 3: its block. -/
theorem after0_3 (c : Dev nD) (t : Fin cfg0.N) : (dats m 0 c).after 3 t = iblk m c 3 t := by dsimp only [dats]
/-- What the body leaves of input 4: its block. -/
theorem after0_4 (c : Dev nD) (t : Fin cfg0.N) : (dats m 0 c).after 4 t = iblk m c 4 t := by dsimp only [dats]
/-- What the body leaves of input 5: its block. -/
theorem after0_5 (c : Dev nD) (t : Fin cfg0.N) : (dats m 0 c).after 5 t = iblk m c 5 t := by dsimp only [dats]
/-- What the body finds of input 0: its block. -/
theorem before0_0 (c : Dev nD) (t : Fin cfg0.N) (d) : (dats m 0 c).before 0 t d = iblk m c 0 t :=
  before0_0_of m (dats m 0 c) (A_eq m c 0) (after0_0 m c) t d
/-- What the body finds of input 1: its block. -/
theorem before0_1 (c : Dev nD) (t : Fin cfg0.N) (d) : (dats m 0 c).before 1 t d = iblk m c 1 t :=
  before0_1_of m (dats m 0 c) (A_eq m c 1) (after0_1 m c) t d
/-- What the body finds of input 2: its block. -/
theorem before0_2 (c : Dev nD) (t : Fin cfg0.N) (d) : (dats m 0 c).before 2 t d = iblk m c 2 t :=
  before0_2_of m (dats m 0 c) (A_eq m c 2) (after0_2 m c) t d
/-- What the body finds of input 3: its block. -/
theorem before0_3 (c : Dev nD) (t : Fin cfg0.N) (d) : (dats m 0 c).before 3 t d = iblk m c 3 t :=
  before0_3_of m (dats m 0 c) (A_eq m c 3) (after0_3 m c) t d
/-- What the body finds of input 4: its block. -/
theorem before0_4 (c : Dev nD) (t : Fin cfg0.N) (d) : (dats m 0 c).before 4 t d = iblk m c 4 t :=
  before0_4_of m (dats m 0 c) (A_eq m c 4) (after0_4 m c) t d
/-- What the body finds of input 5: its block. -/
theorem before0_5 (c : Dev nD) (t : Fin cfg0.N) (d) : (dats m 0 c).before 5 t d = iblk m c 5 t :=
  before0_5_of m (dats m 0 c) (A_eq m c 5) (after0_5 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare d)
    ∗ (∃ d, owns (c : Thread nD τ) (st0_7 t) fullShare d)
    ∗ (∃ d, owns (c : Thread nD τ) (st0_8 t) fullShare d))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ (∃ d, owns (c : Thread nD τ) (st0_6 t) fullShare d)
    ∗ (∃ d, owns (c : Thread nD τ) (st0_7 t) fullShare d)
    ∗ (∃ d, owns (c : Thread nD τ) (st0_8 t) fullShare d))

/-- The first query tile's points. -/
theorem cond2 : ∀ t : Fin cfg0.N, k0_cond2 (grid0.coords t) = 1#1 ↔ t.val % 16 = 0 := by decide +kernel
/-- The points past it. -/
theorem cond3 : ∀ t : Fin cfg0.N, k0_cond3 (grid0.coords t) = 1#1 ↔ ¬t.val % 16 = 0 := by decide +kernel
/-- The last query tile's. -/
theorem cond4 : ∀ t : Fin cfg0.N, k0_cond4 (grid0.coords t) = 1#1 ↔ t.val % 16 = 15 := by decide +kernel
/-- The query tile of a point. -/
theorem coord1 : ∀ t : Fin cfg0.N, (grid0.coords t 1).val = t.val % 16 := by decide +kernel

set_option maxHeartbeats 1600000 in
/-- The body at any point: one of the three cases, the scratch buffers passed through at some contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3, after0_4, after0_5]
  unfold Pipeline.ΦA
  rw [scopedRest0_eq]
  simp only [← owns_whole]
  have hN : t.val < 32 := lt_of_lt_of_eq t.isLt (show cfg0.N = 32 from N_0)
  by_cases h0 : t.val % 16 = 0
  · iintro ⟨⟨⟨⟨%g0, G0⟩, ⟨%g1, G1⟩, ⟨%g2, G2⟩⟩, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (runA c (grid0.coords t) _ _ _ _ _ _ _ _ _ _ _ _ _ _ _ _ _ _ _ _ _ _ _ _ ((cond2 t).mpr h0) (fun h => (cond3 t).mp h h0) (fun h => by have := (cond4 t).mp h; omega) (iblk m c 0 t) (iblk m c 1 t) (iblk m c 2 t) (iblk m c 3 t) (iblk m c 4 t) (iblk m c 5 t) (Set.univ) _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [G0]; · iexists _; iexact G0
    isplitl [G1]; · iexists _; iexact G1
    isplitl [G2]; · iexists _; iexact G2
    iintro ⟨H0, H1, H2, H3, H4, H5, H6, H7, H8, ⟨%e0, G0⟩, ⟨%e1, G1⟩, ⟨%e2, G2⟩⟩
    isplitl [G0 G1 G2 Hp]
    · isplitl [G0 G1 G2]
      · isplitl [G0]; · iexists _; iexact G0
        isplitl [G1]; · iexists _; iexact G1
        iexists _; iexact G2
      iexact Hp
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  by_cases h1 : t.val % 16 = 15
  · iintro ⟨⟨⟨⟨%g0, G0⟩, ⟨%g1, G1⟩, ⟨%g2, G2⟩⟩, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (runC c (grid0.coords t) _ _ _ _ _ _ _ _ _ _ _ _ _ _ _ _ _ _ _ _ _ _ _ _ (fun h => h0 ((cond2 t).mp h)) ((cond3 t).mpr h0) ((cond4 t).mpr h1) (iblk m c 0 t) (iblk m c 1 t) (iblk m c 2 t) (iblk m c 3 t) (iblk m c 4 t) (iblk m c 5 t) ⟨t.val % 16 - 1, by omega⟩ (by rw [coord1]; show _ = t.val % 16 - 1 + 1; omega) (Set.univ) _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [G0]; · iexists _; iexact G0
    isplitl [G1]; · iexists _; iexact G1
    isplitl [G2]; · iexists _; iexact G2
    iintro ⟨H0, H1, H2, H3, H4, H5, H6, H7, H8, ⟨%e0, G0⟩, ⟨%e1, G1⟩, ⟨%e2, G2⟩⟩
    isplitl [G0 G1 G2 Hp]
    · isplitl [G0 G1 G2]
      · isplitl [G0]; · iexists _; iexact G0
        isplitl [G1]; · iexists _; iexact G1
        iexists _; iexact G2
      iexact Hp
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · iintro ⟨⟨⟨⟨%g0, G0⟩, ⟨%g1, G1⟩, ⟨%g2, G2⟩⟩, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (runB c (grid0.coords t) _ _ _ _ _ _ _ _ _ _ _ _ _ _ _ _ _ _ _ _ _ _ _ _ (fun h => h0 ((cond2 t).mp h)) ((cond3 t).mpr h0) (fun h => h1 ((cond4 t).mp h)) (iblk m c 0 t) (iblk m c 1 t) (iblk m c 2 t) (iblk m c 3 t) (iblk m c 4 t) (iblk m c 5 t) ⟨t.val % 16 - 1, by omega⟩ (by rw [coord1]; show _ = t.val % 16 - 1 + 1; omega) (Set.univ) _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [G0]; · iexists _; iexact G0
    isplitl [G1]; · iexists _; iexact G1
    isplitl [G2]; · iexists _; iexact G2
    iintro ⟨H0, H1, H2, H3, H4, H5, H6, H7, H8, ⟨%e0, G0⟩, ⟨%e1, G1⟩, ⟨%e2, G2⟩⟩
    isplitl [G0 G1 G2 Hp]
    · isplitl [G0 G1 G2]
      · isplitl [G0]; · iexists _; iexact G0
        isplitl [G1]; · iexists _; iexact G1
        iexists _; iexact G2
      iexact Hp
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

/-- The body table's row at point `t`'s slots. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ forgets0 := fun t => by
  rw [bigSep_W0, bigSep_W0, defs₀_row]
  refine triple_restated (sound_body m c t) rfl ?_ fun _ => ?_
  · exact .rfl
  · exact .rfl

set_option backward.isDefEq.respectTransparency.types false in
set_option maxHeartbeats 800000 in
/-- The launch: every final state has the arrays as the data say and every semaphore at zero. -/
theorem run_main_quiescent : θ_run defs (onTc (τ := τ) (main (F := F))) (s₀ m ρ)
    (fun r => (Pipeline.RDat.FramePost (cfgs 0) (fun c => (dats m 0 c).toRForget forgets0) (V m)) r ∧ r.2.sem = fun _ => 0) :=
  Pipeline.θ_run_frame_forget_shared (Q' := _) cfgs (dats m) (0 : Fin 1) launch₀0 defs₀ Variants.none forgets0 m ρ main
    (hbody := fun c => (body_obligation m c).loose) (hq := fun _ _ _ => rfl)
    (howed := fun _ _ => rfl) (V := V m)
    (hmain := hmain m Variants.none) (hA := A_eq m) (hΦ := fun _ _ => rfl)

/-- The program returns, its arguments unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨(Pipeline.RDat.FramePost.arr_in (h.1) c 2 rfl).trans ((A_eq m c 2).trans (V_main_arg0 m c)),
      (Pipeline.RDat.FramePost.arr_in (h.1) c 3 rfl).trans ((A_eq m c 3).trans (V_main_arg1 m c))⟩, h.2⟩) (run_main_quiescent m ρ)

end Cert.SbIdeal.Body

end
-- ==== Proof.SbBits.lean ====
module

public import proofs.«01_k».proof.Proof.SbFrame
public import proofs.«01_k».proof.Proof.Gen.Sb
public import proofs.«01_k».proof.Defs

@[expose] public section

set_option maxRecDepth 16384

noncomputable section

open Idealize.ShloMosaic Idealize.ShloMosaic.TcCoe Idealize.ShloMosaic.Tactic Idealize.SL.Sem

namespace Cert.SbIdeal.Body

/-- The constants read as their own patterns: the program before any constant is named. -/
@[instance_reducible] def unnamed : Named Bits := ⟨fun _ _ {φ} b => FloatOps.ofBits φ b⟩

end Cert.SbIdeal.Body

namespace Cert.Proof

/-- The frame's claim of the program is that of its idealization's text at the machine's numbers, no constant named. -/
theorem quiescent_eq : Cert.quiescent_Sb =
    (∀ (m : (ℓ : Loc Cert.SbIdeal.nD Cert.SbIdeal.τ Cert.SbIdeal.sig) → Buf (Elt Bits) ℓ) (g : Dev Cert.SbIdeal.nD → PrngReg), True →
      θ_run (letI := Cert.SbIdeal.Body.unnamed; Cert.SbIdeal.defs (F := Bits)) (onTc (τ := Cert.SbIdeal.τ) (letI := Cert.SbIdeal.Body.unnamed; Cert.SbIdeal.main (F := Bits)))
        ⟨m, fun _ => 0, g⟩ (fun r => (∀ c : Dev Cert.SbIdeal.nD,
          r.2.mem ((c.tc : Thread Cert.SbIdeal.nD Cert.SbIdeal.τ).loc Cert.SbIdeal.main_arg0) = m ((c.tc : Thread Cert.SbIdeal.nD Cert.SbIdeal.τ).loc Cert.SbIdeal.main_arg0)
          ∧ r.2.mem ((c.tc : Thread Cert.SbIdeal.nD Cert.SbIdeal.τ).loc Cert.SbIdeal.main_arg1) = m ((c.tc : Thread Cert.SbIdeal.nD Cert.SbIdeal.τ).loc Cert.SbIdeal.main_arg1))
          ∧ r.2.sem = fun _ => 0)) := by
  sl_kernel_rfl

/-- The program returns, its arguments unchanged, every semaphore at zero. -/
theorem frame_Sb : Cert.quiescent_Sb := by
  rw [quiescent_eq]
  exact fun m ρ _ => @Cert.SbIdeal.Body.frame Bits _ Cert.SbIdeal.Body.unnamed m ρ

end Cert.Proof

end
-- ==== Proof.Frames.lean ====
/- Hand-written, untrusted: every call returns, its arguments unchanged, every semaphore at zero. -/
module

public import proofs.«01_k».proof.Defs
public import proofs.«01_k».proof.Proof.SbBits
public import proofs.«01_k».proof.Proof.Gen.SbIdeal
public import proofs.«01_k».proof.Proof.Gen.SbRefIdeal.Run
public import proofs.«01_k».proof.Proof.Gen.Merge.Frame
public import proofs.«01_k».proof.Proof.Gen.MergeIdeal.Value
public import proofs.«01_k».proof.Proof.Gen.MergeRefIdeal.Run
public import proofs.«01_k».proof.Proof.Gen.Conv.Frame
public import proofs.«01_k».proof.Proof.Gen.ConvIdeal.Value
public import proofs.«01_k».proof.Proof.Gen.ConvRefIdeal.Run
public import proofs.«01_k».proof.Proof.Gen.Memattn.Frame
public import proofs.«01_k».proof.Proof.Gen.MemattnIdeal.Value
public import proofs.«01_k».proof.Proof.Gen.MemattnRefIdeal.Run
public import proofs.«01_k».proof.Proof.Gen.Loss.Frame
public import proofs.«01_k».proof.Proof.Gen.LossIdeal.Value
public import proofs.«01_k».proof.Proof.Gen.LossRefIdeal.Run
public import proofs.«01_k».proof.Proof.Gen.FfnIn.Frame
public import proofs.«01_k».proof.Proof.Gen.FfnInIdeal.Value
public import proofs.«01_k».proof.Proof.Gen.FfnInRefIdeal.Run
public import proofs.«01_k».proof.Proof.Gen.MemKv.Frame
public import proofs.«01_k».proof.Proof.Gen.MemKvIdeal.Value
public import proofs.«01_k».proof.Proof.Gen.MemKvRefIdeal.Run
public import proofs.«01_k».proof.Proof.Gen.Gain.Frame
public import proofs.«01_k».proof.Proof.Gen.GainIdeal.Value
public import proofs.«01_k».proof.Proof.Gen.GainRefIdeal.Run
public import proofs.«01_k».proof.Proof.Gen.Rms.Frame
public import proofs.«01_k».proof.Proof.Gen.RmsIdeal.Value
public import proofs.«01_k».proof.Proof.Gen.RmsRefIdeal.Run
public import Idealize.ShloMosaic.Lib.Claim
public import proofs.«01_k».proof.Proof.Gen.Memfwd.Frame
public import proofs.«01_k».proof.Proof.Gen.MemfwdIdeal.Value
public import proofs.«01_k».proof.Proof.Gen.MemfwdRefIdeal.Run
public import proofs.«01_k».proof.Proof.Gen.Mixfwd.Frame
public import proofs.«01_k».proof.Proof.Gen.MixfwdIdeal.Value
public import proofs.«01_k».proof.Proof.Gen.MixfwdRefIdeal.Run
public import proofs.«01_k».proof.Proof.Gen.Convfwd.Frame
public import proofs.«01_k».proof.Proof.Gen.ConvfwdIdeal.Value
public import proofs.«01_k».proof.Proof.Gen.ConvfwdRefIdeal.Run
public import proofs.«01_k».proof.Proof.Gen.Rmsfwd.Frame
public import proofs.«01_k».proof.Proof.Gen.RmsfwdIdeal.Value
public import proofs.«01_k».proof.Proof.Gen.RmsfwdRefIdeal.Run
public import proofs.«01_k».proof.Proof.Gen.Mmnn.Frame
public import proofs.«01_k».proof.Proof.Gen.MmnnIdeal.Value
public import proofs.«01_k».proof.Proof.Gen.MmnnRefIdeal.Run
public import proofs.«01_k».proof.Proof.Gen.Mmtna.Frame
public import proofs.«01_k».proof.Proof.Gen.MmtnaIdeal.Value
public import proofs.«01_k».proof.Proof.Gen.MmtnaRefIdeal.Run
public import proofs.«01_k».proof.Proof.Gen.Mmtn.Frame
public import proofs.«01_k».proof.Proof.Gen.MmtnIdeal.Value
public import proofs.«01_k».proof.Proof.Gen.MmtnRefIdeal.Run
public import proofs.«01_k».proof.Proof.Gen.Sumdev.Frame
public import proofs.«01_k».proof.Proof.Gen.SumdevIdeal.Value
public import proofs.«01_k».proof.Proof.Gen.SumdevRefIdeal.Run

@[expose] public section

set_option maxRecDepth 16384

noncomputable section

open Idealize.ShloMosaic Idealize.ShloMosaic.TcCoe Idealize.SL.Sem

namespace Cert.Proof

/-- The stick-breaking attention's gradient at the reals. -/
theorem frame_SbIdeal : Cert.quiescent_SbIdeal := fun m ρ _ => Cert.SbIdeal.Body.frame m ρ
/-- The two named constants are what the table says: `log2_e` is `1 / log 2`, `clamp` has no bound. -/
theorem preserves_Sb : Cert.preserves_Sb_SbIdeal :=
  ⟨IdealRules.named_const.statement Cert.SbIdeal.κ "log2_e" .f32 0x3FB8AA3B#32 (((Real.log 2)⁻¹ : ℝ) : EReal) rfl,
    IdealRules.named_const.statement Cert.SbIdeal.κ "clamp" .f32 0x42FC0000#32 ⊤ rfl⟩
/-- The same of its reference. -/
theorem frame_SbRefIdeal : Cert.quiescent_SbRefIdeal := fun m ρ _ =>
  (θ_run Cert.SbRefIdeal.defs _ _).mono (fun r h => ⟨fun c => (h c).2.2.2, sem_eq_zero_of_no_sems (by decide) r.2⟩)
    (Cert.SbRefIdeal.Value.run m ρ)

/-- The gradient of the gated merge of the two branches. -/
theorem frame_Merge : Cert.quiescent_Merge := fun m ρ _ => Cert.Merge.Gen.frame m ρ
/-- The same at the reals. -/
theorem frame_MergeIdeal : Cert.quiescent_MergeIdeal := fun m ρ _ => Cert.MergeIdeal.Gen.frame m ρ
/-- The same of its reference. -/
theorem frame_MergeRefIdeal : Cert.quiescent_MergeRefIdeal := fun m ρ _ =>
  (θ_run Cert.MergeRefIdeal.defs _ _).mono (fun r h => ⟨fun c => (h c).2.2.2.2.2, sem_eq_zero_of_no_sems (by decide) r.2⟩)
    (Cert.MergeRefIdeal.Value.run m ρ)

/-- The gradient of the gated convolution. -/
theorem frame_Conv : Cert.quiescent_Conv := fun m ρ _ => Cert.Conv.Gen.frame m ρ
/-- The same at the reals. -/
theorem frame_ConvIdeal : Cert.quiescent_ConvIdeal := fun m ρ _ => Cert.ConvIdeal.Gen.frame m ρ
/-- The same of its reference. -/
theorem frame_ConvRefIdeal : Cert.quiescent_ConvRefIdeal := fun m ρ _ =>
  (θ_run Cert.ConvRefIdeal.defs _ _).mono (fun r h => ⟨fun c => (h c).2.2, sem_eq_zero_of_no_sems (by decide) r.2⟩)
    (Cert.ConvRefIdeal.Value.run m ρ)

/-- The gradient of the attention over the memory. -/
theorem frame_Memattn : Cert.quiescent_Memattn := fun m ρ _ => Cert.Memattn.Gen.frame m ρ
/-- The same at the reals. -/
theorem frame_MemattnIdeal : Cert.quiescent_MemattnIdeal := fun m ρ _ => Cert.MemattnIdeal.Gen.frame m ρ
/-- The same of its reference. -/
theorem frame_MemattnRefIdeal : Cert.quiescent_MemattnRefIdeal := fun m ρ _ =>
  (θ_run Cert.MemattnRefIdeal.defs _ _).mono (fun r h => ⟨fun c => (h c).2.2.2.2.2, sem_eq_zero_of_no_sems (by decide) r.2⟩)
    (Cert.MemattnRefIdeal.Value.run m ρ)

/-- The gradient of the last product, the normalised loss and its gradient. -/
theorem frame_Loss : Cert.quiescent_Loss := fun m ρ _ => Cert.Loss.Gen.frame m ρ
/-- The same at the reals. -/
theorem frame_LossIdeal : Cert.quiescent_LossIdeal := fun m ρ _ => Cert.LossIdeal.Gen.frame m ρ
/-- The same of its reference. -/
theorem frame_LossRefIdeal : Cert.quiescent_LossRefIdeal := fun m ρ _ =>
  (θ_run Cert.LossRefIdeal.defs _ _).mono (fun r h => ⟨fun c => (h c).2.2.2.2.2, sem_eq_zero_of_no_sems (by decide) r.2⟩)
    (Cert.LossRefIdeal.Value.run m ρ)

/-- The gradient of the feed-forward input and its norm. -/
theorem frame_FfnIn : Cert.quiescent_FfnIn := fun m ρ _ => Cert.FfnIn.Gen.frame m ρ
/-- The same at the reals. -/
theorem frame_FfnInIdeal : Cert.quiescent_FfnInIdeal := fun m ρ _ => Cert.FfnInIdeal.Gen.frame m ρ
/-- The same of its reference. -/
theorem frame_FfnInRefIdeal : Cert.quiescent_FfnInRefIdeal := fun m ρ _ =>
  (θ_run Cert.FfnInRefIdeal.defs _ _).mono (fun r h => ⟨fun c => (h c).2.2.2, sem_eq_zero_of_no_sems (by decide) r.2⟩)
    (Cert.FfnInRefIdeal.Value.run m ρ)

/-- The gradient of the memory's keys and values and their norm. -/
theorem frame_MemKv : Cert.quiescent_MemKv := fun m ρ _ => Cert.MemKv.Gen.frame m ρ
/-- The same at the reals. -/
theorem frame_MemKvIdeal : Cert.quiescent_MemKvIdeal := fun m ρ _ => Cert.MemKvIdeal.Gen.frame m ρ
/-- The same of its reference. -/
theorem frame_MemKvRefIdeal : Cert.quiescent_MemKvRefIdeal := fun m ρ _ =>
  (θ_run Cert.MemKvRefIdeal.defs _ _).mono (fun r h => ⟨fun c => (h c).2.2.2, sem_eq_zero_of_no_sems (by decide) r.2⟩)
    (Cert.MemKvRefIdeal.Value.run m ρ)

/-- The gradient of the gain of the first norm. -/
theorem frame_Gain : Cert.quiescent_Gain := fun m ρ _ => Cert.Gain.Gen.frame m ρ
/-- The same at the reals. -/
theorem frame_GainIdeal : Cert.quiescent_GainIdeal := fun m ρ _ => Cert.GainIdeal.Gen.frame m ρ
/-- The same of its reference. -/
theorem frame_GainRefIdeal : Cert.quiescent_GainRefIdeal := fun m ρ _ =>
  (θ_run Cert.GainRefIdeal.defs _ _).mono (fun r h => ⟨fun c => (h c).2.2, sem_eq_zero_of_no_sems (by decide) r.2⟩)
    (Cert.GainRefIdeal.Value.run m ρ)

/-- The gradient of the norm. -/
theorem frame_Rms : Cert.quiescent_Rms := fun m ρ _ => Cert.Rms.Gen.frame m ρ
/-- The same at the reals. -/
theorem frame_RmsIdeal : Cert.quiescent_RmsIdeal := fun m ρ _ => Cert.RmsIdeal.Gen.frame m ρ
/-- The same of its reference. -/
theorem frame_RmsRefIdeal : Cert.quiescent_RmsRefIdeal := fun m ρ _ =>
  (θ_run Cert.RmsRefIdeal.defs _ _).mono (fun r h => ⟨fun c => (h c).2.2.2, sem_eq_zero_of_no_sems (by decide) r.2⟩)
    (Cert.RmsRefIdeal.Value.run m ρ)

/-- The attention over the memory with its residual and norm. -/
theorem frame_Memfwd : Cert.quiescent_Memfwd := fun m ρ _ => Cert.Memfwd.Gen.frame m ρ
/-- The same at the reals. -/
theorem frame_MemfwdIdeal : Cert.quiescent_MemfwdIdeal := fun m ρ _ => Cert.MemfwdIdeal.Gen.frame m ρ
/-- The same of its reference. -/
theorem frame_MemfwdRefIdeal : Cert.quiescent_MemfwdRefIdeal := fun m ρ _ =>
  (θ_run Cert.MemfwdRefIdeal.defs _ _).mono (fun r h => ⟨fun c => (h c).2.2.2.2, sem_eq_zero_of_no_sems (by decide) r.2⟩)
    (Cert.MemfwdRefIdeal.Value.run m ρ)

/-- The merge of the two branches with its residual and norm. -/
theorem frame_Mixfwd : Cert.quiescent_Mixfwd := fun m ρ _ => Cert.Mixfwd.Gen.frame m ρ
/-- The same at the reals. -/
theorem frame_MixfwdIdeal : Cert.quiescent_MixfwdIdeal := fun m ρ _ => Cert.MixfwdIdeal.Gen.frame m ρ
/-- The same of its reference. -/
theorem frame_MixfwdRefIdeal : Cert.quiescent_MixfwdRefIdeal := fun m ρ _ =>
  (θ_run Cert.MixfwdRefIdeal.defs _ _).mono (fun r h => ⟨fun c => (h c).2.2.2.2.2, sem_eq_zero_of_no_sems (by decide) r.2⟩)
    (Cert.MixfwdRefIdeal.Value.run m ρ)

/-- The gated convolution. -/
theorem frame_Convfwd : Cert.quiescent_Convfwd := fun m ρ _ => Cert.Convfwd.Gen.frame m ρ
/-- The same at the reals. -/
theorem frame_ConvfwdIdeal : Cert.quiescent_ConvfwdIdeal := fun m ρ _ => Cert.ConvfwdIdeal.Gen.frame m ρ
/-- The same of its reference. -/
theorem frame_ConvfwdRefIdeal : Cert.quiescent_ConvfwdRefIdeal := fun m ρ _ =>
  (θ_run Cert.ConvfwdRefIdeal.defs _ _).mono (fun r h => ⟨fun c => (h c).2, sem_eq_zero_of_no_sems (by decide) r.2⟩)
    (Cert.ConvfwdRefIdeal.Value.run m ρ)

/-- The norm of the rows. -/
theorem frame_Rmsfwd : Cert.quiescent_Rmsfwd := fun m ρ _ => Cert.Rmsfwd.Gen.frame m ρ
/-- The same at the reals. -/
theorem frame_RmsfwdIdeal : Cert.quiescent_RmsfwdIdeal := fun m ρ _ => Cert.RmsfwdIdeal.Gen.frame m ρ
/-- The same of its reference. -/
theorem frame_RmsfwdRefIdeal : Cert.quiescent_RmsfwdRefIdeal := fun m ρ _ =>
  (θ_run Cert.RmsfwdRefIdeal.defs _ _).mono (fun r h => ⟨fun c => (h c).2, sem_eq_zero_of_no_sems (by decide) r.2⟩)
    (Cert.RmsfwdRefIdeal.Value.run m ρ)

/-- The feed-forward block's product. -/
theorem frame_Mmnn : Cert.quiescent_Mmnn := fun m ρ _ => Cert.Mmnn.Gen.frame m ρ
/-- The same at the reals. -/
theorem frame_MmnnIdeal : Cert.quiescent_MmnnIdeal := fun m ρ _ => Cert.MmnnIdeal.Gen.frame m ρ
/-- The same of its reference. -/
theorem frame_MmnnRefIdeal : Cert.quiescent_MmnnRefIdeal := fun m ρ _ =>
  (θ_run Cert.MmnnRefIdeal.defs _ _).mono (fun r h => ⟨fun c => (h c).2, sem_eq_zero_of_no_sems (by decide) r.2⟩)
    (Cert.MmnnRefIdeal.Value.run m ρ)

/-- The gradient of its weight. -/
theorem frame_Mmtna : Cert.quiescent_Mmtna := fun m ρ _ => Cert.Mmtna.Gen.frame m ρ
/-- The same at the reals. -/
theorem frame_MmtnaIdeal : Cert.quiescent_MmtnaIdeal := fun m ρ _ => Cert.MmtnaIdeal.Gen.frame m ρ
/-- The same of its reference. -/
theorem frame_MmtnaRefIdeal : Cert.quiescent_MmtnaRefIdeal := fun m ρ _ =>
  (θ_run Cert.MmtnaRefIdeal.defs _ _).mono (fun r h => ⟨fun c => (h c).2, sem_eq_zero_of_no_sems (by decide) r.2⟩)
    (Cert.MmtnaRefIdeal.Value.run m ρ)

/-- The gradient of the input projection's weight. -/
theorem frame_Mmtn : Cert.quiescent_Mmtn := fun m ρ _ => Cert.Mmtn.Gen.frame m ρ
/-- The same at the reals. -/
theorem frame_MmtnIdeal : Cert.quiescent_MmtnIdeal := fun m ρ _ => Cert.MmtnIdeal.Gen.frame m ρ
/-- The same of its reference. -/
theorem frame_MmtnRefIdeal : Cert.quiescent_MmtnRefIdeal := fun m ρ _ =>
  (θ_run Cert.MmtnRefIdeal.defs _ _).mono (fun r h => ⟨fun c => (h c).2, sem_eq_zero_of_no_sems (by decide) r.2⟩)
    (Cert.MmtnRefIdeal.Value.run m ρ)

/-- The sum over the devices. -/
theorem frame_Sumdev : Cert.quiescent_Sumdev := fun m ρ _ => Cert.Sumdev.Gen.frame m ρ
/-- The same at the reals. -/
theorem frame_SumdevIdeal : Cert.quiescent_SumdevIdeal := fun m ρ _ => Cert.SumdevIdeal.Gen.frame m ρ
/-- The same of its reference. -/
theorem frame_SumdevRefIdeal : Cert.quiescent_SumdevRefIdeal := fun m ρ _ =>
  (θ_run Cert.SumdevRefIdeal.defs _ _).mono (fun r h => ⟨fun c => (h c).2, sem_eq_zero_of_no_sems (by decide) r.2⟩)
    (Cert.SumdevRefIdeal.Value.run m ρ)

end Cert.Proof

end
-- ==== Proof.Reals.lean ====
/- Hand-written, untrusted: laws of the extended reals that the value proofs share — constants, the logistic function, finite elements. -/
module

public import Idealize.ShloMosaic.Lib.Pipeline.ValueKit
public import Idealize.ShloMosaic.Lib.IdealHost
public import Idealize.ShloMosaic.Lib.ReduceAll
public import Mathlib.Analysis.SpecialFunctions.Trigonometric.DerivHyp
public import Mathlib.Data.EReal.Operations

@[expose] public section

noncomputable section

namespace Cert.Reals

open Idealize.ShloMosaic

/-- The f32 pattern of one half. -/
theorem half_f32 : Ideal.ofBits .f32 0x3F000000#32 = ((1 / 2 : ℝ) : EReal) := by
  simp [Ideal.ofBits, Ideal.ieee, -EReal.coe_mul]; norm_num

/-- The f32 pattern of infinity. -/
theorem inf_f32 : Ideal.ofBits .f32 0x7F800000#32 = (⊤ : EReal) := by
  simp [Ideal.ofBits, Ideal.ieee]

/-- An extended real that is a real. -/
def IsFin (x : EReal) : Prop := ∃ r : ℝ, x = (r : EReal)

theorem IsFin.coe (r : ℝ) : IsFin (r : EReal) := ⟨r, rfl⟩
theorem IsFin.zero : IsFin 0 := ⟨0, rfl⟩
theorem IsFin.one : IsFin 1 := ⟨1, rfl⟩
theorem IsFin.add {x y : EReal} : IsFin x → IsFin y → IsFin (x + y) := by
  rintro ⟨a, rfl⟩ ⟨b, rfl⟩; exact ⟨a + b, by push_cast; rfl⟩
theorem IsFin.sub {x y : EReal} : IsFin x → IsFin y → IsFin (x - y) := by
  rintro ⟨a, rfl⟩ ⟨b, rfl⟩; exact ⟨a - b, by push_cast; rfl⟩
theorem IsFin.mul {x y : EReal} : IsFin x → IsFin y → IsFin (x * y) := by
  rintro ⟨a, rfl⟩ ⟨b, rfl⟩; exact ⟨a * b, by push_cast; rfl⟩
theorem IsFin.neg {x : EReal} : IsFin x → IsFin (-x) := by
  rintro ⟨a, rfl⟩; exact ⟨-a, by push_cast; rfl⟩
theorem IsFin.sum {ι : Type*} (s : Finset ι) {f : ι → EReal} (h : ∀ i, IsFin (f i)) : IsFin (∑ i ∈ s, f i) := by
  classical
  induction s using Finset.induction_on with
  | empty => simpa using IsFin.zero
  | insert a s ha ih => rw [Finset.sum_insert ha]; exact (h a).add ih

/-- `|x| < ∞`, as the preconditions print it, says that `x` is a real. -/
theorem fin_of_abs_lt {x : EReal} (h : Ideal.cmp .olt (max x (-x)) (Ideal.ofBits .f32 0x7F800000#32) = 1#1) : IsFin x := by
  rw [inf_f32] at h
  induction x using EReal.rec with
  | bot => simp [Ideal.cmp] at h
  | top => simp [Ideal.cmp] at h
  | coe r => exact ⟨r, rfl⟩

/-- The conjunction of two printed conditions. -/
theorem and_one {s : Shape} {a b : IVec s 1} (h : andi a b = fun _ => 1#1) : a = (fun _ => 1#1) ∧ b = fun _ => 1#1 := by
  have key : ∀ u v : BitVec 1, u &&& v = 1#1 → u = 1#1 ∧ v = 1#1 := by decide
  exact ⟨funext fun i => (key _ _ (congrFun h i)).1, funext fun i => (key _ _ (congrFun h i)).2⟩

/-- What the printed condition "no element of this bf16 array is infinite" says. -/
theorem fin_of_all_bf16 {s : Shape} {axes : List (Fin s.rank)} {x : FVec Ideal s .bf16} {hφ : FTy.bits .bf16 < FTy.bits .f32}
    {hb : (⟨0, ![]⟩ : Shape).BroadcastsInDim s ![]} {h : s.ReducesTo axes ⟨0, ![]⟩} {hu : 0 < (⟨0, ![]⟩ : Shape).numel}
    (e : Host.reduce IntOp.andi (cmpf .olt (Host.absf (extf .f32 x hφ))
      (broadcastInDim s ![] hb (constant (F := Ideal) ⟨0, ![]⟩ .f32 0x7F800000#32))) (constantI ⟨0, ![]⟩ 1 1#1) h hu = fun _ => 1#1)
    (i : s.Idx) : IsFin (x i) :=
  fin_of_abs_lt (Host.reduce_andi_all _ _ _ _ (fun a => a.elim0) (congrFun e _) i)

/-- What the printed condition "no element of this f32 array is infinite" says. -/
theorem fin_of_all_f32 {s : Shape} {axes : List (Fin s.rank)} {x : FVec Ideal s .f32}
    {hb : (⟨0, ![]⟩ : Shape).BroadcastsInDim s ![]} {h : s.ReducesTo axes ⟨0, ![]⟩} {hu : 0 < (⟨0, ![]⟩ : Shape).numel}
    (e : Host.reduce IntOp.andi (cmpf .olt (Host.absf x)
      (broadcastInDim s ![] hb (constant (F := Ideal) ⟨0, ![]⟩ .f32 0x7F800000#32))) (constantI ⟨0, ![]⟩ 1 1#1) h hu = fun _ => 1#1)
    (i : s.Idx) : IsFin (x i) :=
  fin_of_abs_lt (Host.reduce_andi_all _ _ _ _ (fun a => a.elim0) (congrFun e _) i)

/-- Half a hyperbolic tangent of half the argument, plus a half, is the logistic function. -/
theorem sigmoid_eq (x : EReal) :
    ((1 / 2 : ℝ) : EReal) * Ideal.tanh (((1 / 2 : ℝ) : EReal) * x) + ((1 / 2 : ℝ) : EReal) = Ideal.logistic x := by
  induction x using EReal.rec with
  | bot =>
    rw [EReal.coe_mul_bot_of_pos (by norm_num), Ideal.tanh_bot, Ideal.logistic_bot,
      show (-1 : EReal) = ((-1 : ℝ) : EReal) by rw [EReal.coe_neg, EReal.coe_one]]
    norm_cast; norm_num
  | top =>
    rw [EReal.coe_mul_top_of_pos (by norm_num), Ideal.tanh_top, Ideal.logistic_top,
      show (1 : EReal) = ((1 : ℝ) : EReal) by norm_cast]
    norm_cast; norm_num
  | coe r =>
    rw [← EReal.coe_mul, Ideal.tanh_coe, ← EReal.coe_mul, ← EReal.coe_add, Ideal.logistic_coe]
    congr 1
    rw [Real.tanh_eq_sinh_div_cosh, Real.sinh_eq, Real.cosh_eq]
    have e1 : Real.exp (-(1 / 2 * r)) = (Real.exp (1 / 2 * r))⁻¹ := Real.exp_neg _
    have e2 : Real.exp (-r) = (Real.exp (1 / 2 * r))⁻¹ * (Real.exp (1 / 2 * r))⁻¹ := by
      rw [← Real.exp_neg, ← Real.exp_add]; congr 1; ring
    rw [e1, e2]
    have h := Real.exp_pos (1 / 2 * r)
    set a := Real.exp (1 / 2 * r)
    field_simp
    ring

/-- The logistic function is finite everywhere. -/
theorem fin_logistic (x : EReal) : IsFin (Ideal.logistic x) := by
  induction x using EReal.rec with
  | bot => rw [Ideal.logistic_bot]; exact .zero
  | top => rw [Ideal.logistic_top]; exact .one
  | coe r => rw [Ideal.logistic_coe]; exact .coe _

/-- The derivative of `g ↦ g · logistic g`, as the chain rule writes it and with the cotangent drawn out. -/
theorem silu_grad {a g : EReal} (ha : IsFin a) (hg : IsFin g) :
    a * Ideal.logistic g + g * a * (Ideal.logistic g * (1 - Ideal.logistic g))
      = a * (Ideal.logistic g + g * Ideal.logistic g * (1 - Ideal.logistic g)) := by
  obtain ⟨a, rfl⟩ := ha
  obtain ⟨g, rfl⟩ := hg
  obtain ⟨l, hl⟩ := fin_logistic (g : EReal)
  rw [hl, ← EReal.coe_one]
  norm_cast
  ring

end Cert.Reals

end
-- ==== Proof.SwigluValue.lean ====
/- Hand-written, untrusted: the value of the gradient of the gated product, `Cert.SwigluIdeal`, at the reals. -/
module

public import proofs.«01_k».proof.Proof.Gen.SwigluIdeal.Value
public import proofs.«01_k».proof.Proof.Gen.SwigluRefIdeal.Read
public import proofs.«01_k».proof.Proof.Reals

@[expose] public section

set_option maxRecDepth 16384

noncomputable section

open Idealize.ShloMosaic Idealize.ShloMosaic.TcCoe Idealize.SL.Sem
open Idealize.ShloMosaic.Pipeline (Dat)

namespace Cert.SwigluIdeal.Grad

open Cert.SwigluIdeal Cert.SwigluIdeal.Gen

variable (m : (ℓ : Loc nD τ sig) → Buf (Elt Ideal) ℓ)

open Cert.SwigluRefIdeal.Read in
/-- The reference's gradient, stored group by group, at an index of its first half: the gates' gradient. -/
theorem ref_gate (x0 : FVec Ideal Cert.SwigluRefIdeal.S4096x1024 .bf16) (x1 : FVec Ideal Cert.SwigluRefIdeal.S2816x1024 .bf16)
    (x2 : FVec Ideal Cert.SwigluRefIdeal.S4096x5632 .bf16) (h0 : ∀ i, Reals.IsFin (x0 i)) (h1 : ∀ i, Reals.IsFin (x1 i))
    (h2 : ∀ i, Reals.IsFin (x2 i)) (j : Cert.SwigluRefIdeal.S2x4x4096x704.Idx) (ha : (j 0 : ℕ) = 0)
    (r : Fin 4096) (hr : r.val = j 2) (c : Fin 2816) (hc : c.val = j 1 * 704 + j 3) (g u : Fin 5632) (hg : g.val = c.val) (hu : u.val = 2816 + c.val) :
    val_main_v15 (F := Ideal) x0 x1 x2 j
      = (∑ k : Fin 1024, x0 (ix2 r k) * x1 (ix2 c k)) * x2 (ix2 r u)
        * (Ideal.logistic (x2 (ix2 r g)) + x2 (ix2 r g) * Ideal.logistic (x2 (ix2 r g)) * (1 - Ideal.logistic (x2 (ix2 r g)))) := by
  idx_vars j
  pointwise [val_main_v0, val_main_v1, val_main_v2, val_main_v3, val_main_call0_v0, val_main_call0_v1, val_main_call0_cst,
    val_main_call0_v2, val_main_call0_v3, val_main_call0_cst_0, val_main_call0_v4, val_main_v4_2,
    val_main_call0_cst_1, val_main_call0_v6, val_main_call0_v7, val_main_v4_1, val_main_v4_0, val_main_v5,
    val_main_v6, val_main_v7, val_main_v8, val_main_v9, val_main_v10, val_main_call1_v0, val_main_call1_v1,
    val_main_call1_v2, val_main_v11, val_main_v12, val_main_v13, val_main_v14, val_main_v15]
  obtain rfl : g = ⟨c.val, c.isLt.trans (by norm_num)⟩ := Fin.ext hg
  obtain rfl : u = ⟨2816 + c.val, Nat.add_lt_add_left c.isLt 2816⟩ := Fin.ext hu
  obtain rfl : r = j2 := Fin.ext hr
  have e : j0.val * 2816 + j1.val * 704 + j3.val = c.val := by
    have : j0.val = 0 := ha
    have : c.val = j1.val * 704 + j3.val := hc
    omega
  rw [dif_pos (by omega)]
  simp only [e]
  exact Reals.silu_grad (((Reals.IsFin.sum _ fun k => (h0 _).mul (h1 _))).mul (h2 _)) (h2 _)

open Cert.SwigluRefIdeal.Read in
/-- The same at an index of its second half: the gradient of what the gates multiply. -/
theorem ref_up (x0 : FVec Ideal Cert.SwigluRefIdeal.S4096x1024 .bf16) (x1 : FVec Ideal Cert.SwigluRefIdeal.S2816x1024 .bf16)
    (x2 : FVec Ideal Cert.SwigluRefIdeal.S4096x5632 .bf16) (j : Cert.SwigluRefIdeal.S2x4x4096x704.Idx) (ha : (j 0 : ℕ) = 1)
    (r : Fin 4096) (hr : r.val = j 2) (c : Fin 2816) (hc : c.val = j 1 * 704 + j 3) (g : Fin 5632) (hg : g.val = c.val) :
    val_main_v15 (F := Ideal) x0 x1 x2 j
      = (∑ k : Fin 1024, x0 (ix2 r k) * x1 (ix2 c k)) * (x2 (ix2 r g) * Ideal.logistic (x2 (ix2 r g))) := by
  idx_vars j
  pointwise [val_main_v0, val_main_v1, val_main_v2, val_main_v3, val_main_call0_v0, val_main_call0_v1, val_main_call0_cst,
    val_main_call0_v2, val_main_call0_v3, val_main_call0_cst_0, val_main_call0_v4, val_main_v4_2,
    val_main_call0_cst_1, val_main_call0_v6, val_main_call0_v7, val_main_v4_1, val_main_v4_0, val_main_v5,
    val_main_v6, val_main_v7, val_main_v8, val_main_v9, val_main_v10, val_main_call1_v0, val_main_call1_v1,
    val_main_call1_v2, val_main_v11, val_main_v12, val_main_v13, val_main_v14, val_main_v15]
  obtain rfl : g = ⟨c.val, c.isLt.trans (by norm_num)⟩ := Fin.ext hg
  obtain rfl : r = j2 := Fin.ext hr
  have e : j0.val * 2816 + j1.val * 704 + j3.val = 2816 + c.val := by
    have : j0.val = 1 := ha
    have : c.val = j1.val * 704 + j3.val := hc
    omega
  rw [dif_neg (by omega)]
  simp only [e, Nat.add_sub_cancel_left]
  exact mul_comm _ _

/-- Every window's block index at every grid point. -/
theorem idx_val : ∀ t : Fin cfg0.N, win0_0.index t = ![t.val / 4, 0]
    ∧ win0_1.index t = ![t.val % 4, 0, 0]
    ∧ win0_2.index t = ![0, t.val % 4, t.val / 4, 0]
    ∧ win0_3.index t = ![0, t.val % 4, t.val / 4, 0] :=
  (by decide +kernel : ∀ t : Fin grid0.N, _)

set_option maxHeartbeats 1600000 in
/-- What grid point `t` leaves at index `y` of its block is the reference's gradient where that index sits. -/
theorem point (c : Dev nD) (h0 : ∀ i, Reals.IsFin (m ((c : Thread nD τ).loc main_arg0) i))
    (h1 : ∀ i, Reals.IsFin (m ((c : Thread nD τ).loc main_arg1) i))
    (h2 : ∀ i, Reals.IsFin (m ((c : Thread nD τ).loc main_arg2) i)) (t : Fin cfg0.N) (y) :
    out0_3 (iblk m c 0 t) (iblk m c 1 t) (iblk m c 2 t) y
      = Cert.SwigluRefIdeal.Read.val_main_v15 (F := Ideal) (m ((c : Thread nD τ).loc main_arg0)) (m ((c : Thread nD τ).loc main_arg1))
        (m ((c : Thread nD τ).loc main_arg2)) (((cfg0.win 3).blk t).view.emb y) := by
  have ht : t.val < 16 := t.isLt
  have e3 := (idx_val t).2.2.2
  canon_tiles x k
  · pointwise [k0_pay1, k0_pay2, k0_pay3, k0_pay4, k0_pay5, k0_pay6, k0_pay7, Reals.half_f32, Reals.sigmoid_eq]
    refine Eq.trans ?_ (ref_up _ _ _ _ ?_ ⟨t.val / 4 * 1024 + x 2, by omega⟩ ?_ ⟨t.val % 4 * 704 + x 3, by omega⟩ ?_
      ⟨t.val % 4 * 704 + x 3, by omega⟩ rfl).symm
    · blk_point [iblk, V, idx_val t]
    all_goals (blk_simp [e3] <;> (try dsimp only) <;> try omega)
  · pointwise [k0_pay1, k0_pay2, k0_pay3, k0_pay4, k0_pay5, k0_pay6, k0_pay7, Reals.half_f32, Reals.sigmoid_eq]
    refine Eq.trans ?_ (ref_gate _ _ _ h0 h1 h2 _ ?_ ⟨t.val / 4 * 1024 + x 2, by omega⟩ ?_ ⟨t.val % 4 * 704 + x 3, by omega⟩ ?_
      ⟨t.val % 4 * 704 + x 3, by omega⟩ ⟨2816 + (t.val % 4 * 704 + x 3), by omega⟩ rfl rfl).symm
    · blk_point [iblk, V, idx_val t]
    all_goals (blk_simp [e3] <;> (try dsimp only) <;> try omega)

/-- The result array of the run is the reference's gradient. -/
theorem final (c : Dev nD) (h0 : ∀ i, Reals.IsFin (m ((c : Thread nD τ).loc main_arg0) i))
    (h1 : ∀ i, Reals.IsFin (m ((c : Thread nD τ).loc main_arg1) i))
    (h2 : ∀ i, Reals.IsFin (m ((c : Thread nD τ).loc main_arg2) i)) : (dats m 0 c).arrAt 3 (cfgs 0).N
      = Cert.SwigluRefIdeal.Read.val_main_v15 (F := Ideal) (m ((c : Thread nD τ).loc main_arg0)) (m ((c : Thread nD τ).loc main_arg1))
        (m ((c : Thread nD τ).loc main_arg2)) := by
  refine (dats m 0 c).arrAt_eq_of_covers 3 _ (by decide +kernel) fun t hf y => ?_
  blk_simp; rw [after0_3]
  exact point m c h0 h1 h2 t y

end Cert.SwigluIdeal.Grad
end
-- ==== Proof.Swiglu.lean ====
/- Hand-written, untrusted: the claims about the gradient of the gated product. -/
module

public import proofs.«01_k».proof.Defs
public import proofs.«01_k».proof.Proof.Gen.Swiglu.Frame
public import proofs.«01_k».proof.Proof.Gen.SwigluRefIdeal.Run
public import proofs.«01_k».proof.Proof.Gen.Pre_swiglu_finite
public import proofs.«01_k».proof.Proof.SwigluValue
public import Idealize.ShloMosaic.Lib.Claim

@[expose] public section

set_option maxRecDepth 16384

noncomputable section

open Idealize.ShloMosaic Idealize.ShloMosaic.TcCoe Idealize.SL.Sem

namespace Cert.Proof

/-- The program returns, its arguments unchanged, every semaphore at zero. -/
theorem frame_Swiglu : Cert.quiescent_Swiglu := fun m ρ _ => Cert.Swiglu.Gen.frame m ρ
/-- The same of its reading at the reals. -/
theorem frame_SwigluIdeal : Cert.quiescent_SwigluIdeal := fun m ρ _ => Cert.SwigluIdeal.Gen.frame m ρ
/-- The same of the reference. -/
theorem frame_SwigluRefIdeal : Cert.quiescent_SwigluRefIdeal := fun m ρ _ =>
  (θ_run Cert.SwigluRefIdeal.defs _ _).mono (fun r h => ⟨fun c => (h c).2, sem_eq_zero_of_no_sems (by decide) r.2⟩)
    (Cert.SwigluRefIdeal.Value.run m ρ)

/-- What the precondition says of its three arguments. -/
theorem swiglu_finite (x0 : FVec Ideal Cert.Pre_swiglu_finite.S4096x1024 .bf16) (x1 : FVec Ideal Cert.Pre_swiglu_finite.S2816x1024 .bf16)
    (x2 : FVec Ideal Cert.Pre_swiglu_finite.S4096x5632 .bf16) (h : Cert.Pre_swiglu_finite.fn x0 x1 x2 = fun _ => 1#1) :
    (∀ i, Reals.IsFin (x0 i)) ∧ (∀ i, Reals.IsFin (x1 i)) ∧ ∀ i, Reals.IsFin (x2 i) := by
  dsimp only [Cert.Pre_swiglu_finite.fn] at h
  obtain ⟨h, h2⟩ := Reals.and_one h
  obtain ⟨h0, h1⟩ := Reals.and_one h
  exact ⟨Reals.fin_of_all_bf16 h0, Reals.fin_of_all_bf16 h1, Reals.fin_of_all_bf16 h2⟩

set_option maxHeartbeats 1600000 in
/-- At finite arguments the kernel's result is the reference's, element by element. -/
theorem algebraic_Swiglu : Cert.algebraic_SwigluIdeal_SwigluRefIdeal_pre_swiglu_finite := by
  pair_intro
  · run_from Cert.SwigluIdeal.Gen.run_main m g
  · run_from Cert.SwigluRefIdeal.Value.run m' g'
    obtain ⟨h0, h1, h2⟩ := swiglu_finite _ _ _ (hpre c)
    rw [(hagree c).2.2]
    exact (Cert.SwigluRefIdeal.Read.val_main_v15_eq _ _ _).trans (Cert.SwigluIdeal.Grad.final m c h0 h1 h2).symm

end Cert.Proof

end
-- ==== Proof.Norm.lean ====
/- Hand-written, untrusted: the gradient of the root-mean-square norm of a row of 1024, and sums gathered tile by tile. -/
module

public import proofs.«01_k».proof.Proof.Reals

@[expose] public section

noncomputable section

namespace Cert.Norm

open Idealize.ShloMosaic Cert.Reals

theorem n_f32 : Ideal.ofBits .f32 1149239296#32 = ((1024 : ℝ) : EReal) := by
  simp [Ideal.ofBits, Ideal.ieee, -EReal.coe_mul]; norm_num
theorem neg_half_f32 : Ideal.ofBits .f32 3204448256#32 = ((-(1 / 2) : ℝ) : EReal) := by
  simp [Ideal.ofBits, Ideal.ieee, -EReal.coe_mul]; norm_num
theorem eps_f32 : ∃ e : ℝ, 0 < e ∧ Ideal.ofBits .f32 897988541#32 = (e : EReal) := by
  refine ⟨_, ?_, (by simp [Ideal.ofBits, Ideal.ieee, -EReal.coe_mul]; rfl)⟩
  positivity

/-- The mean square of a row, with the norm's small addend. -/
def msq (x : Fin 1024 → EReal) : EReal :=
  Ideal.div (∑ i, x i * x i) (Ideal.ofBits .f32 1149239296#32) + Ideal.ofBits .f32 897988541#32

/-- What a row is scaled by. -/
def rsq (x : Fin 1024 → EReal) : EReal := Ideal.rsqrt (msq x)

theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- At a row of reals the mean square is a positive real, the scale the reciprocal of its root. -/
theorem msq_coe (x : Fin 1024 → ℝ) : ∃ v : ℝ, 0 < v ∧ msq (fun i => (x i : EReal)) = (v : EReal) ∧ rsq (fun i => (x i : EReal)) = (((Real.sqrt v)⁻¹ : ℝ) : EReal) := by
  obtain ⟨e, he, hE⟩ := eps_f32
  have hS : 0 ≤ ∑ i, x i * x i := Finset.sum_nonneg fun i _ => mul_self_nonneg _
  have h : msq (fun i => (x i : EReal)) = (((∑ i, x i * x i) * (1 / 1024) + e : ℝ) : EReal) := by
    unfold msq
    rw [hE, n_f32, Ideal.div_coe (by norm_num)]
    simp only [← EReal.coe_mul, coe_sum, ← EReal.coe_add]
  have hv : 0 < (∑ i, x i * x i) * (1 / 1024) + e := by positivity
  refine ⟨_, hv, h, ?_⟩
  unfold rsq
  rw [h, Ideal.rsqrt_coe, if_neg (not_lt.mpr hv.le), if_neg hv.ne']

/-- Row `r`'s share of the gradient of the gain's element `k`, `d` the cotangent's rows. -/
def gain {n : ℕ} (x d : Fin n → Fin 1024 → EReal) (k : Fin 1024) (r : Fin n) : EReal := d r k * (x r k * rsq (x r))

theorem fin_rsq {x : Fin 1024 → EReal} (hx : ∀ i, IsFin (x i)) : IsFin (rsq x) := by
  choose X hX using hx
  obtain rfl : x = fun i => (X i : EReal) := funext hX
  obtain ⟨v, _, _, h⟩ := msq_coe X
  exact ⟨_, h⟩

/-- The gradient of a row's norm at its element `j` in the kernel's form: `a` the cotangent times the gain, `d` what is added. -/
def row (x a : Fin 1024 → EReal) (d : EReal) (j : Fin 1024) : EReal :=
  rsq x * (a j - x j * rsq x * Ideal.div (∑ i, a i * (x i * rsq x)) (Ideal.ofBits .f32 1149239296#32)) + d

/-- The gradient of a row's norm at its element `j`: the kernel's form against the chain rule's, `a` the cotangent times the gain, `d` what is added. -/
theorem row_grad {x a : Fin 1024 → EReal} (hx : ∀ i, IsFin (x i)) (ha : ∀ i, IsFin (a i)) (d : EReal) (j : Fin 1024) :
    row x a d j
      = d + a j * rsq x
        + x j * (∑ _i : Fin 1, Ideal.div ((∑ i, x i * a i) * (Ideal.ofBits .f32 3204448256#32 * Ideal.div (rsq x) (msq x))) (Ideal.ofBits .f32 1149239296#32))
        + (∑ _i : Fin 1, Ideal.div ((∑ i, x i * a i) * (Ideal.ofBits .f32 3204448256#32 * Ideal.div (rsq x) (msq x))) (Ideal.ofBits .f32 1149239296#32)) * x j := by
  unfold row
  rw [add_comm _ d, add_assoc, add_assoc]
  congr 1
  choose X hX using hx
  obtain rfl : x = fun i => (X i : EReal) := funext hX
  choose A hA using ha
  obtain rfl : a = fun i => (A i : EReal) := funext hA
  obtain ⟨v, hv, e1, e2⟩ := msq_coe X
  have hs : Real.sqrt v ≠ 0 := (Real.sqrt_pos.mpr hv).ne'
  have hq : Real.sqrt v * Real.sqrt v = v := Real.mul_self_sqrt hv.le
  simp only [e1, e2, n_f32, neg_half_f32, Fin.sum_univ_one]
  rw [Ideal.div_coe hv.ne', Ideal.div_coe (by norm_num), Ideal.div_coe (by norm_num)]
  simp only [← EReal.coe_mul, coe_sum, ← EReal.coe_add, ← EReal.coe_sub]
  congr 1
  have e3 : ∑ i, A i * (X i * (Real.sqrt v)⁻¹) = (∑ i, X i * A i) * (Real.sqrt v)⁻¹ := by
    rw [Finset.sum_mul]; exact Finset.sum_congr rfl fun i _ => by ring
  rw [e3]
  generalize ∑ i, X i * A i = S
  generalize Real.sqrt v = q at *
  subst hq
  field_simp
  ring

theorem row_congr {x x' a a' : Fin 1024 → EReal} {d d' : EReal} {j : Fin 1024} (hx : ∀ i, x i = x' i) (ha : ∀ i, a i = a' i) (hd : d = d') :
    row x a d j = row x' a' d' j := by
  obtain rfl : x = x' := funext hx
  obtain rfl : a = a' := funext ha
  rw [hd]

theorem gain_congr {n n' : ℕ} {x d : Fin n → Fin 1024 → EReal} {x' d' : Fin n' → Fin 1024 → EReal} {k : Fin 1024} {r : Fin n} {r' : Fin n'}
    (hx : ∀ i, x r i = x' r' i) (hd : d r k = d' r' k) : gain x d k r = gain x' d' k r' := by
  unfold gain
  rw [hd, hx, show x r = x' r' from funext hx]

/-- The product of a row and a column. -/
def dot {n : ℕ} (a b : Fin n → EReal) : EReal := ∑ x, a x * b x

theorem fin_dot {n : ℕ} {a b : Fin n → EReal} (ha : ∀ x, IsFin (a x)) (hb : ∀ x, IsFin (b x)) : IsFin (dot a b) :=
  IsFin.sum _ fun x => (ha x).mul (hb x)

/-- A sum gathered point by point is the sum over the points so far. -/
theorem acc {N : ℕ} (f : ∀ n, n < N → EReal) (T : ℕ → EReal) (h0 : ∀ h, f 0 h = T 0)
    (hs : ∀ n h, f (n + 1) h = f n (Nat.lt_of_succ_lt h) + T (n + 1)) : ∀ n h, f n h = ∑ i ∈ Finset.range (n + 1), T i := by
  intro n
  induction n with
  | zero => intro h; rw [h0, Finset.sum_range_one]
  | succ n ih => intro h; rw [hs, ih, Finset.sum_range_succ _ (n + 1)]

/-- The sums over tiles of `b` rows are the sum over all rows. -/
theorem sum_tiles (a b n : ℕ) (hn : a * b = n) (G : ℕ → EReal) :
    ∑ i ∈ Finset.range a, ∑ x : Fin b, G (i * b + x) = ∑ r : Fin n, G r := by
  subst hn
  rw [← Finset.sum_range G]
  induction a with
  | zero => simp
  | succ a ih => rw [Finset.sum_range_succ, ih, Nat.succ_mul, Finset.sum_range_add, Finset.sum_range fun x => G (a * b + x)]

/-- A function of the rows below `n` as one of all numbers. -/
@[irreducible] def ext {n : ℕ} (g : Fin n → EReal) (r : ℕ) : EReal := if h : r < n then g ⟨r, h⟩ else 0

theorem ext_val {n : ℕ} (g : Fin n → EReal) (r : Fin n) : ext g r = g r := by
  rw [ext, dif_pos r.isLt]

/-- Products over `a` groups of `b` add up to the product over all. -/
theorem tiles_dot {a b n : ℕ} (hn : a * b = n) (p q : Fin n → EReal) (s t : Fin a → Fin b → EReal)
    (hs : ∀ (g : Fin a) (x : Fin b) (h : g.val * b + x.val < n), s g x = p ⟨g.val * b + x.val, h⟩)
    (ht : ∀ (g : Fin a) (x : Fin b) (h : g.val * b + x.val < n), t g x = q ⟨g.val * b + x.val, h⟩) :
    ∑ g, dot (s g) (t g) = dot p q := by
  refine Eq.trans ?_ ((sum_tiles a b n hn (ext fun r => p r * q r)).trans (Finset.sum_congr rfl fun r _ => ext_val _ r))
  rw [Finset.sum_range]
  refine Finset.sum_congr rfl fun g _ => Finset.sum_congr rfl fun x _ => ?_
  have h : g.val * b + x.val < n := by
    have h1 := g.isLt
    have h2 := x.isLt
    calc g.val * b + x.val < g.val * b + b := by omega
      _ = (g.val + 1) * b := by ring
      _ ≤ a * b := Nat.mul_le_mul_right _ (by omega)
      _ = n := hn
  rw [ext, dif_pos h, hs g x h, ht g x h]

/-- Eight products over groups of `b` add up to the product over all. -/
theorem groups {b n : ℕ} (hn : 8 * b = n) (p q : Fin n → EReal) (s t : Fin 8 → Fin b → EReal)
    (hs : ∀ (g : Fin 8) (x : Fin b) (h : g.val * b + x.val < n), s g x = p ⟨g.val * b + x.val, h⟩)
    (ht : ∀ (g : Fin 8) (x : Fin b) (h : g.val * b + x.val < n), t g x = q ⟨g.val * b + x.val, h⟩) :
    dot (s 0) (t 0) + dot (s 1) (t 1) + dot (s 2) (t 2) + dot (s 3) (t 3) + dot (s 4) (t 4) + dot (s 5) (t 5) + dot (s 6) (t 6) + dot (s 7) (t 7) = dot p q :=
  (Fin.sum_univ_eight fun g => dot (s g) (t g)).symm.trans (tiles_dot hn p q s t hs ht)

/-- Four products over groups of `b`, added in turn to `v`, are the product over all added to it. -/
theorem groups4 {b n : ℕ} (hn : 4 * b = n) (v : EReal) (p q : Fin n → EReal) (s t : Fin 4 → Fin b → EReal)
    (hs : ∀ (g : Fin 4) (x : Fin b) (h : g.val * b + x.val < n), s g x = p ⟨g.val * b + x.val, h⟩)
    (ht : ∀ (g : Fin 4) (x : Fin b) (h : g.val * b + x.val < n), t g x = q ⟨g.val * b + x.val, h⟩) :
    v + dot (s 0) (t 0) + dot (s 1) (t 1) + dot (s 2) (t 2) + dot (s 3) (t 3) = v + dot p q := by
  rw [← tiles_dot hn p q s t hs ht, Fin.sum_univ_four]
  simp only [add_assoc]

/-- A real factor may be drawn out of a sum of reals. -/
theorem mul_sum {ι : Type*} {s : Finset ι} {c : EReal} {f : ι → EReal} (hc : IsFin c) (hf : ∀ i, IsFin (f i)) :
    ∑ i ∈ s, c * f i = c * ∑ i ∈ s, f i := by
  obtain ⟨c, rfl⟩ := hc
  choose F hF using hf
  obtain rfl : f = fun i => (F i : EReal) := funext hF
  simp only [← EReal.coe_mul, coe_sum, Finset.mul_sum]

theorem fin_ext {n : ℕ} {g : Fin n → EReal} (h : ∀ r, IsFin (g r)) (r : ℕ) : IsFin (ext g r) := by
  unfold ext
  split
  · exact h _
  · exact .zero

/-- The norm of a row at one element, scaled by the gain `g`, less the target `t`. -/
def err (x : Fin 1024 → EReal) (g t : EReal) (k : Fin 1024) : EReal := x k * rsq x * g - t

theorem err_congr {x x' : Fin 1024 → EReal} {g g' t t' : EReal} {k : Fin 1024} (hx : ∀ i, x i = x' i) (hg : g = g') (ht : t = t') :
    err x g t k = err x' g' t' k := by
  obtain rfl : x = x' := funext hx
  rw [hg, ht]

/-- The error over the row's length. -/
def cot (x : Fin 1024 → EReal) (g t : EReal) (k : Fin 1024) : EReal := err x g t k * Ideal.ofBits .f32 981467136#32

theorem cot_congr {x x' : Fin 1024 → EReal} {g g' t t' : EReal} {k : Fin 1024} (hx : ∀ i, x i = x' i) (hg : g = g') (ht : t = t') :
    cot x g t k = cot x' g' t' k := by
  unfold cot
  rw [err_congr hx hg ht]

theorem tiny_f32 : Ideal.ofBits .f32 981467136#32 = ((1 / 1024 : ℝ) : EReal) := by
  simp [Ideal.ofBits, Ideal.ieee, -EReal.coe_mul]; norm_num
theorem two_f32 : Ideal.ofBits .f32 1073741824#32 = ((2 : ℝ) : EReal) := by
  simp [Ideal.ofBits, Ideal.ieee, -EReal.coe_mul]; norm_num

/-- Half of the chain rule's twice the error. -/
theorem scale (y : EReal) : Ideal.div (Ideal.ofBits .f32 1056964608#32) (Ideal.ofBits .f32 1149239296#32) * (Ideal.ofBits .f32 1073741824#32 * y)
    = y * Ideal.ofBits .f32 981467136#32 := by
  rw [half_f32, n_f32, tiny_f32, two_f32, Ideal.div_coe (by norm_num), ← mul_assoc, ← EReal.coe_mul, ← EReal.coe_mul, mul_comm]
  congr 2
  norm_num

theorem fin_err {x : Fin 1024 → EReal} (hx : ∀ i, IsFin (x i)) {g t : EReal} (hg : IsFin g) (ht : IsFin t) (k : Fin 1024) : IsFin (err x g t k) :=
  (((hx k).mul (fin_rsq hx)).mul hg).sub ht

theorem fin_cot {x : Fin 1024 → EReal} (hx : ∀ i, IsFin (x i)) {g t : EReal} (hg : IsFin g) (ht : IsFin t) (k : Fin 1024) : IsFin (cot x g t k) :=
  (fin_err hx hg ht k).mul (by rw [tiny_f32]; exact .coe _)

/-- The mean square of an error's row. -/
def mean (e : Fin 1024 → EReal) : EReal := Ideal.div (∑ k, e k * e k) (Ideal.ofBits .f32 1149239296#32)

theorem fin_mean {e : Fin 1024 → EReal} (h : ∀ k, IsFin (e k)) : IsFin (mean e) := by
  unfold mean
  rw [n_f32, Ideal.div_coe (by norm_num)]
  exact (IsFin.sum _ fun k => (h k).mul (h k)).mul (.coe _)

theorem mean_congr {e e' : Fin 1024 → EReal} (h : ∀ k, e k = e' k) : mean e = mean e' := by rw [funext h]

/-- The gated unit. -/
def gate (x y : EReal) : EReal := x * Ideal.logistic x * y

end Cert.Norm

end
-- ==== Proof.RmsValue.lean ====
/- Hand-written, untrusted: the value of the norm's gradient, `Cert.RmsIdeal`, at the reals. -/
module

public import proofs.«01_k».proof.Proof.Gen.RmsIdeal.Value
public import proofs.«01_k».proof.Proof.Gen.RmsRefIdeal.Read
public import proofs.«01_k».proof.Proof.Reals
public import proofs.«01_k».proof.Proof.Norm

@[expose] public section

set_option maxRecDepth 16384

noncomputable section

open Idealize.ShloMosaic Idealize.ShloMosaic.TcCoe Idealize.SL.Sem
open Idealize.ShloMosaic.Pipeline (Dat)

namespace Cert.RmsIdeal.Grad

open Cert.RmsIdeal Cert.RmsIdeal.Gen

variable (m : (ℓ : Loc nD τ sig) → Buf (Elt Ideal) ℓ)

open Cert.RmsRefIdeal.Read in
/-- The reference's gradient of the rows at an index: the residual's cotangent and the three terms of the chain rule. -/
theorem ref_dx (x0 : FVec Ideal Cert.RmsRefIdeal.S4096x1024 .f32) (x1 : FVec Ideal Cert.RmsRefIdeal.S1024 .f32) (x2 x3 : FVec Ideal Cert.RmsRefIdeal.S4096x1024 .f32)
    (h0 : ∀ i, Reals.IsFin (x0 i)) (h1 : ∀ i, Reals.IsFin (x1 i)) (h2 : ∀ i, Reals.IsFin (x2 i)) (j : Cert.RmsRefIdeal.S4096x1024.Idx) (r : Fin 4096) (k : Fin 1024) (hr : r.val = j 0) (hk : k.val = j 1) :
    val_main_v36 (F := Ideal) x0 x1 x2 x3 j
      = Norm.rsq (fun i => x0 (ix2 r i)) * (x2 (ix2 r k) * x1 (ix1 k) - x0 (ix2 r k) * Norm.rsq (fun i => x0 (ix2 r i))
          * Ideal.div (∑ i, x2 (ix2 r i) * x1 (ix1 i) * (x0 (ix2 r i) * Norm.rsq (fun i => x0 (ix2 r i)))) (Ideal.ofBits .f32 1149239296#32)) + x3 (ix2 r k) := by
  idx_vars j
  obtain rfl : r = j0 := Fin.ext hr
  obtain rfl : k = j1 := Fin.ext hk
  refine Eq.trans ?_ (Norm.row_grad (a := fun i => x2 (ix2 r i) * x1 (ix1 i)) (fun i => h0 _) (fun i => (h2 _).mul (h1 _)) (x3 (ix2 r k)) k).symm
  pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v16, val_main_cst_3, val_main_v17, val_main_v18, val_main_v19, val_main_v20, val_main_cst_4, val_main_v21, val_main_v22, val_main_cst_5, val_main_v23, val_main_v24, val_main_v25, val_main_v26, val_main_v27, val_main_v28, val_main_cst_6, val_main_v29, val_main_v30, val_main_cst_7, val_main_v31, val_main_v32, val_main_v33, val_main_v34, val_main_v35, val_main_v36, val_main_v37, val_main_v38, val_main_v39]
  rfl

open Cert.RmsRefIdeal.Read in
/-- The reference's gradient of the gain, in each of its eight equal rows. -/
theorem ref_dg (x0 x2 : FVec Ideal Cert.RmsRefIdeal.S4096x1024 .f32) (j : Cert.RmsRefIdeal.S8x1024.Idx) (k : Fin 1024) (hk : k.val = j 1) :
    val_main_v39 (F := Ideal) x0 x2 j = ∑ r : Fin 4096, Norm.gain (n := 4096) (fun r i => x0 (ix2 r i)) (fun r i => x2 (ix2 r i)) k r := by
  idx_vars j
  obtain rfl : k = j1 := Fin.ext hk
  pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v16, val_main_cst_3, val_main_v17, val_main_v18, val_main_v19, val_main_v20, val_main_cst_4, val_main_v21, val_main_v22, val_main_cst_5, val_main_v23, val_main_v24, val_main_v25, val_main_v26, val_main_v27, val_main_v28, val_main_cst_6, val_main_v29, val_main_v30, val_main_cst_7, val_main_v31, val_main_v32, val_main_v33, val_main_v34, val_main_v35, val_main_v36, val_main_v37, val_main_v38, val_main_v39]
  rw [Fin.sum_univ_one]
  exact Finset.sum_congr rfl fun r _ => mul_comm _ _

/-- Every window's block index at every grid point. -/
theorem idx_val : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![t.val, 0] ∧ win0_6.index t = ![0, 0] :=
  (by decide +kernel : ∀ t : Fin grid0.N, _)

/-- Block `t` of the inputs, as rows of the arrays. -/
theorem in0 (c : Dev nD) (t : Fin cfg0.N) (a : Fin 512) (b : Fin 1024) (h : t.val * 512 + a.val < 4096) :
    (iblk m c 0 t (ix2 a b) : EReal) = (m ((c : Thread nD τ).loc main_arg0)) (ix2 ⟨t.val * 512 + a.val, h⟩ b) := by
  blk_ext [iblk, V, idx_val t]
theorem in1 (c : Dev nD) (t : Fin cfg0.N) (a : Fin 1) (b : Fin 1024) :
    (iblk m c 1 t (ix2 a b) : EReal) = (m ((c : Thread nD τ).loc main_arg1)) (ix1 b) := by
  blk_point [iblk, V, idx_val t]
theorem in2 (c : Dev nD) (t : Fin cfg0.N) (a : Fin 512) (b : Fin 1024) (h : t.val * 512 + a.val < 4096) :
    (iblk m c 2 t (ix2 a b) : EReal) = (m ((c : Thread nD τ).loc main_arg2)) (ix2 ⟨t.val * 512 + a.val, h⟩ b) := by
  blk_ext [iblk, V, idx_val t]
theorem in3 (c : Dev nD) (t : Fin cfg0.N) (a : Fin 512) (b : Fin 1024) (h : t.val * 512 + a.val < 4096) :
    (iblk m c 3 t (ix2 a b) : EReal) = (m ((c : Thread nD τ).loc main_arg3)) (ix2 ⟨t.val * 512 + a.val, h⟩ b) := by
  blk_ext [iblk, V, idx_val t]

/-- What grid point `t` leaves in the two blocks of rows, as the body's own words. -/
theorem outs_rows (c : Dev nD) (t : Fin cfg0.N) :
    (outsAt0 m c t.val t.isLt).1 = k0_pay5 (iblk m c 2 t) (iblk m c 0 t) (iblk m c 1 t) (iblk m c 3 t)
    ∧ (outsAt0 m c t.val t.isLt).2.1 = k0_pay6 (iblk m c 2 t) (iblk m c 0 t) (iblk m c 1 t) (iblk m c 3 t) := by
  by_cases h0 : t.val % 8 = 0
  · rw [outsAt0_A m c t h0]
    exact ⟨by frame_out, by frame_out⟩
  · rw [outsAt0_B m c t h0]
    exact ⟨by frame_out, by frame_out⟩

/-- The rows' gradient at grid point `t`, where the block lands. -/
theorem point (c : Dev nD) (h0 : ∀ i, Reals.IsFin ((m ((c : Thread nD τ).loc main_arg0)) i)) (h1 : ∀ i, Reals.IsFin ((m ((c : Thread nD τ).loc main_arg1)) i)) (h2 : ∀ i, Reals.IsFin ((m ((c : Thread nD τ).loc main_arg2)) i)) (t : Fin cfg0.N) (y) :
    k0_pay5 (iblk m c 2 t) (iblk m c 0 t) (iblk m c 1 t) (iblk m c 3 t) y
      = Cert.RmsRefIdeal.Read.val_main_v36 (F := Ideal) (m ((c : Thread nD τ).loc main_arg0)) (m ((c : Thread nD τ).loc main_arg1)) (m ((c : Thread nD τ).loc main_arg2)) (m ((c : Thread nD τ).loc main_arg3)) (((cfg0.win 4).blk t).view.emb y) := by
  have ht : t.val < 8 := t.isLt
  have hy : (y 0).val < 512 := (y 0).isLt
  have e4 := (idx_val t).2.2.2.2.1
  pointwise [k0_pay1, k0_pay2, k0_pay3, k0_pay4, k0_pay5, k0_pay6, k0_pay7]
  refine Eq.trans ?_ (ref_dx _ _ _ _ h0 h1 h2 _ ⟨t.val * 512 + (y 0).val, by omega⟩ (y 1) ?_ ?_).symm
  · unfold Norm.rsq Norm.msq
    blk_point [iblk, V, idx_val t]
    congr 1 <;> blk_ext [iblk, V, idx_val t]
  all_goals (blk_simp [e4] <;> (try dsimp only) <;> try omega)

/-- One grid point's share of the gain's gradient. -/
theorem part (c : Dev nD) (t : Fin cfg0.N) (j : S1x1024.Idx) :
    k0_pay7 (iblk m c 2 t) (iblk m c 0 t) j
      = ∑ x : Fin 512, Norm.ext (Norm.gain (n := 4096) (fun r i => (m ((c : Thread nD τ).loc main_arg0)) (ix2 r i)) (fun r i => (m ((c : Thread nD τ).loc main_arg2)) (ix2 r i)) (j 1)) (t.val * 512 + x.val) := by
  have ht : t.val < 8 := t.isLt
  pointwise [k0_pay1, k0_pay2, k0_pay3, k0_pay4, k0_pay5, k0_pay6, k0_pay7]
  refine Finset.sum_congr rfl fun x _ => ?_
  rw [Norm.ext, dif_pos (by omega)]
  have h : t.val * 512 + x.val < 4096 := by omega
  exact congrArg₂ (· * ·) (in2 m c t x _ h) (congrArg₂ (· * ·) (in0 m c t x _ h) (congrArg Norm.rsq (funext fun i => in0 m c t x i h)))

/-- The gain's gradient after grid point `n`: the sum over the tiles so far. -/
theorem gain_acc (c : Dev nD) (y : S8x1024.Idx) (n : ℕ) (h : n < cfg0.N) :
    (outsAt0 m c n h).2.2 y = ∑ t ∈ Finset.range (n + 1), ∑ x : Fin 512,
      Norm.ext (Norm.gain (n := 4096) (fun r i => (m ((c : Thread nD τ).loc main_arg0)) (ix2 r i)) (fun r i => (m ((c : Thread nD τ).loc main_arg2)) (ix2 r i)) (y 1)) (t * 512 + x.val) := by
  refine Norm.acc (N := cfg0.N) (fun n h => (outsAt0 m c n h).2.2 y) (fun t => ∑ x : Fin 512,
      Norm.ext (Norm.gain (n := 4096) (fun r i => (m ((c : Thread nD τ).loc main_arg0)) (ix2 r i)) (fun r i => (m ((c : Thread nD τ).loc main_arg2)) (ix2 r i)) (y 1)) (t * 512 + x.val)) (fun h => ?_) (fun n h => ?_) n h
  · rw [outsAt0_A m c ⟨0, h⟩ (by rfl)]
    refine Eq.trans (b := k0_pay7 (iblk m c 2 ⟨0, h⟩) (iblk m c 0 ⟨0, h⟩) (ix2 0 (y 1))) ?_ (part m c _ _)
    frame_out
    pointwise [k0_pay2, k0_pay1]
  · have hn : n + 1 < 8 := h
    rw [outsAt0_B m c ⟨n + 1, h⟩ (by dsimp only; omega)]
    refine Eq.trans (b := (outsAt0 m c n (Nat.lt_of_succ_lt h)).2.2 y + k0_pay7 (iblk m c 2 ⟨n + 1, h⟩) (iblk m c 0 ⟨n + 1, h⟩) (ix2 0 (y 1))) ?_ (congrArg _ (part m c _ _))
    frame_out
    pointwise [k0_pay2]
    rfl

/-- The rows' gradient the call leaves is the reference's. -/
theorem final4 (c : Dev nD) (h0 : ∀ i, Reals.IsFin ((m ((c : Thread nD τ).loc main_arg0)) i)) (h1 : ∀ i, Reals.IsFin ((m ((c : Thread nD τ).loc main_arg1)) i)) (h2 : ∀ i, Reals.IsFin ((m ((c : Thread nD τ).loc main_arg2)) i)) :
    (dats m 0 c).arrAt 4 cfg0.N = Cert.RmsRefIdeal.Read.val_main_v36 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4, (outs_rows m c t).1]
  exact point m c h0 h1 h2 t y

/-- Its copy in the narrow format is the reference's. -/
theorem final5 (c : Dev nD) (h0 : ∀ i, Reals.IsFin ((m ((c : Thread nD τ).loc main_arg0)) i)) (h1 : ∀ i, Reals.IsFin ((m ((c : Thread nD τ).loc main_arg1)) i)) (h2 : ∀ i, Reals.IsFin ((m ((c : Thread nD τ).loc main_arg2)) i)) :
    (dats m 0 c).arrAt 5 cfg0.N = Cert.RmsRefIdeal.Read.val_main_v37 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5, (outs_rows m c t).2]
  exact point m c h0 h1 h2 t y

/-- The gain's gradient the call leaves is the reference's. -/
theorem final6 (c : Dev nD) :
    (dats m 0 c).arrAt 6 cfg0.N = Cert.RmsRefIdeal.Read.val_main_v39 (F := Ideal) (m ((c : Thread nD τ).loc main_arg0)) (m ((c : Thread nD τ).loc main_arg2)) := by
  refine (dats m 0 c).arrAt_eq_of_after_last 6 t0_7 (by decide +kernel) _ fun j => ?_
  blk_simp
  rw [after0_6]
  refine (gain_acc m c _ _ _).trans ?_
  refine Eq.trans ?_ (ref_dg _ _ _ (j 1) ?_).symm
  · refine (Norm.sum_tiles 8 512 4096 rfl _).trans ?_
    exact Finset.sum_congr rfl fun r _ => Norm.ext_val _ r
  all_goals (blk_simp [idx_val t0_7] <;> (try dsimp only) <;> try omega)
-- ==== Proof.FfnInValue.lean ====
/- Hand-written, untrusted: the value of the first product's and the norm's gradient, `Cert.FfnInIdeal`, at the reals. -/
module

public import proofs.«01_k».proof.Proof.Gen.FfnInIdeal.Value
public import proofs.«01_k».proof.Proof.Gen.FfnInRefIdeal.Read
public import proofs.«01_k».proof.Proof.Reals
public import proofs.«01_k».proof.Proof.Norm

@[expose] public section

set_option maxRecDepth 16384

noncomputable section

open Idealize.ShloMosaic Idealize.ShloMosaic.TcCoe Idealize.SL.Sem
open Idealize.ShloMosaic.Pipeline (Dat)

namespace Cert.FfnInIdeal.Grad

open Cert.FfnInIdeal Cert.FfnInIdeal.Gen

variable (m : (ℓ : Loc nD τ sig) → Buf (Elt Ideal) ℓ)

open Cert.FfnInRefIdeal.Read in
/-- The reference's gradient of the rows at an index. -/
theorem ref_dx (x0 : FVec Ideal Cert.FfnInRefIdeal.S4096x5632 .bf16) (x1 : FVec Ideal Cert.FfnInRefIdeal.S1024x5632 .bf16) (x2 : FVec Ideal Cert.FfnInRefIdeal.S4096x1024 .f32) (x3 : FVec Ideal Cert.FfnInRefIdeal.S1024 .f32) (x4 : FVec Ideal Cert.FfnInRefIdeal.S4096x1024 .f32)
    (h0 : ∀ i, Reals.IsFin (x0 i)) (h1 : ∀ i, Reals.IsFin (x1 i)) (h2 : ∀ i, Reals.IsFin (x2 i)) (h3 : ∀ i, Reals.IsFin (x3 i)) (j : Cert.FfnInRefIdeal.S4096x1024.Idx) (r : Fin 4096) (k : Fin 1024) (hr : r.val = j 0) (hk : k.val = j 1) :
    val_main_v40 (F := Ideal) x0 x1 x2 x3 x4 j
      = Norm.row (fun i => x2 (ix2 r i)) (fun i => (Norm.dot (fun x => x0 (ix2 r x)) (fun x => x1 (ix2 i x))) * x3 (ix1 i)) (x4 (ix2 r k)) k := by
  idx_vars j
  obtain rfl : r = j0 := Fin.ext hr
  obtain rfl : k = j1 := Fin.ext hk
  refine Eq.trans ?_ (Norm.row_grad (fun i => h2 _) (fun i => (Norm.fin_dot (fun x => h0 _) fun x => h1 _).mul (h3 _)) (x4 (ix2 r k)) k).symm
  pointwise [val_main_v0, val_main_v1, val_main_cst, val_main_v2, val_main_v3, val_main_cst_0, val_main_v4, val_main_v5, val_main_cst_1, val_main_v6, val_main_v7, val_main_v8, val_main_v9, val_main_cst_2, val_main_v10, val_main_v11, val_main_v12, val_main_v13, val_main_v14, val_main_v15, val_main_v16, val_main_v17, val_main_v18, val_main_v19, val_main_v20, val_main_cst_3, val_main_v21, val_main_v22, val_main_v23, val_main_v24, val_main_cst_4, val_main_v25, val_main_v26, val_main_cst_5, val_main_v27, val_main_v28, val_main_v29, val_main_v30, val_main_v31, val_main_v32, val_main_cst_6, val_main_v33, val_main_v34, val_main_cst_7, val_main_v35, val_main_v36, val_main_v37, val_main_v38, val_main_v39, val_main_v40, val_main_v41, val_main_v42, val_main_v43]
  rfl

open Cert.FfnInRefIdeal.Read in
/-- The reference's gradient of the gain, in each of its eight equal rows. -/
theorem ref_dg (x0 : FVec Ideal Cert.FfnInRefIdeal.S4096x5632 .bf16) (x1 : FVec Ideal Cert.FfnInRefIdeal.S1024x5632 .bf16) (x2 : FVec Ideal Cert.FfnInRefIdeal.S4096x1024 .f32) (j : Cert.FfnInRefIdeal.S8x1024.Idx) (k : Fin 1024) (hk : k.val = j 1) :
    val_main_v43 (F := Ideal) x0 x1 x2 j
      = ∑ r : Fin 4096, Norm.gain (n := 4096) (fun r i => x2 (ix2 r i)) (fun r i => Norm.dot (fun x => x0 (ix2 r x)) (fun x => x1 (ix2 i x))) k r := by
  idx_vars j
  obtain rfl : k = j1 := Fin.ext hk
  pointwise [val_main_v0, val_main_v1, val_main_cst, val_main_v2, val_main_v3, val_main_cst_0, val_main_v4, val_main_v5, val_main_cst_1, val_main_v6, val_main_v7, val_main_v8, val_main_v9, val_main_cst_2, val_main_v10, val_main_v11, val_main_v12, val_main_v13, val_main_v14, val_main_v15, val_main_v16, val_main_v17, val_main_v18, val_main_v19, val_main_v20, val_main_cst_3, val_main_v21, val_main_v22, val_main_v23, val_main_v24, val_main_cst_4, val_main_v25, val_main_v26, val_main_cst_5, val_main_v27, val_main_v28, val_main_v29, val_main_v30, val_main_v31, val_main_v32, val_main_cst_6, val_main_v33, val_main_v34, val_main_cst_7, val_main_v35, val_main_v36, val_main_v37, val_main_v38, val_main_v39, val_main_v40, val_main_v41, val_main_v42, val_main_v43]
  rw [Fin.sum_univ_one]
  exact Finset.sum_congr rfl fun r _ => mul_comm _ _

/-- Every window's block index at every grid point. -/
theorem idx_val : ∀ t : Fin cfg0.N, win0_0.index t = ![0, t.val, 0] ∧ win0_1.index t = ![0, 0, 0] ∧ win0_2.index t = ![t.val, 0]
    ∧ win0_3.index t = ![0, 0] ∧ win0_4.index t = ![t.val, 0] ∧ win0_5.index t = ![t.val, 0] ∧ win0_6.index t = ![t.val, 0] ∧ win0_7.index t = ![0, 0] :=
  (by decide +kernel : ∀ t : Fin grid0.N, _)

/-- Block `t` of the inputs, as rows of the arrays; the product's operands come in eight groups of columns. -/
theorem in0 (c : Dev nD) (t : Fin cfg0.N) (g : Fin 8) (a : Fin 512) (x : Fin 704) (h : t.val * 512 + a.val < 4096) (h' : g.val * 704 + x.val < 5632) :
    (iblk m c 0 t (ix3 g a x) : EReal) = (m ((c : Thread nD τ).loc main_arg0)) (ix2 ⟨t.val * 512 + a.val, h⟩ ⟨g.val * 704 + x.val, h'⟩) := by
  blk_point [iblk, V, idx_val t]
theorem in1 (c : Dev nD) (t : Fin cfg0.N) (g : Fin 8) (x : Fin 704) (k : Fin 1024) (h' : g.val * 704 + x.val < 5632) :
    (iblk m c 1 t (ix3 g x k) : EReal) = (m ((c : Thread nD τ).loc main_arg1)) (ix2 k ⟨g.val * 704 + x.val, h'⟩) := by
  blk_point [iblk, V, idx_val t]
theorem in2 (c : Dev nD) (t : Fin cfg0.N) (a : Fin 512) (b : Fin 1024) (h : t.val * 512 + a.val < 4096) :
    (iblk m c 2 t (ix2 a b) : EReal) = (m ((c : Thread nD τ).loc main_arg2)) (ix2 ⟨t.val * 512 + a.val, h⟩ b) := by
  blk_ext [iblk, V, idx_val t]
theorem in3 (c : Dev nD) (t : Fin cfg0.N) (a : Fin 1) (b : Fin 1024) :
    (iblk m c 3 t (ix2 a b) : EReal) = (m ((c : Thread nD τ).loc main_arg3)) (ix1 b) := by
  blk_point [iblk, V, idx_val t]
theorem in4 (c : Dev nD) (t : Fin cfg0.N) (a : Fin 512) (b : Fin 1024) (h : t.val * 512 + a.val < 4096) :
    (iblk m c 4 t (ix2 a b) : EReal) = (m ((c : Thread nD τ).loc main_arg4)) (ix2 ⟨t.val * 512 + a.val, h⟩ b) := by
  blk_ext [iblk, V, idx_val t]

/-- The product of grid point `t`, in the body's own words. -/
@[irreducible] def dh (c : Dev nD) (t : Fin cfg0.N) : FVec Ideal S512x1024 .f32 :=
  k0_pay7 (F := Ideal) (k0_pay5 (View.ld (iblk m c 0 t) (Rect.unit ![0, 0, 0] ![1, 512, 704] inb_S8x512x704_S1x512x704_0_0_0)) (View.ld (iblk m c 1 t) (Rect.unit ![0, 0, 0] ![1, 704, 1024] inb_S8x704x1024_S1x704x1024_0_0_0)) (View.ld (iblk m c 0 t) (Rect.unit ![1, 0, 0] ![1, 512, 704] inb_S8x512x704_S1x512x704_1_0_0)) (View.ld (iblk m c 1 t) (Rect.unit ![1, 0, 0] ![1, 704, 1024] inb_S8x704x1024_S1x704x1024_1_0_0)) (View.ld (iblk m c 0 t) (Rect.unit ![2, 0, 0] ![1, 512, 704] inb_S8x512x704_S1x512x704_2_0_0)) (View.ld (iblk m c 1 t) (Rect.unit ![2, 0, 0] ![1, 704, 1024] inb_S8x704x1024_S1x704x1024_2_0_0)) (View.ld (iblk m c 0 t) (Rect.unit ![3, 0, 0] ![1, 512, 704] inb_S8x512x704_S1x512x704_3_0_0)) (View.ld (iblk m c 1 t) (Rect.unit ![3, 0, 0] ![1, 704, 1024] inb_S8x704x1024_S1x704x1024_3_0_0))) (k0_pay6 (View.ld (iblk m c 0 t) (Rect.unit ![4, 0, 0] ![1, 512, 704] inb_S8x512x704_S1x512x704_4_0_0))) (View.ld (iblk m c 1 t) (Rect.unit ![4, 0, 0] ![1, 704, 1024] inb_S8x704x1024_S1x704x1024_4_0_0)) (View.ld (iblk m c 0 t) (Rect.unit ![5, 0, 0] ![1, 512, 704] inb_S8x512x704_S1x512x704_5_0_0)) (View.ld (iblk m c 1 t) (Rect.unit ![5, 0, 0] ![1, 704, 1024] inb_S8x704x1024_S1x704x1024_5_0_0)) (View.ld (iblk m c 0 t) (Rect.unit ![6, 0, 0] ![1, 512, 704] inb_S8x512x704_S1x512x704_6_0_0)) (View.ld (iblk m c 1 t) (Rect.unit ![6, 0, 0] ![1, 704, 1024] inb_S8x704x1024_S1x704x1024_6_0_0)) (View.ld (iblk m c 0 t) (Rect.unit ![7, 0, 0] ![1, 512, 704] inb_S8x512x704_S1x512x704_7_0_0)) (View.ld (iblk m c 1 t) (Rect.unit ![7, 0, 0] ![1, 704, 1024] inb_S8x704x1024_S1x704x1024_7_0_0))

/-- It is the cotangent's rows times the weight's. -/
theorem dh_at (c : Dev nD) (t : Fin cfg0.N) (a : Fin 512) (k : Fin 1024) (h : t.val * 512 + a.val < 4096) :
    dh m c t (ix2 a k) = Norm.dot (n := 5632) (fun x => (m ((c : Thread nD τ).loc main_arg0)) (ix2 ⟨t.val * 512 + a.val, h⟩ x)) (fun x => (m ((c : Thread nD τ).loc main_arg1)) (ix2 k x)) := by
  refine Eq.trans ?_ (Norm.groups (b := 704) rfl _ _ (fun g x => iblk m c 0 t (ix3 g a x)) (fun g x => iblk m c 1 t (ix3 g x k))
    (fun g x h' => in0 m c t g a x h h') fun g x h' => in1 m c t g x k h')
  unfold dh Norm.dot
  pointwise [k0_pay5, k0_pay6, k0_pay7]

/-- What grid point `t` leaves in the two blocks of rows, as the body's own words. -/
theorem outs_rows (c : Dev nD) (t : Fin cfg0.N) :
    (outsAt0 m c t.val t.isLt).1 = k0_pay1 (dh m c t) (k0_pay8 (iblk m c 2 t)) (k0_pay9 (iblk m c 2 t)) (iblk m c 3 t) (iblk m c 4 t)
    ∧ (outsAt0 m c t.val t.isLt).2.1 = k0_pay2 (dh m c t) (k0_pay8 (iblk m c 2 t)) (k0_pay9 (iblk m c 2 t)) (iblk m c 3 t) (iblk m c 4 t) := by
  by_cases h0 : t.val % 8 = 0
  · rw [outsAt0_A m c t h0]
    exact ⟨by frame_out; unfold dh; rfl, by frame_out; unfold dh; rfl⟩
  · rw [outsAt0_B m c t h0]
    exact ⟨by frame_out; unfold dh; rfl, by frame_out; unfold dh; rfl⟩

/-- The rows' gradient at grid point `t`, where the block lands. -/
theorem point (c : Dev nD) (h0 : ∀ i, Reals.IsFin ((m ((c : Thread nD τ).loc main_arg0)) i)) (h1 : ∀ i, Reals.IsFin ((m ((c : Thread nD τ).loc main_arg1)) i)) (h2 : ∀ i, Reals.IsFin ((m ((c : Thread nD τ).loc main_arg2)) i)) (h3 : ∀ i, Reals.IsFin ((m ((c : Thread nD τ).loc main_arg3)) i)) (t : Fin cfg0.N) (y : S512x1024.Idx) :
    k0_pay1 (dh m c t) (k0_pay8 (iblk m c 2 t)) (k0_pay9 (iblk m c 2 t)) (iblk m c 3 t) (iblk m c 4 t) y
      = Cert.FfnInRefIdeal.Read.val_main_v40 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (((cfg0.win 5).blk t).view.emb y) := by
  have ht : t.val < 8 := t.isLt
  idx_vars y
  have h : t.val * 512 + y0.val < 4096 := by omega
  have e5 := (idx_val t).2.2.2.2.2.1
  refine Eq.trans ?_ (ref_dx _ _ _ _ _ h0 h1 h2 h3 _ ⟨t.val * 512 + y0.val, h⟩ y1 ?_ ?_).symm
  · refine Eq.trans ?_ (Norm.row_congr (fun i => in2 m c t y0 i h) (fun i => congrArg₂ (· * ·) (dh_at m c t y0 i h) (in3 m c t 0 i)) (in4 m c t y0 y1 h))
    pointwise [k0_pay1, k0_pay8, k0_pay9]
    unfold Norm.row Norm.rsq Norm.msq
    rfl
  all_goals (blk_simp [e5] <;> (try dsimp only) <;> try omega)

/-- One grid point's share of the gain's gradient, added to `v`. -/
theorem part (c : Dev nD) (t : Fin cfg0.N) (v : FVec Ideal S8x1024 .f32) (j : S8x1024.Idx) :
    k0_pay4 (dh m c t) (k0_pay9 (iblk m c 2 t)) v j
      = v j + ∑ x : Fin 512, Norm.ext (Norm.gain (n := 4096) (fun r i => (m ((c : Thread nD τ).loc main_arg2)) (ix2 r i)) (fun r i => Norm.dot (n := 5632) (fun x => (m ((c : Thread nD τ).loc main_arg0)) (ix2 r x)) (fun x => (m ((c : Thread nD τ).loc main_arg1)) (ix2 i x))) (j 1)) (t.val * 512 + x.val) := by
  have ht : t.val < 8 := t.isLt
  refine Eq.trans (b := v j + ∑ x : Fin 512, Norm.gain (n := 512) (fun r i => iblk m c 2 t (ix2 r i)) (fun r i => dh m c t (ix2 r i)) (j 1) x) ?_
    (congrArg (v j + ·) (Finset.sum_congr rfl fun x _ => ?_))
  · pointwise [k0_pay4, k0_pay9, k0_pay8]
    unfold Norm.gain Norm.rsq Norm.msq
    rfl
  · have h : t.val * 512 + x.val < 4096 := by omega
    rw [Norm.ext, dif_pos h]
    exact Norm.gain_congr (fun i => in2 m c t x i h) (dh_at m c t x (j 1) h)

/-- The gain's gradient after grid point `n`: the sum over the tiles so far. -/
theorem gain_acc (c : Dev nD) (y : S8x1024.Idx) (n : ℕ) (h : n < cfg0.N) :
    (outsAt0 m c n h).2.2 y = ∑ t ∈ Finset.range (n + 1), ∑ x : Fin 512, Norm.ext (Norm.gain (n := 4096) (fun r i => (m ((c : Thread nD τ).loc main_arg2)) (ix2 r i)) (fun r i => Norm.dot (n := 5632) (fun x => (m ((c : Thread nD τ).loc main_arg0)) (ix2 r x)) (fun x => (m ((c : Thread nD τ).loc main_arg1)) (ix2 i x))) (y 1)) (t * 512 + x.val) := by
  refine Norm.acc (N := cfg0.N) (fun n h => (outsAt0 m c n h).2.2 y) (fun t => ∑ x : Fin 512, Norm.ext (Norm.gain (n := 4096) (fun r i => (m ((c : Thread nD τ).loc main_arg2)) (ix2 r i)) (fun r i => Norm.dot (n := 5632) (fun x => (m ((c : Thread nD τ).loc main_arg0)) (ix2 r x)) (fun x => (m ((c : Thread nD τ).loc main_arg1)) (ix2 i x))) (y 1)) (t * 512 + x.val)) (fun h => ?_) (fun n h => ?_) n h
  · rw [outsAt0_A m c ⟨0, h⟩ (by rfl)]
    refine Eq.trans (b := k0_pay4 (dh m c ⟨0, h⟩) (k0_pay9 (iblk m c 2 ⟨0, h⟩)) (k0_pay3 (F := Ideal)) y) ?_ ((part m c _ _ _).trans ?_)
    · frame_out
      unfold dh
      rfl
    · pointwise [k0_pay3]
  · have hn : n + 1 < 8 := h
    rw [outsAt0_B m c ⟨n + 1, h⟩ (by dsimp only; omega)]
    refine Eq.trans (b := k0_pay4 (dh m c ⟨n + 1, h⟩) (k0_pay9 (iblk m c 2 ⟨n + 1, h⟩)) (outsAt0 m c n (Nat.lt_of_succ_lt h)).2.2 y) ?_ (part m c _ _ _)
    frame_out
    unfold dh
    rfl

/-- The rows' gradient the call leaves is the reference's. -/
theorem final5 (c : Dev nD) (h0 : ∀ i, Reals.IsFin ((m ((c : Thread nD τ).loc main_arg0)) i)) (h1 : ∀ i, Reals.IsFin ((m ((c : Thread nD τ).loc main_arg1)) i)) (h2 : ∀ i, Reals.IsFin ((m ((c : Thread nD τ).loc main_arg2)) i)) (h3 : ∀ i, Reals.IsFin ((m ((c : Thread nD τ).loc main_arg3)) i)) :
    (dats m 0 c).arrAt 5 cfg0.N = Cert.FfnInRefIdeal.Read.val_main_v40 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  rw [after0_5, (outs_rows m c t).1]
  exact point m c h0 h1 h2 h3 t y

/-- Its copy in the narrow format is the reference's. -/
theorem final6 (c : Dev nD) (h0 : ∀ i, Reals.IsFin ((m ((c : Thread nD τ).loc main_arg0)) i)) (h1 : ∀ i, Reals.IsFin ((m ((c : Thread nD τ).loc main_arg1)) i)) (h2 : ∀ i, Reals.IsFin ((m ((c : Thread nD τ).loc main_arg2)) i)) (h3 : ∀ i, Reals.IsFin ((m ((c : Thread nD τ).loc main_arg3)) i)) :
    (dats m 0 c).arrAt 6 cfg0.N = Cert.FfnInRefIdeal.Read.val_main_v41 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6, (outs_rows m c t).2]
  exact point m c h0 h1 h2 h3 t y

/-- The gain's gradient the call leaves is the reference's. -/
theorem final7 (c : Dev nD) :
    (dats m 0 c).arrAt 7 cfg0.N = Cert.FfnInRefIdeal.Read.val_main_v43 (F := Ideal) (m ((c : Thread nD τ).loc main_arg0)) (m ((c : Thread nD τ).loc main_arg1)) (m ((c : Thread nD τ).loc main_arg2)) := by
  refine (dats m 0 c).arrAt_eq_of_after_last 7 t0_7 (by decide +kernel) _ fun j => ?_
  blk_simp
  rw [after0_7]
  refine (gain_acc m c _ _ _).trans ?_
  refine Eq.trans ?_ (ref_dg _ _ _ _ (j 1) ?_).symm
  · refine (Norm.sum_tiles 8 512 4096 rfl _).trans ?_
    exact Finset.sum_congr rfl fun r _ => Norm.ext_val _ r
  all_goals (blk_simp [idx_val t0_7] <;> (try dsimp only) <;> try omega)

end Cert.FfnInIdeal.Grad

end
-- ==== Proof.MemKvValue.lean ====
/- Hand-written, untrusted: the value of the memory's keys', values' and norm's gradient, `Cert.MemKvIdeal`, at the reals. -/
module

public import proofs.«01_k».proof.Proof.Gen.MemKvIdeal.Value
public import proofs.«01_k».proof.Proof.Gen.MemKvRefIdeal.Read
public import proofs.«01_k».proof.Proof.Reals
public import proofs.«01_k».proof.Proof.Norm

@[expose] public section

set_option maxRecDepth 16384

noncomputable section

open Idealize.ShloMosaic Idealize.ShloMosaic.TcCoe Idealize.SL.Sem
open Idealize.ShloMosaic.Pipeline (Dat)

namespace Cert.MemKvIdeal.Grad

open Cert.MemKvIdeal Cert.MemKvIdeal.Gen

variable (m : (ℓ : Loc nD τ sig) → Buf (Elt Ideal) ℓ)

open Cert.MemKvRefIdeal.Read in
/-- The reference's gradient of the rows at an index. -/
theorem ref_dx (x0 : FVec Ideal Cert.MemKvRefIdeal.S256x2048 .f32) (x1 : FVec Ideal Cert.MemKvRefIdeal.S1024x2048 .bf16) (x2 : FVec Ideal Cert.MemKvRefIdeal.S256x1024 .f32) (x3 : FVec Ideal Cert.MemKvRefIdeal.S1024 .f32)
    (h0 : ∀ i, Reals.IsFin (x0 i)) (h1 : ∀ i, Reals.IsFin (x1 i)) (h2 : ∀ i, Reals.IsFin (x2 i)) (h3 : ∀ i, Reals.IsFin (x3 i)) (j : Cert.MemKvRefIdeal.S256x1024.Idx) (r : Fin 256) (k : Fin 1024) (hr : r.val = j 0) (hk : k.val = j 1) :
    val_main_v38 (F := Ideal) x0 x1 x2 x3 j
      = Norm.row (fun i => x2 (ix2 r i)) (fun i => Norm.dot (fun x => x0 (ix2 r x)) (fun x => x1 (ix2 i x)) * x3 (ix1 i)) 0 k := by
  idx_vars j
  obtain rfl : r = j0 := Fin.ext hr
  obtain rfl : k = j1 := Fin.ext hk
  refine Eq.trans ?_ (Norm.row_grad (fun i => h2 _) (fun i => (Norm.fin_dot (fun x => h0 _) fun x => h1 _).mul (h3 _)) 0 k).symm
  rw [zero_add]
  pointwise [val_main_v0, val_main_v1, val_main_cst, val_main_v2, val_main_v3, val_main_cst_0, val_main_v4, val_main_v5, val_main_cst_1, val_main_v6, val_main_v7, val_main_v8, val_main_v9, val_main_cst_2, val_main_v10, val_main_v11, val_main_v12, val_main_v13, val_main_v14, val_main_v15, val_main_v16, val_main_v17, val_main_v18, val_main_v19, val_main_cst_3, val_main_v20, val_main_v21, val_main_v22, val_main_v23, val_main_cst_4, val_main_v24, val_main_v25, val_main_cst_5, val_main_v26, val_main_v27, val_main_v28, val_main_v29, val_main_v30, val_main_cst_6, val_main_v31, val_main_v32, val_main_cst_7, val_main_v33, val_main_v34, val_main_v35, val_main_v36, val_main_v37, val_main_v38, val_main_v39, val_main_v40, val_main_v41]
  rfl

open Cert.MemKvRefIdeal.Read in
/-- The reference's gradient of the gain, in each of its eight equal rows. -/
theorem ref_dg (x0 : FVec Ideal Cert.MemKvRefIdeal.S256x2048 .f32) (x1 : FVec Ideal Cert.MemKvRefIdeal.S1024x2048 .bf16) (x2 : FVec Ideal Cert.MemKvRefIdeal.S256x1024 .f32) (j : Cert.MemKvRefIdeal.S8x1024.Idx) (k : Fin 1024) (hk : k.val = j 1) :
    val_main_v41 (F := Ideal) x0 x1 x2 j
      = ∑ r : Fin 256, Norm.gain (n := 256) (fun r i => x2 (ix2 r i)) (fun r i => Norm.dot (fun x => x0 (ix2 r x)) (fun x => x1 (ix2 i x))) k r := by
  idx_vars j
  obtain rfl : k = j1 := Fin.ext hk
  pointwise [val_main_v0, val_main_v1, val_main_cst, val_main_v2, val_main_v3, val_main_cst_0, val_main_v4, val_main_v5, val_main_cst_1, val_main_v6, val_main_v7, val_main_v8, val_main_v9, val_main_cst_2, val_main_v10, val_main_v11, val_main_v12, val_main_v13, val_main_v14, val_main_v15, val_main_v16, val_main_v17, val_main_v18, val_main_v19, val_main_cst_3, val_main_v20, val_main_v21, val_main_v22, val_main_v23, val_main_cst_4, val_main_v24, val_main_v25, val_main_cst_5, val_main_v26, val_main_v27, val_main_v28, val_main_v29, val_main_v30, val_main_cst_6, val_main_v31, val_main_v32, val_main_cst_7, val_main_v33, val_main_v34, val_main_v35, val_main_v36, val_main_v37, val_main_v38, val_main_v39, val_main_v40, val_main_v41]
  rw [Fin.sum_univ_one]
  exact Finset.sum_congr rfl fun r _ => mul_comm _ _

/-- Every window's block index at the one grid point. -/
theorem idx_val : ∀ t : Fin cfg0.N, win0_0.index t = ![0, 0] ∧ win0_1.index t = ![0, 0, 0] ∧ win0_2.index t = ![0, 0]
    ∧ win0_3.index t = ![0, 0] ∧ win0_4.index t = ![0, 0] ∧ win0_5.index t = ![0, 0] ∧ win0_6.index t = ![0, 0] :=
  (by decide +kernel : ∀ t : Fin grid0.N, _)

/-- The inputs' blocks are the arrays; the weight comes in eight groups of columns. -/
theorem in0 (c : Dev nD) (t : Fin cfg0.N) (a : Fin 256) (x : Fin 2048) :
    (iblk m c 0 t (ix2 a x) : EReal) = (m ((c : Thread nD τ).loc main_arg0)) (ix2 a x) := by
  blk_ext [iblk, V, idx_val t]
theorem in1 (c : Dev nD) (t : Fin cfg0.N) (g : Fin 8) (x : Fin 256) (k : Fin 1024) (h' : g.val * 256 + x.val < 2048) :
    (iblk m c 1 t (ix3 g k x) : EReal) = (m ((c : Thread nD τ).loc main_arg1)) (ix2 k ⟨g.val * 256 + x.val, h'⟩) := by
  blk_point [iblk, V, idx_val t]
theorem in2 (c : Dev nD) (t : Fin cfg0.N) (a : Fin 256) (b : Fin 1024) :
    (iblk m c 2 t (ix2 a b) : EReal) = (m ((c : Thread nD τ).loc main_arg2)) (ix2 a b) := by
  blk_ext [iblk, V, idx_val t]
theorem in3 (c : Dev nD) (t : Fin cfg0.N) (a : Fin 1) (b : Fin 1024) :
    (iblk m c 3 t (ix2 a b) : EReal) = (m ((c : Thread nD τ).loc main_arg3)) (ix1 b) := by
  blk_point [iblk, V, idx_val t]

/-- The product, in the body's own words. -/
@[irreducible] def dh (c : Dev nD) (t : Fin cfg0.N) : FVec Ideal S256x1024 .f32 :=
  k0_pay6 (F := Ideal) (k0_pay5 (View.ld (iblk m c 0 t) (Rect.unit ![0, 0] ![256, 256] inb_S256x2048_S256x256_0_0)) (View.ld (iblk m c 1 t) (Rect.unit ![0, 0, 0] ![1, 1024, 256] inb_S8x1024x256_S1x1024x256_0_0_0)) (View.ld (iblk m c 0 t) (Rect.unit ![0, 256] ![256, 256] inb_S256x2048_S256x256_0_256)) (View.ld (iblk m c 1 t) (Rect.unit ![1, 0, 0] ![1, 1024, 256] inb_S8x1024x256_S1x1024x256_1_0_0)) (View.ld (iblk m c 0 t) (Rect.unit ![0, 512] ![256, 256] inb_S256x2048_S256x256_0_512)) (View.ld (iblk m c 1 t) (Rect.unit ![2, 0, 0] ![1, 1024, 256] inb_S8x1024x256_S1x1024x256_2_0_0)) (View.ld (iblk m c 0 t) (Rect.unit ![0, 768] ![256, 256] inb_S256x2048_S256x256_0_768)) (View.ld (iblk m c 1 t) (Rect.unit ![3, 0, 0] ![1, 1024, 256] inb_S8x1024x256_S1x1024x256_3_0_0)) (View.ld (iblk m c 0 t) (Rect.unit ![0, 1024] ![256, 256] inb_S256x2048_S256x256_0_1024)) (View.ld (iblk m c 1 t) (Rect.unit ![4, 0, 0] ![1, 1024, 256] inb_S8x1024x256_S1x1024x256_4_0_0))) (View.ld (iblk m c 0 t) (Rect.unit ![0, 1280] ![256, 256] inb_S256x2048_S256x256_0_1280)) (View.ld (iblk m c 1 t) (Rect.unit ![5, 0, 0] ![1, 1024, 256] inb_S8x1024x256_S1x1024x256_5_0_0)) (View.ld (iblk m c 0 t) (Rect.unit ![0, 1536] ![256, 256] inb_S256x2048_S256x256_0_1536)) (View.ld (iblk m c 1 t) (Rect.unit ![6, 0, 0] ![1, 1024, 256] inb_S8x1024x256_S1x1024x256_6_0_0)) (View.ld (iblk m c 0 t) (Rect.unit ![0, 1792] ![256, 256] inb_S256x2048_S256x256_0_1792)) (View.ld (iblk m c 1 t) (Rect.unit ![7, 0, 0] ![1, 1024, 256] inb_S8x1024x256_S1x1024x256_7_0_0))

/-- It is the cotangent's rows times the weight's. -/
theorem dh_at (c : Dev nD) (t : Fin cfg0.N) (a : Fin 256) (k : Fin 1024) :
    dh m c t (ix2 a k) = Norm.dot (n := 2048) (fun x => (m ((c : Thread nD τ).loc main_arg0)) (ix2 a x)) (fun x => (m ((c : Thread nD τ).loc main_arg1)) (ix2 k x)) := by
  refine Eq.trans ?_ (Norm.groups (b := 256) rfl _ _ (fun g x => iblk m c 0 t (ix2 a ⟨g.val * 256 + x.val, by omega⟩)) (fun g x => iblk m c 1 t (ix3 g k x))
    (fun g x h' => in0 m c t a _) fun g x h' => in1 m c t g x k h')
  unfold dh Norm.dot
  pointwise [k0_pay5, k0_pay6]

/-- The rows' gradient in the body's own words, at an index. -/
theorem row_at (c : Dev nD) (h0 : ∀ i, Reals.IsFin ((m ((c : Thread nD τ).loc main_arg0)) i)) (h1 : ∀ i, Reals.IsFin ((m ((c : Thread nD τ).loc main_arg1)) i)) (h2 : ∀ i, Reals.IsFin ((m ((c : Thread nD τ).loc main_arg2)) i)) (h3 : ∀ i, Reals.IsFin ((m ((c : Thread nD τ).loc main_arg3)) i)) (t : Fin cfg0.N) (y : S256x1024.Idx) :
    k0_pay1 (k0_pay7 (iblk m c 2 t)) (k0_pay8 (iblk m c 2 t)) (k0_pay9 (k0_pay5 (View.ld (iblk m c 0 t) (Rect.unit ![0, 0] ![256, 256] inb_S256x2048_S256x256_0_0)) (View.ld (iblk m c 1 t) (Rect.unit ![0, 0, 0] ![1, 1024, 256] inb_S8x1024x256_S1x1024x256_0_0_0)) (View.ld (iblk m c 0 t) (Rect.unit ![0, 256] ![256, 256] inb_S256x2048_S256x256_0_256)) (View.ld (iblk m c 1 t) (Rect.unit ![1, 0, 0] ![1, 1024, 256] inb_S8x1024x256_S1x1024x256_1_0_0)) (View.ld (iblk m c 0 t) (Rect.unit ![0, 512] ![256, 256] inb_S256x2048_S256x256_0_512)) (View.ld (iblk m c 1 t) (Rect.unit ![2, 0, 0] ![1, 1024, 256] inb_S8x1024x256_S1x1024x256_2_0_0)) (View.ld (iblk m c 0 t) (Rect.unit ![0, 768] ![256, 256] inb_S256x2048_S256x256_0_768)) (View.ld (iblk m c 1 t) (Rect.unit ![3, 0, 0] ![1, 1024, 256] inb_S8x1024x256_S1x1024x256_3_0_0)) (View.ld (iblk m c 0 t) (Rect.unit ![0, 1024] ![256, 256] inb_S256x2048_S256x256_0_1024)) (View.ld (iblk m c 1 t) (Rect.unit ![4, 0, 0] ![1, 1024, 256] inb_S8x1024x256_S1x1024x256_4_0_0))) (View.ld (iblk m c 0 t) (Rect.unit ![0, 1280] ![256, 256] inb_S256x2048_S256x256_0_1280)) (View.ld (iblk m c 1 t) (Rect.unit ![5, 0, 0] ![1, 1024, 256] inb_S8x1024x256_S1x1024x256_5_0_0)) (View.ld (iblk m c 0 t) (Rect.unit ![0, 1536] ![256, 256] inb_S256x2048_S256x256_0_1536)) (View.ld (iblk m c 1 t) (Rect.unit ![6, 0, 0] ![1, 1024, 256] inb_S8x1024x256_S1x1024x256_6_0_0)) (View.ld (iblk m c 0 t) (Rect.unit ![0, 1792] ![256, 256] inb_S256x2048_S256x256_0_1792)) (View.ld (iblk m c 1 t) (Rect.unit ![7, 0, 0] ![1, 1024, 256] inb_S8x1024x256_S1x1024x256_7_0_0)) (iblk m c 3 t)) (k0_pay10 (k0_pay5 (View.ld (iblk m c 0 t) (Rect.unit ![0, 0] ![256, 256] inb_S256x2048_S256x256_0_0)) (View.ld (iblk m c 1 t) (Rect.unit ![0, 0, 0] ![1, 1024, 256] inb_S8x1024x256_S1x1024x256_0_0_0)) (View.ld (iblk m c 0 t) (Rect.unit ![0, 256] ![256, 256] inb_S256x2048_S256x256_0_256)) (View.ld (iblk m c 1 t) (Rect.unit ![1, 0, 0] ![1, 1024, 256] inb_S8x1024x256_S1x1024x256_1_0_0)) (View.ld (iblk m c 0 t) (Rect.unit ![0, 512] ![256, 256] inb_S256x2048_S256x256_0_512)) (View.ld (iblk m c 1 t) (Rect.unit ![2, 0, 0] ![1, 1024, 256] inb_S8x1024x256_S1x1024x256_2_0_0)) (View.ld (iblk m c 0 t) (Rect.unit ![0, 768] ![256, 256] inb_S256x2048_S256x256_0_768)) (View.ld (iblk m c 1 t) (Rect.unit ![3, 0, 0] ![1, 1024, 256] inb_S8x1024x256_S1x1024x256_3_0_0)) (View.ld (iblk m c 0 t) (Rect.unit ![0, 1024] ![256, 256] inb_S256x2048_S256x256_0_1024)) (View.ld (iblk m c 1 t) (Rect.unit ![4, 0, 0] ![1, 1024, 256] inb_S8x1024x256_S1x1024x256_4_0_0))) (View.ld (iblk m c 0 t) (Rect.unit ![0, 1280] ![256, 256] inb_S256x2048_S256x256_0_1280)) (View.ld (iblk m c 1 t) (Rect.unit ![5, 0, 0] ![1, 1024, 256] inb_S8x1024x256_S1x1024x256_5_0_0)) (View.ld (iblk m c 0 t) (Rect.unit ![0, 1536] ![256, 256] inb_S256x2048_S256x256_0_1536)) (View.ld (iblk m c 1 t) (Rect.unit ![6, 0, 0] ![1, 1024, 256] inb_S8x1024x256_S1x1024x256_6_0_0)) (View.ld (iblk m c 0 t) (Rect.unit ![0, 1792] ![256, 256] inb_S256x2048_S256x256_0_1792)) (View.ld (iblk m c 1 t) (Rect.unit ![7, 0, 0] ![1, 1024, 256] inb_S8x1024x256_S1x1024x256_7_0_0)) (iblk m c 2 t) (iblk m c 3 t)) y
      = Cert.MemKvRefIdeal.Read.val_main_v38 (F := Ideal) (m ((c : Thread nD τ).loc main_arg0)) (m ((c : Thread nD τ).loc main_arg1)) (m ((c : Thread nD τ).loc main_arg2)) (m ((c : Thread nD τ).loc main_arg3)) (((cfg0.win 4).blk t).view.emb y) := by
  have e4 := (idx_val t).2.2.2.2.1
  idx_vars y
  refine Eq.trans ?_ (ref_dx _ _ _ _ h0 h1 h2 h3 _ y0 y1 ?_ ?_).symm
  · refine Eq.trans ?_ (Norm.row_congr (fun i => in2 m c t y0 i) (fun i => congrArg₂ (· * ·) (dh_at m c t y0 i) (in3 m c t 0 i)) rfl)
    pointwise [k0_pay1, k0_pay7, k0_pay8, k0_pay9, k0_pay10]
    unfold Norm.row Norm.rsq Norm.msq dh
    rw [add_zero]
  all_goals (blk_simp [e4] <;> (try dsimp only) <;> try omega)

/-- The gain's gradient in the body's own words, at an index. -/
theorem gain_at (c : Dev nD) (t : Fin cfg0.N) (y : S8x1024.Idx) :
    k0_pay4 (k0_pay6 (k0_pay5 (View.ld (iblk m c 0 t) (Rect.unit ![0, 0] ![256, 256] inb_S256x2048_S256x256_0_0)) (View.ld (iblk m c 1 t) (Rect.unit ![0, 0, 0] ![1, 1024, 256] inb_S8x1024x256_S1x1024x256_0_0_0)) (View.ld (iblk m c 0 t) (Rect.unit ![0, 256] ![256, 256] inb_S256x2048_S256x256_0_256)) (View.ld (iblk m c 1 t) (Rect.unit ![1, 0, 0] ![1, 1024, 256] inb_S8x1024x256_S1x1024x256_1_0_0)) (View.ld (iblk m c 0 t) (Rect.unit ![0, 512] ![256, 256] inb_S256x2048_S256x256_0_512)) (View.ld (iblk m c 1 t) (Rect.unit ![2, 0, 0] ![1, 1024, 256] inb_S8x1024x256_S1x1024x256_2_0_0)) (View.ld (iblk m c 0 t) (Rect.unit ![0, 768] ![256, 256] inb_S256x2048_S256x256_0_768)) (View.ld (iblk m c 1 t) (Rect.unit ![3, 0, 0] ![1, 1024, 256] inb_S8x1024x256_S1x1024x256_3_0_0)) (View.ld (iblk m c 0 t) (Rect.unit ![0, 1024] ![256, 256] inb_S256x2048_S256x256_0_1024)) (View.ld (iblk m c 1 t) (Rect.unit ![4, 0, 0] ![1, 1024, 256] inb_S8x1024x256_S1x1024x256_4_0_0))) (View.ld (iblk m c 0 t) (Rect.unit ![0, 1280] ![256, 256] inb_S256x2048_S256x256_0_1280)) (View.ld (iblk m c 1 t) (Rect.unit ![5, 0, 0] ![1, 1024, 256] inb_S8x1024x256_S1x1024x256_5_0_0)) (View.ld (iblk m c 0 t) (Rect.unit ![0, 1536] ![256, 256] inb_S256x2048_S256x256_0_1536)) (View.ld (iblk m c 1 t) (Rect.unit ![6, 0, 0] ![1, 1024, 256] inb_S8x1024x256_S1x1024x256_6_0_0)) (View.ld (iblk m c 0 t) (Rect.unit ![0, 1792] ![256, 256] inb_S256x2048_S256x256_0_1792)) (View.ld (iblk m c 1 t) (Rect.unit ![7, 0, 0] ![1, 1024, 256] inb_S8x1024x256_S1x1024x256_7_0_0))) (k0_pay8 (iblk m c 2 t)) (k0_pay3 (F := Ideal)) y
      = Cert.MemKvRefIdeal.Read.val_main_v41 (F := Ideal) (m ((c : Thread nD τ).loc main_arg0)) (m ((c : Thread nD τ).loc main_arg1)) (m ((c : Thread nD τ).loc main_arg2)) (((cfg0.win 6).blk t).view.emb y) := by
  have e6 := (idx_val t).2.2.2.2.2.2
  idx_vars y
  refine Eq.trans ?_ (ref_dg _ _ _ _ y1 ?_).symm
  · refine Eq.trans ?_ (Finset.sum_congr rfl fun r _ => Norm.gain_congr (x := fun r i => iblk m c 2 t (ix2 r i)) (d := fun r i => dh m c t (ix2 r i))
      (fun i => in2 m c t r i) (dh_at m c t r y1))
    pointwise [k0_pay4, k0_pay3, k0_pay7, k0_pay8]
    unfold Norm.gain Norm.rsq Norm.msq dh
    rfl
  all_goals (blk_simp [e6] <;> (try dsimp only) <;> try omega)

/-- The rows' gradient the call leaves is the reference's. -/
theorem final4 (c : Dev nD) (h0 : ∀ i, Reals.IsFin ((m ((c : Thread nD τ).loc main_arg0)) i)) (h1 : ∀ i, Reals.IsFin ((m ((c : Thread nD τ).loc main_arg1)) i)) (h2 : ∀ i, Reals.IsFin ((m ((c : Thread nD τ).loc main_arg2)) i)) (h3 : ∀ i, Reals.IsFin ((m ((c : Thread nD τ).loc main_arg3)) i)) :
    (dats m 0 c).arrAt 4 cfg0.N = Cert.MemKvRefIdeal.Read.val_main_v38 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  refine Eq.trans ?_ (row_at m c h0 h1 h2 h3 t y)
  unfold outsAt0
  dsimp only
  frame_out
  rfl

/-- Its copy in the narrow format is the reference's. -/
theorem final5 (c : Dev nD) (h0 : ∀ i, Reals.IsFin ((m ((c : Thread nD τ).loc main_arg0)) i)) (h1 : ∀ i, Reals.IsFin ((m ((c : Thread nD τ).loc main_arg1)) i)) (h2 : ∀ i, Reals.IsFin ((m ((c : Thread nD τ).loc main_arg2)) i)) (h3 : ∀ i, Reals.IsFin ((m ((c : Thread nD τ).loc main_arg3)) i)) :
    (dats m 0 c).arrAt 5 cfg0.N = Cert.MemKvRefIdeal.Read.val_main_v39 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  refine Eq.trans ?_ (row_at m c h0 h1 h2 h3 t y)
  unfold outsAt0
  dsimp only
  frame_out
  pointwise [k0_pay2]
  rfl

/-- The gain's gradient the call leaves is the reference's. -/
theorem final6 (c : Dev nD) :
    (dats m 0 c).arrAt 6 cfg0.N = Cert.MemKvRefIdeal.Read.val_main_v41 (F := Ideal) (m ((c : Thread nD τ).loc main_arg0)) (m ((c : Thread nD τ).loc main_arg1)) (m ((c : Thread nD τ).loc main_arg2)) := by
  refine (dats m 0 c).arrAt_eq_of_covers 6 _ (by decide +kernel) fun t hf y => ?_
  blk_simp
  rw [after0_6]
  refine Eq.trans ?_ (gain_at m c t y)
  unfold outsAt0
  dsimp only
  frame_out
  rfl

end Cert.MemKvIdeal.Grad

end
-- ==== Proof.LossValue.lean ====
/- Hand-written, untrusted: the value of the last layer, the loss and its gradient, `Cert.LossIdeal`, at the reals. -/
module

public import proofs.«01_k».proof.Proof.Gen.LossIdeal.Value
public import proofs.«01_k».proof.Proof.Gen.LossRefIdeal.Read
public import proofs.«01_k».proof.Proof.Reals
public import proofs.«01_k».proof.Proof.Norm

@[expose] public section

set_option maxRecDepth 16384

noncomputable section

open Idealize.ShloMosaic Idealize.ShloMosaic.TcCoe Idealize.SL.Sem
open Idealize.ShloMosaic.Pipeline (Dat)

namespace Cert.LossIdeal.Grad

open Cert.LossIdeal Cert.LossIdeal.Gen

variable (m : (ℓ : Loc nD τ sig) → Buf (Elt Ideal) ℓ)

/-- The gated activation. -/
def act (x0 : FVec Ideal Cert.LossRefIdeal.S4096x5632 .bf16) (r : Fin 4096) (c : Fin 2816) : EReal :=
  x0 (ix2 r ⟨c.val, by omega⟩) * Ideal.logistic (x0 (ix2 r ⟨c.val, by omega⟩)) * x0 (ix2 r ⟨2816 + c.val, by omega⟩)

/-- The last layer's output: the residual and the product. -/
def out (x0 : FVec Ideal Cert.LossRefIdeal.S4096x5632 .bf16) (x1 : FVec Ideal Cert.LossRefIdeal.S2816x1024 .bf16) (x2 : FVec Ideal Cert.LossRefIdeal.S4096x1024 .f32) (r : Fin 4096) (k : Fin 1024) : EReal := x2 (ix2 r k) + Norm.dot (act x0 r) (fun c => x1 (ix2 c k))

/-- The cotangent of the norm. -/
def cot (x0 : FVec Ideal Cert.LossRefIdeal.S4096x5632 .bf16) (x1 : FVec Ideal Cert.LossRefIdeal.S2816x1024 .bf16) (x2 : FVec Ideal Cert.LossRefIdeal.S4096x1024 .f32) (x3 : FVec Ideal Cert.LossRefIdeal.S1024 .f32) (x4 : FVec Ideal Cert.LossRefIdeal.S4096x1024 .f32) (r : Fin 4096) (k : Fin 1024) : EReal := Norm.cot (out x0 x1 x2 r) (x3 (ix1 k)) (x4 (ix2 r k)) k

/-- A row's loss. -/
def loss (x0 : FVec Ideal Cert.LossRefIdeal.S4096x5632 .bf16) (x1 : FVec Ideal Cert.LossRefIdeal.S2816x1024 .bf16) (x2 : FVec Ideal Cert.LossRefIdeal.S4096x1024 .f32) (x3 : FVec Ideal Cert.LossRefIdeal.S1024 .f32) (x4 : FVec Ideal Cert.LossRefIdeal.S4096x1024 .f32) (r : Fin 4096) : EReal := Norm.mean fun k => Norm.err (out x0 x1 x2 r) (x3 (ix1 k)) (x4 (ix2 r k)) k

theorem fin_out (x0 : FVec Ideal Cert.LossRefIdeal.S4096x5632 .bf16) (x1 : FVec Ideal Cert.LossRefIdeal.S2816x1024 .bf16) (x2 : FVec Ideal Cert.LossRefIdeal.S4096x1024 .f32) (h0 : ∀ i, Reals.IsFin (x0 i)) (h1 : ∀ i, Reals.IsFin (x1 i)) (h2 : ∀ i, Reals.IsFin (x2 i)) (r : Fin 4096) (k : Fin 1024) : Reals.IsFin (out x0 x1 x2 r k) :=
  (h2 _).add (Norm.fin_dot (fun c => ((h0 _).mul (Reals.fin_logistic _)).mul (h0 _)) fun c => h1 _)

theorem sigmoid_div (x : EReal) : Ideal.div 1 (1 + Ideal.exp (-x)) = Ideal.logistic x := rfl

open Cert.LossRefIdeal.Read in
/-- The reference's gradient of the rows at an index. -/
theorem ref_dx (x0 : FVec Ideal Cert.LossRefIdeal.S4096x5632 .bf16) (x1 : FVec Ideal Cert.LossRefIdeal.S2816x1024 .bf16) (x2 : FVec Ideal Cert.LossRefIdeal.S4096x1024 .f32) (x3 : FVec Ideal Cert.LossRefIdeal.S1024 .f32) (x4 : FVec Ideal Cert.LossRefIdeal.S4096x1024 .f32) (h0 : ∀ i, Reals.IsFin (x0 i)) (h1 : ∀ i, Reals.IsFin (x1 i)) (h2 : ∀ i, Reals.IsFin (x2 i)) (h3 : ∀ i, Reals.IsFin (x3 i)) (h4 : ∀ i, Reals.IsFin (x4 i)) (j : Cert.LossRefIdeal.S4096x1024.Idx) (r : Fin 4096) (k : Fin 1024) (hr : r.val = j 0) (hk : k.val = j 1) :
    val_main_v58 (F := Ideal) x0 x1 x2 x3 x4 j
      = Norm.row (out x0 x1 x2 r) (fun i => cot x0 x1 x2 x3 x4 r i * x3 (ix1 i)) 0 k := by
  idx_vars j
  obtain rfl : r = j0 := Fin.ext hr
  obtain rfl : k = j1 := Fin.ext hk
  refine Eq.trans ?_ (Norm.row_grad ?_ ?_ 0 k).symm
  · rw [zero_add]
    pointwise [val_main_v0, val_main_v1, val_main_v2, val_main_call0_v0, val_main_call0_v1, val_main_call0_cst, val_main_call0_v2, val_main_call0_v3, val_main_call0_cst_0, val_main_call0_v4, val_main_call0_v5, val_main_v3, val_main_v4, val_main_v5, val_main_v6, val_main_v7, val_main_v8, val_main_cst, val_main_v9, val_main_v10, val_main_cst_0, val_main_v11, val_main_v12, val_main_cst_1, val_main_v13, val_main_v14, val_main_v15, val_main_v16, val_main_cst_2, val_main_v17, val_main_v18, val_main_v19, val_main_v20, val_main_v21, val_main_v22, val_main_v23, val_main_v24, val_main_v25, val_main_cst_3, val_main_v26, val_main_v27, val_main_cst_4, val_main_v28, val_main_cst_5, val_main_v29, val_main_v30, val_main_cst_6, val_main_v31, val_main_cst_7, val_main_v32, val_main_cst_8, val_main_cst_9, val_main_v33, val_main_v34, val_main_cst_10, val_main_v35, val_main_v36, val_main_v37, val_main_v38, val_main_v39, val_main_cst_11, val_main_v40, val_main_v41, val_main_v42, val_main_v43, val_main_cst_12, val_main_v44, val_main_v45, val_main_cst_13, val_main_v46, val_main_v47, val_main_v48, val_main_v49, val_main_v50, val_main_cst_14, val_main_v51, val_main_v52, val_main_cst_15, val_main_v53, val_main_v54, val_main_v55, val_main_v56, val_main_v57, val_main_v58, val_main_v59, val_main_v60, val_main_v61, val_main_v62, val_main_v63, val_main_v64, val_main_v65]
    simp only [Norm.scale, sigmoid_div]
    rfl
  · exact fun i => fin_out _ _ _ h0 h1 h2 r i
  · exact fun i => (Norm.fin_cot (fun i => fin_out _ _ _ h0 h1 h2 r i) (h3 _) (h4 _) i).mul (h3 _)

open Cert.LossRefIdeal.Read in
/-- The reference's gradient of the gain, in each of its eight equal rows. -/
theorem ref_dg (x0 : FVec Ideal Cert.LossRefIdeal.S4096x5632 .bf16) (x1 : FVec Ideal Cert.LossRefIdeal.S2816x1024 .bf16) (x2 : FVec Ideal Cert.LossRefIdeal.S4096x1024 .f32) (x3 : FVec Ideal Cert.LossRefIdeal.S1024 .f32) (x4 : FVec Ideal Cert.LossRefIdeal.S4096x1024 .f32) (j : Cert.LossRefIdeal.S8x1024.Idx) (k : Fin 1024) (hk : k.val = j 1) :
    val_main_v64 (F := Ideal) x0 x1 x2 x3 x4 j = ∑ r : Fin 4096, Norm.gain (out x0 x1 x2) (cot x0 x1 x2 x3 x4) k r := by
  idx_vars j
  obtain rfl : k = j1 := Fin.ext hk
  pointwise [val_main_v0, val_main_v1, val_main_v2, val_main_call0_v0, val_main_call0_v1, val_main_call0_cst, val_main_call0_v2, val_main_call0_v3, val_main_call0_cst_0, val_main_call0_v4, val_main_call0_v5, val_main_v3, val_main_v4, val_main_v5, val_main_v6, val_main_v7, val_main_v8, val_main_cst, val_main_v9, val_main_v10, val_main_cst_0, val_main_v11, val_main_v12, val_main_cst_1, val_main_v13, val_main_v14, val_main_v15, val_main_v16, val_main_cst_2, val_main_v17, val_main_v18, val_main_v19, val_main_v20, val_main_v21, val_main_v22, val_main_v23, val_main_v24, val_main_v25, val_main_cst_3, val_main_v26, val_main_v27, val_main_cst_4, val_main_v28, val_main_cst_5, val_main_v29, val_main_v30, val_main_cst_6, val_main_v31, val_main_cst_7, val_main_v32, val_main_cst_8, val_main_cst_9, val_main_v33, val_main_v34, val_main_cst_10, val_main_v35, val_main_v36, val_main_v37, val_main_v38, val_main_v39, val_main_cst_11, val_main_v40, val_main_v41, val_main_v42, val_main_v43, val_main_cst_12, val_main_v44, val_main_v45, val_main_cst_13, val_main_v46, val_main_v47, val_main_v48, val_main_v49, val_main_v50, val_main_cst_14, val_main_v51, val_main_v52, val_main_cst_15, val_main_v53, val_main_v54, val_main_v55, val_main_v56, val_main_v57, val_main_v58, val_main_v59, val_main_v60, val_main_v61, val_main_v62, val_main_v63, val_main_v64, val_main_v65]
  rw [Fin.sum_univ_one]
  refine Finset.sum_congr rfl fun r _ => ?_
  simp only [Norm.scale, sigmoid_div]
  exact mul_comm _ _

open Cert.LossRefIdeal.Read in
/-- The reference's loss, in each of its equal elements. -/
theorem ref_loss (x0 : FVec Ideal Cert.LossRefIdeal.S4096x5632 .bf16) (x1 : FVec Ideal Cert.LossRefIdeal.S2816x1024 .bf16) (x2 : FVec Ideal Cert.LossRefIdeal.S4096x1024 .f32) (x3 : FVec Ideal Cert.LossRefIdeal.S1024 .f32) (x4 : FVec Ideal Cert.LossRefIdeal.S4096x1024 .f32) (j : Cert.LossRefIdeal.S8x128.Idx) :
    val_main_v65 (F := Ideal) x0 x1 x2 x3 x4 j = Ideal.ofBits .f32 1056964608#32 * ∑ r : Fin 4096, loss x0 x1 x2 x3 x4 r := by
  idx_vars j
  pointwise [val_main_v0, val_main_v1, val_main_v2, val_main_call0_v0, val_main_call0_v1, val_main_call0_cst, val_main_call0_v2, val_main_call0_v3, val_main_call0_cst_0, val_main_call0_v4, val_main_call0_v5, val_main_v3, val_main_v4, val_main_v5, val_main_v6, val_main_v7, val_main_v8, val_main_cst, val_main_v9, val_main_v10, val_main_cst_0, val_main_v11, val_main_v12, val_main_cst_1, val_main_v13, val_main_v14, val_main_v15, val_main_v16, val_main_cst_2, val_main_v17, val_main_v18, val_main_v19, val_main_v20, val_main_v21, val_main_v22, val_main_v23, val_main_v24, val_main_v25, val_main_cst_3, val_main_v26, val_main_v27, val_main_cst_4, val_main_v28, val_main_cst_5, val_main_v29, val_main_v30, val_main_cst_6, val_main_v31, val_main_cst_7, val_main_v32, val_main_cst_8, val_main_cst_9, val_main_v33, val_main_v34, val_main_cst_10, val_main_v35, val_main_v36, val_main_v37, val_main_v38, val_main_v39, val_main_cst_11, val_main_v40, val_main_v41, val_main_v42, val_main_v43, val_main_cst_12, val_main_v44, val_main_v45, val_main_cst_13, val_main_v46, val_main_v47, val_main_v48, val_main_v49, val_main_v50, val_main_cst_14, val_main_v51, val_main_v52, val_main_cst_15, val_main_v53, val_main_v54, val_main_v55, val_main_v56, val_main_v57, val_main_v58, val_main_v59, val_main_v60, val_main_v61, val_main_v62, val_main_v63, val_main_v64, val_main_v65]
  simp only [sigmoid_div]
  rfl

open Cert.LossRefIdeal.Read in
/-- The reference's activation, in four groups of columns. -/
theorem ref_act (x0 : FVec Ideal Cert.LossRefIdeal.S4096x5632 .bf16) (j : Cert.LossRefIdeal.S4x4096x704.Idx) (g : Fin 4) (r : Fin 4096) (x : Fin 704) (hg : g.val = j 0) (hr : r.val = j 1) (hx : x.val = j 2) :
    val_main_v61 (F := Ideal) x0 j = act x0 r ⟨g.val * 704 + x.val, by omega⟩ := by
  idx_vars j
  obtain rfl : g = j0 := Fin.ext hg
  obtain rfl : r = j1 := Fin.ext hr
  obtain rfl : x = j2 := Fin.ext hx
  pointwise [val_main_v0, val_main_v1, val_main_v2, val_main_call0_v0, val_main_call0_v1, val_main_call0_cst, val_main_call0_v2, val_main_call0_v3, val_main_call0_cst_0, val_main_call0_v4, val_main_call0_v5, val_main_v3, val_main_v4, val_main_v5, val_main_v6, val_main_v7, val_main_v8, val_main_cst, val_main_v9, val_main_v10, val_main_cst_0, val_main_v11, val_main_v12, val_main_cst_1, val_main_v13, val_main_v14, val_main_v15, val_main_v16, val_main_cst_2, val_main_v17, val_main_v18, val_main_v19, val_main_v20, val_main_v21, val_main_v22, val_main_v23, val_main_v24, val_main_v25, val_main_cst_3, val_main_v26, val_main_v27, val_main_cst_4, val_main_v28, val_main_cst_5, val_main_v29, val_main_v30, val_main_cst_6, val_main_v31, val_main_cst_7, val_main_v32, val_main_cst_8, val_main_cst_9, val_main_v33, val_main_v34, val_main_cst_10, val_main_v35, val_main_v36, val_main_v37, val_main_v38, val_main_v39, val_main_cst_11, val_main_v40, val_main_v41, val_main_v42, val_main_v43, val_main_cst_12, val_main_v44, val_main_v45, val_main_cst_13, val_main_v46, val_main_v47, val_main_v48, val_main_v49, val_main_v50, val_main_cst_14, val_main_v51, val_main_v52, val_main_cst_15, val_main_v53, val_main_v54, val_main_v55, val_main_v56, val_main_v57, val_main_v58, val_main_v59, val_main_v60, val_main_v61, val_main_v62, val_main_v63, val_main_v64, val_main_v65]
  simp only [sigmoid_div]
  rfl

/-- Every window's block index at every grid point. -/
theorem idx_val : ∀ t : Fin cfg0.N, win0_0.index t = ![0, 0, t.val, 0] ∧ win0_1.index t = ![0, 0, 0] ∧ win0_2.index t = ![t.val, 0]
    ∧ win0_3.index t = ![0, 0] ∧ win0_4.index t = ![t.val, 0] ∧ win0_5.index t = ![t.val, 0] ∧ win0_6.index t = ![t.val, 0] ∧ win0_7.index t = ![0, 0]
    ∧ win0_8.index t = ![0, 0] ∧ win0_9.index t = ![0, t.val, 0] :=
  (by decide +kernel : ∀ t : Fin grid0.N, _)

/-- Block `t` of the inputs, as rows of the arrays. -/
theorem in0 (c : Dev nD) (t : Fin cfg0.N) (g : Fin 4) (a : Fin 512) (x : Fin 704) (h : t.val * 512 + a.val < 4096) (h' : g.val * 704 + x.val < 5632) :
    (iblk m c 0 t (ix4 0 g a x) : EReal) = (m ((c : Thread nD τ).loc main_arg0)) (ix2 ⟨t.val * 512 + a.val, h⟩ ⟨g.val * 704 + x.val, h'⟩) := by
  blk_point [iblk, V, idx_val t]
theorem in0' (c : Dev nD) (t : Fin cfg0.N) (g : Fin 4) (a : Fin 512) (x : Fin 704) (h : t.val * 512 + a.val < 4096) (h' : 2816 + (g.val * 704 + x.val) < 5632) :
    (iblk m c 0 t (ix4 1 g a x) : EReal) = (m ((c : Thread nD τ).loc main_arg0)) (ix2 ⟨t.val * 512 + a.val, h⟩ ⟨2816 + (g.val * 704 + x.val), h'⟩) := by
  blk_point [iblk, V, idx_val t]
theorem in1 (c : Dev nD) (t : Fin cfg0.N) (g : Fin 4) (x : Fin 704) (k : Fin 1024) (h' : g.val * 704 + x.val < 2816) :
    (iblk m c 1 t (ix3 g x k) : EReal) = (m ((c : Thread nD τ).loc main_arg1)) (ix2 ⟨g.val * 704 + x.val, h'⟩ k) := by
  blk_point [iblk, V, idx_val t]
theorem in2 (c : Dev nD) (t : Fin cfg0.N) (a : Fin 512) (b : Fin 1024) (h : t.val * 512 + a.val < 4096) :
    (iblk m c 2 t (ix2 a b) : EReal) = (m ((c : Thread nD τ).loc main_arg2)) (ix2 ⟨t.val * 512 + a.val, h⟩ b) := by
  blk_ext [iblk, V, idx_val t]
theorem in3 (c : Dev nD) (t : Fin cfg0.N) (a : Fin 1) (b : Fin 1024) :
    (iblk m c 3 t (ix2 a b) : EReal) = (m ((c : Thread nD τ).loc main_arg3)) (ix1 b) := by
  blk_point [iblk, V, idx_val t]
theorem in4 (c : Dev nD) (t : Fin cfg0.N) (a : Fin 512) (b : Fin 1024) (h : t.val * 512 + a.val < 4096) :
    (iblk m c 4 t (ix2 a b) : EReal) = (m ((c : Thread nD τ).loc main_arg4)) (ix2 ⟨t.val * 512 + a.val, h⟩ b) := by
  blk_ext [iblk, V, idx_val t]

/-- The last layer's output at grid point `t`, in the body's own words, and the sums of its rows' squares. -/
@[irreducible] def hid (c : Dev nD) (t : Fin cfg0.N) : FVec Ideal S512x1024 .f32 := k0_pay17 (F := Ideal) (k0_pay12 (k0_pay7 (iblk m c 2 t) (View.ld (iblk m c 0 t) (Rect.unit ![0, 0, 0, 0] ![1, 1, 512, 704] inb_S2x4x512x704_S1x1x512x704_0_0_0_0)) (View.ld (iblk m c 0 t) (Rect.unit ![1, 0, 0, 0] ![1, 1, 512, 704] inb_S2x4x512x704_S1x1x512x704_1_0_0_0)) (View.ld (iblk m c 1 t) (Rect.unit ![0, 0, 0] ![1, 704, 1024] inb_S4x704x1024_S1x704x1024_0_0_0))) (k0_pay8 (View.ld (iblk m c 0 t) (Rect.unit ![0, 1, 0, 0] ![1, 1, 512, 704] inb_S2x4x512x704_S1x1x512x704_0_1_0_0))) (k0_pay9 (View.ld (iblk m c 0 t) (Rect.unit ![0, 1, 0, 0] ![1, 1, 512, 704] inb_S2x4x512x704_S1x1x512x704_0_1_0_0))) (View.ld (iblk m c 0 t) (Rect.unit ![1, 1, 0, 0] ![1, 1, 512, 704] inb_S2x4x512x704_S1x1x512x704_1_1_0_0)) (View.ld (iblk m c 1 t) (Rect.unit ![1, 0, 0] ![1, 704, 1024] inb_S4x704x1024_S1x704x1024_1_0_0))) (k0_pay13 (View.ld (iblk m c 0 t) (Rect.unit ![0, 2, 0, 0] ![1, 1, 512, 704] inb_S2x4x512x704_S1x1x512x704_0_2_0_0)) (View.ld (iblk m c 0 t) (Rect.unit ![1, 2, 0, 0] ![1, 1, 512, 704] inb_S2x4x512x704_S1x1x512x704_1_2_0_0))) (View.ld (iblk m c 1 t) (Rect.unit ![2, 0, 0] ![1, 704, 1024] inb_S4x704x1024_S1x704x1024_2_0_0)) (View.ld (iblk m c 0 t) (Rect.unit ![0, 3, 0, 0] ![1, 1, 512, 704] inb_S2x4x512x704_S1x1x512x704_0_3_0_0)) (View.ld (iblk m c 0 t) (Rect.unit ![1, 3, 0, 0] ![1, 1, 512, 704] inb_S2x4x512x704_S1x1x512x704_1_3_0_0)) (View.ld (iblk m c 1 t) (Rect.unit ![3, 0, 0] ![1, 704, 1024] inb_S4x704x1024_S1x704x1024_3_0_0))
@[irreducible] def hsq (c : Dev nD) (t : Fin cfg0.N) : FVec Ideal S512x1 .f32 := k0_pay19 (F := Ideal) (k0_pay12 (k0_pay7 (iblk m c 2 t) (View.ld (iblk m c 0 t) (Rect.unit ![0, 0, 0, 0] ![1, 1, 512, 704] inb_S2x4x512x704_S1x1x512x704_0_0_0_0)) (View.ld (iblk m c 0 t) (Rect.unit ![1, 0, 0, 0] ![1, 1, 512, 704] inb_S2x4x512x704_S1x1x512x704_1_0_0_0)) (View.ld (iblk m c 1 t) (Rect.unit ![0, 0, 0] ![1, 704, 1024] inb_S4x704x1024_S1x704x1024_0_0_0))) (k0_pay8 (View.ld (iblk m c 0 t) (Rect.unit ![0, 1, 0, 0] ![1, 1, 512, 704] inb_S2x4x512x704_S1x1x512x704_0_1_0_0))) (k0_pay9 (View.ld (iblk m c 0 t) (Rect.unit ![0, 1, 0, 0] ![1, 1, 512, 704] inb_S2x4x512x704_S1x1x512x704_0_1_0_0))) (View.ld (iblk m c 0 t) (Rect.unit ![1, 1, 0, 0] ![1, 1, 512, 704] inb_S2x4x512x704_S1x1x512x704_1_1_0_0)) (View.ld (iblk m c 1 t) (Rect.unit ![1, 0, 0] ![1, 704, 1024] inb_S4x704x1024_S1x704x1024_1_0_0))) (k0_pay13 (View.ld (iblk m c 0 t) (Rect.unit ![0, 2, 0, 0] ![1, 1, 512, 704] inb_S2x4x512x704_S1x1x512x704_0_2_0_0)) (View.ld (iblk m c 0 t) (Rect.unit ![1, 2, 0, 0] ![1, 1, 512, 704] inb_S2x4x512x704_S1x1x512x704_1_2_0_0))) (View.ld (iblk m c 1 t) (Rect.unit ![2, 0, 0] ![1, 704, 1024] inb_S4x704x1024_S1x704x1024_2_0_0)) (View.ld (iblk m c 0 t) (Rect.unit ![0, 3, 0, 0] ![1, 1, 512, 704] inb_S2x4x512x704_S1x1x512x704_0_3_0_0)) (View.ld (iblk m c 0 t) (Rect.unit ![1, 3, 0, 0] ![1, 1, 512, 704] inb_S2x4x512x704_S1x1x512x704_1_3_0_0)) (View.ld (iblk m c 1 t) (Rect.unit ![3, 0, 0] ![1, 704, 1024] inb_S4x704x1024_S1x704x1024_3_0_0))

/-- What grid point `t` leaves in the blocks of rows, as the body's own words. -/
theorem outs_rows (c : Dev nD) (t : Fin cfg0.N) :
    (outsAt0 m c t.val t.isLt).1 = k0_pay1 (k0_pay20 (hsq m c t)) (k0_pay26 (hid m c t) (k0_pay18 (iblk m c 3 t)) (hsq m c t) (iblk m c 4 t))
    ∧ (outsAt0 m c t.val t.isLt).2.1 = k0_pay2 (k0_pay20 (hsq m c t)) (k0_pay26 (hid m c t) (k0_pay18 (iblk m c 3 t)) (hsq m c t) (iblk m c 4 t)) := by
  by_cases h0 : t.val % 8 = 0
  · rw [outsAt0_A m c t h0 h0]
    exact ⟨by frame_out; unfold hid hsq; rfl, by frame_out; unfold hid hsq; rfl⟩
  · rw [outsAt0_B m c t h0 h0]
    exact ⟨by frame_out; unfold hid hsq; rfl, by frame_out; unfold hid hsq; rfl⟩
theorem sums_first (c : Dev nD) (t : Fin cfg0.N) (h0 : t.val % 8 = 0) :
    (outsAt0 m c t.val t.isLt).2.2.1 = k0_pay4 (k0_pay21 (hid m c t) (hsq m c t)) (k0_pay25 (hid m c t) (k0_pay18 (iblk m c 3 t)) (hsq m c t) (iblk m c 4 t)) (k0_pay3 (F := Ideal))
    ∧ (outsAt0 m c t.val t.isLt).2.2.2.1 = k0_pay24 (hid m c t) (k0_pay18 (iblk m c 3 t)) (hsq m c t) (iblk m c 4 t) (k0_pay23 (F := Ideal)) := by
  rw [outsAt0_A m c t h0 h0]
  exact ⟨by frame_out; unfold hid hsq; rfl, by frame_out; unfold hid hsq; rfl⟩
theorem sums_next (c : Dev nD) (n : ℕ) (h : n + 1 < cfg0.N) :
    (outsAt0 m c (n + 1) h).2.2.1 = k0_pay4 (k0_pay21 (hid m c ⟨n + 1, h⟩) (hsq m c ⟨n + 1, h⟩)) (k0_pay25 (hid m c ⟨n + 1, h⟩) (k0_pay18 (iblk m c 3 ⟨n + 1, h⟩)) (hsq m c ⟨n + 1, h⟩) (iblk m c 4 ⟨n + 1, h⟩)) (outsAt0 m c n (Nat.lt_of_succ_lt h)).2.2.1
    ∧ (outsAt0 m c (n + 1) h).2.2.2.1 = k0_pay24 (hid m c ⟨n + 1, h⟩) (k0_pay18 (iblk m c 3 ⟨n + 1, h⟩)) (hsq m c ⟨n + 1, h⟩) (iblk m c 4 ⟨n + 1, h⟩) (outsAt0 m c n (Nat.lt_of_succ_lt h)).2.2.2.1 := by
  have hn : n + 1 < 8 := h
  rw [outsAt0_B m c ⟨n + 1, h⟩ (by dsimp only; omega) (by dsimp only; omega)]
  exact ⟨by frame_out; unfold hid hsq; rfl, by frame_out; unfold hid hsq; rfl⟩

/-- A group's activation at grid point `t`. -/
def grp (c : Dev nD) (t : Fin cfg0.N) (a : Fin 512) (g : Fin 4) (x : Fin 704) : EReal :=
  Norm.gate (iblk m c 0 t (ix4 0 g a x)) (iblk m c 0 t (ix4 1 g a x))

theorem grp_at (c : Dev nD) (t : Fin cfg0.N) (a : Fin 512) (g : Fin 4) (x : Fin 704) (h : t.val * 512 + a.val < 4096) (h' : g.val * 704 + x.val < 2816) :
    grp m c t a g x = act (m ((c : Thread nD τ).loc main_arg0)) ⟨t.val * 512 + a.val, h⟩ ⟨g.val * 704 + x.val, h'⟩ := by
  unfold grp
  exact congrArg₂ Norm.gate (in0 m c t g a x h (by omega)) (in0' m c t g a x h (by omega))

/-- The layer's output at an index of grid point `t`'s block. -/
theorem hid_at (c : Dev nD) (t : Fin cfg0.N) (a : Fin 512) (k : Fin 1024) (h : t.val * 512 + a.val < 4096) :
    (hid m c t (ix2 a k) : EReal) = out (m ((c : Thread nD τ).loc main_arg0)) (m ((c : Thread nD τ).loc main_arg1)) (m ((c : Thread nD τ).loc main_arg2)) ⟨t.val * 512 + a.val, h⟩ k := by
  refine Eq.trans ?_ ((Norm.groups4 (b := 704) (n := 2816) rfl (iblk m c 2 t (ix2 a k)) (act (m ((c : Thread nD τ).loc main_arg0)) ⟨t.val * 512 + a.val, h⟩) (fun x => (m ((c : Thread nD τ).loc main_arg1)) (ix2 x k))
    (grp m c t a) (fun g x => iblk m c 1 t (ix3 g x k)) (fun g x h' => grp_at m c t a g x h h') (fun g x h' => in1 m c t g x k h')).trans ?_)
  · unfold hid Norm.dot grp Norm.gate
    pointwise [k0_pay5, k0_pay7, k0_pay8, k0_pay9, k0_pay10, k0_pay12, k0_pay13, k0_pay15, k0_pay17, Reals.half_f32, Reals.sigmoid_eq]
  · exact congrArg (· + _) (in2 m c t a k h)

/-- The scale of its rows. -/
theorem rsq_at (c : Dev nD) (t : Fin cfg0.N) (a : Fin 512) (b : Fin 1) : (k0_pay20 (hsq m c t) (ix2 a b) : EReal) = Norm.rsq (fun i => hid m c t (ix2 a i)) := by
  unfold hsq hid
  pointwise [k0_pay20, k0_pay19]
  unfold Norm.rsq Norm.msq
  rfl

/-- The rows' gradient at grid point `t`, where the block lands. -/
theorem point (c : Dev nD) (h0 : ∀ i, Reals.IsFin ((m ((c : Thread nD τ).loc main_arg0)) i)) (h1 : ∀ i, Reals.IsFin ((m ((c : Thread nD τ).loc main_arg1)) i)) (h2 : ∀ i, Reals.IsFin ((m ((c : Thread nD τ).loc main_arg2)) i)) (h3 : ∀ i, Reals.IsFin ((m ((c : Thread nD τ).loc main_arg3)) i)) (h4 : ∀ i, Reals.IsFin ((m ((c : Thread nD τ).loc main_arg4)) i)) (t : Fin cfg0.N) (y : S512x1024.Idx) :
    k0_pay1 (k0_pay20 (hsq m c t)) (k0_pay26 (hid m c t) (k0_pay18 (iblk m c 3 t)) (hsq m c t) (iblk m c 4 t)) y
      = Cert.LossRefIdeal.Read.val_main_v58 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (((cfg0.win 5).blk t).view.emb y) := by
  have ht : t.val < 8 := t.isLt
  idx_vars y
  have h : t.val * 512 + y0.val < 4096 := by omega
  have e5 := (idx_val t).2.2.2.2.2.1
  refine Eq.trans ?_ (ref_dx _ _ _ _ _ h0 h1 h2 h3 h4 _ ⟨t.val * 512 + y0.val, h⟩ y1 ?_ ?_).symm
  · refine Eq.trans ?_ (Norm.row_congr (fun i => hid_at m c t y0 i h) (fun i => congrArg₂ (· * ·) (Norm.cot_congr (fun i => hid_at m c t y0 i h) (in3 m c t 0 i) (in4 m c t y0 i h)) (in3 m c t 0 i)) rfl)
    pointwise [k0_pay1, k0_pay21, k0_pay22, k0_pay25, k0_pay26, k0_pay18]
    simp only [rsq_at]
    unfold Norm.row Norm.cot Norm.err
    rw [add_zero]
  all_goals (blk_simp [e5] <;> (try dsimp only) <;> try omega)

/-- One grid point's share of the gain's gradient, added to `v`. -/
theorem part (c : Dev nD) (t : Fin cfg0.N) (v : FVec Ideal S8x1024 .f32) (j : S8x1024.Idx) :
    k0_pay4 (k0_pay21 (hid m c t) (hsq m c t)) (k0_pay25 (hid m c t) (k0_pay18 (iblk m c 3 t)) (hsq m c t) (iblk m c 4 t)) v j = v j + ∑ x : Fin 512, Norm.ext (Norm.gain (n := 4096) (out (m ((c : Thread nD τ).loc main_arg0)) (m ((c : Thread nD τ).loc main_arg1)) (m ((c : Thread nD τ).loc main_arg2))) (cot (m ((c : Thread nD τ).loc main_arg0)) (m ((c : Thread nD τ).loc main_arg1)) (m ((c : Thread nD τ).loc main_arg2)) (m ((c : Thread nD τ).loc main_arg3)) (m ((c : Thread nD τ).loc main_arg4))) (j 1)) (t.val * 512 + x.val) := by
  have ht : t.val < 8 := t.isLt
  refine Eq.trans (b := v j + ∑ x : Fin 512, Norm.gain (n := 512) (fun r i => hid m c t (ix2 r i)) (fun r i => Norm.cot (fun i => hid m c t (ix2 r i)) (iblk m c 3 t (ix2 0 i)) (iblk m c 4 t (ix2 r i)) i) (j 1) x) ?_
    (congrArg (v j + ·) (Finset.sum_congr rfl fun x _ => ?_))
  · pointwise [k0_pay4, k0_pay21, k0_pay22, k0_pay25, k0_pay18]
    simp only [rsq_at]
    unfold Norm.gain Norm.cot Norm.err
    rfl
  · have h : t.val * 512 + x.val < 4096 := by omega
    rw [Norm.ext, dif_pos h]
    exact Norm.gain_congr (fun i => hid_at m c t x i h) (Norm.cot_congr (fun i => hid_at m c t x i h) (in3 m c t 0 (j 1)) (in4 m c t x (j 1) h))

/-- One grid point's share of the loss, added to `v`. -/
theorem lpart (c : Dev nD) (t : Fin cfg0.N) (v : FVec Ideal S8x128 .f32) (j : S8x128.Idx) :
    k0_pay24 (hid m c t) (k0_pay18 (iblk m c 3 t)) (hsq m c t) (iblk m c 4 t) v j = v j + Ideal.ofBits .f32 1056964608#32 * ∑ x : Fin 512, Norm.ext (loss (m ((c : Thread nD τ).loc main_arg0)) (m ((c : Thread nD τ).loc main_arg1)) (m ((c : Thread nD τ).loc main_arg2)) (m ((c : Thread nD τ).loc main_arg3)) (m ((c : Thread nD τ).loc main_arg4))) (t.val * 512 + x.val) := by
  have ht : t.val < 8 := t.isLt
  refine Eq.trans (b := v j + Ideal.ofBits .f32 1056964608#32 * ∑ x : Fin 512, Norm.mean fun i => Norm.err (fun i => hid m c t (ix2 x i)) (iblk m c 3 t (ix2 0 i)) (iblk m c 4 t (ix2 x i)) i) ?_
    (congrArg (fun z => v j + Ideal.ofBits .f32 1056964608#32 * z) (Finset.sum_congr rfl fun x _ => ?_))
  · pointwise [k0_pay24, k0_pay21, k0_pay22, k0_pay18]
    simp only [rsq_at]
    unfold Norm.mean Norm.err
    rfl
  · have h : t.val * 512 + x.val < 4096 := by omega
    rw [Norm.ext, dif_pos h]
    exact Norm.mean_congr fun k => Norm.err_congr (fun i => hid_at m c t x i h) (in3 m c t 0 k) (in4 m c t x k h)

/-- The gain's gradient after grid point `n`: the sum over the tiles so far. -/
theorem gain_acc (c : Dev nD) (y : S8x1024.Idx) (n : ℕ) (h : n < cfg0.N) :
    (outsAt0 m c n h).2.2.1 y = ∑ t ∈ Finset.range (n + 1), ∑ x : Fin 512, Norm.ext (Norm.gain (n := 4096) (out (m ((c : Thread nD τ).loc main_arg0)) (m ((c : Thread nD τ).loc main_arg1)) (m ((c : Thread nD τ).loc main_arg2))) (cot (m ((c : Thread nD τ).loc main_arg0)) (m ((c : Thread nD τ).loc main_arg1)) (m ((c : Thread nD τ).loc main_arg2)) (m ((c : Thread nD τ).loc main_arg3)) (m ((c : Thread nD τ).loc main_arg4))) (y 1)) (t * 512 + x.val) := by
  refine Norm.acc (N := cfg0.N) (fun n h => (outsAt0 m c n h).2.2.1 y) (fun t => ∑ x : Fin 512, Norm.ext (Norm.gain (n := 4096) (out (m ((c : Thread nD τ).loc main_arg0)) (m ((c : Thread nD τ).loc main_arg1)) (m ((c : Thread nD τ).loc main_arg2))) (cot (m ((c : Thread nD τ).loc main_arg0)) (m ((c : Thread nD τ).loc main_arg1)) (m ((c : Thread nD τ).loc main_arg2)) (m ((c : Thread nD τ).loc main_arg3)) (m ((c : Thread nD τ).loc main_arg4))) (y 1)) (t * 512 + x.val)) (fun h => ?_) (fun n h => ?_) n h
  · refine (congrFun (sums_first m c ⟨0, h⟩ rfl).1 y).trans ((part m c _ _ _).trans ?_)
    pointwise [k0_pay3]
  · exact (congrFun (sums_next m c n h).1 y).trans (part m c _ _ _)

/-- The loss after grid point `n`: the sum over the tiles so far. -/
theorem loss_acc (c : Dev nD) (y : S8x128.Idx) (n : ℕ) (h : n < cfg0.N) :
    (outsAt0 m c n h).2.2.2.1 y = ∑ t ∈ Finset.range (n + 1), Ideal.ofBits .f32 1056964608#32 * ∑ x : Fin 512, Norm.ext (loss (m ((c : Thread nD τ).loc main_arg0)) (m ((c : Thread nD τ).loc main_arg1)) (m ((c : Thread nD τ).loc main_arg2)) (m ((c : Thread nD τ).loc main_arg3)) (m ((c : Thread nD τ).loc main_arg4))) (t * 512 + x.val) := by
  refine Norm.acc (N := cfg0.N) (fun n h => (outsAt0 m c n h).2.2.2.1 y) (fun t => Ideal.ofBits .f32 1056964608#32 * ∑ x : Fin 512, Norm.ext (loss (m ((c : Thread nD τ).loc main_arg0)) (m ((c : Thread nD τ).loc main_arg1)) (m ((c : Thread nD τ).loc main_arg2)) (m ((c : Thread nD τ).loc main_arg3)) (m ((c : Thread nD τ).loc main_arg4))) (t * 512 + x.val)) (fun h => ?_) (fun n h => ?_) n h
  · refine (congrFun (sums_first m c ⟨0, h⟩ rfl).2 y).trans ((lpart m c _ _ _).trans ?_)
    pointwise [k0_pay23]
  · exact (congrFun (sums_next m c n h).2 y).trans (lpart m c _ _ _)

/-- The rows' gradient the call leaves is the reference's. -/
theorem final5 (c : Dev nD) (h0 : ∀ i, Reals.IsFin ((m ((c : Thread nD τ).loc main_arg0)) i)) (h1 : ∀ i, Reals.IsFin ((m ((c : Thread nD τ).loc main_arg1)) i)) (h2 : ∀ i, Reals.IsFin ((m ((c : Thread nD τ).loc main_arg2)) i)) (h3 : ∀ i, Reals.IsFin ((m ((c : Thread nD τ).loc main_arg3)) i)) (h4 : ∀ i, Reals.IsFin ((m ((c : Thread nD τ).loc main_arg4)) i)) :
    (dats m 0 c).arrAt 5 cfg0.N = Cert.LossRefIdeal.Read.val_main_v58 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  rw [after0_5, (outs_rows m c t).1]
  exact point m c h0 h1 h2 h3 h4 t y

/-- Its copy in the narrow format is the reference's. -/
theorem final6 (c : Dev nD) (h0 : ∀ i, Reals.IsFin ((m ((c : Thread nD τ).loc main_arg0)) i)) (h1 : ∀ i, Reals.IsFin ((m ((c : Thread nD τ).loc main_arg1)) i)) (h2 : ∀ i, Reals.IsFin ((m ((c : Thread nD τ).loc main_arg2)) i)) (h3 : ∀ i, Reals.IsFin ((m ((c : Thread nD τ).loc main_arg3)) i)) (h4 : ∀ i, Reals.IsFin ((m ((c : Thread nD τ).loc main_arg4)) i)) :
    (dats m 0 c).arrAt 6 cfg0.N = Cert.LossRefIdeal.Read.val_main_v62 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6, (outs_rows m c t).2]
  exact point m c h0 h1 h2 h3 h4 t y

/-- The gain's gradient the call leaves is the reference's. -/
theorem final7 (c : Dev nD) :
    (dats m 0 c).arrAt 7 cfg0.N = Cert.LossRefIdeal.Read.val_main_v64 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_after_last 7 t0_7 (by decide +kernel) _ fun j => ?_
  blk_simp
  rw [after0_7]
  refine (gain_acc m c _ _ _).trans ?_
  refine Eq.trans ?_ (ref_dg _ _ _ _ _ _ (j 1) ?_).symm
  · refine (Norm.sum_tiles 8 512 4096 rfl _).trans ?_
    exact Finset.sum_congr rfl fun r _ => Norm.ext_val _ r
  all_goals (blk_simp [idx_val t0_7] <;> (try dsimp only) <;> try omega)

/-- The loss the call leaves is the reference's. -/
theorem final8 (c : Dev nD) (h0 : ∀ i, Reals.IsFin ((m ((c : Thread nD τ).loc main_arg0)) i)) (h1 : ∀ i, Reals.IsFin ((m ((c : Thread nD τ).loc main_arg1)) i)) (h2 : ∀ i, Reals.IsFin ((m ((c : Thread nD τ).loc main_arg2)) i)) (h3 : ∀ i, Reals.IsFin ((m ((c : Thread nD τ).loc main_arg3)) i)) (h4 : ∀ i, Reals.IsFin ((m ((c : Thread nD τ).loc main_arg4)) i)) :
    (dats m 0 c).arrAt 8 cfg0.N = Cert.LossRefIdeal.Read.val_main_v65 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_after_last 8 t0_7 (by decide +kernel) _ fun j => ?_
  blk_simp
  rw [after0_8]
  refine (loss_acc m c _ _ _).trans ?_
  refine Eq.trans ?_ (ref_loss _ _ _ _ _ _).symm
  have hl : ∀ r, Reals.IsFin (loss (m ((c : Thread nD τ).loc main_arg0)) (m ((c : Thread nD τ).loc main_arg1)) (m ((c : Thread nD τ).loc main_arg2)) (m ((c : Thread nD τ).loc main_arg3)) (m ((c : Thread nD τ).loc main_arg4)) r) := fun r => Norm.fin_mean fun k => Norm.fin_err (fun i => fin_out _ _ _ h0 h1 h2 r i) (h3 _) (h4 _) k
  rw [Norm.mul_sum ⟨_, Reals.half_f32⟩ (fun t => .sum _ fun x => Norm.fin_ext hl _)]
  refine congrArg _ ((Norm.sum_tiles 8 512 4096 rfl _).trans ?_)
  exact Finset.sum_congr rfl fun r _ => Norm.ext_val _ r

theorem grp_eq (c : Dev nD) (t : Fin cfg0.N) (y : S4x512x704.Idx) (g : Fin 4) (a : Fin 512) (b : Fin 704)
    (h0 : (y 0).val = g.val) (h1 : (y 1).val = a.val) (h2 : (y 2).val = b.val) : grp m c t (y 1) (y 0) (y 2) = grp m c t a g b := by
  rw [show (y 0) = g from Fin.ext h0, show (y 1) = a from Fin.ext h1, show (y 2) = b from Fin.ext h2]

/-- What grid point `t` leaves in the block of activations. -/
theorem outs_act (c : Dev nD) (t : Fin cfg0.N) (y : S4x512x704.Idx) :
    (outsAt0 m c t.val t.isLt).2.2.2.2 y = grp m c t (y 1) (y 0) (y 2) := by
  by_cases h0 : t.val % 8 = 0
  · rw [outsAt0_A m c t h0 h0]
    frame_out
    canon_tiles x k
    · refine Eq.trans ?_ (grp_eq m c t y 3 (x 1) (x 2) (by rw [k0]; show 3 + (x 0).val = 3; omega) k1 k2).symm
      unfold grp Norm.gate
      pointwise [k0_pay15, k0_pay16, Reals.half_f32, Reals.sigmoid_eq]
    · refine Eq.trans ?_ (grp_eq m c t y 2 (x 1) (x 2) (by rw [k0]; show 2 + (x 0).val = 2; omega) k1 k2).symm
      unfold grp Norm.gate
      pointwise [k0_pay13, k0_pay14, Reals.half_f32, Reals.sigmoid_eq]
    · refine Eq.trans ?_ (grp_eq m c t y 1 (x 1) (x 2) (by rw [k0]; show 1 + (x 0).val = 1; omega) k1 k2).symm
      unfold grp Norm.gate
      pointwise [k0_pay8, k0_pay9, k0_pay10, k0_pay11, Reals.half_f32, Reals.sigmoid_eq]
    · refine Eq.trans ?_ (grp_eq m c t y 0 (x 1) (x 2) (by rw [k0]; show (x 0).val = 0; omega) k1 k2).symm
      unfold grp Norm.gate
      pointwise [k0_pay5, k0_pay6, Reals.half_f32, Reals.sigmoid_eq]
  · rw [outsAt0_B m c t h0 h0]
    frame_out
    canon_tiles x k
    · refine Eq.trans ?_ (grp_eq m c t y 3 (x 1) (x 2) (by rw [k0]; show 3 + (x 0).val = 3; omega) k1 k2).symm
      unfold grp Norm.gate
      pointwise [k0_pay15, k0_pay16, Reals.half_f32, Reals.sigmoid_eq]
    · refine Eq.trans ?_ (grp_eq m c t y 2 (x 1) (x 2) (by rw [k0]; show 2 + (x 0).val = 2; omega) k1 k2).symm
      unfold grp Norm.gate
      pointwise [k0_pay13, k0_pay14, Reals.half_f32, Reals.sigmoid_eq]
    · refine Eq.trans ?_ (grp_eq m c t y 1 (x 1) (x 2) (by rw [k0]; show 1 + (x 0).val = 1; omega) k1 k2).symm
      unfold grp Norm.gate
      pointwise [k0_pay8, k0_pay9, k0_pay10, k0_pay11, Reals.half_f32, Reals.sigmoid_eq]
    · refine Eq.trans ?_ (grp_eq m c t y 0 (x 1) (x 2) (by rw [k0]; show (x 0).val = 0; omega) k1 k2).symm
      unfold grp Norm.gate
      pointwise [k0_pay5, k0_pay6, Reals.half_f32, Reals.sigmoid_eq]

/-- The activation the call leaves is the reference's. -/
theorem final9 (c : Dev nD) :
    (dats m 0 c).arrAt 9 cfg0.N = Cert.LossRefIdeal.Read.val_main_v61 (F := Ideal) (m ((c : Thread nD τ).loc main_arg0)) := by
  refine (dats m 0 c).arrAt_eq_of_covers 9 _ (by decide +kernel) fun t hf y => ?_
  blk_simp
  rw [after0_9, outs_act]
  have ht : t.val < 8 := t.isLt
  have e9 := (idx_val t).2.2.2.2.2.2.2.2.2
  idx_vars y
  have h : t.val * 512 + y1.val < 4096 := by omega
  refine (grp_at m c t y1 y0 y2 h (by omega)).trans (ref_act _ _ y0 ⟨t.val * 512 + y1.val, h⟩ y2 ?_ ?_ ?_).symm
  all_goals (blk_simp [e9] <;> (try dsimp only) <;> try omega)

end Cert.LossIdeal.Grad

end
-- ==== Proof.GainValue.lean ====
/- Hand-written, untrusted: the value of a product and of its share in a norm's gain's gradient, `Cert.GainIdeal`, at the reals. -/
module

public import proofs.«01_k».proof.Proof.Gen.GainIdeal.Value
public import proofs.«01_k».proof.Proof.Gen.GainRefIdeal.Read
public import proofs.«01_k».proof.Proof.Reals
public import proofs.«01_k».proof.Proof.Norm

@[expose] public section

set_option maxRecDepth 16384

noncomputable section

open Idealize.ShloMosaic Idealize.ShloMosaic.TcCoe Idealize.SL.Sem
open Idealize.ShloMosaic.Pipeline (Dat)

namespace Cert.GainIdeal.Grad

open Cert.GainIdeal Cert.GainIdeal.Gen

variable (m : (ℓ : Loc nD τ sig) → Buf (Elt Ideal) ℓ)

open Cert.GainRefIdeal.Read in
/-- The reference's product at an index. -/
theorem ref_dh (x0 : FVec Ideal Cert.GainRefIdeal.S4096x5120 .bf16) (x1 : FVec Ideal Cert.GainRefIdeal.S1024x5120 .bf16) (j : Cert.GainRefIdeal.S4096x1024.Idx) (r : Fin 4096) (k : Fin 1024) (hr : r.val = j 0) (hk : k.val = j 1) :
    val_main_v4 (F := Ideal) x0 x1 j = Norm.dot (n := 5120) (fun x => x0 (ix2 r x)) (fun x => x1 (ix2 k x)) := by
  idx_vars j
  obtain rfl : r = j0 := Fin.ext hr
  obtain rfl : k = j1 := Fin.ext hk
  unfold Norm.dot
  pointwise [val_main_v0, val_main_cst, val_main_v1, val_main_v2, val_main_v3, val_main_v4, val_main_cst_0, val_main_v5, val_main_v6, val_main_cst_1, val_main_v7, val_main_v8, val_main_cst_2, val_main_v9, val_main_v10, val_main_cst_3, val_main_v11, val_main_v12, val_main_v13, val_main_v14, val_main_v15, val_main_v16, val_main_v17, val_main_v18, val_main_v19, val_main_cst_4, val_main_v20, val_main_v21, val_main_cst_5, val_main_v22, val_main_v23, val_main_v24]

open Cert.GainRefIdeal.Read in
/-- The reference's gradient of the gain, in each of its eight equal rows. -/
theorem ref_dg (x0 : FVec Ideal Cert.GainRefIdeal.S4096x5120 .bf16) (x1 : FVec Ideal Cert.GainRefIdeal.S1024x5120 .bf16) (x2 : FVec Ideal Cert.GainRefIdeal.S4096x1024 .f32) (j : Cert.GainRefIdeal.S8x1024.Idx) (k : Fin 1024) (hk : k.val = j 1) :
    val_main_v24 (F := Ideal) x0 x1 x2 j
      = ∑ r : Fin 4096, Norm.gain (n := 4096) (fun r i => x2 (ix2 r i)) (fun r i => Norm.dot (fun x => x0 (ix2 r x)) (fun x => x1 (ix2 i x))) k r := by
  idx_vars j
  obtain rfl : k = j1 := Fin.ext hk
  pointwise [val_main_v0, val_main_cst, val_main_v1, val_main_v2, val_main_v3, val_main_v4, val_main_cst_0, val_main_v5, val_main_v6, val_main_cst_1, val_main_v7, val_main_v8, val_main_cst_2, val_main_v9, val_main_v10, val_main_cst_3, val_main_v11, val_main_v12, val_main_v13, val_main_v14, val_main_v15, val_main_v16, val_main_v17, val_main_v18, val_main_v19, val_main_cst_4, val_main_v20, val_main_v21, val_main_cst_5, val_main_v22, val_main_v23, val_main_v24]
  rw [Fin.sum_univ_one]
  exact Finset.sum_congr rfl fun r _ => mul_comm _ _

/-- Every window's block index at every grid point. -/
theorem idx_val : ∀ t : Fin cfg0.N, win0_0.index t = ![t.val, 0] ∧ win0_1.index t = ![0, 0, 0] ∧ win0_2.index t = ![t.val, 0]
    ∧ win0_3.index t = ![t.val, 0] ∧ win0_4.index t = ![0, 0] :=
  (by decide +kernel : ∀ t : Fin grid0.N, _)

/-- Block `t` of the inputs, as rows of the arrays; the weight comes in eight groups of columns. -/
theorem in0 (c : Dev nD) (t : Fin cfg0.N) (a : Fin 512) (x : Fin 5120) (h : t.val * 512 + a.val < 4096) :
    (iblk m c 0 t (ix2 a x) : EReal) = (m ((c : Thread nD τ).loc main_arg0)) (ix2 ⟨t.val * 512 + a.val, h⟩ x) := by
  blk_ext [iblk, V, idx_val t]
theorem in1 (c : Dev nD) (t : Fin cfg0.N) (g : Fin 8) (x : Fin 640) (k : Fin 1024) (h' : g.val * 640 + x.val < 5120) :
    (iblk m c 1 t (ix3 g k x) : EReal) = (m ((c : Thread nD τ).loc main_arg1)) (ix2 k ⟨g.val * 640 + x.val, h'⟩) := by
  blk_point [iblk, V, idx_val t]
theorem in2 (c : Dev nD) (t : Fin cfg0.N) (a : Fin 512) (b : Fin 1024) (h : t.val * 512 + a.val < 4096) :
    (iblk m c 2 t (ix2 a b) : EReal) = (m ((c : Thread nD τ).loc main_arg2)) (ix2 ⟨t.val * 512 + a.val, h⟩ b) := by
  blk_ext [iblk, V, idx_val t]

/-- The product of grid point `t`, in the body's own words. -/
@[irreducible] def dh (c : Dev nD) (t : Fin cfg0.N) : FVec Ideal S512x1024 .f32 :=
  k0_pay4 (F := Ideal) (k0_pay3 (View.ld (iblk m c 0 t) (Rect.unit ![0, 0] ![512, 640] inb_S512x5120_S512x640_0_0)) (View.ld (iblk m c 1 t) (Rect.unit ![0, 0, 0] ![1, 1024, 640] inb_S8x1024x640_S1x1024x640_0_0_0)) (View.ld (iblk m c 0 t) (Rect.unit ![0, 640] ![512, 640] inb_S512x5120_S512x640_0_640)) (View.ld (iblk m c 1 t) (Rect.unit ![1, 0, 0] ![1, 1024, 640] inb_S8x1024x640_S1x1024x640_1_0_0)) (View.ld (iblk m c 0 t) (Rect.unit ![0, 1280] ![512, 640] inb_S512x5120_S512x640_0_1280)) (View.ld (iblk m c 1 t) (Rect.unit ![2, 0, 0] ![1, 1024, 640] inb_S8x1024x640_S1x1024x640_2_0_0)) (View.ld (iblk m c 0 t) (Rect.unit ![0, 1920] ![512, 640] inb_S512x5120_S512x640_0_1920)) (View.ld (iblk m c 1 t) (Rect.unit ![3, 0, 0] ![1, 1024, 640] inb_S8x1024x640_S1x1024x640_3_0_0)) (View.ld (iblk m c 0 t) (Rect.unit ![0, 2560] ![512, 640] inb_S512x5120_S512x640_0_2560)) (View.ld (iblk m c 1 t) (Rect.unit ![4, 0, 0] ![1, 1024, 640] inb_S8x1024x640_S1x1024x640_4_0_0))) (View.ld (iblk m c 0 t) (Rect.unit ![0, 3200] ![512, 640] inb_S512x5120_S512x640_0_3200)) (View.ld (iblk m c 1 t) (Rect.unit ![5, 0, 0] ![1, 1024, 640] inb_S8x1024x640_S1x1024x640_5_0_0)) (View.ld (iblk m c 0 t) (Rect.unit ![0, 3840] ![512, 640] inb_S512x5120_S512x640_0_3840)) (View.ld (iblk m c 1 t) (Rect.unit ![6, 0, 0] ![1, 1024, 640] inb_S8x1024x640_S1x1024x640_6_0_0)) (View.ld (iblk m c 0 t) (Rect.unit ![0, 4480] ![512, 640] inb_S512x5120_S512x640_0_4480)) (View.ld (iblk m c 1 t) (Rect.unit ![7, 0, 0] ![1, 1024, 640] inb_S8x1024x640_S1x1024x640_7_0_0))

/-- It is the cotangent's rows times the weight's. -/
theorem dh_at (c : Dev nD) (t : Fin cfg0.N) (a : Fin 512) (k : Fin 1024) (h : t.val * 512 + a.val < 4096) :
    dh m c t (ix2 a k) = Norm.dot (n := 5120) (fun x => (m ((c : Thread nD τ).loc main_arg0)) (ix2 ⟨t.val * 512 + a.val, h⟩ x)) (fun x => (m ((c : Thread nD τ).loc main_arg1)) (ix2 k x)) := by
  refine Eq.trans ?_ (Norm.groups (b := 640) rfl _ _ (fun g x => iblk m c 0 t (ix2 a ⟨g.val * 640 + x.val, by omega⟩)) (fun g x => iblk m c 1 t (ix3 g k x))
    (fun g x h' => in0 m c t a _ h) fun g x h' => in1 m c t g x k h')
  unfold dh Norm.dot
  pointwise [k0_pay3, k0_pay4]

/-- What grid point `t` leaves in the block of rows. -/
theorem outs_rows (c : Dev nD) (t : Fin cfg0.N) : (outsAt0 m c t.val t.isLt).1 = dh m c t := by
  by_cases h0 : t.val % 8 = 0
  · rw [outsAt0_A m c t h0]
    frame_out
    unfold dh
    rfl
  · rw [outsAt0_B m c t h0]
    frame_out
    unfold dh
    rfl

/-- One grid point's share of the gain's gradient, added to `v`. -/
theorem part (c : Dev nD) (t : Fin cfg0.N) (v : FVec Ideal S8x1024 .f32) (j : S8x1024.Idx) :
    k0_pay2 (k0_pay5 (iblk m c 2 t) (dh m c t)) v j
      = v j + ∑ x : Fin 512, Norm.ext (Norm.gain (n := 4096) (fun r i => (m ((c : Thread nD τ).loc main_arg2)) (ix2 r i)) (fun r i => Norm.dot (n := 5120) (fun x => (m ((c : Thread nD τ).loc main_arg0)) (ix2 r x)) (fun x => (m ((c : Thread nD τ).loc main_arg1)) (ix2 i x))) (j 1)) (t.val * 512 + x.val) := by
  have ht : t.val < 8 := t.isLt
  refine Eq.trans (b := v j + ∑ x : Fin 512, Norm.gain (n := 512) (fun r i => iblk m c 2 t (ix2 r i)) (fun r i => dh m c t (ix2 r i)) (j 1) x) ?_
    (congrArg (v j + ·) (Finset.sum_congr rfl fun x _ => ?_))
  · pointwise [k0_pay2, k0_pay5]
    unfold Norm.gain Norm.rsq Norm.msq
    rfl
  · have h : t.val * 512 + x.val < 4096 := by omega
    rw [Norm.ext, dif_pos h]
    exact Norm.gain_congr (fun i => in2 m c t x i h) (dh_at m c t x (j 1) h)

/-- The gain's gradient after grid point `n`: the sum over the tiles so far. -/
theorem gain_acc (c : Dev nD) (y : S8x1024.Idx) (n : ℕ) (h : n < cfg0.N) :
    (outsAt0 m c n h).2 y = ∑ t ∈ Finset.range (n + 1), ∑ x : Fin 512, Norm.ext (Norm.gain (n := 4096) (fun r i => (m ((c : Thread nD τ).loc main_arg2)) (ix2 r i)) (fun r i => Norm.dot (n := 5120) (fun x => (m ((c : Thread nD τ).loc main_arg0)) (ix2 r x)) (fun x => (m ((c : Thread nD τ).loc main_arg1)) (ix2 i x))) (y 1)) (t * 512 + x.val) := by
  refine Norm.acc (N := cfg0.N) (fun n h => (outsAt0 m c n h).2 y) (fun t => ∑ x : Fin 512, Norm.ext (Norm.gain (n := 4096) (fun r i => (m ((c : Thread nD τ).loc main_arg2)) (ix2 r i)) (fun r i => Norm.dot (n := 5120) (fun x => (m ((c : Thread nD τ).loc main_arg0)) (ix2 r x)) (fun x => (m ((c : Thread nD τ).loc main_arg1)) (ix2 i x))) (y 1)) (t * 512 + x.val)) (fun h => ?_) (fun n h => ?_) n h
  · rw [outsAt0_A m c ⟨0, h⟩ (by rfl)]
    refine Eq.trans (b := k0_pay2 (k0_pay5 (iblk m c 2 ⟨0, h⟩) (dh m c ⟨0, h⟩)) (k0_pay1 (F := Ideal)) y) ?_ ((part m c _ _ _).trans ?_)
    · frame_out
      unfold dh
      rfl
    · pointwise [k0_pay1]
  · have hn : n + 1 < 8 := h
    rw [outsAt0_B m c ⟨n + 1, h⟩ (by dsimp only; omega)]
    refine Eq.trans (b := k0_pay2 (k0_pay5 (iblk m c 2 ⟨n + 1, h⟩) (dh m c ⟨n + 1, h⟩)) (outsAt0 m c n (Nat.lt_of_succ_lt h)).2 y) ?_ (part m c _ _ _)
    frame_out
    unfold dh
    rfl

/-- The product the call leaves is the reference's. -/
theorem final3 (c : Dev nD) : (dats m 0 c).arrAt 3 cfg0.N = Cert.GainRefIdeal.Read.val_main_v4 (F := Ideal) (m ((c : Thread nD τ).loc main_arg0)) (m ((c : Thread nD τ).loc main_arg1)) := by
  refine (dats m 0 c).arrAt_eq_of_covers 3 _ (by decide +kernel) fun t hf y => ?_
  have ht : t.val < 8 := t.isLt
  have hy : (y 0).val < 512 := (y 0).isLt
  have h : t.val * 512 + (y 0).val < 4096 := by omega
  have e3 := (idx_val t).2.2.2.1
  blk_simp
  rw [after0_3, outs_rows m c t]
  refine Eq.trans ((congrArg (dh m c t) (ix2_eta y).symm).trans (dh_at m c t (y 0) (y 1) h)) (ref_dh _ _ _ ⟨t.val * 512 + (y 0).val, h⟩ (y 1) ?_ ?_).symm
  all_goals (blk_simp [e3] <;> (try dsimp only) <;> try omega)

/-- The gain's gradient the call leaves is the reference's. -/
theorem final4 (c : Dev nD) :
    (dats m 0 c).arrAt 4 cfg0.N = Cert.GainRefIdeal.Read.val_main_v24 (F := Ideal) (m ((c : Thread nD τ).loc main_arg0)) (m ((c : Thread nD τ).loc main_arg1)) (m ((c : Thread nD τ).loc main_arg2)) := by
  refine (dats m 0 c).arrAt_eq_of_after_last 4 t0_7 (by decide +kernel) _ fun j => ?_
  blk_simp
  rw [after0_4]
  refine (gain_acc m c _ _ _).trans ?_
  refine Eq.trans ?_ (ref_dg _ _ _ _ (j 1) ?_).symm
  · refine (Norm.sum_tiles 8 512 4096 rfl _).trans ?_
    exact Finset.sum_congr rfl fun r _ => Norm.ext_val _ r
  all_goals (blk_simp [idx_val t0_7] <;> (try dsimp only) <;> try omega)

end Cert.GainIdeal.Grad

end
-- ==== Proof.MergeValue.lean ====
/- Hand-written, untrusted: the value of the gradient of the merge of the two branches, `Cert.MergeIdeal`, at the reals. -/
module

public import proofs.«01_k».proof.Proof.Gen.MergeIdeal.Value
public import proofs.«01_k».proof.Proof.Gen.MergeRefIdeal.Read
public import proofs.«01_k».proof.Proof.Reals
public import proofs.«01_k».proof.Proof.Norm

@[expose] public section

set_option maxRecDepth 16384

noncomputable section

open Idealize.ShloMosaic Idealize.ShloMosaic.TcCoe Idealize.SL.Sem
open Idealize.ShloMosaic.Pipeline (Dat)

namespace Cert.MergeIdeal.Grad

open Cert.MergeIdeal Cert.MergeIdeal.Gen

variable (m : (ℓ : Loc nD τ sig) → Buf (Elt Ideal) ℓ)

theorem sigmoid_div (x : EReal) : Ideal.div 1 (1 + Ideal.exp (-x)) = Ideal.logistic x := rfl

/-- Every window's block index at every grid point. -/
theorem idx_val : ∀ t : Fin cfg0.N, win0_0.index t = ![t.val, 0] ∧ win0_1.index t = ![0, 0] ∧ win0_2.index t = ![t.val, 0]
    ∧ win0_3.index t = ![t.val, 0] ∧ win0_4.index t = ![t.val, 3] ∧ win0_5.index t = ![t.val, 4] ∧ win0_6.index t = ![0, 0] ∧ win0_7.index t = ![0, 0]
    ∧ win0_8.index t = ![t.val, 0] ∧ win0_9.index t = ![t.val, 0] ∧ win0_10.index t = ![t.val, 0] ∧ win0_11.index t = ![t.val, 0] ∧ win0_12.index t = ![t.val, 0] :=
  (by decide +kernel : ∀ t : Fin grid0.N, _)

/-- Block `t` of the inputs, as rows of the arrays. -/
theorem in0 (c : Dev nD) (t : Fin cfg0.N) (a : Fin 512) (b : Fin 1024) (h : t.val * 512 + a.val < 4096) :
    (iblk m c 0 t (ix2 a b) : EReal) = (m ((c : Thread nD τ).loc main_arg0)) (ix2 ⟨t.val * 512 + a.val, h⟩ b) := by
  blk_ext [iblk, V, idx_val t]
theorem in1 (c : Dev nD) (t : Fin cfg0.N) (a : Fin 1024) (b : Fin 1024) :
    (iblk m c 1 t (ix2 a b) : EReal) = (m ((c : Thread nD τ).loc main_arg1)) (ix2 a b) := by
  blk_ext [iblk, V, idx_val t]
/-- The branches, as prepared for the call. -/
theorem V_v3 (c : Dev nD) : V m c main_v3 = truncf (F := Ideal) .bf16 (Host.dotGeneral (F := Ideal) dot_S4096x512_S512x1024_S4096x1024_1_0_0_1_n_n none
    (extf (F := Ideal) .f32 (m ((c : Thread nD τ).loc main_arg2)) bitsLt_bf16_f32) (extf (F := Ideal) .f32 (m ((c : Thread nD τ).loc main_arg5)) bitsLt_bf16_f32)) bitsLt_bf16_f32 := by
  unfold_abbrev_sides
  after_results
theorem V_v3_at (c : Dev nD) (r : Fin 4096) (k : Fin 1024) :
    (V m c main_v3 (ix2 r k) : EReal) = Norm.dot (fun x => (m ((c : Thread nD τ).loc main_arg2)) (ix2 r x)) (fun x => (m ((c : Thread nD τ).loc main_arg5)) (ix2 x k)) := by
  rw [V_v3]
  unfold Norm.dot
  pointwise []
theorem V_v7 (c : Dev nD) : V m c main_v7 = truncf (F := Ideal) .bf16 (Host.dotGeneral (F := Ideal) dot_S4096x512_S512x1024_S4096x1024_1_0_0_1_n_n none
    (extf (F := Ideal) .f32 (m ((c : Thread nD τ).loc main_arg3)) bitsLt_bf16_f32) (extf (F := Ideal) .f32 (m ((c : Thread nD τ).loc main_arg6)) bitsLt_bf16_f32)) bitsLt_bf16_f32 := by
  unfold_abbrev_sides
  after_results
theorem V_v7_at (c : Dev nD) (r : Fin 4096) (k : Fin 1024) :
    (V m c main_v7 (ix2 r k) : EReal) = Norm.dot (fun x => (m ((c : Thread nD τ).loc main_arg3)) (ix2 r x)) (fun x => (m ((c : Thread nD τ).loc main_arg6)) (ix2 x k)) := by
  rw [V_v7]
  unfold Norm.dot
  pointwise []
theorem in2 (c : Dev nD) (t : Fin cfg0.N) (a : Fin 512) (b : Fin 1024) (h : t.val * 512 + a.val < 4096) :
    (iblk m c 2 t (ix2 a b) : EReal) = Norm.dot (fun x => (m ((c : Thread nD τ).loc main_arg2)) (ix2 ⟨t.val * 512 + a.val, h⟩ x)) (fun x => (m ((c : Thread nD τ).loc main_arg5)) (ix2 x b)) := by
  refine Eq.trans ?_ (V_v3_at m c ⟨t.val * 512 + a.val, h⟩ b)
  blk_ext [iblk, idx_val t]
theorem in3 (c : Dev nD) (t : Fin cfg0.N) (a : Fin 512) (b : Fin 1024) (h : t.val * 512 + a.val < 4096) :
    (iblk m c 3 t (ix2 a b) : EReal) = Norm.dot (fun x => (m ((c : Thread nD τ).loc main_arg3)) (ix2 ⟨t.val * 512 + a.val, h⟩ x)) (fun x => (m ((c : Thread nD τ).loc main_arg6)) (ix2 x b)) := by
  refine Eq.trans ?_ (V_v7_at m c ⟨t.val * 512 + a.val, h⟩ b)
  blk_ext [iblk, idx_val t]
theorem in4 (c : Dev nD) (t : Fin cfg0.N) (a : Fin 512) (b : Fin 1024) (h : t.val * 512 + a.val < 4096) :
    (iblk m c 4 t (ix2 a b) : EReal) = (m ((c : Thread nD τ).loc main_arg4)) (ix2 ⟨t.val * 512 + a.val, h⟩ ⟨3072 + b.val, by omega⟩) := by
  blk_ext [iblk, V, idx_val t]
theorem in5 (c : Dev nD) (t : Fin cfg0.N) (a : Fin 512) (b : Fin 1024) (h : t.val * 512 + a.val < 4096) :
    (iblk m c 5 t (ix2 a b) : EReal) = (m ((c : Thread nD τ).loc main_arg4)) (ix2 ⟨t.val * 512 + a.val, h⟩ ⟨4096 + b.val, by omega⟩) := by
  blk_ext [iblk, V, idx_val t]
theorem in6 (c : Dev nD) (t : Fin cfg0.N) (a : Fin 512) (b : Fin 1024) :
    (iblk m c 6 t (ix2 a b) : EReal) = (m ((c : Thread nD τ).loc main_arg5)) (ix2 a b) := by
  blk_ext [iblk, V, idx_val t]
theorem in7 (c : Dev nD) (t : Fin cfg0.N) (a : Fin 512) (b : Fin 1024) :
    (iblk m c 7 t (ix2 a b) : EReal) = (m ((c : Thread nD τ).loc main_arg6)) (ix2 a b) := by
  blk_ext [iblk, V, idx_val t]

/-- A branch's gradient at an element: the merge's, of the rows `d` and `w`, times the gate of `g`. -/
def part (d w : Fin 1024 → EReal) (g : EReal) : EReal := Ideal.logistic g * Norm.dot d w

/-- A gate's gradient at an element, `b` the branch's value. -/
def gate (d w : Fin 1024 → EReal) (g b : EReal) : EReal := Norm.dot d w * b * (Ideal.logistic g * (1 - Ideal.logistic g))

theorem part_congr {d d' w w' : Fin 1024 → EReal} {g g' : EReal} (hd : ∀ i, d i = d' i) (hw : ∀ i, w i = w' i) (hg : g = g') : part d w g = part d' w' g' := by
  rw [funext hd, funext hw, hg]
theorem gate_congr {d d' w w' : Fin 1024 → EReal} {g g' b b' : EReal} (hd : ∀ i, d i = d' i) (hw : ∀ i, w i = w' i) (hg : g = g') (hb : b = b') : gate d w g b = gate d' w' g' b' := by
  rw [funext hd, funext hw, hg, hb]

open Cert.MergeRefIdeal.Read in
/-- The reference's gradient of a branch. -/
theorem ref44 (x0 : FVec Ideal Cert.MergeRefIdeal.S4096x1024 .bf16) (x1 : FVec Ideal Cert.MergeRefIdeal.S1024x1024 .bf16) (x4 : FVec Ideal Cert.MergeRefIdeal.S4096x5120 .bf16) (j : Cert.MergeRefIdeal.S4096x1024.Idx) (r : Fin 4096) (k : Fin 1024) (hr : r.val = j 0) (hk : k.val = j 1) :
    val_main_v44 (F := Ideal) x0 x1 x4 j = part (fun x => x0 (ix2 r x)) (fun x => x1 (ix2 k x)) (x4 (ix2 r ⟨3072 + k.val, by omega⟩)) := by
  idx_vars j
  obtain rfl : r = j0 := Fin.ext hr
  obtain rfl : k = j1 := Fin.ext hk
  unfold part Norm.dot
  pointwise [val_main_v0, val_main_v1, val_main_v2, val_main_v3, val_main_v4, val_main_v5, val_main_v6, val_main_v7, val_main_v8, val_main_v9, val_main_v10, val_main_v11, val_main_v12, val_main_cst, val_main_v13, val_main_v14, val_main_cst_0, val_main_v15, val_main_v16, val_main_cst_1, val_main_v17, val_main_v18, val_main_v19, val_main_v20, val_main_v21, val_main_v22, val_main_cst_2, val_main_v23, val_main_v24, val_main_cst_3, val_main_v25, val_main_v26, val_main_cst_4, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48]
  simp only [sigmoid_div]

open Cert.MergeRefIdeal.Read in
/-- The reference's gradient of a branch. -/
theorem ref45 (x0 : FVec Ideal Cert.MergeRefIdeal.S4096x1024 .bf16) (x1 : FVec Ideal Cert.MergeRefIdeal.S1024x1024 .bf16) (x4 : FVec Ideal Cert.MergeRefIdeal.S4096x5120 .bf16) (j : Cert.MergeRefIdeal.S4096x1024.Idx) (r : Fin 4096) (k : Fin 1024) (hr : r.val = j 0) (hk : k.val = j 1) :
    val_main_v45 (F := Ideal) x0 x1 x4 j = part (fun x => x0 (ix2 r x)) (fun x => x1 (ix2 k x)) (x4 (ix2 r ⟨4096 + k.val, by omega⟩)) := by
  idx_vars j
  obtain rfl : r = j0 := Fin.ext hr
  obtain rfl : k = j1 := Fin.ext hk
  unfold part Norm.dot
  pointwise [val_main_v0, val_main_v1, val_main_v2, val_main_v3, val_main_v4, val_main_v5, val_main_v6, val_main_v7, val_main_v8, val_main_v9, val_main_v10, val_main_v11, val_main_v12, val_main_cst, val_main_v13, val_main_v14, val_main_cst_0, val_main_v15, val_main_v16, val_main_cst_1, val_main_v17, val_main_v18, val_main_v19, val_main_v20, val_main_v21, val_main_v22, val_main_cst_2, val_main_v23, val_main_v24, val_main_cst_3, val_main_v25, val_main_v26, val_main_cst_4, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48]
  simp only [sigmoid_div, ← Nat.add_assoc]

open Cert.MergeRefIdeal.Read in
/-- The reference's gradient of the first gate. -/
theorem ref46a (x0 : FVec Ideal Cert.MergeRefIdeal.S4096x1024 .bf16) (x1 : FVec Ideal Cert.MergeRefIdeal.S1024x1024 .bf16) (x2 : FVec Ideal Cert.MergeRefIdeal.S4096x512 .bf16) (x3 : FVec Ideal Cert.MergeRefIdeal.S4096x512 .bf16) (x4 : FVec Ideal Cert.MergeRefIdeal.S4096x5120 .bf16) (x5 : FVec Ideal Cert.MergeRefIdeal.S512x1024 .bf16) (x6 : FVec Ideal Cert.MergeRefIdeal.S512x1024 .bf16) (j : Cert.MergeRefIdeal.S4096x2048.Idx) (r : Fin 4096) (k : Fin 1024) (hr : r.val = j 0) (hk : j 1 = k.val) :
    val_main_v46 (F := Ideal) x0 x1 x2 x3 x4 x5 x6 j = gate (fun x => x0 (ix2 r x)) (fun x => x1 (ix2 k x)) (x4 (ix2 r ⟨3072 + k.val, by omega⟩)) (Norm.dot (fun x => x2 (ix2 r x)) (fun x => x5 (ix2 x k))) := by
  idx_vars j
  obtain rfl : r = j0 := Fin.ext hr
  have hk : j1.val = k.val := hk
  unfold gate Norm.dot
  pointwise [val_main_v0, val_main_v1, val_main_v2, val_main_v3, val_main_v4, val_main_v5, val_main_v6, val_main_v7, val_main_v8, val_main_v9, val_main_v10, val_main_v11, val_main_v12, val_main_cst, val_main_v13, val_main_v14, val_main_cst_0, val_main_v15, val_main_v16, val_main_cst_1, val_main_v17, val_main_v18, val_main_v19, val_main_v20, val_main_v21, val_main_v22, val_main_cst_2, val_main_v23, val_main_v24, val_main_cst_3, val_main_v25, val_main_v26, val_main_cst_4, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48]
  rw [dif_pos (by omega)]
  simp only [sigmoid_div, hk]

open Cert.MergeRefIdeal.Read in
/-- The reference's gradient of the second gate. -/
theorem ref46b (x0 : FVec Ideal Cert.MergeRefIdeal.S4096x1024 .bf16) (x1 : FVec Ideal Cert.MergeRefIdeal.S1024x1024 .bf16) (x2 : FVec Ideal Cert.MergeRefIdeal.S4096x512 .bf16) (x3 : FVec Ideal Cert.MergeRefIdeal.S4096x512 .bf16) (x4 : FVec Ideal Cert.MergeRefIdeal.S4096x5120 .bf16) (x5 : FVec Ideal Cert.MergeRefIdeal.S512x1024 .bf16) (x6 : FVec Ideal Cert.MergeRefIdeal.S512x1024 .bf16) (j : Cert.MergeRefIdeal.S4096x2048.Idx) (r : Fin 4096) (k : Fin 1024) (hr : r.val = j 0) (hk : j 1 = 1024 + k.val) :
    val_main_v46 (F := Ideal) x0 x1 x2 x3 x4 x5 x6 j = gate (fun x => x0 (ix2 r x)) (fun x => x1 (ix2 k x)) (x4 (ix2 r ⟨4096 + k.val, by omega⟩)) (Norm.dot (fun x => x3 (ix2 r x)) (fun x => x6 (ix2 x k))) := by
  idx_vars j
  obtain rfl : r = j0 := Fin.ext hr
  have hk : j1.val = 1024 + k.val := hk
  unfold gate Norm.dot
  pointwise [val_main_v0, val_main_v1, val_main_v2, val_main_v3, val_main_v4, val_main_v5, val_main_v6, val_main_v7, val_main_v8, val_main_v9, val_main_v10, val_main_v11, val_main_v12, val_main_cst, val_main_v13, val_main_v14, val_main_cst_0, val_main_v15, val_main_v16, val_main_cst_1, val_main_v17, val_main_v18, val_main_v19, val_main_v20, val_main_v21, val_main_v22, val_main_cst_2, val_main_v23, val_main_v24, val_main_cst_3, val_main_v25, val_main_v26, val_main_cst_4, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48]
  rw [dif_neg (by omega)]
  simp only [sigmoid_div, hk, Nat.add_sub_cancel_left, ← Nat.add_assoc]

open Cert.MergeRefIdeal.Read in
/-- The reference's gradient of a branch's input. -/
theorem ref47 (x0 : FVec Ideal Cert.MergeRefIdeal.S4096x1024 .bf16) (x1 : FVec Ideal Cert.MergeRefIdeal.S1024x1024 .bf16) (x4 : FVec Ideal Cert.MergeRefIdeal.S4096x5120 .bf16) (x5 : FVec Ideal Cert.MergeRefIdeal.S512x1024 .bf16) (j : Cert.MergeRefIdeal.S4096x512.Idx) (r : Fin 4096) (k : Fin 512) (hr : r.val = j 0) (hk : k.val = j 1) :
    val_main_v47 (F := Ideal) x0 x1 x4 x5 j = Norm.dot (fun k => part (fun x => x0 (ix2 r x)) (fun x => x1 (ix2 k x)) (x4 (ix2 r ⟨3072 + k.val, by omega⟩))) (fun x => x5 (ix2 k x)) := by
  idx_vars j
  obtain rfl : r = j0 := Fin.ext hr
  obtain rfl : k = j1 := Fin.ext hk
  unfold part Norm.dot
  pointwise [val_main_v0, val_main_v1, val_main_v2, val_main_v3, val_main_v4, val_main_v5, val_main_v6, val_main_v7, val_main_v8, val_main_v9, val_main_v10, val_main_v11, val_main_v12, val_main_cst, val_main_v13, val_main_v14, val_main_cst_0, val_main_v15, val_main_v16, val_main_cst_1, val_main_v17, val_main_v18, val_main_v19, val_main_v20, val_main_v21, val_main_v22, val_main_cst_2, val_main_v23, val_main_v24, val_main_cst_3, val_main_v25, val_main_v26, val_main_cst_4, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48]
  simp only [sigmoid_div]

open Cert.MergeRefIdeal.Read in
/-- The reference's gradient of a branch's input. -/
theorem ref48 (x0 : FVec Ideal Cert.MergeRefIdeal.S4096x1024 .bf16) (x1 : FVec Ideal Cert.MergeRefIdeal.S1024x1024 .bf16) (x4 : FVec Ideal Cert.MergeRefIdeal.S4096x5120 .bf16) (x6 : FVec Ideal Cert.MergeRefIdeal.S512x1024 .bf16) (j : Cert.MergeRefIdeal.S4096x512.Idx) (r : Fin 4096) (k : Fin 512) (hr : r.val = j 0) (hk : k.val = j 1) :
    val_main_v48 (F := Ideal) x0 x1 x4 x6 j = Norm.dot (fun k => part (fun x => x0 (ix2 r x)) (fun x => x1 (ix2 k x)) (x4 (ix2 r ⟨4096 + k.val, by omega⟩))) (fun x => x6 (ix2 k x)) := by
  idx_vars j
  obtain rfl : r = j0 := Fin.ext hr
  obtain rfl : k = j1 := Fin.ext hk
  unfold part Norm.dot
  pointwise [val_main_v0, val_main_v1, val_main_v2, val_main_v3, val_main_v4, val_main_v5, val_main_v6, val_main_v7, val_main_v8, val_main_v9, val_main_v10, val_main_v11, val_main_v12, val_main_cst, val_main_v13, val_main_v14, val_main_cst_0, val_main_v15, val_main_v16, val_main_cst_1, val_main_v17, val_main_v18, val_main_v19, val_main_v20, val_main_v21, val_main_v22, val_main_cst_2, val_main_v23, val_main_v24, val_main_cst_3, val_main_v25, val_main_v26, val_main_cst_4, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48]
  simp only [sigmoid_div, ← Nat.add_assoc]

/-- What grid point `t` computes at an index of its blocks, in terms of the blocks and of the arrays. -/
theorem da_at (c : Dev nD) (t : Fin cfg0.N) (a : Fin 512) (k : Fin 1024) (h : t.val * 512 + a.val < 4096) :
    (k0_pay8 (iblk m c 0 t) (iblk m c 1 t) (iblk m c 4 t) (ix2 a k) : EReal) = part (fun x => (m ((c : Thread nD τ).loc main_arg0)) (ix2 (⟨t.val * 512 + a.val, h⟩ : Fin 4096) x)) (fun x => (m ((c : Thread nD τ).loc main_arg1)) (ix2 k x)) ((m ((c : Thread nD τ).loc main_arg4)) (ix2 (⟨t.val * 512 + a.val, h⟩ : Fin 4096) ⟨3072 + k.val, by omega⟩)) := by
  refine Eq.trans ?_ (part_congr (d := (fun x => iblk m c 0 t (ix2 a x))) (w := (fun x => iblk m c 1 t (ix2 k x))) (g := iblk m c 4 t (ix2 a k)) (fun i => in0 m c t a i h) (fun i => in1 m c t k i) (in4 m c t a k h))
  unfold part Norm.dot
  pointwise [k0_pay5, k0_pay6, k0_pay7, k0_pay8, Reals.half_f32, Reals.sigmoid_eq]
  exact mul_comm _ _
theorem db_at (c : Dev nD) (t : Fin cfg0.N) (a : Fin 512) (k : Fin 1024) (h : t.val * 512 + a.val < 4096) :
    (k0_pay9 (iblk m c 0 t) (iblk m c 1 t) (iblk m c 5 t) (ix2 a k) : EReal) = part (fun x => (m ((c : Thread nD τ).loc main_arg0)) (ix2 (⟨t.val * 512 + a.val, h⟩ : Fin 4096) x)) (fun x => (m ((c : Thread nD τ).loc main_arg1)) (ix2 k x)) ((m ((c : Thread nD τ).loc main_arg4)) (ix2 (⟨t.val * 512 + a.val, h⟩ : Fin 4096) ⟨4096 + k.val, by omega⟩)) := by
  refine Eq.trans ?_ (part_congr (d := (fun x => iblk m c 0 t (ix2 a x))) (w := (fun x => iblk m c 1 t (ix2 k x))) (g := iblk m c 5 t (ix2 a k)) (fun i => in0 m c t a i h) (fun i => in1 m c t k i) (in5 m c t a k h))
  unfold part Norm.dot
  pointwise [k0_pay5, k0_pay6, k0_pay7, k0_pay9, Reals.half_f32, Reals.sigmoid_eq]
  exact mul_comm _ _
theorem dga_at (c : Dev nD) (t : Fin cfg0.N) (a : Fin 512) (k : Fin 1024) (h : t.val * 512 + a.val < 4096) :
    (k0_pay1 (k0_pay10 (iblk m c 0 t) (iblk m c 1 t) (iblk m c 4 t) (iblk m c 2 t)) (ix2 a k) : EReal) = gate (fun x => (m ((c : Thread nD τ).loc main_arg0)) (ix2 (⟨t.val * 512 + a.val, h⟩ : Fin 4096) x)) (fun x => (m ((c : Thread nD τ).loc main_arg1)) (ix2 k x)) ((m ((c : Thread nD τ).loc main_arg4)) (ix2 (⟨t.val * 512 + a.val, h⟩ : Fin 4096) ⟨3072 + k.val, by omega⟩)) (Norm.dot (fun x => (m ((c : Thread nD τ).loc main_arg2)) (ix2 (⟨t.val * 512 + a.val, h⟩ : Fin 4096) x)) (fun x => (m ((c : Thread nD τ).loc main_arg5)) (ix2 x k))) := by
  refine Eq.trans ?_ (gate_congr (d := (fun x => iblk m c 0 t (ix2 a x))) (w := (fun x => iblk m c 1 t (ix2 k x))) (g := iblk m c 4 t (ix2 a k)) (b := iblk m c 2 t (ix2 a k)) (fun i => in0 m c t a i h) (fun i => in1 m c t k i) (in4 m c t a k h) (in2 m c t a k h))
  unfold gate Norm.dot
  pointwise [k0_pay1, k0_pay2, k0_pay10, k0_pay5, k0_pay6, k0_pay7, Reals.half_f32, Reals.sigmoid_eq]
  exact mul_assoc _ _ _
theorem dgb_at (c : Dev nD) (t : Fin cfg0.N) (a : Fin 512) (k : Fin 1024) (h : t.val * 512 + a.val < 4096) :
    (k0_pay2 (k0_pay5 (iblk m c 0 t) (iblk m c 1 t)) (k0_pay7 (iblk m c 5 t)) (iblk m c 3 t) (ix2 a k) : EReal) = gate (fun x => (m ((c : Thread nD τ).loc main_arg0)) (ix2 (⟨t.val * 512 + a.val, h⟩ : Fin 4096) x)) (fun x => (m ((c : Thread nD τ).loc main_arg1)) (ix2 k x)) ((m ((c : Thread nD τ).loc main_arg4)) (ix2 (⟨t.val * 512 + a.val, h⟩ : Fin 4096) ⟨4096 + k.val, by omega⟩)) (Norm.dot (fun x => (m ((c : Thread nD τ).loc main_arg3)) (ix2 (⟨t.val * 512 + a.val, h⟩ : Fin 4096) x)) (fun x => (m ((c : Thread nD τ).loc main_arg6)) (ix2 x k))) := by
  refine Eq.trans ?_ (gate_congr (d := (fun x => iblk m c 0 t (ix2 a x))) (w := (fun x => iblk m c 1 t (ix2 k x))) (g := iblk m c 5 t (ix2 a k)) (b := iblk m c 3 t (ix2 a k)) (fun i => in0 m c t a i h) (fun i => in1 m c t k i) (in5 m c t a k h) (in3 m c t a k h))
  unfold gate Norm.dot
  pointwise [k0_pay1, k0_pay2, k0_pay10, k0_pay5, k0_pay6, k0_pay7, Reals.half_f32, Reals.sigmoid_eq]
  exact mul_assoc _ _ _
theorem doa_at (c : Dev nD) (t : Fin cfg0.N) (a k : Fin 512) (h : t.val * 512 + a.val < 4096) :
    (k0_pay3 (k0_pay8 (iblk m c 0 t) (iblk m c 1 t) (iblk m c 4 t)) (iblk m c 6 t) (ix2 a k) : EReal)
      = Norm.dot (fun k => part (fun x => (m ((c : Thread nD τ).loc main_arg0)) (ix2 (⟨t.val * 512 + a.val, h⟩ : Fin 4096) x)) (fun x => (m ((c : Thread nD τ).loc main_arg1)) (ix2 k x)) ((m ((c : Thread nD τ).loc main_arg4)) (ix2 (⟨t.val * 512 + a.val, h⟩ : Fin 4096) ⟨3072 + k.val, by omega⟩))) (fun x => (m ((c : Thread nD τ).loc main_arg5)) (ix2 k x)) := by
  unfold Norm.dot
  refine Eq.trans ?_ (Finset.sum_congr rfl fun x _ => congrArg₂ (· * ·) (da_at m c t a x h) (in6 m c t k x))
  pointwise [k0_pay3]
theorem dyb_at (c : Dev nD) (t : Fin cfg0.N) (a k : Fin 512) (h : t.val * 512 + a.val < 4096) :
    (k0_pay4 (k0_pay9 (iblk m c 0 t) (iblk m c 1 t) (iblk m c 5 t)) (iblk m c 7 t) (ix2 a k) : EReal)
      = Norm.dot (fun k => part (fun x => (m ((c : Thread nD τ).loc main_arg0)) (ix2 (⟨t.val * 512 + a.val, h⟩ : Fin 4096) x)) (fun x => (m ((c : Thread nD τ).loc main_arg1)) (ix2 k x)) ((m ((c : Thread nD τ).loc main_arg4)) (ix2 (⟨t.val * 512 + a.val, h⟩ : Fin 4096) ⟨4096 + k.val, by omega⟩))) (fun x => (m ((c : Thread nD τ).loc main_arg6)) (ix2 k x)) := by
  unfold Norm.dot
  refine Eq.trans ?_ (Finset.sum_congr rfl fun x _ => congrArg₂ (· * ·) (db_at m c t a x h) (in7 m c t k x))
  pointwise [k0_pay4]

/-- The array the call leaves is the reference's. -/
theorem final8 (c : Dev nD) :
    (dats m 0 c).arrAt 8 cfg0.N = Cert.MergeRefIdeal.Read.val_main_v44 (F := Ideal) (m ((c : Thread nD τ).loc main_arg0)) (m ((c : Thread nD τ).loc main_arg1)) (m ((c : Thread nD τ).loc main_arg4)) := by
  refine (dats m 0 c).arrAt_eq_of_covers 8 _ (by decide +kernel) fun t hf y => ?_
  blk_simp
  rw [after0_8]
  have ht : t.val < 8 := t.isLt
  have e8 := (idx_val t).2.2.2.2.2.2.2.2.1
  idx_vars y
  have h : t.val * 512 + y0.val < 4096 := by omega
  unfold outsAt0
  dsimp only
  frame_out
  refine (da_at m c t y0 y1 h).trans (ref44 _ _ _ _ ⟨t.val * 512 + y0.val, h⟩ y1 ?_ ?_).symm
  all_goals (blk_simp [e8] <;> (try dsimp only) <;> try omega)

/-- The array the call leaves is the reference's. -/
theorem final9 (c : Dev nD) :
    (dats m 0 c).arrAt 9 cfg0.N = Cert.MergeRefIdeal.Read.val_main_v45 (F := Ideal) (m ((c : Thread nD τ).loc main_arg0)) (m ((c : Thread nD τ).loc main_arg1)) (m ((c : Thread nD τ).loc main_arg4)) := by
  refine (dats m 0 c).arrAt_eq_of_covers 9 _ (by decide +kernel) fun t hf y => ?_
  blk_simp
  rw [after0_9]
  have ht : t.val < 8 := t.isLt
  have e9 := (idx_val t).2.2.2.2.2.2.2.2.2.1
  idx_vars y
  have h : t.val * 512 + y0.val < 4096 := by omega
  unfold outsAt0
  dsimp only
  frame_out
  refine (db_at m c t y0 y1 h).trans (ref45 _ _ _ _ ⟨t.val * 512 + y0.val, h⟩ y1 ?_ ?_).symm
  all_goals (blk_simp [e9] <;> (try dsimp only) <;> try omega)

/-- The array the call leaves is the reference's. -/
theorem final11 (c : Dev nD) :
    (dats m 0 c).arrAt 11 cfg0.N = Cert.MergeRefIdeal.Read.val_main_v47 (F := Ideal) (m ((c : Thread nD τ).loc main_arg0)) (m ((c : Thread nD τ).loc main_arg1)) (m ((c : Thread nD τ).loc main_arg4)) (m ((c : Thread nD τ).loc main_arg5)) := by
  refine (dats m 0 c).arrAt_eq_of_covers 11 _ (by decide +kernel) fun t hf y => ?_
  blk_simp
  rw [after0_11]
  have ht : t.val < 8 := t.isLt
  have e11 := (idx_val t).2.2.2.2.2.2.2.2.2.2.2.1
  idx_vars y
  have h : t.val * 512 + y0.val < 4096 := by omega
  unfold outsAt0
  dsimp only
  frame_out
  refine (doa_at m c t y0 y1 h).trans (ref47 _ _ _ _ _ ⟨t.val * 512 + y0.val, h⟩ y1 ?_ ?_).symm
  all_goals (blk_simp [e11] <;> (try dsimp only) <;> try omega)

/-- The array the call leaves is the reference's. -/
theorem final12 (c : Dev nD) :
    (dats m 0 c).arrAt 12 cfg0.N = Cert.MergeRefIdeal.Read.val_main_v48 (F := Ideal) (m ((c : Thread nD τ).loc main_arg0)) (m ((c : Thread nD τ).loc main_arg1)) (m ((c : Thread nD τ).loc main_arg4)) (m ((c : Thread nD τ).loc main_arg6)) := by
  refine (dats m 0 c).arrAt_eq_of_covers 12 _ (by decide +kernel) fun t hf y => ?_
  blk_simp
  rw [after0_12]
  have ht : t.val < 8 := t.isLt
  have e12 := (idx_val t).2.2.2.2.2.2.2.2.2.2.2.2
  idx_vars y
  have h : t.val * 512 + y0.val < 4096 := by omega
  unfold outsAt0
  dsimp only
  frame_out
  refine (dyb_at m c t y0 y1 h).trans (ref48 _ _ _ _ _ ⟨t.val * 512 + y0.val, h⟩ y1 ?_ ?_).symm
  all_goals (blk_simp [e12] <;> (try dsimp only) <;> try omega)

/-- The gates' gradient the call leaves is the reference's. -/
theorem final10 (c : Dev nD) :
    (dats m 0 c).arrAt 10 cfg0.N = Cert.MergeRefIdeal.Read.val_main_v46 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 10 _ (by decide +kernel) fun t hf y => ?_
  blk_simp
  rw [after0_10]
  have ht : t.val < 8 := t.isLt
  have e10 := (idx_val t).2.2.2.2.2.2.2.2.2.2.1
  unfold outsAt0
  dsimp only
  frame_out
  canon_tiles x k
  · idx_vars x
    have h : t.val * 512 + x0.val < 4096 := by omega
    refine (dgb_at m c t x0 x1 h).trans (ref46b _ _ _ _ _ _ _ _ ⟨t.val * 512 + x0.val, h⟩ x1 ?_ ?_).symm
    all_goals (blk_simp [e10] <;> (try dsimp only) <;> try omega)
  · idx_vars x
    have h : t.val * 512 + x0.val < 4096 := by omega
    refine (dga_at m c t x0 x1 h).trans (ref46a _ _ _ _ _ _ _ _ ⟨t.val * 512 + x0.val, h⟩ x1 ?_ ?_).symm
    all_goals (blk_simp [e10] <;> (try dsimp only) <;> try omega)

end Cert.MergeIdeal.Grad

end
-- ==== Proof.ConvValue.lean ====
/- Hand-written, untrusted: the value of the gradient of the gated convolution, `Cert.ConvIdeal`, at the reals. -/
module

public import proofs.«01_k».proof.Proof.Gen.ConvIdeal.Value
public import proofs.«01_k».proof.Proof.Gen.ConvRefIdeal.Read
public import proofs.«01_k».proof.Proof.Reals
public import proofs.«01_k».proof.Proof.Norm

@[expose] public section

set_option maxRecDepth 16384

noncomputable section

open Idealize.ShloMosaic Idealize.ShloMosaic.TcCoe Idealize.SL.Sem
open Idealize.ShloMosaic.Pipeline (Dat)

namespace Cert.ConvIdeal.Grad

open Cert.ConvIdeal Cert.ConvIdeal.Gen

variable (m : (ℓ : Loc nD τ sig) → Buf (Elt Ideal) ℓ)

/-- The convolution's input, the cotangent of its output, and its input `n` rows earlier, in column `k`. -/
def cu (x1 : FVec Ideal Cert.ConvRefIdeal.S4096x5120 .bf16) (k : Fin 512) (r : Fin 4096) : EReal := x1 (ix2 r ⟨2560 + k.val, by omega⟩) * x1 (ix2 r ⟨1536 + k.val, by omega⟩)
def dyc (x0 : FVec Ideal Cert.ConvRefIdeal.S4096x512 .bf16) (x1 : FVec Ideal Cert.ConvRefIdeal.S4096x5120 .bf16) (k : Fin 512) (r : Fin 4096) : EReal := x1 (ix2 r ⟨2048 + k.val, by omega⟩) * x0 (ix2 r k)
def down (x1 : FVec Ideal Cert.ConvRefIdeal.S4096x5120 .bf16) (k : Fin 512) (n r : ℕ) : EReal := if r < n then 0 else Norm.ext (cu x1 k) (r - n)

/-- The cotangent of the convolution's input: the taps applied backward. -/
def dcu (x0 : FVec Ideal Cert.ConvRefIdeal.S4096x512 .bf16) (x1 : FVec Ideal Cert.ConvRefIdeal.S4096x5120 .bf16) (x2 : FVec Ideal Cert.ConvRefIdeal.S3x512 .f32) (k : Fin 512) (r : ℕ) : EReal :=
  x2 (ix2 2 k) * Norm.ext (dyc x0 x1 k) r + (x2 (ix2 1 k) * Norm.ext (dyc x0 x1 k) (r + 1) + x2 (ix2 0 k) * Norm.ext (dyc x0 x1 k) (r + 2))

/-- The convolution. -/
def conv (x1 : FVec Ideal Cert.ConvRefIdeal.S4096x5120 .bf16) (x2 : FVec Ideal Cert.ConvRefIdeal.S3x512 .f32) (k : Fin 512) (r : ℕ) : EReal :=
  x2 (ix2 0 k) * down x1 k 2 r + x2 (ix2 1 k) * down x1 k 1 r + x2 (ix2 2 k) * Norm.ext (cu x1 k) r

/-- Row `r`'s share of the gradient of tap `a`; rows 3 to 7 are padding. -/
def tap (x0 : FVec Ideal Cert.ConvRefIdeal.S4096x512 .bf16) (x1 : FVec Ideal Cert.ConvRefIdeal.S4096x5120 .bf16) (k : Fin 512) (a : ℕ) (r : ℕ) : EReal :=
  if a = 0 then Norm.ext (dyc x0 x1 k) r * down x1 k 2 r else if a = 1 then Norm.ext (dyc x0 x1 k) r * down x1 k 1 r
  else if a = 2 then Norm.ext (dyc x0 x1 k) r * Norm.ext (cu x1 k) r else 0

theorem ext_pos {n : ℕ} (f : Fin n → EReal) (r : ℕ) (h : r < n) : Norm.ext f r = f ⟨r, h⟩ := Norm.ext_val f ⟨r, h⟩

/-- A tap applied to a row that may lie beyond the last one. -/
theorem tap_ext (w : EReal) (f : Fin 4096 → EReal) (r : ℕ) (p : Prop) [Decidable p] (g : p → Fin 4096) (hp : p ↔ r < 4096) (hg : ∀ h, (g h).val = r) :
    (if h : p then w * f (g h) else 0) = w * Norm.ext f r := by
  by_cases h : p
  · rw [dif_pos h, ext_pos f r (hp.mp h)]
    exact congrArg (fun z => w * f z) (Fin.ext (hg h))
  · rw [dif_neg h, Norm.ext, dif_neg (fun h' => h (hp.mpr h')), mul_zero]

theorem down_eq (x1 : FVec Ideal Cert.ConvRefIdeal.S4096x5120 .bf16) (k : Fin 512) (n r : ℕ) (p : Prop) [Decidable p] (g : ¬p → Fin 4096) (hp : p ↔ r < n) (hg : ∀ h, (g h).val = r - n) :
    (if h : p then (0 : EReal) else cu x1 k (g h)) = down x1 k n r := by
  unfold down
  by_cases h : p
  · rw [dif_pos h, if_pos (hp.mp h)]
  · rw [dif_neg h, if_neg (fun h' => h (hp.mpr h')), ext_pos _ (r - n) (by rw [← hg h]; exact (g h).isLt)]
    exact congrArg (cu x1 k) (Fin.ext (hg h))

/-- The two sums of taps with their bounds written out. -/
theorem dcu_eq (x0 : FVec Ideal Cert.ConvRefIdeal.S4096x512 .bf16) (x1 : FVec Ideal Cert.ConvRefIdeal.S4096x5120 .bf16) (x2 : FVec Ideal Cert.ConvRefIdeal.S3x512 .f32) (k : Fin 512) (r : Fin 4096) :
    x2 (ix2 2 k) * dyc x0 x1 k r
      + ((if h : (1 ≤ 2 + r.val ∧ 2 + r.val - 1 < 4096) ∧ k.val < 512 then x2 (ix2 1 k) * dyc x0 x1 k ⟨2 + r.val - 1, h.1.2⟩ else 0)
        + (if h : 2 + r.val < 4096 ∧ k.val < 512 then x2 (ix2 0 k) * dyc x0 x1 k ⟨2 + r.val, h.1⟩ else 0)) = dcu x0 x1 x2 k r := by
  unfold dcu
  rw [Norm.ext_val]
  exact congrArg₂ (· + ·) rfl (congrArg₂ (· + ·) (tap_ext _ _ _ _ _ (by omega) (fun h => by dsimp only; omega)) (tap_ext _ _ _ _ _ (by omega) (fun h => by dsimp only; omega)))
theorem conv_eq (x1 : FVec Ideal Cert.ConvRefIdeal.S4096x5120 .bf16) (x2 : FVec Ideal Cert.ConvRefIdeal.S3x512 .f32) (k : Fin 512) (r : Fin 4096) :
    x2 (ix2 0 k) * (if h : r.val < 2 then 0 else cu x1 k ⟨r.val - 2, by omega⟩) + x2 (ix2 1 k) * (if h : 1 + r.val < 2 then 0 else cu x1 k ⟨1 + r.val - 2, by omega⟩)
      + x2 (ix2 2 k) * cu x1 k r = conv x1 x2 k r := by
  unfold conv
  rw [Norm.ext_val, down_eq x1 k 2 r.val _ _ Iff.rfl (fun h => rfl), down_eq x1 k 1 r.val _ _ (by omega) (fun h => by dsimp only; omega)]

open Cert.ConvRefIdeal.Read in
/-- The reference's gradient of the projection's three parts. -/
theorem ref68a (x0 : FVec Ideal Cert.ConvRefIdeal.S4096x512 .bf16) (x1 : FVec Ideal Cert.ConvRefIdeal.S4096x5120 .bf16) (x2 : FVec Ideal Cert.ConvRefIdeal.S3x512 .f32) (j : Cert.ConvRefIdeal.S4096x1536.Idx) (r : Fin 4096) (k : Fin 512) (hr : r.val = j 0) (hk : j 1 = k.val) :
    val_main_v68 (F := Ideal) x0 x1 x2 j = x1 (ix2 r ⟨2560 + k.val, by omega⟩) * dcu x0 x1 x2 k r := by
  idx_vars j
  obtain rfl : r = j0 := Fin.ext hr
  have hk : j1.val = k.val := hk
  pointwise [val_main_v0, val_main_v1, val_main_v2, val_main_v3, val_main_v4, val_main_v5, val_main_v6, val_main_cst, val_main_v7, val_main_v8, val_main_cst_0, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_cst_1, val_main_v36, val_main_v37, val_main_cst_2, val_main_v38, val_main_v39, val_main_cst_3, val_main_v40, val_main_v41, val_main_v42, val_main_v43, val_main_cst_4, val_main_v44, val_main_v45, val_main_cst_5, val_main_v46, val_main_cst_6, val_main_v47, val_main_v48, val_main_cst_7, val_main_v49, val_main_v50, val_main_v51, val_main_v52, val_main_v53, val_main_cst_8, val_main_v54, val_main_v55, val_main_cst_9, val_main_v56, val_main_cst_10, val_main_v57, val_main_v58, val_main_v59, val_main_cst_11, val_main_v60, val_main_v61, val_main_v62, val_main_v63, val_main_v64, val_main_v65, val_main_v66, val_main_v67, val_main_v68, val_main_cst_12, val_main_v69, val_main_v70]
  rw [dif_pos (by omega)]
  simp only [hk]
  refine Eq.trans ?_ (congrArg _ (dcu_eq x0 x1 x2 k r))
  rfl
open Cert.ConvRefIdeal.Read in
theorem ref68b (x0 : FVec Ideal Cert.ConvRefIdeal.S4096x512 .bf16) (x1 : FVec Ideal Cert.ConvRefIdeal.S4096x5120 .bf16) (x2 : FVec Ideal Cert.ConvRefIdeal.S3x512 .f32) (j : Cert.ConvRefIdeal.S4096x1536.Idx) (r : Fin 4096) (k : Fin 512) (hr : r.val = j 0) (hk : j 1 = 512 + k.val) :
    val_main_v68 (F := Ideal) x0 x1 x2 j = x0 (ix2 r k) * conv x1 x2 k r := by
  idx_vars j
  obtain rfl : r = j0 := Fin.ext hr
  have hk : j1.val = 512 + k.val := hk
  pointwise [val_main_v0, val_main_v1, val_main_v2, val_main_v3, val_main_v4, val_main_v5, val_main_v6, val_main_cst, val_main_v7, val_main_v8, val_main_cst_0, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_cst_1, val_main_v36, val_main_v37, val_main_cst_2, val_main_v38, val_main_v39, val_main_cst_3, val_main_v40, val_main_v41, val_main_v42, val_main_v43, val_main_cst_4, val_main_v44, val_main_v45, val_main_cst_5, val_main_v46, val_main_cst_6, val_main_v47, val_main_v48, val_main_cst_7, val_main_v49, val_main_v50, val_main_v51, val_main_v52, val_main_v53, val_main_cst_8, val_main_v54, val_main_v55, val_main_cst_9, val_main_v56, val_main_cst_10, val_main_v57, val_main_v58, val_main_v59, val_main_cst_11, val_main_v60, val_main_v61, val_main_v62, val_main_v63, val_main_v64, val_main_v65, val_main_v66, val_main_v67, val_main_v68, val_main_cst_12, val_main_v69, val_main_v70]
  rw [dif_neg (by omega), dif_pos (by omega)]
  simp only [hk, Nat.add_sub_cancel_left]
  refine Eq.trans ?_ (congrArg _ (conv_eq x1 x2 k r))
  rfl
open Cert.ConvRefIdeal.Read in
theorem ref68c (x0 : FVec Ideal Cert.ConvRefIdeal.S4096x512 .bf16) (x1 : FVec Ideal Cert.ConvRefIdeal.S4096x5120 .bf16) (x2 : FVec Ideal Cert.ConvRefIdeal.S3x512 .f32) (j : Cert.ConvRefIdeal.S4096x1536.Idx) (r : Fin 4096) (k : Fin 512) (hr : r.val = j 0) (hk : j 1 = 1024 + k.val) :
    val_main_v68 (F := Ideal) x0 x1 x2 j = dcu x0 x1 x2 k r * x1 (ix2 r ⟨1536 + k.val, by omega⟩) := by
  idx_vars j
  obtain rfl : r = j0 := Fin.ext hr
  have hk : j1.val = 1024 + k.val := hk
  pointwise [val_main_v0, val_main_v1, val_main_v2, val_main_v3, val_main_v4, val_main_v5, val_main_v6, val_main_cst, val_main_v7, val_main_v8, val_main_cst_0, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_cst_1, val_main_v36, val_main_v37, val_main_cst_2, val_main_v38, val_main_v39, val_main_cst_3, val_main_v40, val_main_v41, val_main_v42, val_main_v43, val_main_cst_4, val_main_v44, val_main_v45, val_main_cst_5, val_main_v46, val_main_cst_6, val_main_v47, val_main_v48, val_main_cst_7, val_main_v49, val_main_v50, val_main_v51, val_main_v52, val_main_v53, val_main_cst_8, val_main_v54, val_main_v55, val_main_cst_9, val_main_v56, val_main_cst_10, val_main_v57, val_main_v58, val_main_v59, val_main_cst_11, val_main_v60, val_main_v61, val_main_v62, val_main_v63, val_main_v64, val_main_v65, val_main_v66, val_main_v67, val_main_v68, val_main_cst_12, val_main_v69, val_main_v70]
  rw [dif_neg (by omega), dif_neg (by omega)]
  simp only [show j1.val - 512 - 512 = k.val by omega]
  refine Eq.trans ?_ (congrArg (· * _) (dcu_eq x0 x1 x2 k r))
  rfl

/-- The first two rows take no share in the earliest tap. -/
theorem tap0_sum (x0 : FVec Ideal Cert.ConvRefIdeal.S4096x512 .bf16) (x1 : FVec Ideal Cert.ConvRefIdeal.S4096x5120 .bf16) (k : Fin 512) :
    ∑ x : Fin 4094, dyc x0 x1 k ⟨2 + x.val, by omega⟩ * cu x1 k ⟨x.val, by omega⟩ = ∑ r : Fin 4096, Norm.ext (dyc x0 x1 k) r * down x1 k 2 r := by
  refine Eq.trans ?_ (Finset.sum_range (n := 4096) fun r => Norm.ext (dyc x0 x1 k) r * down x1 k 2 r)
  refine Eq.trans ?_ (Finset.sum_range_add (fun r => Norm.ext (dyc x0 x1 k) r * down x1 k 2 r) 2 4094).symm
  have z : ∑ r ∈ Finset.range 2, Norm.ext (dyc x0 x1 k) r * down x1 k 2 r = 0 :=
    Finset.sum_eq_zero fun r hr => by rw [down, if_pos (Finset.mem_range.mp hr), mul_zero]
  rw [z, zero_add, Finset.sum_range]
  refine Finset.sum_congr rfl fun x _ => ?_
  rw [down, if_neg (by omega), ext_pos _ (2 + x.val) (by omega), ext_pos _ (2 + x.val - 2) (by omega)]
  exact congrArg (dyc x0 x1 k _ * cu x1 k ·) (Fin.ext (by dsimp only; omega))

open Cert.ConvRefIdeal.Read in
/-- The reference's gradient of the taps, padded to eight rows. -/
theorem ref70 (x0 : FVec Ideal Cert.ConvRefIdeal.S4096x512 .bf16) (x1 : FVec Ideal Cert.ConvRefIdeal.S4096x5120 .bf16) (j : Cert.ConvRefIdeal.S8x512.Idx) (k : Fin 512) (hk : k.val = j 1) :
    val_main_v70 (F := Ideal) x0 x1 j = ∑ r : Fin 4096, tap x0 x1 k (j 0) r := by
  idx_vars j
  obtain rfl : k = j1 := Fin.ext hk
  pointwise [val_main_v0, val_main_v1, val_main_v2, val_main_v3, val_main_v4, val_main_v5, val_main_v6, val_main_cst, val_main_v7, val_main_v8, val_main_cst_0, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_cst_1, val_main_v36, val_main_v37, val_main_cst_2, val_main_v38, val_main_v39, val_main_cst_3, val_main_v40, val_main_v41, val_main_v42, val_main_v43, val_main_cst_4, val_main_v44, val_main_v45, val_main_cst_5, val_main_v46, val_main_cst_6, val_main_v47, val_main_v48, val_main_cst_7, val_main_v49, val_main_v50, val_main_v51, val_main_v52, val_main_v53, val_main_cst_8, val_main_v54, val_main_v55, val_main_cst_9, val_main_v56, val_main_cst_10, val_main_v57, val_main_v58, val_main_v59, val_main_cst_11, val_main_v60, val_main_v61, val_main_v62, val_main_v63, val_main_v64, val_main_v65, val_main_v66, val_main_v67, val_main_v68, val_main_cst_12, val_main_v69, val_main_v70]
  unfold tap
  obtain ⟨n, hn⟩ := j0
  dsimp only
  have hd : ∀ r : Fin 4096, Norm.ext (dyc x0 x1 k) r.val = x1 (ix2 r ⟨2048 + k.val, by omega⟩) * x0 (ix2 r k) := fun r => Norm.ext_val _ r
  obtain rfl | rfl | rfl | h : n = 0 ∨ n = 1 ∨ n = 2 ∨ 3 ≤ n := by omega
  · simp only [Fin.sum_univ_one, if_true]
    norm_num
    exact tap0_sum x0 x1 k
  · simp only [Fin.sum_univ_one]
    norm_num
    refine Finset.sum_congr rfl fun r _ => ?_
    rw [hd]
    by_cases h : r = 0
    · rw [dif_pos h, down, if_pos (by rw [h]; exact Nat.one_pos), mul_zero]
    · have h' : r.val ≠ 0 := fun h' => h (Fin.ext h')
      have e : cu x1 k ⟨1 + r.val - 2, by omega⟩ = down x1 k 1 r.val := by
        rw [down, if_neg (by omega), ext_pos _ _ (show r.val - 1 < 4096 by omega)]
        exact congrArg (cu x1 k) (Fin.ext (by dsimp only; omega))
      rw [dif_neg h]
      exact congrArg₂ (· * ·) rfl e
  · simp only [Fin.sum_univ_one]
    norm_num
    refine Finset.sum_congr rfl fun r _ => ?_
    rw [hd, Norm.ext_val]
    rfl
  · rw [dif_neg (by omega)]
    simp only [if_neg (show ¬n = 0 by omega), if_neg (show ¬n = 1 by omega), if_neg (show ¬n = 2 by omega), Finset.sum_const_zero]

/-- Every window's block index at every grid point. -/
theorem idx_val : ∀ t : Fin cfg0.N, win0_0.index t = ![t.val, 0] ∧ win0_1.index t = ![t.val, 3] ∧ win0_2.index t = ![t.val, 4]
    ∧ win0_3.index t = ![t.val, 5] ∧ win0_4.index t = ![t.val - 1, 3] ∧ win0_5.index t = ![t.val - 1, 5] ∧ win0_6.index t = ![min (t.val + 1) 7, 0]
    ∧ win0_7.index t = ![min (t.val + 1) 7, 4] ∧ win0_8.index t = ![0, 0] ∧ win0_9.index t = ![t.val, 0] ∧ win0_10.index t = ![0, 0] :=
  (by decide +kernel : ∀ t : Fin grid0.N, _)

/-- Block `t` of the inputs, as rows of the arrays. -/
theorem in0 (c : Dev nD) (t : Fin cfg0.N) (a k : Fin 512) (h : t.val * 512 + a.val < 4096) : (iblk m c 0 t (ix2 a k) : EReal) = (m ((c : Thread nD τ).loc main_arg0)) (ix2 ⟨t.val * 512 + a.val, h⟩ k) := by
  blk_ext [iblk, V, idx_val t]
theorem in1 (c : Dev nD) (t : Fin cfg0.N) (a k : Fin 512) (h : t.val * 512 + a.val < 4096) : (iblk m c 1 t (ix2 a k) : EReal) = (m ((c : Thread nD τ).loc main_arg1)) (ix2 ⟨t.val * 512 + a.val, h⟩ ⟨1536 + k.val, by omega⟩) := by
  blk_ext [iblk, V, idx_val t]
theorem in2 (c : Dev nD) (t : Fin cfg0.N) (a k : Fin 512) (h : t.val * 512 + a.val < 4096) : (iblk m c 2 t (ix2 a k) : EReal) = (m ((c : Thread nD τ).loc main_arg1)) (ix2 ⟨t.val * 512 + a.val, h⟩ ⟨2048 + k.val, by omega⟩) := by
  blk_ext [iblk, V, idx_val t]
theorem in3 (c : Dev nD) (t : Fin cfg0.N) (a k : Fin 512) (h : t.val * 512 + a.val < 4096) : (iblk m c 3 t (ix2 a k) : EReal) = (m ((c : Thread nD τ).loc main_arg1)) (ix2 ⟨t.val * 512 + a.val, h⟩ ⟨2560 + k.val, by omega⟩) := by
  blk_ext [iblk, V, idx_val t]
theorem in4 (c : Dev nD) (t : Fin cfg0.N) (a k : Fin 512) (h : (t.val - 1) * 512 + a.val < 4096) : (iblk m c 4 t (ix2 a k) : EReal) = (m ((c : Thread nD τ).loc main_arg1)) (ix2 ⟨(t.val - 1) * 512 + a.val, h⟩ ⟨1536 + k.val, by omega⟩) := by
  blk_ext [iblk, V, idx_val t]
theorem in5 (c : Dev nD) (t : Fin cfg0.N) (a k : Fin 512) (h : (t.val - 1) * 512 + a.val < 4096) : (iblk m c 5 t (ix2 a k) : EReal) = (m ((c : Thread nD τ).loc main_arg1)) (ix2 ⟨(t.val - 1) * 512 + a.val, h⟩ ⟨2560 + k.val, by omega⟩) := by
  blk_ext [iblk, V, idx_val t]
theorem in6 (c : Dev nD) (t : Fin cfg0.N) (a k : Fin 512) (h : min (t.val + 1) 7 * 512 + a.val < 4096) : (iblk m c 6 t (ix2 a k) : EReal) = (m ((c : Thread nD τ).loc main_arg0)) (ix2 ⟨min (t.val + 1) 7 * 512 + a.val, h⟩ k) := by
  blk_ext [iblk, V, idx_val t]
theorem in7 (c : Dev nD) (t : Fin cfg0.N) (a k : Fin 512) (h : min (t.val + 1) 7 * 512 + a.val < 4096) : (iblk m c 7 t (ix2 a k) : EReal) = (m ((c : Thread nD τ).loc main_arg1)) (ix2 ⟨min (t.val + 1) 7 * 512 + a.val, h⟩ ⟨2048 + k.val, by omega⟩) := by
  blk_ext [iblk, V, idx_val t]

theorem in8 (c : Dev nD) (t : Fin cfg0.N) (a : Fin 3) (k : Fin 512) : (iblk m c 8 t (ix2 a k) : EReal) = (m ((c : Thread nD τ).loc main_arg2)) (ix2 a k) := by
  blk_ext [iblk, V, idx_val t]

/-- The products of a block's rows, and of the rows before and after it. -/
theorem cu_at (c : Dev nD) (t : Fin cfg0.N) (a k : Fin 512) : ((k0_pay6 (iblk m c 1 t) (iblk m c 3 t)) (ix2 a k) : EReal) = Norm.ext (cu (m ((c : Thread nD τ).loc main_arg1)) k) (t.val * 512 + a.val) := by
  have ht : t.val < 8 := t.isLt
  have h : t.val * 512 + a.val < 4096 := by omega
  rw [ext_pos _ _ h]
  refine Eq.trans ?_ (congrArg₂ (· * ·) (in3 m c t a k h) (in1 m c t a k h))
  pointwise [k0_pay6, k0_pay5, k0_pay3]
theorem cup_at (c : Dev nD) (t : Fin cfg0.N) (a k : Fin 512) : (k0_pay7 (iblk m c 5 t) (iblk m c 4 t) (ix2 a k) : EReal) = Norm.ext (cu (m ((c : Thread nD τ).loc main_arg1)) k) ((t.val - 1) * 512 + a.val) := by
  have ht : t.val < 8 := t.isLt
  have h : (t.val - 1) * 512 + a.val < 4096 := by omega
  rw [ext_pos _ _ h]
  refine Eq.trans ?_ (congrArg₂ (· * ·) (in5 m c t a k h) (in4 m c t a k h))
  pointwise [k0_pay7]
theorem dyc_at (c : Dev nD) (t : Fin cfg0.N) (a k : Fin 512) : ((k0_pay15 (k0_pay4 (iblk m c 2 t)) (iblk m c 0 t)) (ix2 a k) : EReal) = Norm.ext (dyc (m ((c : Thread nD τ).loc main_arg0)) (m ((c : Thread nD τ).loc main_arg1)) k) (t.val * 512 + a.val) := by
  have ht : t.val < 8 := t.isLt
  have h : t.val * 512 + a.val < 4096 := by omega
  rw [ext_pos _ _ h]
  refine Eq.trans ?_ (congrArg₂ (· * ·) (in2 m c t a k h) (in0 m c t a k h))
  pointwise [k0_pay15, k0_pay14, k0_pay4]
  exact mul_comm _ _
theorem dycn_at (c : Dev nD) (t : Fin cfg0.N) (a k : Fin 512) : ((k0_pay16 (iblk m c 6 t) (iblk m c 7 t)) (ix2 a k) : EReal) = Norm.ext (dyc (m ((c : Thread nD τ).loc main_arg0)) (m ((c : Thread nD τ).loc main_arg1)) k) (min (t.val + 1) 7 * 512 + a.val) := by
  have ht : t.val < 8 := t.isLt
  have h : min (t.val + 1) 7 * 512 + a.val < 4096 := by omega
  rw [ext_pos _ _ h]
  refine Eq.trans ?_ (congrArg₂ (· * ·) (in7 m c t a k h) (in6 m c t a k h))
  pointwise [k0_pay16]
  exact mul_comm _ _

theorem slt_val : ∀ a : Fin 512, IntOp.cmpi .slt (BitVec.ofNat 32 a.val) 1#32 = (if a.val < 1 then 1#1 else 0#1) ∧ IntOp.cmpi .slt (BitVec.ofNat 32 a.val) 2#32 = (if a.val < 2 then 1#1 else 0#1)
    ∧ IntOp.cmpi .slt (BitVec.ofNat 32 a.val) 511#32 = (if a.val < 511 then 1#1 else 0#1) ∧ IntOp.cmpi .slt (BitVec.ofNat 32 a.val) 510#32 = (if a.val < 510 then 1#1 else 0#1) := by decide +kernel
theorem sge_val : ∀ a : Fin 512, IntOp.cmpi .sge (BitVec.ofNat 32 a.val) 1#32 = (if a.val < 1 then 0#1 else 1#1) ∧ IntOp.cmpi .sge (BitVec.ofNat 32 a.val) 2#32 = (if a.val < 2 then 0#1 else 1#1)
    ∧ IntOp.cmpi .sge (BitVec.ofNat 32 a.val) 511#32 = (if a.val < 511 then 0#1 else 1#1) ∧ IntOp.cmpi .sge (BitVec.ofNat 32 a.val) 510#32 = (if a.val < 510 then 0#1 else 1#1) := by decide +kernel
theorem first_val : ∀ t : Fin cfg0.N, Scalar.cmpi CmpIPredicate.eq (BitVec.ofNat 32 (grid0.coords t 0).val) 0#32 = (if t.val = 0 then 1#1 else 0#1)
    ∧ Scalar.cmpi CmpIPredicate.eq (BitVec.ofNat 32 (grid0.coords t 0).val) 7#32 = (if t.val = 7 then 1#1 else 0#1) :=
  (by decide +kernel : ∀ t : Fin grid0.N, _)

/-- The choices of the masks. -/
theorem down_sel (p q : Prop) [Decidable p] [Decidable q] (x y : EReal) :
    Scalar.select (IntOp.andi (if p then 1#1 else 0#1) (if q then 1#1 else 0#1)) 0 (Scalar.select (if q then 0#1 else 1#1) x y)
      = if q then if p then 0 else y else x := by
  by_cases hp : p <;> by_cases hq : q <;> simp [hp, hq, Scalar.select, IntOp.andi]
theorem up_sel (p q : Prop) [Decidable p] [Decidable q] (w x y : EReal) :
    Scalar.select (IntOp.andi (if p then 1#1 else 0#1) (if q then 0#1 else 1#1)) 0 (w * Scalar.select (if q then 1#1 else 0#1) x y)
      = w * if q then x else if p then 0 else y := by
  by_cases hp : p <;> by_cases hq : q <;> simp [hp, hq, Scalar.select, IntOp.andi]

/-- The block's rows shifted down and up. -/
theorem cu1_at (c : Dev nD) (t : Fin cfg0.N) (a k : Fin 512) : ((k0_pay8 (grid0.coords t) (iblk m c 1 t) (iblk m c 3 t) (iblk m c 5 t) (iblk m c 4 t)) (ix2 a k) : EReal) = down (m ((c : Thread nD τ).loc main_arg1)) k 1 (t.val * 512 + a.val) := by
  pointwise [k0_pay8]
  rw [(slt_val a).1, (sge_val a).1, (first_val t).1, down_sel, cu_at, cup_at]
  unfold down
  dsimp only
  split_ifs <;> first | rfl | (exfalso; omega) | exact congrArg _ (by omega)
theorem cu2_at (c : Dev nD) (t : Fin cfg0.N) (a k : Fin 512) : (k0_pay12 (k0_pay9 (iblk m c 1 t) (iblk m c 3 t) (iblk m c 5 t) (iblk m c 4 t)) (k0_pay10 (grid0.coords t)) k0_pay11 (ix2 a k) : EReal) = down (m ((c : Thread nD τ).loc main_arg1)) k 2 (t.val * 512 + a.val) := by
  pointwise [k0_pay12, k0_pay9, k0_pay10, k0_pay11]
  rw [(slt_val a).2.1, (sge_val a).2.1, (first_val t).1, down_sel, cu_at, cup_at]
  unfold down
  dsimp only
  split_ifs <;> first | rfl | (exfalso; omega) | exact congrArg _ (by omega)
theorem up_at (c : Dev nD) (t : Fin cfg0.N) (k : Fin 512) (r : ℕ) (q : Prop) [Decidable q] (i i' : Fin 512) (hi : q → r = t.val * 512 + i.val) (hi' : ¬q → r = (t.val + 1) * 512 + i'.val) :
    (if q then ((k0_pay15 (k0_pay4 (iblk m c 2 t)) (iblk m c 0 t)) (ix2 i k) : EReal) else if t.val = 7 then 0 else (k0_pay16 (iblk m c 6 t) (iblk m c 7 t)) (ix2 i' k)) = Norm.ext (dyc (m ((c : Thread nD τ).loc main_arg0)) (m ((c : Thread nD τ).loc main_arg1)) k) r := by
  have ht : t.val < 8 := t.isLt
  split_ifs with h1 h2
  · rw [dyc_at, hi h1]
  · rw [Norm.ext, dif_neg (by have := hi' h1; omega)]
  · rw [dycn_at, hi' h1]
    exact congrArg _ (by omega)
theorem up_form (p : Prop) [Decidable p] (q1 q2 : Prop) [Decidable q1] [Decidable q2] (w0 w1 w2 d0 x1 y1 x2 y2 D0 D1 D2 : EReal) (h0 : d0 = D0)
    (h1 : (if q1 then x1 else if p then 0 else y1) = D1) (h2 : (if q2 then x2 else if p then 0 else y2) = D2) :
    w2 * d0 + Scalar.select (IntOp.andi (if p then 1#1 else 0#1) (if q1 then 0#1 else 1#1)) 0 (w1 * Scalar.select (if q1 then 1#1 else 0#1) x1 y1)
      + Scalar.select (IntOp.andi (if p then 1#1 else 0#1) (if q2 then 0#1 else 1#1)) 0 (w0 * Scalar.select (if q2 then 1#1 else 0#1) x2 y2)
      = w2 * D0 + (w1 * D1 + w0 * D2) := by
  rw [up_sel, up_sel, h0, h1, h2, add_assoc]
theorem dcu_at (c : Dev nD) (t : Fin cfg0.N) (a k : Fin 512) : ((k0_pay18 (Scalar.cmpi CmpIPredicate.eq (BitVec.ofNat 32 ↑(grid0.coords t 0)) 7#32) (k0_pay15 (k0_pay4 (iblk m c 2 t)) (iblk m c 0 t)) (k0_pay16 (iblk m c 6 t) (iblk m c 7 t)) (k0_pay17 (Scalar.cmpi CmpIPredicate.eq (BitVec.ofNat 32 ↑(grid0.coords t 0)) 7#32) (k0_pay4 (iblk m c 2 t)) (iblk m c 0 t) (iblk m c 6 t) (iblk m c 7 t) (View.ld (iblk m c 8 t) (Rect.unit ![2, 0] ![1, 512] inb_S3x512_S1x512_2_0)) (View.ld (iblk m c 8 t) (Rect.unit ![1, 0] ![1, 512] inb_S3x512_S1x512_1_0))) (View.ld (iblk m c 8 t) (Rect.unit ![0, 0] ![1, 512] inb_S3x512_S1x512_0_0))) (ix2 a k) : EReal) = dcu (m ((c : Thread nD τ).loc main_arg0)) (m ((c : Thread nD τ).loc main_arg1)) (m ((c : Thread nD τ).loc main_arg2)) k (t.val * 512 + a.val) := by
  have h1 := up_at m c t k (t.val * 512 + a.val + 1) (a.val < 511) ⟨(a.val + 512 - 511) % 512, by omega⟩ ⟨(a.val + 512 - 511) % 512, by omega⟩ (fun h => by dsimp only; omega) (fun h => by dsimp only; omega)
  have h2 := up_at m c t k (t.val * 512 + a.val + 2) (a.val < 510) ⟨(a.val + 512 - 510) % 512, by omega⟩ ⟨(a.val + 512 - 510) % 512, by omega⟩ (fun h => by dsimp only; omega) (fun h => by dsimp only; omega)
  refine Eq.trans ?_ (up_form (t.val = 7) _ _ _ _ _ _ _ _ _ _ _ _ _ (dyc_at m c t a k) h1 h2)
  rw [← (slt_val a).2.2.1, ← (slt_val a).2.2.2, ← (sge_val a).2.2.1, ← (sge_val a).2.2.2, ← (first_val t).2, ← in8 m c t 0 k, ← in8 m c t 1 k, ← in8 m c t 2 k]
  pointwise [k0_pay18, k0_pay17]
theorem conv_at (c : Dev nD) (t : Fin cfg0.N) (a k : Fin 512) : ((k0_pay13 (k0_pay6 (iblk m c 1 t) (iblk m c 3 t)) (k0_pay8 (grid0.coords t) (iblk m c 1 t) (iblk m c 3 t) (iblk m c 5 t) (iblk m c 4 t)) (k0_pay9 (iblk m c 1 t) (iblk m c 3 t) (iblk m c 5 t) (iblk m c 4 t)) (k0_pay10 (grid0.coords t)) k0_pay11 (View.ld (iblk m c 8 t) (Rect.unit ![0, 0] ![1, 512] inb_S3x512_S1x512_0_0)) (View.ld (iblk m c 8 t) (Rect.unit ![1, 0] ![1, 512] inb_S3x512_S1x512_1_0)) (View.ld (iblk m c 8 t) (Rect.unit ![2, 0] ![1, 512] inb_S3x512_S1x512_2_0))) (ix2 a k) : EReal) = conv (m ((c : Thread nD τ).loc main_arg1)) (m ((c : Thread nD τ).loc main_arg2)) k (t.val * 512 + a.val) := by
  unfold conv
  rw [← cu1_at, ← cu2_at, ← cu_at, ← in8 m c t 0 k, ← in8 m c t 1 k, ← in8 m c t 2 k]
  pointwise [k0_pay13]

/-- The three parts a grid point writes, in the body's own words. -/
@[irreducible] def dc (c : Dev nD) (t : Fin cfg0.N) : FVec Ideal S512x512 .f32 := (k0_pay18 (Scalar.cmpi CmpIPredicate.eq (BitVec.ofNat 32 ↑(grid0.coords t 0)) 7#32) (k0_pay15 (k0_pay4 (iblk m c 2 t)) (iblk m c 0 t)) (k0_pay16 (iblk m c 6 t) (iblk m c 7 t)) (k0_pay17 (Scalar.cmpi CmpIPredicate.eq (BitVec.ofNat 32 ↑(grid0.coords t 0)) 7#32) (k0_pay4 (iblk m c 2 t)) (iblk m c 0 t) (iblk m c 6 t) (iblk m c 7 t) (View.ld (iblk m c 8 t) (Rect.unit ![2, 0] ![1, 512] inb_S3x512_S1x512_2_0)) (View.ld (iblk m c 8 t) (Rect.unit ![1, 0] ![1, 512] inb_S3x512_S1x512_1_0))) (View.ld (iblk m c 8 t) (Rect.unit ![0, 0] ![1, 512] inb_S3x512_S1x512_0_0)))
theorem dc_at (c : Dev nD) (t : Fin cfg0.N) (a k : Fin 512) : dc m c t (ix2 a k) = dcu (m ((c : Thread nD τ).loc main_arg0)) (m ((c : Thread nD τ).loc main_arg1)) (m ((c : Thread nD τ).loc main_arg2)) k (t.val * 512 + a.val) := by
  unfold dc
  exact dcu_at m c t a k
/-- The product of two numbers. -/
def mulr (x y : EReal) : EReal := x * y

/-- The three parts of a grid point's block. -/
theorem dgc_at (c : Dev nD) (t : Fin cfg0.N) (a k : Fin 512) (h : t.val * 512 + a.val < 4096) :
    (k0_pay21 (Scalar.cmpi CmpIPredicate.eq (BitVec.ofNat 32 ↑(grid0.coords t 0)) 7#32) (k0_pay3 (iblk m c 1 t)) (k0_pay15 (k0_pay4 (iblk m c 2 t)) (iblk m c 0 t)) (k0_pay16 (iblk m c 6 t) (iblk m c 7 t)) (k0_pay17 (Scalar.cmpi CmpIPredicate.eq (BitVec.ofNat 32 ↑(grid0.coords t 0)) 7#32) (k0_pay4 (iblk m c 2 t)) (iblk m c 0 t) (iblk m c 6 t) (iblk m c 7 t) (View.ld (iblk m c 8 t) (Rect.unit ![2, 0] ![1, 512] inb_S3x512_S1x512_2_0)) (View.ld (iblk m c 8 t) (Rect.unit ![1, 0] ![1, 512] inb_S3x512_S1x512_1_0))) (View.ld (iblk m c 8 t) (Rect.unit ![0, 0] ![1, 512] inb_S3x512_S1x512_0_0)) (ix2 a k) : EReal) = dcu (m ((c : Thread nD τ).loc main_arg0)) (m ((c : Thread nD τ).loc main_arg1)) (m ((c : Thread nD τ).loc main_arg2)) k (t.val * 512 + a.val) * (m ((c : Thread nD τ).loc main_arg1)) (ix2 ⟨t.val * 512 + a.val, h⟩ ⟨1536 + k.val, by omega⟩) := by
  refine Eq.trans (b := (dc m c t (ix2 a k) : EReal) * (iblk m c 1 t (ix2 a k) : EReal)) ?_ (congrArg₂ (· * ·) (dc_at m c t a k) (in1 m c t a k h))
  unfold dc
  pointwise [k0_pay21, k0_pay18, k0_pay3]
theorem du_at (c : Dev nD) (t : Fin cfg0.N) (a k : Fin 512) (h : t.val * 512 + a.val < 4096) :
    (k0_pay19 (Scalar.cmpi CmpIPredicate.eq (BitVec.ofNat 32 ↑(grid0.coords t 0)) 7#32) (k0_pay5 (iblk m c 3 t)) (k0_pay15 (k0_pay4 (iblk m c 2 t)) (iblk m c 0 t)) (k0_pay16 (iblk m c 6 t) (iblk m c 7 t)) (k0_pay17 (Scalar.cmpi CmpIPredicate.eq (BitVec.ofNat 32 ↑(grid0.coords t 0)) 7#32) (k0_pay4 (iblk m c 2 t)) (iblk m c 0 t) (iblk m c 6 t) (iblk m c 7 t) (View.ld (iblk m c 8 t) (Rect.unit ![2, 0] ![1, 512] inb_S3x512_S1x512_2_0)) (View.ld (iblk m c 8 t) (Rect.unit ![1, 0] ![1, 512] inb_S3x512_S1x512_1_0))) (View.ld (iblk m c 8 t) (Rect.unit ![0, 0] ![1, 512] inb_S3x512_S1x512_0_0)) (ix2 a k) : EReal) = mulr ((m ((c : Thread nD τ).loc main_arg1)) (ix2 ⟨t.val * 512 + a.val, h⟩ ⟨2560 + k.val, by omega⟩)) (dcu (m ((c : Thread nD τ).loc main_arg0)) (m ((c : Thread nD τ).loc main_arg1)) (m ((c : Thread nD τ).loc main_arg2)) k (t.val * 512 + a.val)) := by
  refine Eq.trans (b := (dc m c t (ix2 a k) : EReal) * (iblk m c 3 t (ix2 a k) : EReal)) ?_ ((congrArg₂ (· * ·) (dc_at m c t a k) (in3 m c t a k h)).trans (mul_comm _ _))
  unfold dc
  pointwise [k0_pay19, k0_pay18, k0_pay5]
theorem dgb_at (c : Dev nD) (t : Fin cfg0.N) (a k : Fin 512) (h : t.val * 512 + a.val < 4096) :
    (k0_pay20 (k0_pay13 (k0_pay6 (iblk m c 1 t) (iblk m c 3 t)) (k0_pay8 (grid0.coords t) (iblk m c 1 t) (iblk m c 3 t) (iblk m c 5 t) (iblk m c 4 t)) (k0_pay9 (iblk m c 1 t) (iblk m c 3 t) (iblk m c 5 t) (iblk m c 4 t)) (k0_pay10 (grid0.coords t)) k0_pay11 (View.ld (iblk m c 8 t) (Rect.unit ![0, 0] ![1, 512] inb_S3x512_S1x512_0_0)) (View.ld (iblk m c 8 t) (Rect.unit ![1, 0] ![1, 512] inb_S3x512_S1x512_1_0)) (View.ld (iblk m c 8 t) (Rect.unit ![2, 0] ![1, 512] inb_S3x512_S1x512_2_0))) (k0_pay14 (iblk m c 0 t)) (ix2 a k) : EReal) = mulr ((m ((c : Thread nD τ).loc main_arg0)) (ix2 ⟨t.val * 512 + a.val, h⟩ k)) (conv (m ((c : Thread nD τ).loc main_arg1)) (m ((c : Thread nD τ).loc main_arg2)) k (t.val * 512 + a.val)) := by
  refine Eq.trans (b := mulr (iblk m c 0 t (ix2 a k)) ((k0_pay13 (k0_pay6 (iblk m c 1 t) (iblk m c 3 t)) (k0_pay8 (grid0.coords t) (iblk m c 1 t) (iblk m c 3 t) (iblk m c 5 t) (iblk m c 4 t)) (k0_pay9 (iblk m c 1 t) (iblk m c 3 t) (iblk m c 5 t) (iblk m c 4 t)) (k0_pay10 (grid0.coords t)) k0_pay11 (View.ld (iblk m c 8 t) (Rect.unit ![0, 0] ![1, 512] inb_S3x512_S1x512_0_0)) (View.ld (iblk m c 8 t) (Rect.unit ![1, 0] ![1, 512] inb_S3x512_S1x512_1_0)) (View.ld (iblk m c 8 t) (Rect.unit ![2, 0] ![1, 512] inb_S3x512_S1x512_2_0))) (ix2 a k))) ?_ (congrArg₂ mulr (in0 m c t a k h) (conv_at m c t a k))
  unfold mulr
  pointwise [k0_pay20, k0_pay14]

/-- One grid point's share of the taps' gradient, added to `v`. -/
@[irreducible] def dw (c : Dev nD) (t : Fin cfg0.N) (v : FVec Ideal S8x512 .f32) : FVec Ideal S8x512 .f32 :=
  k0_pay2 (k0_pay6 (iblk m c 1 t) (iblk m c 3 t)) (k0_pay15 (k0_pay4 (iblk m c 2 t)) (iblk m c 0 t)) (iota Kind.tc S8x512 32 [0] iota_S8x512_d0_w32) (k0_pay22 (k0_pay12 (k0_pay9 (iblk m c 1 t) (iblk m c 3 t) (iblk m c 5 t) (iblk m c 4 t)) (k0_pay10 (grid0.coords t)) k0_pay11) (k0_pay15 (k0_pay4 (iblk m c 2 t)) (iblk m c 0 t))) k0_pay23 (k0_pay24 (k0_pay8 (grid0.coords t) (iblk m c 1 t) (iblk m c 3 t) (iblk m c 5 t) (iblk m c 4 t)) (k0_pay15 (k0_pay4 (iblk m c 2 t)) (iblk m c 0 t))) v

/-- What a grid point leaves. -/
theorem sums_first (c : Dev nD) (t : Fin cfg0.N) (h0 : t.val % 8 = 0) : (outsAt0 m c t.val t.isLt).2 = dw m c t (k0_pay1 (F := Ideal)) := by
  rw [outsAt0_A m c t h0]
  frame_out
  unfold dw
  rfl
theorem sums_next (c : Dev nD) (t : Fin cfg0.N) (h0 : t.val % 8 ≠ 0) : (outsAt0 m c t.val t.isLt).2 = dw m c t (outsAt0 m c (t.val - 1) (by have := t.isLt; omega)).2 := by
  rw [outsAt0_B m c t h0]
  frame_out
  unfold dw
  rfl

theorem eq_val : ∀ a : Fin 8, IntOp.cmpi .eq (BitVec.ofNat 32 a.val) 0#32 = (if a.val = 0 then 1#1 else 0#1) ∧ IntOp.cmpi .eq (BitVec.ofNat 32 a.val) 1#32 = (if a.val = 1 then 1#1 else 0#1)
    ∧ IntOp.cmpi .eq (BitVec.ofNat 32 a.val) 2#32 = (if a.val = 2 then 1#1 else 0#1) := by decide +kernel

theorem select_one' (x y : EReal) : Scalar.select 1#1 x y = x := rfl
theorem select_zero' (x y : EReal) : Scalar.select 0#1 x y = y := rfl

/-- One grid point's share of each tap. -/
theorem tap_sel (n : ℕ) (f g h : Fin 512 → EReal) (x0 x1 : _) (k : Fin 512) (r : ℕ) (hf : ∀ x : Fin 512, f x = Norm.ext (dyc x0 x1 k) (r + x) * down x1 k 2 (r + x))
    (hg : ∀ x : Fin 512, g x = Norm.ext (dyc x0 x1 k) (r + x) * down x1 k 1 (r + x)) (hh : ∀ x : Fin 512, h x = Norm.ext (dyc x0 x1 k) (r + x) * Norm.ext (cu x1 k) (r + x)) :
    Scalar.select (if n = 0 then 1#1 else 0#1) (∑ x, f x) (0 : EReal) + Scalar.select (if n = 1 then 1#1 else 0#1) (∑ x, g x) 0 + Scalar.select (if n = 2 then 1#1 else 0#1) (∑ x, h x) 0
      = ∑ x : Fin 512, tap x0 x1 k n (r + x) := by
  unfold tap
  simp only [hf, hg, hh]
  obtain rfl | rfl | rfl | h : n = 0 ∨ n = 1 ∨ n = 2 ∨ 3 ≤ n := by omega
  · rw [if_pos rfl, if_neg (by decide), if_neg (by decide), select_one', select_zero', select_zero', add_zero, add_zero]
    simp only [if_true]
  · rw [if_neg (by decide), if_pos rfl, if_neg (by decide), select_one', select_zero', select_zero', add_zero, zero_add]
    simp only [if_true, if_neg one_ne_zero]
  · rw [if_neg (by decide), if_neg (by decide), if_pos rfl, select_one', select_zero', select_zero', add_zero, zero_add]
    simp only [if_true, if_neg two_ne_zero, if_neg (by decide : ¬(2 : ℕ) = 1)]
  · rw [if_neg (by omega), if_neg (by omega), if_neg (by omega)]
    simp [Scalar.select, show n ≠ 0 by omega, show n ≠ 1 by omega, show n ≠ 2 by omega]
theorem dw_at (c : Dev nD) (t : Fin cfg0.N) (v : FVec Ideal S8x512 .f32) (a : Fin 8) (k : Fin 512) :
    dw m c t v (ix2 a k) = v (ix2 a k) + ∑ x : Fin 512, tap (m ((c : Thread nD τ).loc main_arg0)) (m ((c : Thread nD τ).loc main_arg1)) k a.val (t.val * 512 + x.val) := by
  refine Eq.trans ?_ (congrArg (v (ix2 a k) + ·) (tap_sel a.val (fun x => (k0_pay15 (k0_pay4 (iblk m c 2 t)) (iblk m c 0 t)) (ix2 x k) * k0_pay12 (k0_pay9 (iblk m c 1 t) (iblk m c 3 t) (iblk m c 5 t) (iblk m c 4 t)) (k0_pay10 (grid0.coords t)) k0_pay11 (ix2 x k)) (fun x => (k0_pay15 (k0_pay4 (iblk m c 2 t)) (iblk m c 0 t)) (ix2 x k) * (k0_pay8 (grid0.coords t) (iblk m c 1 t) (iblk m c 3 t) (iblk m c 5 t) (iblk m c 4 t)) (ix2 x k)) (fun x => (k0_pay15 (k0_pay4 (iblk m c 2 t)) (iblk m c 0 t)) (ix2 x k) * (k0_pay6 (iblk m c 1 t) (iblk m c 3 t)) (ix2 x k)) _ _ k (t.val * 512)
    (fun x => by rw [dyc_at, cu2_at]) (fun x => by rw [dyc_at, cu1_at]) (fun x => by rw [dyc_at, cu_at])))
  rw [← (eq_val a).1, ← (eq_val a).2.1, ← (eq_val a).2.2]
  unfold dw
  pointwise [k0_pay2, k0_pay22, k0_pay23, k0_pay24]

/-- The taps' gradient after grid point `n`: the sum over the tiles so far. -/
theorem taps_acc (c : Dev nD) (a : Fin 8) (k : Fin 512) (n : ℕ) (h : n < cfg0.N) :
    (outsAt0 m c n h).2 (ix2 a k) = ∑ t ∈ Finset.range (n + 1), ∑ x : Fin 512, tap (m ((c : Thread nD τ).loc main_arg0)) (m ((c : Thread nD τ).loc main_arg1)) k a.val (t * 512 + x.val) := by
  refine Norm.acc (N := cfg0.N) (fun n h => (outsAt0 m c n h).2 (ix2 a k)) (fun t => ∑ x : Fin 512, tap (m ((c : Thread nD τ).loc main_arg0)) (m ((c : Thread nD τ).loc main_arg1)) k a.val (t * 512 + x.val)) (fun h => ?_) (fun n h => ?_) n h
  · refine (congrFun (sums_first m c ⟨0, h⟩ (by rfl)) _).trans ((dw_at m c _ _ _ _).trans ?_)
    pointwise [k0_pay1]
  · have hn : n + 1 < 8 := h
    exact (congrFun (sums_next m c ⟨n + 1, h⟩ (by dsimp only; omega)) _).trans (dw_at m c ⟨n + 1, h⟩ _ _ _)

/-- The gradient of the projection's parts the call leaves is the reference's. -/
theorem final9 (c : Dev nD) : (dats m 0 c).arrAt 9 cfg0.N = Cert.ConvRefIdeal.Read.val_main_v68 (F := Ideal) (m ((c : Thread nD τ).loc main_arg0)) (m ((c : Thread nD τ).loc main_arg1)) (m ((c : Thread nD τ).loc main_arg2)) := by
  refine (dats m 0 c).arrAt_eq_of_covers 9 _ (by decide +kernel) fun t hf y => ?_
  have ht : t.val < 8 := t.isLt
  have e9 := (idx_val t).2.2.2.2.2.2.2.2.2.1
  blk_simp
  rw [after0_9]
  by_cases h0 : t.val % 8 = 0
  · rw [outsAt0_A m c t h0]
    frame_out
    canon_tiles x k
    · idx_vars x
      have h : t.val * 512 + x0.val < 4096 := by omega
      refine (dgc_at m c t x0 x1 h).trans (ref68c _ _ _ _ ⟨t.val * 512 + x0.val, h⟩ x1 ?_ ?_).symm
      all_goals (blk_simp [e9] <;> (try dsimp only) <;> try omega)
    · idx_vars x
      have h : t.val * 512 + x0.val < 4096 := by omega
      refine (dgb_at m c t x0 x1 h).trans (ref68b _ _ _ _ ⟨t.val * 512 + x0.val, h⟩ x1 ?_ ?_).symm
      all_goals (blk_simp [e9] <;> (try dsimp only) <;> try omega)
    · idx_vars x
      have h : t.val * 512 + x0.val < 4096 := by omega
      refine (du_at m c t x0 x1 h).trans (ref68a _ _ _ _ ⟨t.val * 512 + x0.val, h⟩ x1 ?_ ?_).symm
      all_goals (blk_simp [e9] <;> (try dsimp only) <;> try omega)
  · rw [outsAt0_B m c t h0]
    frame_out
    canon_tiles x k
    · idx_vars x
      have h : t.val * 512 + x0.val < 4096 := by omega
      refine (dgc_at m c t x0 x1 h).trans (ref68c _ _ _ _ ⟨t.val * 512 + x0.val, h⟩ x1 ?_ ?_).symm
      all_goals (blk_simp [e9] <;> (try dsimp only) <;> try omega)
    · idx_vars x
      have h : t.val * 512 + x0.val < 4096 := by omega
      refine (dgb_at m c t x0 x1 h).trans (ref68b _ _ _ _ ⟨t.val * 512 + x0.val, h⟩ x1 ?_ ?_).symm
      all_goals (blk_simp [e9] <;> (try dsimp only) <;> try omega)
    · idx_vars x
      have h : t.val * 512 + x0.val < 4096 := by omega
      refine (du_at m c t x0 x1 h).trans (ref68a _ _ _ _ ⟨t.val * 512 + x0.val, h⟩ x1 ?_ ?_).symm
      all_goals (blk_simp [e9] <;> (try dsimp only) <;> try omega)

/-- The taps' gradient the call leaves is the reference's. -/
theorem final10 (c : Dev nD) : (dats m 0 c).arrAt 10 cfg0.N = Cert.ConvRefIdeal.Read.val_main_v70 (F := Ideal) (m ((c : Thread nD τ).loc main_arg0)) (m ((c : Thread nD τ).loc main_arg1)) := by
  refine (dats m 0 c).arrAt_eq_of_after_last 10 t0_7 (by decide +kernel) _ fun j => ?_
  blk_simp
  rw [after0_10]
  refine (congrArg _ (ix2_eta _).symm).trans ((taps_acc m c _ _ _ _).trans ?_)
  refine Eq.trans ?_ (ref70 _ _ _ (j 1) ?_).symm
  · refine (Norm.sum_tiles 8 512 4096 rfl _).trans ?_
    refine Finset.sum_congr rfl fun r _ => congrArg (fun n => tap _ _ _ n _) ?_
    blk_simp [idx_val t0_7]
  all_goals (blk_simp [idx_val t0_7] <;> (try dsimp only) <;> try omega)

end Cert.ConvIdeal.Grad
end
-- ==== Proof.Softmax.lean ====
/- Hand-written, untrusted: a row's softmax and its gradient over the reals. -/
module

public import proofs.«01_k».proof.Proof.Norm

@[expose] public section

noncomputable section

open Idealize.ShloMosaic
open Cert.Reals

namespace Cert.Softmax

theorem low_f32 : Ideal.ofBits .f32 4286578688#32 = (⊥ : EReal) := by
  simp [Ideal.ofBits, Ideal.ieee]
theorem small_f32 : Ideal.ofBits .f32 1031798784#32 = ((1 / 16 : ℝ) : EReal) := by
  simp [Ideal.ofBits, Ideal.ieee, -EReal.coe_mul]; norm_num
theorem big_f32 : Ideal.ofBits .f32 1098907648#32 = ((16 : ℝ) : EReal) := by
  simp [Ideal.ofBits, Ideal.ieee, -EReal.coe_mul]; norm_num

/-- The greatest of a row. -/
def top {n : ℕ} (s : Fin n → EReal) : EReal := Finset.fold max (Ideal.ofBits .f32 4286578688#32) s Finset.univ

/-- A row's exponentials, the greatest taken off. -/
def ex {n : ℕ} (s : Fin n → EReal) (j : Fin n) : EReal := Ideal.exp (s j - top s)

/-- A row's softmax. -/
def pr {n : ℕ} (s : Fin n → EReal) (j : Fin n) : EReal := Ideal.div (ex s j) (∑ x, ex s x)

/-- The gradient of a row of scaled scores, `d` the cotangent of the softmax, in the kernel's form. -/
def ds {n : ℕ} (s d : Fin n → EReal) (j : Fin n) : EReal :=
  pr s j * (d j - ∑ x, d x * pr s x) * Ideal.ofBits .f32 1031798784#32

/-- A division by sixteen is a product with its inverse. -/
theorem scaled (x : EReal) : Ideal.div x (Ideal.ofBits .f32 1098907648#32) = x * Ideal.ofBits .f32 1031798784#32 := by
  rw [big_f32, small_f32, Ideal.div_coe (by norm_num)]

/-- Less than every number takes nothing from a greatest one. -/
theorem top_low {n : ℕ} (s : Fin n → EReal) : max (Ideal.ofBits .f32 4286578688#32) (top s) = top s := by
  rw [low_f32, max_eq_right bot_le]

theorem fin_top {n : ℕ} (hn : 0 < n) {s : Fin n → EReal} (h : ∀ j, IsFin (s j)) : IsFin (top s) := by
  have h1 : top s < ⊤ := by
    unfold top
    refine (Finset.fold_max_lt _).mpr ⟨by rw [low_f32]; exact bot_lt_top, fun j _ => ?_⟩
    obtain ⟨r, hr⟩ := h j
    rw [hr]; exact EReal.coe_lt_top r
  have h2 : s ⟨0, hn⟩ ≤ top s := (Finset.le_fold_max _).mpr (.inr ⟨_, Finset.mem_univ _, le_rfl⟩)
  obtain ⟨r, hr⟩ := h ⟨0, hn⟩
  have h3 : top s ≠ ⊥ := fun e => by rw [e, hr] at h2; exact absurd (le_bot_iff.mp h2) (EReal.coe_ne_bot r)
  exact ⟨(top s).toReal, (EReal.coe_toReal h1.ne h3).symm⟩

/-- The exponentials of a row of finite numbers are positive reals, and so is their sum. -/
theorem ex_coe {n : ℕ} (hn : 0 < n) {s : Fin n → EReal} (h : ∀ j, IsFin (s j)) :
    ∃ e : Fin n → ℝ, (∀ j, ex s j = (e j : EReal)) ∧ 0 < ∑ j, e j ∧ ∑ j, ex s j = ((∑ j, e j : ℝ) : EReal) := by
  obtain ⟨M, hM⟩ := fin_top hn h
  choose S hS using h
  have e1 : ∀ j, ex s j = ((Real.exp (S j - M) : ℝ) : EReal) := fun j => by
    unfold ex
    rw [hM, hS j, ← EReal.coe_sub, Ideal.exp_coe]
  refine ⟨_, e1, Finset.sum_pos (fun j _ => Real.exp_pos _) ⟨⟨0, hn⟩, Finset.mem_univ _⟩, ?_⟩
  rw [← Norm.coe_sum]
  exact Finset.sum_congr rfl fun j _ => e1 j

theorem fin_pr {n : ℕ} (hn : 0 < n) {s : Fin n → EReal} (h : ∀ j, IsFin (s j)) (j : Fin n) : IsFin (pr s j) := by
  obtain ⟨e, he, hp, hs⟩ := ex_coe hn h
  unfold pr
  rw [hs, he, Ideal.div_coe hp.ne']
  exact (IsFin.coe _).mul (.coe _)

theorem fin_ds {n : ℕ} (hn : 0 < n) {s d : Fin n → EReal} (h : ∀ j, IsFin (s j)) (hd : ∀ j, IsFin (d j)) (j : Fin n) : IsFin (ds s d j) :=
  ((fin_pr hn h j).mul ((hd j).sub (IsFin.sum _ fun x => (hd x).mul (fin_pr hn h x)))).mul (by rw [small_f32]; exact .coe _)

/-- The gradient of the softmax as the chain rule writes it through the quotient, against the kernel's form. -/
theorem grad {n : ℕ} (hn : 0 < n) {s d : Fin n → EReal} (h : ∀ j, IsFin (s j)) (hd : ∀ j, IsFin (d j)) (j : Fin n) :
    Ideal.div ((Ideal.div (d j) (∑ x, ex s x)
        + ∑ _i : Fin 1, -∑ x, d x * Ideal.div 1 ((∑ x, ex s x) * (∑ x, ex s x)) * ex s x) * ex s j) (Ideal.ofBits .f32 1098907648#32)
      = ds s d j := by
  rw [scaled]
  unfold ds pr
  obtain ⟨e, he, hp, hs⟩ := ex_coe hn h
  choose D hD using hd
  obtain ⟨L, hL⟩ : ∃ L : ℝ, ∑ j, e j = L := ⟨_, rfl⟩
  rw [hL] at hp hs
  have hl : L ≠ 0 := hp.ne'
  have hq : L * L ≠ 0 := (mul_pos hp hp).ne'
  rw [hs]
  simp only [he, hD, ← EReal.coe_one, small_f32, Fin.sum_univ_one, ← EReal.coe_mul]
  simp only [Ideal.div_coe hl, Ideal.div_coe hq, ← EReal.coe_mul]
  simp only [Norm.coe_sum, ← EReal.coe_neg, ← EReal.coe_add, ← EReal.coe_sub, ← EReal.coe_mul]
  congr 1
  have e3 : ∑ x, D x * (e x * (1 / L)) = (∑ x, D x * e x) * (1 / L) := by
    rw [Finset.sum_mul]; exact Finset.sum_congr rfl fun i _ => by ring
  have e4 : ∑ x, D x * (1 * (1 / (L * L))) * e x = (∑ x, D x * e x) * (1 / (L * L)) := by
    rw [Finset.sum_mul]; exact Finset.sum_congr rfl fun i _ => by ring
  rw [e3, e4]
  generalize ∑ x, D x * e x = T
  field_simp
  ring

theorem pr_congr {n : ℕ} {s s' : Fin n → EReal} {j : Fin n} (h : ∀ i, s i = s' i) : pr s j = pr s' j := by rw [funext h]

theorem ds_congr {n : ℕ} {s s' d d' : Fin n → EReal} {j : Fin n} (h : ∀ i, s i = s' i) (hd : ∀ i, d i = d' i) : ds s d j = ds s' d' j := by
  rw [funext h, funext hd]

end Cert.Softmax

end
-- ==== Proof.MemattnRef.lean ====
/- Hand-written, untrusted: the gradient of the attention over the memory rows, row by row, and its reference `Cert.MemattnRefIdeal` read in it. -/
module

public import proofs.«01_k».proof.Proof.Gen.MemattnRefIdeal.Read
public import proofs.«01_k».proof.Proof.Softmax

@[expose] public section

set_option maxRecDepth 16384

noncomputable section

open Idealize.ShloMosaic Idealize.ShloMosaic.TcCoe

namespace Cert.Attn

/-- The scaled score of a query row against memory row `j` in head `h`. -/
def sc (q : Fin 1024 → EReal) (k : Fin 256 → Fin 2048 → EReal) (h : Fin 4) (j : Fin 256) : EReal :=
  (∑ x : Fin 256, q ⟨h.val * 256 + x.val, by omega⟩ * k j ⟨h.val * 256 + x.val, by omega⟩) * Ideal.ofBits .f32 1031798784#32

/-- The cotangent of that pair's probability, `d` the row's cotangent. -/
def dp (d : Fin 1024 → EReal) (k : Fin 256 → Fin 2048 → EReal) (h : Fin 4) (j : Fin 256) : EReal :=
  ∑ x : Fin 256, d ⟨h.val * 256 + x.val, by omega⟩ * k j ⟨1024 + h.val * 256 + x.val, by omega⟩

/-- The cotangent of the score before it is scaled. -/
def ds (q d : Fin 1024 → EReal) (k : Fin 256 → Fin 2048 → EReal) (h : Fin 4) (j : Fin 256) : EReal :=
  Softmax.ds (sc q k h) (dp d k h) j

/-- The gradient of the query row in head `h`. -/
def dq (q d : Fin 1024 → EReal) (k : Fin 256 → Fin 2048 → EReal) (h : Fin 4) (i : Fin 256) : EReal :=
  ∑ j : Fin 256, ds q d k h j * k j ⟨h.val * 256 + i.val, by omega⟩

/-- The gradient of the query row, its heads side by side. -/
def dqs (q d : Fin 1024 → EReal) (k : Fin 256 → Fin 2048 → EReal) (n : Fin 1024) : EReal :=
  dq q d k ⟨n.val / 256, by omega⟩ ⟨n.val % 256, by omega⟩

/-- A row's share of the gradient of the keys, and of the values. -/
def dk (q d : Fin 1024 → EReal) (k : Fin 256 → Fin 2048 → EReal) (h : Fin 4) (j i : Fin 256) : EReal :=
  ds q d k h j * q ⟨h.val * 256 + i.val, by omega⟩
def dv (q d : Fin 1024 → EReal) (k : Fin 256 → Fin 2048 → EReal) (h : Fin 4) (j i : Fin 256) : EReal :=
  Softmax.pr (sc q k h) j * d ⟨h.val * 256 + i.val, by omega⟩

section
variable {q d : Fin 1024 → EReal} {k : Fin 256 → Fin 2048 → EReal}

theorem fin_sc (hq : ∀ n, Reals.IsFin (q n)) (hk : ∀ j n, Reals.IsFin (k j n)) (h : Fin 4) (j : Fin 256) : Reals.IsFin (sc q k h j) :=
  (Reals.IsFin.sum _ fun x => (hq _).mul (hk _ _)).mul (by rw [Softmax.small_f32]; exact .coe _)
theorem fin_dp (hd : ∀ n, Reals.IsFin (d n)) (hk : ∀ j n, Reals.IsFin (k j n)) (h : Fin 4) (j : Fin 256) : Reals.IsFin (dp d k h j) :=
  Reals.IsFin.sum _ fun x => (hd _).mul (hk _ _)
theorem fin_dqs (hq : ∀ n, Reals.IsFin (q n)) (hd : ∀ n, Reals.IsFin (d n)) (hk : ∀ j n, Reals.IsFin (k j n)) (n : Fin 1024) : Reals.IsFin (dqs q d k n) :=
  by unfold dqs dq; exact Reals.IsFin.sum _ fun x => (Softmax.fin_ds (by decide) (fin_sc hq hk _) (fin_dp hd hk _) _).mul (hk _ _)
end

end Cert.Attn

namespace Cert.MemattnRefIdeal.Grad

open Cert.MemattnRefIdeal Cert.MemattnRefIdeal.Read

/-- The query rows are finite where the rows, the gain and the weight are. -/
theorem fin_q (x1 : FVec Ideal S4096x1024 .f32) (x2 : FVec Ideal S1024 .f32) (x4 : FVec Ideal S1024x1024 .bf16) (h1 : ∀ i, Reals.IsFin (x1 i)) (h2 : ∀ i, Reals.IsFin (x2 i)) (h4 : ∀ i, Reals.IsFin (x4 i)) (r : Fin 4096) (n : Fin 1024) : Reals.IsFin (val_main_v19 (F := Ideal) x1 x2 x4 (ix2 r n)) := by
  have e : val_main_v19 (F := Ideal) x1 x2 x4 (ix2 r n) = Norm.dot (fun i => x1 (ix2 r i) * Norm.rsq (fun i => x1 (ix2 r i)) * x2 (ix1 i)) fun i => x4 (ix2 i n) := by
    pointwise [val_main_v0, val_main_v1, val_main_v2, val_main_v3, val_main_cst, val_main_v4, val_main_v5, val_main_cst_0, val_main_v6, val_main_v7, val_main_cst_1, val_main_v8, val_main_v9, val_main_v10, val_main_v11, val_main_cst_2, val_main_v12, val_main_v13, val_main_v14, val_main_v15, val_main_v16, val_main_v17, val_main_v18, val_main_v19, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23]
    rfl
  rw [e]
  exact Norm.fin_dot (fun i => ((h1 _).mul (Norm.fin_rsq fun i => h1 _)).mul (h2 _)) fun i => h4 _

/-- The cotangent rows of the attention's result. -/
theorem ref_do (x0 : FVec Ideal S4096x1024 .f32) (x5 : FVec Ideal S1024x1024 .bf16) (r : Fin 4096) (n : Fin 1024) : val_main_v61 (F := Ideal) x0 x5 (ix2 r n) = Norm.dot (fun c => x0 (ix2 r c)) fun c => x5 (ix2 n c) := by
  unfold Norm.dot
  pointwise [val_main_v61, val_main_v1]

theorem ref_sc (x1 : FVec Ideal S4096x1024 .f32) (x2 : FVec Ideal S1024 .f32) (x3 : FVec Ideal S256x2048 .bf16) (x4 : FVec Ideal S1024x1024 .bf16) (h : Fin 4) (r : Fin 4096) (j : Fin 256) :
    val_main_v28 (F := Ideal) x1 x2 x3 x4 (ix3 h r j) = Attn.sc (fun n => val_main_v19 (F := Ideal) x1 x2 x4 (ix2 r n)) (fun j n => x3 (ix2 j n)) h j := by
  unfold Attn.sc
  rw [← Softmax.scaled]
  pointwise [val_main_cst, val_main_cst_0, val_main_cst_1, val_main_cst_2, val_main_v20, val_main_v21, val_main_v22, val_main_v23, val_main_v24, val_main_v25, val_main_v26, val_main_cst_3, val_main_v27, val_main_v28, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_v2]

theorem red : S4x4096x256.Reduces [2] S4x4096 := by decide
theorem lift_at (h : Fin 4) (r : Fin 4096) (j : Fin 256) : red.lift (ix2 h r) j = ix3 h r j := by
  funext a
  fin_cases a <;> rfl

theorem top_reduce (v : S4x4096x256.Idx → EReal) (init : S_.Idx → EReal) (h' : S4x4096x256.ReducesTo [2] S4x4096) (hu : 0 < S_.numel) (h : Fin 4) (r : Fin 4096) :
    Host.reduce (FloatOps.maximumf (F := Ideal) (φ := .f32)) v init h' hu (ix2 h r) = Finset.fold max (init (Shape.Idx.first hu)) (fun j : Fin 256 => v (ix3 h r j)) Finset.univ := by
  have e : (v ∘ red.lift (ix2 h r)) = fun j => v (ix3 h r j) := funext fun j => congrArg v (lift_at h r j)
  have e1 := Host.reduce_eq_fold_single (α := EReal) max v init h' red hu (ix2 h r)
  rw [e] at e1
  exact e1

theorem ref_top0 (x1 : FVec Ideal S4096x1024 .f32) (x2 : FVec Ideal S1024 .f32) (x3 : FVec Ideal S256x2048 .bf16) (x4 : FVec Ideal S1024x1024 .bf16) (h : Fin 4) (r : Fin 4096) :
    val_main_v29 (F := Ideal) x1 x2 x3 x4 (ix2 h r) = Softmax.top (fun j => val_main_v28 (F := Ideal) x1 x2 x3 x4 (ix3 h r j)) := by
  unfold val_main_v29
  generalize val_main_v28 (F := Ideal) x1 x2 x3 x4 = v
  exact top_reduce v _ _ _ h r

/-- The greatest score of a row. -/
theorem ref_top (x1 : FVec Ideal S4096x1024 .f32) (x2 : FVec Ideal S1024 .f32) (x3 : FVec Ideal S256x2048 .bf16) (x4 : FVec Ideal S1024x1024 .bf16) (h : Fin 4) (r : Fin 4096) :
    val_main_v36 (F := Ideal) x1 x2 x3 x4 (ix2 h r) = Softmax.top (Attn.sc (fun n => val_main_v19 (F := Ideal) x1 x2 x4 (ix2 r n)) (fun j n => x3 (ix2 j n)) h) := by
  have e := (ref_top0 x1 x2 x3 x4 h r).trans (congrArg Softmax.top (funext fun j => ref_sc x1 x2 x3 x4 h r j))
  refine Eq.trans ?_ (Softmax.top_low _)
  rw [← e, val_main_v36_apply]
  generalize val_main_v29 (F := Ideal) x1 x2 x3 x4 (ix2 h r) = z
  pointwise [val_main_v35, val_main_cst_6, val_main_cst_5, val_main_cst_4]

theorem ref_ex (x1 : FVec Ideal S4096x1024 .f32) (x2 : FVec Ideal S1024 .f32) (x3 : FVec Ideal S256x2048 .bf16) (x4 : FVec Ideal S1024x1024 .bf16) (h : Fin 4) (r : Fin 4096) (j : Fin 256) :
    val_main_v49 (F := Ideal) x1 x2 x3 x4 (ix3 h r j) = Softmax.ex (Attn.sc (fun n => val_main_v19 (F := Ideal) x1 x2 x4 (ix2 r n)) (fun j n => x3 (ix2 j n)) h) j := by
  unfold Softmax.ex
  rw [← ref_top, ← ref_sc]
  pointwise [val_main_cst, val_main_cst_0, val_main_cst_1, val_main_cst_2, val_main_cst_3, val_main_cst_4, val_main_cst_5, val_main_cst_6, val_main_cst_7, val_main_v37, val_main_v38, val_main_cst_8, val_main_v39, val_main_v40, val_main_cst_9, val_main_v41, val_main_cst_10, val_main_v42, val_main_cst_11, val_main_v43, val_main_v44, val_main_v45, val_main_v46, val_main_v47, val_main_v48, val_main_v49, val_main_cst_12, val_main_cst_13, val_main_cst_14, val_main_cst_15, val_main_cst_16, val_main_cst_17, val_main_cst_18, val_main_cst_19, val_main_cst_20, val_main_cst_21, val_main_cst_22, val_main_cst_23]

theorem ref_sum (x1 : FVec Ideal S4096x1024 .f32) (x2 : FVec Ideal S1024 .f32) (x3 : FVec Ideal S256x2048 .bf16) (x4 : FVec Ideal S1024x1024 .bf16) (h : Fin 4) (r : Fin 4096) :
    val_main_v51 (F := Ideal) x1 x2 x3 x4 (ix3 h r 0) = ∑ j, Softmax.ex (Attn.sc (fun n => val_main_v19 (F := Ideal) x1 x2 x4 (ix2 r n)) (fun j n => x3 (ix2 j n)) h) j := by
  simp only [← ref_ex]
  pointwise [val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_v50, val_main_v51, val_main_cst_13, val_main_cst_14, val_main_cst_15, val_main_cst_16, val_main_cst_17, val_main_cst_18, val_main_cst_19, val_main_cst_20, val_main_cst_21, val_main_cst_22, val_main_cst_23]

theorem ref_pr (x1 : FVec Ideal S4096x1024 .f32) (x2 : FVec Ideal S1024 .f32) (x3 : FVec Ideal S256x2048 .bf16) (x4 : FVec Ideal S1024x1024 .bf16) (h : Fin 4) (r : Fin 4096) (j : Fin 256) :
    val_main_v53 (F := Ideal) x1 x2 x3 x4 (ix3 h r j) = Softmax.pr (Attn.sc (fun n => val_main_v19 (F := Ideal) x1 x2 x4 (ix2 r n)) (fun j n => x3 (ix2 j n)) h) j := by
  unfold Softmax.pr
  rw [← ref_sum, ← ref_ex]
  pointwise [val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_v52, val_main_v53, val_main_cst_13, val_main_cst_14, val_main_cst_15, val_main_cst_16, val_main_cst_17, val_main_cst_18, val_main_cst_19, val_main_cst_20, val_main_cst_21, val_main_cst_22, val_main_cst_23]

theorem ref_dp (x0 : FVec Ideal S4096x1024 .f32) (x3 : FVec Ideal S256x2048 .bf16) (x5 : FVec Ideal S1024x1024 .bf16) (h : Fin 4) (r : Fin 4096) (j : Fin 256) :
    val_main_v64 (F := Ideal) x0 x3 x5 (ix3 h r j) = Attn.dp (fun n => Norm.dot (fun c => x0 (ix2 r c)) fun c => x5 (ix2 n c)) (fun j n => x3 (ix2 j n)) h j := by
  unfold Attn.dp
  simp only [← ref_do]
  pointwise [val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_v62, val_main_v63, val_main_v64, val_main_cst_14, val_main_cst_15, val_main_cst_16, val_main_cst_17, val_main_cst_18, val_main_cst_19, val_main_cst_20, val_main_cst_21, val_main_cst_22, val_main_cst_23, val_main_cst, val_main_cst_0, val_main_cst_1, val_main_cst_2, val_main_v20, val_main_v21, val_main_v22, val_main_v23, val_main_v24, val_main_v25, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_v2]

/-- The cotangent of the scores: the chain rule's against the kernel's form. -/
theorem ref_ds (x0 : FVec Ideal S4096x1024 .f32) (x1 : FVec Ideal S4096x1024 .f32) (x2 : FVec Ideal S1024 .f32) (x3 : FVec Ideal S256x2048 .bf16) (x4 : FVec Ideal S1024x1024 .bf16) (x5 : FVec Ideal S1024x1024 .bf16) (h0 : ∀ i, Reals.IsFin (x0 i)) (h1 : ∀ i, Reals.IsFin (x1 i)) (h2 : ∀ i, Reals.IsFin (x2 i)) (h3 : ∀ i, Reals.IsFin (x3 i)) (h4 : ∀ i, Reals.IsFin (x4 i)) (h5 : ∀ i, Reals.IsFin (x5 i)) (h : Fin 4) (r : Fin 4096) (j : Fin 256) :
    val_main_v80 (F := Ideal) x0 x1 x2 x3 x4 x5 (ix3 h r j) = Attn.ds (fun n => val_main_v19 (F := Ideal) x1 x2 x4 (ix2 r n)) (fun n => Norm.dot (fun c => x0 (ix2 r c)) fun c => x5 (ix2 n c)) (fun j n => x3 (ix2 j n)) h j := by
  refine Eq.trans ?_ (Softmax.grad (by decide) (Attn.fin_sc (fun n => fin_q x1 x2 x4 h1 h2 h4 r n) (fun _ _ => h3 _) h) (Attn.fin_dp (fun n => Norm.fin_dot (fun c => h0 _) fun c => h5 _) (fun _ _ => h3 _) h) j)
  rw [← ref_sum]
  simp only [← ref_ex, ← ref_dp]
  pointwise [val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_v54, val_main_cst_13, val_main_v55, val_main_v56, val_main_v57, val_main_v58, val_main_v59, val_main_v60, val_main_cst_14, val_main_cst_15, val_main_cst_16, val_main_cst_17, val_main_cst_18, val_main_cst_19, val_main_cst_20, val_main_cst_21, val_main_cst_22, val_main_cst_23, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_v67, val_main_v68, val_main_v69, val_main_cst_14, val_main_v70, val_main_v71, val_main_v72, val_main_v73, val_main_v74, val_main_cst_15, val_main_v75, val_main_v76, val_main_v77, val_main_v78, val_main_cst_16, val_main_v79, val_main_v80, val_main_cst_17, val_main_cst_18, val_main_cst_19, val_main_cst_20, val_main_cst_21, val_main_cst_22, val_main_cst_23]

/-- The query rows' gradient. -/
theorem ref_dq (x0 : FVec Ideal S4096x1024 .f32) (x1 : FVec Ideal S4096x1024 .f32) (x2 : FVec Ideal S1024 .f32) (x3 : FVec Ideal S256x2048 .bf16) (x4 : FVec Ideal S1024x1024 .bf16) (x5 : FVec Ideal S1024x1024 .bf16) (h0 : ∀ i, Reals.IsFin (x0 i)) (h1 : ∀ i, Reals.IsFin (x1 i)) (h2 : ∀ i, Reals.IsFin (x2 i)) (h3 : ∀ i, Reals.IsFin (x3 i)) (h4 : ∀ i, Reals.IsFin (x4 i)) (h5 : ∀ i, Reals.IsFin (x5 i)) (r : Fin 4096) (n : Fin 1024) :
    val_main_v91 (F := Ideal) x0 x1 x2 x3 x4 x5 (ix2 r n) = Attn.dqs (fun n => val_main_v19 (F := Ideal) x1 x2 x4 (ix2 r n)) (fun n => Norm.dot (fun c => x0 (ix2 r c)) fun c => x5 (ix2 n c)) (fun j n => x3 (ix2 j n)) n := by
  unfold Attn.dqs Attn.dq
  simp only [← ref_ds x0 x1 x2 x3 x4 x5 h0 h1 h2 h3 h4 h5]
  pointwise [val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_v83, val_main_v84, val_main_v85, val_main_cst_17, val_main_v86, val_main_v87, val_main_cst_18, val_main_v88, val_main_v89, val_main_v90, val_main_v91, val_main_cst_19, val_main_cst_20, val_main_cst_21, val_main_cst_22, val_main_cst_23, val_main_cst, val_main_cst_0, val_main_cst_1, val_main_cst_2, val_main_v20, val_main_v21, val_main_v22, val_main_v23, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_v2]

/-- The keys' and the values' gradient. -/
theorem ref_dk (x0 : FVec Ideal S4096x1024 .f32) (x1 : FVec Ideal S4096x1024 .f32) (x2 : FVec Ideal S1024 .f32) (x3 : FVec Ideal S256x2048 .bf16) (x4 : FVec Ideal S1024x1024 .bf16) (x5 : FVec Ideal S1024x1024 .bf16) (h0 : ∀ i, Reals.IsFin (x0 i)) (h1 : ∀ i, Reals.IsFin (x1 i)) (h2 : ∀ i, Reals.IsFin (x2 i)) (h3 : ∀ i, Reals.IsFin (x3 i)) (h4 : ∀ i, Reals.IsFin (x4 i)) (h5 : ∀ i, Reals.IsFin (x5 i)) (j : Fin 256) (h : Fin 4) (i : Fin 256) (J : S256x2048.Idx) (hj : j.val = J 0) (hi : (J 1).val = h.val * 256 + i.val) :
    val_main_v90 (F := Ideal) x0 x1 x2 x3 x4 x5 J = ∑ r : Fin 4096, Attn.dk (fun n => val_main_v19 (F := Ideal) x1 x2 x4 (ix2 r n)) (fun n => Norm.dot (fun c => x0 (ix2 r c)) fun c => x5 (ix2 n c)) (fun j n => x3 (ix2 j n)) h j i := by
  unfold Attn.dk
  simp only [← ref_ds x0 x1 x2 x3 x4 x5 h0 h1 h2 h3 h4 h5]
  idx_vars J
  obtain rfl : j = J0 := Fin.ext hj
  have hi' : J1.val = h.val * 256 + i.val := hi
  have hb : J1.val < 1024 := by omega
  obtain rfl : h = ⟨J1.val / 256 % 4, Nat.mod_lt _ (by decide)⟩ := Fin.ext (by dsimp only; omega)
  obtain rfl : i = ⟨J1.val % 256, Nat.mod_lt _ (by decide)⟩ := Fin.ext (by dsimp only; omega)
  pointwise [val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_v81, val_main_v82, val_main_cst_17, val_main_cst_18, val_main_cst_19, val_main_cst_20, val_main_cst_21, val_main_cst_22, val_main_cst_23, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_v85, val_main_cst_17, val_main_v86, val_main_v87, val_main_cst_18, val_main_v88, val_main_v89, val_main_v90, val_main_cst_19, val_main_cst_20, val_main_cst_21, val_main_cst_22, val_main_cst_23, val_main_cst, val_main_cst_0, val_main_cst_1, val_main_cst_2, val_main_v20, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23]
  exact (congrArg₂ (· + ·) (dif_neg (by omega)) (dif_pos (by omega))).trans (zero_add _)
theorem ref_dv (x0 : FVec Ideal S4096x1024 .f32) (x1 : FVec Ideal S4096x1024 .f32) (x2 : FVec Ideal S1024 .f32) (x3 : FVec Ideal S256x2048 .bf16) (x4 : FVec Ideal S1024x1024 .bf16) (x5 : FVec Ideal S1024x1024 .bf16) (h0 : ∀ i, Reals.IsFin (x0 i)) (h1 : ∀ i, Reals.IsFin (x1 i)) (h2 : ∀ i, Reals.IsFin (x2 i)) (h3 : ∀ i, Reals.IsFin (x3 i)) (h4 : ∀ i, Reals.IsFin (x4 i)) (h5 : ∀ i, Reals.IsFin (x5 i)) (j : Fin 256) (h : Fin 4) (i : Fin 256) (J : S256x2048.Idx) (hj : j.val = J 0) (hi : (J 1).val = 1024 + (h.val * 256 + i.val)) :
    val_main_v90 (F := Ideal) x0 x1 x2 x3 x4 x5 J = ∑ r : Fin 4096, Attn.dv (fun n => val_main_v19 (F := Ideal) x1 x2 x4 (ix2 r n)) (fun n => Norm.dot (fun c => x0 (ix2 r c)) fun c => x5 (ix2 n c)) (fun j n => x3 (ix2 j n)) h j i := by
  unfold Attn.dv
  simp only [← ref_pr, ← ref_do]
  idx_vars J
  obtain rfl : j = J0 := Fin.ext hj
  have hi' : J1.val = 1024 + (h.val * 256 + i.val) := hi
  have hb : 1024 ≤ J1.val := by omega
  obtain rfl : h = ⟨J1.val / 256 % 4, Nat.mod_lt _ (by decide)⟩ := Fin.ext (by dsimp only; omega)
  obtain rfl : i = ⟨J1.val % 256, Nat.mod_lt _ (by decide)⟩ := Fin.ext (by dsimp only; omega)
  pointwise [val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_v62, val_main_v63, val_main_v64, val_main_v65, val_main_v66, val_main_cst_14, val_main_cst_15, val_main_cst_16, val_main_cst_17, val_main_cst_18, val_main_cst_19, val_main_cst_20, val_main_cst_21, val_main_cst_22, val_main_cst_23, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_v85, val_main_cst_17, val_main_v86, val_main_v87, val_main_cst_18, val_main_v88, val_main_v89, val_main_v90, val_main_cst_19, val_main_cst_20, val_main_cst_21, val_main_cst_22, val_main_cst_23]
  exact (congrArg₂ (· + ·) (dif_pos (by omega)) (dif_neg (by omega))).trans ((add_zero _).trans (Finset.sum_congr rfl fun _ _ => mul_comm _ _))

/-- The gradient of the normed rows. -/
theorem ref_dh (x0 : FVec Ideal S4096x1024 .f32) (x1 : FVec Ideal S4096x1024 .f32) (x2 : FVec Ideal S1024 .f32) (x3 : FVec Ideal S256x2048 .bf16) (x4 : FVec Ideal S1024x1024 .bf16) (x5 : FVec Ideal S1024x1024 .bf16) (h0 : ∀ i, Reals.IsFin (x0 i)) (h1 : ∀ i, Reals.IsFin (x1 i)) (h2 : ∀ i, Reals.IsFin (x2 i)) (h3 : ∀ i, Reals.IsFin (x3 i)) (h4 : ∀ i, Reals.IsFin (x4 i)) (h5 : ∀ i, Reals.IsFin (x5 i)) (r : Fin 4096) (n : Fin 1024) :
    val_main_v92 (F := Ideal) x0 x1 x2 x3 x4 x5 (ix2 r n) = Norm.dot (Attn.dqs (fun n => val_main_v19 (F := Ideal) x1 x2 x4 (ix2 r n)) (fun n => Norm.dot (fun c => x0 (ix2 r c)) fun c => x5 (ix2 n c)) (fun j n => x3 (ix2 j n))) fun c => x4 (ix2 n c) := by
  refine Eq.trans (b := Norm.dot (fun c => val_main_v91 (F := Ideal) x0 x1 x2 x3 x4 x5 (ix2 r c)) fun c => x4 (ix2 n c)) ?_
    (congrArg (fun f => Norm.dot f _) (funext fun c => ref_dq x0 x1 x2 x3 x4 x5 h0 h1 h2 h3 h4 h5 r c))
  unfold Norm.dot
  pointwise [val_main_v92, val_main_v0]

/-- The last of four terms first. -/
theorem four (a b c d : EReal) : a + b + c + d = d + a + b + c := by rw [add_comm, ← add_assoc, ← add_assoc]

/-- The gradient of the rows. -/
theorem ref_dx (x0 : FVec Ideal S4096x1024 .f32) (x1 : FVec Ideal S4096x1024 .f32) (x2 : FVec Ideal S1024 .f32) (x3 : FVec Ideal S256x2048 .bf16) (x4 : FVec Ideal S1024x1024 .bf16) (x5 : FVec Ideal S1024x1024 .bf16) (h0 : ∀ i, Reals.IsFin (x0 i)) (h1 : ∀ i, Reals.IsFin (x1 i)) (h2 : ∀ i, Reals.IsFin (x2 i)) (h3 : ∀ i, Reals.IsFin (x3 i)) (h4 : ∀ i, Reals.IsFin (x4 i)) (h5 : ∀ i, Reals.IsFin (x5 i)) (j : S4096x1024.Idx) (r : Fin 4096) (k : Fin 1024) (hr : r.val = j 0) (hk : k.val = j 1) :
    val_main_v113 (F := Ideal) x0 x1 x2 x3 x4 x5 j
      = Norm.row (fun i => x1 (ix2 r i)) (fun i => Norm.dot (Attn.dqs (fun n => val_main_v19 (F := Ideal) x1 x2 x4 (ix2 r n)) (fun n => Norm.dot (fun c => x0 (ix2 r c)) fun c => x5 (ix2 n c)) (fun j n => x3 (ix2 j n))) (fun c => x4 (ix2 i c)) * x2 (ix1 i)) (x0 (ix2 r k)) k := by
  idx_vars j
  obtain rfl : r = j0 := Fin.ext hr
  obtain rfl : k = j1 := Fin.ext hk
  refine Eq.trans ?_ (Norm.row_grad (fun i => h1 _) (fun i => (Norm.fin_dot (fun n => Attn.fin_dqs (fun n => fin_q x1 x2 x4 h1 h2 h4 r n) (fun n => Norm.fin_dot (fun c => h0 _) fun c => h5 _) (fun _ _ => h3 _) n) fun x => h4 _).mul (h2 _)) (x0 (ix2 r k)) k).symm
  simp only [← ref_dh x0 x1 x2 x3 x4 x5 h0 h1 h2 h3 h4 h5]
  pointwise [val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_v93, val_main_cst_19, val_main_v94, val_main_v95, val_main_v96, val_main_v97, val_main_cst_20, val_main_v98, val_main_v99, val_main_cst_21, val_main_v100, val_main_v101, val_main_v102, val_main_v103, val_main_v104, val_main_cst_22, val_main_v105, val_main_v106, val_main_cst_23, val_main_v107, val_main_v108, val_main_v109, val_main_v110, val_main_v111, val_main_v112, val_main_v113, val_main_v3, val_main_cst, val_main_v4, val_main_v5, val_main_cst_0, val_main_v6, val_main_v7, val_main_cst_1, val_main_v8, val_main_v9, val_main_v10, val_main_v11, val_main_cst_2, val_main_v12, val_main_v13, val_main_v14, val_main_v15, val_main_v16, val_main_v17, val_main_v18, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23]
  refine (four _ _ _ _).trans ?_
  rfl

/-- The gradient of the gain, in each of its eight equal rows. -/
theorem ref_dg (x0 : FVec Ideal S4096x1024 .f32) (x1 : FVec Ideal S4096x1024 .f32) (x2 : FVec Ideal S1024 .f32) (x3 : FVec Ideal S256x2048 .bf16) (x4 : FVec Ideal S1024x1024 .bf16) (x5 : FVec Ideal S1024x1024 .bf16) (h0 : ∀ i, Reals.IsFin (x0 i)) (h1 : ∀ i, Reals.IsFin (x1 i)) (h2 : ∀ i, Reals.IsFin (x2 i)) (h3 : ∀ i, Reals.IsFin (x3 i)) (h4 : ∀ i, Reals.IsFin (x4 i)) (h5 : ∀ i, Reals.IsFin (x5 i)) (j : S8x1024.Idx) (k : Fin 1024) (hk : k.val = j 1) :
    val_main_v116 (F := Ideal) x0 x1 x2 x3 x4 x5 j
      = ∑ r : Fin 4096, Norm.gain (n := 4096) (fun r i => x1 (ix2 r i)) (fun r i => Norm.dot (Attn.dqs (fun n => val_main_v19 (F := Ideal) x1 x2 x4 (ix2 r n)) (fun n => Norm.dot (fun c => x0 (ix2 r c)) fun c => x5 (ix2 n c)) (fun j n => x3 (ix2 j n))) (fun c => x4 (ix2 i c))) k r := by
  unfold Norm.gain
  simp only [← ref_dh x0 x1 x2 x3 x4 x5 h0 h1 h2 h3 h4 h5]
  idx_vars j
  obtain rfl : k = j1 := Fin.ext hk
  pointwise [val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_v93, val_main_cst_19, val_main_v94, val_main_v95, val_main_v96, val_main_v97, val_main_cst_20, val_main_v98, val_main_v99, val_main_cst_21, val_main_v100, val_main_v101, val_main_v102, val_main_v103, val_main_v104, val_main_cst_22, val_main_v105, val_main_v106, val_main_cst_23, val_main_v107, val_main_v108, val_main_v109, val_main_v110, val_main_v111, val_main_v112, val_main_v113, val_main_v114, val_main_v115, val_main_v116, val_main_v3, val_main_cst, val_main_v4, val_main_v5, val_main_cst_0, val_main_v6, val_main_v7, val_main_cst_1, val_main_v8, val_main_v9, val_main_v10, val_main_v11, val_main_cst_2, val_main_v12, val_main_v13, val_main_v14, val_main_v15, val_main_v16, val_main_v17, val_main_v18, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23]
  rw [Fin.sum_univ_one]
  exact Finset.sum_congr rfl fun r _ => mul_comm _ _

end Cert.MemattnRefIdeal.Grad

end
-- ==== Proof.MemattnPay.lean ====
/- Hand-written, untrusted: the payloads of the memory attention's gradient, `Cert.MemattnIdeal`, read at an index. -/
module

public import proofs.«01_k».proof.Proof.Gen.MemattnIdeal.Value
public import proofs.«01_k».proof.Proof.MemattnRef

@[expose] public section

set_option maxRecDepth 16384

noncomputable section

open Idealize.ShloMosaic Idealize.ShloMosaic.TcCoe Idealize.SL.Sem
open Idealize.ShloMosaic.Pipeline (Dat)

namespace Cert.MemattnIdeal.Grad

open Cert.MemattnIdeal Cert.MemattnIdeal.Gen

/-- The scaled scores of row `a` of a head's block of queries. -/
def loc (q : FVec Ideal S512x256 .bf16) (k : FVec Ideal S256x256 .bf16) (a : Fin 512) (j : Fin 256) : EReal :=
  (∑ x : Fin 256, q (ix2 a x) * k (ix2 j x)) * Ideal.ofBits .f32 1031798784#32

/-- The cotangents of the probabilities of row `a`, from the head's columns (from `o` on) of the rows' cotangent. -/
def cot (D : FVec Ideal S512x1024 .bf16) (v : FVec Ideal S256x256 .bf16) (o : ℕ) (ho : o + 256 ≤ 1024) (a : Fin 512) (j : Fin 256) : EReal :=
  ∑ x : Fin 256, D (ix2 a ⟨o + x.val, by omega⟩) * v (ix2 j x)

section
variable (X A : FVec Ideal S512x1024 .bf16) (W : FVec Ideal S1024x1024 .bf16) (q : FVec Ideal S512x256 .bf16) (k v : FVec Ideal S256x256 .bf16) (z : FVec Ideal S256x256 .f32)

/-- The rows' cotangent. -/
theorem do_at (a : Fin 512) (n : Fin 1024) : k0_pay4 (F := Ideal) X W (ix2 a n) = Norm.dot (fun c => X (ix2 a c)) fun c => W (ix2 n c) := by
  unfold Norm.dot
  pointwise [k0_pay4]

/-- Head 0: the probabilities, the scores' cotangent, and what they give. -/
theorem p0 (a : Fin 512) (j : Fin 256) : k0_pay7 (F := Ideal) q k (ix2 a j) = Softmax.pr (loc q k a) j := by
  pointwise [k0_pay7, k0_pay5]
  rfl
theorem d0 (a : Fin 512) (j : Fin 256) : k0_pay8 (F := Ideal) X W q k v (ix2 a j) = Softmax.ds (loc q k a) (cot (k0_pay4 (F := Ideal) X W) v 0 (by decide) a) j := by
  unfold Softmax.ds cot
  simp only [← p0]
  pointwise [k0_pay8, k0_pay6]
theorem dq0 (a : Fin 512) (i : Fin 256) : k0_pay9 (F := Ideal) X W q k v (ix2 a i) = ∑ j : Fin 256, Softmax.ds (loc q k a) (cot (k0_pay4 (F := Ideal) X W) v 0 (by decide) a) j * k (ix2 j i) := by
  simp only [← d0]
  pointwise [k0_pay9]
theorem dk0 (j i : Fin 256) : k0_pay10 (F := Ideal) (k0_pay5 q) (k0_pay8 X W q k v) z (ix2 j i) = z (ix2 j i) + ∑ a : Fin 512, Softmax.ds (loc q k a) (cot (k0_pay4 (F := Ideal) X W) v 0 (by decide) a) j * q (ix2 a i) := by
  simp only [← d0]
  pointwise [k0_pay10, k0_pay5]
theorem dv0 (j i : Fin 256) : k0_pay11 (F := Ideal) (k0_pay6 X W) (k0_pay7 q k) z (ix2 j i) = z (ix2 j i) + ∑ a : Fin 512, Softmax.pr (loc q k a) j * (k0_pay4 (F := Ideal) X W) (ix2 a ⟨0 + i.val, by omega⟩) := by
  simp only [← p0]
  pointwise [k0_pay11, k0_pay6]

/-- Head 1: the probabilities, the scores' cotangent, and what they give. -/
theorem p1 (a : Fin 512) (j : Fin 256) : k0_pay14 (F := Ideal) q k (ix2 a j) = Softmax.pr (loc q k a) j := by
  pointwise [k0_pay14, k0_pay12]
  rfl
theorem d1 (a : Fin 512) (j : Fin 256) : k0_pay17 (F := Ideal) (k0_pay14 q k) (k0_pay15 A v) (k0_pay16 A q k v) (ix2 a j) = Softmax.ds (loc q k a) (cot (A) v 256 (by decide) a) j := by
  unfold Softmax.ds cot
  simp only [← p1]
  pointwise [k0_pay17, k0_pay15, k0_pay16, k0_pay13]
theorem dq1 (a : Fin 512) (i : Fin 256) : k0_pay18 (F := Ideal) k (k0_pay14 q k) (k0_pay15 A v) (k0_pay16 A q k v) (ix2 a i) = ∑ j : Fin 256, Softmax.ds (loc q k a) (cot (A) v 256 (by decide) a) j * k (ix2 j i) := by
  simp only [← d1]
  pointwise [k0_pay18]
theorem dk1 (j i : Fin 256) : k0_pay19 (F := Ideal) (k0_pay12 q) (k0_pay14 q k) (k0_pay15 A v) (k0_pay16 A q k v) z (ix2 j i) = z (ix2 j i) + ∑ a : Fin 512, Softmax.ds (loc q k a) (cot (A) v 256 (by decide) a) j * q (ix2 a i) := by
  simp only [← d1]
  pointwise [k0_pay19, k0_pay12]
theorem dv1 (j i : Fin 256) : k0_pay20 (F := Ideal) (k0_pay13 A) (k0_pay14 q k) z (ix2 j i) = z (ix2 j i) + ∑ a : Fin 512, Softmax.pr (loc q k a) j * A (ix2 a ⟨256 + i.val, by omega⟩) := by
  simp only [← p1]
  pointwise [k0_pay20, k0_pay13]

/-- Head 2: the probabilities, the scores' cotangent, and what they give. -/
theorem p2 (a : Fin 512) (j : Fin 256) : k0_pay24 (F := Ideal) (k0_pay23 q k) (ix2 a j) = Softmax.pr (loc q k a) j := by
  pointwise [k0_pay24, k0_pay23, k0_pay21]
  rfl
theorem d2 (a : Fin 512) (j : Fin 256) : k0_pay25 (F := Ideal) v (k0_pay22 A) (k0_pay23 q k) (ix2 a j) = Softmax.ds (loc q k a) (cot (A) v 512 (by decide) a) j := by
  unfold Softmax.ds cot
  simp only [← p2]
  pointwise [k0_pay25, k0_pay22]
theorem dq2 (a : Fin 512) (i : Fin 256) : k0_pay26 (F := Ideal) k v (k0_pay22 A) (k0_pay23 q k) (ix2 a i) = ∑ j : Fin 256, Softmax.ds (loc q k a) (cot (A) v 512 (by decide) a) j * k (ix2 j i) := by
  simp only [← d2]
  pointwise [k0_pay26]
theorem dk2 (j i : Fin 256) : k0_pay27 (F := Ideal) (k0_pay21 q) v (k0_pay22 A) (k0_pay23 q k) z (ix2 j i) = z (ix2 j i) + ∑ a : Fin 512, Softmax.ds (loc q k a) (cot (A) v 512 (by decide) a) j * q (ix2 a i) := by
  simp only [← d2]
  pointwise [k0_pay27, k0_pay21]
theorem dv2 (j i : Fin 256) : k0_pay28 (F := Ideal) (k0_pay22 A) (k0_pay23 q k) z (ix2 j i) = z (ix2 j i) + ∑ a : Fin 512, Softmax.pr (loc q k a) j * A (ix2 a ⟨512 + i.val, by omega⟩) := by
  simp only [← p2]
  pointwise [k0_pay28, k0_pay22]

/-- Head 3: the probabilities, the scores' cotangent, and what they give. -/
theorem p3 (a : Fin 512) (j : Fin 256) : k0_pay31 (F := Ideal) (k0_pay29 q) k (ix2 a j) = Softmax.pr (loc q k a) j := by
  pointwise [k0_pay31, k0_pay29]
  rfl
theorem d3 (a : Fin 512) (j : Fin 256) : k0_pay32 (F := Ideal) A (k0_pay29 q) k v (ix2 a j) = Softmax.ds (loc q k a) (cot (A) v 768 (by decide) a) j := by
  unfold Softmax.ds cot
  simp only [← p3]
  pointwise [k0_pay32, k0_pay30]
theorem dq3 (a : Fin 512) (i : Fin 256) : k0_pay33 (F := Ideal) A (k0_pay29 q) k v (ix2 a i) = ∑ j : Fin 256, Softmax.ds (loc q k a) (cot (A) v 768 (by decide) a) j * k (ix2 j i) := by
  simp only [← d3]
  pointwise [k0_pay33]
theorem dk3 (j i : Fin 256) : k0_pay34 (F := Ideal) A (k0_pay29 q) k v z (ix2 j i) = z (ix2 j i) + ∑ a : Fin 512, Softmax.ds (loc q k a) (cot (A) v 768 (by decide) a) j * q (ix2 a i) := by
  simp only [← d3]
  pointwise [k0_pay34, k0_pay29]
theorem dv3 (j i : Fin 256) : k0_pay35 (F := Ideal) A (k0_pay29 q) k z (ix2 j i) = z (ix2 j i) + ∑ a : Fin 512, Softmax.pr (loc q k a) j * A (ix2 a ⟨768 + i.val, by omega⟩) := by
  simp only [← p3]
  pointwise [k0_pay35, k0_pay30]

end

end Cert.MemattnIdeal.Grad

end
-- ==== Proof.MemattnValue.lean ====
/- Hand-written, untrusted: the value of the memory attention's gradient, `Cert.MemattnIdeal`, at the reals. -/
module

public import proofs.«01_k».proof.Proof.Gen.MemattnIdeal.Value
public import proofs.«01_k».proof.Proof.Gen.MemattnRefIdeal.Read
public import proofs.«01_k».proof.Proof.Reals
public import proofs.«01_k».proof.Proof.MemattnPay
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.MemattnIdeal.Grad

open Cert.MemattnIdeal Cert.MemattnIdeal.Gen

variable (m : (ℓ : Loc nD τ sig) → Buf (Elt Ideal) ℓ)

/-- Every window's block index at every grid point. -/
theorem idx_val : ∀ t : Fin cfg0.N, win0_0.index t = ![t.val, 0] ∧ win0_1.index t = ![t.val, 0] ∧ win0_2.index t = ![t.val, 0]
    ∧ win0_3.index t = ![0, 0] ∧ win0_4.index t = ![t.val, 0] ∧ win0_5.index t = ![0, 0] ∧ win0_6.index t = ![0, 0] ∧ win0_7.index t = ![0, 0]
    ∧ win0_8.index t = ![t.val, 0] ∧ win0_9.index t = ![t.val, 0] ∧ win0_10.index t = ![0, 0] ∧ win0_11.index t = ![t.val, 0] ∧ win0_12.index t = ![0, 0] :=
  (by decide +kernel : ∀ t : Fin grid0.N, _)

/-- The queries the call is handed are the reference's. -/
theorem V_q (c : Dev nD) (r : Fin 4096) (n : Fin 1024) :
    (V m c main_v17 (ix2 r n) : EReal) = Cert.MemattnRefIdeal.Read.val_main_v19 (F := Ideal) (m ((c : Thread nD τ).loc main_arg1)) (m ((c : Thread nD τ).loc main_arg2)) (m ((c : Thread nD τ).loc main_arg4)) (ix2 r n) := by
  unfold_abbrev_sides
  after_results
  pointwise [Cert.MemattnRefIdeal.Read.val_main_v0, Cert.MemattnRefIdeal.Read.val_main_v1, Cert.MemattnRefIdeal.Read.val_main_v2, Cert.MemattnRefIdeal.Read.val_main_v3, Cert.MemattnRefIdeal.Read.val_main_cst, Cert.MemattnRefIdeal.Read.val_main_v4, Cert.MemattnRefIdeal.Read.val_main_v5, Cert.MemattnRefIdeal.Read.val_main_cst_0, Cert.MemattnRefIdeal.Read.val_main_v6, Cert.MemattnRefIdeal.Read.val_main_v7, Cert.MemattnRefIdeal.Read.val_main_cst_1, Cert.MemattnRefIdeal.Read.val_main_v8, Cert.MemattnRefIdeal.Read.val_main_v9, Cert.MemattnRefIdeal.Read.val_main_v10, Cert.MemattnRefIdeal.Read.val_main_v11, Cert.MemattnRefIdeal.Read.val_main_cst_2, Cert.MemattnRefIdeal.Read.val_main_v12, Cert.MemattnRefIdeal.Read.val_main_v13, Cert.MemattnRefIdeal.Read.val_main_v14, Cert.MemattnRefIdeal.Read.val_main_v15, Cert.MemattnRefIdeal.Read.val_main_v16, Cert.MemattnRefIdeal.Read.val_main_v17, Cert.MemattnRefIdeal.Read.val_main_v18, Cert.MemattnRefIdeal.Read.val_main_v19, Cert.MemattnRefIdeal.Read.val_main_cst_3, Cert.MemattnRefIdeal.Read.val_main_cst_4, Cert.MemattnRefIdeal.Read.val_main_cst_5, Cert.MemattnRefIdeal.Read.val_main_cst_6, Cert.MemattnRefIdeal.Read.val_main_cst_7, Cert.MemattnRefIdeal.Read.val_main_cst_8, Cert.MemattnRefIdeal.Read.val_main_cst_9, Cert.MemattnRefIdeal.Read.val_main_cst_10, Cert.MemattnRefIdeal.Read.val_main_cst_11, Cert.MemattnRefIdeal.Read.val_main_cst_12, Cert.MemattnRefIdeal.Read.val_main_cst_13, Cert.MemattnRefIdeal.Read.val_main_cst_14, Cert.MemattnRefIdeal.Read.val_main_cst_15, Cert.MemattnRefIdeal.Read.val_main_cst_16, Cert.MemattnRefIdeal.Read.val_main_cst_17, Cert.MemattnRefIdeal.Read.val_main_cst_18, Cert.MemattnRefIdeal.Read.val_main_cst_19, Cert.MemattnRefIdeal.Read.val_main_cst_20, Cert.MemattnRefIdeal.Read.val_main_cst_21, Cert.MemattnRefIdeal.Read.val_main_cst_22, Cert.MemattnRefIdeal.Read.val_main_cst_23]

/-- The row of the arrays that row `a` of grid point `t`'s block is. -/
def row (t : Fin cfg0.N) (a : Fin 512) : Fin 4096 := ⟨t.val * 512 + a.val, by have h : t.val < 8 := t.isLt; omega⟩

/-- The rows' queries, the rows' cotangents and the memory's keys and values. -/
def Q (c : Dev nD) (r : Fin 4096) (n : Fin 1024) : EReal := Cert.MemattnRefIdeal.Read.val_main_v19 (F := Ideal) (m ((c : Thread nD τ).loc main_arg1)) (m ((c : Thread nD τ).loc main_arg2)) (m ((c : Thread nD τ).loc main_arg4)) (ix2 r n)
def D (c : Dev nD) (r : Fin 4096) (n : Fin 1024) : EReal := Norm.dot (fun x => (m ((c : Thread nD τ).loc main_arg0)) (ix2 r x)) fun x => (m ((c : Thread nD τ).loc main_arg5)) (ix2 n x)
def K (c : Dev nD) (j : Fin 256) (n : Fin 2048) : EReal := (m ((c : Thread nD τ).loc main_arg3)) (ix2 j n)

/-- Block `t` of the inputs, as rows of the arrays. -/
theorem in0 (c : Dev nD) (t : Fin cfg0.N) (a : Fin 512) (b : Fin 1024) : (iblk m c 0 t (ix2 a b) : EReal) = (m ((c : Thread nD τ).loc main_arg0)) (ix2 (row t a) b) := by
  unfold row
  blk_point [iblk, V, idx_val t]
theorem in1 (c : Dev nD) (t : Fin cfg0.N) (a : Fin 512) (b : Fin 1024) : (iblk m c 1 t (ix2 a b) : EReal) = (m ((c : Thread nD τ).loc main_arg0)) (ix2 (row t a) b) := by
  unfold row
  blk_ext [iblk, V, idx_val t]
theorem in2 (c : Dev nD) (t : Fin cfg0.N) (a : Fin 512) (b : Fin 1024) : (iblk m c 2 t (ix2 a b) : EReal) = (m ((c : Thread nD τ).loc main_arg1)) (ix2 (row t a) b) := by
  unfold row
  blk_ext [iblk, V, idx_val t]
theorem in3 (c : Dev nD) (t : Fin cfg0.N) (a : Fin 1) (b : Fin 1024) : (iblk m c 3 t (ix2 a b) : EReal) = (m ((c : Thread nD τ).loc main_arg2)) (ix1 b) := by
  blk_point [iblk, V, idx_val t]
theorem in6 (c : Dev nD) (t : Fin cfg0.N) (a b : Fin 1024) : (iblk m c 6 t (ix2 a b) : EReal) = (m ((c : Thread nD τ).loc main_arg4)) (ix2 a b) := by
  blk_ext [iblk, V, idx_val t]
theorem in7 (c : Dev nD) (t : Fin cfg0.N) (a b : Fin 1024) : (iblk m c 7 t (ix2 a b) : EReal) = (m ((c : Thread nD τ).loc main_arg5)) (ix2 a b) := by
  blk_ext [iblk, V, idx_val t]

theorem in4 (c : Dev nD) (t : Fin cfg0.N) (a : Fin 512) (b : Fin 1024) : (iblk m c 4 t (ix2 a b) : EReal) = Q m c (row t a) b := by
  unfold Q row
  refine Eq.trans ?_ (V_q m c _ _)
  blk_ext [iblk, idx_val t]
theorem in5 (c : Dev nD) (t : Fin cfg0.N) (a : Fin 256) (b : Fin 2048) : (iblk m c 5 t (ix2 a b) : EReal) = K m c a b := by
  unfold K
  blk_ext [iblk, V, idx_val t]

/-- A head's columns of the block of queries, and of the memory's keys and values. -/
theorem q_at (c : Dev nD) (t : Fin cfg0.N) (o : ℕ) (inb) (a : Fin 512) (x : Fin 256) (ho : o + x.val < 1024) :
    (View.ld (iblk m c 4 t) (Rect.unit ![0, o] ![512, 256] inb) (ix2 a x) : EReal) = Q m c (row t a) ⟨o + x.val, ho⟩ := by
  refine Eq.trans ?_ (in4 m c t a _)
  exact View.ld_unit_apply_of _ _ _ inb _ _ fun b => by fin_cases b <;> simp
theorem kv_at (c : Dev nD) (t : Fin cfg0.N) (o : ℕ) (inb) (j x : Fin 256) (ho : o + x.val < 2048) :
    (View.ld (iblk m c 5 t) (Rect.unit ![0, o] ![256, 256] inb) (ix2 j x) : EReal) = K m c j ⟨o + x.val, ho⟩ := by
  refine Eq.trans ?_ (in5 m c t j _)
  exact View.ld_unit_apply_of _ _ _ inb _ _ fun b => by fin_cases b <;> simp
theorem D_at (c : Dev nD) (t : Fin cfg0.N) (a : Fin 512) (n : Fin 1024) : ((k0_pay4 (iblk m c 0 t) (iblk m c 7 t)) (ix2 a n) : EReal) = D m c (row t a) n := by
  refine (do_at _ _ a n).trans ?_
  unfold D Norm.dot
  exact Finset.sum_congr rfl fun x _ => congrArg₂ (· * ·) (in0 m c t a x) (in7 m c t n x)

/-- The block's scores and their probabilities' cotangents are the arrays'. -/
theorem loc_at (c : Dev nD) (t : Fin cfg0.N) (h : Fin 4) (o : ℕ) (ho : o = h.val * 256) (inb inb') (a : Fin 512) :
    loc (View.ld (iblk m c 4 t) (Rect.unit ![0, o] ![512, 256] inb)) (View.ld (iblk m c 5 t) (Rect.unit ![0, o] ![256, 256] inb')) a = Attn.sc (Q m c (row t a)) (K m c) h := by
  subst ho
  funext j
  unfold loc Attn.sc
  exact congrArg (· * _) (Finset.sum_congr rfl fun x _ => congrArg₂ (· * ·) (q_at m c t _ inb a x _) (kv_at m c t _ inb' j x _))
theorem cot_at (c : Dev nD) (t : Fin cfg0.N) (h : Fin 4) (o p : ℕ) (ho : o = h.val * 256) (hp : p = 1024 + h.val * 256) (inb) (h1) (a : Fin 512) :
    cot (k0_pay4 (iblk m c 0 t) (iblk m c 7 t)) (View.ld (iblk m c 5 t) (Rect.unit ![0, p] ![256, 256] inb)) o h1 a = Attn.dp (D m c (row t a)) (K m c) h := by
  subst ho hp
  funext j
  unfold cot Attn.dp
  exact Finset.sum_congr rfl fun x _ => congrArg₂ (· * ·) (D_at m c t a _) (kv_at m c t _ inb j x _)

/-- A head's part of the rows' gradient. -/
theorem dq_at (c : Dev nD) (t : Fin cfg0.N) (h : Fin 4) (o p : ℕ) (ho : o = h.val * 256) (hp : p = 1024 + h.val * 256) (inb inb' inb'') (h1) (a : Fin 512) (i : Fin 256) :
    ∑ j : Fin 256, Softmax.ds (loc (View.ld (iblk m c 4 t) (Rect.unit ![0, o] ![512, 256] inb)) (View.ld (iblk m c 5 t) (Rect.unit ![0, o] ![256, 256] inb')) a)
        (cot (k0_pay4 (iblk m c 0 t) (iblk m c 7 t)) (View.ld (iblk m c 5 t) (Rect.unit ![0, p] ![256, 256] inb'')) o h1 a) j * View.ld (iblk m c 5 t) (Rect.unit ![0, o] ![256, 256] inb') (ix2 j i)
      = Attn.dq (Q m c (row t a)) (D m c (row t a)) (K m c) h i := by
  unfold Attn.dq Attn.ds
  refine Finset.sum_congr rfl fun j _ => congrArg₂ (· * ·) (congrFun (congrArg₂ Softmax.ds (loc_at m c t h o ho inb inb' a) (cot_at m c t h o p ho hp inb'' h1 a)) j) ?_
  subst ho
  exact kv_at m c t _ inb' j i _

/-- A head's part of a grid point's share of the keys' gradient, and of the values'. -/
theorem dk_at (c : Dev nD) (t : Fin cfg0.N) (h : Fin 4) (o p : ℕ) (ho : o = h.val * 256) (hp : p = 1024 + h.val * 256) (inb inb' inb'') (h1) (j i : Fin 256) :
    ∑ a : Fin 512, Softmax.ds (loc (View.ld (iblk m c 4 t) (Rect.unit ![0, o] ![512, 256] inb)) (View.ld (iblk m c 5 t) (Rect.unit ![0, o] ![256, 256] inb')) a)
        (cot (k0_pay4 (iblk m c 0 t) (iblk m c 7 t)) (View.ld (iblk m c 5 t) (Rect.unit ![0, p] ![256, 256] inb'')) o h1 a) j * View.ld (iblk m c 4 t) (Rect.unit ![0, o] ![512, 256] inb) (ix2 a i)
      = ∑ a : Fin 512, Attn.dk (Q m c (row t a)) (D m c (row t a)) (K m c) h j i := by
  unfold Attn.dk Attn.ds
  refine Finset.sum_congr rfl fun a _ => congrArg₂ (· * ·) (congrFun (congrArg₂ Softmax.ds (loc_at m c t h o ho inb inb' a) (cot_at m c t h o p ho hp inb'' h1 a)) j) ?_
  subst ho
  exact q_at m c t _ inb a i _
theorem dv_at (c : Dev nD) (t : Fin cfg0.N) (h : Fin 4) (o : ℕ) (ho : o = h.val * 256) (inb inb') (j i : Fin 256) (hn : o + i.val < 1024) :
    ∑ a : Fin 512, Softmax.pr (loc (View.ld (iblk m c 4 t) (Rect.unit ![0, o] ![512, 256] inb)) (View.ld (iblk m c 5 t) (Rect.unit ![0, o] ![256, 256] inb')) a) j
        * (k0_pay4 (iblk m c 0 t) (iblk m c 7 t)) (ix2 a ⟨o + i.val, hn⟩)
      = ∑ a : Fin 512, Attn.dv (Q m c (row t a)) (D m c (row t a)) (K m c) h j i := by
  unfold Attn.dv
  refine Finset.sum_congr rfl fun a _ => congrArg₂ (· * ·) (congrFun (congrArg Softmax.pr (loc_at m c t h o ho inb inb' a)) j) ?_
  subst ho
  exact D_at m c t a _

/-- The queries' gradient of the block, from the four heads' pieces. -/
@[irreducible] def dqb (c : Dev nD) (t : Fin cfg0.N) : FVec Ideal S512x1024 .bf16 :=
  View.canon ([⟨Rect.unit ![0, 768] ![512, 256] inb_S512x1024_S512x256_0_768, k0_pay33 (k0_pay4 (iblk m c 0 t) (iblk m c 7 t)) (k0_pay29 (View.ld (iblk m c 4 t) (Rect.unit ![0, 768] ![512, 256] inb_S512x1024_S512x256_0_768))) (View.ld (iblk m c 5 t) (Rect.unit ![0, 768] ![256, 256] inb_S256x2048_S256x256_0_768)) (View.ld (iblk m c 5 t) (Rect.unit ![0, 1792] ![256, 256] inb_S256x2048_S256x256_0_1792))⟩,
    ⟨Rect.unit ![0, 512] ![512, 256] inb_S512x1024_S512x256_0_512, k0_pay26 (View.ld (iblk m c 5 t) (Rect.unit ![0, 512] ![256, 256] inb_S256x2048_S256x256_0_512)) (View.ld (iblk m c 5 t) (Rect.unit ![0, 1536] ![256, 256] inb_S256x2048_S256x256_0_1536)) (k0_pay22 (k0_pay4 (iblk m c 0 t) (iblk m c 7 t))) (k0_pay23 (View.ld (iblk m c 4 t) (Rect.unit ![0, 512] ![512, 256] inb_S512x1024_S512x256_0_512)) (View.ld (iblk m c 5 t) (Rect.unit ![0, 512] ![256, 256] inb_S256x2048_S256x256_0_512)))⟩,
    ⟨Rect.unit ![0, 256] ![512, 256] inb_S512x1024_S512x256_0_256, k0_pay18 (View.ld (iblk m c 5 t) (Rect.unit ![0, 256] ![256, 256] inb_S256x2048_S256x256_0_256)) (k0_pay14 (View.ld (iblk m c 4 t) (Rect.unit ![0, 256] ![512, 256] inb_S512x1024_S512x256_0_256)) (View.ld (iblk m c 5 t) (Rect.unit ![0, 256] ![256, 256] inb_S256x2048_S256x256_0_256))) (k0_pay15 (k0_pay4 (iblk m c 0 t) (iblk m c 7 t)) (View.ld (iblk m c 5 t) (Rect.unit ![0, 1280] ![256, 256] inb_S256x2048_S256x256_0_1280))) (k0_pay16 (k0_pay4 (iblk m c 0 t) (iblk m c 7 t)) (View.ld (iblk m c 4 t) (Rect.unit ![0, 256] ![512, 256] inb_S512x1024_S512x256_0_256)) (View.ld (iblk m c 5 t) (Rect.unit ![0, 256] ![256, 256] inb_S256x2048_S256x256_0_256)) (View.ld (iblk m c 5 t) (Rect.unit ![0, 1280] ![256, 256] inb_S256x2048_S256x256_0_1280)))⟩,
    ⟨Rect.unit ![0, 0] ![512, 256] inb_S512x1024_S512x256_0_0, k0_pay9 (iblk m c 0 t) (iblk m c 7 t) (View.ld (iblk m c 4 t) (Rect.unit ![0, 0] ![512, 256] inb_S512x1024_S512x256_0_0)) (View.ld (iblk m c 5 t) (Rect.unit ![0, 0] ![256, 256] inb_S256x2048_S256x256_0_0)) (View.ld (iblk m c 5 t) (Rect.unit ![0, 1024] ![256, 256] inb_S256x2048_S256x256_0_1024))⟩] : List (View.Piece (Elt Ideal) S512x1024 .bf16))
theorem dqb_at (c : Dev nD) (t : Fin cfg0.N) (a : Fin 512) (n : Fin 1024) : (dqb m c t (ix2 a n) : EReal) = Attn.dqs (Q m c (row t a)) (D m c (row t a)) (K m c) n := by
  unfold dqb
  canon_tiles x k
  · idx_vars x
    obtain rfl : a = x0 := Fin.ext (by simpa using k0)
    have k1' : n.val = 768 + x1.val := by simpa using k1
    refine (dq3 (k0_pay4 (iblk m c 0 t) (iblk m c 7 t)) (View.ld (iblk m c 4 t) (Rect.unit ![0, 768] ![512, 256] inb_S512x1024_S512x256_0_768)) (View.ld (iblk m c 5 t) (Rect.unit ![0, 768] ![256, 256] inb_S256x2048_S256x256_0_768)) (View.ld (iblk m c 5 t) (Rect.unit ![0, 1792] ![256, 256] inb_S256x2048_S256x256_0_1792)) a x1).trans ((dq_at m c t 3 768 1792 rfl rfl _ _ _ _ a x1).trans ?_)
    unfold Attn.dqs
    exact congrArg₂ (Attn.dq _ _ _) (Fin.ext (by show 3 = n.val / 256; omega)) (Fin.ext (by show x1.val = n.val % 256; omega))
  · idx_vars x
    obtain rfl : a = x0 := Fin.ext (by simpa using k0)
    have k1' : n.val = 512 + x1.val := by simpa using k1
    refine (dq2 (k0_pay4 (iblk m c 0 t) (iblk m c 7 t)) (View.ld (iblk m c 4 t) (Rect.unit ![0, 512] ![512, 256] inb_S512x1024_S512x256_0_512)) (View.ld (iblk m c 5 t) (Rect.unit ![0, 512] ![256, 256] inb_S256x2048_S256x256_0_512)) (View.ld (iblk m c 5 t) (Rect.unit ![0, 1536] ![256, 256] inb_S256x2048_S256x256_0_1536)) a x1).trans ((dq_at m c t 2 512 1536 rfl rfl _ _ _ _ a x1).trans ?_)
    unfold Attn.dqs
    exact congrArg₂ (Attn.dq _ _ _) (Fin.ext (by show 2 = n.val / 256; omega)) (Fin.ext (by show x1.val = n.val % 256; omega))
  · idx_vars x
    obtain rfl : a = x0 := Fin.ext (by simpa using k0)
    have k1' : n.val = 256 + x1.val := by simpa using k1
    refine (dq1 (k0_pay4 (iblk m c 0 t) (iblk m c 7 t)) (View.ld (iblk m c 4 t) (Rect.unit ![0, 256] ![512, 256] inb_S512x1024_S512x256_0_256)) (View.ld (iblk m c 5 t) (Rect.unit ![0, 256] ![256, 256] inb_S256x2048_S256x256_0_256)) (View.ld (iblk m c 5 t) (Rect.unit ![0, 1280] ![256, 256] inb_S256x2048_S256x256_0_1280)) a x1).trans ((dq_at m c t 1 256 1280 rfl rfl _ _ _ _ a x1).trans ?_)
    unfold Attn.dqs
    exact congrArg₂ (Attn.dq _ _ _) (Fin.ext (by show 1 = n.val / 256; omega)) (Fin.ext (by show x1.val = n.val % 256; omega))
  · idx_vars x
    obtain rfl : a = x0 := Fin.ext (by simpa using k0)
    have k1' : n.val = 0 + x1.val := by simpa using k1
    refine (dq0 (iblk m c 0 t) (iblk m c 7 t) (View.ld (iblk m c 4 t) (Rect.unit ![0, 0] ![512, 256] inb_S512x1024_S512x256_0_0)) (View.ld (iblk m c 5 t) (Rect.unit ![0, 0] ![256, 256] inb_S256x2048_S256x256_0_0)) (View.ld (iblk m c 5 t) (Rect.unit ![0, 1024] ![256, 256] inb_S256x2048_S256x256_0_1024)) a x1).trans ((dq_at m c t 0 0 1024 rfl rfl _ _ _ _ a x1).trans ?_)
    unfold Attn.dqs
    exact congrArg₂ (Attn.dq _ _ _) (Fin.ext (by show 0 = n.val / 256; omega)) (Fin.ext (by show x1.val = n.val % 256; omega))

/-- A row's share of the keys' and values' gradient, at column `n`. -/
def share (c : Dev nD) (j : Fin 256) (n : Fin 2048) (r : Fin 4096) : EReal :=
  if n.val < 1024 then Attn.dk (Q m c r) (D m c r) (K m c) ⟨n.val / 256 % 4, by omega⟩ j ⟨n.val % 256, by omega⟩
  else Attn.dv (Q m c r) (D m c r) (K m c) ⟨n.val / 256 % 4, by omega⟩ j ⟨n.val % 256, by omega⟩
theorem share_dk (c : Dev nD) (j : Fin 256) (n : Fin 2048) (r : Fin 4096) (h : Fin 4) (i : Fin 256) (e : n.val = h.val * 256 + i.val) :
    share m c j n r = Attn.dk (Q m c r) (D m c r) (K m c) h j i := by
  unfold share
  rw [if_pos (by omega)]
  exact congrArg₂ (fun h i => Attn.dk _ _ _ h j i) (Fin.ext (by dsimp only; omega)) (Fin.ext (by dsimp only; omega))
theorem share_dv (c : Dev nD) (j : Fin 256) (n : Fin 2048) (r : Fin 4096) (h : Fin 4) (i : Fin 256) (e : n.val = 1024 + (h.val * 256 + i.val)) :
    share m c j n r = Attn.dv (Q m c r) (D m c r) (K m c) h j i := by
  unfold share
  rw [if_neg (by omega)]
  exact congrArg₂ (fun h i => Attn.dv _ _ _ h j i) (Fin.ext (by dsimp only; omega)) (Fin.ext (by dsimp only; omega))

/-- The eight pieces a grid point adds to `Z`, over whatever was stored before. -/
@[irreducible] def kvb (c : Dev nD) (t : Fin cfg0.N) (Z : Vec Ideal S256x2048 .f32) (L : List (View.Piece (Elt Ideal) S256x2048 .f32)) : Vec Ideal S256x2048 .f32 :=
  View.canon (([⟨Rect.unit ![0, 1792] ![256, 256] inb_S256x2048_S256x256_0_1792, k0_pay35 (k0_pay4 (iblk m c 0 t) (iblk m c 7 t)) (k0_pay29 (View.ld (iblk m c 4 t) (Rect.unit ![0, 768] ![512, 256] inb_S512x1024_S512x256_0_768))) (View.ld (iblk m c 5 t) (Rect.unit ![0, 768] ![256, 256] inb_S256x2048_S256x256_0_768)) (View.ld Z (Rect.unit ![0, 1792] ![256, 256] inb_S256x2048_S256x256_0_1792))⟩,
    ⟨Rect.unit ![0, 768] ![256, 256] inb_S256x2048_S256x256_0_768, k0_pay34 (k0_pay4 (iblk m c 0 t) (iblk m c 7 t)) (k0_pay29 (View.ld (iblk m c 4 t) (Rect.unit ![0, 768] ![512, 256] inb_S512x1024_S512x256_0_768))) (View.ld (iblk m c 5 t) (Rect.unit ![0, 768] ![256, 256] inb_S256x2048_S256x256_0_768)) (View.ld (iblk m c 5 t) (Rect.unit ![0, 1792] ![256, 256] inb_S256x2048_S256x256_0_1792)) (View.ld Z (Rect.unit ![0, 768] ![256, 256] inb_S256x2048_S256x256_0_768))⟩,
    ⟨Rect.unit ![0, 1536] ![256, 256] inb_S256x2048_S256x256_0_1536, k0_pay28 (k0_pay22 (k0_pay4 (iblk m c 0 t) (iblk m c 7 t))) (k0_pay23 (View.ld (iblk m c 4 t) (Rect.unit ![0, 512] ![512, 256] inb_S512x1024_S512x256_0_512)) (View.ld (iblk m c 5 t) (Rect.unit ![0, 512] ![256, 256] inb_S256x2048_S256x256_0_512))) (View.ld Z (Rect.unit ![0, 1536] ![256, 256] inb_S256x2048_S256x256_0_1536))⟩,
    ⟨Rect.unit ![0, 512] ![256, 256] inb_S256x2048_S256x256_0_512, k0_pay27 (k0_pay21 (View.ld (iblk m c 4 t) (Rect.unit ![0, 512] ![512, 256] inb_S512x1024_S512x256_0_512))) (View.ld (iblk m c 5 t) (Rect.unit ![0, 1536] ![256, 256] inb_S256x2048_S256x256_0_1536)) (k0_pay22 (k0_pay4 (iblk m c 0 t) (iblk m c 7 t))) (k0_pay23 (View.ld (iblk m c 4 t) (Rect.unit ![0, 512] ![512, 256] inb_S512x1024_S512x256_0_512)) (View.ld (iblk m c 5 t) (Rect.unit ![0, 512] ![256, 256] inb_S256x2048_S256x256_0_512))) (View.ld Z (Rect.unit ![0, 512] ![256, 256] inb_S256x2048_S256x256_0_512))⟩,
    ⟨Rect.unit ![0, 1280] ![256, 256] inb_S256x2048_S256x256_0_1280, k0_pay20 (k0_pay13 (k0_pay4 (iblk m c 0 t) (iblk m c 7 t))) (k0_pay14 (View.ld (iblk m c 4 t) (Rect.unit ![0, 256] ![512, 256] inb_S512x1024_S512x256_0_256)) (View.ld (iblk m c 5 t) (Rect.unit ![0, 256] ![256, 256] inb_S256x2048_S256x256_0_256))) (View.ld Z (Rect.unit ![0, 1280] ![256, 256] inb_S256x2048_S256x256_0_1280))⟩,
    ⟨Rect.unit ![0, 256] ![256, 256] inb_S256x2048_S256x256_0_256, k0_pay19 (k0_pay12 (View.ld (iblk m c 4 t) (Rect.unit ![0, 256] ![512, 256] inb_S512x1024_S512x256_0_256))) (k0_pay14 (View.ld (iblk m c 4 t) (Rect.unit ![0, 256] ![512, 256] inb_S512x1024_S512x256_0_256)) (View.ld (iblk m c 5 t) (Rect.unit ![0, 256] ![256, 256] inb_S256x2048_S256x256_0_256))) (k0_pay15 (k0_pay4 (iblk m c 0 t) (iblk m c 7 t)) (View.ld (iblk m c 5 t) (Rect.unit ![0, 1280] ![256, 256] inb_S256x2048_S256x256_0_1280))) (k0_pay16 (k0_pay4 (iblk m c 0 t) (iblk m c 7 t)) (View.ld (iblk m c 4 t) (Rect.unit ![0, 256] ![512, 256] inb_S512x1024_S512x256_0_256)) (View.ld (iblk m c 5 t) (Rect.unit ![0, 256] ![256, 256] inb_S256x2048_S256x256_0_256)) (View.ld (iblk m c 5 t) (Rect.unit ![0, 1280] ![256, 256] inb_S256x2048_S256x256_0_1280))) (View.ld Z (Rect.unit ![0, 256] ![256, 256] inb_S256x2048_S256x256_0_256))⟩,
    ⟨Rect.unit ![0, 1024] ![256, 256] inb_S256x2048_S256x256_0_1024, k0_pay11 (k0_pay6 (iblk m c 0 t) (iblk m c 7 t)) (k0_pay7 (View.ld (iblk m c 4 t) (Rect.unit ![0, 0] ![512, 256] inb_S512x1024_S512x256_0_0)) (View.ld (iblk m c 5 t) (Rect.unit ![0, 0] ![256, 256] inb_S256x2048_S256x256_0_0))) (View.ld Z (Rect.unit ![0, 1024] ![256, 256] inb_S256x2048_S256x256_0_1024))⟩,
    ⟨Rect.unit ![0, 0] ![256, 256] inb_S256x2048_S256x256_0_0, k0_pay10 (k0_pay5 (View.ld (iblk m c 4 t) (Rect.unit ![0, 0] ![512, 256] inb_S512x1024_S512x256_0_0))) (k0_pay8 (iblk m c 0 t) (iblk m c 7 t) (View.ld (iblk m c 4 t) (Rect.unit ![0, 0] ![512, 256] inb_S512x1024_S512x256_0_0)) (View.ld (iblk m c 5 t) (Rect.unit ![0, 0] ![256, 256] inb_S256x2048_S256x256_0_0)) (View.ld (iblk m c 5 t) (Rect.unit ![0, 1024] ![256, 256] inb_S256x2048_S256x256_0_1024))) (View.ld Z (Rect.unit ![0, 0] ![256, 256] inb_S256x2048_S256x256_0_0))⟩] : List (View.Piece (Elt Ideal) S256x2048 .f32)) ++ L)
theorem kvb_at (c : Dev nD) (t : Fin cfg0.N) (Z : Vec Ideal S256x2048 .f32) (L : List (View.Piece (Elt Ideal) S256x2048 .f32)) (y : S256x2048.Idx) :
    kvb m c t Z L y = Z y + ∑ a : Fin 512, share m c (y 0) (y 1) (row t a) := by
  unfold kvb
  refine View.canon_append_of_piecesOf (fun y => (Z y + ∑ a : Fin 512, share m c (y 0) (y 1) (row t a) : EReal)) L _ ?_ y ?_
  · refine ⟨?_, ?_, ?_, ?_, ?_, ?_, ?_, ?_, trivial⟩
    · intro x
      idx_vars x
      refine (dv3 (k0_pay4 (iblk m c 0 t) (iblk m c 7 t)) (View.ld (iblk m c 4 t) (Rect.unit ![0, 768] ![512, 256] inb_S512x1024_S512x256_0_768)) (View.ld (iblk m c 5 t) (Rect.unit ![0, 768] ![256, 256] inb_S256x2048_S256x256_0_768)) (View.ld Z (Rect.unit ![0, 1792] ![256, 256] inb_S256x2048_S256x256_0_1792)) x0 x1).trans (congrArg₂ (fun u w : EReal => u + w) ?_ ((dv_at m c t 3 768 rfl _ _ x0 x1 _).trans ?_))
      · blk_ext []
      · exact Finset.sum_congr rfl fun a _ => (share_dv m c _ _ _ 3 x1 (by blk_simp <;> omega)).symm.trans (congrArg₂ (fun j n => share m c j n _) (Fin.ext (by simp)) rfl)
    · intro x
      idx_vars x
      refine (dk3 (k0_pay4 (iblk m c 0 t) (iblk m c 7 t)) (View.ld (iblk m c 4 t) (Rect.unit ![0, 768] ![512, 256] inb_S512x1024_S512x256_0_768)) (View.ld (iblk m c 5 t) (Rect.unit ![0, 768] ![256, 256] inb_S256x2048_S256x256_0_768)) (View.ld (iblk m c 5 t) (Rect.unit ![0, 1792] ![256, 256] inb_S256x2048_S256x256_0_1792)) (View.ld Z (Rect.unit ![0, 768] ![256, 256] inb_S256x2048_S256x256_0_768)) x0 x1).trans (congrArg₂ (fun u w : EReal => u + w) ?_ ((dk_at m c t 3 768 1792 rfl rfl _ _ _ _ x0 x1).trans ?_))
      · blk_ext []
      · exact Finset.sum_congr rfl fun a _ => (share_dk m c _ _ _ 3 x1 (by blk_simp <;> omega)).symm.trans (congrArg₂ (fun j n => share m c j n _) (Fin.ext (by simp)) rfl)
    · intro x
      idx_vars x
      refine (dv2 (k0_pay4 (iblk m c 0 t) (iblk m c 7 t)) (View.ld (iblk m c 4 t) (Rect.unit ![0, 512] ![512, 256] inb_S512x1024_S512x256_0_512)) (View.ld (iblk m c 5 t) (Rect.unit ![0, 512] ![256, 256] inb_S256x2048_S256x256_0_512)) (View.ld Z (Rect.unit ![0, 1536] ![256, 256] inb_S256x2048_S256x256_0_1536)) x0 x1).trans (congrArg₂ (fun u w : EReal => u + w) ?_ ((dv_at m c t 2 512 rfl _ _ x0 x1 _).trans ?_))
      · blk_ext []
      · exact Finset.sum_congr rfl fun a _ => (share_dv m c _ _ _ 2 x1 (by blk_simp <;> omega)).symm.trans (congrArg₂ (fun j n => share m c j n _) (Fin.ext (by simp)) rfl)
    · intro x
      idx_vars x
      refine (dk2 (k0_pay4 (iblk m c 0 t) (iblk m c 7 t)) (View.ld (iblk m c 4 t) (Rect.unit ![0, 512] ![512, 256] inb_S512x1024_S512x256_0_512)) (View.ld (iblk m c 5 t) (Rect.unit ![0, 512] ![256, 256] inb_S256x2048_S256x256_0_512)) (View.ld (iblk m c 5 t) (Rect.unit ![0, 1536] ![256, 256] inb_S256x2048_S256x256_0_1536)) (View.ld Z (Rect.unit ![0, 512] ![256, 256] inb_S256x2048_S256x256_0_512)) x0 x1).trans (congrArg₂ (fun u w : EReal => u + w) ?_ ((dk_at m c t 2 512 1536 rfl rfl _ _ _ _ x0 x1).trans ?_))
      · blk_ext []
      · exact Finset.sum_congr rfl fun a _ => (share_dk m c _ _ _ 2 x1 (by blk_simp <;> omega)).symm.trans (congrArg₂ (fun j n => share m c j n _) (Fin.ext (by simp)) rfl)
    · intro x
      idx_vars x
      refine (dv1 (k0_pay4 (iblk m c 0 t) (iblk m c 7 t)) (View.ld (iblk m c 4 t) (Rect.unit ![0, 256] ![512, 256] inb_S512x1024_S512x256_0_256)) (View.ld (iblk m c 5 t) (Rect.unit ![0, 256] ![256, 256] inb_S256x2048_S256x256_0_256)) (View.ld Z (Rect.unit ![0, 1280] ![256, 256] inb_S256x2048_S256x256_0_1280)) x0 x1).trans (congrArg₂ (fun u w : EReal => u + w) ?_ ((dv_at m c t 1 256 rfl _ _ x0 x1 _).trans ?_))
      · blk_ext []
      · exact Finset.sum_congr rfl fun a _ => (share_dv m c _ _ _ 1 x1 (by blk_simp <;> omega)).symm.trans (congrArg₂ (fun j n => share m c j n _) (Fin.ext (by simp)) rfl)
    · intro x
      idx_vars x
      refine (dk1 (k0_pay4 (iblk m c 0 t) (iblk m c 7 t)) (View.ld (iblk m c 4 t) (Rect.unit ![0, 256] ![512, 256] inb_S512x1024_S512x256_0_256)) (View.ld (iblk m c 5 t) (Rect.unit ![0, 256] ![256, 256] inb_S256x2048_S256x256_0_256)) (View.ld (iblk m c 5 t) (Rect.unit ![0, 1280] ![256, 256] inb_S256x2048_S256x256_0_1280)) (View.ld Z (Rect.unit ![0, 256] ![256, 256] inb_S256x2048_S256x256_0_256)) x0 x1).trans (congrArg₂ (fun u w : EReal => u + w) ?_ ((dk_at m c t 1 256 1280 rfl rfl _ _ _ _ x0 x1).trans ?_))
      · blk_ext []
      · exact Finset.sum_congr rfl fun a _ => (share_dk m c _ _ _ 1 x1 (by blk_simp <;> omega)).symm.trans (congrArg₂ (fun j n => share m c j n _) (Fin.ext (by simp)) rfl)
    · intro x
      idx_vars x
      refine (dv0 (iblk m c 0 t) (iblk m c 7 t) (View.ld (iblk m c 4 t) (Rect.unit ![0, 0] ![512, 256] inb_S512x1024_S512x256_0_0)) (View.ld (iblk m c 5 t) (Rect.unit ![0, 0] ![256, 256] inb_S256x2048_S256x256_0_0)) (View.ld Z (Rect.unit ![0, 1024] ![256, 256] inb_S256x2048_S256x256_0_1024)) x0 x1).trans (congrArg₂ (fun u w : EReal => u + w) ?_ ((dv_at m c t 0 0 rfl _ _ x0 x1 _).trans ?_))
      · blk_ext []
      · exact Finset.sum_congr rfl fun a _ => (share_dv m c _ _ _ 0 x1 (by blk_simp <;> omega)).symm.trans (congrArg₂ (fun j n => share m c j n _) (Fin.ext (by simp)) rfl)
    · intro x
      idx_vars x
      refine (dk0 (iblk m c 0 t) (iblk m c 7 t) (View.ld (iblk m c 4 t) (Rect.unit ![0, 0] ![512, 256] inb_S512x1024_S512x256_0_0)) (View.ld (iblk m c 5 t) (Rect.unit ![0, 0] ![256, 256] inb_S256x2048_S256x256_0_0)) (View.ld (iblk m c 5 t) (Rect.unit ![0, 1024] ![256, 256] inb_S256x2048_S256x256_0_1024)) (View.ld Z (Rect.unit ![0, 0] ![256, 256] inb_S256x2048_S256x256_0_0)) x0 x1).trans (congrArg₂ (fun u w : EReal => u + w) ?_ ((dk_at m c t 0 0 1024 rfl rfl _ _ _ _ x0 x1).trans ?_))
      · blk_ext []
      · exact Finset.sum_congr rfl fun a _ => (share_dk m c _ _ _ 0 x1 (by blk_simp <;> omega)).symm.trans (congrArg₂ (fun j n => share m c j n _) (Fin.ext (by simp)) rfl)
  · exact View.cover_of_tiledBy _ ![256, 256] (by sl_kernel_rfl) y

/-- A read of a whole block is what was stored in it. -/
theorem whole_read {sp : Space} (v : View sig Kind.tc sp S512x1024 .bf16) (L : List (View.Piece (Elt Ideal) S512x1024 .bf16)) (inb) :
    v.readCov L (Rect.unit ![0, 0] ![512, 1024] inb).toLoadRect = View.canon L := by
  rw [View.readCov_eq_canon']
  funext j
  refine congrArg (View.canon L) (funext fun a => Fin.ext ?_)
  fin_cases a <;> simp

/-- What grid point `t` leaves in the blocks of rows, as the body's own words. -/
theorem outs_rows (c : Dev nD) (t : Fin cfg0.N) :
    (outsAt0 m c t.val t.isLt).1 = k0_pay39 (dqb m c t) (iblk m c 6 t) (iblk m c 2 t) (iblk m c 3 t) (iblk m c 1 t)
    ∧ (outsAt0 m c t.val t.isLt).2.1 = k0_pay40 (dqb m c t) (iblk m c 6 t) (iblk m c 2 t) (iblk m c 3 t) (iblk m c 1 t)
    ∧ (outsAt0 m c t.val t.isLt).2.2.2.1 = dqb m c t := by
  unfold dqb
  by_cases h0 : t.val % 8 = 0
  · rw [outsAt0_A m c t h0 h0]
    refine ⟨?_, ?_, by frame_out; rfl⟩
    · frame_out
      exact congrArg (fun D => k0_pay39 D _ _ _ _) (whole_read _ _ _)
    · frame_out
      exact congrArg (fun D => k0_pay40 D _ _ _ _) (whole_read _ _ _)
  · rw [outsAt0_B m c t h0 h0]
    refine ⟨?_, ?_, by frame_out; rfl⟩
    · frame_out
      exact congrArg (fun D => k0_pay39 D _ _ _ _) (whole_read _ _ _)
    · frame_out
      exact congrArg (fun D => k0_pay40 D _ _ _ _) (whole_read _ _ _)

/-- The cotangent of the normed rows. -/
theorem dh_at (c : Dev nD) (t : Fin cfg0.N) (a : Fin 512) (i : Fin 1024) :
    (k0_pay36 (dqb m c t) (iblk m c 6 t) (ix2 a i) : EReal) = Norm.dot (Attn.dqs (Q m c (row t a)) (D m c (row t a)) (K m c)) fun x => (m ((c : Thread nD τ).loc main_arg4)) (ix2 i x) := by
  refine Eq.trans (b := Norm.dot (fun x => (dqb m c t (ix2 a x) : EReal)) fun x => (iblk m c 6 t (ix2 i x) : EReal)) ?_ ?_
  · unfold Norm.dot
    pointwise [k0_pay36]
  · unfold Norm.dot
    exact Finset.sum_congr rfl fun x _ => congrArg₂ (· * ·) (dqb_at m c t a x) (in6 m c t i x)

/-- The rows' gradient at grid point `t`, where the block lands. -/
theorem point (c : Dev nD) (h0 : ∀ i, Reals.IsFin ((m ((c : Thread nD τ).loc main_arg0)) i)) (h1 : ∀ i, Reals.IsFin ((m ((c : Thread nD τ).loc main_arg1)) i)) (h2 : ∀ i, Reals.IsFin ((m ((c : Thread nD τ).loc main_arg2)) i)) (h3 : ∀ i, Reals.IsFin ((m ((c : Thread nD τ).loc main_arg3)) i)) (h4 : ∀ i, Reals.IsFin ((m ((c : Thread nD τ).loc main_arg4)) i)) (h5 : ∀ i, Reals.IsFin ((m ((c : Thread nD τ).loc main_arg5)) i)) (t : Fin cfg0.N) (y : S512x1024.Idx) (J : S4096x1024.Idx) (e0 : (J 0).val = t.val * 512 + (y 0).val) (e1 : (J 1).val = (y 1).val) :
    (k0_pay39 (dqb m c t) (iblk m c 6 t) (iblk m c 2 t) (iblk m c 3 t) (iblk m c 1 t) y : EReal)
      = Cert.MemattnRefIdeal.Read.val_main_v113 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) J := by
  idx_vars y
  refine Eq.trans ?_ (Cert.MemattnRefIdeal.Grad.ref_dx (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) h0 h1 h2 h3 h4 h5 J (row t y0) y1 e0.symm e1.symm).symm
  refine Eq.trans ?_ (Norm.row_congr (fun i => in2 m c t y0 i) (fun i => congrArg₂ (· * ·) (dh_at m c t y0 i) (in3 m c t 0 i)) (in1 m c t y0 y1))
  pointwise [k0_pay39, k0_pay37, k0_pay38]
  unfold Norm.row Norm.rsq Norm.msq
  rfl

/-- One grid point's share of the gain's gradient, added to `v`. -/
@[irreducible] def dgb (c : Dev nD) (t : Fin cfg0.N) (v : FVec Ideal S8x1024 .f32) : FVec Ideal S8x1024 .f32 := k0_pay2 (k0_pay41 (dqb m c t) (iblk m c 6 t) (iblk m c 2 t)) v
theorem part (c : Dev nD) (t : Fin cfg0.N) (v : FVec Ideal S8x1024 .f32) (j : S8x1024.Idx) :
    dgb m c t v j
      = v j + ∑ x : Fin 512, Norm.ext (Norm.gain (n := 4096) (fun r i => (m ((c : Thread nD τ).loc main_arg1)) (ix2 r i)) (fun r i => Norm.dot (Attn.dqs (Q m c r) (D m c r) (K m c)) fun x => (m ((c : Thread nD τ).loc main_arg4)) (ix2 i x)) (j 1)) (t.val * 512 + x.val) := by
  refine Eq.trans (b := v j + ∑ x : Fin 512, Norm.gain (n := 512) (fun r i => iblk m c 2 t (ix2 r i)) (fun r i => k0_pay36 (dqb m c t) (iblk m c 6 t) (ix2 r i)) (j 1) x) ?_
    (congrArg (v j + ·) (Finset.sum_congr rfl fun x _ => ?_))
  · unfold dgb
    pointwise [k0_pay2, k0_pay41, k0_pay37, k0_pay38]
    unfold Norm.gain Norm.rsq Norm.msq
    rfl
  · refine Eq.trans ?_ (Norm.ext_val _ (row t x)).symm
    exact Norm.gain_congr (fun i => in2 m c t x i) (dh_at m c t x (j 1))

/-- The gain's gradient after grid point `n`: the sum over the tiles so far. -/
theorem gain_acc (c : Dev nD) (y : S8x1024.Idx) (n : ℕ) (h : n < cfg0.N) :
    (outsAt0 m c n h).2.2.1 y = ∑ t ∈ Finset.range (n + 1), ∑ x : Fin 512, Norm.ext (Norm.gain (n := 4096) (fun r i => (m ((c : Thread nD τ).loc main_arg1)) (ix2 r i)) (fun r i => Norm.dot (Attn.dqs (Q m c r) (D m c r) (K m c)) fun x => (m ((c : Thread nD τ).loc main_arg4)) (ix2 i x)) (y 1)) (t * 512 + x.val) := by
  refine Norm.acc (N := cfg0.N) (fun n h => (outsAt0 m c n h).2.2.1 y) (fun t => ∑ x : Fin 512, Norm.ext (Norm.gain (n := 4096) (fun r i => (m ((c : Thread nD τ).loc main_arg1)) (ix2 r i)) (fun r i => Norm.dot (Attn.dqs (Q m c r) (D m c r) (K m c)) fun x => (m ((c : Thread nD τ).loc main_arg4)) (ix2 i x)) (y 1)) (t * 512 + x.val)) (fun h => ?_) (fun n h => ?_) n h
  · rw [outsAt0_A m c ⟨0, h⟩ (by rfl) (by rfl)]
    refine Eq.trans (b := dgb m c ⟨0, h⟩ (k0_pay1 (F := Ideal)) y) ?_ ((part m c _ _ _).trans ?_)
    · frame_out
      unfold dgb dqb
      exact congrArg (fun D => k0_pay2 (k0_pay41 D _ _) _ y) (whole_read _ _ _)
    · pointwise [k0_pay1]
  · have hn : n + 1 < 8 := h
    rw [outsAt0_B m c ⟨n + 1, h⟩ (by dsimp only; omega) (by dsimp only; omega)]
    refine Eq.trans (b := dgb m c ⟨n + 1, h⟩ (outsAt0 m c n (Nat.lt_of_succ_lt h)).2.2.1 y) ?_ (part m c _ _ _)
    frame_out
    unfold dgb dqb
    exact congrArg (fun D => k0_pay2 (k0_pay41 D _ _) _ y) (whole_read _ _ _)

/-- A grid point's rows of a sum over all rows. -/
theorem ext_rows (t : Fin cfg0.N) (g : Fin 4096 → EReal) : ∑ a : Fin 512, g (row t a) = ∑ x : Fin 512, Norm.ext g (t.val * 512 + x.val) :=
  Finset.sum_congr rfl fun x _ => (Norm.ext_val g (row t x)).symm

/-- The keys' and values' gradient after grid point `n`: the sum over the tiles so far. -/
theorem kv_acc (c : Dev nD) (y : S256x2048.Idx) (n : ℕ) (h : n < cfg0.N) :
    (outsAt0 m c n h).2.2.2.2 y = ∑ t ∈ Finset.range (n + 1), ∑ x : Fin 512, Norm.ext (share m c (y 0) (y 1)) (t * 512 + x.val) := by
  refine Norm.acc (N := cfg0.N) (fun n h => (outsAt0 m c n h).2.2.2.2 y) (fun t => ∑ x : Fin 512, Norm.ext (share m c (y 0) (y 1)) (t * 512 + x.val)) (fun h => ?_) (fun n h => ?_) n h
  · rw [outsAt0_A m c ⟨0, h⟩ (by rfl) (by rfl)]
    refine Eq.trans (b := kvb m c ⟨0, h⟩ (k0_pay3 (F := Ideal)) [⟨Rect.unit ![0, 0] ![256, 2048] inb_S256x2048_S256x2048_0_0, k0_pay3 (F := Ideal)⟩] y) ?_ ((kvb_at m c _ _ _ _).trans ?_)
    · unfold kvb
      frame_open
      simp (disch := decide) only [↓ View.readCov_skip, ↓ View.readCov_cons_toLoadRect, ↓ View.readCov_fill]
      frame_out
      rfl
    · rw [ext_rows]
      pointwise [k0_pay3]
  · have hn : n + 1 < 8 := h
    rw [outsAt0_B m c ⟨n + 1, h⟩ (by dsimp only; omega) (by dsimp only; omega)]
    refine Eq.trans (b := kvb m c ⟨n + 1, h⟩ (outsAt0 m c n (Nat.lt_of_succ_lt h)).2.2.2.2 [] y) ?_ ((kvb_at m c _ _ _ _).trans (congrArg (_ + ·) (ext_rows _ _)))
    unfold kvb
    frame_out
    rfl

/-- The rows' gradient the call leaves is the reference's. -/
theorem final8 (c : Dev nD) (h0 : ∀ i, Reals.IsFin ((m ((c : Thread nD τ).loc main_arg0)) i)) (h1 : ∀ i, Reals.IsFin ((m ((c : Thread nD τ).loc main_arg1)) i)) (h2 : ∀ i, Reals.IsFin ((m ((c : Thread nD τ).loc main_arg2)) i)) (h3 : ∀ i, Reals.IsFin ((m ((c : Thread nD τ).loc main_arg3)) i)) (h4 : ∀ i, Reals.IsFin ((m ((c : Thread nD τ).loc main_arg4)) i)) (h5 : ∀ i, Reals.IsFin ((m ((c : Thread nD τ).loc main_arg5)) i)) :
    (dats m 0 c).arrAt 8 cfg0.N = Cert.MemattnRefIdeal.Read.val_main_v113 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 8 _ (by decide +kernel) fun t hf y => ?_
  have e := (idx_val t).2.2.2.2.2.2.2.2.1
  blk_simp
  rw [after0_8, (outs_rows m c t).1]
  refine point m c h0 h1 h2 h3 h4 h5 t y _ ?_ ?_
  all_goals (blk_simp [e] <;> (try dsimp only) <;> try omega)

/-- Its copy in the narrow format is the reference's. -/
theorem final9 (c : Dev nD) (h0 : ∀ i, Reals.IsFin ((m ((c : Thread nD τ).loc main_arg0)) i)) (h1 : ∀ i, Reals.IsFin ((m ((c : Thread nD τ).loc main_arg1)) i)) (h2 : ∀ i, Reals.IsFin ((m ((c : Thread nD τ).loc main_arg2)) i)) (h3 : ∀ i, Reals.IsFin ((m ((c : Thread nD τ).loc main_arg3)) i)) (h4 : ∀ i, Reals.IsFin ((m ((c : Thread nD τ).loc main_arg4)) i)) (h5 : ∀ i, Reals.IsFin ((m ((c : Thread nD τ).loc main_arg5)) i)) :
    (dats m 0 c).arrAt 9 cfg0.N = Cert.MemattnRefIdeal.Read.val_main_v114 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 9 _ (by decide +kernel) fun t hf y => ?_
  have e := (idx_val t).2.2.2.2.2.2.2.2.2.1
  blk_simp
  rw [after0_9, (outs_rows m c t).2.1]
  refine point m c h0 h1 h2 h3 h4 h5 t y _ ?_ ?_
  all_goals (blk_simp [e] <;> (try dsimp only) <;> try omega)

/-- The gain's gradient the call leaves is the reference's. -/
theorem final10 (c : Dev nD) (h0 : ∀ i, Reals.IsFin ((m ((c : Thread nD τ).loc main_arg0)) i)) (h1 : ∀ i, Reals.IsFin ((m ((c : Thread nD τ).loc main_arg1)) i)) (h2 : ∀ i, Reals.IsFin ((m ((c : Thread nD τ).loc main_arg2)) i)) (h3 : ∀ i, Reals.IsFin ((m ((c : Thread nD τ).loc main_arg3)) i)) (h4 : ∀ i, Reals.IsFin ((m ((c : Thread nD τ).loc main_arg4)) i)) (h5 : ∀ i, Reals.IsFin ((m ((c : Thread nD τ).loc main_arg5)) i)) :
    (dats m 0 c).arrAt 10 cfg0.N = Cert.MemattnRefIdeal.Read.val_main_v116 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_after_last 10 t0_7 (by decide +kernel) _ fun j => ?_
  blk_simp
  rw [after0_10]
  refine (gain_acc m c _ _ _).trans ?_
  refine Eq.trans ?_ (Cert.MemattnRefIdeal.Grad.ref_dg (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) h0 h1 h2 h3 h4 h5 _ (j 1) ?_).symm
  · refine (Norm.sum_tiles 8 512 4096 rfl _).trans ?_
    exact Finset.sum_congr rfl fun r _ => Norm.ext_val _ r
  all_goals (blk_simp [idx_val t0_7] <;> (try dsimp only) <;> try omega)

/-- The queries' gradient the call leaves is the reference's. -/
theorem final11 (c : Dev nD) (h0 : ∀ i, Reals.IsFin ((m ((c : Thread nD τ).loc main_arg0)) i)) (h1 : ∀ i, Reals.IsFin ((m ((c : Thread nD τ).loc main_arg1)) i)) (h2 : ∀ i, Reals.IsFin ((m ((c : Thread nD τ).loc main_arg2)) i)) (h3 : ∀ i, Reals.IsFin ((m ((c : Thread nD τ).loc main_arg3)) i)) (h4 : ∀ i, Reals.IsFin ((m ((c : Thread nD τ).loc main_arg4)) i)) (h5 : ∀ i, Reals.IsFin ((m ((c : Thread nD τ).loc main_arg5)) i)) :
    (dats m 0 c).arrAt 11 cfg0.N = Cert.MemattnRefIdeal.Read.val_main_v117 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 11 _ (by decide +kernel) fun t hf y => ?_
  have e := (idx_val t).2.2.2.2.2.2.2.2.2.2.2.1
  blk_simp
  rw [after0_11, (outs_rows m c t).2.2]
  idx_vars y
  refine (dqb_at m c t y0 y1).trans ((Cert.MemattnRefIdeal.Grad.ref_dq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) h0 h1 h2 h3 h4 h5 (row t y0) y1).symm.trans ?_)
  rw [Cert.MemattnRefIdeal.Read.val_main_v117_apply]
  refine congrArg (Cert.MemattnRefIdeal.Read.val_main_v91 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) ?_
  unfold row
  blk_ext [e]

/-- The keys' and values' gradient the call leaves is the reference's. -/
theorem final12 (c : Dev nD) (h0 : ∀ i, Reals.IsFin ((m ((c : Thread nD τ).loc main_arg0)) i)) (h1 : ∀ i, Reals.IsFin ((m ((c : Thread nD τ).loc main_arg1)) i)) (h2 : ∀ i, Reals.IsFin ((m ((c : Thread nD τ).loc main_arg2)) i)) (h3 : ∀ i, Reals.IsFin ((m ((c : Thread nD τ).loc main_arg3)) i)) (h4 : ∀ i, Reals.IsFin ((m ((c : Thread nD τ).loc main_arg4)) i)) (h5 : ∀ i, Reals.IsFin ((m ((c : Thread nD τ).loc main_arg5)) i)) :
    (dats m 0 c).arrAt 12 cfg0.N = Cert.MemattnRefIdeal.Read.val_main_v90 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_after_last 12 t0_7 (by decide +kernel) _ fun j => ?_
  blk_simp
  rw [after0_12]
  idx_vars j
  refine (kv_acc m c _ _ _).trans ((Norm.sum_tiles 8 512 4096 rfl _).trans ?_)
  by_cases hn : j1.val < 1024
  · refine Eq.trans ?_ (Cert.MemattnRefIdeal.Grad.ref_dk (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) h0 h1 h2 h3 h4 h5 j0 ⟨j1.val / 256, by omega⟩ ⟨j1.val % 256, by omega⟩ _ ?_ ?_).symm
    · exact Finset.sum_congr rfl fun r _ => (Norm.ext_val _ r).trans (share_dk m c j0 j1 r ⟨j1.val / 256, by omega⟩ ⟨j1.val % 256, by omega⟩ (by dsimp only; omega))
    all_goals (blk_simp [idx_val t0_7] <;> (try dsimp only) <;> try omega)
  · refine Eq.trans ?_ (Cert.MemattnRefIdeal.Grad.ref_dv (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) h0 h1 h2 h3 h4 h5 j0 ⟨(j1.val - 1024) / 256, by omega⟩ ⟨(j1.val - 1024) % 256, by omega⟩ _ ?_ ?_).symm
    · exact Finset.sum_congr rfl fun r _ => (Norm.ext_val _ r).trans (share_dv m c j0 j1 r ⟨(j1.val - 1024) / 256, by omega⟩ ⟨(j1.val - 1024) % 256, by omega⟩ (by dsimp only; omega))
    all_goals (blk_simp [idx_val t0_7] <;> (try dsimp only) <;> try omega)

end Cert.MemattnIdeal.Grad

end
-- ==== Proof.Fwd.lean ====
/- Hand-written, untrusted: what the forward calls compute, row by row. -/
module

public import proofs.«01_k».proof.Proof.MemattnRef

@[expose] public section

set_option maxRecDepth 16384

noncomputable section

open Idealize.ShloMosaic Idealize.ShloMosaic.TcCoe Idealize.SL.Sem
open Idealize.ShloMosaic.Pipeline (Dat)

namespace Cert.Fwd

/-- A row's norm at its element `k`, `g` the gain there. -/
def normed (x : Fin 1024 → EReal) (g : EReal) (k : Fin 1024) : EReal := x k * Norm.rsq x * g

theorem normed_congr {x x' : Fin 1024 → EReal} {g g' : EReal} (hx : ∀ i, x i = x' i) (hg : g = g') (k : Fin 1024) : normed x g k = normed x' g' k := by
  rw [funext hx, hg]

end Cert.Fwd

namespace Cert.Attn

/-- The attention's result for a query row in head `h`. -/
def out (q : Fin 1024 → EReal) (k : Fin 256 → Fin 2048 → EReal) (h : Fin 4) (i : Fin 256) : EReal :=
  ∑ j : Fin 256, Softmax.pr (sc q k h) j * k j ⟨1024 + h.val * 256 + i.val, by omega⟩

/-- The same, the heads side by side. -/
def outs (q : Fin 1024 → EReal) (k : Fin 256 → Fin 2048 → EReal) (n : Fin 1024) : EReal :=
  out q k ⟨n.val / 256, by omega⟩ ⟨n.val % 256, by omega⟩

end Cert.Attn

end
-- ==== Proof.MemfwdRef.lean ====
/- Hand-written, untrusted: the reference of the attention over the memory rows, `Cert.MemfwdRefIdeal`, read row by row. -/
module

public import proofs.«01_k».proof.Proof.Gen.MemfwdRefIdeal.Read
public import proofs.«01_k».proof.Proof.Fwd

@[expose] public section

set_option maxRecDepth 16384

noncomputable section

open Idealize.ShloMosaic Idealize.ShloMosaic.TcCoe Idealize.SL.Sem
open Idealize.ShloMosaic.Pipeline (Dat)

namespace Cert.MemfwdRefIdeal.Grad

open Cert.MemfwdRefIdeal Cert.MemfwdRefIdeal.Read

/-- The query rows. -/
theorem ref_q (x0 : FVec Ideal S4096x1024 .f32) (x1 : FVec Ideal S1024 .f32) (x3 : FVec Ideal S1024x1024 .bf16) (r : Fin 4096) (n : Fin 1024) :
    val_main_v14 (F := Ideal) x0 x1 x3 (ix2 r n) = Norm.dot (fun i => val_main_v12 (F := Ideal) x0 x1 (ix2 r i)) fun i => x3 (ix2 i n) := by
  unfold Norm.dot
  pointwise [val_main_v13, val_main_v14]

/-- The scaled scores of a head. -/
theorem ref_sc (x0 : FVec Ideal S4096x1024 .f32) (x1 : FVec Ideal S1024 .f32) (x2 : FVec Ideal S256x2048 .bf16) (x3 : FVec Ideal S1024x1024 .bf16) (h : Fin 4) (r : Fin 4096) (j : Fin 256) :
    val_main_v24 (F := Ideal) x0 x1 x2 x3 (ix3 h r j) = Attn.sc (fun n => val_main_v14 (F := Ideal) x0 x1 x3 (ix2 r n)) (fun j n => x2 (ix2 j n)) h j := by
  unfold Attn.sc
  rw [← Softmax.scaled]
  pointwise [val_main_cst, val_main_cst_0, val_main_cst_1, val_main_v15, val_main_v16, val_main_v17, val_main_v18, val_main_v19, val_main_v20, val_main_v21, val_main_v22, val_main_cst_2, val_main_v23, val_main_v24, val_main_cst_3, val_main_cst_4, val_main_cst_5, val_main_cst_6, val_main_cst_7, val_main_cst_8]

theorem ref_top0 (x0 : FVec Ideal S4096x1024 .f32) (x1 : FVec Ideal S1024 .f32) (x2 : FVec Ideal S256x2048 .bf16) (x3 : FVec Ideal S1024x1024 .bf16) (h : Fin 4) (r : Fin 4096) :
    val_main_v25 (F := Ideal) x0 x1 x2 x3 (ix2 h r) = Softmax.top (fun j => val_main_v24 (F := Ideal) x0 x1 x2 x3 (ix3 h r j)) := by
  unfold val_main_v25
  generalize val_main_v24 (F := Ideal) x0 x1 x2 x3 = v
  exact Cert.MemattnRefIdeal.Grad.top_reduce v _ _ _ h r

/-- The greatest score of a row. -/
theorem ref_top (x0 : FVec Ideal S4096x1024 .f32) (x1 : FVec Ideal S1024 .f32) (x2 : FVec Ideal S256x2048 .bf16) (x3 : FVec Ideal S1024x1024 .bf16) (h : Fin 4) (r : Fin 4096) :
    val_main_v27 (F := Ideal) x0 x1 x2 x3 (ix2 h r) = Softmax.top (Attn.sc (fun n => val_main_v14 (F := Ideal) x0 x1 x3 (ix2 r n)) (fun j n => x2 (ix2 j n)) h) := by
  have e := (ref_top0 x0 x1 x2 x3 h r).trans (congrArg Softmax.top (funext fun j => ref_sc x0 x1 x2 x3 h r j))
  refine Eq.trans ?_ (Softmax.top_low _)
  rw [← e, val_main_v27_apply]
  generalize val_main_v25 (F := Ideal) x0 x1 x2 x3 (ix2 h r) = z
  pointwise [val_main_cst, val_main_cst_0, val_main_cst_1, val_main_cst_2, val_main_cst_3, val_main_cst_4, val_main_v26, val_main_cst_5, val_main_cst_6, val_main_cst_7, val_main_cst_8]

/-- Its exponentials, their sum, and the probabilities. -/
theorem ref_ex (x0 : FVec Ideal S4096x1024 .f32) (x1 : FVec Ideal S1024 .f32) (x2 : FVec Ideal S256x2048 .bf16) (x3 : FVec Ideal S1024x1024 .bf16) (h : Fin 4) (r : Fin 4096) (j : Fin 256) :
    val_main_v31 (F := Ideal) x0 x1 x2 x3 (ix3 h r j) = Softmax.ex (Attn.sc (fun n => val_main_v14 (F := Ideal) x0 x1 x3 (ix2 r n)) (fun j n => x2 (ix2 j n)) h) j := by
  unfold Softmax.ex
  rw [← ref_top, ← ref_sc]
  pointwise [val_main_cst, val_main_cst_0, val_main_cst_1, val_main_cst_2, val_main_cst_3, val_main_cst_4, val_main_v28, val_main_v29, val_main_v30, val_main_v31, val_main_cst_5, val_main_cst_6, val_main_cst_7, val_main_cst_8]
theorem ref_sum (x0 : FVec Ideal S4096x1024 .f32) (x1 : FVec Ideal S1024 .f32) (x2 : FVec Ideal S256x2048 .bf16) (x3 : FVec Ideal S1024x1024 .bf16) (h : Fin 4) (r : Fin 4096) :
    val_main_v33 (F := Ideal) x0 x1 x2 x3 (ix3 h r 0) = ∑ j, Softmax.ex (Attn.sc (fun n => val_main_v14 (F := Ideal) x0 x1 x3 (ix2 r n)) (fun j n => x2 (ix2 j n)) h) j := by
  simp only [← ref_ex]
  pointwise [val_main_cst, val_main_cst_0, val_main_cst_1, val_main_cst_2, val_main_cst_3, val_main_cst_4, val_main_cst_5, val_main_v32, val_main_v33, val_main_cst_6, val_main_cst_7, val_main_cst_8]
theorem ref_pr (x0 : FVec Ideal S4096x1024 .f32) (x1 : FVec Ideal S1024 .f32) (x2 : FVec Ideal S256x2048 .bf16) (x3 : FVec Ideal S1024x1024 .bf16) (h : Fin 4) (r : Fin 4096) (j : Fin 256) :
    val_main_v35 (F := Ideal) x0 x1 x2 x3 (ix3 h r j) = Softmax.pr (Attn.sc (fun n => val_main_v14 (F := Ideal) x0 x1 x3 (ix2 r n)) (fun j n => x2 (ix2 j n)) h) j := by
  unfold Softmax.pr
  rw [← ref_sum, ← ref_ex]
  pointwise [val_main_cst, val_main_cst_0, val_main_cst_1, val_main_cst_2, val_main_cst_3, val_main_cst_4, val_main_cst_5, val_main_v34, val_main_v35, val_main_cst_6, val_main_cst_7, val_main_cst_8]

/-- The attention's result. -/
theorem ref_o (x0 : FVec Ideal S4096x1024 .f32) (x1 : FVec Ideal S1024 .f32) (x2 : FVec Ideal S256x2048 .bf16) (x3 : FVec Ideal S1024x1024 .bf16) (r : Fin 4096) (n : Fin 1024) :
    val_main_v38 (F := Ideal) x0 x1 x2 x3 (ix2 r n) = Attn.outs (fun n => val_main_v14 (F := Ideal) x0 x1 x3 (ix2 r n)) (fun j n => x2 (ix2 j n)) n := by
  unfold Attn.outs Attn.out
  simp only [← ref_pr]
  pointwise [val_main_cst, val_main_cst_0, val_main_cst_1, val_main_v15, val_main_cst_2, val_main_cst_3, val_main_cst_4, val_main_cst_5, val_main_cst_6, val_main_cst_7, val_main_cst_8, val_main_v17, val_main_v20, val_main_v21, val_main_cst, val_main_cst_0, val_main_cst_1, val_main_cst_2, val_main_cst_3, val_main_cst_4, val_main_cst_5, val_main_v36, val_main_v37, val_main_v38, val_main_cst_6, val_main_cst_7, val_main_cst_8]
  exact Finset.sum_congr rfl fun j _ => mul_comm _ _

/-- The new rows. -/
theorem ref_x (x0 : FVec Ideal S4096x1024 .f32) (x1 : FVec Ideal S1024 .f32) (x2 : FVec Ideal S256x2048 .bf16) (x3 : FVec Ideal S1024x1024 .bf16) (x4 : FVec Ideal S1024x1024 .bf16) (r : Fin 4096) (n : Fin 1024) :
    val_main_v41 (F := Ideal) x0 x1 x2 x3 x4 (ix2 r n) = Norm.dot (Attn.outs (fun n => val_main_v14 (F := Ideal) x0 x1 x3 (ix2 r n)) (fun j n => x2 (ix2 j n))) (fun i => x4 (ix2 i n)) + x0 (ix2 r n) := by
  unfold Norm.dot
  simp only [← ref_o]
  pointwise [val_main_cst, val_main_cst_0, val_main_cst_1, val_main_cst_2, val_main_cst_3, val_main_cst_4, val_main_cst_5, val_main_v39, val_main_v40, val_main_v41, val_main_cst_6, val_main_cst_7, val_main_cst_8]

/-- Their norm. -/
theorem ref_h (x0 : FVec Ideal S4096x1024 .f32) (x1 : FVec Ideal S1024 .f32) (x2 : FVec Ideal S256x2048 .bf16) (x3 : FVec Ideal S1024x1024 .bf16) (x4 : FVec Ideal S1024x1024 .bf16) (x5 : FVec Ideal S1024 .f32) (j : S4096x1024.Idx) (r : Fin 4096) (n : Fin 1024) (hr : r.val = j 0) (hn : n.val = j 1) :
    val_main_v57 (F := Ideal) x0 x1 x2 x3 x4 x5 j = Fwd.normed (fun i => val_main_v41 (F := Ideal) x0 x1 x2 x3 x4 (ix2 r i)) (x5 (ix1 n)) n := by
  idx_vars j
  obtain rfl : r = j0 := Fin.ext hr
  obtain rfl : n = j1 := Fin.ext hn
  pointwise [val_main_cst, val_main_cst_0, val_main_cst_1, val_main_cst_2, val_main_cst_3, val_main_cst_4, val_main_cst_5, val_main_v44, val_main_cst_6, val_main_v45, val_main_v46, val_main_cst_7, val_main_v47, val_main_v48, val_main_cst_8, val_main_v49, val_main_v50, val_main_v51, val_main_v52, val_main_v53, val_main_v54, val_main_v55, val_main_v56, val_main_v57]
  rfl

end Cert.MemfwdRefIdeal.Grad

end
-- ==== Proof.MemfwdValue.lean ====
/- Hand-written, untrusted: the value of the attention over the memory rows, `Cert.MemfwdIdeal`, at the reals. -/
module

public import proofs.«01_k».proof.Proof.Gen.MemfwdIdeal.Value
public import proofs.«01_k».proof.Proof.MemfwdRef
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.MemfwdIdeal.Grad

open Cert.MemfwdIdeal Cert.MemfwdIdeal.Gen

/-- The scaled scores of row `a` of a head's block of queries. -/
def loc (q : FVec Ideal S512x256 .bf16) (k : FVec Ideal S256x256 .bf16) (a : Fin 512) (j : Fin 256) : EReal :=
  (∑ x : Fin 256, q (ix2 a x) * k (ix2 j x)) * Ideal.ofBits .f32 1031798784#32

section
variable (q : FVec Ideal S512x256 .bf16) (k v : FVec Ideal S256x256 .bf16)

/-- The heads' results. -/
theorem o0 (a : Fin 512) (i : Fin 256) : k0_pay3 (F := Ideal) q k v (ix2 a i) = ∑ j : Fin 256, Softmax.pr (loc q k a) j * v (ix2 j i) := by
  pointwise [k0_pay3]
  rfl
theorem o1 (a : Fin 512) (i : Fin 256) : k0_pay6 (F := Ideal) (k0_pay4 q k) k0_pay5 v (ix2 a i) = ∑ j : Fin 256, Softmax.pr (loc q k a) j * v (ix2 j i) := by
  pointwise [k0_pay4, k0_pay5, k0_pay6]
  rfl
theorem o2 (a : Fin 512) (i : Fin 256) : k0_pay7 (F := Ideal) q k v (ix2 a i) = ∑ j : Fin 256, Softmax.pr (loc q k a) j * v (ix2 j i) := by
  pointwise [k0_pay7]
  rfl
theorem o3 (a : Fin 512) (i : Fin 256) : k0_pay8 (F := Ideal) q k v (ix2 a i) = ∑ j : Fin 256, Softmax.pr (loc q k a) j * v (ix2 j i) := by
  pointwise [k0_pay8]
  rfl
end

variable (m : (ℓ : Loc nD τ sig) → Buf (Elt Ideal) ℓ)

/-- Every window's block index at every grid point. -/
theorem idx_val : ∀ t : Fin cfg0.N, win0_0.index t = ![t.val, 0] ∧ win0_1.index t = ![0, 0] ∧ win0_2.index t = ![0, 0]
    ∧ win0_3.index t = ![0, 0] ∧ win0_4.index t = ![t.val, 0] ∧ win0_5.index t = ![0, 0] ∧ win0_6.index t = ![t.val, 0] ∧ win0_7.index t = ![t.val, 0]
    ∧ win0_8.index t = ![t.val, 0] ∧ win0_9.index t = ![t.val, 0] :=
  (by decide +kernel : ∀ t : Fin grid0.N, _)

/-- The normed rows the call is handed are the reference's. -/
theorem V_h (c : Dev nD) (r : Fin 4096) (n : Fin 1024) :
    (V m c main_v13 (ix2 r n) : EReal) = Cert.MemfwdRefIdeal.Read.val_main_v12 (F := Ideal) (m ((c : Thread nD τ).loc main_arg0)) (m ((c : Thread nD τ).loc main_arg1)) (ix2 r n) := by
  unfold_abbrev_sides
  after_results
  pointwise [Cert.MemfwdRefIdeal.Read.val_main_v0, Cert.MemfwdRefIdeal.Read.val_main_cst, Cert.MemfwdRefIdeal.Read.val_main_v1, Cert.MemfwdRefIdeal.Read.val_main_v2, Cert.MemfwdRefIdeal.Read.val_main_cst_0, Cert.MemfwdRefIdeal.Read.val_main_v3, Cert.MemfwdRefIdeal.Read.val_main_v4, Cert.MemfwdRefIdeal.Read.val_main_cst_1, Cert.MemfwdRefIdeal.Read.val_main_v5, Cert.MemfwdRefIdeal.Read.val_main_v6, Cert.MemfwdRefIdeal.Read.val_main_v7, Cert.MemfwdRefIdeal.Read.val_main_v8, Cert.MemfwdRefIdeal.Read.val_main_v9, Cert.MemfwdRefIdeal.Read.val_main_v10, Cert.MemfwdRefIdeal.Read.val_main_v11, Cert.MemfwdRefIdeal.Read.val_main_v12, Cert.MemfwdRefIdeal.Read.val_main_cst_2, Cert.MemfwdRefIdeal.Read.val_main_cst_3, Cert.MemfwdRefIdeal.Read.val_main_cst_4, Cert.MemfwdRefIdeal.Read.val_main_cst_5, Cert.MemfwdRefIdeal.Read.val_main_cst_6, Cert.MemfwdRefIdeal.Read.val_main_cst_7, Cert.MemfwdRefIdeal.Read.val_main_cst_8]

/-- The row of the arrays that row `a` of grid point `t`'s block is. -/
def row (t : Fin cfg0.N) (a : Fin 512) : Fin 4096 := ⟨t.val * 512 + a.val, by have h : t.val < 8 := t.isLt; omega⟩

/-- The rows' queries, the memory's keys and values, and the new rows. -/
def Q (c : Dev nD) (r : Fin 4096) (n : Fin 1024) : EReal := Cert.MemfwdRefIdeal.Read.val_main_v14 (F := Ideal) (m ((c : Thread nD τ).loc main_arg0)) (m ((c : Thread nD τ).loc main_arg1)) (m ((c : Thread nD τ).loc main_arg3)) (ix2 r n)
def K (c : Dev nD) (j : Fin 256) (n : Fin 2048) : EReal := (m ((c : Thread nD τ).loc main_arg2)) (ix2 j n)
def X (c : Dev nD) (r : Fin 4096) (n : Fin 1024) : EReal := Cert.MemfwdRefIdeal.Read.val_main_v41 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 r n)

/-- Block `t` of the inputs, as rows of the arrays. -/
theorem in0 (c : Dev nD) (t : Fin cfg0.N) (a : Fin 512) (b : Fin 1024) : (iblk m c 0 t (ix2 a b) : EReal) = Cert.MemfwdRefIdeal.Read.val_main_v12 (F := Ideal) (m ((c : Thread nD τ).loc main_arg0)) (m ((c : Thread nD τ).loc main_arg1)) (ix2 (row t a) b) := by
  unfold row
  refine Eq.trans ?_ (V_h m c _ _)
  blk_ext [iblk, idx_val t]
theorem in1 (c : Dev nD) (t : Fin cfg0.N) (a b : Fin 1024) : (iblk m c 1 t (ix2 a b) : EReal) = (m ((c : Thread nD τ).loc main_arg3)) (ix2 a b) := by
  blk_ext [iblk, V, idx_val t]
theorem in2 (c : Dev nD) (t : Fin cfg0.N) (a : Fin 256) (b : Fin 2048) : (iblk m c 2 t (ix2 a b) : EReal) = K m c a b := by
  unfold K
  blk_ext [iblk, V, idx_val t]
theorem in3 (c : Dev nD) (t : Fin cfg0.N) (a b : Fin 1024) : (iblk m c 3 t (ix2 a b) : EReal) = (m ((c : Thread nD τ).loc main_arg4)) (ix2 a b) := by
  blk_ext [iblk, V, idx_val t]
theorem in4 (c : Dev nD) (t : Fin cfg0.N) (a : Fin 512) (b : Fin 1024) : (iblk m c 4 t (ix2 a b) : EReal) = (m ((c : Thread nD τ).loc main_arg0)) (ix2 (row t a) b) := by
  unfold row
  blk_ext [iblk, V, idx_val t]
theorem in5 (c : Dev nD) (t : Fin cfg0.N) (a : Fin 1) (b : Fin 1024) : (iblk m c 5 t (ix2 a b) : EReal) = (m ((c : Thread nD τ).loc main_arg5)) (ix1 b) := by
  blk_point [iblk, V, idx_val t]

/-- The block's queries. -/
@[irreducible] def qb (c : Dev nD) (t : Fin cfg0.N) : Vec Ideal S512x1024 .bf16 := k0_pay2 (iblk m c 0 t) (iblk m c 1 t)
theorem qb_at (c : Dev nD) (t : Fin cfg0.N) (a : Fin 512) (n : Fin 1024) : (qb m c t (ix2 a n) : EReal) = Q m c (row t a) n := by
  refine Eq.trans (b := Norm.dot (fun i => (iblk m c 0 t (ix2 a i) : EReal)) fun i => (iblk m c 1 t (ix2 i n) : EReal)) ?_ ?_
  · unfold qb Norm.dot
    pointwise [k0_pay2]
  · refine Eq.trans ?_ (Cert.MemfwdRefIdeal.Grad.ref_q _ _ _ _ _).symm
    unfold Norm.dot
    exact Finset.sum_congr rfl fun x _ => congrArg₂ (· * ·) (in0 m c t a x) (in1 m c t x n)

/-- A head's columns of the block of queries, and of the memory's keys and values. -/
theorem q_at (c : Dev nD) (t : Fin cfg0.N) (o : ℕ) (inb) (a : Fin 512) (x : Fin 256) (ho : o + x.val < 1024) :
    (View.ld (qb m c t) (Rect.unit ![0, o] ![512, 256] inb) (ix2 a x) : EReal) = Q m c (row t a) ⟨o + x.val, ho⟩ := by
  refine Eq.trans ?_ (qb_at m c t a _)
  exact View.ld_unit_apply_of _ _ _ inb _ _ fun b => by fin_cases b <;> simp
theorem kv_at (c : Dev nD) (t : Fin cfg0.N) (o : ℕ) (inb) (j x : Fin 256) (ho : o + x.val < 2048) :
    (View.ld (iblk m c 2 t) (Rect.unit ![0, o] ![256, 256] inb) (ix2 j x) : EReal) = K m c j ⟨o + x.val, ho⟩ := by
  refine Eq.trans ?_ (in2 m c t j _)
  exact View.ld_unit_apply_of _ _ _ inb _ _ fun b => by fin_cases b <;> simp

/-- The block's scores are the arrays', and so is a head's result. -/
theorem loc_at (c : Dev nD) (t : Fin cfg0.N) (h : Fin 4) (o : ℕ) (ho : o = h.val * 256) (inb inb') (a : Fin 512) :
    loc (View.ld (qb m c t) (Rect.unit ![0, o] ![512, 256] inb)) (View.ld (iblk m c 2 t) (Rect.unit ![0, o] ![256, 256] inb')) a = Attn.sc (Q m c (row t a)) (K m c) h := by
  subst ho
  funext j
  unfold loc Attn.sc
  exact congrArg (· * _) (Finset.sum_congr rfl fun x _ => congrArg₂ (· * ·) (q_at m c t _ inb a x _) (kv_at m c t _ inb' j x _))
theorem o_at (c : Dev nD) (t : Fin cfg0.N) (h : Fin 4) (o p : ℕ) (ho : o = h.val * 256) (hp : p = 1024 + h.val * 256) (inb inb' inb'') (a : Fin 512) (i : Fin 256) :
    ∑ j : Fin 256, Softmax.pr (loc (View.ld (qb m c t) (Rect.unit ![0, o] ![512, 256] inb)) (View.ld (iblk m c 2 t) (Rect.unit ![0, o] ![256, 256] inb')) a) j
        * View.ld (iblk m c 2 t) (Rect.unit ![0, p] ![256, 256] inb'') (ix2 j i)
      = Attn.out (Q m c (row t a)) (K m c) h i := by
  unfold Attn.out
  refine Finset.sum_congr rfl fun j _ => congrArg₂ (· * ·) (congrFun (congrArg Softmax.pr (loc_at m c t h o ho inb inb' a)) j) ?_
  subst hp
  exact kv_at m c t _ inb'' j i _

/-- The block of results, from the four heads' pieces. -/
@[irreducible] def ob (c : Dev nD) (t : Fin cfg0.N) : FVec Ideal S512x1024 .bf16 :=
  View.canon ([⟨Rect.unit ![0, 768] ![512, 256] inb_S512x1024_S512x256_0_768, k0_pay8 (View.ld (qb m c t) (Rect.unit ![0, 768] ![512, 256] inb_S512x1024_S512x256_0_768)) (View.ld (iblk m c 2 t) (Rect.unit ![0, 768] ![256, 256] inb_S256x2048_S256x256_0_768)) (View.ld (iblk m c 2 t) (Rect.unit ![0, 1792] ![256, 256] inb_S256x2048_S256x256_0_1792))⟩,
    ⟨Rect.unit ![0, 512] ![512, 256] inb_S512x1024_S512x256_0_512, k0_pay7 (View.ld (qb m c t) (Rect.unit ![0, 512] ![512, 256] inb_S512x1024_S512x256_0_512)) (View.ld (iblk m c 2 t) (Rect.unit ![0, 512] ![256, 256] inb_S256x2048_S256x256_0_512)) (View.ld (iblk m c 2 t) (Rect.unit ![0, 1536] ![256, 256] inb_S256x2048_S256x256_0_1536))⟩,
    ⟨Rect.unit ![0, 256] ![512, 256] inb_S512x1024_S512x256_0_256, k0_pay6 (k0_pay4 (View.ld (qb m c t) (Rect.unit ![0, 256] ![512, 256] inb_S512x1024_S512x256_0_256)) (View.ld (iblk m c 2 t) (Rect.unit ![0, 256] ![256, 256] inb_S256x2048_S256x256_0_256))) k0_pay5 (View.ld (iblk m c 2 t) (Rect.unit ![0, 1280] ![256, 256] inb_S256x2048_S256x256_0_1280))⟩,
    ⟨Rect.unit ![0, 0] ![512, 256] inb_S512x1024_S512x256_0_0, k0_pay3 (View.ld (qb m c t) (Rect.unit ![0, 0] ![512, 256] inb_S512x1024_S512x256_0_0)) (View.ld (iblk m c 2 t) (Rect.unit ![0, 0] ![256, 256] inb_S256x2048_S256x256_0_0)) (View.ld (iblk m c 2 t) (Rect.unit ![0, 1024] ![256, 256] inb_S256x2048_S256x256_0_1024))⟩] : List (View.Piece (Elt Ideal) S512x1024 .bf16))
theorem ob_at (c : Dev nD) (t : Fin cfg0.N) (a : Fin 512) (n : Fin 1024) : (ob m c t (ix2 a n) : EReal) = Attn.outs (Q m c (row t a)) (K m c) n := by
  unfold ob
  canon_tiles x k
  · idx_vars x
    obtain rfl : a = x0 := Fin.ext (by simpa using k0)
    have k1' : n.val = 768 + x1.val := by simpa using k1
    refine (o3 (View.ld (qb m c t) (Rect.unit ![0, 768] ![512, 256] inb_S512x1024_S512x256_0_768)) (View.ld (iblk m c 2 t) (Rect.unit ![0, 768] ![256, 256] inb_S256x2048_S256x256_0_768)) (View.ld (iblk m c 2 t) (Rect.unit ![0, 1792] ![256, 256] inb_S256x2048_S256x256_0_1792)) a x1).trans ((o_at m c t 3 768 1792 rfl rfl _ _ _ a x1).trans ?_)
    unfold Attn.outs
    exact congrArg₂ (Attn.out _ _) (Fin.ext (by show 3 = n.val / 256; omega)) (Fin.ext (by show x1.val = n.val % 256; omega))
  · idx_vars x
    obtain rfl : a = x0 := Fin.ext (by simpa using k0)
    have k1' : n.val = 512 + x1.val := by simpa using k1
    refine (o2 (View.ld (qb m c t) (Rect.unit ![0, 512] ![512, 256] inb_S512x1024_S512x256_0_512)) (View.ld (iblk m c 2 t) (Rect.unit ![0, 512] ![256, 256] inb_S256x2048_S256x256_0_512)) (View.ld (iblk m c 2 t) (Rect.unit ![0, 1536] ![256, 256] inb_S256x2048_S256x256_0_1536)) a x1).trans ((o_at m c t 2 512 1536 rfl rfl _ _ _ a x1).trans ?_)
    unfold Attn.outs
    exact congrArg₂ (Attn.out _ _) (Fin.ext (by show 2 = n.val / 256; omega)) (Fin.ext (by show x1.val = n.val % 256; omega))
  · idx_vars x
    obtain rfl : a = x0 := Fin.ext (by simpa using k0)
    have k1' : n.val = 256 + x1.val := by simpa using k1
    refine (o1 (View.ld (qb m c t) (Rect.unit ![0, 256] ![512, 256] inb_S512x1024_S512x256_0_256)) (View.ld (iblk m c 2 t) (Rect.unit ![0, 256] ![256, 256] inb_S256x2048_S256x256_0_256)) (View.ld (iblk m c 2 t) (Rect.unit ![0, 1280] ![256, 256] inb_S256x2048_S256x256_0_1280)) a x1).trans ((o_at m c t 1 256 1280 rfl rfl _ _ _ a x1).trans ?_)
    unfold Attn.outs
    exact congrArg₂ (Attn.out _ _) (Fin.ext (by show 1 = n.val / 256; omega)) (Fin.ext (by show x1.val = n.val % 256; omega))
  · idx_vars x
    obtain rfl : a = x0 := Fin.ext (by simpa using k0)
    have k1' : n.val = 0 + x1.val := by simpa using k1
    refine (o0 (View.ld (qb m c t) (Rect.unit ![0, 0] ![512, 256] inb_S512x1024_S512x256_0_0)) (View.ld (iblk m c 2 t) (Rect.unit ![0, 0] ![256, 256] inb_S256x2048_S256x256_0_0)) (View.ld (iblk m c 2 t) (Rect.unit ![0, 1024] ![256, 256] inb_S256x2048_S256x256_0_1024)) a x1).trans ((o_at m c t 0 0 1024 rfl rfl _ _ _ a x1).trans ?_)
    unfold Attn.outs
    exact congrArg₂ (Attn.out _ _) (Fin.ext (by show 0 = n.val / 256; omega)) (Fin.ext (by show x1.val = n.val % 256; omega))

/-- A read of a whole block is what was stored in it. -/
theorem whole_read {sp : Space} (v : View sig Kind.tc sp S512x1024 .bf16) (L : List (View.Piece (Elt Ideal) S512x1024 .bf16)) (inb) :
    v.readCov L (Rect.unit ![0, 0] ![512, 1024] inb).toLoadRect = View.canon L := by
  rw [View.readCov_eq_canon']
  funext j
  refine congrArg (View.canon L) (funext fun a => Fin.ext ?_)
  fin_cases a <;> simp

/-- The block of new rows. -/
@[irreducible] def xb (c : Dev nD) (t : Fin cfg0.N) : FVec Ideal S512x1024 .f32 := k0_pay9 (ob m c t) (iblk m c 3 t) (iblk m c 4 t)
theorem xb_at (c : Dev nD) (t : Fin cfg0.N) (a : Fin 512) (n : Fin 1024) : (xb m c t (ix2 a n) : EReal) = X m c (row t a) n := by
  refine Eq.trans (b := Norm.dot (fun i => (ob m c t (ix2 a i) : EReal)) (fun i => (iblk m c 3 t (ix2 i n) : EReal)) + (iblk m c 4 t (ix2 a n) : EReal)) ?_ ?_
  · unfold xb Norm.dot
    pointwise [k0_pay9]
  · refine Eq.trans ?_ (Cert.MemfwdRefIdeal.Grad.ref_x _ _ _ _ _ _ _).symm
    unfold Norm.dot
    exact congrArg₂ (· + ·) (Finset.sum_congr rfl fun x _ => congrArg₂ (· * ·) (ob_at m c t a x) (in3 m c t x n)) (in4 m c t a n)

/-- The block of their norms. -/
theorem h_at (c : Dev nD) (t : Fin cfg0.N) (a : Fin 512) (n : Fin 1024) :
    (k0_pay1 (k0_pay9 (ob m c t) (iblk m c 3 t) (iblk m c 4 t)) (k0_pay10 (ob m c t) (iblk m c 3 t) (iblk m c 4 t)) (iblk m c 5 t) (ix2 a n) : EReal) = Fwd.normed (X m c (row t a)) ((m ((c : Thread nD τ).loc main_arg5)) (ix1 n)) n := by
  refine Eq.trans ?_ (Fwd.normed_congr (fun i => xb_at m c t a i) (in5 m c t 0 n) n)
  unfold xb
  pointwise [k0_pay1, k0_pay10]
  rfl

/-- What grid point `t` leaves in the blocks, as the body's own words. -/
theorem outs_o (c : Dev nD) (t : Fin cfg0.N) : (outsAt0 m c t).2.1 = ob m c t := by
  unfold outsAt0
  dsimp only
  unfold ob qb
  frame_open
  simp (disch := decide) only [↓ View.readCov_skip, ↓ View.readCov_cons_toLoadRect, ↓ View.readCov_fill]
  frame_out
  rfl
theorem outs_x (c : Dev nD) (t : Fin cfg0.N) : (outsAt0 m c t).2.2.1 = xb m c t := by
  unfold outsAt0
  dsimp only
  unfold xb ob qb
  frame_open
  simp (disch := decide) only [↓ View.readCov_skip, ↓ View.readCov_cons_toLoadRect, ↓ View.readCov_fill]
  frame_out
  exact congrArg (fun D => k0_pay9 D _ _) (whole_read _ _ _)
theorem outs_h (c : Dev nD) (t : Fin cfg0.N) : (outsAt0 m c t).2.2.2 = k0_pay1 (k0_pay9 (ob m c t) (iblk m c 3 t) (iblk m c 4 t)) (k0_pay10 (ob m c t) (iblk m c 3 t) (iblk m c 4 t)) (iblk m c 5 t) := by
  unfold outsAt0
  dsimp only
  unfold ob qb
  frame_open
  simp (disch := decide) only [↓ View.readCov_skip, ↓ View.readCov_cons_toLoadRect, ↓ View.readCov_fill]
  frame_out
  exact congrArg (fun D => k0_pay1 (k0_pay9 D _ _) (k0_pay10 D _ _) _) (whole_read _ _ _)

/-- The queries the call leaves are the reference's. -/
theorem final6 (c : Dev nD) :
    (dats m 0 c).arrAt 6 cfg0.N = Cert.MemfwdRefIdeal.Read.val_main_v42 (F := Ideal) (m ((c : Thread nD τ).loc main_arg0)) (m ((c : Thread nD τ).loc main_arg1)) (m ((c : Thread nD τ).loc main_arg3)) := by
  refine (dats m 0 c).arrAt_eq_of_covers 6 _ (by decide +kernel) fun t hf y => ?_
  have e := (idx_val t).2.2.2.2.2.2.1
  blk_simp
  rw [after0_6]
  unfold outsAt0
  dsimp only
  frame_out
  idx_vars y
  refine Eq.trans (b := (qb m c t (ix2 y0 y1) : EReal)) (by unfold qb; rfl) ((qb_at m c t y0 y1).trans ?_)
  unfold Q
  rw [Cert.MemfwdRefIdeal.Read.val_main_v42_apply]
  refine congrArg (Cert.MemfwdRefIdeal.Read.val_main_v14 (F := Ideal) (m ((c : Thread nD τ).loc main_arg0)) (m ((c : Thread nD τ).loc main_arg1)) (m ((c : Thread nD τ).loc main_arg3))) ?_
  unfold row
  blk_ext [e]

/-- The attention's results the call leaves are the reference's. -/
theorem final7 (c : Dev nD) :
    (dats m 0 c).arrAt 7 cfg0.N = Cert.MemfwdRefIdeal.Read.val_main_v43 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t hf y => ?_
  have e := (idx_val t).2.2.2.2.2.2.2.1
  blk_simp
  rw [after0_7, outs_o]
  idx_vars y
  refine (ob_at m c t y0 y1).trans ((Cert.MemfwdRefIdeal.Grad.ref_o (m ((c : Thread nD τ).loc main_arg0)) (m ((c : Thread nD τ).loc main_arg1)) (m ((c : Thread nD τ).loc main_arg2)) (m ((c : Thread nD τ).loc main_arg3)) (row t y0) y1).symm.trans ?_)
  rw [Cert.MemfwdRefIdeal.Read.val_main_v43_apply]
  refine congrArg (Cert.MemfwdRefIdeal.Read.val_main_v38 (F := Ideal) (m ((c : Thread nD τ).loc main_arg0)) (m ((c : Thread nD τ).loc main_arg1)) (m ((c : Thread nD τ).loc main_arg2)) (m ((c : Thread nD τ).loc main_arg3))) ?_
  unfold row
  blk_ext [e]

/-- The new rows the call leaves are the reference's. -/
theorem final8 (c : Dev nD) :
    (dats m 0 c).arrAt 8 cfg0.N = Cert.MemfwdRefIdeal.Read.val_main_v41 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 8 _ (by decide +kernel) fun t hf y => ?_
  have e := (idx_val t).2.2.2.2.2.2.2.2.1
  blk_simp
  rw [after0_8, outs_x]
  idx_vars y
  refine (xb_at m c t y0 y1).trans ?_
  unfold X
  refine congrArg (Cert.MemfwdRefIdeal.Read.val_main_v41 (F := Ideal) (m ((c : Thread nD τ).loc main_arg0)) (m ((c : Thread nD τ).loc main_arg1)) (m ((c : Thread nD τ).loc main_arg2)) (m ((c : Thread nD τ).loc main_arg3)) (m ((c : Thread nD τ).loc main_arg4))) ?_
  unfold row
  blk_ext [e]

/-- Their norms the call leaves are the reference's. -/
theorem final9 (c : Dev nD) :
    (dats m 0 c).arrAt 9 cfg0.N = Cert.MemfwdRefIdeal.Read.val_main_v57 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 9 _ (by decide +kernel) fun t hf y => ?_
  have e := (idx_val t).2.2.2.2.2.2.2.2.2
  blk_simp
  rw [after0_9, outs_h]
  idx_vars y
  refine (h_at m c t y0 y1).trans ?_
  refine (Cert.MemfwdRefIdeal.Grad.ref_h (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) _ (row t y0) y1 ?_ ?_).symm
  all_goals ((try unfold row); blk_simp [e] <;> (try dsimp only) <;> try omega)

end Cert.MemfwdIdeal.Grad

end
-- ==== Proof.MixfwdValue.lean ====
/- Hand-written, untrusted: the value of the gated merge, `Cert.MixfwdIdeal`, at the reals. -/
module

public import proofs.«01_k».proof.Proof.Gen.MixfwdIdeal.Value
public import proofs.«01_k».proof.Proof.Gen.MixfwdRefIdeal.Read
public import proofs.«01_k».proof.Proof.Reals
public import proofs.«01_k».proof.Proof.Fwd

@[expose] public section

set_option maxRecDepth 16384

noncomputable section

open Idealize.ShloMosaic Idealize.ShloMosaic.TcCoe Idealize.SL.Sem
open Idealize.ShloMosaic.Pipeline (Dat)

namespace Cert.MixfwdIdeal.Grad

open Cert.MixfwdIdeal Cert.MixfwdIdeal.Gen

variable (m : (ℓ : Loc nD τ sig) → Buf (Elt Ideal) ℓ)

/-- The merge of the two branches at an element: each a product of a row and a column, times its gate. -/
def merged (o y wa wb : Fin 512 → EReal) (ga gb : EReal) : EReal := Ideal.logistic ga * Norm.dot o wa + Ideal.logistic gb * Norm.dot y wb
theorem merged_congr {o o' y y' wa wa' wb wb' : Fin 512 → EReal} {ga ga' gb gb' : EReal} (ho : ∀ i, o i = o' i) (hy : ∀ i, y i = y' i) (ha : ∀ i, wa i = wa' i) (hb : ∀ i, wb i = wb' i)
    (hga : ga = ga') (hgb : gb = gb') : merged o y wa wb ga gb = merged o' y' wa' wb' ga' gb' := by
  rw [funext ho, funext hy, funext ha, funext hb, hga, hgb]
/-- The new row's element: the old one and the product of the merged row with a column. -/
def next (v w : Fin 1024 → EReal) (x : EReal) : EReal := Norm.dot v w + x
theorem next_congr {v v' w w' : Fin 1024 → EReal} {x x' : EReal} (hv : ∀ i, v i = v' i) (hw : ∀ i, w i = w' i) (hx : x = x') : next v w x = next v' w' x' := by
  rw [funext hv, funext hw, hx]
theorem sigmoid_div (x : EReal) : Ideal.div 1 (1 + Ideal.exp (-x)) = Ideal.logistic x := rfl

open Cert.MixfwdRefIdeal.Read in
/-- A branch's product, in the reference. -/
theorem ref_a (x0 : FVec Ideal Cert.MixfwdRefIdeal.S4096x512 .bf16) (x3 : FVec Ideal Cert.MixfwdRefIdeal.S512x1024 .bf16) (j : Cert.MixfwdRefIdeal.S4096x1024.Idx) (r : Fin 4096) (n : Fin 1024) (hr : r.val = j 0) (hn : n.val = j 1) :
    val_main_v43 (F := Ideal) x0 x3 j = Norm.dot (fun k => x0 (ix2 r k)) (fun k => x3 (ix2 k n)) := by
  idx_vars j
  obtain rfl : r = j0 := Fin.ext hr
  obtain rfl : n = j1 := Fin.ext hn
  unfold Norm.dot
  pointwise [val_main_v0, val_main_v1, val_main_v2, val_main_v3, val_main_v4, val_main_v5, val_main_v6, val_main_v7, val_main_v8, val_main_v9, val_main_v10, val_main_v11, val_main_cst, val_main_v12, val_main_v13, val_main_cst_0, val_main_v14, val_main_v15, val_main_v16, val_main_v17, val_main_v18, val_main_cst_1, val_main_v19, val_main_v20, val_main_cst_2, val_main_v21, val_main_v22, val_main_v23, val_main_v24, val_main_v25, val_main_v26, val_main_v27, val_main_v28, val_main_cst_3, val_main_v29, val_main_v30, val_main_cst_4, val_main_v31, val_main_v32, val_main_cst_5, val_main_v33, val_main_v34, val_main_v35, val_main_v36, val_main_v37, val_main_v38, val_main_v39, val_main_v40, val_main_v41, val_main_v42, val_main_v43, val_main_v44]

open Cert.MixfwdRefIdeal.Read in
/-- The other branch's. -/
theorem ref_b (x1 : FVec Ideal Cert.MixfwdRefIdeal.S4096x512 .bf16) (x4 : FVec Ideal Cert.MixfwdRefIdeal.S512x1024 .bf16) (j : Cert.MixfwdRefIdeal.S4096x1024.Idx) (r : Fin 4096) (n : Fin 1024) (hr : r.val = j 0) (hn : n.val = j 1) :
    val_main_v44 (F := Ideal) x1 x4 j = Norm.dot (fun k => x1 (ix2 r k)) (fun k => x4 (ix2 k n)) := by
  idx_vars j
  obtain rfl : r = j0 := Fin.ext hr
  obtain rfl : n = j1 := Fin.ext hn
  unfold Norm.dot
  pointwise [val_main_v0, val_main_v1, val_main_v2, val_main_v3, val_main_v4, val_main_v5, val_main_v6, val_main_v7, val_main_v8, val_main_v9, val_main_v10, val_main_v11, val_main_cst, val_main_v12, val_main_v13, val_main_cst_0, val_main_v14, val_main_v15, val_main_v16, val_main_v17, val_main_v18, val_main_cst_1, val_main_v19, val_main_v20, val_main_cst_2, val_main_v21, val_main_v22, val_main_v23, val_main_v24, val_main_v25, val_main_v26, val_main_v27, val_main_v28, val_main_cst_3, val_main_v29, val_main_v30, val_main_cst_4, val_main_v31, val_main_v32, val_main_cst_5, val_main_v33, val_main_v34, val_main_v35, val_main_v36, val_main_v37, val_main_v38, val_main_v39, val_main_v40, val_main_v41, val_main_v42, val_main_v43, val_main_v44]

open Cert.MixfwdRefIdeal.Read in
/-- The reference's merge at an index. -/
theorem ref_m24 (x0 : FVec Ideal Cert.MixfwdRefIdeal.S4096x512 .bf16) (x1 : FVec Ideal Cert.MixfwdRefIdeal.S4096x512 .bf16) (x2 : FVec Ideal Cert.MixfwdRefIdeal.S4096x5120 .bf16) (x3 : FVec Ideal Cert.MixfwdRefIdeal.S512x1024 .bf16) (x4 : FVec Ideal Cert.MixfwdRefIdeal.S512x1024 .bf16) (j : Cert.MixfwdRefIdeal.S4096x1024.Idx) (r : Fin 4096) (n : Fin 1024) (hr : r.val = j 0) (hn : n.val = j 1) :
    val_main_v24 (F := Ideal) x0 x1 x2 x3 x4 j = merged (fun z => x0 (ix2 r z)) (fun z => x1 (ix2 r z)) (fun z => x3 (ix2 z n)) (fun z => x4 (ix2 z n)) (x2 (ix2 r ⟨3072 + n.val, by omega⟩)) (x2 (ix2 r ⟨4096 + n.val, by omega⟩)) := by
  idx_vars j
  obtain rfl : r = j0 := Fin.ext hr
  obtain rfl : n = j1 := Fin.ext hn
  unfold merged Norm.dot
  pointwise [val_main_v0, val_main_v1, val_main_v2, val_main_v3, val_main_v4, val_main_v5, val_main_v6, val_main_v7, val_main_v8, val_main_v9, val_main_v10, val_main_v11, val_main_cst, val_main_v12, val_main_v13, val_main_cst_0, val_main_v14, val_main_v15, val_main_v16, val_main_v17, val_main_v18, val_main_cst_1, val_main_v19, val_main_v20, val_main_cst_2, val_main_v21, val_main_v22, val_main_v23, val_main_v24, val_main_cst_3, val_main_cst_4, val_main_cst_5]
  simp only [sigmoid_div, ← Nat.add_assoc]

open Cert.MixfwdRefIdeal.Read in
/-- The same, after its cast. -/
theorem ref_m (x0 : FVec Ideal Cert.MixfwdRefIdeal.S4096x512 .bf16) (x1 : FVec Ideal Cert.MixfwdRefIdeal.S4096x512 .bf16) (x2 : FVec Ideal Cert.MixfwdRefIdeal.S4096x5120 .bf16) (x3 : FVec Ideal Cert.MixfwdRefIdeal.S512x1024 .bf16) (x4 : FVec Ideal Cert.MixfwdRefIdeal.S512x1024 .bf16) (j : Cert.MixfwdRefIdeal.S4096x1024.Idx) (r : Fin 4096) (n : Fin 1024) (hr : r.val = j 0) (hn : n.val = j 1) :
    val_main_v42 (F := Ideal) x0 x1 x2 x3 x4 j = merged (fun z => x0 (ix2 r z)) (fun z => x1 (ix2 r z)) (fun z => x3 (ix2 z n)) (fun z => x4 (ix2 z n)) (x2 (ix2 r ⟨3072 + n.val, by omega⟩)) (x2 (ix2 r ⟨4096 + n.val, by omega⟩)) := by
  rw [val_main_v42_apply]
  exact ref_m24 x0 x1 x2 x3 x4 j r n hr hn

open Cert.MixfwdRefIdeal.Read in
/-- The reference's new rows at an index. -/
theorem ref_x (x0 : FVec Ideal Cert.MixfwdRefIdeal.S4096x512 .bf16) (x1 : FVec Ideal Cert.MixfwdRefIdeal.S4096x512 .bf16) (x2 : FVec Ideal Cert.MixfwdRefIdeal.S4096x5120 .bf16) (x3 : FVec Ideal Cert.MixfwdRefIdeal.S512x1024 .bf16) (x4 : FVec Ideal Cert.MixfwdRefIdeal.S512x1024 .bf16) (x5 : FVec Ideal Cert.MixfwdRefIdeal.S1024x1024 .bf16) (x6 : FVec Ideal Cert.MixfwdRefIdeal.S4096x1024 .f32) (j : Cert.MixfwdRefIdeal.S4096x1024.Idx) (r : Fin 4096) (n : Fin 1024) (hr : r.val = j 0) (hn : n.val = j 1) :
    val_main_v27 (F := Ideal) x0 x1 x2 x3 x4 x5 x6 j = next (fun k => merged (fun z => x0 (ix2 r z)) (fun z => x1 (ix2 r z)) (fun z => x3 (ix2 z k)) (fun z => x4 (ix2 z k)) (x2 (ix2 r ⟨3072 + k.val, by omega⟩)) (x2 (ix2 r ⟨4096 + k.val, by omega⟩))) (fun k => x5 (ix2 k n)) (x6 (ix2 r n)) := by
  idx_vars j
  obtain rfl : r = j0 := Fin.ext hr
  obtain rfl : n = j1 := Fin.ext hn
  simp only [← fun k => ref_m24 x0 x1 x2 x3 x4 (ix2 r k) r k rfl rfl]
  unfold next Norm.dot
  pointwise [val_main_cst, val_main_cst_0, val_main_cst_1, val_main_cst_2, val_main_v25, val_main_v26, val_main_v27, val_main_cst_3, val_main_cst_4, val_main_cst_5]
  exact add_comm _ _

open Cert.MixfwdRefIdeal.Read in
/-- The reference's norm of the new rows at an index. -/
theorem ref_h (x0 : FVec Ideal Cert.MixfwdRefIdeal.S4096x512 .bf16) (x1 : FVec Ideal Cert.MixfwdRefIdeal.S4096x512 .bf16) (x2 : FVec Ideal Cert.MixfwdRefIdeal.S4096x5120 .bf16) (x3 : FVec Ideal Cert.MixfwdRefIdeal.S512x1024 .bf16) (x4 : FVec Ideal Cert.MixfwdRefIdeal.S512x1024 .bf16) (x5 : FVec Ideal Cert.MixfwdRefIdeal.S1024x1024 .bf16) (x6 : FVec Ideal Cert.MixfwdRefIdeal.S4096x1024 .f32) (x7 : FVec Ideal Cert.MixfwdRefIdeal.S1024 .f32) (j : Cert.MixfwdRefIdeal.S4096x1024.Idx) (r : Fin 4096) (n : Fin 1024) (hr : r.val = j 0) (hn : n.val = j 1) :
    val_main_v41 (F := Ideal) x0 x1 x2 x3 x4 x5 x6 x7 j = Fwd.normed (fun n => next (fun k => merged (fun z => x0 (ix2 r z)) (fun z => x1 (ix2 r z)) (fun z => x3 (ix2 z k)) (fun z => x4 (ix2 z k)) (x2 (ix2 r ⟨3072 + k.val, by omega⟩)) (x2 (ix2 r ⟨4096 + k.val, by omega⟩))) (fun k => x5 (ix2 k n)) (x6 (ix2 r n))) (x7 (ix1 n)) n := by
  idx_vars j
  obtain rfl : r = j0 := Fin.ext hr
  obtain rfl : n = j1 := Fin.ext hn
  simp only [← fun k => ref_x x0 x1 x2 x3 x4 x5 x6 (ix2 r k) r k rfl rfl]
  pointwise [val_main_cst, val_main_cst_0, val_main_cst_1, val_main_cst_2, val_main_v28, val_main_cst_3, val_main_v29, val_main_v30, val_main_cst_4, val_main_v31, val_main_v32, val_main_cst_5, val_main_v33, val_main_v34, val_main_v35, val_main_v36, val_main_v37, val_main_v38, val_main_v39, val_main_v40, val_main_v41]
  rfl

/-- Every window's block index at every grid point. -/
theorem idx_val : ∀ t : Fin cfg0.N, win0_0.index t = ![t.val, 0] ∧ win0_1.index t = ![t.val, 0] ∧ win0_2.index t = ![t.val, 3] ∧ win0_3.index t = ![t.val, 4]
    ∧ win0_4.index t = ![0, 0] ∧ win0_5.index t = ![0, 0] ∧ win0_6.index t = ![0, 0] ∧ win0_7.index t = ![t.val, 0] ∧ win0_8.index t = ![0, 0]
    ∧ win0_9.index t = ![t.val, 0] ∧ win0_10.index t = ![t.val, 0] ∧ win0_11.index t = ![t.val, 0] ∧ win0_12.index t = ![t.val, 0] ∧ win0_13.index t = ![t.val, 0] :=
  (by decide +kernel : ∀ t : Fin grid0.N, _)

/-- Row `a` of block `t`, in the array. -/
def row (t : Fin cfg0.N) (a : Fin 512) : Fin 4096 := ⟨t.val * 512 + a.val, by have h : t.val < 8 := t.isLt; omega⟩

/-- Block `t` of the inputs. -/
theorem in0 (c : Dev nD) (t : Fin cfg0.N) (a : Fin 512) (b : Fin 512) : (iblk m c 0 t (ix2 a b) : EReal) = (m ((c : Thread nD τ).loc main_arg0)) (ix2 (row t a) b) := by
  unfold row
  blk_ext [iblk, V, idx_val t]
theorem in1 (c : Dev nD) (t : Fin cfg0.N) (a : Fin 512) (b : Fin 512) : (iblk m c 1 t (ix2 a b) : EReal) = (m ((c : Thread nD τ).loc main_arg1)) (ix2 (row t a) b) := by
  unfold row
  blk_ext [iblk, V, idx_val t]
theorem in2 (c : Dev nD) (t : Fin cfg0.N) (a : Fin 512) (b : Fin 1024) : (iblk m c 2 t (ix2 a b) : EReal) = (m ((c : Thread nD τ).loc main_arg2)) (ix2 (row t a) ⟨3072 + b.val, by omega⟩) := by
  unfold row
  blk_ext [iblk, V, idx_val t]
theorem in3 (c : Dev nD) (t : Fin cfg0.N) (a : Fin 512) (b : Fin 1024) : (iblk m c 3 t (ix2 a b) : EReal) = (m ((c : Thread nD τ).loc main_arg2)) (ix2 (row t a) ⟨4096 + b.val, by omega⟩) := by
  unfold row
  blk_ext [iblk, V, idx_val t]
theorem in4 (c : Dev nD) (t : Fin cfg0.N) (a : Fin 512) (b : Fin 1024) : (iblk m c 4 t (ix2 a b) : EReal) = (m ((c : Thread nD τ).loc main_arg3)) (ix2 a b) := by
  blk_ext [iblk, V, idx_val t]
theorem in5 (c : Dev nD) (t : Fin cfg0.N) (a : Fin 512) (b : Fin 1024) : (iblk m c 5 t (ix2 a b) : EReal) = (m ((c : Thread nD τ).loc main_arg4)) (ix2 a b) := by
  blk_ext [iblk, V, idx_val t]
theorem in6 (c : Dev nD) (t : Fin cfg0.N) (a : Fin 1024) (b : Fin 1024) : (iblk m c 6 t (ix2 a b) : EReal) = (m ((c : Thread nD τ).loc main_arg5)) (ix2 a b) := by
  blk_ext [iblk, V, idx_val t]
theorem in7 (c : Dev nD) (t : Fin cfg0.N) (a : Fin 512) (b : Fin 1024) : (iblk m c 7 t (ix2 a b) : EReal) = (m ((c : Thread nD τ).loc main_arg6)) (ix2 (row t a) b) := by
  unfold row
  blk_ext [iblk, V, idx_val t]
theorem in8 (c : Dev nD) (t : Fin cfg0.N) (a : Fin 1) (b : Fin 1024) : (iblk m c 8 t (ix2 a b) : EReal) = (m ((c : Thread nD τ).loc main_arg7)) (ix1 b) := by
  blk_point [iblk, V, idx_val t]

/-- The block's two products. -/
@[irreducible] def ab (c : Dev nD) (t : Fin cfg0.N) : Vec Ideal S512x1024 .bf16 := k0_pay4 (iblk m c 0 t) (iblk m c 4 t)
/-- The second one. -/
@[irreducible] def bb (c : Dev nD) (t : Fin cfg0.N) : Vec Ideal S512x1024 .bf16 := k0_pay5 (iblk m c 1 t) (iblk m c 5 t)
theorem ab_at (c : Dev nD) (t : Fin cfg0.N) (a : Fin 512) (n : Fin 1024) : (ab m c t (ix2 a n) : EReal) = Norm.dot (fun k => (m ((c : Thread nD τ).loc main_arg0)) (ix2 (row t a) k)) (fun k => (m ((c : Thread nD τ).loc main_arg3)) (ix2 k n)) := by
  refine Eq.trans (b := Norm.dot (fun k => (iblk m c 0 t (ix2 a k) : EReal)) fun k => (iblk m c 4 t (ix2 k n) : EReal)) ?_ ?_
  · unfold ab Norm.dot
    pointwise [k0_pay4]
  · exact congrArg₂ Norm.dot (funext fun k => in0 m c t a k) (funext fun k => in4 m c t k n)
theorem bb_at (c : Dev nD) (t : Fin cfg0.N) (a : Fin 512) (n : Fin 1024) : (bb m c t (ix2 a n) : EReal) = Norm.dot (fun k => (m ((c : Thread nD τ).loc main_arg1)) (ix2 (row t a) k)) (fun k => (m ((c : Thread nD τ).loc main_arg4)) (ix2 k n)) := by
  refine Eq.trans (b := Norm.dot (fun k => (iblk m c 1 t (ix2 a k) : EReal)) fun k => (iblk m c 5 t (ix2 k n) : EReal)) ?_ ?_
  · unfold bb Norm.dot
    pointwise [k0_pay5]
  · exact congrArg₂ Norm.dot (funext fun k => in1 m c t a k) (funext fun k => in5 m c t k n)
/-- The block's merge. -/
@[irreducible] def mb (c : Dev nD) (t : Fin cfg0.N) : Vec Ideal S512x1024 .bf16 := k0_pay1 (k0_pay6 (iblk m c 2 t) (ab m c t)) (k0_pay7 (iblk m c 3 t)) k0_pay8 (bb m c t)
/-- The block's new rows. -/
@[irreducible] def xb (c : Dev nD) (t : Fin cfg0.N) : Vec Ideal S512x1024 .f32 := k0_pay2 (k0_pay6 (iblk m c 2 t) (ab m c t)) (k0_pay7 (iblk m c 3 t)) k0_pay8 (bb m c t) (iblk m c 6 t) (iblk m c 7 t)
theorem mb_at (c : Dev nD) (t : Fin cfg0.N) (a : Fin 512) (n : Fin 1024) : (mb m c t (ix2 a n) : EReal) = merged (fun z => (m ((c : Thread nD τ).loc main_arg0)) (ix2 (row t a) z)) (fun z => (m ((c : Thread nD τ).loc main_arg1)) (ix2 (row t a) z)) (fun z => (m ((c : Thread nD τ).loc main_arg3)) (ix2 z n)) (fun z => (m ((c : Thread nD τ).loc main_arg4)) (ix2 z n)) ((m ((c : Thread nD τ).loc main_arg2)) (ix2 (row t a) ⟨3072 + n.val, by omega⟩)) ((m ((c : Thread nD τ).loc main_arg2)) (ix2 (row t a) ⟨4096 + n.val, by omega⟩)) := by
  unfold merged
  rw [← in2 m c t a n, ← in3 m c t a n, ← ab_at m c t a n, ← bb_at m c t a n]
  unfold mb
  pointwise [k0_pay1, k0_pay6, k0_pay7, k0_pay8, Reals.half_f32, Reals.sigmoid_eq]
theorem xb_at (c : Dev nD) (t : Fin cfg0.N) (a : Fin 512) (n : Fin 1024) : (xb m c t (ix2 a n) : EReal) = next (fun k => merged (fun z => (m ((c : Thread nD τ).loc main_arg0)) (ix2 (row t a) z)) (fun z => (m ((c : Thread nD τ).loc main_arg1)) (ix2 (row t a) z)) (fun z => (m ((c : Thread nD τ).loc main_arg3)) (ix2 z k)) (fun z => (m ((c : Thread nD τ).loc main_arg4)) (ix2 z k)) ((m ((c : Thread nD τ).loc main_arg2)) (ix2 (row t a) ⟨3072 + k.val, by omega⟩)) ((m ((c : Thread nD τ).loc main_arg2)) (ix2 (row t a) ⟨4096 + k.val, by omega⟩))) (fun k => (m ((c : Thread nD τ).loc main_arg5)) (ix2 k n)) ((m ((c : Thread nD τ).loc main_arg6)) (ix2 (row t a) n)) := by
  refine Eq.trans (b := next (fun k => (mb m c t (ix2 a k) : EReal)) (fun k => (iblk m c 6 t (ix2 k n) : EReal)) (iblk m c 7 t (ix2 a n))) ?_ (next_congr (fun k => mb_at m c t a k) (fun k => in6 m c t k n) (in7 m c t a n))
  unfold xb mb next Norm.dot
  pointwise [k0_pay2]
theorem h_at (c : Dev nD) (t : Fin cfg0.N) (a : Fin 512) (n : Fin 1024) : (k0_pay3 (k0_pay6 (iblk m c 2 t) (ab m c t)) (k0_pay7 (iblk m c 3 t)) k0_pay8 (bb m c t) (iblk m c 6 t) (iblk m c 7 t) (iblk m c 8 t) (ix2 a n) : EReal) = Fwd.normed (fun n => next (fun k => merged (fun z => (m ((c : Thread nD τ).loc main_arg0)) (ix2 (row t a) z)) (fun z => (m ((c : Thread nD τ).loc main_arg1)) (ix2 (row t a) z)) (fun z => (m ((c : Thread nD τ).loc main_arg3)) (ix2 z k)) (fun z => (m ((c : Thread nD τ).loc main_arg4)) (ix2 z k)) ((m ((c : Thread nD τ).loc main_arg2)) (ix2 (row t a) ⟨3072 + k.val, by omega⟩)) ((m ((c : Thread nD τ).loc main_arg2)) (ix2 (row t a) ⟨4096 + k.val, by omega⟩))) (fun k => (m ((c : Thread nD τ).loc main_arg5)) (ix2 k n)) ((m ((c : Thread nD τ).loc main_arg6)) (ix2 (row t a) n))) ((m ((c : Thread nD τ).loc main_arg7)) (ix1 n)) n := by
  refine Eq.trans ?_ (Fwd.normed_congr (fun i => xb_at m c t a i) (in8 m c t 0 n) n)
  unfold xb
  pointwise [k0_pay3]
  rfl

/-- What grid point `t` leaves in the blocks, as the body's own words. -/
theorem outs_x (c : Dev nD) (t : Fin cfg0.N) : (outsAt0 m c t).1 = xb m c t := by
  unfold outsAt0
  dsimp only
  unfold xb ab bb
  frame_open
  frame_out
theorem outs_h (c : Dev nD) (t : Fin cfg0.N) : (outsAt0 m c t).2.1 = k0_pay3 (k0_pay6 (iblk m c 2 t) (ab m c t)) (k0_pay7 (iblk m c 3 t)) k0_pay8 (bb m c t) (iblk m c 6 t) (iblk m c 7 t) (iblk m c 8 t) := by
  unfold outsAt0
  dsimp only
  unfold ab bb
  frame_open
  frame_out
theorem outs_m (c : Dev nD) (t : Fin cfg0.N) : (outsAt0 m c t).2.2.1 = mb m c t := by
  unfold outsAt0
  dsimp only
  unfold mb ab bb
  frame_open
  frame_out
theorem outs_a (c : Dev nD) (t : Fin cfg0.N) : (outsAt0 m c t).2.2.2.1 = ab m c t := by
  unfold outsAt0
  dsimp only
  unfold ab
  frame_open
  frame_out
theorem outs_b (c : Dev nD) (t : Fin cfg0.N) : (outsAt0 m c t).2.2.2.2 = bb m c t := by
  unfold outsAt0
  dsimp only
  unfold bb
  frame_open
  frame_out

/-- The new rows the call leaves are the reference's. -/
theorem final9 (c : Dev nD) :
    (dats m 0 c).arrAt 9 cfg0.N = Cert.MixfwdRefIdeal.Read.val_main_v27 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 9 _ (by decide +kernel) fun t hf y => ?_
  have e := (idx_val t).2.2.2.2.2.2.2.2.2.1
  blk_simp
  rw [after0_9, outs_x]
  idx_vars y
  refine (xb_at m c t y0 y1).trans ?_
  refine (ref_x _ _ _ _ _ _ _ _ (row t y0) y1 ?_ ?_).symm
  all_goals ((try unfold row); blk_simp [e] <;> (try dsimp only) <;> try omega)

/-- Their norms the call leaves are the reference's. -/
theorem final10 (c : Dev nD) :
    (dats m 0 c).arrAt 10 cfg0.N = Cert.MixfwdRefIdeal.Read.val_main_v41 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 10 _ (by decide +kernel) fun t hf y => ?_
  have e := (idx_val t).2.2.2.2.2.2.2.2.2.2.1
  blk_simp
  rw [after0_10, outs_h]
  idx_vars y
  refine (h_at m c t y0 y1).trans ?_
  refine (ref_h _ _ _ _ _ _ _ _ _ (row t y0) y1 ?_ ?_).symm
  all_goals ((try unfold row); blk_simp [e] <;> (try dsimp only) <;> try omega)

/-- The merged branches the call leaves are the reference's. -/
theorem final11 (c : Dev nD) :
    (dats m 0 c).arrAt 11 cfg0.N = Cert.MixfwdRefIdeal.Read.val_main_v42 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 11 _ (by decide +kernel) fun t hf y => ?_
  have e := (idx_val t).2.2.2.2.2.2.2.2.2.2.2.1
  blk_simp
  rw [after0_11, outs_m]
  idx_vars y
  refine (mb_at m c t y0 y1).trans ?_
  refine (ref_m _ _ _ _ _ _ (row t y0) y1 ?_ ?_).symm
  all_goals ((try unfold row); blk_simp [e] <;> (try dsimp only) <;> try omega)

/-- The first branch's products the call leaves are the reference's. -/
theorem final12 (c : Dev nD) :
    (dats m 0 c).arrAt 12 cfg0.N = Cert.MixfwdRefIdeal.Read.val_main_v43 (F := Ideal) (m ((c : Thread nD τ).loc main_arg0)) (m ((c : Thread nD τ).loc main_arg3)) := by
  refine (dats m 0 c).arrAt_eq_of_covers 12 _ (by decide +kernel) fun t hf y => ?_
  have e := (idx_val t).2.2.2.2.2.2.2.2.2.2.2.2.1
  blk_simp
  rw [after0_12, outs_a]
  idx_vars y
  refine (ab_at m c t y0 y1).trans ?_
  refine (ref_a _ _ _ (row t y0) y1 ?_ ?_).symm
  all_goals ((try unfold row); blk_simp [e] <;> (try dsimp only) <;> try omega)

/-- The second branch's products the call leaves are the reference's. -/
theorem final13 (c : Dev nD) :
    (dats m 0 c).arrAt 13 cfg0.N = Cert.MixfwdRefIdeal.Read.val_main_v44 (F := Ideal) (m ((c : Thread nD τ).loc main_arg1)) (m ((c : Thread nD τ).loc main_arg4)) := by
  refine (dats m 0 c).arrAt_eq_of_covers 13 _ (by decide +kernel) fun t hf y => ?_
  have e := (idx_val t).2.2.2.2.2.2.2.2.2.2.2.2.2
  blk_simp
  rw [after0_13, outs_b]
  idx_vars y
  refine (bb_at m c t y0 y1).trans ?_
  refine (ref_b _ _ _ (row t y0) y1 ?_ ?_).symm
  all_goals ((try unfold row); blk_simp [e] <;> (try dsimp only) <;> try omega)

end Cert.MixfwdIdeal.Grad

end
-- ==== Proof.ConvfwdValue.lean ====
/- Hand-written, untrusted: the value of the gated convolution, `Cert.ConvfwdIdeal`, at the reals. -/
module

public import proofs.«01_k».proof.Proof.Gen.ConvfwdIdeal.Value
public import proofs.«01_k».proof.Proof.Gen.ConvfwdRefIdeal.Read
public import proofs.«01_k».proof.Proof.Reals
public import proofs.«01_k».proof.Proof.ConvValue

@[expose] public section

set_option maxRecDepth 16384

noncomputable section

open Idealize.ShloMosaic Idealize.ShloMosaic.TcCoe Idealize.SL.Sem
open Idealize.ShloMosaic.Pipeline (Dat)

namespace Cert.ConvfwdIdeal.Grad

open Cert.ConvIdeal.Grad (cu down conv ext_pos conv_eq slt_val sge_val down_sel)
open Cert.ConvfwdIdeal Cert.ConvfwdIdeal.Gen

variable (m : (ℓ : Loc nD τ sig) → Buf (Elt Ideal) ℓ)

/-- The gated convolution's element: the gate times the convolution. -/
def gated (g z : EReal) : EReal := g * z

open Cert.ConvfwdRefIdeal.Read in
/-- The reference's gated convolution at an index. -/
theorem ref_y (x0 : FVec Ideal Cert.ConvfwdRefIdeal.S4096x5120 .bf16) (x1 : FVec Ideal Cert.ConvfwdRefIdeal.S3x512 .f32) (j : Cert.ConvfwdRefIdeal.S4096x512.Idx) (r : Fin 4096) (k : Fin 512) (hr : r.val = j 0) (hk : k.val = j 1) :
    val_main_v29 (F := Ideal) x0 x1 j = gated (x0 (ix2 r ⟨2048 + k.val, by omega⟩)) (conv x0 x1 k r) := by
  idx_vars j
  obtain rfl : r = j0 := Fin.ext hr
  obtain rfl : k = j1 := Fin.ext hk
  rw [← conv_eq]
  unfold gated
  pointwise [val_main_v0, val_main_v1, val_main_v2, val_main_v3, val_main_v4, val_main_v5, val_main_v6, val_main_cst, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29]
  rfl

/-- Every window's block index at every grid point. -/
theorem idx_val : ∀ t : Fin cfg0.N, win0_0.index t = ![t.val, 3] ∧ win0_1.index t = ![t.val, 4] ∧ win0_2.index t = ![t.val, 5]
    ∧ win0_3.index t = ![t.val - 1, 3] ∧ win0_4.index t = ![t.val - 1, 5] ∧ win0_5.index t = ![0, 0] ∧ win0_6.index t = ![t.val, 0] :=
  (by decide +kernel : ∀ t : Fin grid0.N, _)
theorem first_val : ∀ t : Fin cfg0.N, Scalar.cmpi CmpIPredicate.eq (BitVec.ofNat 32 (grid0.coords t 0).val) 0#32 = (if t.val = 0 then 1#1 else 0#1) :=
  (by decide +kernel : ∀ t : Fin grid0.N, _)

/-- Block `t` of the inputs, as rows of the arrays. -/
theorem in0 (c : Dev nD) (t : Fin cfg0.N) (a k : Fin 512) (h : t.val * 512 + a.val < 4096) : (iblk m c 0 t (ix2 a k) : EReal) = (m ((c : Thread nD τ).loc main_arg0)) (ix2 ⟨t.val * 512 + a.val, h⟩ ⟨1536 + k.val, by omega⟩) := by
  blk_ext [iblk, V, idx_val t]
theorem in1 (c : Dev nD) (t : Fin cfg0.N) (a k : Fin 512) (h : t.val * 512 + a.val < 4096) : (iblk m c 1 t (ix2 a k) : EReal) = (m ((c : Thread nD τ).loc main_arg0)) (ix2 ⟨t.val * 512 + a.val, h⟩ ⟨2048 + k.val, by omega⟩) := by
  blk_ext [iblk, V, idx_val t]
theorem in2 (c : Dev nD) (t : Fin cfg0.N) (a k : Fin 512) (h : t.val * 512 + a.val < 4096) : (iblk m c 2 t (ix2 a k) : EReal) = (m ((c : Thread nD τ).loc main_arg0)) (ix2 ⟨t.val * 512 + a.val, h⟩ ⟨2560 + k.val, by omega⟩) := by
  blk_ext [iblk, V, idx_val t]
theorem in3 (c : Dev nD) (t : Fin cfg0.N) (a k : Fin 512) (h : (t.val - 1) * 512 + a.val < 4096) : (iblk m c 3 t (ix2 a k) : EReal) = (m ((c : Thread nD τ).loc main_arg0)) (ix2 ⟨(t.val - 1) * 512 + a.val, h⟩ ⟨1536 + k.val, by omega⟩) := by
  blk_ext [iblk, V, idx_val t]
theorem in4 (c : Dev nD) (t : Fin cfg0.N) (a k : Fin 512) (h : (t.val - 1) * 512 + a.val < 4096) : (iblk m c 4 t (ix2 a k) : EReal) = (m ((c : Thread nD τ).loc main_arg0)) (ix2 ⟨(t.val - 1) * 512 + a.val, h⟩ ⟨2560 + k.val, by omega⟩) := by
  blk_ext [iblk, V, idx_val t]
theorem in5 (c : Dev nD) (t : Fin cfg0.N) (a : Fin 3) (k : Fin 512) : (iblk m c 5 t (ix2 a k) : EReal) = (m ((c : Thread nD τ).loc main_arg1)) (ix2 a k) := by
  blk_ext [iblk, V, idx_val t]

/-- The products of a block's rows, and of the rows before it. -/
theorem cu_at (c : Dev nD) (t : Fin cfg0.N) (a k : Fin 512) : (k0_pay2 (iblk m c 2 t) (iblk m c 0 t) (ix2 a k) : EReal) = Norm.ext (cu (m ((c : Thread nD τ).loc main_arg0)) k) (t.val * 512 + a.val) := by
  have ht : t.val < 8 := t.isLt
  have h : t.val * 512 + a.val < 4096 := by omega
  rw [ext_pos _ _ h]
  refine Eq.trans ?_ (congrArg₂ (· * ·) (in2 m c t a k h) (in0 m c t a k h))
  pointwise [k0_pay2]
theorem cup_at (c : Dev nD) (t : Fin cfg0.N) (a k : Fin 512) : (k0_pay3 (iblk m c 4 t) (iblk m c 3 t) (ix2 a k) : EReal) = Norm.ext (cu (m ((c : Thread nD τ).loc main_arg0)) k) ((t.val - 1) * 512 + a.val) := by
  have ht : t.val < 8 := t.isLt
  have h : (t.val - 1) * 512 + a.val < 4096 := by omega
  rw [ext_pos _ _ h]
  refine Eq.trans ?_ (congrArg₂ (· * ·) (in4 m c t a k h) (in3 m c t a k h))
  pointwise [k0_pay3]

/-- The block's rows shifted down, times their taps. -/
theorem cu1_at (c : Dev nD) (t : Fin cfg0.N) (a k : Fin 512) : (Scalar.select (k0_pay6 (grid0.coords t) (ix2 a k)) 0 (k0_pay5 (iblk m c 2 t) (iblk m c 0 t) (iblk m c 4 t) (iblk m c 3 t) (ix2 a k)) : EReal) = down (m ((c : Thread nD τ).loc main_arg0)) k 1 (t.val * 512 + a.val) := by
  pointwise [k0_pay6, k0_pay5]
  rw [(slt_val a).1, (sge_val a).1, first_val t, down_sel, cu_at, cup_at]
  unfold down
  dsimp only
  split_ifs <;> first | rfl | (exfalso; omega) | exact congrArg _ (by omega)
theorem down_sel_tap (p q : Prop) [Decidable p] [Decidable q] (w x y : EReal) :
    Scalar.select (IntOp.andi (if p then 1#1 else 0#1) (if q then 1#1 else 0#1)) 0 (w * Scalar.select (if q then 0#1 else 1#1) x y)
      = gated w (if q then if p then 0 else y else x) := by
  by_cases hp : p <;> by_cases hq : q <;> simp [hp, hq, Scalar.select, IntOp.andi, gated]
theorem cu2_at (c : Dev nD) (t : Fin cfg0.N) (a k : Fin 512) : (k0_pay4 (grid0.coords t) (iblk m c 2 t) (iblk m c 0 t) (iblk m c 4 t) (iblk m c 3 t) (View.ld (iblk m c 5 t) r0_1) (ix2 a k) : EReal) = gated ((m ((c : Thread nD τ).loc main_arg1)) (ix2 0 k)) (down (m ((c : Thread nD τ).loc main_arg0)) k 2 (t.val * 512 + a.val)) := by
  rw [← in5 m c t 0 k]
  pointwise [k0_pay4]
  rw [(slt_val a).2.1, (sge_val a).2.1, first_val t, down_sel_tap, cu_at, cup_at]
  refine congrArg (gated _) ?_
  unfold down
  dsimp only
  split_ifs <;> first | rfl | (exfalso; omega) | exact congrArg _ (by omega)
/-- What grid point `t` computes at an index of its block. -/
theorem y_at (c : Dev nD) (t : Fin cfg0.N) (a k : Fin 512) (h : t.val * 512 + a.val < 4096) : (k0_pay1 (k0_pay2 (iblk m c 2 t) (iblk m c 0 t)) (k0_pay4 (grid0.coords t) (iblk m c 2 t) (iblk m c 0 t) (iblk m c 4 t) (iblk m c 3 t) (View.ld (iblk m c 5 t) r0_1)) (View.ld (iblk m c 5 t) r0_2) (k0_pay5 (iblk m c 2 t) (iblk m c 0 t) (iblk m c 4 t) (iblk m c 3 t)) (k0_pay6 (grid0.coords t)) (View.ld (iblk m c 5 t) r0_3) (iblk m c 1 t) (ix2 a k) : EReal)
    = gated ((m ((c : Thread nD τ).loc main_arg0)) (ix2 ⟨t.val * 512 + a.val, h⟩ ⟨2048 + k.val, by omega⟩)) (conv (m ((c : Thread nD τ).loc main_arg0)) (m ((c : Thread nD τ).loc main_arg1)) k (t.val * 512 + a.val)) := by
  refine Eq.trans (b := gated (iblk m c 1 t (ix2 a k)) ((k0_pay4 (grid0.coords t) (iblk m c 2 t) (iblk m c 0 t) (iblk m c 4 t) (iblk m c 3 t) (View.ld (iblk m c 5 t) r0_1) (ix2 a k) : EReal)
    + gated (iblk m c 5 t (ix2 1 k)) (Scalar.select (k0_pay6 (grid0.coords t) (ix2 a k)) 0 (k0_pay5 (iblk m c 2 t) (iblk m c 0 t) (iblk m c 4 t) (iblk m c 3 t) (ix2 a k)) : EReal)
    + gated (iblk m c 5 t (ix2 2 k)) (k0_pay2 (iblk m c 2 t) (iblk m c 0 t) (ix2 a k)))) ?_ ?_
  · unfold gated
    pointwise [k0_pay1]
  · rw [cu1_at, cu2_at, cu_at, in1 m c t a k h, in5, in5]
    rfl
theorem out_y (c : Dev nD) (t : Fin cfg0.N) : out0_6 (grid0.coords t) (iblk m c 0 t) (iblk m c 1 t) (iblk m c 2 t) (iblk m c 3 t) (iblk m c 4 t) (iblk m c 5 t) = k0_pay1 (k0_pay2 (iblk m c 2 t) (iblk m c 0 t)) (k0_pay4 (grid0.coords t) (iblk m c 2 t) (iblk m c 0 t) (iblk m c 4 t) (iblk m c 3 t) (View.ld (iblk m c 5 t) r0_1)) (View.ld (iblk m c 5 t) r0_2) (k0_pay5 (iblk m c 2 t) (iblk m c 0 t) (iblk m c 4 t) (iblk m c 3 t)) (k0_pay6 (grid0.coords t)) (View.ld (iblk m c 5 t) r0_3) (iblk m c 1 t) := by
  unfold out0_6
  frame_out
  rfl

/-- The rows the call leaves are the reference's. -/
theorem final6 (c : Dev nD) :
    (dats m 0 c).arrAt 6 cfg0.N = Cert.ConvfwdRefIdeal.Read.val_main_v29 (F := Ideal) (m ((c : Thread nD τ).loc main_arg0)) (m ((c : Thread nD τ).loc main_arg1)) := by
  refine (dats m 0 c).arrAt_eq_of_covers 6 _ (by decide +kernel) fun t hf y => ?_
  have ht : t.val < 8 := t.isLt
  have e := (idx_val t).2.2.2.2.2.2
  blk_simp
  rw [after0_6, out_y]
  idx_vars y
  refine (y_at m c t y0 y1 (by omega)).trans ?_
  refine (ref_y _ _ _ ⟨t.val * 512 + y0.val, by omega⟩ y1 ?_ ?_).symm
  all_goals (blk_simp [e] <;> (try dsimp only) <;> try omega)

end Cert.ConvfwdIdeal.Grad

end
-- ==== Proof.RmsfwdValue.lean ====
/- Hand-written, untrusted: the value of the norm, `Cert.RmsfwdIdeal`, at the reals. -/
module

public import proofs.«01_k».proof.Proof.Gen.RmsfwdIdeal.Value
public import proofs.«01_k».proof.Proof.Gen.RmsfwdRefIdeal.Read
public import proofs.«01_k».proof.Proof.Reals
public import proofs.«01_k».proof.Proof.Fwd

@[expose] public section

set_option maxRecDepth 16384

noncomputable section

open Idealize.ShloMosaic Idealize.ShloMosaic.TcCoe Idealize.SL.Sem
open Idealize.ShloMosaic.Pipeline (Dat)

namespace Cert.RmsfwdIdeal.Grad

open Cert.RmsfwdIdeal Cert.RmsfwdIdeal.Gen

variable (m : (ℓ : Loc nD τ sig) → Buf (Elt Ideal) ℓ)

open Cert.RmsfwdRefIdeal.Read in
/-- The reference's norm at an index. -/
theorem ref_h (x0 : FVec Ideal Cert.RmsfwdRefIdeal.S4096x1024 .f32) (x1 : FVec Ideal Cert.RmsfwdRefIdeal.S1024 .f32) (j : Cert.RmsfwdRefIdeal.S4096x1024.Idx) (r : Fin 4096) (n : Fin 1024) (hr : r.val = j 0) (hn : n.val = j 1) :
    val_main_v13 (F := Ideal) x0 x1 j = Fwd.normed (fun i => x0 (ix2 r i)) (x1 (ix1 n)) n := by
  idx_vars j
  obtain rfl : r = j0 := Fin.ext hr
  obtain rfl : n = j1 := Fin.ext hn
  pointwise [val_main_v0, val_main_cst, val_main_v1, val_main_v2, val_main_cst_0, val_main_v3, val_main_v4, val_main_cst_1, val_main_v5, val_main_v6, val_main_v7, val_main_v8, val_main_v9, val_main_v10, val_main_v11, val_main_v12, val_main_v13]
  rfl

/-- Every window's block index at every grid point. -/
theorem idx_val : ∀ t : Fin cfg0.N, win0_0.index t = ![t.val, 0] ∧ win0_1.index t = ![0, 0] ∧ win0_2.index t = ![t.val, 0] :=
  (by decide +kernel : ∀ t : Fin grid0.N, _)

/-- Row `a` of block `t`, in the array. -/
def row (t : Fin cfg0.N) (a : Fin 512) : Fin 4096 := ⟨t.val * 512 + a.val, by have h : t.val < 8 := t.isLt; omega⟩

/-- Block `t` of the inputs. -/
theorem in0 (c : Dev nD) (t : Fin cfg0.N) (a : Fin 512) (b : Fin 1024) : (iblk m c 0 t (ix2 a b) : EReal) = (m ((c : Thread nD τ).loc main_arg0)) (ix2 (row t a) b) := by
  unfold row
  blk_ext [iblk, V, idx_val t]
theorem in1 (c : Dev nD) (t : Fin cfg0.N) (a : Fin 1) (b : Fin 1024) : (iblk m c 1 t (ix2 a b) : EReal) = (m ((c : Thread nD τ).loc main_arg1)) (ix1 b) := by
  blk_point [iblk, V, idx_val t]

/-- What grid point `t` computes at an index of its block. -/
theorem h_at (c : Dev nD) (t : Fin cfg0.N) (a : Fin 512) (n : Fin 1024) :
    (k0_pay1 (iblk m c 0 t) (iblk m c 1 t) (ix2 a n) : EReal) = Fwd.normed (fun i => (m ((c : Thread nD τ).loc main_arg0)) (ix2 (row t a) i)) ((m ((c : Thread nD τ).loc main_arg1)) (ix1 n)) n := by
  refine Eq.trans ?_ (Fwd.normed_congr (fun i => in0 m c t a i) (in1 m c t 0 n) n)
  pointwise [k0_pay1]
  rfl
theorem out_h (c : Dev nD) (t : Fin cfg0.N) : out0_2 (iblk m c 0 t) (iblk m c 1 t) = k0_pay1 (iblk m c 0 t) (iblk m c 1 t) := by
  unfold out0_2
  frame_out

/-- The norms the call leaves are the reference's. -/
theorem final2 (c : Dev nD) :
    (dats m 0 c).arrAt 2 cfg0.N = Cert.RmsfwdRefIdeal.Read.val_main_v13 (F := Ideal) (m ((c : Thread nD τ).loc main_arg0)) (m ((c : Thread nD τ).loc main_arg1)) := by
  refine (dats m 0 c).arrAt_eq_of_covers 2 _ (by decide +kernel) fun t hf y => ?_
  have e := (idx_val t).2.2
  blk_simp
  rw [after0_2, out_h]
  idx_vars y
  refine (h_at m c t y0 y1).trans ?_
  refine (ref_h _ _ _ (row t y0) y1 ?_ ?_).symm
  all_goals ((try unfold row); blk_simp [e] <;> (try dsimp only) <;> try omega)

end Cert.RmsfwdIdeal.Grad

end
-- ==== Proof.MmnnValue.lean ====
/- Hand-written, untrusted: the value of the feed-forward block's product, `Cert.MmnnIdeal`, at the reals. -/
module

public import proofs.«01_k».proof.Proof.Gen.MmnnIdeal.Value
public import proofs.«01_k».proof.Proof.Gen.MmnnRefIdeal.Read
public import proofs.«01_k».proof.Proof.Reals
public import proofs.«01_k».proof.Proof.Norm

@[expose] public section

set_option maxRecDepth 16384

noncomputable section

open Idealize.ShloMosaic Idealize.ShloMosaic.TcCoe Idealize.SL.Sem
open Idealize.ShloMosaic.Pipeline (Dat)

namespace Cert.MmnnIdeal.Grad

open Cert.MmnnIdeal Cert.MmnnIdeal.Gen

variable (m : (ℓ : Loc nD τ sig) → Buf (Elt Ideal) ℓ)

open Cert.MmnnRefIdeal.Read in
/-- The reference's product at an index. -/
theorem ref_o (x0 : FVec Ideal Cert.MmnnRefIdeal.S4096x1024 .bf16) (x1 : FVec Ideal Cert.MmnnRefIdeal.S1024x5632 .bf16) (j : Cert.MmnnRefIdeal.S8x4096x704.Idx) (g : Fin 8) (r : Fin 4096) (n : Fin 704) (hg : g.val = j 0) (hr : r.val = j 1) (hn : n.val = j 2) :
    val_main_v5 (F := Ideal) x0 x1 j = Norm.dot (n := 1024) (fun k => x0 (ix2 r k)) (fun k => x1 (ix2 k ⟨g.val * 704 + n.val, by omega⟩)) := by
  idx_vars j
  obtain rfl : g = j0 := Fin.ext hg
  obtain rfl : r = j1 := Fin.ext hr
  obtain rfl : n = j2 := Fin.ext hn
  unfold Norm.dot
  pointwise [val_main_v0, val_main_v1, val_main_v2, val_main_v3, val_main_v4, val_main_v5]

/-- Every window's block index at every grid point. -/
theorem idx_val : ∀ t : Fin cfg0.N, win0_0.index t = ![t.val / 8, 0] ∧ win0_1.index t = ![t.val % 8, 0, 0] ∧ win0_2.index t = ![t.val % 8, t.val / 8, 0] :=
  (by decide +kernel : ∀ t : Fin grid0.N, _)

/-- Row `a` of block `t`, in the array, and the group of columns that block `t` computes. -/
def row (t : Fin cfg0.N) (a : Fin 1024) : Fin 4096 := ⟨t.val / 8 * 1024 + a.val, by have h : t.val < 32 := t.isLt; omega⟩
def col (t : Fin cfg0.N) : Fin 8 := ⟨t.val % 8, by omega⟩

/-- Block `t` of the inputs. -/
theorem in0 (c : Dev nD) (t : Fin cfg0.N) (a : Fin 1024) (b : Fin 1024) : (iblk m c 0 t (ix2 a b) : EReal) = (m ((c : Thread nD τ).loc main_arg0)) (ix2 (row t a) b) := by
  unfold row
  blk_ext [iblk, V, idx_val t]
theorem in1 (c : Dev nD) (t : Fin cfg0.N) (a : Fin 1) (n : Fin 704) (b : Fin 1024) : (iblk m c 1 t (ix3 a n b) : EReal) = (m ((c : Thread nD τ).loc main_arg1)) (ix2 b ⟨(col t).val * 704 + n.val, by omega⟩) := by
  obtain rfl : a = 0 := Subsingleton.elim _ _
  unfold col
  blk_point [iblk, V, idx_val t]

/-- What grid point `t` computes at an index of its block. -/
theorem o_at (c : Dev nD) (t : Fin cfg0.N) (a : Fin 1024) (n : Fin 704) :
    (k0_pay1 (iblk m c 0 t) (iblk m c 1 t) (ix3 0 a n) : EReal) = Norm.dot (n := 1024) (fun k => (m ((c : Thread nD τ).loc main_arg0)) (ix2 (row t a) k)) (fun k => (m ((c : Thread nD τ).loc main_arg1)) (ix2 k ⟨(col t).val * 704 + n.val, by omega⟩)) := by
  refine Eq.trans ?_ (congrArg₂ Norm.dot (funext fun k => in0 m c t a k) (funext fun k => in1 m c t 0 n k))
  unfold Norm.dot
  pointwise [k0_pay1]
theorem out_o (c : Dev nD) (t : Fin cfg0.N) : out0_2 (iblk m c 0 t) (iblk m c 1 t) = k0_pay1 (iblk m c 0 t) (iblk m c 1 t) := by
  unfold out0_2
  frame_out

/-- The products the call leaves are the reference's. -/
theorem final2 (c : Dev nD) :
    (dats m 0 c).arrAt 2 cfg0.N = Cert.MmnnRefIdeal.Read.val_main_v5 (F := Ideal) (m ((c : Thread nD τ).loc main_arg0)) (m ((c : Thread nD τ).loc main_arg1)) := by
  refine (dats m 0 c).arrAt_eq_of_covers 2 _ (by decide +kernel) fun t hf y => ?_
  have e := (idx_val t).2.2
  have hN : t.val < 32 := t.isLt
  blk_simp
  rw [after0_2, out_o]
  idx_vars y
  obtain rfl : y0 = 0 := Subsingleton.elim _ _
  refine (o_at m c t y1 y2).trans ?_
  refine (ref_o _ _ _ (col t) (row t y1) y2 ?_ ?_ ?_).symm
  all_goals ((try unfold row); (try unfold col); blk_simp [e] <;> (try dsimp only) <;> try omega)

end Cert.MmnnIdeal.Grad

end
-- ==== Proof.MmtnaValue.lean ====
/- Hand-written, untrusted: the value of the gradient of the feed-forward block's weight, `Cert.MmtnaIdeal`, at the reals. -/
module

public import proofs.«01_k».proof.Proof.Gen.MmtnaIdeal.Value
public import proofs.«01_k».proof.Proof.Gen.MmtnaRefIdeal.Read
public import proofs.«01_k».proof.Proof.Reals
public import proofs.«01_k».proof.Proof.Norm

@[expose] public section

set_option maxRecDepth 16384

noncomputable section

open Idealize.ShloMosaic Idealize.ShloMosaic.TcCoe Idealize.SL.Sem
open Idealize.ShloMosaic.Pipeline (Dat)

namespace Cert.MmtnaIdeal.Grad

open Cert.MmtnaIdeal Cert.MmtnaIdeal.Gen

variable (m : (ℓ : Loc nD τ sig) → Buf (Elt Ideal) ℓ)

open Cert.MmtnaRefIdeal.Read in
/-- The reference's product at an index. -/
theorem ref_o (x0 : FVec Ideal Cert.MmtnaRefIdeal.S4096x1024 .bf16) (x2 : FVec Ideal Cert.MmtnaRefIdeal.S4096x5632 .bf16) (j : Cert.MmtnaRefIdeal.S8x704x1024.Idx) (g : Fin 8) (r : Fin 704) (n : Fin 1024) (hg : g.val = j 0) (hr : r.val = j 1) (hn : n.val = j 2) :
    val_main_v8 (F := Ideal) x0 x2 j = Norm.dot (n := 4096) (fun k => x2 (ix2 k ⟨g.val * 704 + r.val, by omega⟩)) (fun k => x0 (ix2 k n)) := by
  idx_vars j
  obtain rfl : g = j0 := Fin.ext hg
  obtain rfl : r = j1 := Fin.ext hr
  obtain rfl : n = j2 := Fin.ext hn
  unfold Norm.dot
  pointwise [val_main_v0, val_main_v1, val_main_v2, val_main_v3, val_main_v4, val_main_v5, val_main_v6, val_main_v7, val_main_v8]

/-- Every window's block index at every grid point. -/
theorem idx_val : ∀ t : Fin cfg0.N, win0_0.index t = ![t.val, 0, 0] ∧ win0_1.index t = ![0, 0] ∧ win0_2.index t = ![t.val, 0, 0] :=
  (by decide +kernel : ∀ t : Fin grid0.N, _)

/-- The group of columns of block `t`. -/
def col (t : Fin cfg0.N) : Fin 8 := ⟨t.val, t.isLt⟩

/-- Block `t` of the inputs. -/
theorem in0 (c : Dev nD) (t : Fin cfg0.N) (a : Fin 1) (b : Fin 4096) (r : Fin 704) : (iblk m c 0 t (ix3 a b r) : EReal) = (m ((c : Thread nD τ).loc main_arg2)) (ix2 b ⟨(col t).val * 704 + r.val, by omega⟩) := by
  obtain rfl : a = 0 := Subsingleton.elim _ _
  unfold col
  blk_point [iblk, V, idx_val t]
theorem in1 (c : Dev nD) (t : Fin cfg0.N) (a : Fin 4096) (b : Fin 1024) : (iblk m c 1 t (ix2 a b) : EReal) = (m ((c : Thread nD τ).loc main_arg0)) (ix2 a b) := by
  blk_point [iblk, V, idx_val t]

/-- What grid point `t` computes at an index of its block. -/
theorem o_at (c : Dev nD) (t : Fin cfg0.N) (r : Fin 704) (n : Fin 1024) :
    (k0_pay1 (iblk m c 0 t) (iblk m c 1 t) (ix3 0 r n) : EReal) = Norm.dot (n := 4096) (fun k => (m ((c : Thread nD τ).loc main_arg2)) (ix2 k ⟨(col t).val * 704 + r.val, by omega⟩)) (fun k => (m ((c : Thread nD τ).loc main_arg0)) (ix2 k n)) := by
  refine Eq.trans ?_ (congrArg₂ Norm.dot (funext fun k => in0 m c t 0 k r) (funext fun k => in1 m c t k n))
  unfold Norm.dot
  pointwise [k0_pay1]
theorem out_o (c : Dev nD) (t : Fin cfg0.N) : out0_2 (iblk m c 0 t) (iblk m c 1 t) = k0_pay1 (iblk m c 0 t) (iblk m c 1 t) := by
  unfold out0_2
  frame_out

/-- The products the call leaves are the reference's. -/
theorem final2 (c : Dev nD) :
    (dats m 0 c).arrAt 2 cfg0.N = Cert.MmtnaRefIdeal.Read.val_main_v8 (F := Ideal) (m ((c : Thread nD τ).loc main_arg0)) (m ((c : Thread nD τ).loc main_arg2)) := by
  refine (dats m 0 c).arrAt_eq_of_covers 2 _ (by decide +kernel) fun t hf y => ?_
  have e := (idx_val t).2.2
  have hN : t.val < 8 := t.isLt
  blk_simp
  rw [after0_2, out_o]
  idx_vars y
  obtain rfl : y0 = 0 := Subsingleton.elim _ _
  refine (o_at m c t y1 y2).trans ?_
  refine (ref_o _ _ _ (col t) y1 y2 ?_ ?_ ?_).symm
  all_goals ((try unfold row); (try unfold col); blk_simp [e] <;> (try dsimp only) <;> try omega)

end Cert.MmtnaIdeal.Grad

end
-- ==== Proof.MmtnValue.lean ====
/- Hand-written, untrusted: the value of the gradient of the input projection's weight, its first rows, `Cert.MmtnIdeal`, at the reals. -/
module

public import proofs.«01_k».proof.Proof.Gen.MmtnIdeal.Value
public import proofs.«01_k».proof.Proof.Gen.MmtnRefIdeal.Read
public import proofs.«01_k».proof.Proof.Reals
public import proofs.«01_k».proof.Proof.Norm

@[expose] public section

set_option maxRecDepth 16384

noncomputable section

open Idealize.ShloMosaic Idealize.ShloMosaic.TcCoe Idealize.SL.Sem
open Idealize.ShloMosaic.Pipeline (Dat)

namespace Cert.MmtnIdeal.Grad

open Cert.MmtnIdeal Cert.MmtnIdeal.Gen

variable (m : (ℓ : Loc nD τ sig) → Buf (Elt Ideal) ℓ)

open Cert.MmtnRefIdeal.Read in
/-- The reference's product at an index. -/
theorem ref_o (x0 : FVec Ideal Cert.MmtnRefIdeal.S4096x1024 .bf16) (x2 : FVec Ideal Cert.MmtnRefIdeal.S4096x5120 .bf16) (j : Cert.MmtnRefIdeal.S8x768x640.Idx) (g : Fin 8) (r : Fin 768) (n : Fin 640) (hg : g.val = j 0) (hr : r.val = j 1) (hn : n.val = j 2) :
    val_main_v9 (F := Ideal) x0 x2 j = Norm.dot (n := 4096) (fun k => x0 (ix2 k ⟨r.val, by omega⟩)) (fun k => x2 (ix2 k ⟨g.val * 640 + n.val, by omega⟩)) := by
  idx_vars j
  obtain rfl : g = j0 := Fin.ext hg
  obtain rfl : r = j1 := Fin.ext hr
  obtain rfl : n = j2 := Fin.ext hn
  unfold Norm.dot
  pointwise [val_main_v0, val_main_v1, val_main_v2, val_main_v3, val_main_v4, val_main_v5, val_main_v6, val_main_v7, val_main_v8, val_main_v9]
  exact Finset.sum_congr rfl fun k _ => mul_comm _ _

/-- Every window's block index at every grid point. -/
theorem idx_val : ∀ t : Fin cfg0.N, win0_0.index t = ![0, 0] ∧ win0_1.index t = ![0, t.val] ∧ win0_2.index t = ![t.val, 0, 0] :=
  (by decide +kernel : ∀ t : Fin grid0.N, _)

/-- The group of columns of block `t`. -/
def col (t : Fin cfg0.N) : Fin 8 := ⟨t.val, t.isLt⟩

/-- Block `t` of the inputs. -/
theorem in0 (c : Dev nD) (t : Fin cfg0.N) (a : Fin 4096) (b : Fin 768) : (X0_0 m c t (ix2 a b) : EReal) = (m ((c : Thread nD τ).loc main_arg0)) (ix2 a ⟨b.val, by omega⟩) := by
  unfold X0_0 Pipeline.Window.fill
  rw [dif_pos (moved0_0 t _)]
  blk_point [iblk, V, idx_val t]
theorem in1 (c : Dev nD) (t : Fin cfg0.N) (a : Fin 4096) (n : Fin 640) : (iblk m c 1 t (ix2 a n) : EReal) = (m ((c : Thread nD τ).loc main_arg2)) (ix2 a ⟨(col t).val * 640 + n.val, by omega⟩) := by
  unfold col
  blk_point [iblk, V, idx_val t]

/-- What grid point `t` computes at an index of its block. -/
theorem o_at (c : Dev nD) (t : Fin cfg0.N) (r : Fin 768) (n : Fin 640) :
    (k0_pay1 (X0_0 m c t) (iblk m c 1 t) (ix3 0 r n) : EReal) = Norm.dot (n := 4096) (fun k => (m ((c : Thread nD τ).loc main_arg0)) (ix2 k ⟨r.val, by omega⟩)) (fun k => (m ((c : Thread nD τ).loc main_arg2)) (ix2 k ⟨(col t).val * 640 + n.val, by omega⟩)) := by
  refine Eq.trans ?_ (congrArg₂ Norm.dot (funext fun k => in0 m c t k r) (funext fun k => in1 m c t k n))
  unfold Norm.dot
  pointwise [k0_pay1]
theorem out_o (c : Dev nD) (t : Fin cfg0.N) : outsAt0 m c t = k0_pay1 (X0_0 m c t) (iblk m c 1 t) := by
  unfold outsAt0
  frame_out

/-- The products the call leaves are the reference's. -/
theorem final2 (c : Dev nD) :
    (dats m 0 c).arrAt 2 cfg0.N = Cert.MmtnRefIdeal.Read.val_main_v9 (F := Ideal) (m ((c : Thread nD τ).loc main_arg0)) (m ((c : Thread nD τ).loc main_arg2)) := by
  refine (dats m 0 c).arrAt_eq_of_covers 2 _ (by decide +kernel) fun t hf y => ?_
  have e := (idx_val t).2.2
  have hN : t.val < 8 := t.isLt
  blk_simp
  rw [after0_2, out_o]
  idx_vars y
  obtain rfl : y0 = 0 := Subsingleton.elim _ _
  refine (o_at m c t y1 y2).trans ?_
  refine (ref_o _ _ _ (col t) y1 y2 ?_ ?_ ?_).symm
  all_goals ((try unfold row); (try unfold col); blk_simp [e] <;> (try dsimp only) <;> try omega)

end Cert.MmtnIdeal.Grad

end
-- ==== Proof.SumdevValue.lean ====
/- Hand-written, untrusted: the value of the sum over the devices, `Cert.SumdevIdeal`, at the reals. -/
module

public import proofs.«01_k».proof.Proof.Gen.SumdevIdeal.Value
public import proofs.«01_k».proof.Proof.Gen.SumdevRefIdeal.Read
public import proofs.«01_k».proof.Proof.Reals

@[expose] public section

set_option maxRecDepth 16384

noncomputable section

open Idealize.ShloMosaic Idealize.ShloMosaic.TcCoe Idealize.SL.Sem
open Idealize.ShloMosaic.Pipeline (Dat)

namespace Cert.SumdevIdeal.Grad

open Cert.SumdevIdeal Cert.SumdevIdeal.Gen

variable (m : (ℓ : Loc nD τ sig) → Buf (Elt Ideal) ℓ)

open Cert.SumdevRefIdeal.Read in
/-- The reference's sum at an index. -/
theorem ref_o (x0 : FVec Ideal Cert.SumdevRefIdeal.S8x16x1024 .f32) (j : Cert.SumdevRefIdeal.S16x1024.Idx) (r : Fin 16) (n : Fin 1024) (hr : r.val = j 0) (hn : n.val = j 1) :
    val_main_v0 (F := Ideal) x0 j = ∑ d : Fin 8, x0 (ix3 d r n) := by
  idx_vars j
  obtain rfl : r = j0 := Fin.ext hr
  obtain rfl : n = j1 := Fin.ext hn
  pointwise [val_main_cst, val_main_v0]

/-- Every window's block is the whole array. -/
theorem idx_val : ∀ t : Fin cfg0.N, win0_0.index t = ![0, 0, 0] ∧ win0_1.index t = ![0, 0] :=
  (by decide +kernel : ∀ t : Fin grid0.N, _)

/-- The input. -/
theorem in0 (c : Dev nD) (t : Fin cfg0.N) (d : Fin 8) (a : Fin 16) (b : Fin 1024) : (iblk m c 0 t (ix3 d a b) : EReal) = (m ((c : Thread nD τ).loc main_arg0)) (ix3 d a b) := by
  blk_point [iblk, V, idx_val t]

/-- A device's part, in the block. -/
def part (c : Dev nD) (t : Fin cfg0.N) (a : Fin 16) (b : Fin 1024) (d : Fin 8) : EReal := iblk m c 0 t (ix3 d a b)

/-- The body's sum, in its own words. -/
@[irreducible] def tot (c : Dev nD) (t : Fin cfg0.N) : FVec Ideal S16x1024 .f32 :=
  k0_pay1 (F := Ideal) (View.ld (iblk m c 0 t) (Rect.unit ![0, 0, 0] ![1, 16, 1024] inb_S8x16x1024_S1x16x1024_0_0_0)) (View.ld (iblk m c 0 t) (Rect.unit ![1, 0, 0] ![1, 16, 1024] inb_S8x16x1024_S1x16x1024_1_0_0)) (View.ld (iblk m c 0 t) (Rect.unit ![2, 0, 0] ![1, 16, 1024] inb_S8x16x1024_S1x16x1024_2_0_0)) (View.ld (iblk m c 0 t) (Rect.unit ![3, 0, 0] ![1, 16, 1024] inb_S8x16x1024_S1x16x1024_3_0_0)) (View.ld (iblk m c 0 t) (Rect.unit ![4, 0, 0] ![1, 16, 1024] inb_S8x16x1024_S1x16x1024_4_0_0)) (View.ld (iblk m c 0 t) (Rect.unit ![5, 0, 0] ![1, 16, 1024] inb_S8x16x1024_S1x16x1024_5_0_0)) (View.ld (iblk m c 0 t) (Rect.unit ![6, 0, 0] ![1, 16, 1024] inb_S8x16x1024_S1x16x1024_6_0_0)) (View.ld (iblk m c 0 t) (Rect.unit ![7, 0, 0] ![1, 16, 1024] inb_S8x16x1024_S1x16x1024_7_0_0))
theorem tot_at (c : Dev nD) (t : Fin cfg0.N) (a : Fin 16) (b : Fin 1024) : (tot m c t (ix2 a b) : EReal) = ∑ d : Fin 8, part m c t a b d := by
  rw [Fin.sum_univ_eight]
  unfold tot part
  pointwise [k0_pay1]
theorem out_o (c : Dev nD) (t : Fin cfg0.N) : out0_1 (iblk m c 0 t) = tot m c t := by
  unfold out0_1 tot
  frame_out
  rfl

/-- The sums the call leaves are the reference's. -/
theorem final1 (c : Dev nD) :
    (dats m 0 c).arrAt 1 cfg0.N = Cert.SumdevRefIdeal.Read.val_main_v0 (F := Ideal) (m ((c : Thread nD τ).loc main_arg0)) := by
  refine (dats m 0 c).arrAt_eq_of_covers 1 _ (by decide +kernel) fun t hf y => ?_
  have e := (idx_val t).2
  blk_simp
  rw [after0_1]
  idx_vars y
  refine Eq.trans (b := ∑ d : Fin 8, part m c t y0 y1 d) ?_ ?_
  · rw [out_o]
    exact tot_at m c t y0 y1
  · refine Eq.trans ?_ (ref_o _ _ y0 y1 ?_ ?_).symm
    · exact Finset.sum_congr rfl fun d _ => in0 m c t d y0 y1
    all_goals (blk_simp [e] <;> (try dsimp only) <;> try omega)

end Cert.SumdevIdeal.Grad

end
-- ==== Proof.Values.lean ====
/- Hand-written, untrusted: the value claims of the calls: their results are the references', element by element. -/
module

public import proofs.«01_k».proof.Defs
public import proofs.«01_k».proof.Proof.Gen.Pre_rms_finite
public import proofs.«01_k».proof.Proof.RmsValue
public import proofs.«01_k».proof.Proof.Gen.RmsIdeal.Value
public import proofs.«01_k».proof.Proof.Gen.RmsRefIdeal.Run
public import proofs.«01_k».proof.Proof.Gen.Pre_ffn_in_finite
public import proofs.«01_k».proof.Proof.FfnInValue
public import proofs.«01_k».proof.Proof.Gen.FfnInIdeal.Value
public import proofs.«01_k».proof.Proof.Gen.FfnInRefIdeal.Run
public import proofs.«01_k».proof.Proof.Gen.Pre_mem_kv_finite
public import proofs.«01_k».proof.Proof.MemKvValue
public import proofs.«01_k».proof.Proof.Gen.MemKvIdeal.Value
public import proofs.«01_k».proof.Proof.Gen.MemKvRefIdeal.Run
public import proofs.«01_k».proof.Proof.Gen.Pre_loss_finite
public import proofs.«01_k».proof.Proof.LossValue
public import proofs.«01_k».proof.Proof.Gen.LossIdeal.Value
public import proofs.«01_k».proof.Proof.Gen.LossRefIdeal.Run
public import proofs.«01_k».proof.Proof.GainValue
public import proofs.«01_k».proof.Proof.Gen.GainIdeal.Value
public import proofs.«01_k».proof.Proof.Gen.GainRefIdeal.Run
public import proofs.«01_k».proof.Proof.MergeValue
public import proofs.«01_k».proof.Proof.Gen.MergeIdeal.Value
public import proofs.«01_k».proof.Proof.Gen.MergeRefIdeal.Run
public import proofs.«01_k».proof.Proof.ConvValue
public import proofs.«01_k».proof.Proof.Gen.ConvIdeal.Value
public import proofs.«01_k».proof.Proof.Gen.ConvRefIdeal.Run
public import proofs.«01_k».proof.Proof.Gen.Pre_memattn_finite
public import proofs.«01_k».proof.Proof.MemattnValue
public import proofs.«01_k».proof.Proof.Gen.MemattnIdeal.Value
public import proofs.«01_k».proof.Proof.Gen.MemattnRefIdeal.Run
public import proofs.«01_k».proof.Proof.MemfwdValue
public import proofs.«01_k».proof.Proof.Gen.MemfwdIdeal.Value
public import proofs.«01_k».proof.Proof.Gen.MemfwdRefIdeal.Run
public import proofs.«01_k».proof.Proof.MixfwdValue
public import proofs.«01_k».proof.Proof.Gen.MixfwdIdeal.Value
public import proofs.«01_k».proof.Proof.Gen.MixfwdRefIdeal.Run
public import proofs.«01_k».proof.Proof.ConvfwdValue
public import proofs.«01_k».proof.Proof.Gen.ConvfwdIdeal.Value
public import proofs.«01_k».proof.Proof.Gen.ConvfwdRefIdeal.Run
public import proofs.«01_k».proof.Proof.RmsfwdValue
public import proofs.«01_k».proof.Proof.Gen.RmsfwdIdeal.Value
public import proofs.«01_k».proof.Proof.Gen.RmsfwdRefIdeal.Run
public import proofs.«01_k».proof.Proof.MmnnValue
public import proofs.«01_k».proof.Proof.Gen.MmnnIdeal.Value
public import proofs.«01_k».proof.Proof.Gen.MmnnRefIdeal.Run
public import proofs.«01_k».proof.Proof.MmtnaValue
public import proofs.«01_k».proof.Proof.Gen.MmtnaIdeal.Value
public import proofs.«01_k».proof.Proof.Gen.MmtnaRefIdeal.Run
public import proofs.«01_k».proof.Proof.MmtnValue
public import proofs.«01_k».proof.Proof.Gen.MmtnIdeal.Value
public import proofs.«01_k».proof.Proof.Gen.MmtnRefIdeal.Run
public import proofs.«01_k».proof.Proof.SumdevValue
public import proofs.«01_k».proof.Proof.Gen.SumdevIdeal.Value
public import proofs.«01_k».proof.Proof.Gen.SumdevRefIdeal.Run
public import Idealize.ShloMosaic.Lib.Claim

@[expose] public section

set_option maxRecDepth 16384

noncomputable section

open Idealize.ShloMosaic Idealize.ShloMosaic.TcCoe Idealize.SL.Sem

namespace Cert.Proof

/-- What the precondition says of the arguments. -/
theorem rms_finite (x0 : FVec Ideal Cert.Pre_rms_finite.S4096x1024 .f32) (x1 : FVec Ideal Cert.Pre_rms_finite.S1024 .f32) (x2 : FVec Ideal Cert.Pre_rms_finite.S4096x1024 .f32) (x3 : FVec Ideal Cert.Pre_rms_finite.S4096x1024 .f32)
    (h : Cert.Pre_rms_finite.fn x0 x1 x2 x3 = fun _ => 1#1) :
    (∀ i, Reals.IsFin (x0 i)) ∧ (∀ i, Reals.IsFin (x1 i)) ∧ (∀ i, Reals.IsFin (x2 i)) := by
  dsimp only [Cert.Pre_rms_finite.fn] at h
  obtain ⟨h, h2⟩ := Reals.and_one h
  obtain ⟨h, h1⟩ := Reals.and_one h
  exact ⟨Reals.fin_of_all_f32 h, Reals.fin_of_all_f32 h1, Reals.fin_of_all_f32 h2⟩

/-- At finite arguments the results of the gradient of the norm are the reference's, element by element. -/
theorem algebraic_Rms : Cert.algebraic_RmsIdeal_RmsRefIdeal_pre_rms_finite := by
  intro m g m' g' hpre hagree
  refine ⟨fun c => Cert.RmsRefIdeal.Read.val_main_v36 (F := Ideal) (m ((c : Thread Cert.RmsIdeal.nD Cert.RmsIdeal.τ).loc Cert.RmsIdeal.main_arg0)) (m ((c : Thread Cert.RmsIdeal.nD Cert.RmsIdeal.τ).loc Cert.RmsIdeal.main_arg1)) (m ((c : Thread Cert.RmsIdeal.nD Cert.RmsIdeal.τ).loc Cert.RmsIdeal.main_arg2)) (m ((c : Thread Cert.RmsIdeal.nD Cert.RmsIdeal.τ).loc Cert.RmsIdeal.main_arg3)),
    fun c => Cert.RmsRefIdeal.Read.val_main_v37 (F := Ideal) (m ((c : Thread Cert.RmsIdeal.nD Cert.RmsIdeal.τ).loc Cert.RmsIdeal.main_arg0)) (m ((c : Thread Cert.RmsIdeal.nD Cert.RmsIdeal.τ).loc Cert.RmsIdeal.main_arg1)) (m ((c : Thread Cert.RmsIdeal.nD Cert.RmsIdeal.τ).loc Cert.RmsIdeal.main_arg2)) (m ((c : Thread Cert.RmsIdeal.nD Cert.RmsIdeal.τ).loc Cert.RmsIdeal.main_arg3)),
    fun c => Cert.RmsRefIdeal.Read.val_main_v39 (F := Ideal) (m ((c : Thread Cert.RmsIdeal.nD Cert.RmsIdeal.τ).loc Cert.RmsIdeal.main_arg0)) (m ((c : Thread Cert.RmsIdeal.nD Cert.RmsIdeal.τ).loc Cert.RmsIdeal.main_arg2)), ?_, ?_⟩
  · refine (θ_run _ _ _).mono (fun r h c => ?_) (Cert.RmsIdeal.Value.run_blocks m g)
    obtain ⟨p4, p5, p6, k⟩ := h c
    obtain ⟨h0, h1, h2⟩ := rms_finite _ _ _ _ (hpre c)
    exact ⟨p4.trans (Cert.RmsIdeal.Grad.final4 m c h0 h1 h2), p5.trans (Cert.RmsIdeal.Grad.final5 m c h0 h1 h2), p6.trans (Cert.RmsIdeal.Grad.final6 m c), k⟩
  · refine (θ_run _ _ _).mono (fun r h c => ?_) (Cert.RmsRefIdeal.Value.run m' g')
    obtain ⟨p4, p5, p6, k⟩ := h c
    obtain ⟨e0, e1, e2, e3⟩ := hagree c
    exact ⟨(p4.trans (Cert.RmsRefIdeal.Read.val_main_v36_eq (m' ((c : Thread Cert.RmsRefIdeal.nD Cert.RmsRefIdeal.τ).loc Cert.RmsRefIdeal.main_arg0)) (m' ((c : Thread Cert.RmsRefIdeal.nD Cert.RmsRefIdeal.τ).loc Cert.RmsRefIdeal.main_arg1)) (m' ((c : Thread Cert.RmsRefIdeal.nD Cert.RmsRefIdeal.τ).loc Cert.RmsRefIdeal.main_arg2)) (m' ((c : Thread Cert.RmsRefIdeal.nD Cert.RmsRefIdeal.τ).loc Cert.RmsRefIdeal.main_arg3)))).trans (by rw [e0, e1, e2, e3]),
      (p5.trans (Cert.RmsRefIdeal.Read.val_main_v37_eq (m' ((c : Thread Cert.RmsRefIdeal.nD Cert.RmsRefIdeal.τ).loc Cert.RmsRefIdeal.main_arg0)) (m' ((c : Thread Cert.RmsRefIdeal.nD Cert.RmsRefIdeal.τ).loc Cert.RmsRefIdeal.main_arg1)) (m' ((c : Thread Cert.RmsRefIdeal.nD Cert.RmsRefIdeal.τ).loc Cert.RmsRefIdeal.main_arg2)) (m' ((c : Thread Cert.RmsRefIdeal.nD Cert.RmsRefIdeal.τ).loc Cert.RmsRefIdeal.main_arg3)))).trans (by rw [e0, e1, e2, e3]),
      (p6.trans (Cert.RmsRefIdeal.Read.val_main_v39_eq (m' ((c : Thread Cert.RmsRefIdeal.nD Cert.RmsRefIdeal.τ).loc Cert.RmsRefIdeal.main_arg0)) (m' ((c : Thread Cert.RmsRefIdeal.nD Cert.RmsRefIdeal.τ).loc Cert.RmsRefIdeal.main_arg2)))).trans (by rw [e0, e2]), k⟩

/-- What the precondition says of the arguments. -/
theorem ffn_in_finite (x0 : FVec Ideal Cert.Pre_ffn_in_finite.S4096x5632 .bf16) (x1 : FVec Ideal Cert.Pre_ffn_in_finite.S1024x5632 .bf16) (x2 : FVec Ideal Cert.Pre_ffn_in_finite.S4096x1024 .f32) (x3 : FVec Ideal Cert.Pre_ffn_in_finite.S1024 .f32) (x4 : FVec Ideal Cert.Pre_ffn_in_finite.S4096x1024 .f32)
    (h : Cert.Pre_ffn_in_finite.fn x0 x1 x2 x3 x4 = fun _ => 1#1) :
    (∀ i, Reals.IsFin (x0 i)) ∧ (∀ i, Reals.IsFin (x1 i)) ∧ (∀ i, Reals.IsFin (x2 i)) ∧ (∀ i, Reals.IsFin (x3 i)) := by
  dsimp only [Cert.Pre_ffn_in_finite.fn, Cert.Pre_ffn_in_finite.fn_part1] at h
  obtain ⟨h, h3⟩ := Reals.and_one h
  obtain ⟨h, h2⟩ := Reals.and_one h
  obtain ⟨h, h1⟩ := Reals.and_one h
  exact ⟨Reals.fin_of_all_bf16 h, Reals.fin_of_all_bf16 h1, Reals.fin_of_all_f32 h2, Reals.fin_of_all_f32 h3⟩

/-- At finite arguments the results of the gradient of the product with the norm are the reference's, element by element. -/
theorem algebraic_FfnIn : Cert.algebraic_FfnInIdeal_FfnInRefIdeal_pre_ffn_in_finite := by
  intro m g m' g' hpre hagree
  refine ⟨fun c => Cert.FfnInRefIdeal.Read.val_main_v40 (F := Ideal) (m ((c : Thread Cert.FfnInIdeal.nD Cert.FfnInIdeal.τ).loc Cert.FfnInIdeal.main_arg0)) (m ((c : Thread Cert.FfnInIdeal.nD Cert.FfnInIdeal.τ).loc Cert.FfnInIdeal.main_arg1)) (m ((c : Thread Cert.FfnInIdeal.nD Cert.FfnInIdeal.τ).loc Cert.FfnInIdeal.main_arg2)) (m ((c : Thread Cert.FfnInIdeal.nD Cert.FfnInIdeal.τ).loc Cert.FfnInIdeal.main_arg3)) (m ((c : Thread Cert.FfnInIdeal.nD Cert.FfnInIdeal.τ).loc Cert.FfnInIdeal.main_arg4)),
    fun c => Cert.FfnInRefIdeal.Read.val_main_v41 (F := Ideal) (m ((c : Thread Cert.FfnInIdeal.nD Cert.FfnInIdeal.τ).loc Cert.FfnInIdeal.main_arg0)) (m ((c : Thread Cert.FfnInIdeal.nD Cert.FfnInIdeal.τ).loc Cert.FfnInIdeal.main_arg1)) (m ((c : Thread Cert.FfnInIdeal.nD Cert.FfnInIdeal.τ).loc Cert.FfnInIdeal.main_arg2)) (m ((c : Thread Cert.FfnInIdeal.nD Cert.FfnInIdeal.τ).loc Cert.FfnInIdeal.main_arg3)) (m ((c : Thread Cert.FfnInIdeal.nD Cert.FfnInIdeal.τ).loc Cert.FfnInIdeal.main_arg4)),
    fun c => Cert.FfnInRefIdeal.Read.val_main_v43 (F := Ideal) (m ((c : Thread Cert.FfnInIdeal.nD Cert.FfnInIdeal.τ).loc Cert.FfnInIdeal.main_arg0)) (m ((c : Thread Cert.FfnInIdeal.nD Cert.FfnInIdeal.τ).loc Cert.FfnInIdeal.main_arg1)) (m ((c : Thread Cert.FfnInIdeal.nD Cert.FfnInIdeal.τ).loc Cert.FfnInIdeal.main_arg2)), ?_, ?_⟩
  · refine (θ_run _ _ _).mono (fun r h c => ?_) (Cert.FfnInIdeal.Value.run_blocks m g)
    obtain ⟨p5, p6, p7, k⟩ := h c
    obtain ⟨h0, h1, h2, h3⟩ := ffn_in_finite _ _ _ _ _ (hpre c)
    exact ⟨p5.trans (Cert.FfnInIdeal.Grad.final5 m c h0 h1 h2 h3), p6.trans (Cert.FfnInIdeal.Grad.final6 m c h0 h1 h2 h3), p7.trans (Cert.FfnInIdeal.Grad.final7 m c), k⟩
  · refine (θ_run _ _ _).mono (fun r h c => ?_) (Cert.FfnInRefIdeal.Value.run m' g')
    obtain ⟨p5, p6, p7, k⟩ := h c
    obtain ⟨e0, e1, e2, e3, e4⟩ := hagree c
    exact ⟨(p5.trans (Cert.FfnInRefIdeal.Read.val_main_v40_eq m' c)).trans (by rw [e0, e1, e2, e3, e4]),
      (p6.trans (Cert.FfnInRefIdeal.Read.val_main_v41_eq m' c)).trans (by rw [e0, e1, e2, e3, e4]),
      (p7.trans (Cert.FfnInRefIdeal.Read.val_main_v43_eq (m' ((c : Thread Cert.FfnInRefIdeal.nD Cert.FfnInRefIdeal.τ).loc Cert.FfnInRefIdeal.main_arg0)) (m' ((c : Thread Cert.FfnInRefIdeal.nD Cert.FfnInRefIdeal.τ).loc Cert.FfnInRefIdeal.main_arg1)) (m' ((c : Thread Cert.FfnInRefIdeal.nD Cert.FfnInRefIdeal.τ).loc Cert.FfnInRefIdeal.main_arg2)))).trans (by rw [e0, e1, e2]), k⟩

/-- What the precondition says of the arguments. -/
theorem mem_kv_finite (x0 : FVec Ideal Cert.Pre_mem_kv_finite.S256x2048 .f32) (x1 : FVec Ideal Cert.Pre_mem_kv_finite.S1024x2048 .bf16) (x2 : FVec Ideal Cert.Pre_mem_kv_finite.S256x1024 .f32) (x3 : FVec Ideal Cert.Pre_mem_kv_finite.S1024 .f32)
    (h : Cert.Pre_mem_kv_finite.fn x0 x1 x2 x3 = fun _ => 1#1) :
    (∀ i, Reals.IsFin (x0 i)) ∧ (∀ i, Reals.IsFin (x1 i)) ∧ (∀ i, Reals.IsFin (x2 i)) ∧ (∀ i, Reals.IsFin (x3 i)) := by
  dsimp only [Cert.Pre_mem_kv_finite.fn, Cert.Pre_mem_kv_finite.fn_part1] at h
  obtain ⟨h, h3⟩ := Reals.and_one h
  obtain ⟨h, h2⟩ := Reals.and_one h
  obtain ⟨h, h1⟩ := Reals.and_one h
  exact ⟨Reals.fin_of_all_f32 h, Reals.fin_of_all_bf16 h1, Reals.fin_of_all_f32 h2, Reals.fin_of_all_f32 h3⟩

/-- At finite arguments the results of the gradient of the memory's product with the norm are the reference's, element by element. -/
theorem algebraic_MemKv : Cert.algebraic_MemKvIdeal_MemKvRefIdeal_pre_mem_kv_finite := by
  intro m g m' g' hpre hagree
  refine ⟨fun c => Cert.MemKvRefIdeal.Read.val_main_v38 (F := Ideal) (m ((c : Thread Cert.MemKvIdeal.nD Cert.MemKvIdeal.τ).loc Cert.MemKvIdeal.main_arg0)) (m ((c : Thread Cert.MemKvIdeal.nD Cert.MemKvIdeal.τ).loc Cert.MemKvIdeal.main_arg1)) (m ((c : Thread Cert.MemKvIdeal.nD Cert.MemKvIdeal.τ).loc Cert.MemKvIdeal.main_arg2)) (m ((c : Thread Cert.MemKvIdeal.nD Cert.MemKvIdeal.τ).loc Cert.MemKvIdeal.main_arg3)),
    fun c => Cert.MemKvRefIdeal.Read.val_main_v39 (F := Ideal) (m ((c : Thread Cert.MemKvIdeal.nD Cert.MemKvIdeal.τ).loc Cert.MemKvIdeal.main_arg0)) (m ((c : Thread Cert.MemKvIdeal.nD Cert.MemKvIdeal.τ).loc Cert.MemKvIdeal.main_arg1)) (m ((c : Thread Cert.MemKvIdeal.nD Cert.MemKvIdeal.τ).loc Cert.MemKvIdeal.main_arg2)) (m ((c : Thread Cert.MemKvIdeal.nD Cert.MemKvIdeal.τ).loc Cert.MemKvIdeal.main_arg3)),
    fun c => Cert.MemKvRefIdeal.Read.val_main_v41 (F := Ideal) (m ((c : Thread Cert.MemKvIdeal.nD Cert.MemKvIdeal.τ).loc Cert.MemKvIdeal.main_arg0)) (m ((c : Thread Cert.MemKvIdeal.nD Cert.MemKvIdeal.τ).loc Cert.MemKvIdeal.main_arg1)) (m ((c : Thread Cert.MemKvIdeal.nD Cert.MemKvIdeal.τ).loc Cert.MemKvIdeal.main_arg2)), ?_, ?_⟩
  · refine (θ_run _ _ _).mono (fun r h c => ?_) (Cert.MemKvIdeal.Value.run_blocks m g)
    obtain ⟨p4, p5, p6, k⟩ := h c
    obtain ⟨h0, h1, h2, h3⟩ := mem_kv_finite _ _ _ _ (hpre c)
    exact ⟨p4.trans (Cert.MemKvIdeal.Grad.final4 m c h0 h1 h2 h3), p5.trans (Cert.MemKvIdeal.Grad.final5 m c h0 h1 h2 h3), p6.trans (Cert.MemKvIdeal.Grad.final6 m c), k⟩
  · refine (θ_run _ _ _).mono (fun r h c => ?_) (Cert.MemKvRefIdeal.Value.run m' g')
    obtain ⟨p4, p5, p6, k⟩ := h c
    obtain ⟨e0, e1, e2, e3⟩ := hagree c
    exact ⟨(p4.trans (Cert.MemKvRefIdeal.Read.val_main_v38_eq m' c)).trans (by rw [e0, e1, e2, e3]),
      (p5.trans (Cert.MemKvRefIdeal.Read.val_main_v39_eq m' c)).trans (by rw [e0, e1, e2, e3]),
      (p6.trans (Cert.MemKvRefIdeal.Read.val_main_v41_eq (m' ((c : Thread Cert.MemKvRefIdeal.nD Cert.MemKvRefIdeal.τ).loc Cert.MemKvRefIdeal.main_arg0)) (m' ((c : Thread Cert.MemKvRefIdeal.nD Cert.MemKvRefIdeal.τ).loc Cert.MemKvRefIdeal.main_arg1)) (m' ((c : Thread Cert.MemKvRefIdeal.nD Cert.MemKvRefIdeal.τ).loc Cert.MemKvRefIdeal.main_arg2)))).trans (by rw [e0, e1, e2]), k⟩

/-- What the precondition says of the arguments. -/
theorem loss_finite (x0 : FVec Ideal Cert.Pre_loss_finite.S4096x5632 .bf16) (x1 : FVec Ideal Cert.Pre_loss_finite.S2816x1024 .bf16) (x2 : FVec Ideal Cert.Pre_loss_finite.S4096x1024 .f32) (x3 : FVec Ideal Cert.Pre_loss_finite.S1024 .f32) (x4 : FVec Ideal Cert.Pre_loss_finite.S4096x1024 .f32)
    (h : Cert.Pre_loss_finite.fn x0 x1 x2 x3 x4 = fun _ => 1#1) :
    (∀ i, Reals.IsFin (x0 i)) ∧ (∀ i, Reals.IsFin (x1 i)) ∧ (∀ i, Reals.IsFin (x2 i)) ∧ (∀ i, Reals.IsFin (x3 i)) ∧ (∀ i, Reals.IsFin (x4 i)) := by
  dsimp only [Cert.Pre_loss_finite.fn, Cert.Pre_loss_finite.fn_part1] at h
  obtain ⟨h, h4⟩ := Reals.and_one h
  obtain ⟨h, h3⟩ := Reals.and_one h
  obtain ⟨h, h2⟩ := Reals.and_one h
  obtain ⟨h, h1⟩ := Reals.and_one h
  exact ⟨Reals.fin_of_all_bf16 h, Reals.fin_of_all_bf16 h1, Reals.fin_of_all_f32 h2, Reals.fin_of_all_f32 h3, Reals.fin_of_all_f32 h4⟩

/-- At finite arguments the results of the gradient of the loss are the reference's, element by element. -/
theorem algebraic_Loss : Cert.algebraic_LossIdeal_LossRefIdeal_pre_loss_finite := by
  intro m g m' g' hpre hagree
  refine ⟨fun c => Cert.LossRefIdeal.Read.val_main_v58 (F := Ideal) (m ((c : Thread Cert.LossIdeal.nD Cert.LossIdeal.τ).loc Cert.LossIdeal.main_arg0)) (m ((c : Thread Cert.LossIdeal.nD Cert.LossIdeal.τ).loc Cert.LossIdeal.main_arg1)) (m ((c : Thread Cert.LossIdeal.nD Cert.LossIdeal.τ).loc Cert.LossIdeal.main_arg2)) (m ((c : Thread Cert.LossIdeal.nD Cert.LossIdeal.τ).loc Cert.LossIdeal.main_arg3)) (m ((c : Thread Cert.LossIdeal.nD Cert.LossIdeal.τ).loc Cert.LossIdeal.main_arg4)),
    fun c => Cert.LossRefIdeal.Read.val_main_v62 (F := Ideal) (m ((c : Thread Cert.LossIdeal.nD Cert.LossIdeal.τ).loc Cert.LossIdeal.main_arg0)) (m ((c : Thread Cert.LossIdeal.nD Cert.LossIdeal.τ).loc Cert.LossIdeal.main_arg1)) (m ((c : Thread Cert.LossIdeal.nD Cert.LossIdeal.τ).loc Cert.LossIdeal.main_arg2)) (m ((c : Thread Cert.LossIdeal.nD Cert.LossIdeal.τ).loc Cert.LossIdeal.main_arg3)) (m ((c : Thread Cert.LossIdeal.nD Cert.LossIdeal.τ).loc Cert.LossIdeal.main_arg4)),
    fun c => Cert.LossRefIdeal.Read.val_main_v64 (F := Ideal) (m ((c : Thread Cert.LossIdeal.nD Cert.LossIdeal.τ).loc Cert.LossIdeal.main_arg0)) (m ((c : Thread Cert.LossIdeal.nD Cert.LossIdeal.τ).loc Cert.LossIdeal.main_arg1)) (m ((c : Thread Cert.LossIdeal.nD Cert.LossIdeal.τ).loc Cert.LossIdeal.main_arg2)) (m ((c : Thread Cert.LossIdeal.nD Cert.LossIdeal.τ).loc Cert.LossIdeal.main_arg3)) (m ((c : Thread Cert.LossIdeal.nD Cert.LossIdeal.τ).loc Cert.LossIdeal.main_arg4)),
    fun c => Cert.LossRefIdeal.Read.val_main_v65 (F := Ideal) (m ((c : Thread Cert.LossIdeal.nD Cert.LossIdeal.τ).loc Cert.LossIdeal.main_arg0)) (m ((c : Thread Cert.LossIdeal.nD Cert.LossIdeal.τ).loc Cert.LossIdeal.main_arg1)) (m ((c : Thread Cert.LossIdeal.nD Cert.LossIdeal.τ).loc Cert.LossIdeal.main_arg2)) (m ((c : Thread Cert.LossIdeal.nD Cert.LossIdeal.τ).loc Cert.LossIdeal.main_arg3)) (m ((c : Thread Cert.LossIdeal.nD Cert.LossIdeal.τ).loc Cert.LossIdeal.main_arg4)),
    fun c => Cert.LossRefIdeal.Read.val_main_v61 (F := Ideal) (m ((c : Thread Cert.LossIdeal.nD Cert.LossIdeal.τ).loc Cert.LossIdeal.main_arg0)), ?_, ?_⟩
  · refine (θ_run _ _ _).mono (fun r h c => ?_) (Cert.LossIdeal.Value.run_blocks m g)
    obtain ⟨p5, p6, p7, p8, p9, k⟩ := h c
    obtain ⟨h0, h1, h2, h3, h4⟩ := loss_finite _ _ _ _ _ (hpre c)
    exact ⟨p5.trans (Cert.LossIdeal.Grad.final5 m c h0 h1 h2 h3 h4), p6.trans (Cert.LossIdeal.Grad.final6 m c h0 h1 h2 h3 h4), p7.trans (Cert.LossIdeal.Grad.final7 m c), p8.trans (Cert.LossIdeal.Grad.final8 m c h0 h1 h2 h3 h4), p9.trans (Cert.LossIdeal.Grad.final9 m c), k⟩
  · refine (θ_run _ _ _).mono (fun r h c => ?_) (Cert.LossRefIdeal.Value.run m' g')
    obtain ⟨p5, p6, p7, p8, p9, k⟩ := h c
    obtain ⟨e0, e1, e2, e3, e4⟩ := hagree c
    exact ⟨(p5.trans (Cert.LossRefIdeal.Read.val_main_v58_eq m' c)).trans (by rw [e0, e1, e2, e3, e4]),
      (p6.trans (Cert.LossRefIdeal.Read.val_main_v62_eq m' c)).trans (by rw [e0, e1, e2, e3, e4]),
      (p7.trans (Cert.LossRefIdeal.Read.val_main_v64_eq m' c)).trans (by rw [e0, e1, e2, e3, e4]),
      (p8.trans (Cert.LossRefIdeal.Read.val_main_v65_eq m' c)).trans (by rw [e0, e1, e2, e3, e4]),
      (p9.trans (Cert.LossRefIdeal.Read.val_main_v61_eq (m' ((c : Thread Cert.LossRefIdeal.nD Cert.LossRefIdeal.τ).loc Cert.LossRefIdeal.main_arg0)))).trans (by rw [e0]), k⟩

/-- The results of the gradient of the product and the gain are the reference's, element by element. -/
theorem algebraic_Gain : Cert.algebraic_GainIdeal_GainRefIdeal := by
  intro m g m' g' _ hagree
  refine ⟨fun c => Cert.GainRefIdeal.Read.val_main_v4 (F := Ideal) (m ((c : Thread Cert.GainIdeal.nD Cert.GainIdeal.τ).loc Cert.GainIdeal.main_arg0)) (m ((c : Thread Cert.GainIdeal.nD Cert.GainIdeal.τ).loc Cert.GainIdeal.main_arg1)),
    fun c => Cert.GainRefIdeal.Read.val_main_v24 (F := Ideal) (m ((c : Thread Cert.GainIdeal.nD Cert.GainIdeal.τ).loc Cert.GainIdeal.main_arg0)) (m ((c : Thread Cert.GainIdeal.nD Cert.GainIdeal.τ).loc Cert.GainIdeal.main_arg1)) (m ((c : Thread Cert.GainIdeal.nD Cert.GainIdeal.τ).loc Cert.GainIdeal.main_arg2)), ?_, ?_⟩
  · refine (θ_run _ _ _).mono (fun r h c => ?_) (Cert.GainIdeal.Value.run_blocks m g)
    obtain ⟨p3, p4, k⟩ := h c
    exact ⟨p3.trans (Cert.GainIdeal.Grad.final3 m c), p4.trans (Cert.GainIdeal.Grad.final4 m c), k⟩
  · refine (θ_run _ _ _).mono (fun r h c => ?_) (Cert.GainRefIdeal.Value.run m' g')
    obtain ⟨p3, p4, k⟩ := h c
    obtain ⟨e0, e1, e2⟩ := hagree c
    exact ⟨(p3.trans (Cert.GainRefIdeal.Read.val_main_v4_eq (m' ((c : Thread Cert.GainRefIdeal.nD Cert.GainRefIdeal.τ).loc Cert.GainRefIdeal.main_arg0)) (m' ((c : Thread Cert.GainRefIdeal.nD Cert.GainRefIdeal.τ).loc Cert.GainRefIdeal.main_arg1)))).trans (by rw [e0, e1]),
      (p4.trans (Cert.GainRefIdeal.Read.val_main_v24_eq (m' ((c : Thread Cert.GainRefIdeal.nD Cert.GainRefIdeal.τ).loc Cert.GainRefIdeal.main_arg0)) (m' ((c : Thread Cert.GainRefIdeal.nD Cert.GainRefIdeal.τ).loc Cert.GainRefIdeal.main_arg1)) (m' ((c : Thread Cert.GainRefIdeal.nD Cert.GainRefIdeal.τ).loc Cert.GainRefIdeal.main_arg2)))).trans (by rw [e0, e1, e2]), k⟩

/-- The results of the gradient of the merged branches are the reference's, element by element. -/
theorem algebraic_Merge : Cert.algebraic_MergeIdeal_MergeRefIdeal := by
  intro m g m' g' _ hagree
  refine ⟨fun c => Cert.MergeRefIdeal.Read.val_main_v44 (F := Ideal) (m ((c : Thread Cert.MergeIdeal.nD Cert.MergeIdeal.τ).loc Cert.MergeIdeal.main_arg0)) (m ((c : Thread Cert.MergeIdeal.nD Cert.MergeIdeal.τ).loc Cert.MergeIdeal.main_arg1)) (m ((c : Thread Cert.MergeIdeal.nD Cert.MergeIdeal.τ).loc Cert.MergeIdeal.main_arg4)),
    fun c => Cert.MergeRefIdeal.Read.val_main_v45 (F := Ideal) (m ((c : Thread Cert.MergeIdeal.nD Cert.MergeIdeal.τ).loc Cert.MergeIdeal.main_arg0)) (m ((c : Thread Cert.MergeIdeal.nD Cert.MergeIdeal.τ).loc Cert.MergeIdeal.main_arg1)) (m ((c : Thread Cert.MergeIdeal.nD Cert.MergeIdeal.τ).loc Cert.MergeIdeal.main_arg4)),
    fun c => Cert.MergeRefIdeal.Read.val_main_v46 (F := Ideal) (m ((c : Thread Cert.MergeIdeal.nD Cert.MergeIdeal.τ).loc Cert.MergeIdeal.main_arg0)) (m ((c : Thread Cert.MergeIdeal.nD Cert.MergeIdeal.τ).loc Cert.MergeIdeal.main_arg1)) (m ((c : Thread Cert.MergeIdeal.nD Cert.MergeIdeal.τ).loc Cert.MergeIdeal.main_arg2)) (m ((c : Thread Cert.MergeIdeal.nD Cert.MergeIdeal.τ).loc Cert.MergeIdeal.main_arg3)) (m ((c : Thread Cert.MergeIdeal.nD Cert.MergeIdeal.τ).loc Cert.MergeIdeal.main_arg4)) (m ((c : Thread Cert.MergeIdeal.nD Cert.MergeIdeal.τ).loc Cert.MergeIdeal.main_arg5)) (m ((c : Thread Cert.MergeIdeal.nD Cert.MergeIdeal.τ).loc Cert.MergeIdeal.main_arg6)),
    fun c => Cert.MergeRefIdeal.Read.val_main_v47 (F := Ideal) (m ((c : Thread Cert.MergeIdeal.nD Cert.MergeIdeal.τ).loc Cert.MergeIdeal.main_arg0)) (m ((c : Thread Cert.MergeIdeal.nD Cert.MergeIdeal.τ).loc Cert.MergeIdeal.main_arg1)) (m ((c : Thread Cert.MergeIdeal.nD Cert.MergeIdeal.τ).loc Cert.MergeIdeal.main_arg4)) (m ((c : Thread Cert.MergeIdeal.nD Cert.MergeIdeal.τ).loc Cert.MergeIdeal.main_arg5)),
    fun c => Cert.MergeRefIdeal.Read.val_main_v48 (F := Ideal) (m ((c : Thread Cert.MergeIdeal.nD Cert.MergeIdeal.τ).loc Cert.MergeIdeal.main_arg0)) (m ((c : Thread Cert.MergeIdeal.nD Cert.MergeIdeal.τ).loc Cert.MergeIdeal.main_arg1)) (m ((c : Thread Cert.MergeIdeal.nD Cert.MergeIdeal.τ).loc Cert.MergeIdeal.main_arg4)) (m ((c : Thread Cert.MergeIdeal.nD Cert.MergeIdeal.τ).loc Cert.MergeIdeal.main_arg6)), ?_, ?_⟩
  · refine (θ_run _ _ _).mono (fun r h c => ?_) (Cert.MergeIdeal.Value.run_blocks m g)
    obtain ⟨p8, p9, p10, p11, p12, k⟩ := h c
    exact ⟨p8.trans (Cert.MergeIdeal.Grad.final8 m c), p9.trans (Cert.MergeIdeal.Grad.final9 m c), p10.trans (Cert.MergeIdeal.Grad.final10 m c), p11.trans (Cert.MergeIdeal.Grad.final11 m c), p12.trans (Cert.MergeIdeal.Grad.final12 m c), k⟩
  · refine (θ_run _ _ _).mono (fun r h c => ?_) (Cert.MergeRefIdeal.Value.run m' g')
    obtain ⟨p8, p9, p10, p11, p12, k⟩ := h c
    obtain ⟨e0, e1, e2, e3, e4, e5, e6⟩ := hagree c
    exact ⟨(p8.trans (Cert.MergeRefIdeal.Read.val_main_v44_eq (m' ((c : Thread Cert.MergeRefIdeal.nD Cert.MergeRefIdeal.τ).loc Cert.MergeRefIdeal.main_arg0)) (m' ((c : Thread Cert.MergeRefIdeal.nD Cert.MergeRefIdeal.τ).loc Cert.MergeRefIdeal.main_arg1)) (m' ((c : Thread Cert.MergeRefIdeal.nD Cert.MergeRefIdeal.τ).loc Cert.MergeRefIdeal.main_arg4)))).trans (by rw [e0, e1, e4]),
      (p9.trans (Cert.MergeRefIdeal.Read.val_main_v45_eq (m' ((c : Thread Cert.MergeRefIdeal.nD Cert.MergeRefIdeal.τ).loc Cert.MergeRefIdeal.main_arg0)) (m' ((c : Thread Cert.MergeRefIdeal.nD Cert.MergeRefIdeal.τ).loc Cert.MergeRefIdeal.main_arg1)) (m' ((c : Thread Cert.MergeRefIdeal.nD Cert.MergeRefIdeal.τ).loc Cert.MergeRefIdeal.main_arg4)))).trans (by rw [e0, e1, e4]),
      (p10.trans (Cert.MergeRefIdeal.Read.val_main_v46_eq (m' ((c : Thread Cert.MergeRefIdeal.nD Cert.MergeRefIdeal.τ).loc Cert.MergeRefIdeal.main_arg0)) (m' ((c : Thread Cert.MergeRefIdeal.nD Cert.MergeRefIdeal.τ).loc Cert.MergeRefIdeal.main_arg1)) (m' ((c : Thread Cert.MergeRefIdeal.nD Cert.MergeRefIdeal.τ).loc Cert.MergeRefIdeal.main_arg2)) (m' ((c : Thread Cert.MergeRefIdeal.nD Cert.MergeRefIdeal.τ).loc Cert.MergeRefIdeal.main_arg3)) (m' ((c : Thread Cert.MergeRefIdeal.nD Cert.MergeRefIdeal.τ).loc Cert.MergeRefIdeal.main_arg4)) (m' ((c : Thread Cert.MergeRefIdeal.nD Cert.MergeRefIdeal.τ).loc Cert.MergeRefIdeal.main_arg5)) (m' ((c : Thread Cert.MergeRefIdeal.nD Cert.MergeRefIdeal.τ).loc Cert.MergeRefIdeal.main_arg6)))).trans (by rw [e0, e1, e2, e3, e4, e5, e6]),
      (p11.trans (Cert.MergeRefIdeal.Read.val_main_v47_eq (m' ((c : Thread Cert.MergeRefIdeal.nD Cert.MergeRefIdeal.τ).loc Cert.MergeRefIdeal.main_arg0)) (m' ((c : Thread Cert.MergeRefIdeal.nD Cert.MergeRefIdeal.τ).loc Cert.MergeRefIdeal.main_arg1)) (m' ((c : Thread Cert.MergeRefIdeal.nD Cert.MergeRefIdeal.τ).loc Cert.MergeRefIdeal.main_arg4)) (m' ((c : Thread Cert.MergeRefIdeal.nD Cert.MergeRefIdeal.τ).loc Cert.MergeRefIdeal.main_arg5)))).trans (by rw [e0, e1, e4, e5]),
      (p12.trans (Cert.MergeRefIdeal.Read.val_main_v48_eq (m' ((c : Thread Cert.MergeRefIdeal.nD Cert.MergeRefIdeal.τ).loc Cert.MergeRefIdeal.main_arg0)) (m' ((c : Thread Cert.MergeRefIdeal.nD Cert.MergeRefIdeal.τ).loc Cert.MergeRefIdeal.main_arg1)) (m' ((c : Thread Cert.MergeRefIdeal.nD Cert.MergeRefIdeal.τ).loc Cert.MergeRefIdeal.main_arg4)) (m' ((c : Thread Cert.MergeRefIdeal.nD Cert.MergeRefIdeal.τ).loc Cert.MergeRefIdeal.main_arg6)))).trans (by rw [e0, e1, e4, e6]), k⟩

/-- The results of the gradient of the gated convolution are the reference's, element by element. -/
theorem algebraic_Conv : Cert.algebraic_ConvIdeal_ConvRefIdeal := by
  intro m g m' g' _ hagree
  refine ⟨fun c => Cert.ConvRefIdeal.Read.val_main_v68 (F := Ideal) (m ((c : Thread Cert.ConvIdeal.nD Cert.ConvIdeal.τ).loc Cert.ConvIdeal.main_arg0)) (m ((c : Thread Cert.ConvIdeal.nD Cert.ConvIdeal.τ).loc Cert.ConvIdeal.main_arg1)) (m ((c : Thread Cert.ConvIdeal.nD Cert.ConvIdeal.τ).loc Cert.ConvIdeal.main_arg2)),
    fun c => Cert.ConvRefIdeal.Read.val_main_v70 (F := Ideal) (m ((c : Thread Cert.ConvIdeal.nD Cert.ConvIdeal.τ).loc Cert.ConvIdeal.main_arg0)) (m ((c : Thread Cert.ConvIdeal.nD Cert.ConvIdeal.τ).loc Cert.ConvIdeal.main_arg1)), ?_, ?_⟩
  · refine (θ_run _ _ _).mono (fun r h c => ?_) (Cert.ConvIdeal.Value.run_blocks m g)
    obtain ⟨p9, p10, k⟩ := h c
    exact ⟨p9.trans (Cert.ConvIdeal.Grad.final9 m c), p10.trans (Cert.ConvIdeal.Grad.final10 m c), k⟩
  · refine (θ_run _ _ _).mono (fun r h c => ?_) (Cert.ConvRefIdeal.Value.run m' g')
    obtain ⟨p9, p10, k⟩ := h c
    obtain ⟨e0, e1, e2⟩ := hagree c
    exact ⟨(p9.trans (Cert.ConvRefIdeal.Read.val_main_v68_eq m' c)).trans (by rw [e0, e1, e2]),
      (p10.trans (Cert.ConvRefIdeal.Read.val_main_v70_eq (m' ((c : Thread Cert.ConvRefIdeal.nD Cert.ConvRefIdeal.τ).loc Cert.ConvRefIdeal.main_arg0)) (m' ((c : Thread Cert.ConvRefIdeal.nD Cert.ConvRefIdeal.τ).loc Cert.ConvRefIdeal.main_arg1)))).trans (by rw [e0, e1]), k⟩

/-- What the precondition says of the arguments. -/
theorem memattn_finite (x0 : FVec Ideal Cert.Pre_memattn_finite.S4096x1024 .f32) (x1 : FVec Ideal Cert.Pre_memattn_finite.S4096x1024 .f32) (x2 : FVec Ideal Cert.Pre_memattn_finite.S1024 .f32) (x3 : FVec Ideal Cert.Pre_memattn_finite.S256x2048 .bf16) (x4 : FVec Ideal Cert.Pre_memattn_finite.S1024x1024 .bf16) (x5 : FVec Ideal Cert.Pre_memattn_finite.S1024x1024 .bf16)
    (h : Cert.Pre_memattn_finite.fn x0 x1 x2 x3 x4 x5 = fun _ => 1#1) :
    (∀ i, Reals.IsFin (x0 i)) ∧ (∀ i, Reals.IsFin (x1 i)) ∧ (∀ i, Reals.IsFin (x2 i)) ∧ (∀ i, Reals.IsFin (x3 i)) ∧ (∀ i, Reals.IsFin (x4 i)) ∧ (∀ i, Reals.IsFin (x5 i)) := by
  dsimp only [Cert.Pre_memattn_finite.fn, Cert.Pre_memattn_finite.fn_part1] at h
  obtain ⟨h, h5⟩ := Reals.and_one h
  obtain ⟨h, h4⟩ := Reals.and_one h
  obtain ⟨h, h3⟩ := Reals.and_one h
  obtain ⟨h, h2⟩ := Reals.and_one h
  obtain ⟨h, h1⟩ := Reals.and_one h
  exact ⟨Reals.fin_of_all_f32 h, Reals.fin_of_all_f32 h1, Reals.fin_of_all_f32 h2, Reals.fin_of_all_bf16 h3, Reals.fin_of_all_bf16 h4, Reals.fin_of_all_bf16 h5⟩

/-- At finite arguments the results of the gradient of the memory attention are the reference's, element by element. -/
theorem algebraic_Memattn : Cert.algebraic_MemattnIdeal_MemattnRefIdeal_pre_memattn_finite := by
  intro m g m' g' hpre hagree
  refine ⟨fun c => Cert.MemattnRefIdeal.Read.val_main_v113 (F := Ideal) (m ((c : Thread Cert.MemattnIdeal.nD Cert.MemattnIdeal.τ).loc Cert.MemattnIdeal.main_arg0)) (m ((c : Thread Cert.MemattnIdeal.nD Cert.MemattnIdeal.τ).loc Cert.MemattnIdeal.main_arg1)) (m ((c : Thread Cert.MemattnIdeal.nD Cert.MemattnIdeal.τ).loc Cert.MemattnIdeal.main_arg2)) (m ((c : Thread Cert.MemattnIdeal.nD Cert.MemattnIdeal.τ).loc Cert.MemattnIdeal.main_arg3)) (m ((c : Thread Cert.MemattnIdeal.nD Cert.MemattnIdeal.τ).loc Cert.MemattnIdeal.main_arg4)) (m ((c : Thread Cert.MemattnIdeal.nD Cert.MemattnIdeal.τ).loc Cert.MemattnIdeal.main_arg5)),
    fun c => Cert.MemattnRefIdeal.Read.val_main_v114 (F := Ideal) (m ((c : Thread Cert.MemattnIdeal.nD Cert.MemattnIdeal.τ).loc Cert.MemattnIdeal.main_arg0)) (m ((c : Thread Cert.MemattnIdeal.nD Cert.MemattnIdeal.τ).loc Cert.MemattnIdeal.main_arg1)) (m ((c : Thread Cert.MemattnIdeal.nD Cert.MemattnIdeal.τ).loc Cert.MemattnIdeal.main_arg2)) (m ((c : Thread Cert.MemattnIdeal.nD Cert.MemattnIdeal.τ).loc Cert.MemattnIdeal.main_arg3)) (m ((c : Thread Cert.MemattnIdeal.nD Cert.MemattnIdeal.τ).loc Cert.MemattnIdeal.main_arg4)) (m ((c : Thread Cert.MemattnIdeal.nD Cert.MemattnIdeal.τ).loc Cert.MemattnIdeal.main_arg5)),
    fun c => Cert.MemattnRefIdeal.Read.val_main_v116 (F := Ideal) (m ((c : Thread Cert.MemattnIdeal.nD Cert.MemattnIdeal.τ).loc Cert.MemattnIdeal.main_arg0)) (m ((c : Thread Cert.MemattnIdeal.nD Cert.MemattnIdeal.τ).loc Cert.MemattnIdeal.main_arg1)) (m ((c : Thread Cert.MemattnIdeal.nD Cert.MemattnIdeal.τ).loc Cert.MemattnIdeal.main_arg2)) (m ((c : Thread Cert.MemattnIdeal.nD Cert.MemattnIdeal.τ).loc Cert.MemattnIdeal.main_arg3)) (m ((c : Thread Cert.MemattnIdeal.nD Cert.MemattnIdeal.τ).loc Cert.MemattnIdeal.main_arg4)) (m ((c : Thread Cert.MemattnIdeal.nD Cert.MemattnIdeal.τ).loc Cert.MemattnIdeal.main_arg5)),
    fun c => Cert.MemattnRefIdeal.Read.val_main_v117 (F := Ideal) (m ((c : Thread Cert.MemattnIdeal.nD Cert.MemattnIdeal.τ).loc Cert.MemattnIdeal.main_arg0)) (m ((c : Thread Cert.MemattnIdeal.nD Cert.MemattnIdeal.τ).loc Cert.MemattnIdeal.main_arg1)) (m ((c : Thread Cert.MemattnIdeal.nD Cert.MemattnIdeal.τ).loc Cert.MemattnIdeal.main_arg2)) (m ((c : Thread Cert.MemattnIdeal.nD Cert.MemattnIdeal.τ).loc Cert.MemattnIdeal.main_arg3)) (m ((c : Thread Cert.MemattnIdeal.nD Cert.MemattnIdeal.τ).loc Cert.MemattnIdeal.main_arg4)) (m ((c : Thread Cert.MemattnIdeal.nD Cert.MemattnIdeal.τ).loc Cert.MemattnIdeal.main_arg5)),
    fun c => Cert.MemattnRefIdeal.Read.val_main_v90 (F := Ideal) (m ((c : Thread Cert.MemattnIdeal.nD Cert.MemattnIdeal.τ).loc Cert.MemattnIdeal.main_arg0)) (m ((c : Thread Cert.MemattnIdeal.nD Cert.MemattnIdeal.τ).loc Cert.MemattnIdeal.main_arg1)) (m ((c : Thread Cert.MemattnIdeal.nD Cert.MemattnIdeal.τ).loc Cert.MemattnIdeal.main_arg2)) (m ((c : Thread Cert.MemattnIdeal.nD Cert.MemattnIdeal.τ).loc Cert.MemattnIdeal.main_arg3)) (m ((c : Thread Cert.MemattnIdeal.nD Cert.MemattnIdeal.τ).loc Cert.MemattnIdeal.main_arg4)) (m ((c : Thread Cert.MemattnIdeal.nD Cert.MemattnIdeal.τ).loc Cert.MemattnIdeal.main_arg5)), ?_, ?_⟩
  · refine (θ_run _ _ _).mono (fun r h c => ?_) (Cert.MemattnIdeal.Value.run_blocks m g)
    obtain ⟨p8, p9, p10, p11, p12, k⟩ := h c
    obtain ⟨h0, h1, h2, h3, h4, h5⟩ := memattn_finite _ _ _ _ _ _ (hpre c)
    exact ⟨p8.trans (Cert.MemattnIdeal.Grad.final8 m c h0 h1 h2 h3 h4 h5), p9.trans (Cert.MemattnIdeal.Grad.final9 m c h0 h1 h2 h3 h4 h5), p10.trans (Cert.MemattnIdeal.Grad.final10 m c h0 h1 h2 h3 h4 h5), p11.trans (Cert.MemattnIdeal.Grad.final11 m c h0 h1 h2 h3 h4 h5), p12.trans (Cert.MemattnIdeal.Grad.final12 m c h0 h1 h2 h3 h4 h5), k⟩
  · refine (θ_run _ _ _).mono (fun r h c => ?_) (Cert.MemattnRefIdeal.Value.run m' g')
    obtain ⟨p8, p9, p10, p11, p12, k⟩ := h c
    obtain ⟨e0, e1, e2, e3, e4, e5⟩ := hagree c
    exact ⟨(p8.trans (Cert.MemattnRefIdeal.Read.val_main_v113_eq m' c)).trans (by rw [e0, e1, e2, e3, e4, e5]),
      (p9.trans (Cert.MemattnRefIdeal.Read.val_main_v114_eq m' c)).trans (by rw [e0, e1, e2, e3, e4, e5]),
      (p10.trans (Cert.MemattnRefIdeal.Read.val_main_v116_eq m' c)).trans (by rw [e0, e1, e2, e3, e4, e5]),
      (p11.trans (Cert.MemattnRefIdeal.Read.val_main_v117_eq m' c)).trans (by rw [e0, e1, e2, e3, e4, e5]),
      (p12.trans (Cert.MemattnRefIdeal.Read.val_main_v90_eq m' c)).trans (by rw [e0, e1, e2, e3, e4, e5]), k⟩

/-- The results of the forward pass of the memory attention are the reference's, element by element. -/
theorem algebraic_Memfwd : Cert.algebraic_MemfwdIdeal_MemfwdRefIdeal := by
  intro m g m' g' _ hagree
  refine ⟨fun c => Cert.MemfwdRefIdeal.Read.val_main_v42 (F := Ideal) (m ((c : Thread Cert.MemfwdIdeal.nD Cert.MemfwdIdeal.τ).loc Cert.MemfwdIdeal.main_arg0)) (m ((c : Thread Cert.MemfwdIdeal.nD Cert.MemfwdIdeal.τ).loc Cert.MemfwdIdeal.main_arg1)) (m ((c : Thread Cert.MemfwdIdeal.nD Cert.MemfwdIdeal.τ).loc Cert.MemfwdIdeal.main_arg3)),
    fun c => Cert.MemfwdRefIdeal.Read.val_main_v43 (F := Ideal) (m ((c : Thread Cert.MemfwdIdeal.nD Cert.MemfwdIdeal.τ).loc Cert.MemfwdIdeal.main_arg0)) (m ((c : Thread Cert.MemfwdIdeal.nD Cert.MemfwdIdeal.τ).loc Cert.MemfwdIdeal.main_arg1)) (m ((c : Thread Cert.MemfwdIdeal.nD Cert.MemfwdIdeal.τ).loc Cert.MemfwdIdeal.main_arg2)) (m ((c : Thread Cert.MemfwdIdeal.nD Cert.MemfwdIdeal.τ).loc Cert.MemfwdIdeal.main_arg3)),
    fun c => Cert.MemfwdRefIdeal.Read.val_main_v41 (F := Ideal) (m ((c : Thread Cert.MemfwdIdeal.nD Cert.MemfwdIdeal.τ).loc Cert.MemfwdIdeal.main_arg0)) (m ((c : Thread Cert.MemfwdIdeal.nD Cert.MemfwdIdeal.τ).loc Cert.MemfwdIdeal.main_arg1)) (m ((c : Thread Cert.MemfwdIdeal.nD Cert.MemfwdIdeal.τ).loc Cert.MemfwdIdeal.main_arg2)) (m ((c : Thread Cert.MemfwdIdeal.nD Cert.MemfwdIdeal.τ).loc Cert.MemfwdIdeal.main_arg3)) (m ((c : Thread Cert.MemfwdIdeal.nD Cert.MemfwdIdeal.τ).loc Cert.MemfwdIdeal.main_arg4)),
    fun c => Cert.MemfwdRefIdeal.Read.val_main_v57 (F := Ideal) (m ((c : Thread Cert.MemfwdIdeal.nD Cert.MemfwdIdeal.τ).loc Cert.MemfwdIdeal.main_arg0)) (m ((c : Thread Cert.MemfwdIdeal.nD Cert.MemfwdIdeal.τ).loc Cert.MemfwdIdeal.main_arg1)) (m ((c : Thread Cert.MemfwdIdeal.nD Cert.MemfwdIdeal.τ).loc Cert.MemfwdIdeal.main_arg2)) (m ((c : Thread Cert.MemfwdIdeal.nD Cert.MemfwdIdeal.τ).loc Cert.MemfwdIdeal.main_arg3)) (m ((c : Thread Cert.MemfwdIdeal.nD Cert.MemfwdIdeal.τ).loc Cert.MemfwdIdeal.main_arg4)) (m ((c : Thread Cert.MemfwdIdeal.nD Cert.MemfwdIdeal.τ).loc Cert.MemfwdIdeal.main_arg5)), ?_, ?_⟩
  · refine (θ_run _ _ _).mono (fun r h c => ?_) (Cert.MemfwdIdeal.Value.run_blocks m g)
    obtain ⟨p6, p7, p8, p9, k⟩ := h c
    exact ⟨p6.trans (Cert.MemfwdIdeal.Grad.final6 m c), p7.trans (Cert.MemfwdIdeal.Grad.final7 m c), p8.trans (Cert.MemfwdIdeal.Grad.final8 m c), p9.trans (Cert.MemfwdIdeal.Grad.final9 m c), k⟩
  · refine (θ_run _ _ _).mono (fun r h c => ?_) (Cert.MemfwdRefIdeal.Value.run m' g')
    obtain ⟨p6, p7, p8, p9, k⟩ := h c
    obtain ⟨e0, e1, e2, e3, e4, e5⟩ := hagree c
    exact ⟨(p6.trans (Cert.MemfwdRefIdeal.Read.val_main_v42_eq (m' ((c : Thread Cert.MemfwdRefIdeal.nD Cert.MemfwdRefIdeal.τ).loc Cert.MemfwdRefIdeal.main_arg0)) (m' ((c : Thread Cert.MemfwdRefIdeal.nD Cert.MemfwdRefIdeal.τ).loc Cert.MemfwdRefIdeal.main_arg1)) (m' ((c : Thread Cert.MemfwdRefIdeal.nD Cert.MemfwdRefIdeal.τ).loc Cert.MemfwdRefIdeal.main_arg3)))).trans (by rw [e0, e1, e3]),
      (p7.trans (Cert.MemfwdRefIdeal.Read.val_main_v43_eq m' c)).trans (by rw [e0, e1, e2, e3]),
      (p8.trans (Cert.MemfwdRefIdeal.Read.val_main_v41_eq m' c)).trans (by rw [e0, e1, e2, e3, e4]),
      (p9.trans (Cert.MemfwdRefIdeal.Read.val_main_v57_eq m' c)).trans (by rw [e0, e1, e2, e3, e4, e5]), k⟩

/-- The results of the forward pass of the gated merge are the reference's, element by element. -/
theorem algebraic_Mixfwd : Cert.algebraic_MixfwdIdeal_MixfwdRefIdeal := by
  intro m g m' g' _ hagree
  refine ⟨fun c => Cert.MixfwdRefIdeal.Read.val_main_v27 (F := Ideal) (m ((c : Thread Cert.MixfwdIdeal.nD Cert.MixfwdIdeal.τ).loc Cert.MixfwdIdeal.main_arg0)) (m ((c : Thread Cert.MixfwdIdeal.nD Cert.MixfwdIdeal.τ).loc Cert.MixfwdIdeal.main_arg1)) (m ((c : Thread Cert.MixfwdIdeal.nD Cert.MixfwdIdeal.τ).loc Cert.MixfwdIdeal.main_arg2)) (m ((c : Thread Cert.MixfwdIdeal.nD Cert.MixfwdIdeal.τ).loc Cert.MixfwdIdeal.main_arg3)) (m ((c : Thread Cert.MixfwdIdeal.nD Cert.MixfwdIdeal.τ).loc Cert.MixfwdIdeal.main_arg4)) (m ((c : Thread Cert.MixfwdIdeal.nD Cert.MixfwdIdeal.τ).loc Cert.MixfwdIdeal.main_arg5)) (m ((c : Thread Cert.MixfwdIdeal.nD Cert.MixfwdIdeal.τ).loc Cert.MixfwdIdeal.main_arg6)),
    fun c => Cert.MixfwdRefIdeal.Read.val_main_v41 (F := Ideal) (m ((c : Thread Cert.MixfwdIdeal.nD Cert.MixfwdIdeal.τ).loc Cert.MixfwdIdeal.main_arg0)) (m ((c : Thread Cert.MixfwdIdeal.nD Cert.MixfwdIdeal.τ).loc Cert.MixfwdIdeal.main_arg1)) (m ((c : Thread Cert.MixfwdIdeal.nD Cert.MixfwdIdeal.τ).loc Cert.MixfwdIdeal.main_arg2)) (m ((c : Thread Cert.MixfwdIdeal.nD Cert.MixfwdIdeal.τ).loc Cert.MixfwdIdeal.main_arg3)) (m ((c : Thread Cert.MixfwdIdeal.nD Cert.MixfwdIdeal.τ).loc Cert.MixfwdIdeal.main_arg4)) (m ((c : Thread Cert.MixfwdIdeal.nD Cert.MixfwdIdeal.τ).loc Cert.MixfwdIdeal.main_arg5)) (m ((c : Thread Cert.MixfwdIdeal.nD Cert.MixfwdIdeal.τ).loc Cert.MixfwdIdeal.main_arg6)) (m ((c : Thread Cert.MixfwdIdeal.nD Cert.MixfwdIdeal.τ).loc Cert.MixfwdIdeal.main_arg7)),
    fun c => Cert.MixfwdRefIdeal.Read.val_main_v42 (F := Ideal) (m ((c : Thread Cert.MixfwdIdeal.nD Cert.MixfwdIdeal.τ).loc Cert.MixfwdIdeal.main_arg0)) (m ((c : Thread Cert.MixfwdIdeal.nD Cert.MixfwdIdeal.τ).loc Cert.MixfwdIdeal.main_arg1)) (m ((c : Thread Cert.MixfwdIdeal.nD Cert.MixfwdIdeal.τ).loc Cert.MixfwdIdeal.main_arg2)) (m ((c : Thread Cert.MixfwdIdeal.nD Cert.MixfwdIdeal.τ).loc Cert.MixfwdIdeal.main_arg3)) (m ((c : Thread Cert.MixfwdIdeal.nD Cert.MixfwdIdeal.τ).loc Cert.MixfwdIdeal.main_arg4)),
    fun c => Cert.MixfwdRefIdeal.Read.val_main_v43 (F := Ideal) (m ((c : Thread Cert.MixfwdIdeal.nD Cert.MixfwdIdeal.τ).loc Cert.MixfwdIdeal.main_arg0)) (m ((c : Thread Cert.MixfwdIdeal.nD Cert.MixfwdIdeal.τ).loc Cert.MixfwdIdeal.main_arg3)),
    fun c => Cert.MixfwdRefIdeal.Read.val_main_v44 (F := Ideal) (m ((c : Thread Cert.MixfwdIdeal.nD Cert.MixfwdIdeal.τ).loc Cert.MixfwdIdeal.main_arg1)) (m ((c : Thread Cert.MixfwdIdeal.nD Cert.MixfwdIdeal.τ).loc Cert.MixfwdIdeal.main_arg4)), ?_, ?_⟩
  · refine (θ_run _ _ _).mono (fun r h c => ?_) (Cert.MixfwdIdeal.Value.run_blocks m g)
    obtain ⟨p9, p10, p11, p12, p13, k⟩ := h c
    exact ⟨p9.trans (Cert.MixfwdIdeal.Grad.final9 m c), p10.trans (Cert.MixfwdIdeal.Grad.final10 m c), p11.trans (Cert.MixfwdIdeal.Grad.final11 m c), p12.trans (Cert.MixfwdIdeal.Grad.final12 m c), p13.trans (Cert.MixfwdIdeal.Grad.final13 m c), k⟩
  · refine (θ_run _ _ _).mono (fun r h c => ?_) (Cert.MixfwdRefIdeal.Value.run m' g')
    obtain ⟨p9, p10, p11, p12, p13, k⟩ := h c
    obtain ⟨e0, e1, e2, e3, e4, e5, e6, e7⟩ := hagree c
    exact ⟨(p9.trans (Cert.MixfwdRefIdeal.Read.val_main_v27_eq (m' ((c : Thread Cert.MixfwdRefIdeal.nD Cert.MixfwdRefIdeal.τ).loc Cert.MixfwdRefIdeal.main_arg0)) (m' ((c : Thread Cert.MixfwdRefIdeal.nD Cert.MixfwdRefIdeal.τ).loc Cert.MixfwdRefIdeal.main_arg1)) (m' ((c : Thread Cert.MixfwdRefIdeal.nD Cert.MixfwdRefIdeal.τ).loc Cert.MixfwdRefIdeal.main_arg2)) (m' ((c : Thread Cert.MixfwdRefIdeal.nD Cert.MixfwdRefIdeal.τ).loc Cert.MixfwdRefIdeal.main_arg3)) (m' ((c : Thread Cert.MixfwdRefIdeal.nD Cert.MixfwdRefIdeal.τ).loc Cert.MixfwdRefIdeal.main_arg4)) (m' ((c : Thread Cert.MixfwdRefIdeal.nD Cert.MixfwdRefIdeal.τ).loc Cert.MixfwdRefIdeal.main_arg5)) (m' ((c : Thread Cert.MixfwdRefIdeal.nD Cert.MixfwdRefIdeal.τ).loc Cert.MixfwdRefIdeal.main_arg6)))).trans (by rw [e0, e1, e2, e3, e4, e5, e6]),
      (p10.trans (Cert.MixfwdRefIdeal.Read.val_main_v41_eq m' c)).trans (by rw [e0, e1, e2, e3, e4, e5, e6, e7]),
      (p11.trans (Cert.MixfwdRefIdeal.Read.val_main_v42_eq (m' ((c : Thread Cert.MixfwdRefIdeal.nD Cert.MixfwdRefIdeal.τ).loc Cert.MixfwdRefIdeal.main_arg0)) (m' ((c : Thread Cert.MixfwdRefIdeal.nD Cert.MixfwdRefIdeal.τ).loc Cert.MixfwdRefIdeal.main_arg1)) (m' ((c : Thread Cert.MixfwdRefIdeal.nD Cert.MixfwdRefIdeal.τ).loc Cert.MixfwdRefIdeal.main_arg2)) (m' ((c : Thread Cert.MixfwdRefIdeal.nD Cert.MixfwdRefIdeal.τ).loc Cert.MixfwdRefIdeal.main_arg3)) (m' ((c : Thread Cert.MixfwdRefIdeal.nD Cert.MixfwdRefIdeal.τ).loc Cert.MixfwdRefIdeal.main_arg4)))).trans (by rw [e0, e1, e2, e3, e4]),
      (p12.trans (Cert.MixfwdRefIdeal.Read.val_main_v43_eq (m' ((c : Thread Cert.MixfwdRefIdeal.nD Cert.MixfwdRefIdeal.τ).loc Cert.MixfwdRefIdeal.main_arg0)) (m' ((c : Thread Cert.MixfwdRefIdeal.nD Cert.MixfwdRefIdeal.τ).loc Cert.MixfwdRefIdeal.main_arg3)))).trans (by rw [e0, e3]),
      (p13.trans (Cert.MixfwdRefIdeal.Read.val_main_v44_eq (m' ((c : Thread Cert.MixfwdRefIdeal.nD Cert.MixfwdRefIdeal.τ).loc Cert.MixfwdRefIdeal.main_arg1)) (m' ((c : Thread Cert.MixfwdRefIdeal.nD Cert.MixfwdRefIdeal.τ).loc Cert.MixfwdRefIdeal.main_arg4)))).trans (by rw [e1, e4]), k⟩

/-- The results of the forward pass of the gated convolution are the reference's, element by element. -/
theorem algebraic_Convfwd : Cert.algebraic_ConvfwdIdeal_ConvfwdRefIdeal := by
  intro m g m' g' _ hagree
  refine ⟨fun c => Cert.ConvfwdRefIdeal.Read.val_main_v29 (F := Ideal) (m ((c : Thread Cert.ConvfwdIdeal.nD Cert.ConvfwdIdeal.τ).loc Cert.ConvfwdIdeal.main_arg0)) (m ((c : Thread Cert.ConvfwdIdeal.nD Cert.ConvfwdIdeal.τ).loc Cert.ConvfwdIdeal.main_arg1)), ?_, ?_⟩
  · refine (θ_run _ _ _).mono (fun r h c => ?_) (Cert.ConvfwdIdeal.Value.run_blocks m g)
    obtain ⟨p6, k⟩ := h c
    exact ⟨p6.trans (Cert.ConvfwdIdeal.Grad.final6 m c), k⟩
  · refine (θ_run _ _ _).mono (fun r h c => ?_) (Cert.ConvfwdRefIdeal.Value.run m' g')
    obtain ⟨p6, k⟩ := h c
    obtain ⟨e0, e1⟩ := hagree c
    exact ⟨(p6.trans (Cert.ConvfwdRefIdeal.Read.val_main_v29_eq (m' ((c : Thread Cert.ConvfwdRefIdeal.nD Cert.ConvfwdRefIdeal.τ).loc Cert.ConvfwdRefIdeal.main_arg0)) (m' ((c : Thread Cert.ConvfwdRefIdeal.nD Cert.ConvfwdRefIdeal.τ).loc Cert.ConvfwdRefIdeal.main_arg1)))).trans (by rw [e0, e1]), k⟩

/-- The results of the forward pass of the norm are the reference's, element by element. -/
theorem algebraic_Rmsfwd : Cert.algebraic_RmsfwdIdeal_RmsfwdRefIdeal := by
  intro m g m' g' _ hagree
  refine ⟨fun c => Cert.RmsfwdRefIdeal.Read.val_main_v13 (F := Ideal) (m ((c : Thread Cert.RmsfwdIdeal.nD Cert.RmsfwdIdeal.τ).loc Cert.RmsfwdIdeal.main_arg0)) (m ((c : Thread Cert.RmsfwdIdeal.nD Cert.RmsfwdIdeal.τ).loc Cert.RmsfwdIdeal.main_arg1)), ?_, ?_⟩
  · refine (θ_run _ _ _).mono (fun r h c => ?_) (Cert.RmsfwdIdeal.Value.run_blocks m g)
    obtain ⟨p2, k⟩ := h c
    exact ⟨p2.trans (Cert.RmsfwdIdeal.Grad.final2 m c), k⟩
  · refine (θ_run _ _ _).mono (fun r h c => ?_) (Cert.RmsfwdRefIdeal.Value.run m' g')
    obtain ⟨p2, k⟩ := h c
    obtain ⟨e0, e1⟩ := hagree c
    exact ⟨(p2.trans (Cert.RmsfwdRefIdeal.Read.val_main_v13_eq (m' ((c : Thread Cert.RmsfwdRefIdeal.nD Cert.RmsfwdRefIdeal.τ).loc Cert.RmsfwdRefIdeal.main_arg0)) (m' ((c : Thread Cert.RmsfwdRefIdeal.nD Cert.RmsfwdRefIdeal.τ).loc Cert.RmsfwdRefIdeal.main_arg1)))).trans (by rw [e0, e1]), k⟩

/-- The results of the forward pass of the product are the reference's, element by element. -/
theorem algebraic_Mmnn : Cert.algebraic_MmnnIdeal_MmnnRefIdeal := by
  intro m g m' g' _ hagree
  refine ⟨fun c => Cert.MmnnRefIdeal.Read.val_main_v5 (F := Ideal) (m ((c : Thread Cert.MmnnIdeal.nD Cert.MmnnIdeal.τ).loc Cert.MmnnIdeal.main_arg0)) (m ((c : Thread Cert.MmnnIdeal.nD Cert.MmnnIdeal.τ).loc Cert.MmnnIdeal.main_arg1)), ?_, ?_⟩
  · refine (θ_run _ _ _).mono (fun r h c => ?_) (Cert.MmnnIdeal.Value.run_blocks m g)
    obtain ⟨p2, k⟩ := h c
    exact ⟨p2.trans (Cert.MmnnIdeal.Grad.final2 m c), k⟩
  · refine (θ_run _ _ _).mono (fun r h c => ?_) (Cert.MmnnRefIdeal.Value.run m' g')
    obtain ⟨p2, k⟩ := h c
    obtain ⟨e0, e1⟩ := hagree c
    exact ⟨(p2.trans (Cert.MmnnRefIdeal.Read.val_main_v5_eq (m' ((c : Thread Cert.MmnnRefIdeal.nD Cert.MmnnRefIdeal.τ).loc Cert.MmnnRefIdeal.main_arg0)) (m' ((c : Thread Cert.MmnnRefIdeal.nD Cert.MmnnRefIdeal.τ).loc Cert.MmnnRefIdeal.main_arg1)))).trans (by rw [e0, e1]), k⟩

/-- The results of the gradient of a product's right factor are the reference's, element by element. -/
theorem algebraic_Mmtna : Cert.algebraic_MmtnaIdeal_MmtnaRefIdeal := by
  intro m g m' g' _ hagree
  refine ⟨fun c => Cert.MmtnaRefIdeal.Read.val_main_v8 (F := Ideal) (m ((c : Thread Cert.MmtnaIdeal.nD Cert.MmtnaIdeal.τ).loc Cert.MmtnaIdeal.main_arg0)) (m ((c : Thread Cert.MmtnaIdeal.nD Cert.MmtnaIdeal.τ).loc Cert.MmtnaIdeal.main_arg2)), ?_, ?_⟩
  · refine (θ_run _ _ _).mono (fun r h c => ?_) (Cert.MmtnaIdeal.Value.run_blocks m g)
    obtain ⟨p2, k⟩ := h c
    exact ⟨p2.trans (Cert.MmtnaIdeal.Grad.final2 m c), k⟩
  · refine (θ_run _ _ _).mono (fun r h c => ?_) (Cert.MmtnaRefIdeal.Value.run m' g')
    obtain ⟨p2, k⟩ := h c
    obtain ⟨e0, e1, e2⟩ := hagree c
    exact ⟨(p2.trans (Cert.MmtnaRefIdeal.Read.val_main_v8_eq (m' ((c : Thread Cert.MmtnaRefIdeal.nD Cert.MmtnaRefIdeal.τ).loc Cert.MmtnaRefIdeal.main_arg0)) (m' ((c : Thread Cert.MmtnaRefIdeal.nD Cert.MmtnaRefIdeal.τ).loc Cert.MmtnaRefIdeal.main_arg2)))).trans (by rw [e0, e2]), k⟩

/-- The results of the gradient of a tiled product's right factor are the reference's, element by element. -/
theorem algebraic_Mmtn : Cert.algebraic_MmtnIdeal_MmtnRefIdeal := by
  intro m g m' g' _ hagree
  refine ⟨fun c => Cert.MmtnRefIdeal.Read.val_main_v9 (F := Ideal) (m ((c : Thread Cert.MmtnIdeal.nD Cert.MmtnIdeal.τ).loc Cert.MmtnIdeal.main_arg0)) (m ((c : Thread Cert.MmtnIdeal.nD Cert.MmtnIdeal.τ).loc Cert.MmtnIdeal.main_arg2)), ?_, ?_⟩
  · refine (θ_run _ _ _).mono (fun r h c => ?_) (Cert.MmtnIdeal.Value.run_blocks m g)
    obtain ⟨p2, k⟩ := h c
    exact ⟨p2.trans (Cert.MmtnIdeal.Grad.final2 m c), k⟩
  · refine (θ_run _ _ _).mono (fun r h c => ?_) (Cert.MmtnRefIdeal.Value.run m' g')
    obtain ⟨p2, k⟩ := h c
    obtain ⟨e0, e1, e2⟩ := hagree c
    exact ⟨(p2.trans (Cert.MmtnRefIdeal.Read.val_main_v9_eq (m' ((c : Thread Cert.MmtnRefIdeal.nD Cert.MmtnRefIdeal.τ).loc Cert.MmtnRefIdeal.main_arg0)) (m' ((c : Thread Cert.MmtnRefIdeal.nD Cert.MmtnRefIdeal.τ).loc Cert.MmtnRefIdeal.main_arg2)))).trans (by rw [e0, e2]), k⟩

/-- The results of the sum over the devices are the reference's, element by element. -/
theorem algebraic_Sumdev : Cert.algebraic_SumdevIdeal_SumdevRefIdeal := by
  intro m g m' g' _ hagree
  refine ⟨fun c => Cert.SumdevRefIdeal.Read.val_main_v0 (F := Ideal) (m ((c : Thread Cert.SumdevIdeal.nD Cert.SumdevIdeal.τ).loc Cert.SumdevIdeal.main_arg0)), ?_, ?_⟩
  · refine (θ_run _ _ _).mono (fun r h c => ?_) (Cert.SumdevIdeal.Value.run_blocks m g)
    obtain ⟨p1, k⟩ := h c
    exact ⟨p1.trans (Cert.SumdevIdeal.Grad.final1 m c), k⟩
  · refine (θ_run _ _ _).mono (fun r h c => ?_) (Cert.SumdevRefIdeal.Value.run m' g')
    obtain ⟨p1, k⟩ := h c
    have e0 := hagree c
    exact ⟨(p1.trans (Cert.SumdevRefIdeal.Read.val_main_v0_eq (m' ((c : Thread Cert.SumdevRefIdeal.nD Cert.SumdevRefIdeal.τ).loc Cert.SumdevRefIdeal.main_arg0)))).trans (by rw [e0]), k⟩

end Cert.Proof

end
-- ==== Proof.SumsibTable.lean ====
/- Hand-written, untrusted: the word that picks the half of the sum (`Cert.Sumsib`, `Cert.SumsibIdeal`), read off the precondition. -/
module

public import proofs.«01_k».proof.Defs
public import proofs.«01_k».proof.Proof.Gen.Sumsib.Frame
public import proofs.«01_k».proof.Proof.Gen.SumsibIdeal.Frame
public import proofs.«01_k».proof.Proof.Gen.Pre_sumsib_core
public import proofs.«01_k».proof.Proof.Reals
public import Idealize.ShloMosaic.Lib.StableHlo.Predicate

@[expose] public section

set_option maxRecDepth 16384

noncomputable section

open Idealize.ShloMosaic Idealize.ShloMosaic.TcCoe Idealize.SL.Sem

/-- An array of one element has one index. -/
theorem Cert.Sumsib.only (x y : Cert.Sumsib.S1.Idx) : x = y := by
  funext a
  match a with
  | ⟨0, _⟩ => exact Fin.ext ((Nat.lt_one_iff.mp (x 0).isLt).trans (Nat.lt_one_iff.mp (y 0).isLt).symm)

/-- A word from 0 up to 2, as the two signed comparisons say it. -/
theorem Cert.Sumsib.word_cases (w : BitVec 32) (h0 : (0#32).sle w = true) (h1 : w.slt 2#32 = true) : w = 0#32 ∨ w = 1#32 := by
  have e0 : 0 ≤ w.toInt := by simpa [BitVec.sle] using h0
  have e1 : w.toInt < 2 := by simpa [BitVec.slt] using h1
  have e : w = BitVec.ofInt 32 w.toInt := (BitVec.ofInt_toInt).symm
  generalize w.toInt = k at *
  subst e
  interval_cases k <;> simp

namespace Cert.Sumsib.Table

open Cert.Sumsib Cert.Sumsib.Gen

set_option backward.proofsInPublic true in
/-- The prefetched table that holds one word. -/
def pfW (w : BitVec 32) : pre0.Contents (Elt Bits) := fun | ⟨0, _⟩ => fun _ => w | ⟨_ + 1, h⟩ => absurd h (by simp)

/-- The word the table holds. -/
def word (m : (ℓ : Loc nD τ sig) → Buf (Elt Bits) ℓ) : BitVec 32 := m (((0 : Dev nD) : Thread nD τ).loc main_arg2) (ix1 (0 : Fin 1))

/-- The table holds that word alone. -/
theorem tbl_eq (m : (ℓ : Loc nD τ sig) → Buf (Elt Bits) ℓ) : tbl m = pfW (word m) := by
  funext j x
  match j with
  | ⟨0, _⟩ =>
    exact congrArg (m (((0 : Dev nD) : Thread nD τ).loc main_arg2)) (Cert.Sumsib.only (x : S1.Idx) _)

/-- At a word in range every block the index map names lies inside its array. -/
theorem ok_of_word (m : (ℓ : Loc nD τ sig) → Buf (Elt Bits) ℓ) (h : ∃ w : BitVec 32, (w = 0#32 ∨ w = 1#32) ∧ word m = w) : Ok m := by
  obtain ⟨w, hw, e⟩ := h
  unfold Ok
  rw [tbl_eq m, e]
  obtain rfl | rfl := hw <;> decide +kernel

end Cert.Sumsib.Table

namespace Cert.SumsibIdeal.Table

open Cert.SumsibIdeal Cert.SumsibIdeal.Gen

set_option backward.proofsInPublic true in
/-- The prefetched table that holds one word. -/
def pfW (w : BitVec 32) : pre0.Contents (Elt Ideal) := fun | ⟨0, _⟩ => fun _ => w | ⟨_ + 1, h⟩ => absurd h (by simp)

/-- The word the table holds. -/
def word (m : (ℓ : Loc nD τ sig) → Buf (Elt Ideal) ℓ) : BitVec 32 := m (((0 : Dev nD) : Thread nD τ).loc main_arg2) (ix1 (0 : Fin 1))

/-- The table holds that word alone. -/
theorem tbl_eq (m : (ℓ : Loc nD τ sig) → Buf (Elt Ideal) ℓ) : tbl m = pfW (word m) := by
  funext j x
  match j with
  | ⟨0, _⟩ =>
    exact congrArg (m (((0 : Dev nD) : Thread nD τ).loc main_arg2)) (Cert.Sumsib.only (x : S1.Idx) _)

/-- At a word in range every block the index map names lies inside its array. -/
theorem ok_of_word (m : (ℓ : Loc nD τ sig) → Buf (Elt Ideal) ℓ) (h : ∃ w : BitVec 32, (w = 0#32 ∨ w = 1#32) ∧ word m = w) : Ok m := by
  obtain ⟨w, hw, e⟩ := h
  unfold Ok
  rw [tbl_eq m, e]
  obtain rfl | rfl := hw <;> decide +kernel

end Cert.SumsibIdeal.Table

namespace Cert.Sumsib

/-- The one word of the array, read after the reshape, is the array's. -/
theorem word_read (x : IVec Cert.Pre_sumsib_core.S1 32) (h : Cert.Pre_sumsib_core.S1.ShapeCasts Cert.Pre_sumsib_core.S_) (j : Cert.Pre_sumsib_core.S_.Idx) :
    shapeCast Cert.Pre_sumsib_core.S_ x h j = x (ix1 (0 : Fin 1)) := congrArg x (only _ _)

/-- What the two comparisons say of the word. -/
theorem word_of_cmp (x : IVec Cert.Pre_sumsib_core.S1 32) (h : Cert.Pre_sumsib_core.S1.ShapeCasts Cert.Pre_sumsib_core.S_)
    (e : andi (cmpi .sge (shapeCast Cert.Pre_sumsib_core.S_ x h) (constantI Cert.Pre_sumsib_core.S_ 32 0#32))
      (cmpi .slt (shapeCast Cert.Pre_sumsib_core.S_ x h) (constantI Cert.Pre_sumsib_core.S_ 32 2#32)) = fun _ => 1#1) :
    ∃ w : BitVec 32, (w = 0#32 ∨ w = 1#32) ∧ x (ix1 (0 : Fin 1)) = w := by
  obtain ⟨a, b⟩ := Reals.and_one e
  have a := congrFun a (fun d => d.elim0)
  have b := congrFun b (fun d => d.elim0)
  simp only [cmpi, word_read, constantI, IntOp.cmpi, StableHlo.Predicate.ofBool_eq_one_iff] at a b
  exact ⟨_, word_cases _ a b, rfl⟩

/-- The precondition keeps the word in range, in the program's own arithmetic. -/
theorem word_of_pre (m : (ℓ : Loc Cert.Sumsib.nD Cert.Sumsib.τ Cert.Sumsib.sig) → Buf (Elt Bits) ℓ) (h : Cert.Pre_Sumsib m) :
    ∃ w : BitVec 32, (w = 0#32 ∨ w = 1#32) ∧ Cert.Sumsib.Table.word m = w := word_of_cmp _ _ (h 0)

/-- And over the reals. -/
theorem word_of_pre_ideal (m : (ℓ : Loc Cert.SumsibIdeal.nD Cert.SumsibIdeal.τ Cert.SumsibIdeal.sig) → Buf (Elt Ideal) ℓ) (h : Cert.Pre_SumsibIdeal m) :
    ∃ w : BitVec 32, (w = 0#32 ∨ w = 1#32) ∧ Cert.SumsibIdeal.Table.word m = w := word_of_cmp _ _ (h 0)

end Cert.Sumsib

end
-- ==== Proof.SumsibValue.lean ====
/- Hand-written, untrusted: the value of the sum with the sibling core's part, `Cert.SumsibIdeal`, at the reals. -/
module

public import proofs.«01_k».proof.Proof.SumsibTable
public import proofs.«01_k».proof.Proof.Gen.SumsibIdeal.Frame
public import proofs.«01_k».proof.Proof.Gen.SumsibRefIdeal.Read
public import proofs.«01_k».proof.Proof.Reals

@[expose] public section

set_option maxRecDepth 16384

noncomputable section

open Idealize.ShloMosaic Idealize.ShloMosaic.TcCoe Idealize.SL.Sem
open Idealize.ShloMosaic.Pipeline (Dat)

namespace Cert.SumsibIdeal.Grad

open Cert.SumsibIdeal Cert.SumsibIdeal.Gen Cert.SumsibIdeal.Table

variable (m : (ℓ : Loc nD τ sig) → Buf (Elt Ideal) ℓ) (hO : Ok m)

open Cert.SumsibRefIdeal.Read in
/-- The reference's choice, by the word. -/
theorem ref_cmp (x2 : IVec Cert.SumsibRefIdeal.S1 32) (w : BitVec 32) (e : x2 (ix1 (0 : Fin 1)) = w) (i : Cert.SumsibRefIdeal.S_.Idx) :
    val_main_v3 (F := Ideal) x2 i = IntOp.cmpi .eq w 0#32 := by
  show IntOp.cmpi .eq (shapeCast _ x2 _ i) 0#32 = _
  rw [← e]
  exact congrArg (fun y => IntOp.cmpi .eq y 0#32) (Cert.Sumsib.word_read x2 _ i)

open Cert.SumsibRefIdeal.Read in
/-- The reference's sum at an index. -/
theorem ref_o (x0 : FVec Ideal Cert.SumsibRefIdeal.S8x768x640 .bf16) (x1 : FVec Ideal Cert.SumsibRefIdeal.S4x768x640 .bf16) (x2 : IVec Cert.SumsibRefIdeal.S1 32)
    (w : BitVec 32) (hw : w = 0#32 ∨ w = 1#32) (e : x2 (ix1 (0 : Fin 1)) = w)
    (j : Cert.SumsibRefIdeal.S4x768x640.Idx) (g : Fin 8) (k : Fin 4) (r : Fin 768) (n : Fin 640) (hg : g.val = 2 * (j 0).val + w.toNat) (hk : k.val = j 0) (hr : r.val = j 1) (hn : n.val = j 2) :
    val_main_v11 (F := Ideal) x0 x1 x2 j = x0 (ix3 g r n) + x1 (ix3 k r n) := by
  idx_vars j
  obtain rfl : k = j0 := Fin.ext hk
  obtain rfl : r = j1 := Fin.ext hr
  obtain rfl : n = j2 := Fin.ext hn
  rcases hw with rfl | rfl
  · have g0 : g = ⟨k.val * 2, by omega⟩ := Fin.ext (hg.trans (Nat.mul_comm _ _))
    rw [g0]
    have h5 : val_main_v5 (F := Ideal) x0 (ix3 k r n) = x0 (ix3 ⟨k.val * 2, by omega⟩ r n) := by
      pointwise [val_main_v5, val_main_v4, val_main_v1, val_main_v0]
    pointwise [val_main_v11, val_main_v10, val_main_v9, val_main_v8, ref_cmp x2 _ e, h5]
  · have g0 : g = ⟨k.val * 2 + 1, by omega⟩ := Fin.ext (hg.trans (congrArg (· + 1) (Nat.mul_comm _ _)))
    rw [g0]
    have h7 : val_main_v7 (F := Ideal) x0 (ix3 k r n) = x0 (ix3 ⟨k.val * 2 + 1, by omega⟩ r n) := by
      pointwise [val_main_v7, val_main_v6, val_main_v1, val_main_v0]
    pointwise [val_main_v11, val_main_v10, val_main_v9, val_main_v8, ref_cmp x2 _ e, h7]
    exact congrArg (fun u : EReal => u + _) (show Scalar.select (IntOp.cmpi .eq 1#32 0#32) _ _ = _ from rfl)

/-- The blocks' positions: the first input's block is the device's own half. -/
theorem idx_val (w : BitVec 32) (hw : w = 0#32 ∨ w = 1#32) (e : word m = w) (t : Fin (cfgM m hO).N) :
    ((cfgM m hO).win 0).index t = ![2 * t.val + w.toNat, 0, 0] ∧ ((cfgM m hO).win 1).index t = ![t.val, 0, 0] ∧ ((cfgM m hO).win 2).index t = ![t.val, 0, 0] := by
  have k0 : ∀ t : Fin grid0.N, cc0_transform_0 inb_S1_S1_0 numel1_S1 (pfW w) (grid0.coords t) = ![2 * t.val + w.toNat, 0, 0] := by
    rcases hw with rfl | rfl <;> decide +kernel
  have k1 : ∀ t : Fin grid0.N, cc0_transform_1 (grid0.coords t) = ![t.val, 0, 0] ∧ cc0_transform_2 (grid0.coords t) = ![t.val, 0, 0] := by
    decide +kernel
  have tb := tbl_eq m
  rw [e] at tb
  refine ⟨?_, (k1 t).1, (k1 t).2⟩
  refine Eq.trans ?_ (k0 t)
  rw [← tb]
  rfl

/-- The device's own half of the sum. -/
theorem in0 (w : BitVec 32) (hw : w = 0#32 ∨ w = 1#32) (e : word m = w) (c : Dev nD) (t : Fin (cfgM m hO).N) (a : Fin 768) (b : Fin 640) (g : Fin 8) (hg : g.val = 2 * t.val + w.toNat) :
    (iblk m hO c 0 t (ix3 0 a b) : EReal) = (m ((c : Thread nD τ).loc main_arg0)) (ix3 g a b) := by
  blk_point [iblk, V, idx_val m hO w hw e t]

/-- The sibling's. -/
theorem in1 (w : BitVec 32) (hw : w = 0#32 ∨ w = 1#32) (e : word m = w) (c : Dev nD) (t : Fin (cfgM m hO).N) (a : Fin 768) (b : Fin 640) (g : Fin 4) (hg : g.val = t.val) :
    (iblk m hO c 1 t (ix3 0 a b) : EReal) = (m ((c : Thread nD τ).loc main_arg1)) (ix3 g a b) := by
  blk_point [iblk, V, idx_val m hO w hw e t]

/-- What the body leaves. -/
theorem out_o (c : Dev nD) (t : Fin (cfgM m hO).N) : outsAt0 m hO c t = k0_pay1 (F := Ideal) (iblk m hO c 0 t) (iblk m hO c 1 t) := by
  unfold outsAt0 out0_A_2
  frame_out
  exact congrArg₂ _ (Memref.IsWhole.read_unread _ _) (Memref.IsWhole.read_unread _ _)

/-- The body's sum at an index. -/
theorem pay_at (x y : FVec Ideal S1x768x640 .bf16) (a : Fin 768) (b : Fin 640) : k0_pay1 (F := Ideal) x y (ix3 0 a b) = x (ix3 0 a b) + y (ix3 0 a b) := by
  pointwise [k0_pay1]

/-- The results' blocks tile the array. -/
theorem covers (w : BitVec 32) (hw : w = 0#32 ∨ w = 1#32) (e : word m = w) : ((cfgM m hO).win 2).Covers := by
  refine ⟨by intro a; match a with | ⟨0, _⟩ => exact Nat.one_pos | ⟨1, _⟩ => exact Nat.succ_pos _ | ⟨2, _⟩ => exact Nat.succ_pos _, fun β => ?_⟩
  obtain ⟨t, ht⟩ := (by decide +kernel : ∀ b : Fin 4, ∃ t : Fin grid0.N, t.val = b.val) ⟨(β (0 : Fin 3)).val, (β (0 : Fin 3)).isLt.trans_eq (show (4 + 1 - 1) / 1 = 4 from rfl)⟩
  refine ⟨t, flush0_2 (adm m hO) t, fun a => ⟨?_, Or.inl rfl⟩⟩
  rw [(idx_val m hO w hw e t).2.2]
  match a with
  | ⟨0, _⟩ => exact ht
  | ⟨1, h⟩ => exact (Nat.lt_one_iff.mp ((β ⟨1, h⟩).isLt.trans_eq (show (768 + 768 - 1) / 768 = 1 from rfl))).symm
  | ⟨2, h⟩ => exact (Nat.lt_one_iff.mp ((β ⟨2, h⟩).isLt.trans_eq (show (640 + 640 - 1) / 640 = 1 from rfl))).symm

/-- The sums the call leaves are the reference's. -/
theorem final2 (hw : ∃ w : BitVec 32, (w = 0#32 ∨ w = 1#32) ∧ word m = w) (c : Dev nD) :
    (dats m hO 0 c).arrAt 2 (cfgM m hO).N = Cert.SumsibRefIdeal.Read.val_main_v11 (F := Ideal) (m ((c : Thread nD τ).loc main_arg0)) (m ((c : Thread nD τ).loc main_arg1)) (m ((c : Thread nD τ).loc main_arg2)) := by
  obtain ⟨w, hw, ew⟩ := hw
  refine (dats m hO 0 c).arrAt_eq_of_covers 2 _ (covers m hO w hw ew) fun t hf y => ?_
  have e := (idx_val m hO w hw ew t).2.2
  have ht : t.val < 4 := t.isLt
  have hx : w.toNat < 2 := by rcases hw with rfl | rfl <;> decide
  blk_simp
  rw [after0_2, out_o]
  revert y
  intro (y : S1x768x640.Idx)
  idx_vars y
  obtain rfl : y0 = 0 := Subsingleton.elim _ _
  refine (pay_at _ _ y1 y2).trans ?_
  refine Eq.trans (congrArg₂ (fun u v : EReal => u + v) (in0 m hO w hw ew c t y1 y2 ⟨2 * t.val + w.toNat, by omega⟩ rfl) (in1 m hO w hw ew c t y1 y2 ⟨t.val, ht⟩ rfl)) ?_
  obtain rfl : c = 0 := Subsingleton.elim _ _
  refine (ref_o _ _ _ w hw ew _ ⟨2 * t.val + w.toNat, by omega⟩ ⟨t.val, ht⟩ y1 y2 ?_ ?_ ?_ ?_).symm
  all_goals (blk_simp [e] <;> (try dsimp only) <;> try omega)

end Cert.SumsibIdeal.Grad

end
-- ==== Proof.AdambigTable.lean ====
/- Hand-written, untrusted: the word that picks the chip's own part of the gradient (`Cert.Adambig`, `Cert.AdambigIdeal`), read off the precondition. -/
module

public import proofs.«01_k».proof.Defs
public import proofs.«01_k».proof.Proof.Gen.Adambig.Frame
public import proofs.«01_k».proof.Proof.Gen.AdambigIdeal.Frame
public import proofs.«01_k».proof.Proof.Gen.Pre_adambig_chip
public import proofs.«01_k».proof.Proof.Reals
public import Idealize.ShloMosaic.Lib.StableHlo.Predicate

@[expose] public section

set_option maxRecDepth 16384

noncomputable section

open Idealize.ShloMosaic Idealize.ShloMosaic.TcCoe Idealize.SL.Sem

/-- An array of one element has one index. -/
theorem Cert.Adambig.only (x y : Cert.Adambig.S1.Idx) : x = y := by
  funext a
  match a with
  | ⟨0, _⟩ => exact Fin.ext ((Nat.lt_one_iff.mp (x 0).isLt).trans (Nat.lt_one_iff.mp (y 0).isLt).symm)

/-- A word from 0 up to 4, as the two signed comparisons say it. -/
theorem Cert.Adambig.word_cases (w : BitVec 32) (h0 : (0#32).sle w = true) (h1 : w.slt 4#32 = true) : w = 0#32 ∨ w = 1#32 ∨ w = 2#32 ∨ w = 3#32 := by
  have e0 : 0 ≤ w.toInt := by simpa [BitVec.sle] using h0
  have e1 : w.toInt < 4 := by simpa [BitVec.slt] using h1
  have e : w = BitVec.ofInt 32 w.toInt := (BitVec.ofInt_toInt).symm
  generalize w.toInt = k at *
  subst e
  interval_cases k <;> simp

namespace Cert.Adambig.Table

open Cert.Adambig Cert.Adambig.Gen

set_option backward.proofsInPublic true in
/-- The prefetched table that holds one word. -/
def pfW (w : BitVec 32) : pre0.Contents (Elt Bits) := fun | ⟨0, _⟩ => fun _ => w | ⟨_ + 1, h⟩ => absurd h (by simp)

/-- The word the table holds. -/
def word (m : (ℓ : Loc nD τ sig) → Buf (Elt Bits) ℓ) : BitVec 32 := m (((0 : Dev nD) : Thread nD τ).loc main_arg5) (ix1 (0 : Fin 1))

/-- The table holds that word alone. -/
theorem tbl_eq (m : (ℓ : Loc nD τ sig) → Buf (Elt Bits) ℓ) : tbl m = pfW (word m) := by
  funext j x
  match j with
  | ⟨0, _⟩ =>
    exact congrArg (m (((0 : Dev nD) : Thread nD τ).loc main_arg5)) (Cert.Adambig.only (x : S1.Idx) _)

/-- At a word in range every block the index map names lies inside its array. -/
theorem ok_of_word (m : (ℓ : Loc nD τ sig) → Buf (Elt Bits) ℓ) (h : ∃ w : BitVec 32, (w = 0#32 ∨ w = 1#32 ∨ w = 2#32 ∨ w = 3#32) ∧ word m = w) : Ok m := by
  obtain ⟨w, hw, e⟩ := h
  unfold Ok
  rw [tbl_eq m, e]
  obtain rfl | rfl | rfl | rfl := hw <;> decide +kernel

end Cert.Adambig.Table

namespace Cert.AdambigIdeal.Table

open Cert.AdambigIdeal Cert.AdambigIdeal.Gen

set_option backward.proofsInPublic true in
/-- The prefetched table that holds one word. -/
def pfW (w : BitVec 32) : pre0.Contents (Elt Ideal) := fun | ⟨0, _⟩ => fun _ => w | ⟨_ + 1, h⟩ => absurd h (by simp)

/-- The word the table holds. -/
def word (m : (ℓ : Loc nD τ sig) → Buf (Elt Ideal) ℓ) : BitVec 32 := m (((0 : Dev nD) : Thread nD τ).loc main_arg5) (ix1 (0 : Fin 1))

/-- The table holds that word alone. -/
theorem tbl_eq (m : (ℓ : Loc nD τ sig) → Buf (Elt Ideal) ℓ) : tbl m = pfW (word m) := by
  funext j x
  match j with
  | ⟨0, _⟩ =>
    exact congrArg (m (((0 : Dev nD) : Thread nD τ).loc main_arg5)) (Cert.Adambig.only (x : S1.Idx) _)

/-- At a word in range every block the index map names lies inside its array. -/
theorem ok_of_word (m : (ℓ : Loc nD τ sig) → Buf (Elt Ideal) ℓ) (h : ∃ w : BitVec 32, (w = 0#32 ∨ w = 1#32 ∨ w = 2#32 ∨ w = 3#32) ∧ word m = w) : Ok m := by
  obtain ⟨w, hw, e⟩ := h
  unfold Ok
  rw [tbl_eq m, e]
  obtain rfl | rfl | rfl | rfl := hw <;> decide +kernel

end Cert.AdambigIdeal.Table

namespace Cert.Adambig

/-- The one word of the array, read after the reshape, is the array's. -/
theorem word_read (x : IVec Cert.Pre_adambig_chip.S1 32) (h : Cert.Pre_adambig_chip.S1.ShapeCasts Cert.Pre_adambig_chip.S_) (j : Cert.Pre_adambig_chip.S_.Idx) :
    shapeCast Cert.Pre_adambig_chip.S_ x h j = x (ix1 (0 : Fin 1)) := congrArg x (only _ _)

/-- What the two comparisons say of the word. -/
theorem word_of_cmp (x : IVec Cert.Pre_adambig_chip.S1 32) (h : Cert.Pre_adambig_chip.S1.ShapeCasts Cert.Pre_adambig_chip.S_)
    (e : andi (cmpi .sge (shapeCast Cert.Pre_adambig_chip.S_ x h) (constantI Cert.Pre_adambig_chip.S_ 32 0#32))
      (cmpi .slt (shapeCast Cert.Pre_adambig_chip.S_ x h) (constantI Cert.Pre_adambig_chip.S_ 32 4#32)) = fun _ => 1#1) :
    ∃ w : BitVec 32, (w = 0#32 ∨ w = 1#32 ∨ w = 2#32 ∨ w = 3#32) ∧ x (ix1 (0 : Fin 1)) = w := by
  obtain ⟨a, b⟩ := Reals.and_one e
  have a := congrFun a (fun d => d.elim0)
  have b := congrFun b (fun d => d.elim0)
  simp only [cmpi, word_read, constantI, IntOp.cmpi, StableHlo.Predicate.ofBool_eq_one_iff] at a b
  exact ⟨_, word_cases _ a b, rfl⟩

/-- The precondition keeps the word in range, in the program's own arithmetic. -/
theorem word_of_pre (m : (ℓ : Loc Cert.Adambig.nD Cert.Adambig.τ Cert.Adambig.sig) → Buf (Elt Bits) ℓ) (h : Cert.Pre_Adambig m) :
    ∃ w : BitVec 32, (w = 0#32 ∨ w = 1#32 ∨ w = 2#32 ∨ w = 3#32) ∧ Cert.Adambig.Table.word m = w := word_of_cmp _ _ (h 0)

/-- And over the reals. -/
theorem word_of_pre_ideal (m : (ℓ : Loc Cert.AdambigIdeal.nD Cert.AdambigIdeal.τ Cert.AdambigIdeal.sig) → Buf (Elt Ideal) ℓ) (h : Cert.Pre_AdambigIdeal m) :
    ∃ w : BitVec 32, (w = 0#32 ∨ w = 1#32 ∨ w = 2#32 ∨ w = 3#32) ∧ Cert.AdambigIdeal.Table.word m = w := word_of_cmp _ _ (h 0)

end Cert.Adambig

end
-- ==== Proof.AdambigValue.lean ====
/- Hand-written, untrusted: the value of the optimiser's update of one weight, `Cert.AdambigIdeal`, at the reals. -/
module

public import proofs.«01_k».proof.Proof.AdambigTable
public import proofs.«01_k».proof.Proof.Gen.AdambigIdeal.Frame
public import proofs.«01_k».proof.Proof.Gen.AdambigRefIdeal.Read
public import proofs.«01_k».proof.Proof.Reals

@[expose] public section

set_option maxRecDepth 16384

noncomputable section

open Idealize.ShloMosaic Idealize.ShloMosaic.TcCoe Idealize.SL.Sem
open Idealize.ShloMosaic.Pipeline (Dat)

namespace Cert.AdambigIdeal.Grad

open Cert.AdambigIdeal Cert.AdambigIdeal.Gen Cert.AdambigIdeal.Table

variable (m : (ℓ : Loc nD τ sig) → Buf (Elt Ideal) ℓ) (hO : Ok m)

/-- The whole gradient: the chip's own part and the three received. -/
def gOf (o r0 r1 r2 : EReal) : EReal := o + r0 + r1 + r2
/-- The first moment. -/
def mOf (x g : EReal) : EReal := (Scalar.ofBits .f32 0x3F666666#32 : Ideal .f32) * x + (Scalar.ofBits .f32 0x3DCCCCCD#32 : Ideal .f32) * g
/-- The second moment. -/
def vOf (x g : EReal) : EReal := (Scalar.ofBits .f32 0x3F7FBE77#32 : Ideal .f32) * x + (Scalar.ofBits .f32 0x3A83126F#32 : Ideal .f32) * (g * g)

/-- The step. -/
def dOf (w a v : EReal) : EReal :=
  Ideal.ofBits .f32 0xBA83126F#32 * (Ideal.div (Ideal.div a (Ideal.ofBits .f32 0x3F26BD02#32)) (Ideal.sqrt (Ideal.div v (Ideal.ofBits .f32 0x3C231ACC#32)) + Ideal.ofBits .f32 0x322BCC77#32)
    + Ideal.ofBits .f32 0x3C23D70A#32 * w)

/-! ## The reference at an index -/

/-- A function of an index, by the index's coordinates. -/
theorem at_row (G : Cert.AdambigRefIdeal.S704x1024.Idx → EReal) (j : Cert.AdambigRefIdeal.S704x1024.Idx) (r : Fin 704) (n : Fin 1024) (hr : r.val = j 0) (hn : n.val = j 1) : G j = G (ix2 r n) := by
  idx_vars j
  obtain rfl : r = j0 := Fin.ext hr
  obtain rfl : n = j1 := Fin.ext hn
  rfl

open Cert.AdambigRefIdeal.Read in
/-- The reference's three comparisons, by the word. -/
theorem ref_cmp (x5 : IVec Cert.AdambigRefIdeal.S1 32) (w : BitVec 32) (e : x5 (ix1 (0 : Fin 1)) = w) (i : Cert.AdambigRefIdeal.S_.Idx) :
    val_main_v4 (F := Ideal) x5 i = IntOp.cmpi .eq w 0#32 ∧ val_main_v9 (F := Ideal) x5 i = IntOp.cmpi .eq w 1#32 ∧ val_main_v14 (F := Ideal) x5 i = IntOp.cmpi .eq w 2#32 := by
  rw [← e]
  exact ⟨congrArg (fun y => IntOp.cmpi .eq y 0#32) (Cert.Adambig.word_read x5 _ i), congrArg (fun y => IntOp.cmpi .eq y 1#32) (Cert.Adambig.word_read x5 _ i),
    congrArg (fun y => IntOp.cmpi .eq y 2#32) (Cert.Adambig.word_read x5 _ i)⟩

open Cert.AdambigRefIdeal.Read in
/-- The chip's own part. -/
theorem ref_mine (x3 : FVec Ideal Cert.AdambigRefIdeal.S4x704x1024 .bf16) (x5 : IVec Cert.AdambigRefIdeal.S1 32) (w : BitVec 32) (hw : w = 0#32 ∨ w = 1#32 ∨ w = 2#32 ∨ w = 3#32) (e : x5 (ix1 (0 : Fin 1)) = w)
    (g : Fin 4) (r : Fin 704) (n : Fin 1024) (hg : g.val = w.toNat) : val_main_v17 (F := Ideal) x3 x5 (ix2 r n) = x3 (ix3 g r n) := by
  have c0 := fun i => (ref_cmp x5 w e i).1
  have c1 := fun i => (ref_cmp x5 w e i).2.1
  have c2 := fun i => (ref_cmp x5 w e i).2.2
  rcases hw with rfl | rfl | rfl | rfl
  · obtain rfl : g = 0 := Fin.ext hg
    have h : val_main_v6 (F := Ideal) x3 (ix2 r n) = x3 (ix3 0 r n) := by
      pointwise [val_main_v6, val_main_v5, val_main_v0]
    refine Eq.trans ?_ h
    pointwise [val_main_v17, val_main_v12, val_main_v7, c0, c1, c2]
    rfl
  · obtain rfl : g = 1 := Fin.ext hg
    have h : val_main_v11 (F := Ideal) x3 (ix2 r n) = x3 (ix3 1 r n) := by
      pointwise [val_main_v11, val_main_v10, val_main_v0]
    refine Eq.trans ?_ h
    pointwise [val_main_v17, val_main_v12, val_main_v7, c0, c1, c2]
    rfl
  · obtain rfl : g = 2 := Fin.ext hg
    have h : val_main_v16 (F := Ideal) x3 (ix2 r n) = x3 (ix3 2 r n) := by
      pointwise [val_main_v16, val_main_v15, val_main_v0]
    refine Eq.trans ?_ h
    pointwise [val_main_v17, val_main_v12, val_main_v7, c0, c1, c2]
  · obtain rfl : g = 3 := Fin.ext hg
    have h : val_main_v2 (F := Ideal) x3 (ix2 r n) = x3 (ix3 3 r n) := by
      pointwise [val_main_v2, val_main_v1, val_main_v0]
    refine Eq.trans ?_ h
    pointwise [val_main_v17, val_main_v12, val_main_v7, c0, c1, c2]
    rfl

open Cert.AdambigRefIdeal.Read in
/-- The reference's gradient. -/
theorem ref_g (x3 : FVec Ideal Cert.AdambigRefIdeal.S4x704x1024 .bf16) (x4 : FVec Ideal Cert.AdambigRefIdeal.S3x704x1024 .bf16) (x5 : IVec Cert.AdambigRefIdeal.S1 32) (w : BitVec 32) (hw : w = 0#32 ∨ w = 1#32 ∨ w = 2#32 ∨ w = 3#32) (e : x5 (ix1 (0 : Fin 1)) = w)
    (g : Fin 4) (r : Fin 704) (n : Fin 1024) (hg : g.val = w.toNat) :
    val_main_v20 (F := Ideal) x3 x4 x5 (ix2 r n) = gOf (x3 (ix3 g r n)) (x4 (ix3 0 r n)) (x4 (ix3 1 r n)) (x4 (ix3 2 r n)) := by
  have h : val_main_v19 (F := Ideal) x4 (ix2 r n) = ∑ d : Fin 3, x4 (ix3 d r n) := by
    pointwise [val_main_v19, val_main_v18, val_main_cst]
  refine Eq.trans (congrArg₂ (fun u v : EReal => u + v) (ref_mine x3 x5 w hw e g r n hg) (h.trans (Fin.sum_univ_three _))) ?_
  unfold gOf
  rw [← add_assoc, ← add_assoc]

open Cert.AdambigRefIdeal.Read in
/-- The reference's first moment. -/
theorem ref_m (x1 : FVec Ideal Cert.AdambigRefIdeal.S704x1024 .f32) (x3 : FVec Ideal Cert.AdambigRefIdeal.S4x704x1024 .bf16) (x4 : FVec Ideal Cert.AdambigRefIdeal.S3x704x1024 .bf16) (x5 : IVec Cert.AdambigRefIdeal.S1 32) (r : Fin 704) (n : Fin 1024) :
    val_main_v25 (F := Ideal) x1 x3 x4 x5 (ix2 r n) = mOf (x1 (ix2 r n)) (val_main_v20 (F := Ideal) x3 x4 x5 (ix2 r n)) := by
  unfold mOf
  pointwise [val_main_v25, val_main_v24, val_main_v23, val_main_cst_3, val_main_v22, val_main_v21, val_main_cst_2]

open Cert.AdambigRefIdeal.Read in
/-- The reference's second moment. -/
theorem ref_v (x2 : FVec Ideal Cert.AdambigRefIdeal.S704x1024 .f32) (x3 : FVec Ideal Cert.AdambigRefIdeal.S4x704x1024 .bf16) (x4 : FVec Ideal Cert.AdambigRefIdeal.S3x704x1024 .bf16) (x5 : IVec Cert.AdambigRefIdeal.S1 32) (r : Fin 704) (n : Fin 1024) :
    val_main_v31 (F := Ideal) x2 x3 x4 x5 (ix2 r n) = vOf (x2 (ix2 r n)) (val_main_v20 (F := Ideal) x3 x4 x5 (ix2 r n)) := by
  unfold vOf
  pointwise [val_main_v31, val_main_v30, val_main_v29, val_main_cst_5, val_main_v28, val_main_v27, val_main_v26, val_main_cst_4]

open Cert.AdambigRefIdeal.Read in
/-- The reference's step. -/
theorem ref_d (x0 x1 x2 : FVec Ideal Cert.AdambigRefIdeal.S704x1024 .f32) (x3 : FVec Ideal Cert.AdambigRefIdeal.S4x704x1024 .bf16) (x4 : FVec Ideal Cert.AdambigRefIdeal.S3x704x1024 .bf16) (x5 : IVec Cert.AdambigRefIdeal.S1 32) (r : Fin 704) (n : Fin 1024) :
    val_main_v44 (F := Ideal) x0 x1 x2 x3 x4 x5 (ix2 r n) = dOf (x0 (ix2 r n)) (val_main_v25 (F := Ideal) x1 x3 x4 x5 (ix2 r n)) (val_main_v31 (F := Ideal) x2 x3 x4 x5 (ix2 r n)) := by
  unfold dOf
  pointwise [val_main_v44, val_main_v43, val_main_cst_10, val_main_v42, val_main_v41, val_main_v40, val_main_cst_9, val_main_v39, val_main_v38, val_main_v37, val_main_cst_8, val_main_v36,
    val_main_v35, val_main_v34, val_main_cst_7, val_main_v33, val_main_v32, val_main_cst_6]

/-! ## The blocks -/

/-- The blocks' positions: the fourth input's block is the chip's own part. -/
theorem idx_val (w : BitVec 32) (hw : w = 0#32 ∨ w = 1#32 ∨ w = 2#32 ∨ w = 3#32) (e : word m = w) (t : Fin (cfgM m hO).N) :
    ((cfgM m hO).win 3).index t = ![w.toNat, t.val, 0] ∧ ((cfgM m hO).win 4).index t = ![0, t.val, 0]
      ∧ ((cfgM m hO).win 0).index t = ![t.val, 0] ∧ ((cfgM m hO).win 1).index t = ![t.val, 0] ∧ ((cfgM m hO).win 2).index t = ![t.val, 0]
      ∧ ((cfgM m hO).win 5).index t = ![t.val, 0] ∧ ((cfgM m hO).win 6).index t = ![t.val, 0] ∧ ((cfgM m hO).win 7).index t = ![t.val, 0] ∧ ((cfgM m hO).win 8).index t = ![t.val, 0] := by
  have k0 : ∀ t : Fin grid0.N, cc0_transform_3 inb_S1_S1_0 numel1_S1 (pfW w) (grid0.coords t) = ![w.toNat, t.val, 0] := by
    rcases hw with rfl | rfl | rfl | rfl <;> decide +kernel
  have k1 : ∀ t : Fin grid0.N, cc0_transform_4 (grid0.coords t) = ![0, t.val, 0]
      ∧ cc0_transform_0 (grid0.coords t) = ![t.val, 0] ∧ cc0_transform_1 (grid0.coords t) = ![t.val, 0] ∧ cc0_transform_2 (grid0.coords t) = ![t.val, 0]
      ∧ cc0_transform_5 (grid0.coords t) = ![t.val, 0] ∧ cc0_transform_6 (grid0.coords t) = ![t.val, 0] ∧ cc0_transform_7 (grid0.coords t) = ![t.val, 0] ∧ cc0_transform_8 (grid0.coords t) = ![t.val, 0] := by
    decide +kernel
  have tb := tbl_eq m
  rw [e] at tb
  refine ⟨?_, k1 t⟩
  refine Eq.trans ?_ (k0 t)
  rw [← tb]
  rfl

/-- A row of the array, by the point and the row in the block. -/
def row (t : ℕ) (ht : t < 2) (a : Fin 352) : Fin 704 := ⟨t * 352 + a.val, by omega⟩

/-- The weight. -/
theorem in0 (w : BitVec 32) (hw : w = 0#32 ∨ w = 1#32 ∨ w = 2#32 ∨ w = 3#32) (e : word m = w) (c : Dev nD) (t : Fin (cfgM m hO).N) (ht : t.val < 2) (a : Fin 352) (b : Fin 1024) :
    (iblk m hO c 0 t (ix2 a b) : EReal) = (m ((c : Thread nD τ).loc main_arg0)) (ix2 (row t.val ht a) b) := by
  unfold row
  blk_point [iblk, V, idx_val m hO w hw e t]

/-- The first moment. -/
theorem in1 (w : BitVec 32) (hw : w = 0#32 ∨ w = 1#32 ∨ w = 2#32 ∨ w = 3#32) (e : word m = w) (c : Dev nD) (t : Fin (cfgM m hO).N) (ht : t.val < 2) (a : Fin 352) (b : Fin 1024) :
    (iblk m hO c 1 t (ix2 a b) : EReal) = (m ((c : Thread nD τ).loc main_arg1)) (ix2 (row t.val ht a) b) := by
  unfold row
  blk_point [iblk, V, idx_val m hO w hw e t]

/-- The second moment. -/
theorem in2 (w : BitVec 32) (hw : w = 0#32 ∨ w = 1#32 ∨ w = 2#32 ∨ w = 3#32) (e : word m = w) (c : Dev nD) (t : Fin (cfgM m hO).N) (ht : t.val < 2) (a : Fin 352) (b : Fin 1024) :
    (iblk m hO c 2 t (ix2 a b) : EReal) = (m ((c : Thread nD τ).loc main_arg2)) (ix2 (row t.val ht a) b) := by
  unfold row
  blk_point [iblk, V, idx_val m hO w hw e t]

/-- The chip's own part. -/
theorem in3 (w : BitVec 32) (hw : w = 0#32 ∨ w = 1#32 ∨ w = 2#32 ∨ w = 3#32) (e : word m = w) (c : Dev nD) (t : Fin (cfgM m hO).N) (ht : t.val < 2) (a : Fin 352) (b : Fin 1024) (g : Fin 4) (hg : g.val = w.toNat) :
    (iblk m hO c 3 t (ix3 0 a b) : EReal) = (m ((c : Thread nD τ).loc main_arg3)) (ix3 g (row t.val ht a) b) := by
  unfold row
  blk_point [iblk, V, idx_val m hO w hw e t]

/-- The received parts. -/
theorem in4 (w : BitVec 32) (hw : w = 0#32 ∨ w = 1#32 ∨ w = 2#32 ∨ w = 3#32) (e : word m = w) (c : Dev nD) (t : Fin (cfgM m hO).N) (ht : t.val < 2) (a : Fin 352) (b : Fin 1024) (d : Fin 3) :
    (iblk m hO c 4 t (ix3 d a b) : EReal) = (m ((c : Thread nD τ).loc main_arg4)) (ix3 d (row t.val ht a) b) := by
  unfold row
  blk_point [iblk, V, idx_val m hO w hw e t]

/-! ## The body's results -/

/-- One of the received parts' block. -/
def part (c : Dev nD) (t : Fin (cfgM m hO).N) : Fin 3 → FVec Ideal S1x352x1024 .bf16
  | ⟨0, _⟩ => View.ld (iblk m hO c 4 t) (Rect.unit ![0, 0, 0] ![1, 352, 1024] inb_S3x352x1024_S1x352x1024_0_0_0)
  | ⟨1, _⟩ => View.ld (iblk m hO c 4 t) (Rect.unit ![1, 0, 0] ![1, 352, 1024] inb_S3x352x1024_S1x352x1024_1_0_0)
  | ⟨2, _⟩ => View.ld (iblk m hO c 4 t) (Rect.unit ![2, 0, 0] ![1, 352, 1024] inb_S3x352x1024_S1x352x1024_2_0_0)

theorem part_at (c : Dev nD) (t : Fin (cfgM m hO).N) (a : Fin 352) (b : Fin 1024) (d : Fin 3) : (part m hO c t d (ix3 0 a b) : EReal) = iblk m hO c 4 t (ix3 d a b) := by
  match d with
  | ⟨0, _⟩ => unfold part; pointwise
  | ⟨1, _⟩ => unfold part; pointwise
  | ⟨2, _⟩ => unfold part; pointwise

/-- The gradient in the block. -/
def gB (c : Dev nD) (t : Fin (cfgM m hO).N) : FVec Ideal S352x1024 .f32 := k0_pay2 (F := Ideal) (iblk m hO c 3 t) (part m hO c t 0) (part m hO c t 1) (part m hO c t 2)
/-- The first moment in the block. -/
def mB (c : Dev nD) (t : Fin (cfgM m hO).N) : FVec Ideal S352x1024 .f32 := k0_pay3 (F := Ideal) (iblk m hO c 3 t) (part m hO c t 0) (part m hO c t 1) (part m hO c t 2) (iblk m hO c 1 t)
/-- The second moment in the block. -/
def vB (c : Dev nD) (t : Fin (cfgM m hO).N) : FVec Ideal S352x1024 .f32 := k0_pay4 (F := Ideal) (iblk m hO c 3 t) (part m hO c t 0) (part m hO c t 1) (part m hO c t 2) (iblk m hO c 2 t)
/-- The step in the block. -/
def dB (c : Dev nD) (t : Fin (cfgM m hO).N) : FVec Ideal S352x1024 .f32 :=
  k0_pay1 (F := Ideal) (iblk m hO c 0 t) (k0_pay5 (F := Ideal) (iblk m hO c 3 t) (part m hO c t 0) (part m hO c t 1) (part m hO c t 2) (iblk m hO c 1 t))
    (k0_pay6 (F := Ideal) (iblk m hO c 3 t) (part m hO c t 0) (part m hO c t 1) (part m hO c t 2) (iblk m hO c 2 t)) (FloatOps.ofBits .f32 0x322BCC77#32)

/-- The four results as one function of the five blocks. -/
def bodyOut (x0 x1 x2 : FVec Ideal S352x1024 .f32) (y : FVec Ideal S1x352x1024 .bf16) (z : FVec Ideal S3x352x1024 .bf16) :
    FVec Ideal S352x1024 .f32 × FVec Ideal S352x1024 .f32 × FVec Ideal S352x1024 .f32 × FVec Ideal S352x1024 .f32 :=
  let r0 : FVec Ideal S1x352x1024 .bf16 := View.ld (Val := Elt Ideal) (e' := .bf16) (S := S3x352x1024) z (Rect.unit ![0, 0, 0] ![1, 352, 1024] inb_S3x352x1024_S1x352x1024_0_0_0)
  let r1 : FVec Ideal S1x352x1024 .bf16 := View.ld (Val := Elt Ideal) (e' := .bf16) (S := S3x352x1024) z (Rect.unit ![1, 0, 0] ![1, 352, 1024] inb_S3x352x1024_S1x352x1024_1_0_0)
  let r2 : FVec Ideal S1x352x1024 .bf16 := View.ld (Val := Elt Ideal) (e' := .bf16) (S := S3x352x1024) z (Rect.unit ![2, 0, 0] ![1, 352, 1024] inb_S3x352x1024_S1x352x1024_2_0_0)
  (k0_pay2 (F := Ideal) y r0 r1 r2, k0_pay1 (F := Ideal) x0 (k0_pay5 (F := Ideal) y r0 r1 r2 x1) (k0_pay6 (F := Ideal) y r0 r1 r2 x2) (FloatOps.ofBits .f32 0x322BCC77#32),
    k0_pay3 (F := Ideal) y r0 r1 r2 x1, k0_pay4 (F := Ideal) y r0 r1 r2 x2)

theorem body_congr {x0 x0' x1 x1' x2 x2' : FVec Ideal S352x1024 .f32} {y y' : FVec Ideal S1x352x1024 .bf16} {z z' : FVec Ideal S3x352x1024 .bf16}
    (h0 : x0 = x0') (h1 : x1 = x1') (h2 : x2 = x2') (hy : y = y') (hz : z = z') : bodyOut x0 x1 x2 y z = bodyOut x0' x1' x2' y' z' := by
  subst h0 h1 h2 hy hz; rfl

/-- What the body leaves in the four results. -/
theorem out_g (c : Dev nD) (t : Fin (cfgM m hO).N) : (outsAt0 m hO c t).1 = gB m hO c t := by
  have h := congrArg Prod.fst (body_congr ((hs0_0 m hO t).read_unread (iblk m hO c 0 t)) ((hs0_1 m hO t).read_unread (iblk m hO c 1 t)) ((hs0_2 m hO t).read_unread (iblk m hO c 2 t)) ((hs0_3 m hO t).read_unread (iblk m hO c 3 t)) ((hs0_4 m hO t).read_unread (iblk m hO c 4 t)))
  unfold outsAt0 out0_A_5
  frame_out
  exact h
theorem out_m (c : Dev nD) (t : Fin (cfgM m hO).N) : (outsAt0 m hO c t).2.2.1 = mB m hO c t := by
  have h := congrArg (fun q => q.2.2.1) (body_congr ((hs0_0 m hO t).read_unread (iblk m hO c 0 t)) ((hs0_1 m hO t).read_unread (iblk m hO c 1 t)) ((hs0_2 m hO t).read_unread (iblk m hO c 2 t)) ((hs0_3 m hO t).read_unread (iblk m hO c 3 t)) ((hs0_4 m hO t).read_unread (iblk m hO c 4 t)))
  dsimp only [bodyOut] at h
  unfold outsAt0 out0_A_7
  frame_out
  unfold mB part
  exact h
theorem out_v (c : Dev nD) (t : Fin (cfgM m hO).N) : (outsAt0 m hO c t).2.2.2 = vB m hO c t := by
  have h := congrArg (fun q => q.2.2.2) (body_congr ((hs0_0 m hO t).read_unread (iblk m hO c 0 t)) ((hs0_1 m hO t).read_unread (iblk m hO c 1 t)) ((hs0_2 m hO t).read_unread (iblk m hO c 2 t)) ((hs0_3 m hO t).read_unread (iblk m hO c 3 t)) ((hs0_4 m hO t).read_unread (iblk m hO c 4 t)))
  dsimp only [bodyOut] at h
  unfold outsAt0 out0_A_8
  frame_out
  unfold vB part
  exact h
theorem out_d (c : Dev nD) (t : Fin (cfgM m hO).N) : (outsAt0 m hO c t).2.1 = dB m hO c t := by
  have h := congrArg (fun q => q.2.1) (body_congr ((hs0_0 m hO t).read_unread (iblk m hO c 0 t)) ((hs0_1 m hO t).read_unread (iblk m hO c 1 t)) ((hs0_2 m hO t).read_unread (iblk m hO c 2 t)) ((hs0_3 m hO t).read_unread (iblk m hO c 3 t)) ((hs0_4 m hO t).read_unread (iblk m hO c 4 t)))
  dsimp only [bodyOut] at h
  unfold outsAt0 out0_A_6
  frame_out
  unfold dB part
  exact h

/-- The payloads at an index. -/
theorem pay_g (y r0 r1 r2 : FVec Ideal S1x352x1024 .bf16) (a : Fin 352) (b : Fin 1024) :
    k0_pay2 (F := Ideal) y r0 r1 r2 (ix2 a b) = gOf (y (ix3 0 a b)) (r0 (ix3 0 a b)) (r1 (ix3 0 a b)) (r2 (ix3 0 a b)) := by
  unfold gOf
  pointwise [k0_pay2]
theorem pay_m (y r0 r1 r2 : FVec Ideal S1x352x1024 .bf16) (x : FVec Ideal S352x1024 .f32) (a : Fin 352) (b : Fin 1024) :
    k0_pay3 (F := Ideal) y r0 r1 r2 x (ix2 a b) = mOf (x (ix2 a b)) (k0_pay2 (F := Ideal) y r0 r1 r2 (ix2 a b)) := by
  unfold mOf
  pointwise [k0_pay3]
theorem pay_v (y r0 r1 r2 : FVec Ideal S1x352x1024 .bf16) (x : FVec Ideal S352x1024 .f32) (a : Fin 352) (b : Fin 1024) :
    k0_pay4 (F := Ideal) y r0 r1 r2 x (ix2 a b) = vOf (x (ix2 a b)) (k0_pay2 (F := Ideal) y r0 r1 r2 (ix2 a b)) := by
  unfold vOf
  pointwise [k0_pay4]
theorem pay_d (x0 x1 x2 : FVec Ideal S352x1024 .f32) (y r0 r1 r2 : FVec Ideal S1x352x1024 .bf16) (a : Fin 352) (b : Fin 1024) :
    k0_pay1 (F := Ideal) x0 (k0_pay5 (F := Ideal) y r0 r1 r2 x1) (k0_pay6 (F := Ideal) y r0 r1 r2 x2) (FloatOps.ofBits .f32 0x322BCC77#32) (ix2 a b)
      = dOf (x0 (ix2 a b)) (k0_pay3 (F := Ideal) y r0 r1 r2 x1 (ix2 a b)) (k0_pay4 (F := Ideal) y r0 r1 r2 x2 (ix2 a b)) := by
  unfold dOf
  pointwise [k0_pay1, k0_pay5, k0_pay6]

/-! ## The block's results are the reference's rows -/

open Cert.AdambigRefIdeal.Read in
theorem g_eq (w : BitVec 32) (hw : w = 0#32 ∨ w = 1#32 ∨ w = 2#32 ∨ w = 3#32) (e : word m = w) (c : Dev nD) (t : Fin (cfgM m hO).N) (ht : t.val < 2) (a : Fin 352) (b : Fin 1024) :
    gB m hO c t (ix2 a b) = val_main_v20 (F := Ideal) (m ((c : Thread nD τ).loc main_arg3)) (m ((c : Thread nD τ).loc main_arg4)) (m ((c : Thread nD τ).loc main_arg5)) (ix2 (row t.val ht a) b) := by
  have hx : w.toNat < 4 := by rcases hw with rfl | rfl | rfl | rfl <;> decide
  refine (pay_g _ _ _ _ a b).trans ?_
  rw [in3 m hO w hw e c t ht a b ⟨w.toNat, hx⟩ rfl, part_at, part_at, part_at, in4 m hO w hw e c t ht, in4 m hO w hw e c t ht, in4 m hO w hw e c t ht]
  obtain rfl : c = 0 := Subsingleton.elim _ _
  exact (ref_g _ _ _ w hw e ⟨w.toNat, hx⟩ _ b rfl).symm

open Cert.AdambigRefIdeal.Read in
theorem m_eq (w : BitVec 32) (hw : w = 0#32 ∨ w = 1#32 ∨ w = 2#32 ∨ w = 3#32) (e : word m = w) (c : Dev nD) (t : Fin (cfgM m hO).N) (ht : t.val < 2) (a : Fin 352) (b : Fin 1024) :
    mB m hO c t (ix2 a b) = val_main_v25 (F := Ideal) (m ((c : Thread nD τ).loc main_arg1)) (m ((c : Thread nD τ).loc main_arg3)) (m ((c : Thread nD τ).loc main_arg4)) (m ((c : Thread nD τ).loc main_arg5)) (ix2 (row t.val ht a) b) := by
  refine ((pay_m _ _ _ _ _ a b).trans ?_).trans (ref_m _ _ _ _ _ b).symm
  exact congrArg₂ mOf (in1 m hO w hw e c t ht a b) (g_eq m hO w hw e c t ht a b)

open Cert.AdambigRefIdeal.Read in
theorem v_eq (w : BitVec 32) (hw : w = 0#32 ∨ w = 1#32 ∨ w = 2#32 ∨ w = 3#32) (e : word m = w) (c : Dev nD) (t : Fin (cfgM m hO).N) (ht : t.val < 2) (a : Fin 352) (b : Fin 1024) :
    vB m hO c t (ix2 a b) = val_main_v31 (F := Ideal) (m ((c : Thread nD τ).loc main_arg2)) (m ((c : Thread nD τ).loc main_arg3)) (m ((c : Thread nD τ).loc main_arg4)) (m ((c : Thread nD τ).loc main_arg5)) (ix2 (row t.val ht a) b) := by
  refine ((pay_v _ _ _ _ _ a b).trans ?_).trans (ref_v _ _ _ _ _ b).symm
  exact congrArg₂ vOf (in2 m hO w hw e c t ht a b) (g_eq m hO w hw e c t ht a b)

open Cert.AdambigRefIdeal.Read in
theorem d_eq (w : BitVec 32) (hw : w = 0#32 ∨ w = 1#32 ∨ w = 2#32 ∨ w = 3#32) (e : word m = w) (c : Dev nD) (t : Fin (cfgM m hO).N) (ht : t.val < 2) (a : Fin 352) (b : Fin 1024) :
    dB m hO c t (ix2 a b) = val_main_v44 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 (row t.val ht a) b) := by
  refine ((pay_d _ _ _ _ _ _ _ a b).trans ?_).trans (ref_d _ _ _ _ _ _ _ b).symm
  rw [in0 m hO w hw e c t ht a b]
  exact congrArg₂ (dOf _) (m_eq m hO w hw e c t ht a b) (v_eq m hO w hw e c t ht a b)

/-- Each result's blocks tile its array. -/
theorem covers (w : BitVec 32) (hw : w = 0#32 ∨ w = 1#32 ∨ w = 2#32 ∨ w = 3#32) (e : word m = w) : ((cfgM m hO).win 5).Covers ∧ ((cfgM m hO).win 6).Covers ∧ ((cfgM m hO).win 7).Covers ∧ ((cfgM m hO).win 8).Covers := by
  have i := fun t => (idx_val m hO w hw e t).2.2.2.2.2
  have hp : ∀ b : Fin 2, ∃ t : Fin grid0.N, t.val = b.val := by decide +kernel
  refine ⟨?_, ?_, ?_, ?_⟩ <;>
  · refine ⟨by intro a; match a with | ⟨0, _⟩ => exact Nat.succ_pos _ | ⟨1, _⟩ => exact Nat.succ_pos _, fun β => ?_⟩
    obtain ⟨t, ht⟩ := hp ⟨(β (0 : Fin 2)).val, (β (0 : Fin 2)).isLt.trans_eq (show (704 + 352 - 1) / 352 = 2 from rfl)⟩
    refine ⟨t, by first | exact flush0_5 (adm m hO) t | exact flush0_6 (adm m hO) t | exact flush0_7 (adm m hO) t | exact flush0_8 (adm m hO) t, fun a => ⟨?_, Or.inl rfl⟩⟩
    first | rw [(i t).1] | rw [(i t).2.1] | rw [(i t).2.2.1] | rw [(i t).2.2.2]
    match a with
    | ⟨0, _⟩ => exact ht
    | ⟨1, h⟩ => exact (Nat.lt_one_iff.mp ((β ⟨1, h⟩).isLt.trans_eq (show (1024 + 1024 - 1) / 1024 = 1 from rfl))).symm

/-- The gradient the call leaves is the reference's. -/
theorem final5 (hw : ∃ w : BitVec 32, (w = 0#32 ∨ w = 1#32 ∨ w = 2#32 ∨ w = 3#32) ∧ word m = w) (c : Dev nD) :
    (dats m hO 0 c).arrAt 5 (cfgM m hO).N = Cert.AdambigRefIdeal.Read.val_main_v20 (F := Ideal) (m ((c : Thread nD τ).loc main_arg3)) (m ((c : Thread nD τ).loc main_arg4)) (m ((c : Thread nD τ).loc main_arg5)) := by
  obtain ⟨w, hw, ew⟩ := hw
  refine (dats m hO 0 c).arrAt_eq_of_covers 5 _ (covers m hO w hw ew).1 fun t hf y => ?_
  have e := (idx_val m hO w hw ew t).2.2.2.2.2.1
  have ht : t.val < 2 := t.isLt
  blk_simp
  rw [after0_5, out_g]
  revert y
  intro (y : S352x1024.Idx)
  idx_vars y
  refine (g_eq m hO w hw ew c t ht y0 y1).trans (at_row _ _ (row t.val ht y0) y1 ?_ ?_).symm
  all_goals ((try unfold row); blk_simp [e] <;> (try dsimp only) <;> try omega)

/-- The step the call leaves is the reference's. -/
theorem final6 (hw : ∃ w : BitVec 32, (w = 0#32 ∨ w = 1#32 ∨ w = 2#32 ∨ w = 3#32) ∧ word m = w) (c : Dev nD) :
    (dats m hO 0 c).arrAt 6 (cfgM m hO).N = Cert.AdambigRefIdeal.Read.val_main_v44 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  obtain ⟨w, hw, ew⟩ := hw
  refine (dats m hO 0 c).arrAt_eq_of_covers 6 _ (covers m hO w hw ew).2.1 fun t hf y => ?_
  have e := (idx_val m hO w hw ew t).2.2.2.2.2.2.1
  have ht : t.val < 2 := t.isLt
  blk_simp
  rw [after0_6, out_d]
  revert y
  intro (y : S352x1024.Idx)
  idx_vars y
  refine (d_eq m hO w hw ew c t ht y0 y1).trans (at_row _ _ (row t.val ht y0) y1 ?_ ?_).symm
  all_goals ((try unfold row); blk_simp [e] <;> (try dsimp only) <;> try omega)

/-- The first moment the call leaves is the reference's. -/
theorem final7 (hw : ∃ w : BitVec 32, (w = 0#32 ∨ w = 1#32 ∨ w = 2#32 ∨ w = 3#32) ∧ word m = w) (c : Dev nD) :
    (dats m hO 0 c).arrAt 7 (cfgM m hO).N = Cert.AdambigRefIdeal.Read.val_main_v25 (F := Ideal) (m ((c : Thread nD τ).loc main_arg1)) (m ((c : Thread nD τ).loc main_arg3)) (m ((c : Thread nD τ).loc main_arg4)) (m ((c : Thread nD τ).loc main_arg5)) := by
  obtain ⟨w, hw, ew⟩ := hw
  refine (dats m hO 0 c).arrAt_eq_of_covers 7 _ (covers m hO w hw ew).2.2.1 fun t hf y => ?_
  have e := (idx_val m hO w hw ew t).2.2.2.2.2.2.2.1
  have ht : t.val < 2 := t.isLt
  blk_simp
  rw [after0_7, out_m]
  revert y
  intro (y : S352x1024.Idx)
  idx_vars y
  refine (m_eq m hO w hw ew c t ht y0 y1).trans (at_row _ _ (row t.val ht y0) y1 ?_ ?_).symm
  all_goals ((try unfold row); blk_simp [e] <;> (try dsimp only) <;> try omega)

/-- The second moment the call leaves is the reference's. -/
theorem final8 (hw : ∃ w : BitVec 32, (w = 0#32 ∨ w = 1#32 ∨ w = 2#32 ∨ w = 3#32) ∧ word m = w) (c : Dev nD) :
    (dats m hO 0 c).arrAt 8 (cfgM m hO).N = Cert.AdambigRefIdeal.Read.val_main_v31 (F := Ideal) (m ((c : Thread nD τ).loc main_arg2)) (m ((c : Thread nD τ).loc main_arg3)) (m ((c : Thread nD τ).loc main_arg4)) (m ((c : Thread nD τ).loc main_arg5)) := by
  obtain ⟨w, hw, ew⟩ := hw
  refine (dats m hO 0 c).arrAt_eq_of_covers 8 _ (covers m hO w hw ew).2.2.2 fun t hf y => ?_
  have e := (idx_val m hO w hw ew t).2.2.2.2.2.2.2.2
  have ht : t.val < 2 := t.isLt
  blk_simp
  rw [after0_8, out_v]
  revert y
  intro (y : S352x1024.Idx)
  idx_vars y
  refine (v_eq m hO w hw ew c t ht y0 y1).trans (at_row _ _ (row t.val ht y0) y1 ?_ ?_).symm
  all_goals ((try unfold row); blk_simp [e] <;> (try dsimp only) <;> try omega)

end Cert.AdambigIdeal.Grad

end
-- ==== Proof.Tables.lean ====
/- Hand-written, untrusted: the two calls whose blocks a prefetched word picks: their frames, and their results against the references'. -/
module

public import proofs.«01_k».proof.Proof.SumsibValue
public import proofs.«01_k».proof.Proof.AdambigValue
public import proofs.«01_k».proof.Proof.Gen.SumsibRefIdeal.Run
public import proofs.«01_k».proof.Proof.Gen.AdambigRefIdeal.Run
public import Idealize.ShloMosaic.Lib.Claim

@[expose] public section

set_option maxRecDepth 16384

noncomputable section

open Idealize.ShloMosaic Idealize.ShloMosaic.TcCoe Idealize.SL.Sem

namespace Cert.AdambigIdeal.Grad

open Cert.AdambigIdeal Cert.AdambigIdeal.Gen

/-- The run of the optimiser's update of one weight: each result is what its blocks were left as, and the arguments are kept. -/
theorem run_blocks (m : (ℓ : Loc nD τ sig) → Buf (Elt Ideal) ℓ) (ρ : Dev nD → PrngReg) (hO : Ok m) :
    θ_run defs (onTc (τ := τ) (main (F := Ideal))) ⟨m, fun _ => 0, ρ⟩ fun r => (∀ c : Dev nD, r.2.mem ((c : Thread nD τ).loc main_v0_0) = (dats m hO 0 c).arrAt 5 (cfgM m hO).N ∧ r.2.mem ((c : Thread nD τ).loc main_v0_1) = (dats m hO 0 c).arrAt 6 (cfgM m hO).N ∧ r.2.mem ((c : Thread nD τ).loc main_v0_2) = (dats m hO 0 c).arrAt 7 (cfgM m hO).N ∧ r.2.mem ((c : Thread nD τ).loc main_v0_3) = (dats m hO 0 c).arrAt 8 (cfgM m hO).N)
      ∧ ∀ c : Dev nD, r.2.mem ((c : Thread nD τ).loc main_arg0) = m ((c : Thread nD τ).loc main_arg0) ∧ r.2.mem ((c : Thread nD τ).loc main_arg1) = m ((c : Thread nD τ).loc main_arg1) ∧ r.2.mem ((c : Thread nD τ).loc main_arg2) = m ((c : Thread nD τ).loc main_arg2) ∧ r.2.mem ((c : Thread nD τ).loc main_arg3) = m ((c : Thread nD τ).loc main_arg3) ∧ r.2.mem ((c : Thread nD τ).loc main_arg4) = m ((c : Thread nD τ).loc main_arg4) ∧ r.2.mem ((c : Thread nD τ).loc main_arg5) = m ((c : Thread nD τ).loc main_arg5) :=
  θ_run_and ((θ_run defs _ _).mono (fun r h c => ⟨(h c).1 5, (h c).1 6, (h c).1 7, (h c).1 8⟩) (run_main m ρ hO)) (unchanged m ρ hO)

end Cert.AdambigIdeal.Grad

namespace Cert.Proof

/-- The optimiser's update of one weight runs, without a fault, and keeps its arguments. -/
theorem frame_Adambig : Cert.quiescent_Adambig := fun m ρ h => Cert.Adambig.Gen.frame m ρ (Cert.Adambig.Table.ok_of_word m (Cert.Adambig.word_of_pre m h))
/-- The same at the reals. -/
theorem frame_AdambigIdeal : Cert.quiescent_AdambigIdeal := fun m ρ h => Cert.AdambigIdeal.Gen.frame m ρ (Cert.AdambigIdeal.Table.ok_of_word m (Cert.Adambig.word_of_pre_ideal m h))
/-- The same of its reference. -/
theorem frame_AdambigRefIdeal : Cert.quiescent_AdambigRefIdeal := fun m ρ _ =>
  (θ_run Cert.AdambigRefIdeal.defs _ _).mono (fun r h => ⟨fun c => (h c).2.2.2.2, sem_eq_zero_of_no_sems (by decide) r.2⟩)
    (Cert.AdambigRefIdeal.Value.run m ρ)

/-- The results of the optimiser's update of one weight are the reference's, element by element. -/
theorem algebraic_Adambig : Cert.algebraic_AdambigIdeal_AdambigRefIdeal := by
  intro m g m' g' hpre hagree
  have hw := Cert.Adambig.word_of_pre_ideal m hpre
  have hO := Cert.AdambigIdeal.Table.ok_of_word m hw
  refine ⟨fun c => Cert.AdambigRefIdeal.Read.val_main_v20 (F := Ideal) (m ((c : Thread Cert.AdambigIdeal.nD Cert.AdambigIdeal.τ).loc Cert.AdambigIdeal.main_arg3)) (m ((c : Thread Cert.AdambigIdeal.nD Cert.AdambigIdeal.τ).loc Cert.AdambigIdeal.main_arg4)) (m ((c : Thread Cert.AdambigIdeal.nD Cert.AdambigIdeal.τ).loc Cert.AdambigIdeal.main_arg5)),
    fun c => Cert.AdambigRefIdeal.Read.val_main_v44 (F := Ideal) (m ((c : Thread Cert.AdambigIdeal.nD Cert.AdambigIdeal.τ).loc Cert.AdambigIdeal.main_arg0)) (m ((c : Thread Cert.AdambigIdeal.nD Cert.AdambigIdeal.τ).loc Cert.AdambigIdeal.main_arg1)) (m ((c : Thread Cert.AdambigIdeal.nD Cert.AdambigIdeal.τ).loc Cert.AdambigIdeal.main_arg2)) (m ((c : Thread Cert.AdambigIdeal.nD Cert.AdambigIdeal.τ).loc Cert.AdambigIdeal.main_arg3)) (m ((c : Thread Cert.AdambigIdeal.nD Cert.AdambigIdeal.τ).loc Cert.AdambigIdeal.main_arg4)) (m ((c : Thread Cert.AdambigIdeal.nD Cert.AdambigIdeal.τ).loc Cert.AdambigIdeal.main_arg5)),
    fun c => Cert.AdambigRefIdeal.Read.val_main_v25 (F := Ideal) (m ((c : Thread Cert.AdambigIdeal.nD Cert.AdambigIdeal.τ).loc Cert.AdambigIdeal.main_arg1)) (m ((c : Thread Cert.AdambigIdeal.nD Cert.AdambigIdeal.τ).loc Cert.AdambigIdeal.main_arg3)) (m ((c : Thread Cert.AdambigIdeal.nD Cert.AdambigIdeal.τ).loc Cert.AdambigIdeal.main_arg4)) (m ((c : Thread Cert.AdambigIdeal.nD Cert.AdambigIdeal.τ).loc Cert.AdambigIdeal.main_arg5)),
    fun c => Cert.AdambigRefIdeal.Read.val_main_v31 (F := Ideal) (m ((c : Thread Cert.AdambigIdeal.nD Cert.AdambigIdeal.τ).loc Cert.AdambigIdeal.main_arg2)) (m ((c : Thread Cert.AdambigIdeal.nD Cert.AdambigIdeal.τ).loc Cert.AdambigIdeal.main_arg3)) (m ((c : Thread Cert.AdambigIdeal.nD Cert.AdambigIdeal.τ).loc Cert.AdambigIdeal.main_arg4)) (m ((c : Thread Cert.AdambigIdeal.nD Cert.AdambigIdeal.τ).loc Cert.AdambigIdeal.main_arg5)), ?_, ?_⟩
  · refine (θ_run _ _ _).mono (fun r h c => ?_) (Cert.AdambigIdeal.Grad.run_blocks m g hO)
    obtain ⟨p5, p6, p7, p8⟩ := h.1 c
    exact ⟨p5.trans (Cert.AdambigIdeal.Grad.final5 m hO hw c), p6.trans (Cert.AdambigIdeal.Grad.final6 m hO hw c), p7.trans (Cert.AdambigIdeal.Grad.final7 m hO hw c), p8.trans (Cert.AdambigIdeal.Grad.final8 m hO hw c), h.2 c⟩
  · refine (θ_run _ _ _).mono (fun r h c => ?_) (Cert.AdambigRefIdeal.Value.run m' g')
    obtain ⟨p5, p6, p7, p8, k⟩ := h c
    obtain ⟨e0, e1, e2, e3, e4, e5⟩ := hagree c
    exact ⟨(p5.trans (Cert.AdambigRefIdeal.Read.val_main_v20_eq (m' ((c : Thread Cert.AdambigRefIdeal.nD Cert.AdambigRefIdeal.τ).loc Cert.AdambigRefIdeal.main_arg3)) (m' ((c : Thread Cert.AdambigRefIdeal.nD Cert.AdambigRefIdeal.τ).loc Cert.AdambigRefIdeal.main_arg4)) (m' ((c : Thread Cert.AdambigRefIdeal.nD Cert.AdambigRefIdeal.τ).loc Cert.AdambigRefIdeal.main_arg5)))).trans (by rw [e3, e4, e5]),
      (p6.trans (Cert.AdambigRefIdeal.Read.val_main_v44_eq m' c)).trans (by rw [e0, e1, e2, e3, e4, e5]),
      (p7.trans (Cert.AdambigRefIdeal.Read.val_main_v25_eq (m' ((c : Thread Cert.AdambigRefIdeal.nD Cert.AdambigRefIdeal.τ).loc Cert.AdambigRefIdeal.main_arg1)) (m' ((c : Thread Cert.AdambigRefIdeal.nD Cert.AdambigRefIdeal.τ).loc Cert.AdambigRefIdeal.main_arg3)) (m' ((c : Thread Cert.AdambigRefIdeal.nD Cert.AdambigRefIdeal.τ).loc Cert.AdambigRefIdeal.main_arg4)) (m' ((c : Thread Cert.AdambigRefIdeal.nD Cert.AdambigRefIdeal.τ).loc Cert.AdambigRefIdeal.main_arg5)))).trans (by rw [e1, e3, e4, e5]),
      (p8.trans (Cert.AdambigRefIdeal.Read.val_main_v31_eq (m' ((c : Thread Cert.AdambigRefIdeal.nD Cert.AdambigRefIdeal.τ).loc Cert.AdambigRefIdeal.main_arg2)) (m' ((c : Thread Cert.AdambigRefIdeal.nD Cert.AdambigRefIdeal.τ).loc Cert.AdambigRefIdeal.main_arg3)) (m' ((c : Thread Cert.AdambigRefIdeal.nD Cert.AdambigRefIdeal.τ).loc Cert.AdambigRefIdeal.main_arg4)) (m' ((c : Thread Cert.AdambigRefIdeal.nD Cert.AdambigRefIdeal.τ).loc Cert.AdambigRefIdeal.main_arg5)))).trans (by rw [e2, e3, e4, e5]), k⟩

end Cert.Proof

namespace Cert.SumsibIdeal.Grad

open Cert.SumsibIdeal Cert.SumsibIdeal.Gen

/-- The run of the sum of the two cores' parts: each result is what its blocks were left as, and the arguments are kept. -/
theorem run_blocks (m : (ℓ : Loc nD τ sig) → Buf (Elt Ideal) ℓ) (ρ : Dev nD → PrngReg) (hO : Ok m) :
    θ_run defs (onTc (τ := τ) (main (F := Ideal))) ⟨m, fun _ => 0, ρ⟩ fun r => (∀ c : Dev nD, r.2.mem ((c : Thread nD τ).loc main_v0) = (dats m hO 0 c).arrAt 2 (cfgM m hO).N)
      ∧ ∀ c : Dev nD, r.2.mem ((c : Thread nD τ).loc main_arg0) = m ((c : Thread nD τ).loc main_arg0) ∧ r.2.mem ((c : Thread nD τ).loc main_arg1) = m ((c : Thread nD τ).loc main_arg1) ∧ r.2.mem ((c : Thread nD τ).loc main_arg2) = m ((c : Thread nD τ).loc main_arg2) :=
  θ_run_and ((θ_run defs _ _).mono (fun r h c => (h c).1 2) (run_main m ρ hO)) (unchanged m ρ hO)

end Cert.SumsibIdeal.Grad

namespace Cert.Proof

/-- The sum of the two cores' parts runs, without a fault, and keeps its arguments. -/
theorem frame_Sumsib : Cert.quiescent_Sumsib := fun m ρ h => Cert.Sumsib.Gen.frame m ρ (Cert.Sumsib.Table.ok_of_word m (Cert.Sumsib.word_of_pre m h))
/-- The same at the reals. -/
theorem frame_SumsibIdeal : Cert.quiescent_SumsibIdeal := fun m ρ h => Cert.SumsibIdeal.Gen.frame m ρ (Cert.SumsibIdeal.Table.ok_of_word m (Cert.Sumsib.word_of_pre_ideal m h))
/-- The same of its reference. -/
theorem frame_SumsibRefIdeal : Cert.quiescent_SumsibRefIdeal := fun m ρ _ =>
  (θ_run Cert.SumsibRefIdeal.defs _ _).mono (fun r h => ⟨fun c => (h c).2, sem_eq_zero_of_no_sems (by decide) r.2⟩)
    (Cert.SumsibRefIdeal.Value.run m ρ)

/-- The results of the sum of the two cores' parts are the reference's, element by element. -/
theorem algebraic_Sumsib : Cert.algebraic_SumsibIdeal_SumsibRefIdeal := by
  intro m g m' g' hpre hagree
  have hw := Cert.Sumsib.word_of_pre_ideal m hpre
  have hO := Cert.SumsibIdeal.Table.ok_of_word m hw
  refine ⟨fun c => Cert.SumsibRefIdeal.Read.val_main_v11 (F := Ideal) (m ((c : Thread Cert.SumsibIdeal.nD Cert.SumsibIdeal.τ).loc Cert.SumsibIdeal.main_arg0)) (m ((c : Thread Cert.SumsibIdeal.nD Cert.SumsibIdeal.τ).loc Cert.SumsibIdeal.main_arg1)) (m ((c : Thread Cert.SumsibIdeal.nD Cert.SumsibIdeal.τ).loc Cert.SumsibIdeal.main_arg2)), ?_, ?_⟩
  · refine (θ_run _ _ _).mono (fun r h c => ?_) (Cert.SumsibIdeal.Grad.run_blocks m g hO)
    have p2 := h.1 c
    exact ⟨p2.trans (Cert.SumsibIdeal.Grad.final2 m hO hw c), h.2 c⟩
  · refine (θ_run _ _ _).mono (fun r h c => ?_) (Cert.SumsibRefIdeal.Value.run m' g')
    obtain ⟨p2, k⟩ := h c
    obtain ⟨e0, e1, e2⟩ := hagree c
    exact ⟨(p2.trans (Cert.SumsibRefIdeal.Read.val_main_v11_eq (m' ((c : Thread Cert.SumsibRefIdeal.nD Cert.SumsibRefIdeal.τ).loc Cert.SumsibRefIdeal.main_arg0)) (m' ((c : Thread Cert.SumsibRefIdeal.nD Cert.SumsibRefIdeal.τ).loc Cert.SumsibRefIdeal.main_arg1)) (m' ((c : Thread Cert.SumsibRefIdeal.nD Cert.SumsibRefIdeal.τ).loc Cert.SumsibRefIdeal.main_arg2)))).trans (by rw [e0, e1, e2]), k⟩

end Cert.Proof

end
-- ==== Proof.lean ====
module

public import proofs.«01_k».proof.Defs
public import proofs.«01_k».proof.Proof.Frames
public import proofs.«01_k».proof.Proof.Gen.SbRefIdeal.Read
public import proofs.«01_k».proof.Proof.Gen.RmsRefIdeal.Read
public import proofs.«01_k».proof.Proof.Gen.GainRefIdeal.Read
public import proofs.«01_k».proof.Proof.Gen.MemfwdRefIdeal.Read
public import proofs.«01_k».proof.Proof.Gen.MixfwdRefIdeal.Read
public import proofs.«01_k».proof.Proof.Gen.ConvfwdRefIdeal.Read
public import proofs.«01_k».proof.Proof.Gen.RmsfwdRefIdeal.Read
public import proofs.«01_k».proof.Proof.Gen.MmnnRefIdeal.Read
public import proofs.«01_k».proof.Proof.Gen.MmtnaRefIdeal.Read
public import proofs.«01_k».proof.Proof.Gen.MmtnRefIdeal.Read
public import proofs.«01_k».proof.Proof.Gen.SumdevRefIdeal.Read
public import proofs.«01_k».proof.Proof.Gen.MemKvRefIdeal.Read
public import proofs.«01_k».proof.Proof.Gen.FfnInRefIdeal.Read
public import proofs.«01_k».proof.Proof.Gen.LossRefIdeal.Read
public import proofs.«01_k».proof.Proof.Gen.MemattnRefIdeal.Read
public import proofs.«01_k».proof.Proof.Gen.ConvRefIdeal.Read
public import proofs.«01_k».proof.Proof.Gen.MergeRefIdeal.Read
public import proofs.«01_k».proof.Proof.Swiglu
public import proofs.«01_k».proof.Proof.Values
public import proofs.«01_k».proof.Proof.Tables

@[expose] public section

noncomputable section

namespace Cert.Proof

/-- The claim: for every pair the frames, the preservation and, where stated, the value. -/
theorem claim : Cert.Claim := ⟨Cert.Sb.Gen.facts, Cert.SbIdeal.Gen.facts, Cert.SbRefIdeal.Gen.facts,
  Cert.Merge.Gen.facts, Cert.MergeIdeal.Gen.facts, Cert.MergeRefIdeal.Gen.facts,
  Cert.Conv.Gen.facts, Cert.ConvIdeal.Gen.facts, Cert.ConvRefIdeal.Gen.facts,
  Cert.Memattn.Gen.facts, Cert.MemattnIdeal.Gen.facts, Cert.MemattnRefIdeal.Gen.facts,
  Cert.Loss.Gen.facts, Cert.LossIdeal.Gen.facts, Cert.LossRefIdeal.Gen.facts,
  Cert.FfnIn.Gen.facts, Cert.FfnInIdeal.Gen.facts, Cert.FfnInRefIdeal.Gen.facts,
  Cert.MemKv.Gen.facts, Cert.MemKvIdeal.Gen.facts, Cert.MemKvRefIdeal.Gen.facts,
  Cert.Gain.Gen.facts, Cert.GainIdeal.Gen.facts, Cert.GainRefIdeal.Gen.facts,
  Cert.Rms.Gen.facts, Cert.RmsIdeal.Gen.facts, Cert.RmsRefIdeal.Gen.facts,
  Cert.Swiglu.Gen.facts, Cert.SwigluIdeal.Gen.facts, Cert.SwigluRefIdeal.Gen.facts,
  Cert.Memfwd.Gen.facts, Cert.MemfwdIdeal.Gen.facts, Cert.MemfwdRefIdeal.Gen.facts,
  Cert.Mixfwd.Gen.facts, Cert.MixfwdIdeal.Gen.facts, Cert.MixfwdRefIdeal.Gen.facts,
  Cert.Convfwd.Gen.facts, Cert.ConvfwdIdeal.Gen.facts, Cert.ConvfwdRefIdeal.Gen.facts,
  Cert.Rmsfwd.Gen.facts, Cert.RmsfwdIdeal.Gen.facts, Cert.RmsfwdRefIdeal.Gen.facts,
  Cert.Mmnn.Gen.facts, Cert.MmnnIdeal.Gen.facts, Cert.MmnnRefIdeal.Gen.facts,
  Cert.Mmtna.Gen.facts, Cert.MmtnaIdeal.Gen.facts, Cert.MmtnaRefIdeal.Gen.facts,
  Cert.Mmtn.Gen.facts, Cert.MmtnIdeal.Gen.facts, Cert.MmtnRefIdeal.Gen.facts,
  Cert.Sumdev.Gen.facts, Cert.SumdevIdeal.Gen.facts, Cert.SumdevRefIdeal.Gen.facts,
  Cert.Adambig.Gen.facts, Cert.AdambigIdeal.Gen.facts, Cert.AdambigRefIdeal.Gen.facts,
  Cert.Sumsib.Gen.facts, Cert.SumsibIdeal.Gen.facts, Cert.SumsibRefIdeal.Gen.facts,
  Cert.Pre_memattn_finite.Gen.facts, Cert.Pre_loss_finite.Gen.facts, Cert.Pre_ffn_in_finite.Gen.facts, Cert.Pre_mem_kv_finite.Gen.facts, Cert.Pre_rms_finite.Gen.facts, Cert.Pre_swiglu_finite.Gen.facts, Cert.Pre_adambig_chip.Gen.facts, Cert.Pre_sumsib_core.Gen.facts,
  frame_Sb, frame_SbIdeal, frame_SbRefIdeal,
  frame_Merge, frame_MergeIdeal, frame_MergeRefIdeal,
  frame_Conv, frame_ConvIdeal, frame_ConvRefIdeal,
  frame_Memattn, frame_MemattnIdeal, fun m g _ => frame_MemattnIdeal m g trivial, frame_MemattnRefIdeal, fun m g _ => frame_MemattnRefIdeal m g trivial,
  frame_Loss, frame_LossIdeal, fun m g _ => frame_LossIdeal m g trivial, frame_LossRefIdeal, fun m g _ => frame_LossRefIdeal m g trivial,
  frame_FfnIn, frame_FfnInIdeal, fun m g _ => frame_FfnInIdeal m g trivial, frame_FfnInRefIdeal, fun m g _ => frame_FfnInRefIdeal m g trivial,
  frame_MemKv, frame_MemKvIdeal, fun m g _ => frame_MemKvIdeal m g trivial, frame_MemKvRefIdeal, fun m g _ => frame_MemKvRefIdeal m g trivial,
  frame_Gain, frame_GainIdeal, frame_GainRefIdeal,
  frame_Rms, frame_RmsIdeal, fun m g _ => frame_RmsIdeal m g trivial, frame_RmsRefIdeal, fun m g _ => frame_RmsRefIdeal m g trivial,
  frame_Swiglu, frame_SwigluIdeal, fun m g _ => frame_SwigluIdeal m g trivial, frame_SwigluRefIdeal, fun m g _ => frame_SwigluRefIdeal m g trivial,
  frame_Memfwd, frame_MemfwdIdeal, frame_MemfwdRefIdeal,
  frame_Mixfwd, frame_MixfwdIdeal, frame_MixfwdRefIdeal,
  frame_Convfwd, frame_ConvfwdIdeal, frame_ConvfwdRefIdeal,
  frame_Rmsfwd, frame_RmsfwdIdeal, frame_RmsfwdRefIdeal,
  frame_Mmnn, frame_MmnnIdeal, frame_MmnnRefIdeal,
  frame_Mmtna, frame_MmtnaIdeal, frame_MmtnaRefIdeal,
  frame_Mmtn, frame_MmtnIdeal, frame_MmtnRefIdeal,
  frame_Sumdev, frame_SumdevIdeal, frame_SumdevRefIdeal,
  frame_Adambig, frame_AdambigIdeal, frame_AdambigRefIdeal, fun m g _ => frame_AdambigRefIdeal m g trivial,
  frame_Sumsib, frame_SumsibIdeal, frame_SumsibRefIdeal, fun m g _ => frame_SumsibRefIdeal m g trivial,
  preserves_Sb, trivial, algebraic_Merge, trivial, algebraic_Conv, trivial, algebraic_Memattn, trivial, algebraic_Loss, trivial, algebraic_FfnIn, trivial, algebraic_MemKv, trivial, algebraic_Gain, trivial, algebraic_Rms, trivial, algebraic_Swiglu, trivial, algebraic_Memfwd, trivial, algebraic_Mixfwd, trivial, algebraic_Convfwd, trivial, algebraic_Rmsfwd, trivial, algebraic_Mmnn, trivial, algebraic_Mmtna, trivial, algebraic_Mmtn, trivial, algebraic_Sumdev, trivial, algebraic_Adambig, trivial, algebraic_Sumsib⟩

end Cert.Proof

end
